-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_xattn [hPre_finite_xattn : Cert.Pre_finite_xattn.Facts] (m : (ℓ : Loc Cert.XattnIdeal.nD Cert.XattnIdeal.τ Cert.XattnIdeal.sig) → Buf (Elt Ideal) ℓ) : Prop :=
  ∀ c : Dev Cert.XattnIdeal.nD,
    (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).1 = (fun _ => 1#1)
    ∧ (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))).2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_xattn [hPre_finite_xattn : Cert.Pre_finite_xattn.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))).1 = (fun _ => 1#1)
    ∧ (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2))).2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynReferenceIdeal (m : (ℓ : Loc Cert.DynReferenceIdeal.nD Cert.DynReferenceIdeal.τ Cert.DynReferenceIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzReferenceIdeal (m : (ℓ : Loc Cert.DzReferenceIdeal.nD Cert.DzReferenceIdeal.τ Cert.DzReferenceIdeal.sig) → Buf (Elt Ideal) ℓ) : Prop :=
  True

def Pre_Dwx (m : (ℓ : Loc Cert.Dwx.nD Cert.Dwx.τ Cert.Dwx.sig) → Buf (Elt Bits) ℓ) : Prop :=
  True

def Pre_DwxIdeal (m : (ℓ : Loc Cert.DwxIdeal.nD Cert.DwxIdeal.τ Cert.DwxIdeal.sig) → Buf (Elt Ideal) ℓ) : Prop :=
  True

def Pre_DwxReferenceIdeal (m : (ℓ : Loc Cert.DwxReferenceIdeal.nD Cert.DwxReferenceIdeal.τ Cert.DwxReferenceIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinReferenceIdeal (m : (ℓ : Loc Cert.DwinReferenceIdeal.nD Cert.DwinReferenceIdeal.τ Cert.DwinReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Wxq (m : (ℓ : Loc Cert.Wxq.nD Cert.Wxq.τ Cert.Wxq.sig) → Buf (Elt Bits) ℓ) : Prop :=
  True

def Pre_WxqIdeal (m : (ℓ : Loc Cert.WxqIdeal.nD Cert.WxqIdeal.τ Cert.WxqIdeal.sig) → Buf (Elt Ideal) ℓ) : Prop :=
  True

def Pre_WxqReferenceIdeal (m : (ℓ : Loc Cert.WxqReferenceIdeal.nD Cert.WxqReferenceIdeal.τ Cert.WxqReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Wxkv (m : (ℓ : Loc Cert.Wxkv.nD Cert.Wxkv.τ Cert.Wxkv.sig) → Buf (Elt Bits) ℓ) : Prop :=
  True

def Pre_WxkvIdeal (m : (ℓ : Loc Cert.WxkvIdeal.nD Cert.WxkvIdeal.τ Cert.WxkvIdeal.sig) → Buf (Elt Ideal) ℓ) : Prop :=
  True

def Pre_WxkvReferenceIdeal (m : (ℓ : Loc Cert.WxkvReferenceIdeal.nD Cert.WxkvReferenceIdeal.τ Cert.WxkvReferenceIdeal.sig) → Buf (Elt Ideal) ℓ) : Prop :=
  True

def Pre_Dwxkv (m : (ℓ : Loc Cert.Dwxkv.nD Cert.Dwxkv.τ Cert.Dwxkv.sig) → Buf (Elt Bits) ℓ) : Prop :=
  True

def Pre_DwxkvIdeal (m : (ℓ : Loc Cert.DwxkvIdeal.nD Cert.DwxkvIdeal.τ Cert.DwxkvIdeal.sig) → Buf (Elt Ideal) ℓ) : Prop :=
  True

def Pre_DwxkvReferenceIdeal (m : (ℓ : Loc Cert.DwxkvReferenceIdeal.nD Cert.DwxkvReferenceIdeal.τ Cert.DwxkvReferenceIdeal.sig) → Buf (Elt Ideal) ℓ) : Prop :=
  True

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemReferenceIdeal (m : (ℓ : Loc Cert.DmemReferenceIdeal.nD Cert.DmemReferenceIdeal.τ Cert.DmemReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormReferenceIdeal (m : (ℓ : Loc Cert.DnormReferenceIdeal.nD Cert.DnormReferenceIdeal.τ Cert.DnormReferenceIdeal.sig) → Buf (Elt Ideal) ℓ) : Prop :=
  True

def Pre_DnormMem (m : (ℓ : Loc Cert.DnormMem.nD Cert.DnormMem.τ Cert.DnormMem.sig) → Buf (Elt Bits) ℓ) : Prop :=
  True

def Pre_DnormMemIdeal (m : (ℓ : Loc Cert.DnormMemIdeal.nD Cert.DnormMemIdeal.τ Cert.DnormMemIdeal.sig) → Buf (Elt Ideal) ℓ) : Prop :=
  True

def Pre_DnormMemReferenceIdeal (m : (ℓ : Loc Cert.DnormMemReferenceIdeal.nD Cert.DnormMemReferenceIdeal.τ Cert.DnormMemReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1)
      ∧ r.2.mem ((c.tc : Thread Cert.DnReferenceIdeal.nD Cert.DnReferenceIdeal.τ).loc Cert.DnReferenceIdeal.main_arg2) = m ((c.tc : Thread Cert.DnReferenceIdeal.nD Cert.DnReferenceIdeal.τ).loc Cert.DnReferenceIdeal.main_arg2)
      ∧ r.2.mem ((c.tc : Thread Cert.DnReferenceIdeal.nD Cert.DnReferenceIdeal.τ).loc Cert.DnReferenceIdeal.main_arg3) = m ((c.tc : Thread Cert.DnReferenceIdeal.nD Cert.DnReferenceIdeal.τ).loc Cert.DnReferenceIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_finite_xattn [hXattnIdeal : Cert.XattnIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_xattn m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_XattnReferenceIdeal_pre_finite_xattn [hXattnReferenceIdeal : Cert.XattnReferenceIdeal.Facts] [hPre_finite_xattn : Cert.Pre_finite_xattn.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_xattn m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ r.2.sem = fun _ => 0)

def quiescent_DynReferenceIdeal [hDynReferenceIdeal : Cert.DynReferenceIdeal.Facts] : Prop :=
  ∀ (m : (ℓ : Loc Cert.DynReferenceIdeal.nD Cert.DynReferenceIdeal.τ Cert.DynReferenceIdeal.sig) → Buf (Elt Ideal) ℓ) (g : Dev Cert.DynReferenceIdeal.nD → PrngReg), Pre_DynReferenceIdeal m →
    θ_run (Cert.DynReferenceIdeal.defs (F := Ideal)) (onTc (τ := Cert.DynReferenceIdeal.τ) (Cert.DynReferenceIdeal.main (F := Ideal))) ⟨m, fun _ => 0, g⟩ (fun r => (∀ c : Dev Cert.DynReferenceIdeal.nD,
      r.2.mem ((c.tc : Thread Cert.DynReferenceIdeal.nD Cert.DynReferenceIdeal.τ).loc Cert.DynReferenceIdeal.main_arg0) = m ((c.tc : Thread Cert.DynReferenceIdeal.nD Cert.DynReferenceIdeal.τ).loc Cert.DynReferenceIdeal.main_arg0)
      ∧ r.2.mem ((c.tc : Thread Cert.DynReferenceIdeal.nD Cert.DynReferenceIdeal.τ).loc Cert.DynReferenceIdeal.main_arg1) = m ((c.tc : Thread Cert.DynReferenceIdeal.nD Cert.DynReferenceIdeal.τ).loc Cert.DynReferenceIdeal.main_arg1))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzReferenceIdeal [hDzReferenceIdeal : Cert.DzReferenceIdeal.Facts] : Prop :=
  ∀ (m : (ℓ : Loc Cert.DzReferenceIdeal.nD Cert.DzReferenceIdeal.τ Cert.DzReferenceIdeal.sig) → Buf (Elt Ideal) ℓ) (g : Dev Cert.DzReferenceIdeal.nD → PrngReg), Pre_DzReferenceIdeal m →
    θ_run (Cert.DzReferenceIdeal.defs (F := Ideal)) (onTc (τ := Cert.DzReferenceIdeal.τ) (Cert.DzReferenceIdeal.main (F := Ideal))) ⟨m, fun _ => 0, g⟩ (fun r => (∀ c : Dev Cert.DzReferenceIdeal.nD,
      r.2.mem ((c.tc : Thread Cert.DzReferenceIdeal.nD Cert.DzReferenceIdeal.τ).loc Cert.DzReferenceIdeal.main_arg0) = m ((c.tc : Thread Cert.DzReferenceIdeal.nD Cert.DzReferenceIdeal.τ).loc Cert.DzReferenceIdeal.main_arg0)
      ∧ r.2.mem ((c.tc : Thread Cert.DzReferenceIdeal.nD Cert.DzReferenceIdeal.τ).loc Cert.DzReferenceIdeal.main_arg1) = m ((c.tc : Thread Cert.DzReferenceIdeal.nD Cert.DzReferenceIdeal.τ).loc Cert.DzReferenceIdeal.main_arg1))
      ∧ r.2.sem = fun _ => 0)

def quiescent_Dwx [hDwx : Cert.Dwx.Facts] : Prop :=
  ∀ (m : (ℓ : Loc Cert.Dwx.nD Cert.Dwx.τ Cert.Dwx.sig) → Buf (Elt Bits) ℓ) (g : Dev Cert.Dwx.nD → PrngReg), Pre_Dwx m →
    θ_run (Cert.Dwx.defs (F := Bits)) (onTc (τ := Cert.Dwx.τ) (Cert.Dwx.main (F := Bits))) ⟨m, fun _ => 0, g⟩ (fun r => (∀ c : Dev Cert.Dwx.nD,
      r.2.mem ((c.tc : Thread Cert.Dwx.nD Cert.Dwx.τ).loc Cert.Dwx.main_arg0) = m ((c.tc : Thread Cert.Dwx.nD Cert.Dwx.τ).loc Cert.Dwx.main_arg0)
      ∧ r.2.mem ((c.tc : Thread Cert.Dwx.nD Cert.Dwx.τ).loc Cert.Dwx.main_arg1) = m ((c.tc : Thread Cert.Dwx.nD Cert.Dwx.τ).loc Cert.Dwx.main_arg1))
      ∧ r.2.sem = fun _ => 0)

def quiescent_DwxIdeal [hDwxIdeal : Cert.DwxIdeal.Facts] : Prop :=
  ∀ (m : (ℓ : Loc Cert.DwxIdeal.nD Cert.DwxIdeal.τ Cert.DwxIdeal.sig) → Buf (Elt Ideal) ℓ) (g : Dev Cert.DwxIdeal.nD → PrngReg), Pre_DwxIdeal m →
    θ_run (Cert.DwxIdeal.defs (F := Ideal)) (onTc (τ := Cert.DwxIdeal.τ) (Cert.DwxIdeal.main (F := Ideal))) ⟨m, fun _ => 0, g⟩ (fun r => (∀ c : Dev Cert.DwxIdeal.nD,
      r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
      ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ r.2.sem = fun _ => 0)

def quiescent_DwxReferenceIdeal [hDwxReferenceIdeal : Cert.DwxReferenceIdeal.Facts] : Prop :=
  ∀ (m : (ℓ : Loc Cert.DwxReferenceIdeal.nD Cert.DwxReferenceIdeal.τ Cert.DwxReferenceIdeal.sig) → Buf (Elt Ideal) ℓ) (g : Dev Cert.DwxReferenceIdeal.nD → PrngReg), Pre_DwxReferenceIdeal m →
    θ_run (Cert.DwxReferenceIdeal.defs (F := Ideal)) (onTc (τ := Cert.DwxReferenceIdeal.τ) (Cert.DwxReferenceIdeal.main (F := Ideal))) ⟨m, fun _ => 0, g⟩ (fun r => (∀ c : Dev Cert.DwxReferenceIdeal.nD,
      r.2.mem ((c.tc : Thread Cert.DwxReferenceIdeal.nD Cert.DwxReferenceIdeal.τ).loc Cert.DwxReferenceIdeal.main_arg0) = m ((c.tc : Thread Cert.DwxReferenceIdeal.nD Cert.DwxReferenceIdeal.τ).loc Cert.DwxReferenceIdeal.main_arg0)
      ∧ r.2.mem ((c.tc : Thread Cert.DwxReferenceIdeal.nD Cert.DwxReferenceIdeal.τ).loc Cert.DwxReferenceIdeal.main_arg1) = m ((c.tc : Thread Cert.DwxReferenceIdeal.nD Cert.DwxReferenceIdeal.τ).loc Cert.DwxReferenceIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinReferenceIdeal [hDwinReferenceIdeal : Cert.DwinReferenceIdeal.Facts] : Prop :=
  ∀ (m : (ℓ : Loc Cert.DwinReferenceIdeal.nD Cert.DwinReferenceIdeal.τ Cert.DwinReferenceIdeal.sig) → Buf (Elt Ideal) ℓ) (g : Dev Cert.DwinReferenceIdeal.nD → PrngReg), Pre_DwinReferenceIdeal m →
    θ_run (Cert.DwinReferenceIdeal.defs (F := Ideal)) (onTc (τ := Cert.DwinReferenceIdeal.τ) (Cert.DwinReferenceIdeal.main (F := Ideal))) ⟨m, fun _ => 0, g⟩ (fun r => (∀ c : Dev Cert.DwinReferenceIdeal.nD,
      r.2.mem ((c.tc : Thread Cert.DwinReferenceIdeal.nD Cert.DwinReferenceIdeal.τ).loc Cert.DwinReferenceIdeal.main_arg0) = m ((c.tc : Thread Cert.DwinReferenceIdeal.nD Cert.DwinReferenceIdeal.τ).loc Cert.DwinReferenceIdeal.main_arg0)
      ∧ r.2.mem ((c.tc : Thread Cert.DwinReferenceIdeal.nD Cert.DwinReferenceIdeal.τ).loc Cert.DwinReferenceIdeal.main_arg1) = m ((c.tc : Thread Cert.DwinReferenceIdeal.nD Cert.DwinReferenceIdeal.τ).loc Cert.DwinReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_Wxq [hWxq : Cert.Wxq.Facts] : Prop :=
  ∀ (m : (ℓ : Loc Cert.Wxq.nD Cert.Wxq.τ Cert.Wxq.sig) → Buf (Elt Bits) ℓ) (g : Dev Cert.Wxq.nD → PrngReg), Pre_Wxq m →
    θ_run (Cert.Wxq.defs (F := Bits)) (onTc (τ := Cert.Wxq.τ) (Cert.Wxq.main (F := Bits))) ⟨m, fun _ => 0, g⟩ (fun r => (∀ c : Dev Cert.Wxq.nD,
      r.2.mem ((c.tc : Thread Cert.Wxq.nD Cert.Wxq.τ).loc Cert.Wxq.main_arg0) = m ((c.tc : Thread Cert.Wxq.nD Cert.Wxq.τ).loc Cert.Wxq.main_arg0)
      ∧ r.2.mem ((c.tc : Thread Cert.Wxq.nD Cert.Wxq.τ).loc Cert.Wxq.main_arg1) = m ((c.tc : Thread Cert.Wxq.nD Cert.Wxq.τ).loc Cert.Wxq.main_arg1))
      ∧ r.2.sem = fun _ => 0)

def quiescent_WxqIdeal [hWxqIdeal : Cert.WxqIdeal.Facts] : Prop :=
  ∀ (m : (ℓ : Loc Cert.WxqIdeal.nD Cert.WxqIdeal.τ Cert.WxqIdeal.sig) → Buf (Elt Ideal) ℓ) (g : Dev Cert.WxqIdeal.nD → PrngReg), Pre_WxqIdeal m →
    θ_run (Cert.WxqIdeal.defs (F := Ideal)) (onTc (τ := Cert.WxqIdeal.τ) (Cert.WxqIdeal.main (F := Ideal))) ⟨m, fun _ => 0, g⟩ (fun r => (∀ c : Dev Cert.WxqIdeal.nD,
      r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
      ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ r.2.sem = fun _ => 0)

def quiescent_WxqReferenceIdeal [hWxqReferenceIdeal : Cert.WxqReferenceIdeal.Facts] : Prop :=
  ∀ (m : (ℓ : Loc Cert.WxqReferenceIdeal.nD Cert.WxqReferenceIdeal.τ Cert.WxqReferenceIdeal.sig) → Buf (Elt Ideal) ℓ) (g : Dev Cert.WxqReferenceIdeal.nD → PrngReg), Pre_WxqReferenceIdeal m →
    θ_run (Cert.WxqReferenceIdeal.defs (F := Ideal)) (onTc (τ := Cert.WxqReferenceIdeal.τ) (Cert.WxqReferenceIdeal.main (F := Ideal))) ⟨m, fun _ => 0, g⟩ (fun r => (∀ c : Dev Cert.WxqReferenceIdeal.nD,
      r.2.mem ((c.tc : Thread Cert.WxqReferenceIdeal.nD Cert.WxqReferenceIdeal.τ).loc Cert.WxqReferenceIdeal.main_arg0) = m ((c.tc : Thread Cert.WxqReferenceIdeal.nD Cert.WxqReferenceIdeal.τ).loc Cert.WxqReferenceIdeal.main_arg0)
      ∧ r.2.mem ((c.tc : Thread Cert.WxqReferenceIdeal.nD Cert.WxqReferenceIdeal.τ).loc Cert.WxqReferenceIdeal.main_arg1) = m ((c.tc : Thread Cert.WxqReferenceIdeal.nD Cert.WxqReferenceIdeal.τ).loc Cert.WxqReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Wxkv [hWxkv : Cert.Wxkv.Facts] : Prop :=
  ∀ (m : (ℓ : Loc Cert.Wxkv.nD Cert.Wxkv.τ Cert.Wxkv.sig) → Buf (Elt Bits) ℓ) (g : Dev Cert.Wxkv.nD → PrngReg), Pre_Wxkv m →
    θ_run (Cert.Wxkv.defs (F := Bits)) (onTc (τ := Cert.Wxkv.τ) (Cert.Wxkv.main (F := Bits))) ⟨m, fun _ => 0, g⟩ (fun r => (∀ c : Dev Cert.Wxkv.nD,
      r.2.mem ((c.tc : Thread Cert.Wxkv.nD Cert.Wxkv.τ).loc Cert.Wxkv.main_arg0) = m ((c.tc : Thread Cert.Wxkv.nD Cert.Wxkv.τ).loc Cert.Wxkv.main_arg0)
      ∧ r.2.mem ((c.tc : Thread Cert.Wxkv.nD Cert.Wxkv.τ).loc Cert.Wxkv.main_arg1) = m ((c.tc : Thread Cert.Wxkv.nD Cert.Wxkv.τ).loc Cert.Wxkv.main_arg1))
      ∧ r.2.sem = fun _ => 0)

def quiescent_WxkvIdeal [hWxkvIdeal : Cert.WxkvIdeal.Facts] : Prop :=
  ∀ (m : (ℓ : Loc Cert.WxkvIdeal.nD Cert.WxkvIdeal.τ Cert.WxkvIdeal.sig) → Buf (Elt Ideal) ℓ) (g : Dev Cert.WxkvIdeal.nD → PrngReg), Pre_WxkvIdeal m →
    θ_run (Cert.WxkvIdeal.defs (F := Ideal)) (onTc (τ := Cert.WxkvIdeal.τ) (Cert.WxkvIdeal.main (F := Ideal))) ⟨m, fun _ => 0, g⟩ (fun r => (∀ c : Dev Cert.WxkvIdeal.nD,
      r.2.mem ((c.tc : Thread Cert.WxkvIdeal.nD Cert.WxkvIdeal.τ).loc Cert.WxkvIdeal.main_arg0) = m ((c.tc : Thread Cert.WxkvIdeal.nD Cert.WxkvIdeal.τ).loc Cert.WxkvIdeal.main_arg0)
      ∧ r.2.mem ((c.tc : Thread Cert.WxkvIdeal.nD Cert.WxkvIdeal.τ).loc Cert.WxkvIdeal.main_arg1) = m ((c.tc : Thread Cert.WxkvIdeal.nD Cert.WxkvIdeal.τ).loc Cert.WxkvIdeal.main_arg1))
      ∧ r.2.sem = fun _ => 0)

def quiescent_WxkvReferenceIdeal [hWxkvReferenceIdeal : Cert.WxkvReferenceIdeal.Facts] : Prop :=
  ∀ (m : (ℓ : Loc Cert.WxkvReferenceIdeal.nD Cert.WxkvReferenceIdeal.τ Cert.WxkvReferenceIdeal.sig) → Buf (Elt Ideal) ℓ) (g : Dev Cert.WxkvReferenceIdeal.nD → PrngReg), Pre_WxkvReferenceIdeal m →
    θ_run (Cert.WxkvReferenceIdeal.defs (F := Ideal)) (onTc (τ := Cert.WxkvReferenceIdeal.τ) (Cert.WxkvReferenceIdeal.main (F := Ideal))) ⟨m, fun _ => 0, g⟩ (fun r => (∀ c : Dev Cert.WxkvReferenceIdeal.nD,
      r.2.mem ((c.tc : Thread Cert.WxkvReferenceIdeal.nD Cert.WxkvReferenceIdeal.τ).loc Cert.WxkvReferenceIdeal.main_arg0) = m ((c.tc : Thread Cert.WxkvReferenceIdeal.nD Cert.WxkvReferenceIdeal.τ).loc Cert.WxkvReferenceIdeal.main_arg0)
      ∧ r.2.mem ((c.tc : Thread Cert.WxkvReferenceIdeal.nD Cert.WxkvReferenceIdeal.τ).loc Cert.WxkvReferenceIdeal.main_arg1) = m ((c.tc : Thread Cert.WxkvReferenceIdeal.nD Cert.WxkvReferenceIdeal.τ).loc Cert.WxkvReferenceIdeal.main_arg1))
      ∧ r.2.sem = fun _ => 0)

def quiescent_Dwxkv [hDwxkv : Cert.Dwxkv.Facts] : Prop :=
  ∀ (m : (ℓ : Loc Cert.Dwxkv.nD Cert.Dwxkv.τ Cert.Dwxkv.sig) → Buf (Elt Bits) ℓ) (g : Dev Cert.Dwxkv.nD → PrngReg), Pre_Dwxkv m →
    θ_run (Cert.Dwxkv.defs (F := Bits)) (onTc (τ := Cert.Dwxkv.τ) (Cert.Dwxkv.main (F := Bits))) ⟨m, fun _ => 0, g⟩ (fun r => (∀ c : Dev Cert.Dwxkv.nD,
      r.2.mem ((c.tc : Thread Cert.Dwxkv.nD Cert.Dwxkv.τ).loc Cert.Dwxkv.main_arg0) = m ((c.tc : Thread Cert.Dwxkv.nD Cert.Dwxkv.τ).loc Cert.Dwxkv.main_arg0)
      ∧ r.2.mem ((c.tc : Thread Cert.Dwxkv.nD Cert.Dwxkv.τ).loc Cert.Dwxkv.main_arg1) = m ((c.tc : Thread Cert.Dwxkv.nD Cert.Dwxkv.τ).loc Cert.Dwxkv.main_arg1))
      ∧ r.2.sem = fun _ => 0)

def quiescent_DwxkvIdeal [hDwxkvIdeal : Cert.DwxkvIdeal.Facts] : Prop :=
  ∀ (m : (ℓ : Loc Cert.DwxkvIdeal.nD Cert.DwxkvIdeal.τ Cert.DwxkvIdeal.sig) → Buf (Elt Ideal) ℓ) (g : Dev Cert.DwxkvIdeal.nD → PrngReg), Pre_DwxkvIdeal m →
    θ_run (Cert.DwxkvIdeal.defs (F := Ideal)) (onTc (τ := Cert.DwxkvIdeal.τ) (Cert.DwxkvIdeal.main (F := Ideal))) ⟨m, fun _ => 0, g⟩ (fun r => (∀ c : Dev Cert.DwxkvIdeal.nD,
      r.2.mem ((c.tc : Thread Cert.DwxkvIdeal.nD Cert.DwxkvIdeal.τ).loc Cert.DwxkvIdeal.main_arg0) = m ((c.tc : Thread Cert.DwxkvIdeal.nD Cert.DwxkvIdeal.τ).loc Cert.DwxkvIdeal.main_arg0)
      ∧ r.2.mem ((c.tc : Thread Cert.DwxkvIdeal.nD Cert.DwxkvIdeal.τ).loc Cert.DwxkvIdeal.main_arg1) = m ((c.tc : Thread Cert.DwxkvIdeal.nD Cert.DwxkvIdeal.τ).loc Cert.DwxkvIdeal.main_arg1))
      ∧ r.2.sem = fun _ => 0)

def quiescent_DwxkvReferenceIdeal [hDwxkvReferenceIdeal : Cert.DwxkvReferenceIdeal.Facts] : Prop :=
  ∀ (m : (ℓ : Loc Cert.DwxkvReferenceIdeal.nD Cert.DwxkvReferenceIdeal.τ Cert.DwxkvReferenceIdeal.sig) → Buf (Elt Ideal) ℓ) (g : Dev Cert.DwxkvReferenceIdeal.nD → PrngReg), Pre_DwxkvReferenceIdeal m →
    θ_run (Cert.DwxkvReferenceIdeal.defs (F := Ideal)) (onTc (τ := Cert.DwxkvReferenceIdeal.τ) (Cert.DwxkvReferenceIdeal.main (F := Ideal))) ⟨m, fun _ => 0, g⟩ (fun r => (∀ c : Dev Cert.DwxkvReferenceIdeal.nD,
      r.2.mem ((c.tc : Thread Cert.DwxkvReferenceIdeal.nD Cert.DwxkvReferenceIdeal.τ).loc Cert.DwxkvReferenceIdeal.main_arg0) = m ((c.tc : Thread Cert.DwxkvReferenceIdeal.nD Cert.DwxkvReferenceIdeal.τ).loc Cert.DwxkvReferenceIdeal.main_arg0)
      ∧ r.2.mem ((c.tc : Thread Cert.DwxkvReferenceIdeal.nD Cert.DwxkvReferenceIdeal.τ).loc Cert.DwxkvReferenceIdeal.main_arg1) = m ((c.tc : Thread Cert.DwxkvReferenceIdeal.nD Cert.DwxkvReferenceIdeal.τ).loc Cert.DwxkvReferenceIdeal.main_arg1))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ r.2.sem = fun _ => 0)

def quiescent_DmemReferenceIdeal [hDmemReferenceIdeal : Cert.DmemReferenceIdeal.Facts] : Prop :=
  ∀ (m : (ℓ : Loc Cert.DmemReferenceIdeal.nD Cert.DmemReferenceIdeal.τ Cert.DmemReferenceIdeal.sig) → Buf (Elt Ideal) ℓ) (g : Dev Cert.DmemReferenceIdeal.nD → PrngReg), Pre_DmemReferenceIdeal m →
    θ_run (Cert.DmemReferenceIdeal.defs (F := Ideal)) (onTc (τ := Cert.DmemReferenceIdeal.τ) (Cert.DmemReferenceIdeal.main (F := Ideal))) ⟨m, fun _ => 0, g⟩ (fun r => (∀ c : Dev Cert.DmemReferenceIdeal.nD,
      r.2.mem ((c.tc : Thread Cert.DmemReferenceIdeal.nD Cert.DmemReferenceIdeal.τ).loc Cert.DmemReferenceIdeal.main_arg0) = m ((c.tc : Thread Cert.DmemReferenceIdeal.nD Cert.DmemReferenceIdeal.τ).loc Cert.DmemReferenceIdeal.main_arg0)
      ∧ r.2.mem ((c.tc : Thread Cert.DmemReferenceIdeal.nD Cert.DmemReferenceIdeal.τ).loc Cert.DmemReferenceIdeal.main_arg1) = m ((c.tc : Thread Cert.DmemReferenceIdeal.nD Cert.DmemReferenceIdeal.τ).loc Cert.DmemReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormReferenceIdeal [hDnormReferenceIdeal : Cert.DnormReferenceIdeal.Facts] : Prop :=
  ∀ (m : (ℓ : Loc Cert.DnormReferenceIdeal.nD Cert.DnormReferenceIdeal.τ Cert.DnormReferenceIdeal.sig) → Buf (Elt Ideal) ℓ) (g : Dev Cert.DnormReferenceIdeal.nD → PrngReg), Pre_DnormReferenceIdeal m →
    θ_run (Cert.DnormReferenceIdeal.defs (F := Ideal)) (onTc (τ := Cert.DnormReferenceIdeal.τ) (Cert.DnormReferenceIdeal.main (F := Ideal))) ⟨m, fun _ => 0, g⟩ (fun r => (∀ c : Dev Cert.DnormReferenceIdeal.nD,
      r.2.mem ((c.tc : Thread Cert.DnormReferenceIdeal.nD Cert.DnormReferenceIdeal.τ).loc Cert.DnormReferenceIdeal.main_arg0) = m ((c.tc : Thread Cert.DnormReferenceIdeal.nD Cert.DnormReferenceIdeal.τ).loc Cert.DnormReferenceIdeal.main_arg0)
      ∧ r.2.mem ((c.tc : Thread Cert.DnormReferenceIdeal.nD Cert.DnormReferenceIdeal.τ).loc Cert.DnormReferenceIdeal.main_arg1) = m ((c.tc : Thread Cert.DnormReferenceIdeal.nD Cert.DnormReferenceIdeal.τ).loc Cert.DnormReferenceIdeal.main_arg1)
      ∧ r.2.mem ((c.tc : Thread Cert.DnormReferenceIdeal.nD Cert.DnormReferenceIdeal.τ).loc Cert.DnormReferenceIdeal.main_arg2) = m ((c.tc : Thread Cert.DnormReferenceIdeal.nD Cert.DnormReferenceIdeal.τ).loc Cert.DnormReferenceIdeal.main_arg2)
      ∧ r.2.mem ((c.tc : Thread Cert.DnormReferenceIdeal.nD Cert.DnormReferenceIdeal.τ).loc Cert.DnormReferenceIdeal.main_arg3) = m ((c.tc : Thread Cert.DnormReferenceIdeal.nD Cert.DnormReferenceIdeal.τ).loc Cert.DnormReferenceIdeal.main_arg3))
      ∧ r.2.sem = fun _ => 0)

def quiescent_DnormMem [hDnormMem : Cert.DnormMem.Facts] : Prop :=
  ∀ (m : (ℓ : Loc Cert.DnormMem.nD Cert.DnormMem.τ Cert.DnormMem.sig) → Buf (Elt Bits) ℓ) (g : Dev Cert.DnormMem.nD → PrngReg), Pre_DnormMem m →
    θ_run (Cert.DnormMem.defs (F := Bits)) (onTc (τ := Cert.DnormMem.τ) (Cert.DnormMem.main (F := Bits))) ⟨m, fun _ => 0, g⟩ (fun r => (∀ c : Dev Cert.DnormMem.nD,
      r.2.mem ((c.tc : Thread Cert.DnormMem.nD Cert.DnormMem.τ).loc Cert.DnormMem.main_arg0) = m ((c.tc : Thread Cert.DnormMem.nD Cert.DnormMem.τ).loc Cert.DnormMem.main_arg0)
      ∧ r.2.mem ((c.tc : Thread Cert.DnormMem.nD Cert.DnormMem.τ).loc Cert.DnormMem.main_arg1) = m ((c.tc : Thread Cert.DnormMem.nD Cert.DnormMem.τ).loc Cert.DnormMem.main_arg1)
      ∧ r.2.mem ((c.tc : Thread Cert.DnormMem.nD Cert.DnormMem.τ).loc Cert.DnormMem.main_arg2) = m ((c.tc : Thread Cert.DnormMem.nD Cert.DnormMem.τ).loc Cert.DnormMem.main_arg2))
      ∧ r.2.sem = fun _ => 0)

def quiescent_DnormMemIdeal [hDnormMemIdeal : Cert.DnormMemIdeal.Facts] : Prop :=
  ∀ (m : (ℓ : Loc Cert.DnormMemIdeal.nD Cert.DnormMemIdeal.τ Cert.DnormMemIdeal.sig) → Buf (Elt Ideal) ℓ) (g : Dev Cert.DnormMemIdeal.nD → PrngReg), Pre_DnormMemIdeal m →
    θ_run (Cert.DnormMemIdeal.defs (F := Ideal)) (onTc (τ := Cert.DnormMemIdeal.τ) (Cert.DnormMemIdeal.main (F := Ideal))) ⟨m, fun _ => 0, g⟩ (fun r => (∀ c : Dev Cert.DnormMemIdeal.nD,
      r.2.mem ((c.tc : Thread Cert.DnormMemIdeal.nD Cert.DnormMemIdeal.τ).loc Cert.DnormMemIdeal.main_arg0) = m ((c.tc : Thread Cert.DnormMemIdeal.nD Cert.DnormMemIdeal.τ).loc Cert.DnormMemIdeal.main_arg0)
      ∧ r.2.mem ((c.tc : Thread Cert.DnormMemIdeal.nD Cert.DnormMemIdeal.τ).loc Cert.DnormMemIdeal.main_arg1) = m ((c.tc : Thread Cert.DnormMemIdeal.nD Cert.DnormMemIdeal.τ).loc Cert.DnormMemIdeal.main_arg1)
      ∧ r.2.mem ((c.tc : Thread Cert.DnormMemIdeal.nD Cert.DnormMemIdeal.τ).loc Cert.DnormMemIdeal.main_arg2) = m ((c.tc : Thread Cert.DnormMemIdeal.nD Cert.DnormMemIdeal.τ).loc Cert.DnormMemIdeal.main_arg2))
      ∧ r.2.sem = fun _ => 0)

def quiescent_DnormMemReferenceIdeal [hDnormMemReferenceIdeal : Cert.DnormMemReferenceIdeal.Facts] : Prop :=
  ∀ (m : (ℓ : Loc Cert.DnormMemReferenceIdeal.nD Cert.DnormMemReferenceIdeal.τ Cert.DnormMemReferenceIdeal.sig) → Buf (Elt Ideal) ℓ) (g : Dev Cert.DnormMemReferenceIdeal.nD → PrngReg), Pre_DnormMemReferenceIdeal m →
    θ_run (Cert.DnormMemReferenceIdeal.defs (F := Ideal)) (onTc (τ := Cert.DnormMemReferenceIdeal.τ) (Cert.DnormMemReferenceIdeal.main (F := Ideal))) ⟨m, fun _ => 0, g⟩ (fun r => (∀ c : Dev Cert.DnormMemReferenceIdeal.nD,
      r.2.mem ((c.tc : Thread Cert.DnormMemReferenceIdeal.nD Cert.DnormMemReferenceIdeal.τ).loc Cert.DnormMemReferenceIdeal.main_arg0) = m ((c.tc : Thread Cert.DnormMemReferenceIdeal.nD Cert.DnormMemReferenceIdeal.τ).loc Cert.DnormMemReferenceIdeal.main_arg0)
      ∧ r.2.mem ((c.tc : Thread Cert.DnormMemReferenceIdeal.nD Cert.DnormMemReferenceIdeal.τ).loc Cert.DnormMemReferenceIdeal.main_arg1) = m ((c.tc : Thread Cert.DnormMemReferenceIdeal.nD Cert.DnormMemReferenceIdeal.τ).loc Cert.DnormMemReferenceIdeal.main_arg1)
      ∧ r.2.mem ((c.tc : Thread Cert.DnormMemReferenceIdeal.nD Cert.DnormMemReferenceIdeal.τ).loc Cert.DnormMemReferenceIdeal.main_arg2) = m ((c.tc : Thread Cert.DnormMemReferenceIdeal.nD Cert.DnormMemReferenceIdeal.τ).loc Cert.DnormMemReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3))
      ∧ r.2.sem = fun _ => 0)

def preserves_Kernel_KernelIdeal : Prop :=
  True

def algebraic_KernelIdeal_ReferenceIdeal_on_attention_part_pre_finite_scores [hKernelIdeal : Cert.KernelIdeal.Facts] [hReferenceIdeal : Cert.ReferenceIdeal.Facts] [hPre_finite_scores : Cert.Pre_finite_scores.Facts] [hOn_attention_part : Cert.On_attention_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)) (v5 : (c : Dev Cert.KernelIdeal.nD) → Buf (Elt Ideal) ((c.tc : Thread Cert.KernelIdeal.nD Cert.KernelIdeal.τ).loc Cert.KernelIdeal.main_v62_5)) (v6 : (c : Dev Cert.KernelIdeal.nD) → Buf (Elt Ideal) ((c.tc : Thread Cert.KernelIdeal.nD Cert.KernelIdeal.τ).loc Cert.KernelIdeal.main_v62_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3328]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v62_0) i = v0 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v62_1) i = v1 c i)
          ∧ (∀ i : (⟨3, ![8, 128, 128]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v62_2) i = v2 c i)
          ∧ (∀ i : (⟨2, ![128, 8]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v62_3) i = v3 c i)
          ∧ (∀ i : (⟨2, ![1, 16]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v62_4) i = v4 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v62_5) i = v5 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v62_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3328]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v175) i = v0 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v176) i = v1 c i)
          ∧ (∀ i : (⟨3, ![8, 128, 128]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v177) i = v2 c i)
          ∧ (∀ i : (⟨2, ![128, 8]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v178) i = v3 c i)
          ∧ (∀ i : (⟨2, ![1, 16]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v153) i = v4 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v179) i = v5 c i)
          ∧ (∀ i : (⟨2, ![1, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v107) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1_0)) (v1 : (c : Dev Cert.FfnIdeal.nD) → Buf (Elt Ideal) ((c.tc : Thread Cert.FfnIdeal.nD Cert.FfnIdeal.τ).loc Cert.FfnIdeal.main_v1_1)) (v2 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = v0 c
          ∧ r.2.mem ((c.tc : Thread Cert.FfnIdeal.nD Cert.FfnIdeal.τ).loc Cert.FfnIdeal.main_v1_1) = v1 c
          ∧ r.2.mem ((c.tc : Thread Cert.FfnIdeal.nD Cert.FfnIdeal.τ).loc Cert.FfnIdeal.main_v2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_v21) = v1 c
          ∧ r.2.mem ((c.tc : Thread Cert.FfnReferenceIdeal.nD Cert.FfnReferenceIdeal.τ).loc Cert.FfnReferenceIdeal.main_v22) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v8) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_Dn_DnIdeal : Prop :=
  True

def algebraic_DnIdeal_DnReferenceIdeal [hDnIdeal : Cert.DnIdeal.Facts] [hDnReferenceIdeal : Cert.DnReferenceIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnIdeal m →
    (∀ c : Dev Cert.DnIdeal.nD,
      m' ((c.tc : Thread Cert.DnReferenceIdeal.nD Cert.DnReferenceIdeal.τ).loc Cert.DnReferenceIdeal.main_arg0) = m ((c.tc : Thread Cert.DnIdeal.nD Cert.DnIdeal.τ).loc Cert.DnIdeal.main_arg0)
      ∧ m' ((c.tc : Thread Cert.DnReferenceIdeal.nD Cert.DnReferenceIdeal.τ).loc Cert.DnReferenceIdeal.main_arg1) = m ((c.tc : Thread Cert.DnIdeal.nD Cert.DnIdeal.τ).loc Cert.DnIdeal.main_arg1)
      ∧ m' ((c.tc : Thread Cert.DnReferenceIdeal.nD Cert.DnReferenceIdeal.τ).loc Cert.DnReferenceIdeal.main_arg2) = m ((c.tc : Thread Cert.DnIdeal.nD Cert.DnIdeal.τ).loc Cert.DnIdeal.main_arg2)
      ∧ m' ((c.tc : Thread Cert.DnReferenceIdeal.nD Cert.DnReferenceIdeal.τ).loc Cert.DnReferenceIdeal.main_arg3) = m ((c.tc : Thread Cert.DnIdeal.nD Cert.DnIdeal.τ).loc Cert.DnIdeal.main_arg3)) →
    ∃ (v0 : (c : Dev Cert.DnIdeal.nD) → Buf (Elt Ideal) ((c.tc : Thread Cert.DnIdeal.nD Cert.DnIdeal.τ).loc Cert.DnIdeal.main_v0)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v0) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v10) = v0 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1)
          ∧ r.2.mem ((c.tc : Thread Cert.DnReferenceIdeal.nD Cert.DnReferenceIdeal.τ).loc Cert.DnReferenceIdeal.main_arg2) = m' ((c.tc : Thread Cert.DnReferenceIdeal.nD Cert.DnReferenceIdeal.τ).loc Cert.DnReferenceIdeal.main_arg2)
          ∧ r.2.mem ((c.tc : Thread Cert.DnReferenceIdeal.nD Cert.DnReferenceIdeal.τ).loc Cert.DnReferenceIdeal.main_arg3) = m' ((c.tc : Thread Cert.DnReferenceIdeal.nD Cert.DnReferenceIdeal.τ).loc Cert.DnReferenceIdeal.main_arg3))

def preserves_Xattn_XattnIdeal : Prop :=
  True

def algebraic_XattnIdeal_XattnReferenceIdeal_pre_finite_xattn [hXattnIdeal : Cert.XattnIdeal.Facts] [hXattnReferenceIdeal : Cert.XattnReferenceIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite_xattn m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v1_0)) (v1 : (c : Dev Cert.XattnIdeal.nD) → Buf (Elt Ideal) ((c.tc : Thread Cert.XattnIdeal.nD Cert.XattnIdeal.τ).loc Cert.XattnIdeal.main_v1_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v1_0) = v0 c
          ∧ r.2.mem ((c.tc : Thread Cert.XattnIdeal.nD Cert.XattnIdeal.τ).loc Cert.XattnIdeal.main_v1_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v70) = v0 c
          ∧ r.2.mem ((c.tc : Thread Cert.XattnReferenceIdeal.nD Cert.XattnReferenceIdeal.τ).loc Cert.XattnReferenceIdeal.main_v68) = v1 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v5) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_Dyn_DynIdeal : Prop :=
  True

def algebraic_DynIdeal_DynReferenceIdeal [hDynIdeal : Cert.DynIdeal.Facts] [hDynReferenceIdeal : Cert.DynReferenceIdeal.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynReferenceIdeal.nD Cert.DynReferenceIdeal.τ Cert.DynReferenceIdeal.sig) → Buf (Elt Ideal) ℓ) (g' : Dev Cert.DynReferenceIdeal.nD → PrngReg), Pre_DynIdeal m →
    (∀ c : Dev Cert.DynIdeal.nD,
      m' ((c.tc : Thread Cert.DynReferenceIdeal.nD Cert.DynReferenceIdeal.τ).loc Cert.DynReferenceIdeal.main_arg0) = m ((c.tc : Thread Cert.DynIdeal.nD Cert.DynIdeal.τ).loc Cert.DynIdeal.main_arg0)
      ∧ m' ((c.tc : Thread Cert.DynReferenceIdeal.nD Cert.DynReferenceIdeal.τ).loc Cert.DynReferenceIdeal.main_arg1) = m ((c.tc : Thread Cert.DynIdeal.nD Cert.DynIdeal.τ).loc Cert.DynIdeal.main_arg1)) →
    ∃ (v0 : (c : Dev Cert.DynIdeal.nD) → Buf (Elt Ideal) ((c.tc : Thread Cert.DynIdeal.nD Cert.DynIdeal.τ).loc Cert.DynIdeal.main_v0)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v0) = v0 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1))
      ∧ θ_run (Cert.DynReferenceIdeal.defs (F := Ideal)) (onTc (τ := Cert.DynReferenceIdeal.τ) (Cert.DynReferenceIdeal.main (F := Ideal))) ⟨m', fun _ => 0, g'⟩ (fun r => ∀ c : Dev Cert.DynReferenceIdeal.nD,
          r.2.mem ((c.tc : Thread Cert.DynReferenceIdeal.nD Cert.DynReferenceIdeal.τ).loc Cert.DynReferenceIdeal.main_v5) = v0 c
          ∧ r.2.mem ((c.tc : Thread Cert.DynReferenceIdeal.nD Cert.DynReferenceIdeal.τ).loc Cert.DynReferenceIdeal.main_arg0) = m' ((c.tc : Thread Cert.DynReferenceIdeal.nD Cert.DynReferenceIdeal.τ).loc Cert.DynReferenceIdeal.main_arg0)
          ∧ r.2.mem ((c.tc : Thread Cert.DynReferenceIdeal.nD Cert.DynReferenceIdeal.τ).loc Cert.DynReferenceIdeal.main_arg1) = m' ((c.tc : Thread Cert.DynReferenceIdeal.nD Cert.DynReferenceIdeal.τ).loc Cert.DynReferenceIdeal.main_arg1))

def preserves_Dz_DzIdeal : Prop :=
  True

def algebraic_DzIdeal_DzReferenceIdeal [hDzIdeal : Cert.DzIdeal.Facts] [hDzReferenceIdeal : Cert.DzReferenceIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzReferenceIdeal.nD Cert.DzReferenceIdeal.τ Cert.DzReferenceIdeal.sig) → Buf (Elt Ideal) ℓ) (g' : Dev Cert.DzReferenceIdeal.nD → PrngReg), Pre_DzIdeal m →
    (∀ c : Dev Cert.DzIdeal.nD,
      m' ((c.tc : Thread Cert.DzReferenceIdeal.nD Cert.DzReferenceIdeal.τ).loc Cert.DzReferenceIdeal.main_arg0) = m ((c.tc : Thread Cert.DzIdeal.nD Cert.DzIdeal.τ).loc Cert.DzIdeal.main_arg0)
      ∧ m' ((c.tc : Thread Cert.DzReferenceIdeal.nD Cert.DzReferenceIdeal.τ).loc Cert.DzReferenceIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzReferenceIdeal.defs (F := Ideal)) (onTc (τ := Cert.DzReferenceIdeal.τ) (Cert.DzReferenceIdeal.main (F := Ideal))) ⟨m', fun _ => 0, g'⟩ (fun r => ∀ c : Dev Cert.DzReferenceIdeal.nD,
          r.2.mem ((c.tc : Thread Cert.DzReferenceIdeal.nD Cert.DzReferenceIdeal.τ).loc Cert.DzReferenceIdeal.main_v5) = v0 c
          ∧ r.2.mem ((c.tc : Thread Cert.DzReferenceIdeal.nD Cert.DzReferenceIdeal.τ).loc Cert.DzReferenceIdeal.main_arg0) = m' ((c.tc : Thread Cert.DzReferenceIdeal.nD Cert.DzReferenceIdeal.τ).loc Cert.DzReferenceIdeal.main_arg0)
          ∧ r.2.mem ((c.tc : Thread Cert.DzReferenceIdeal.nD Cert.DzReferenceIdeal.τ).loc Cert.DzReferenceIdeal.main_arg1) = m' ((c.tc : Thread Cert.DzReferenceIdeal.nD Cert.DzReferenceIdeal.τ).loc Cert.DzReferenceIdeal.main_arg1))

def preserves_Dwx_DwxIdeal : Prop :=
  True

def algebraic_DwxIdeal_DwxReferenceIdeal [hDwxIdeal : Cert.DwxIdeal.Facts] [hDwxReferenceIdeal : Cert.DwxReferenceIdeal.Facts] : Prop :=
  ∀ (m : (ℓ : Loc Cert.DwxIdeal.nD Cert.DwxIdeal.τ Cert.DwxIdeal.sig) → Buf (Elt Ideal) ℓ) (g : Dev Cert.DwxIdeal.nD → PrngReg)
    (m' : (ℓ : Loc Cert.DwxReferenceIdeal.nD Cert.DwxReferenceIdeal.τ Cert.DwxReferenceIdeal.sig) → Buf (Elt Ideal) ℓ) (g' : Dev Cert.DwxReferenceIdeal.nD → PrngReg), Pre_DwxIdeal m →
    (∀ c : Dev Cert.DwxIdeal.nD,
      m' ((c.tc : Thread Cert.DwxReferenceIdeal.nD Cert.DwxReferenceIdeal.τ).loc Cert.DwxReferenceIdeal.main_arg0) = m ((c.tc : Thread Cert.DwxIdeal.nD Cert.DwxIdeal.τ).loc Cert.DwxIdeal.main_arg0)
      ∧ m' ((c.tc : Thread Cert.DwxReferenceIdeal.nD Cert.DwxReferenceIdeal.τ).loc Cert.DwxReferenceIdeal.main_arg1) = m ((c.tc : Thread Cert.DwxIdeal.nD Cert.DwxIdeal.τ).loc Cert.DwxIdeal.main_arg1)) →
    ∃ (v0 : (c : Dev Cert.DwxIdeal.nD) → Buf (Elt Ideal) ((c.tc : Thread Cert.DwxIdeal.nD Cert.DwxIdeal.τ).loc Cert.DwxIdeal.main_v0)),
      θ_run (Cert.DwxIdeal.defs (F := Ideal)) (onTc (τ := Cert.DwxIdeal.τ) (Cert.DwxIdeal.main (F := Ideal))) ⟨m, fun _ => 0, g⟩ (fun r => ∀ c : Dev Cert.DwxIdeal.nD,
          r.2.mem ((c.tc : Thread Cert.DwxIdeal.nD Cert.DwxIdeal.τ).loc Cert.DwxIdeal.main_v0) = v0 c
          ∧ r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
          ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ θ_run (Cert.DwxReferenceIdeal.defs (F := Ideal)) (onTc (τ := Cert.DwxReferenceIdeal.τ) (Cert.DwxReferenceIdeal.main (F := Ideal))) ⟨m', fun _ => 0, g'⟩ (fun r => ∀ c : Dev Cert.DwxReferenceIdeal.nD,
          r.2.mem ((c.tc : Thread Cert.DwxReferenceIdeal.nD Cert.DwxReferenceIdeal.τ).loc Cert.DwxReferenceIdeal.main_v6) = v0 c
          ∧ r.2.mem ((c.tc : Thread Cert.DwxReferenceIdeal.nD Cert.DwxReferenceIdeal.τ).loc Cert.DwxReferenceIdeal.main_arg0) = m' ((c.tc : Thread Cert.DwxReferenceIdeal.nD Cert.DwxReferenceIdeal.τ).loc Cert.DwxReferenceIdeal.main_arg0)
          ∧ r.2.mem ((c.tc : Thread Cert.DwxReferenceIdeal.nD Cert.DwxReferenceIdeal.τ).loc Cert.DwxReferenceIdeal.main_arg1) = m' ((c.tc : Thread Cert.DwxReferenceIdeal.nD Cert.DwxReferenceIdeal.τ).loc Cert.DwxReferenceIdeal.main_arg1))

def preserves_Dwin_DwinIdeal : Prop :=
  True

def algebraic_DwinIdeal_DwinReferenceIdeal [hDwinIdeal : Cert.DwinIdeal.Facts] [hDwinReferenceIdeal : Cert.DwinReferenceIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinReferenceIdeal.nD Cert.DwinReferenceIdeal.τ Cert.DwinReferenceIdeal.sig) → Buf (Elt Ideal) ℓ) (g' : Dev Cert.DwinReferenceIdeal.nD → PrngReg), Pre_DwinIdeal m →
    (∀ c : Dev Cert.DwinIdeal.nD,
      m' ((c.tc : Thread Cert.DwinReferenceIdeal.nD Cert.DwinReferenceIdeal.τ).loc Cert.DwinReferenceIdeal.main_arg0) = m ((c.tc : Thread Cert.DwinIdeal.nD Cert.DwinIdeal.τ).loc Cert.DwinIdeal.main_arg0)
      ∧ m' ((c.tc : Thread Cert.DwinReferenceIdeal.nD Cert.DwinReferenceIdeal.τ).loc Cert.DwinReferenceIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinReferenceIdeal.defs (F := Ideal)) (onTc (τ := Cert.DwinReferenceIdeal.τ) (Cert.DwinReferenceIdeal.main (F := Ideal))) ⟨m', fun _ => 0, g'⟩ (fun r => ∀ c : Dev Cert.DwinReferenceIdeal.nD,
          r.2.mem ((c.tc : Thread Cert.DwinReferenceIdeal.nD Cert.DwinReferenceIdeal.τ).loc Cert.DwinReferenceIdeal.main_v6) = v0 c
          ∧ r.2.mem ((c.tc : Thread Cert.DwinReferenceIdeal.nD Cert.DwinReferenceIdeal.τ).loc Cert.DwinReferenceIdeal.main_arg0) = m' ((c.tc : Thread Cert.DwinReferenceIdeal.nD Cert.DwinReferenceIdeal.τ).loc Cert.DwinReferenceIdeal.main_arg0)
          ∧ r.2.mem ((c.tc : Thread Cert.DwinReferenceIdeal.nD Cert.DwinReferenceIdeal.τ).loc Cert.DwinReferenceIdeal.main_arg1) = m' ((c.tc : Thread Cert.DwinReferenceIdeal.nD Cert.DwinReferenceIdeal.τ).loc Cert.DwinReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v2) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_Wxq_WxqIdeal : Prop :=
  True

def algebraic_WxqIdeal_WxqReferenceIdeal [hWxqIdeal : Cert.WxqIdeal.Facts] [hWxqReferenceIdeal : Cert.WxqReferenceIdeal.Facts] : Prop :=
  ∀ (m : (ℓ : Loc Cert.WxqIdeal.nD Cert.WxqIdeal.τ Cert.WxqIdeal.sig) → Buf (Elt Ideal) ℓ) (g : Dev Cert.WxqIdeal.nD → PrngReg)
    (m' : (ℓ : Loc Cert.WxqReferenceIdeal.nD Cert.WxqReferenceIdeal.τ Cert.WxqReferenceIdeal.sig) → Buf (Elt Ideal) ℓ) (g' : Dev Cert.WxqReferenceIdeal.nD → PrngReg), Pre_WxqIdeal m →
    (∀ c : Dev Cert.WxqIdeal.nD,
      m' ((c.tc : Thread Cert.WxqReferenceIdeal.nD Cert.WxqReferenceIdeal.τ).loc Cert.WxqReferenceIdeal.main_arg0) = m ((c.tc : Thread Cert.WxqIdeal.nD Cert.WxqIdeal.τ).loc Cert.WxqIdeal.main_arg0)
      ∧ m' ((c.tc : Thread Cert.WxqReferenceIdeal.nD Cert.WxqReferenceIdeal.τ).loc Cert.WxqReferenceIdeal.main_arg1) = m ((c.tc : Thread Cert.WxqIdeal.nD Cert.WxqIdeal.τ).loc Cert.WxqIdeal.main_arg1)) →
    ∃ (v0 : (c : Dev Cert.WxqIdeal.nD) → Buf (Elt Ideal) ((c.tc : Thread Cert.WxqIdeal.nD Cert.WxqIdeal.τ).loc Cert.WxqIdeal.main_v0)),
      θ_run (Cert.WxqIdeal.defs (F := Ideal)) (onTc (τ := Cert.WxqIdeal.τ) (Cert.WxqIdeal.main (F := Ideal))) ⟨m, fun _ => 0, g⟩ (fun r => ∀ c : Dev Cert.WxqIdeal.nD,
          r.2.mem ((c.tc : Thread Cert.WxqIdeal.nD Cert.WxqIdeal.τ).loc Cert.WxqIdeal.main_v0) = v0 c
          ∧ r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
          ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ θ_run (Cert.WxqReferenceIdeal.defs (F := Ideal)) (onTc (τ := Cert.WxqReferenceIdeal.τ) (Cert.WxqReferenceIdeal.main (F := Ideal))) ⟨m', fun _ => 0, g'⟩ (fun r => ∀ c : Dev Cert.WxqReferenceIdeal.nD,
          r.2.mem ((c.tc : Thread Cert.WxqReferenceIdeal.nD Cert.WxqReferenceIdeal.τ).loc Cert.WxqReferenceIdeal.main_v3) = v0 c
          ∧ r.2.mem ((c.tc : Thread Cert.WxqReferenceIdeal.nD Cert.WxqReferenceIdeal.τ).loc Cert.WxqReferenceIdeal.main_arg0) = m' ((c.tc : Thread Cert.WxqReferenceIdeal.nD Cert.WxqReferenceIdeal.τ).loc Cert.WxqReferenceIdeal.main_arg0)
          ∧ r.2.mem ((c.tc : Thread Cert.WxqReferenceIdeal.nD Cert.WxqReferenceIdeal.τ).loc Cert.WxqReferenceIdeal.main_arg1) = m' ((c.tc : Thread Cert.WxqReferenceIdeal.nD Cert.WxqReferenceIdeal.τ).loc Cert.WxqReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Wxkv_WxkvIdeal : Prop :=
  True

def algebraic_WxkvIdeal_WxkvReferenceIdeal [hWxkvIdeal : Cert.WxkvIdeal.Facts] [hWxkvReferenceIdeal : Cert.WxkvReferenceIdeal.Facts] : Prop :=
  ∀ (m : (ℓ : Loc Cert.WxkvIdeal.nD Cert.WxkvIdeal.τ Cert.WxkvIdeal.sig) → Buf (Elt Ideal) ℓ) (g : Dev Cert.WxkvIdeal.nD → PrngReg)
    (m' : (ℓ : Loc Cert.WxkvReferenceIdeal.nD Cert.WxkvReferenceIdeal.τ Cert.WxkvReferenceIdeal.sig) → Buf (Elt Ideal) ℓ) (g' : Dev Cert.WxkvReferenceIdeal.nD → PrngReg), Pre_WxkvIdeal m →
    (∀ c : Dev Cert.WxkvIdeal.nD,
      m' ((c.tc : Thread Cert.WxkvReferenceIdeal.nD Cert.WxkvReferenceIdeal.τ).loc Cert.WxkvReferenceIdeal.main_arg0) = m ((c.tc : Thread Cert.WxkvIdeal.nD Cert.WxkvIdeal.τ).loc Cert.WxkvIdeal.main_arg0)
      ∧ m' ((c.tc : Thread Cert.WxkvReferenceIdeal.nD Cert.WxkvReferenceIdeal.τ).loc Cert.WxkvReferenceIdeal.main_arg1) = m ((c.tc : Thread Cert.WxkvIdeal.nD Cert.WxkvIdeal.τ).loc Cert.WxkvIdeal.main_arg1)) →
    ∃ (v0 : (c : Dev Cert.WxkvIdeal.nD) → Buf (Elt Ideal) ((c.tc : Thread Cert.WxkvIdeal.nD Cert.WxkvIdeal.τ).loc Cert.WxkvIdeal.main_v0)),
      θ_run (Cert.WxkvIdeal.defs (F := Ideal)) (onTc (τ := Cert.WxkvIdeal.τ) (Cert.WxkvIdeal.main (F := Ideal))) ⟨m, fun _ => 0, g⟩ (fun r => ∀ c : Dev Cert.WxkvIdeal.nD,
          r.2.mem ((c.tc : Thread Cert.WxkvIdeal.nD Cert.WxkvIdeal.τ).loc Cert.WxkvIdeal.main_v0) = v0 c
          ∧ r.2.mem ((c.tc : Thread Cert.WxkvIdeal.nD Cert.WxkvIdeal.τ).loc Cert.WxkvIdeal.main_arg0) = m ((c.tc : Thread Cert.WxkvIdeal.nD Cert.WxkvIdeal.τ).loc Cert.WxkvIdeal.main_arg0)
          ∧ r.2.mem ((c.tc : Thread Cert.WxkvIdeal.nD Cert.WxkvIdeal.τ).loc Cert.WxkvIdeal.main_arg1) = m ((c.tc : Thread Cert.WxkvIdeal.nD Cert.WxkvIdeal.τ).loc Cert.WxkvIdeal.main_arg1))
      ∧ θ_run (Cert.WxkvReferenceIdeal.defs (F := Ideal)) (onTc (τ := Cert.WxkvReferenceIdeal.τ) (Cert.WxkvReferenceIdeal.main (F := Ideal))) ⟨m', fun _ => 0, g'⟩ (fun r => ∀ c : Dev Cert.WxkvReferenceIdeal.nD,
          r.2.mem ((c.tc : Thread Cert.WxkvReferenceIdeal.nD Cert.WxkvReferenceIdeal.τ).loc Cert.WxkvReferenceIdeal.main_v2) = v0 c
          ∧ r.2.mem ((c.tc : Thread Cert.WxkvReferenceIdeal.nD Cert.WxkvReferenceIdeal.τ).loc Cert.WxkvReferenceIdeal.main_arg0) = m' ((c.tc : Thread Cert.WxkvReferenceIdeal.nD Cert.WxkvReferenceIdeal.τ).loc Cert.WxkvReferenceIdeal.main_arg0)
          ∧ r.2.mem ((c.tc : Thread Cert.WxkvReferenceIdeal.nD Cert.WxkvReferenceIdeal.τ).loc Cert.WxkvReferenceIdeal.main_arg1) = m' ((c.tc : Thread Cert.WxkvReferenceIdeal.nD Cert.WxkvReferenceIdeal.τ).loc Cert.WxkvReferenceIdeal.main_arg1))

def preserves_Dwxkv_DwxkvIdeal : Prop :=
  True

def algebraic_DwxkvIdeal_DwxkvReferenceIdeal [hDwxkvIdeal : Cert.DwxkvIdeal.Facts] [hDwxkvReferenceIdeal : Cert.DwxkvReferenceIdeal.Facts] : Prop :=
  ∀ (m : (ℓ : Loc Cert.DwxkvIdeal.nD Cert.DwxkvIdeal.τ Cert.DwxkvIdeal.sig) → Buf (Elt Ideal) ℓ) (g : Dev Cert.DwxkvIdeal.nD → PrngReg)
    (m' : (ℓ : Loc Cert.DwxkvReferenceIdeal.nD Cert.DwxkvReferenceIdeal.τ Cert.DwxkvReferenceIdeal.sig) → Buf (Elt Ideal) ℓ) (g' : Dev Cert.DwxkvReferenceIdeal.nD → PrngReg), Pre_DwxkvIdeal m →
    (∀ c : Dev Cert.DwxkvIdeal.nD,
      m' ((c.tc : Thread Cert.DwxkvReferenceIdeal.nD Cert.DwxkvReferenceIdeal.τ).loc Cert.DwxkvReferenceIdeal.main_arg0) = m ((c.tc : Thread Cert.DwxkvIdeal.nD Cert.DwxkvIdeal.τ).loc Cert.DwxkvIdeal.main_arg0)
      ∧ m' ((c.tc : Thread Cert.DwxkvReferenceIdeal.nD Cert.DwxkvReferenceIdeal.τ).loc Cert.DwxkvReferenceIdeal.main_arg1) = m ((c.tc : Thread Cert.DwxkvIdeal.nD Cert.DwxkvIdeal.τ).loc Cert.DwxkvIdeal.main_arg1)) →
    ∃ (v0 : (c : Dev Cert.DwxkvIdeal.nD) → Buf (Elt Ideal) ((c.tc : Thread Cert.DwxkvIdeal.nD Cert.DwxkvIdeal.τ).loc Cert.DwxkvIdeal.main_v0)),
      θ_run (Cert.DwxkvIdeal.defs (F := Ideal)) (onTc (τ := Cert.DwxkvIdeal.τ) (Cert.DwxkvIdeal.main (F := Ideal))) ⟨m, fun _ => 0, g⟩ (fun r => ∀ c : Dev Cert.DwxkvIdeal.nD,
          r.2.mem ((c.tc : Thread Cert.DwxkvIdeal.nD Cert.DwxkvIdeal.τ).loc Cert.DwxkvIdeal.main_v0) = v0 c
          ∧ r.2.mem ((c.tc : Thread Cert.DwxkvIdeal.nD Cert.DwxkvIdeal.τ).loc Cert.DwxkvIdeal.main_arg0) = m ((c.tc : Thread Cert.DwxkvIdeal.nD Cert.DwxkvIdeal.τ).loc Cert.DwxkvIdeal.main_arg0)
          ∧ r.2.mem ((c.tc : Thread Cert.DwxkvIdeal.nD Cert.DwxkvIdeal.τ).loc Cert.DwxkvIdeal.main_arg1) = m ((c.tc : Thread Cert.DwxkvIdeal.nD Cert.DwxkvIdeal.τ).loc Cert.DwxkvIdeal.main_arg1))
      ∧ θ_run (Cert.DwxkvReferenceIdeal.defs (F := Ideal)) (onTc (τ := Cert.DwxkvReferenceIdeal.τ) (Cert.DwxkvReferenceIdeal.main (F := Ideal))) ⟨m', fun _ => 0, g'⟩ (fun r => ∀ c : Dev Cert.DwxkvReferenceIdeal.nD,
          r.2.mem ((c.tc : Thread Cert.DwxkvReferenceIdeal.nD Cert.DwxkvReferenceIdeal.τ).loc Cert.DwxkvReferenceIdeal.main_v8) = v0 c
          ∧ r.2.mem ((c.tc : Thread Cert.DwxkvReferenceIdeal.nD Cert.DwxkvReferenceIdeal.τ).loc Cert.DwxkvReferenceIdeal.main_arg0) = m' ((c.tc : Thread Cert.DwxkvReferenceIdeal.nD Cert.DwxkvReferenceIdeal.τ).loc Cert.DwxkvReferenceIdeal.main_arg0)
          ∧ r.2.mem ((c.tc : Thread Cert.DwxkvReferenceIdeal.nD Cert.DwxkvReferenceIdeal.τ).loc Cert.DwxkvReferenceIdeal.main_arg1) = m' ((c.tc : Thread Cert.DwxkvReferenceIdeal.nD Cert.DwxkvReferenceIdeal.τ).loc Cert.DwxkvReferenceIdeal.main_arg1))

def preserves_Dmem_DmemIdeal : Prop :=
  True

def algebraic_DmemIdeal_DmemReferenceIdeal [hDmemIdeal : Cert.DmemIdeal.Facts] [hDmemReferenceIdeal : Cert.DmemReferenceIdeal.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemReferenceIdeal.nD Cert.DmemReferenceIdeal.τ Cert.DmemReferenceIdeal.sig) → Buf (Elt Ideal) ℓ) (g' : Dev Cert.DmemReferenceIdeal.nD → PrngReg), Pre_DmemIdeal m →
    (∀ c : Dev Cert.DmemIdeal.nD,
      m' ((c.tc : Thread Cert.DmemReferenceIdeal.nD Cert.DmemReferenceIdeal.τ).loc Cert.DmemReferenceIdeal.main_arg0) = m ((c.tc : Thread Cert.DmemIdeal.nD Cert.DmemIdeal.τ).loc Cert.DmemIdeal.main_arg0)
      ∧ m' ((c.tc : Thread Cert.DmemReferenceIdeal.nD Cert.DmemReferenceIdeal.τ).loc Cert.DmemReferenceIdeal.main_arg1) = m ((c.tc : Thread Cert.DmemIdeal.nD Cert.DmemIdeal.τ).loc Cert.DmemIdeal.main_arg1)) →
    ∃ (v0 : (c : Dev Cert.DmemIdeal.nD) → Buf (Elt Ideal) ((c.tc : Thread Cert.DmemIdeal.nD Cert.DmemIdeal.τ).loc Cert.DmemIdeal.main_v0)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v0) = v0 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1))
      ∧ θ_run (Cert.DmemReferenceIdeal.defs (F := Ideal)) (onTc (τ := Cert.DmemReferenceIdeal.τ) (Cert.DmemReferenceIdeal.main (F := Ideal))) ⟨m', fun _ => 0, g'⟩ (fun r => ∀ c : Dev Cert.DmemReferenceIdeal.nD,
          r.2.mem ((c.tc : Thread Cert.DmemReferenceIdeal.nD Cert.DmemReferenceIdeal.τ).loc Cert.DmemReferenceIdeal.main_v4) = v0 c
          ∧ r.2.mem ((c.tc : Thread Cert.DmemReferenceIdeal.nD Cert.DmemReferenceIdeal.τ).loc Cert.DmemReferenceIdeal.main_arg0) = m' ((c.tc : Thread Cert.DmemReferenceIdeal.nD Cert.DmemReferenceIdeal.τ).loc Cert.DmemReferenceIdeal.main_arg0)
          ∧ r.2.mem ((c.tc : Thread Cert.DmemReferenceIdeal.nD Cert.DmemReferenceIdeal.τ).loc Cert.DmemReferenceIdeal.main_arg1) = m' ((c.tc : Thread Cert.DmemReferenceIdeal.nD Cert.DmemReferenceIdeal.τ).loc Cert.DmemReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormMem_NormMemIdeal : Prop :=
  True

def algebraic_NormMemIdeal_NormMemReferenceIdeal [hNormMemIdeal : Cert.NormMemIdeal.Facts] [hNormMemReferenceIdeal : Cert.NormMemReferenceIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemIdeal m →
    (∀ c : Dev Cert.NormMemIdeal.nD,
      m' ((c.tc : Thread Cert.NormMemReferenceIdeal.nD Cert.NormMemReferenceIdeal.τ).loc Cert.NormMemReferenceIdeal.main_arg0) = m ((c.tc : Thread Cert.NormMemIdeal.nD Cert.NormMemIdeal.τ).loc Cert.NormMemIdeal.main_arg0)
      ∧ m' ((c.tc : Thread Cert.NormMemReferenceIdeal.nD Cert.NormMemReferenceIdeal.τ).loc Cert.NormMemReferenceIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v12) = v0 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1))

def preserves_Dnorm_DnormIdeal : Prop :=
  True

def algebraic_DnormIdeal_DnormReferenceIdeal [hDnormIdeal : Cert.DnormIdeal.Facts] [hDnormReferenceIdeal : Cert.DnormReferenceIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormReferenceIdeal.nD Cert.DnormReferenceIdeal.τ Cert.DnormReferenceIdeal.sig) → Buf (Elt Ideal) ℓ) (g' : Dev Cert.DnormReferenceIdeal.nD → PrngReg), Pre_DnormIdeal m →
    (∀ c : Dev Cert.DnormIdeal.nD,
      m' ((c.tc : Thread Cert.DnormReferenceIdeal.nD Cert.DnormReferenceIdeal.τ).loc Cert.DnormReferenceIdeal.main_arg0) = m ((c.tc : Thread Cert.DnormIdeal.nD Cert.DnormIdeal.τ).loc Cert.DnormIdeal.main_arg0)
      ∧ m' ((c.tc : Thread Cert.DnormReferenceIdeal.nD Cert.DnormReferenceIdeal.τ).loc Cert.DnormReferenceIdeal.main_arg1) = m ((c.tc : Thread Cert.DnormIdeal.nD Cert.DnormIdeal.τ).loc Cert.DnormIdeal.main_arg1)
      ∧ m' ((c.tc : Thread Cert.DnormReferenceIdeal.nD Cert.DnormReferenceIdeal.τ).loc Cert.DnormReferenceIdeal.main_arg2) = m ((c.tc : Thread Cert.DnormIdeal.nD Cert.DnormIdeal.τ).loc Cert.DnormIdeal.main_arg2)
      ∧ m' ((c.tc : Thread Cert.DnormReferenceIdeal.nD Cert.DnormReferenceIdeal.τ).loc Cert.DnormReferenceIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)) (v2 : (c : Dev Cert.DnormIdeal.nD) → Buf (Elt Ideal) ((c.tc : Thread Cert.DnormIdeal.nD Cert.DnormIdeal.τ).loc Cert.DnormIdeal.main_v0_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_v0_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormReferenceIdeal.defs (F := Ideal)) (onTc (τ := Cert.DnormReferenceIdeal.τ) (Cert.DnormReferenceIdeal.main (F := Ideal))) ⟨m', fun _ => 0, g'⟩ (fun r => ∀ c : Dev Cert.DnormReferenceIdeal.nD,
          r.2.mem ((c.tc : Thread Cert.DnormReferenceIdeal.nD Cert.DnormReferenceIdeal.τ).loc Cert.DnormReferenceIdeal.main_v35) = v0 c
          ∧ r.2.mem ((c.tc : Thread Cert.DnormReferenceIdeal.nD Cert.DnormReferenceIdeal.τ).loc Cert.DnormReferenceIdeal.main_v36) = v1 c
          ∧ r.2.mem ((c.tc : Thread Cert.DnormReferenceIdeal.nD Cert.DnormReferenceIdeal.τ).loc Cert.DnormReferenceIdeal.main_v18) = v2 c
          ∧ r.2.mem ((c.tc : Thread Cert.DnormReferenceIdeal.nD Cert.DnormReferenceIdeal.τ).loc Cert.DnormReferenceIdeal.main_arg0) = m' ((c.tc : Thread Cert.DnormReferenceIdeal.nD Cert.DnormReferenceIdeal.τ).loc Cert.DnormReferenceIdeal.main_arg0)
          ∧ r.2.mem ((c.tc : Thread Cert.DnormReferenceIdeal.nD Cert.DnormReferenceIdeal.τ).loc Cert.DnormReferenceIdeal.main_arg1) = m' ((c.tc : Thread Cert.DnormReferenceIdeal.nD Cert.DnormReferenceIdeal.τ).loc Cert.DnormReferenceIdeal.main_arg1)
          ∧ r.2.mem ((c.tc : Thread Cert.DnormReferenceIdeal.nD Cert.DnormReferenceIdeal.τ).loc Cert.DnormReferenceIdeal.main_arg2) = m' ((c.tc : Thread Cert.DnormReferenceIdeal.nD Cert.DnormReferenceIdeal.τ).loc Cert.DnormReferenceIdeal.main_arg2)
          ∧ r.2.mem ((c.tc : Thread Cert.DnormReferenceIdeal.nD Cert.DnormReferenceIdeal.τ).loc Cert.DnormReferenceIdeal.main_arg3) = m' ((c.tc : Thread Cert.DnormReferenceIdeal.nD Cert.DnormReferenceIdeal.τ).loc Cert.DnormReferenceIdeal.main_arg3))

def preserves_DnormMem_DnormMemIdeal : Prop :=
  True

def algebraic_DnormMemIdeal_DnormMemReferenceIdeal [hDnormMemIdeal : Cert.DnormMemIdeal.Facts] [hDnormMemReferenceIdeal : Cert.DnormMemReferenceIdeal.Facts] : Prop :=
  ∀ (m : (ℓ : Loc Cert.DnormMemIdeal.nD Cert.DnormMemIdeal.τ Cert.DnormMemIdeal.sig) → Buf (Elt Ideal) ℓ) (g : Dev Cert.DnormMemIdeal.nD → PrngReg)
    (m' : (ℓ : Loc Cert.DnormMemReferenceIdeal.nD Cert.DnormMemReferenceIdeal.τ Cert.DnormMemReferenceIdeal.sig) → Buf (Elt Ideal) ℓ) (g' : Dev Cert.DnormMemReferenceIdeal.nD → PrngReg), Pre_DnormMemIdeal m →
    (∀ c : Dev Cert.DnormMemIdeal.nD,
      m' ((c.tc : Thread Cert.DnormMemReferenceIdeal.nD Cert.DnormMemReferenceIdeal.τ).loc Cert.DnormMemReferenceIdeal.main_arg0) = m ((c.tc : Thread Cert.DnormMemIdeal.nD Cert.DnormMemIdeal.τ).loc Cert.DnormMemIdeal.main_arg0)
      ∧ m' ((c.tc : Thread Cert.DnormMemReferenceIdeal.nD Cert.DnormMemReferenceIdeal.τ).loc Cert.DnormMemReferenceIdeal.main_arg1) = m ((c.tc : Thread Cert.DnormMemIdeal.nD Cert.DnormMemIdeal.τ).loc Cert.DnormMemIdeal.main_arg1)
      ∧ m' ((c.tc : Thread Cert.DnormMemReferenceIdeal.nD Cert.DnormMemReferenceIdeal.τ).loc Cert.DnormMemReferenceIdeal.main_arg2) = m ((c.tc : Thread Cert.DnormMemIdeal.nD Cert.DnormMemIdeal.τ).loc Cert.DnormMemIdeal.main_arg2)) →
    ∃ (v0 : (c : Dev Cert.DnormMemIdeal.nD) → Buf (Elt Ideal) ((c.tc : Thread Cert.DnormMemIdeal.nD Cert.DnormMemIdeal.τ).loc Cert.DnormMemIdeal.main_v0_0)) (v1 : (c : Dev Cert.DnormMemIdeal.nD) → Buf (Elt Ideal) ((c.tc : Thread Cert.DnormMemIdeal.nD Cert.DnormMemIdeal.τ).loc Cert.DnormMemIdeal.main_v0_1)) (v2 : (c : Dev Cert.DnormMemIdeal.nD) → Buf (Elt Ideal) ((c.tc : Thread Cert.DnormMemIdeal.nD Cert.DnormMemIdeal.τ).loc Cert.DnormMemIdeal.main_v0_2)),
      θ_run (Cert.DnormMemIdeal.defs (F := Ideal)) (onTc (τ := Cert.DnormMemIdeal.τ) (Cert.DnormMemIdeal.main (F := Ideal))) ⟨m, fun _ => 0, g⟩ (fun r => ∀ c : Dev Cert.DnormMemIdeal.nD,
          r.2.mem ((c.tc : Thread Cert.DnormMemIdeal.nD Cert.DnormMemIdeal.τ).loc Cert.DnormMemIdeal.main_v0_0) = v0 c
          ∧ r.2.mem ((c.tc : Thread Cert.DnormMemIdeal.nD Cert.DnormMemIdeal.τ).loc Cert.DnormMemIdeal.main_v0_1) = v1 c
          ∧ r.2.mem ((c.tc : Thread Cert.DnormMemIdeal.nD Cert.DnormMemIdeal.τ).loc Cert.DnormMemIdeal.main_v0_2) = v2 c
          ∧ r.2.mem ((c.tc : Thread Cert.DnormMemIdeal.nD Cert.DnormMemIdeal.τ).loc Cert.DnormMemIdeal.main_arg0) = m ((c.tc : Thread Cert.DnormMemIdeal.nD Cert.DnormMemIdeal.τ).loc Cert.DnormMemIdeal.main_arg0)
          ∧ r.2.mem ((c.tc : Thread Cert.DnormMemIdeal.nD Cert.DnormMemIdeal.τ).loc Cert.DnormMemIdeal.main_arg1) = m ((c.tc : Thread Cert.DnormMemIdeal.nD Cert.DnormMemIdeal.τ).loc Cert.DnormMemIdeal.main_arg1)
          ∧ r.2.mem ((c.tc : Thread Cert.DnormMemIdeal.nD Cert.DnormMemIdeal.τ).loc Cert.DnormMemIdeal.main_arg2) = m ((c.tc : Thread Cert.DnormMemIdeal.nD Cert.DnormMemIdeal.τ).loc Cert.DnormMemIdeal.main_arg2))
      ∧ θ_run (Cert.DnormMemReferenceIdeal.defs (F := Ideal)) (onTc (τ := Cert.DnormMemReferenceIdeal.τ) (Cert.DnormMemReferenceIdeal.main (F := Ideal))) ⟨m', fun _ => 0, g'⟩ (fun r => ∀ c : Dev Cert.DnormMemReferenceIdeal.nD,
          r.2.mem ((c.tc : Thread Cert.DnormMemReferenceIdeal.nD Cert.DnormMemReferenceIdeal.τ).loc Cert.DnormMemReferenceIdeal.main_v33) = v0 c
          ∧ r.2.mem ((c.tc : Thread Cert.DnormMemReferenceIdeal.nD Cert.DnormMemReferenceIdeal.τ).loc Cert.DnormMemReferenceIdeal.main_v34) = v1 c
          ∧ r.2.mem ((c.tc : Thread Cert.DnormMemReferenceIdeal.nD Cert.DnormMemReferenceIdeal.τ).loc Cert.DnormMemReferenceIdeal.main_v17) = v2 c
          ∧ r.2.mem ((c.tc : Thread Cert.DnormMemReferenceIdeal.nD Cert.DnormMemReferenceIdeal.τ).loc Cert.DnormMemReferenceIdeal.main_arg0) = m' ((c.tc : Thread Cert.DnormMemReferenceIdeal.nD Cert.DnormMemReferenceIdeal.τ).loc Cert.DnormMemReferenceIdeal.main_arg0)
          ∧ r.2.mem ((c.tc : Thread Cert.DnormMemReferenceIdeal.nD Cert.DnormMemReferenceIdeal.τ).loc Cert.DnormMemReferenceIdeal.main_arg1) = m' ((c.tc : Thread Cert.DnormMemReferenceIdeal.nD Cert.DnormMemReferenceIdeal.τ).loc Cert.DnormMemReferenceIdeal.main_arg1)
          ∧ r.2.mem ((c.tc : Thread Cert.DnormMemReferenceIdeal.nD Cert.DnormMemReferenceIdeal.τ).loc Cert.DnormMemReferenceIdeal.main_arg2) = m' ((c.tc : Thread Cert.DnormMemReferenceIdeal.nD Cert.DnormMemReferenceIdeal.τ).loc Cert.DnormMemReferenceIdeal.main_arg2))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_v49) = v1 c
          ∧ r.2.mem ((c.tc : Thread Cert.LossReferenceIdeal.nD Cert.LossReferenceIdeal.τ).loc Cert.LossReferenceIdeal.main_v32) = v2 c
          ∧ r.2.mem ((c.tc : Thread Cert.LossReferenceIdeal.nD Cert.LossReferenceIdeal.τ).loc Cert.LossReferenceIdeal.main_v50) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_arg1) = v0 c
          ∧ r.2.mem ((c.tc : Thread Cert.AdamUpReferenceIdeal.nD Cert.AdamUpReferenceIdeal.τ).loc Cert.AdamUpReferenceIdeal.main_v23) = v1 c
          ∧ r.2.mem ((c.tc : Thread Cert.AdamUpReferenceIdeal.nD Cert.AdamUpReferenceIdeal.τ).loc Cert.AdamUpReferenceIdeal.main_v4) = v2 c
          ∧ r.2.mem ((c.tc : Thread Cert.AdamUpReferenceIdeal.nD Cert.AdamUpReferenceIdeal.τ).loc Cert.AdamUpReferenceIdeal.main_v10) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_arg1) = v0 c
          ∧ r.2.mem ((c.tc : Thread Cert.AdamDownReferenceIdeal.nD Cert.AdamDownReferenceIdeal.τ).loc Cert.AdamDownReferenceIdeal.main_v23) = v1 c
          ∧ r.2.mem ((c.tc : Thread Cert.AdamDownReferenceIdeal.nD Cert.AdamDownReferenceIdeal.τ).loc Cert.AdamDownReferenceIdeal.main_v4) = v2 c
          ∧ r.2.mem ((c.tc : Thread Cert.AdamDownReferenceIdeal.nD Cert.AdamDownReferenceIdeal.τ).loc Cert.AdamDownReferenceIdeal.main_v10) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_arg1) = v0 c
          ∧ r.2.mem ((c.tc : Thread Cert.AdamInReferenceIdeal.nD Cert.AdamInReferenceIdeal.τ).loc Cert.AdamInReferenceIdeal.main_v23) = v1 c
          ∧ r.2.mem ((c.tc : Thread Cert.AdamInReferenceIdeal.nD Cert.AdamInReferenceIdeal.τ).loc Cert.AdamInReferenceIdeal.main_v4) = v2 c
          ∧ r.2.mem ((c.tc : Thread Cert.AdamInReferenceIdeal.nD Cert.AdamInReferenceIdeal.τ).loc Cert.AdamInReferenceIdeal.main_v10) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_arg1) = v0 c
          ∧ r.2.mem ((c.tc : Thread Cert.AdamOutReferenceIdeal.nD Cert.AdamOutReferenceIdeal.τ).loc Cert.AdamOutReferenceIdeal.main_v23) = v1 c
          ∧ r.2.mem ((c.tc : Thread Cert.AdamOutReferenceIdeal.nD Cert.AdamOutReferenceIdeal.τ).loc Cert.AdamOutReferenceIdeal.main_v4) = v2 c
          ∧ r.2.mem ((c.tc : Thread Cert.AdamOutReferenceIdeal.nD Cert.AdamOutReferenceIdeal.τ).loc Cert.AdamOutReferenceIdeal.main_v10) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_arg1) = v0 c
          ∧ r.2.mem ((c.tc : Thread Cert.AdamKvReferenceIdeal.nD Cert.AdamKvReferenceIdeal.τ).loc Cert.AdamKvReferenceIdeal.main_v23) = v1 c
          ∧ r.2.mem ((c.tc : Thread Cert.AdamKvReferenceIdeal.nD Cert.AdamKvReferenceIdeal.τ).loc Cert.AdamKvReferenceIdeal.main_v4) = v2 c
          ∧ r.2.mem ((c.tc : Thread Cert.AdamKvReferenceIdeal.nD Cert.AdamKvReferenceIdeal.τ).loc Cert.AdamKvReferenceIdeal.main_v10) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hDw : Cert.Dw.Facts) (hDwIdeal : Cert.DwIdeal.Facts) (hDwReferenceIdeal : Cert.DwReferenceIdeal.Facts) (hDn : Cert.Dn.Facts) (hDnIdeal : Cert.DnIdeal.Facts) (hDnReferenceIdeal : Cert.DnReferenceIdeal.Facts) (hXattn : Cert.Xattn.Facts) (hXattnIdeal : Cert.XattnIdeal.Facts) (hXattnReferenceIdeal : Cert.XattnReferenceIdeal.Facts) (hDx : Cert.Dx.Facts) (hDxIdeal : Cert.DxIdeal.Facts) (hDxReferenceIdeal : Cert.DxReferenceIdeal.Facts) (hDyn : Cert.Dyn.Facts) (hDynIdeal : Cert.DynIdeal.Facts) (hDynReferenceIdeal : Cert.DynReferenceIdeal.Facts) (hDz : Cert.Dz.Facts) (hDzIdeal : Cert.DzIdeal.Facts) (hDzReferenceIdeal : Cert.DzReferenceIdeal.Facts) (hDwx : Cert.Dwx.Facts) (hDwxIdeal : Cert.DwxIdeal.Facts) (hDwxReferenceIdeal : Cert.DwxReferenceIdeal.Facts) (hDwin : Cert.Dwin.Facts) (hDwinIdeal : Cert.DwinIdeal.Facts) (hDwinReferenceIdeal : Cert.DwinReferenceIdeal.Facts) (hDown : Cert.Down.Facts) (hDownIdeal : Cert.DownIdeal.Facts) (hDownReferenceIdeal : Cert.DownReferenceIdeal.Facts) (hWin : Cert.Win.Facts) (hWinIdeal : Cert.WinIdeal.Facts) (hWinReferenceIdeal : Cert.WinReferenceIdeal.Facts) (hWxq : Cert.Wxq.Facts) (hWxqIdeal : Cert.WxqIdeal.Facts) (hWxqReferenceIdeal : Cert.WxqReferenceIdeal.Facts) (hOut : Cert.Out.Facts) (hOutIdeal : Cert.OutIdeal.Facts) (hOutReferenceIdeal : Cert.OutReferenceIdeal.Facts) (hWxkv : Cert.Wxkv.Facts) (hWxkvIdeal : Cert.WxkvIdeal.Facts) (hWxkvReferenceIdeal : Cert.WxkvReferenceIdeal.Facts) (hDwxkv : Cert.Dwxkv.Facts) (hDwxkvIdeal : Cert.DwxkvIdeal.Facts) (hDwxkvReferenceIdeal : Cert.DwxkvReferenceIdeal.Facts) (hDmem : Cert.Dmem.Facts) (hDmemIdeal : Cert.DmemIdeal.Facts) (hDmemReferenceIdeal : Cert.DmemReferenceIdeal.Facts) (hNorm : Cert.Norm.Facts) (hNormIdeal : Cert.NormIdeal.Facts) (hNormReferenceIdeal : Cert.NormReferenceIdeal.Facts) (hNormMem : Cert.NormMem.Facts) (hNormMemIdeal : Cert.NormMemIdeal.Facts) (hNormMemReferenceIdeal : Cert.NormMemReferenceIdeal.Facts) (hDnorm : Cert.Dnorm.Facts) (hDnormIdeal : Cert.DnormIdeal.Facts) (hDnormReferenceIdeal : Cert.DnormReferenceIdeal.Facts) (hDnormMem : Cert.DnormMem.Facts) (hDnormMemIdeal : Cert.DnormMemIdeal.Facts) (hDnormMemReferenceIdeal : Cert.DnormMemReferenceIdeal.Facts) (hLoss : Cert.Loss.Facts) (hLossIdeal : Cert.LossIdeal.Facts) (hLossReferenceIdeal : Cert.LossReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamKv : Cert.AdamKv.Facts) (hAdamKvIdeal : Cert.AdamKvIdeal.Facts) (hAdamKvReferenceIdeal : Cert.AdamKvReferenceIdeal.Facts) (hPre_finite_scores : Cert.Pre_finite_scores.Facts) (hPre_finite_ffn : Cert.Pre_finite_ffn.Facts) (hPre_finite_xattn : Cert.Pre_finite_xattn.Facts) (hOn_attention_part : Cert.On_attention_part.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Dw (hDw := hDw)
    ∧ quiescent_DwIdeal (hDwIdeal := hDwIdeal)
    ∧ quiescent_DwReferenceIdeal (hDwReferenceIdeal := hDwReferenceIdeal)
    ∧ quiescent_Dn (hDn := hDn)
    ∧ quiescent_DnIdeal (hDnIdeal := hDnIdeal)
    ∧ quiescent_DnReferenceIdeal (hDnReferenceIdeal := hDnReferenceIdeal)
    ∧ quiescent_Xattn (hXattn := hXattn)
    ∧ quiescent_XattnIdeal (hXattnIdeal := hXattnIdeal)
    ∧ quiescent_XattnIdeal_pre_finite_xattn (hXattnIdeal := hXattnIdeal) (hPre_finite_xattn := hPre_finite_xattn)
    ∧ quiescent_XattnReferenceIdeal (hXattnReferenceIdeal := hXattnReferenceIdeal)
    ∧ quiescent_XattnReferenceIdeal_pre_finite_xattn (hXattnReferenceIdeal := hXattnReferenceIdeal) (hPre_finite_xattn := hPre_finite_xattn)
    ∧ quiescent_Dx (hDx := hDx)
    ∧ quiescent_DxIdeal (hDxIdeal := hDxIdeal)
    ∧ quiescent_DxReferenceIdeal (hDxReferenceIdeal := hDxReferenceIdeal)
    ∧ quiescent_Dyn (hDyn := hDyn)
    ∧ quiescent_DynIdeal (hDynIdeal := hDynIdeal)
    ∧ quiescent_DynReferenceIdeal (hDynReferenceIdeal := hDynReferenceIdeal)
    ∧ quiescent_Dz (hDz := hDz)
    ∧ quiescent_DzIdeal (hDzIdeal := hDzIdeal)
    ∧ quiescent_DzReferenceIdeal (hDzReferenceIdeal := hDzReferenceIdeal)
    ∧ quiescent_Dwx (hDwx := hDwx)
    ∧ quiescent_DwxIdeal (hDwxIdeal := hDwxIdeal)
    ∧ quiescent_DwxReferenceIdeal (hDwxReferenceIdeal := hDwxReferenceIdeal)
    ∧ quiescent_Dwin (hDwin := hDwin)
    ∧ quiescent_DwinIdeal (hDwinIdeal := hDwinIdeal)
    ∧ quiescent_DwinReferenceIdeal (hDwinReferenceIdeal := hDwinReferenceIdeal)
    ∧ quiescent_Down (hDown := hDown)
    ∧ quiescent_DownIdeal (hDownIdeal := hDownIdeal)
    ∧ quiescent_DownReferenceIdeal (hDownReferenceIdeal := hDownReferenceIdeal)
    ∧ quiescent_Win (hWin := hWin)
    ∧ quiescent_WinIdeal (hWinIdeal := hWinIdeal)
    ∧ quiescent_WinReferenceIdeal (hWinReferenceIdeal := hWinReferenceIdeal)
    ∧ quiescent_Wxq (hWxq := hWxq)
    ∧ quiescent_WxqIdeal (hWxqIdeal := hWxqIdeal)
    ∧ quiescent_WxqReferenceIdeal (hWxqReferenceIdeal := hWxqReferenceIdeal)
    ∧ quiescent_Out (hOut := hOut)
    ∧ quiescent_OutIdeal (hOutIdeal := hOutIdeal)
    ∧ quiescent_OutReferenceIdeal (hOutReferenceIdeal := hOutReferenceIdeal)
    ∧ quiescent_Wxkv (hWxkv := hWxkv)
    ∧ quiescent_WxkvIdeal (hWxkvIdeal := hWxkvIdeal)
    ∧ quiescent_WxkvReferenceIdeal (hWxkvReferenceIdeal := hWxkvReferenceIdeal)
    ∧ quiescent_Dwxkv (hDwxkv := hDwxkv)
    ∧ quiescent_DwxkvIdeal (hDwxkvIdeal := hDwxkvIdeal)
    ∧ quiescent_DwxkvReferenceIdeal (hDwxkvReferenceIdeal := hDwxkvReferenceIdeal)
    ∧ quiescent_Dmem (hDmem := hDmem)
    ∧ quiescent_DmemIdeal (hDmemIdeal := hDmemIdeal)
    ∧ quiescent_DmemReferenceIdeal (hDmemReferenceIdeal := hDmemReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormMem (hNormMem := hNormMem)
    ∧ quiescent_NormMemIdeal (hNormMemIdeal := hNormMemIdeal)
    ∧ quiescent_NormMemReferenceIdeal (hNormMemReferenceIdeal := hNormMemReferenceIdeal)
    ∧ quiescent_Dnorm (hDnorm := hDnorm)
    ∧ quiescent_DnormIdeal (hDnormIdeal := hDnormIdeal)
    ∧ quiescent_DnormReferenceIdeal (hDnormReferenceIdeal := hDnormReferenceIdeal)
    ∧ quiescent_DnormMem (hDnormMem := hDnormMem)
    ∧ quiescent_DnormMemIdeal (hDnormMemIdeal := hDnormMemIdeal)
    ∧ quiescent_DnormMemReferenceIdeal (hDnormMemReferenceIdeal := hDnormMemReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ preserves_Kernel_KernelIdeal
    ∧ algebraic_KernelIdeal_ReferenceIdeal_on_attention_part_pre_finite_scores (hKernelIdeal := hKernelIdeal) (hReferenceIdeal := hReferenceIdeal) (hPre_finite_scores := hPre_finite_scores) (hOn_attention_part := hOn_attention_part)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Dw_DwIdeal
    ∧ algebraic_DwIdeal_DwReferenceIdeal (hDwIdeal := hDwIdeal) (hDwReferenceIdeal := hDwReferenceIdeal)
    ∧ preserves_Dn_DnIdeal
    ∧ algebraic_DnIdeal_DnReferenceIdeal (hDnIdeal := hDnIdeal) (hDnReferenceIdeal := hDnReferenceIdeal)
    ∧ preserves_Xattn_XattnIdeal
    ∧ algebraic_XattnIdeal_XattnReferenceIdeal_pre_finite_xattn (hXattnIdeal := hXattnIdeal) (hXattnReferenceIdeal := hXattnReferenceIdeal) (hPre_finite_xattn := hPre_finite_xattn)
    ∧ preserves_Dx_DxIdeal
    ∧ algebraic_DxIdeal_DxReferenceIdeal (hDxIdeal := hDxIdeal) (hDxReferenceIdeal := hDxReferenceIdeal)
    ∧ preserves_Dyn_DynIdeal
    ∧ algebraic_DynIdeal_DynReferenceIdeal (hDynIdeal := hDynIdeal) (hDynReferenceIdeal := hDynReferenceIdeal)
    ∧ preserves_Dz_DzIdeal
    ∧ algebraic_DzIdeal_DzReferenceIdeal (hDzIdeal := hDzIdeal) (hDzReferenceIdeal := hDzReferenceIdeal)
    ∧ preserves_Dwx_DwxIdeal
    ∧ algebraic_DwxIdeal_DwxReferenceIdeal (hDwxIdeal := hDwxIdeal) (hDwxReferenceIdeal := hDwxReferenceIdeal)
    ∧ preserves_Dwin_DwinIdeal
    ∧ algebraic_DwinIdeal_DwinReferenceIdeal (hDwinIdeal := hDwinIdeal) (hDwinReferenceIdeal := hDwinReferenceIdeal)
    ∧ preserves_Down_DownIdeal
    ∧ algebraic_DownIdeal_DownReferenceIdeal (hDownIdeal := hDownIdeal) (hDownReferenceIdeal := hDownReferenceIdeal)
    ∧ preserves_Win_WinIdeal
    ∧ algebraic_WinIdeal_WinReferenceIdeal (hWinIdeal := hWinIdeal) (hWinReferenceIdeal := hWinReferenceIdeal)
    ∧ preserves_Wxq_WxqIdeal
    ∧ algebraic_WxqIdeal_WxqReferenceIdeal (hWxqIdeal := hWxqIdeal) (hWxqReferenceIdeal := hWxqReferenceIdeal)
    ∧ preserves_Out_OutIdeal
    ∧ algebraic_OutIdeal_OutReferenceIdeal (hOutIdeal := hOutIdeal) (hOutReferenceIdeal := hOutReferenceIdeal)
    ∧ preserves_Wxkv_WxkvIdeal
    ∧ algebraic_WxkvIdeal_WxkvReferenceIdeal (hWxkvIdeal := hWxkvIdeal) (hWxkvReferenceIdeal := hWxkvReferenceIdeal)
    ∧ preserves_Dwxkv_DwxkvIdeal
    ∧ algebraic_DwxkvIdeal_DwxkvReferenceIdeal (hDwxkvIdeal := hDwxkvIdeal) (hDwxkvReferenceIdeal := hDwxkvReferenceIdeal)
    ∧ preserves_Dmem_DmemIdeal
    ∧ algebraic_DmemIdeal_DmemReferenceIdeal (hDmemIdeal := hDmemIdeal) (hDmemReferenceIdeal := hDmemReferenceIdeal)
    ∧ preserves_Norm_NormIdeal
    ∧ algebraic_NormIdeal_NormReferenceIdeal (hNormIdeal := hNormIdeal) (hNormReferenceIdeal := hNormReferenceIdeal)
    ∧ preserves_NormMem_NormMemIdeal
    ∧ algebraic_NormMemIdeal_NormMemReferenceIdeal (hNormMemIdeal := hNormMemIdeal) (hNormMemReferenceIdeal := hNormMemReferenceIdeal)
    ∧ preserves_Dnorm_DnormIdeal
    ∧ algebraic_DnormIdeal_DnormReferenceIdeal (hDnormIdeal := hDnormIdeal) (hDnormReferenceIdeal := hDnormReferenceIdeal)
    ∧ preserves_DnormMem_DnormMemIdeal
    ∧ algebraic_DnormMemIdeal_DnormMemReferenceIdeal (hDnormMemIdeal := hDnormMemIdeal) (hDnormMemReferenceIdeal := hDnormMemReferenceIdeal)
    ∧ preserves_Loss_LossIdeal
    ∧ algebraic_LossIdeal_LossReferenceIdeal (hLossIdeal := hLossIdeal) (hLossReferenceIdeal := hLossReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamKv_AdamKvIdeal
    ∧ algebraic_AdamKvIdeal_AdamKvReferenceIdeal (hAdamKvIdeal := hAdamKvIdeal) (hAdamKvReferenceIdeal := hAdamKvReferenceIdeal)
-- ==== On_attention_part.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1x16 : Shape := ⟨2, ![1, 16]⟩
abbrev S_ : Shape := ⟨0, ![]⟩
abbrev S128x8 : Shape := ⟨2, ![128, 8]⟩

class Facts : Prop where
  bcast_S_S8192x3328 : S_.BroadcastsInDim S8192x3328 (![] : Fin 0 → Fin S8192x3328.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S128x8 : S_.BroadcastsInDim S128x8 (![] : Fin 0 → Fin S128x8.rank)
  bcast_S_S1x16 : S_.BroadcastsInDim S1x16 (![] : Fin 0 → Fin S1x16.rank)

variable [Facts]

def fn {F : FTy → Type} [FloatOps F] (main_arg0 : FVec F S8192x3328 .f32) (main_arg1 : FVec F S8192x2048 .bf16) (main_arg2 : FVec F S1x1024 .f32) (main_arg3 : FVec F S8x128x128 .f32) (main_arg4 : FVec F S8x128 .f32) (main_arg5 : FVec F S1x16 .f32) (main_arg6 : FVec F S1x1024 .f32) (main_arg7 : FVec F S1x1024 .f32) : IVec S8192x3328 1 × IVec S1x1024 1 × IVec S8x128x128 1 × IVec S128x8 1 × IVec S1x16 1 × IVec S1x1024 1 × IVec S1x1024 1 :=
  let main_v0 : IVec S8192x3328 32 := iotaInDim S8192x3328 32 1
  let main_c : IVec S_ 32 := constantI S_ 32 2048#32
  let main_v1 : IVec S8192x3328 32 := broadcastInDim S8192x3328 ![] bcast_S_S8192x3328 main_c
  let main_v2 : IVec S8192x3328 1 := cmpi .sge main_v0 main_v1
  let main_c_0 : IVec S_ 1 := constantI S_ 1 0#1
  let main_v3 : IVec S1x1024 1 := broadcastInDim S1x1024 ![] bcast_S_S1x1024 main_c_0
  let main_c_1 : IVec S_ 1 := constantI S_ 1 0#1
  let main_v4 : IVec S8x128x128 1 := broadcastInDim S8x128x128 ![] bcast_S_S8x128x128 main_c_1
  let main_c_2 : IVec S_ 1 := constantI S_ 1 0#1
  let main_v5 : IVec S128x8 1 := broadcastInDim S128x8 ![] bcast_S_S128x8 main_c_2
  let main_c_3 : IVec S_ 1 := constantI S_ 1 1#1
  let main_v6 : IVec S1x16 1 := broadcastInDim S1x16 ![] bcast_S_S1x16 main_c_3
  let main_c_4 : IVec S_ 1 := constantI S_ 1 0#1
  let main_v7 : IVec S1x1024 1 := broadcastInDim S1x1024 ![] bcast_S_S1x1024 main_c_4
  let main_c_5 : IVec S_ 1 := constantI S_ 1 1#1
  let main_v8 : IVec S1x1024 1 := broadcastInDim S1x1024 ![] bcast_S_S1x1024 main_c_5
  (main_v2, main_v3, main_v4, main_v5, main_v6, main_v7, main_v8)
-- ==== Pre_finite_ffn.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn_part1 {F : FTy → Type} [FloatOps F] (main_v3 : IVec S8192x2048 1) (main_v7 : IVec S2048x5632 1) (main_v11 : IVec S2048x5632 1) (main_v15 : IVec S5632x2048 1) (main_v17 : FVec F S8192x2048 .f32) (main_v18 : FVec F S8192x2048 .f32) : IVec S8192x2048 1 × IVec S2048x5632 1 × IVec S2048x5632 1 × IVec S5632x2048 1 × IVec S8192x2048 1 :=
  let main_v19 : IVec S8192x2048 1 := cmpf .olt main_v17 main_v18
  (main_v3, main_v7, main_v11, main_v15, main_v19)

def fn {F : FTy → Type} [FloatOps F] (main_arg0 : FVec F S8192x2048 .bf16) (main_arg1 : FVec F S2048x5632 .bf16) (main_arg2 : FVec F S2048x5632 .bf16) (main_arg3 : FVec F S5632x2048 .bf16) (main_arg4 : FVec F S8192x2048 .bf16) : IVec S8192x2048 1 × IVec S2048x5632 1 × IVec S2048x5632 1 × IVec S5632x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x5632 .f32 := (extf .f32 · bitsLt_bf16_f32) main_arg1
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S2048x5632 .f32 := (extf .f32 · bitsLt_bf16_f32) main_arg2
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  let main_v12 : FVec F S5632x2048 .f32 := (extf .f32 · bitsLt_bf16_f32) main_arg3
  let main_v13 : FVec F S5632x2048 .f32 := Host.absf main_v12
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  let main_v16 : FVec F S8192x2048 .f32 := (extf .f32 · bitsLt_bf16_f32) main_arg4
  let main_v17 : FVec F S8192x2048 .f32 := Host.absf main_v16
  let main_cst_3 : FVec F S_ .f32 := constant S_ .f32 0x7F800000#32
  let main_v18 : FVec F S8192x2048 .f32 := broadcastInDim S8192x2048 ![] bcast_S_S8192x2048 main_cst_3
  fn_part1 (F := F) main_v3 main_v7 main_v11 main_v15 main_v17 main_v18
-- ==== Pre_finite_scores.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1x16 : Shape := ⟨2, ![1, 16]⟩
abbrev S8192x1152 : Shape := ⟨2, ![8192, 1152]⟩
abbrev S_ : Shape := ⟨0, ![]⟩

class Facts : Prop where
  slices_S8192x3328_S8192x1152_0_2048 : S8192x3328.Slices ![0, 2048] S8192x1152
  bcast_S_S8192x1152 : S_.BroadcastsInDim S8192x1152 (![] : Fin 0 → Fin S8192x1152.rank)
  bcast_S_S1x16 : S_.BroadcastsInDim S1x16 (![] : Fin 0 → Fin S1x16.rank)

variable [Facts]

def fn {F : FTy → Type} [FloatOps F] (main_arg0 : FVec F S8192x3328 .f32) (main_arg1 : FVec F S8192x2048 .bf16) (main_arg2 : FVec F S1x1024 .f32) (main_arg3 : FVec F S8x128x128 .f32) (main_arg4 : FVec F S8x128 .f32) (main_arg5 : FVec F S1x16 .f32) (main_arg6 : FVec F S1x1024 .f32) (main_arg7 : FVec F S1x1024 .f32) : IVec S8192x1152 1 × IVec S1x16 1 :=
  let main_v0 : FVec F S8192x1152 .f32 := (extractStridedSlice S8192x1152 ![0, 2048] · slices_S8192x3328_S8192x1152_0_2048) main_arg0
  let main_v1 : FVec F S8192x1152 .f32 := Host.absf main_v0
  let main_cst : FVec F S_ .f32 := constant S_ .f32 0x7F800000#32
  let main_v2 : FVec F S8192x1152 .f32 := broadcastInDim S8192x1152 ![] bcast_S_S8192x1152 main_cst
  let main_v3 : IVec S8192x1152 1 := cmpf .olt main_v1 main_v2
  let main_v4 : FVec F S1x16 .f32 := Host.absf main_arg5
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  (main_v3, main_v6)
-- ==== Pre_finite_xattn.lean ====
abbrev S8192x2048 : Shape := ⟨2, ![8192, 2048]⟩
abbrev S256x4096 : Shape := ⟨2, ![256, 4096]⟩
abbrev S_ : Shape := ⟨0, ![]⟩
abbrev S256x2048 : Shape := ⟨2, ![256, 2048]⟩

class Facts : Prop where
  bitsLt_bf16_f32 : FTy.bits .bf16 < FTy.bits .f32
  bcast_S_S8192x2048 : S_.BroadcastsInDim S8192x2048 (![] : Fin 0 → Fin S8192x2048.rank)
  slices_S256x4096_S256x2048_0_0 : S256x4096.Slices ![0, 0] S256x2048
  bcast_S_S256x2048 : S_.BroadcastsInDim S256x2048 (![] : Fin 0 → Fin S256x2048.rank)

variable [Facts]

def fn {F : FTy → Type} [FloatOps F] (main_arg0 : FVec F S8192x2048 .bf16) (main_arg1 : FVec F S256x4096 .f32) (main_arg2 : FVec F S8192x2048 .bf16) : IVec S8192x2048 1 × IVec S256x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S256x2048 .f32 := (extractStridedSlice S256x2048 ![0, 0] · slices_S256x4096_S256x2048_0_0) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Kernel.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1x16 : Shape := ⟨2, ![1, 16]⟩
abbrev S8192x1024 : Shape := ⟨2, ![8192, 1024]⟩
abbrev S8192x128 : Shape := ⟨2, ![8192, 128]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x256x8x128 : Shape := ⟨5, ![64, 2, 256, 8, 128]⟩
abbrev S64x2x256x1024 : Shape := ⟨4, ![64, 2, 256, 1024]⟩
abbrev S128x8 : Shape := ⟨2, ![128, 8]⟩
abbrev S128x3328 : Shape := ⟨2, ![128, 3328]⟩
abbrev S128x2048 : Shape := ⟨2, ![128, 2048]⟩
abbrev S1x2x256x1024 : Shape := ⟨4, ![1, 2, 256, 1024]⟩
abbrev S128x128 : Shape := ⟨2, ![128, 128]⟩
abbrev S1x128x128 : Shape := ⟨3, ![1, 128, 128]⟩
abbrev S128x1024 : Shape := ⟨2, ![128, 1024]⟩
abbrev S1024 : Shape := ⟨1, ![1024]⟩
abbrev S256x128 : Shape := ⟨2, ![256, 128]⟩
abbrev S1x1x256x1024 : Shape := ⟨4, ![1, 1, 256, 1024]⟩
abbrev S256x1024 : Shape := ⟨2, ![256, 1024]⟩
abbrev S1024x128 : Shape := ⟨2, ![1024, 128]⟩
abbrev S1x1 : Shape := ⟨2, ![1, 1]⟩
abbrev S1x128 : Shape := ⟨2, ![1, 128]⟩
abbrev S1 : Shape := ⟨1, ![1]⟩

abbrev nBuf : Space → Nat
  | .hbm => 91
  | .vmem => 22
  | .smem => 0
  | _ => 0

abbrev bufTy : (tb : Table) → Fin (tcTables nBuf tb) → BufTy
  | .hbm, ⟨0, _⟩ => ⟨S8192x3328, .f32⟩
  | .hbm, ⟨1, _⟩ => ⟨S8192x2048, .bf16⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S1x16, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x128, .f32⟩
  | .hbm, ⟨10, _⟩ => ⟨S64x128x2x8x64, .f32⟩
  | .hbm, ⟨11, _⟩ => ⟨S64x128x2x64, .f32⟩
  | .hbm, ⟨12, _⟩ => ⟨S1x128x2x64, .f32⟩
  | .hbm, ⟨13, _⟩ => ⟨S_, .f32⟩
  | .hbm, ⟨14, _⟩ => ⟨S1x128x2x64, .f32⟩
  | .hbm, ⟨15, _⟩ => ⟨S63x128x2x64, .f32⟩
  | .hbm, ⟨16, _⟩ => ⟨S64x128x2x64, .f32⟩
  | .hbm, ⟨17, _⟩ => ⟨S64x256x2x64, .f32⟩
  | .hbm, ⟨18, _⟩ => ⟨S64x2x256x128x8, .f32⟩
  | .hbm, ⟨19, _⟩ => ⟨S64x2x8x128x256, .f32⟩
  | .hbm, ⟨20, _⟩ => ⟨S_, .f32⟩
  | .hbm, ⟨21, _⟩ => ⟨S64x2x8x128x256, .f32⟩
  | .hbm, ⟨22, _⟩ => ⟨S64x2x8x128x256, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S64, .i32⟩
  | .hbm, ⟨41, _⟩ => ⟨S64x1x1, .i32⟩
  | .hbm, ⟨42, _⟩ => ⟨S_, .i32⟩
  | .hbm, ⟨43, _⟩ => ⟨S64x1x1, .i32⟩
  | .hbm, ⟨44, _⟩ => ⟨S64x1x1, .i1⟩
  | .hbm, ⟨45, _⟩ => ⟨S1x1x256, .i32⟩
  | .hbm, ⟨46, _⟩ => ⟨S_, .i32⟩
  | .hbm, ⟨47, _⟩ => ⟨S1x1x256, .i32⟩
  | .hbm, ⟨48, _⟩ => ⟨S1x1x256, .i1⟩
  | .hbm, ⟨49, _⟩ => ⟨S64x1x256, .i1⟩
  | .hbm, ⟨50, _⟩ => ⟨S64x1x256, .i1⟩
  | .hbm, ⟨51, _⟩ => ⟨S64x1x256, .i1⟩
  | .hbm, ⟨52, _⟩ => ⟨S1x128x256, .i1⟩
  | .hbm, ⟨53, _⟩ => ⟨S64x1x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S64x1x1x128x256, .i1⟩
  | .hbm, ⟨58, _⟩ => ⟨S_, .f32⟩
  | .hbm, ⟨59, _⟩ => ⟨S_, .f32⟩
  | .hbm, ⟨60, _⟩ => ⟨S64x2x8x128x256, .i1⟩
  | .hbm, ⟨61, _⟩ => ⟨S64x2x8x128x256, .f32⟩
  | .hbm, ⟨62, _⟩ => ⟨S64x2x8x128x256, .f32⟩
  | .hbm, ⟨63, _⟩ => ⟨S1x2x8x1x1, .f32⟩
  | .hbm, ⟨64, _⟩ => ⟨S64x2x8x128x1, .f32⟩
  | .hbm, ⟨65, _⟩ => ⟨S64x2x8x128x257, .f32⟩
  | .hbm, ⟨66, _⟩ => ⟨S_, .f32⟩
  | .hbm, ⟨67, _⟩ => ⟨S64x2x8x128, .f32⟩
  | .hbm, ⟨68, _⟩ => ⟨S_, .f32⟩
  | .hbm, ⟨69, _⟩ => ⟨S64x2x8x128, .f32⟩
  | .hbm, ⟨70, _⟩ => ⟨S64x2x8x128, .f32⟩
  | .hbm, ⟨71, _⟩ => ⟨S64x2x8x128x1, .f32⟩
  | .hbm, ⟨72, _⟩ => ⟨S64x2x8x128x257, .f32⟩
  | .hbm, ⟨73, _⟩ => ⟨S64x2x8x128x257, .f32⟩
  | .hbm, ⟨74, _⟩ => ⟨S64x2x8x128x257, .f32⟩
  | .hbm, ⟨75, _⟩ => ⟨S_, .f32⟩
  | .hbm, ⟨76, _⟩ => ⟨S64x2x8x128, .f32⟩
  | .hbm, ⟨77, _⟩ => ⟨S64x2x8x128x1, .f32⟩
  | .hbm, ⟨78, _⟩ => ⟨S64x2x8x128x257, .f32⟩
  | .hbm, ⟨79, _⟩ => ⟨S64x2x8x128x257, .f32⟩
  | .hbm, ⟨80, _⟩ => ⟨S64x2x8x128x256, .f32⟩
  | .hbm, ⟨81, _⟩ => ⟨S64x2x256x8x128, .f32⟩
  | .hbm, ⟨82, _⟩ => ⟨S64x2x256x1024, .f32⟩
  | .hbm, ⟨83, _⟩ => ⟨S128x8, .f32⟩
  | .hbm, ⟨84, _⟩ => ⟨S8192x3328, .bf16⟩
  | .hbm, ⟨85, _⟩ => ⟨S1x1024, .f32⟩
  | .hbm, ⟨86, _⟩ => ⟨S8x128x128, .f32⟩
  | .hbm, ⟨87, _⟩ => ⟨S128x8, .f32⟩
  | .hbm, ⟨88, _⟩ => ⟨S1x16, .f32⟩
  | .hbm, ⟨89, _⟩ => ⟨S1x1024, .f32⟩
  | .hbm, ⟨90, _⟩ => ⟨S1x1024, .f32⟩
  | .local _ .vmem, ⟨0, _⟩ => ⟨S128x3328, .f32⟩
  | .local _ .vmem, ⟨1, _⟩ => ⟨S128x3328, .f32⟩
  | .local _ .vmem, ⟨2, _⟩ => ⟨S128x256, .f32⟩
  | .local _ .vmem, ⟨3, _⟩ => ⟨S128x256, .f32⟩
  | .local _ .vmem, ⟨4, _⟩ => ⟨S128x2048, .bf16⟩
  | .local _ .vmem, ⟨5, _⟩ => ⟨S128x2048, .bf16⟩
  | .local _ .vmem, ⟨6, _⟩ => ⟨S1x2x256x1024, .f32⟩
  | .local _ .vmem, ⟨7, _⟩ => ⟨S1x2x256x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S1x1024, .f32⟩
  | .local _ .vmem, ⟨12, _⟩ => ⟨S1x1024, .f32⟩
  | .local _ .vmem, ⟨13, _⟩ => ⟨S128x3328, .bf16⟩
  | .local _ .vmem, ⟨14, _⟩ => ⟨S128x3328, .bf16⟩
  | .local _ .vmem, ⟨15, _⟩ => ⟨S1x1024, .f32⟩
  | .local _ .vmem, ⟨16, _⟩ => ⟨S8x128x128, .f32⟩
  | .local _ .vmem, ⟨17, _⟩ => ⟨S128x8, .f32⟩
  | .local _ .vmem, ⟨18, _⟩ => ⟨S1x16, .f32⟩
  | .local _ .vmem, ⟨19, _⟩ => ⟨S1x1024, .f32⟩
  | .local _ .vmem, ⟨20, _⟩ => ⟨S1x1024, .f32⟩
  | .local _ .vmem, ⟨21, _⟩ => ⟨S128x256, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v62_2 : Ref sig .tc := ⟨.hbm, 86, rfl⟩
abbrev main_v62_3 : Ref sig .tc := ⟨.hbm, 87, rfl⟩
abbrev main_v62_4 : Ref sig .tc := ⟨.hbm, 88, rfl⟩
abbrev main_v62_5 : Ref sig .tc := ⟨.hbm, 89, rfl⟩
abbrev main_v62_6 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![v2.toNat, c12_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3328 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x3328 : Shape := ⟨2, ![8192, 3328]⟩
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1x16 : Shape := ⟨2, ![1, 16]⟩
abbrev S8192x1024 : Shape := ⟨2, ![8192, 1024]⟩
abbrev S8192x128 : Shape := ⟨2, ![8192, 128]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x2x8x1x1 : Shape := ⟨5, ![1, 2, 8, 1, 1]⟩
abbrev S64x2x8x128x1 : Shape := ⟨5, ![64, 2, 8, 128, 1]⟩
abbrev S64x2x8x128x257 : Shape := ⟨5, ![64, 2, 8, 128, 257]⟩
abbrev S64x2x8x128 : Shape := ⟨4, ![64, 2, 8, 128]⟩
abbrev S64x2x64x8x128 : Shape := ⟨5, ![64, 2, 64, 8, 128]⟩
abbrev S8192 : Shape := ⟨1, ![8192]⟩
abbrev S8192x1 : Shape := ⟨2, ![8192, 1]⟩
abbrev S1024 : Shape := ⟨1, ![1024]⟩
abbrev S64x2x64x256 : Shape := ⟨4, ![64, 2, 64, 256]⟩
abbrev S2x8 : Shape := ⟨2, ![2, 8]⟩
abbrev S64x2x128x8x64 : Shape := ⟨5, ![64, 2, 128, 8, 64]⟩
abbrev S64x2x256x64 : Shape := ⟨4, ![64, 2, 256, 64]⟩
abbrev S128x8 : Shape := ⟨2, ![128, 8]⟩

abbrev nBuf : Space → Nat
  | .hbm => 238
  | .vmem => 0
  | .smem => 0
  | _ => 0

abbrev hbmTy0_0 (i : Nat) : BufTy := match i % 128 with
  | 0 => ⟨S8192x3328, .f32⟩
  | 1 => ⟨S8192x2048, .bf16⟩
  | 2 => ⟨S1x1024, .f32⟩
  | 3 => ⟨S8x128x128, .f32⟩
  | 4 => ⟨S8x128, .f32⟩
  | 5 => ⟨S1x16, .f32⟩
  | 6 => ⟨S1x1024, .f32⟩
  | 7 => ⟨S1x1024, .f32⟩
  | 8 => ⟨S8192x1024, .f32⟩
  | 9 => ⟨S8192x128, .f32⟩
  | 10 => ⟨S8192x128, .f32⟩
  | 11 => ⟨S64x128x2x8x64, .f32⟩
  | 12 => ⟨S64x128x2x64, .f32⟩
  | 13 => ⟨S1x128x2x64, .f32⟩
  | 14 => ⟨S_, .f32⟩
  | 15 => ⟨S1x128x2x64, .f32⟩
  | 16 => ⟨S63x128x2x64, .f32⟩
  | 17 => ⟨S64x128x2x64, .f32⟩
  | 18 => ⟨S_, .f32⟩
  | 19 => ⟨S1x128x2x64, .f32⟩
  | 20 => ⟨S64x256x2x64, .f32⟩
  | 21 => ⟨S64x2x256x128x8, .f32⟩
  | 22 => ⟨S64x2x8x128x256, .f32⟩
  | 23 => ⟨S_, .f32⟩
  | 24 => ⟨S64x2x8x128x256, .f32⟩
  | 25 => ⟨S64x2x8x128x256, .f32⟩
  | 26 => ⟨S128, .i32⟩
  | 27 => ⟨S128x1, .i32⟩
  | 28 => ⟨S_, .i32⟩
  | 29 => ⟨S128x1, .i32⟩
  | 30 => ⟨S128x1, .i32⟩
  | 31 => ⟨S256, .i32⟩
  | 32 => ⟨S1x256, .i32⟩
  | 33 => ⟨S128x256, .i32⟩
  | 34 => ⟨S128x256, .i32⟩
  | 35 => ⟨S128x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S64, .i32⟩
  | 44 => ⟨S64x1x1, .i32⟩
  | 45 => ⟨S_, .i32⟩
  | 46 => ⟨S64x1x1, .i32⟩
  | 47 => ⟨S64x1x1, .i1⟩
  | 48 => ⟨S1x1x256, .i32⟩
  | 49 => ⟨S_, .i32⟩
  | 50 => ⟨S1x1x256, .i32⟩
  | 51 => ⟨S1x1x256, .i1⟩
  | 52 => ⟨S64x1x256, .i1⟩
  | 53 => ⟨S64x1x256, .i1⟩
  | 54 => ⟨S64x1x256, .i1⟩
  | 55 => ⟨S1x128x256, .i1⟩
  | 56 => ⟨S64x1x256, .i1⟩
  | 57 => ⟨S64x128x256, .i1⟩
  | 58 => ⟨S64x128x256, .i1⟩
  | 59 => ⟨S64x128x256, .i1⟩
  | 60 => ⟨S64x1x1x128x256, .i1⟩
  | 61 => ⟨S_, .f32⟩
  | 62 => ⟨S_, .f32⟩
  | 63 => ⟨S64x2x8x128x256, .i1⟩
  | 64 => ⟨S64x2x8x128x256, .f32⟩
  | 65 => ⟨S64x2x8x128x256, .f32⟩
  | 66 => ⟨S_, .f32⟩
  | 67 => ⟨S64x2x8x128x256, .f32⟩
  | 68 => ⟨S1x2x8x1x1, .f32⟩
  | 69 => ⟨S64x2x8x128x1, .f32⟩
  | 70 => ⟨S64x2x8x128x257, .f32⟩
  | 71 => ⟨S_, .f32⟩
  | 72 => ⟨S64x2x8x128, .f32⟩
  | 73 => ⟨S64x2x8x128x1, .f32⟩
  | 74 => ⟨S64x2x8x128x257, .f32⟩
  | 75 => ⟨S64x2x8x128x257, .i1⟩
  | 76 => ⟨S64x2x8x128x257, .f32⟩
  | 77 => ⟨S_, .f32⟩
  | 78 => ⟨S64x2x8x128, .f32⟩
  | 79 => ⟨S_, .f32⟩
  | 80 => ⟨S64x2x8x128, .f32⟩
  | 81 => ⟨S64x2x8x128, .f32⟩
  | 82 => ⟨S_, .f32⟩
  | 83 => ⟨S64x2x8x128, .f32⟩
  | 84 => ⟨S64x2x8x128, .i1⟩
  | 85 => ⟨S_, .f32⟩
  | 86 => ⟨S64x2x8x128, .f32⟩
  | 87 => ⟨S64x2x8x128, .i1⟩
  | 88 => ⟨S_, .f32⟩
  | 89 => ⟨S64x2x8x128, .f32⟩
  | 90 => ⟨S_, .f32⟩
  | 91 => ⟨S64x2x8x128, .f32⟩
  | 92 => ⟨S_, .f32⟩
  | 93 => ⟨S64x2x8x128, .f32⟩
  | 94 => ⟨S64x2x8x128, .f32⟩
  | 95 => ⟨S64x2x8x128, .f32⟩
  | 96 => ⟨S64x2x8x128x1, .f32⟩
  | 97 => ⟨S64x2x8x128x257, .f32⟩
  | 98 => ⟨S64x2x8x128x257, .f32⟩
  | 99 => ⟨S64x2x8x128x257, .f32⟩
  | 100 => ⟨S_, .f32⟩
  | 101 => ⟨S64x2x8x128, .f32⟩
  | 102 => ⟨S64x2x8x128x1, .f32⟩
  | 103 => ⟨S64x2x8x128x257, .f32⟩
  | 104 => ⟨S64x2x8x128x257, .f32⟩
  | 105 => ⟨S64x2x8x128x1, .f32⟩
  | 106 => ⟨S_, .f32⟩
  | 107 => ⟨S64x2x8x128x1, .f32⟩
  | 108 => ⟨S64x2x8x128x1, .f32⟩
  | 109 => ⟨S64x2x8x128x256, .f32⟩
  | 110 => ⟨S64x128x2x64, .f32⟩
  | 111 => ⟨S1x128x2x64, .f32⟩
  | 112 => ⟨S_, .f32⟩
  | 113 => ⟨S1x128x2x64, .f32⟩
  | 114 => ⟨S63x128x2x64, .f32⟩
  | 115 => ⟨S64x128x2x64, .f32⟩
  | 116 => ⟨S_, .f32⟩
  | 117 => ⟨S1x128x2x64, .f32⟩
  | 118 => ⟨S64x256x2x64, .f32⟩
  | 119 => ⟨S64x2x64x8x128, .f32⟩
  | 120 => ⟨S64x128x2x8x64, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x3328, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S8192x1024, .f32⟩
  | 10 => ⟨S8192x1024, .f32⟩
  | 11 => ⟨S8192x1024, .f32⟩
  | 12 => ⟨S8192x1024, .f32⟩
  | 13 => ⟨S8192x1024, .bf16⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1024, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S64x128x2x8x64, .f32⟩
  | 39 => ⟨S64x2x64x8x128, .f32⟩
  | 40 => ⟨S64x2x8x128x256, .f32⟩
  | 41 => ⟨S64x2x64x256, .f32⟩
  | 42 => ⟨S64x256x2x64, .f32⟩
  | 43 => ⟨S64x128x2x64, .f32⟩
  | 44 => ⟨S64x128x2x64, .f32⟩
  | 45 => ⟨S1x128x2x64, .f32⟩
  | 46 => ⟨S63x128x2x64, .f32⟩
  | 47 => ⟨S_, .f32⟩
  | 48 => ⟨S64x128x2x64, .f32⟩
  | 49 => ⟨S64x128x2x64, .f32⟩
  | 50 => ⟨S8192x128, .f32⟩
  | 51 => ⟨S_, .f32⟩
  | 52 => ⟨S64x2x8x128x257, .f32⟩
  | 53 => ⟨S64x2x8x128x257, .f32⟩
  | 54 => ⟨S64x2x8x128x257, .f32⟩
  | 55 => ⟨S64x2x8x128x257, .f32⟩
  | 56 => ⟨S_, .f32⟩
  | 57 => ⟨S64x2x8x128, .f32⟩
  | 58 => ⟨S64x2x8x128x1, .f32⟩
  | 59 => ⟨S64x2x8x128x1, .f32⟩
  | 60 => ⟨S64x2x8x128x257, .f32⟩
  | 61 => ⟨S64x2x8x128x257, .f32⟩
  | 62 => ⟨S_, .f32⟩
  | 63 => ⟨S64x2x8x128, .f32⟩
  | 64 => ⟨S64x2x8x128x257, .f32⟩
  | 65 => ⟨S64x2x8x128x257, .f32⟩
  | 66 => ⟨S64x2x8x128x257, .f32⟩
  | 67 => ⟨S64x2x8x128x256, .f32⟩
  | 68 => ⟨S64x2x8x128x1, .f32⟩
  | 69 => ⟨S_, .f32⟩
  | 70 => ⟨S2x8, .f32⟩
  | 71 => ⟨S1x2x8x1x1, .f32⟩
  | 72 => ⟨S1x16, .f32⟩
  | 73 => ⟨S_, .f32⟩
  | 74 => ⟨S64x2x8x128x256, .f32⟩
  | 75 => ⟨S64x2x8x128x256, .f32⟩
  | 76 => ⟨S_, .f32⟩
  | 77 => ⟨S64x2x8x128x256, .f32⟩
  | 78 => ⟨S64x2x8x128x256, .f32⟩
  | 79 => ⟨S64x2x256x128x8, .f32⟩
  | 80 => ⟨S64x2x128x8x64, .f32⟩
  | 81 => ⟨S64x128x2x8x64, .f32⟩
  | 82 => ⟨S64x2x256x64, .f32⟩
  | 83 => ⟨S64x256x2x64, .f32⟩
  | 84 => ⟨S64x128x2x64, .f32⟩
  | 85 => ⟨S64x128x2x64, .f32⟩
  | 86 => ⟨S1x128x2x64, .f32⟩
  | 87 => ⟨S63x128x2x64, .f32⟩
  | 88 => ⟨S_, .f32⟩
  | 89 => ⟨S64x128x2x64, .f32⟩
  | 90 => ⟨S64x128x2x64, .f32⟩
  | 91 => ⟨S8192x128, .f32⟩
  | 92 => ⟨S8192x1024, .f32⟩
  | 93 => ⟨S_, .f32⟩
  | 94 => ⟨S8192x3328, .f32⟩
  | 95 => ⟨S_, .f32⟩
  | 96 => ⟨S8192x3328, .f32⟩
  | 97 => ⟨S8192x3328, .f32⟩
  | 98 => ⟨S_, .f32⟩
  | 99 => ⟨S8192x3328, .f32⟩
  | 100 => ⟨S8192x3328, .f32⟩
  | 101 => ⟨S8192x3328, .bf16⟩
  | 102 => ⟨S_, .f32⟩
  | 103 => ⟨S1x1024, .f32⟩
  | 104 => ⟨S_, .f32⟩
  | 105 => ⟨S8x128x128, .f32⟩
  | 106 => ⟨S_, .f32⟩
  | 107 => ⟨S128x8, .f32⟩
  | 108 => ⟨S_, .f32⟩
  | 109 => ⟨S1x1024, .f32⟩
  | _ => ⟨S8192x3328, .f32⟩

abbrev hbmTy (i : Nat) : BufTy := match i / 128 with
  | 0 => hbmTy0_0 i
  | 1 => hbmTy0_1 i
  | _ => ⟨S8192x3328, .f32⟩

abbrev bufTy : (tb : Table) → Fin (tcTables nBuf tb) → BufTy
  | .hbm, ⟨i, _⟩ => hbmTy i
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call0_v0 : Ref sig .tc := ⟨.hbm, 62, rfl⟩
abbrev main_v45_1 : Ref sig .tc := ⟨.hbm, 63, rfl⟩
abbrev main_call0_v2 : Ref sig .tc := ⟨.hbm, 64, rfl⟩
abbrev main_v45_0 : Ref sig .tc := ⟨.hbm, 65, rfl⟩
abbrev main_call0_cst : Ref sig .tc := ⟨.hbm, 66, rfl⟩
abbrev main_v45_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_25 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_27 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_28 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_29 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_30 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_31 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_call1_cst : Ref sig .tc := ⟨.hbm, 201, rfl⟩
abbrev main_call1_v0 : Ref sig .tc := ⟨.hbm, 202, rfl⟩
abbrev main_v154 : Ref sig .tc := ⟨.hbm, 203, rfl⟩
abbrev main_cst_32 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_cst_33 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_34 : Ref sig .tc := ⟨.hbm, 221, rfl⟩
abbrev main_v170 : Ref sig .tc := ⟨.hbm, 222, rfl⟩
abbrev main_cst_35 : Ref sig .tc := ⟨.hbm, 223, rfl⟩
abbrev main_v171 : Ref sig .tc := ⟨.hbm, 224, rfl⟩
abbrev main_v172 : Ref sig .tc := ⟨.hbm, 225, rfl⟩
abbrev main_cst_36 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_37 : Ref sig .tc := ⟨.hbm, 230, rfl⟩
abbrev main_v176 : Ref sig .tc := ⟨.hbm, 231, rfl⟩
abbrev main_cst_38 : Ref sig .tc := ⟨.hbm, 232, rfl⟩
abbrev main_v177 : Ref sig .tc := ⟨.hbm, 233, rfl⟩
abbrev main_cst_39 : Ref sig .tc := ⟨.hbm, 234, rfl⟩
abbrev main_v178 : Ref sig .tc := ⟨.hbm, 235, rfl⟩
abbrev main_cst_40 : Ref sig .tc := ⟨.hbm, 236, rfl⟩
abbrev main_v179 : Ref sig .tc := ⟨.hbm, 237, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩
abbrev S1408x2048 : Shape := ⟨2, ![1408, 2048]⟩
abbrev S1024x1408 : Shape := ⟨2, ![1024, 1408]⟩
abbrev S8192x512 : Shape := ⟨2, ![8192, 512]⟩
abbrev S512x512 : Shape := ⟨2, ![512, 512]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .hbm, ⟨10, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S1408x2048, .bf16⟩
  | .local _ .vmem, ⟨15, _⟩ => ⟨S1408x2048, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | .local _ .vmem, ⟨24, _⟩ => ⟨S8192x512, .bf16⟩
  | .local _ .vmem, ⟨25, _⟩ => ⟨S8192x512, .bf16⟩
  | .local _ .vmem, ⟨26, _⟩ => ⟨S8192x512, .bf16⟩
  | .local _ .vmem, ⟨27, _⟩ => ⟨S8192x512, .bf16⟩
  | .local _ .vmem, ⟨28, _⟩ => ⟨S512x512, .bf16⟩
  | .local _ .vmem, ⟨29, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![11, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S8192x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S8192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== FfnReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S8192x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S2048x5632, .f32⟩
  | .hbm, ⟨34, _⟩ => ⟨S5632x2048, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .bf16⟩
  | .hbm, ⟨43, _⟩ => ⟨S8192x5632, .bf16⟩
  | .hbm, ⟨44, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Dw.lean ====
abbrev S8192x2048 : Shape := ⟨2, ![8192, 2048]⟩
abbrev S8192x5632 : Shape := ⟨2, ![8192, 5632]⟩
abbrev S4x2048x1408 : Shape := ⟨3, ![4, 2048, 1408]⟩
abbrev S2048x512 : Shape := ⟨2, ![2048, 512]⟩
abbrev S2048x2816 : Shape := ⟨2, ![2048, 2816]⟩
abbrev S2x512x1408 : Shape := ⟨3, ![2, 512, 1408]⟩
abbrev S512x2816 : Shape := ⟨2, ![512, 2816]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dn.lean ====
abbrev S8192x5632 : Shape := ⟨2, ![8192, 5632]⟩
abbrev S2048x5632 : Shape := ⟨2, ![2048, 5632]⟩
abbrev S8192x2048 : Shape := ⟨2, ![8192, 2048]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S1024x2816, .bf16⟩
  | .local _ .vmem, ⟨7, _⟩ => ⟨S1024x2816, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32_11 : BitVec 32 := 1#32
  let v15 : BitVec 1 := Scalar.cmpi .eq arg2 c1_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DnReferenceIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x5632, .f32⟩
  | .hbm, ⟨5, _⟩ => ⟨S2048x5632, .f32⟩
  | .hbm, ⟨6, _⟩ => ⟨S8192x5632, .f32⟩
  | .hbm, ⟨7, _⟩ => ⟨S2048x5632, .f32⟩
  | .hbm, ⟨8, _⟩ => ⟨S_, .f32⟩
  | .hbm, ⟨9, _⟩ => ⟨S8192x2048, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Xattn.lean ====
abbrev S8192x2048 : Shape := ⟨2, ![8192, 2048]⟩
abbrev S256x4096 : Shape := ⟨2, ![256, 4096]⟩
abbrev S1024x8192 : Shape := ⟨2, ![1024, 8192]⟩
abbrev S512x2048 : Shape := ⟨2, ![512, 2048]⟩
abbrev S1024x512 : Shape := ⟨2, ![1024, 512]⟩
abbrev S256x512 : Shape := ⟨2, ![256, 512]⟩
abbrev S512x512 : Shape := ⟨2, ![512, 512]⟩
abbrev S512 : Shape := ⟨1, ![512]⟩
abbrev S1x512 : Shape := ⟨2, ![1, 512]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S256x4096, .f32⟩
  | .hbm, ⟨2, _⟩ => ⟨S8192x2048, .bf16⟩
  | .hbm, ⟨3, _⟩ => ⟨S8192x2048, .bf16⟩
  | .hbm, ⟨4, _⟩ => ⟨S1024x8192, .f32⟩
  | .hbm, ⟨5, _⟩ => ⟨S8192x2048, .bf16⟩
  | .hbm, ⟨6, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x4096, .f32⟩
  | .local _ .vmem, ⟨3, _⟩ => ⟨S512x2048, .bf16⟩
  | .local _ .vmem, ⟨4, _⟩ => ⟨S512x2048, .bf16⟩
  | .local _ .vmem, ⟨5, _⟩ => ⟨S1024x512, .f32⟩
  | .local _ .vmem, ⟨6, _⟩ => ⟨S1024x512, .f32⟩
  | .local _ .vmem, ⟨7, _⟩ => ⟨S512x2048, .bf16⟩
  | .local _ .vmem, ⟨8, _⟩ => ⟨S512x2048, .bf16⟩
  | .local _ .vmem, ⟨9, _⟩ => ⟨S256x4096, .f32⟩
  | .local _ .vmem, ⟨10, _⟩ => ⟨S1024x512, .f32⟩
  | .local _ .vmem, ⟨11, _⟩ => ⟨S1024x512, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S256x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== XattnReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .f32⟩
  | .hbm, ⟨2, _⟩ => ⟨S8192x2048, .bf16⟩
  | .hbm, ⟨3, _⟩ => ⟨S8192x2048, .f32⟩
  | .hbm, ⟨4, _⟩ => ⟨S8192x4x512, .f32⟩
  | .hbm, ⟨5, _⟩ => ⟨S256x2048, .f32⟩
  | .hbm, ⟨6, _⟩ => ⟨S256x4x512, .f32⟩
  | .hbm, ⟨7, _⟩ => ⟨S256x2048, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x512x8192, .f32⟩
  | .hbm, ⟨52, _⟩ => ⟨S8192x4x512, .f32⟩
  | .hbm, ⟨53, _⟩ => ⟨S8192x2048, .f32⟩
  | .hbm, ⟨54, _⟩ => ⟨S8192x2048, .f32⟩
  | .hbm, ⟨55, _⟩ => ⟨S8192x4x512, .f32⟩
  | .hbm, ⟨56, _⟩ => ⟨S4x512x8192, .f32⟩
  | .hbm, ⟨57, _⟩ => ⟨S4x8192x256, .f32⟩
  | .hbm, ⟨58, _⟩ => ⟨S4x512x256, .f32⟩
  | .hbm, ⟨59, _⟩ => ⟨S256x4x512, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x512, .f32⟩
  | .hbm, ⟨78, _⟩ => ⟨S256x4x512, .f32⟩
  | .hbm, ⟨79, _⟩ => ⟨S4x8192x512, .f32⟩
  | .hbm, ⟨80, _⟩ => ⟨S8192x4x512, .f32⟩
  | .hbm, ⟨81, _⟩ => ⟨S256x2048, .f32⟩
  | .hbm, ⟨82, _⟩ => ⟨S_, .f32⟩
  | .hbm, ⟨83, _⟩ => ⟨S256x4096, .f32⟩
  | .hbm, ⟨84, _⟩ => ⟨S256x2048, .f32⟩
  | .hbm, ⟨85, _⟩ => ⟨S_, .f32⟩
  | .hbm, ⟨86, _⟩ => ⟨S256x4096, .f32⟩
  | .hbm, ⟨87, _⟩ => ⟨S256x4096, .f32⟩
  | .hbm, ⟨88, _⟩ => ⟨S8192x2048, .f32⟩
  | .hbm, ⟨89, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Dx.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dyn.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DynReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dz.lean ====
abbrev S8192x3328 : Shape := ⟨2, ![8192, 3328]⟩
abbrev S2048x3328 : Shape := ⟨2, ![2048, 3328]⟩
abbrev S8192x2048 : Shape := ⟨2, ![8192, 2048]⟩
abbrev S512x3328 : Shape := ⟨2, ![512, 3328]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x3328, .bf16⟩
  | .hbm, ⟨1, _⟩ => ⟨S2048x3328, .bf16⟩
  | .hbm, ⟨2, _⟩ => ⟨S8192x2048, .bf16⟩
  | .local _ .vmem, ⟨0, _⟩ => ⟨S512x3328, .bf16⟩
  | .local _ .vmem, ⟨1, _⟩ => ⟨S512x3328, .bf16⟩
  | .local _ .vmem, ⟨2, _⟩ => ⟨S2048x3328, .bf16⟩
  | .local _ .vmem, ⟨3, _⟩ => ⟨S512x2048, .bf16⟩
  | .local _ .vmem, ⟨4, _⟩ => ⟨S512x2048, .bf16⟩
  | _, _ => ⟨S8192x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzReferenceIdeal.lean ====
abbrev S8192x3328 : Shape := ⟨2, ![8192, 3328]⟩
abbrev S2048x3328 : Shape := ⟨2, ![2048, 3328]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x3328, .bf16⟩
  | .hbm, ⟨1, _⟩ => ⟨S2048x3328, .bf16⟩
  | .hbm, ⟨2, _⟩ => ⟨S8192x3328, .f32⟩
  | .hbm, ⟨3, _⟩ => ⟨S2048x3328, .f32⟩
  | .hbm, ⟨4, _⟩ => ⟨S_, .f32⟩
  | .hbm, ⟨5, _⟩ => ⟨S8192x2048, .f32⟩
  | .hbm, ⟨6, _⟩ => ⟨S8192x3328, .f32⟩
  | .hbm, ⟨7, _⟩ => ⟨S8192x2048, .f32⟩
  | .hbm, ⟨8, _⟩ => ⟨S8192x2048, .bf16⟩
  | _, _ => ⟨S8192x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwx.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwin.lean ====
abbrev S8192x2048 : Shape := ⟨2, ![8192, 2048]⟩
abbrev S8192x3328 : Shape := ⟨2, ![8192, 3328]⟩
abbrev S2048x3328 : Shape := ⟨2, ![2048, 3328]⟩
abbrev S1024x1024 : Shape := ⟨2, ![1024, 1024]⟩
abbrev S1024x3328 : Shape := ⟨2, ![1024, 3328]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3328, .bf16⟩
  | .hbm, ⟨2, _⟩ => ⟨S2048x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .bf16⟩
  | .local _ .vmem, ⟨5, _⟩ => ⟨S1024x3328, .bf16⟩
  | .local _ .vmem, ⟨6, _⟩ => ⟨S1024x3328, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinReferenceIdeal.lean ====
abbrev S8192x2048 : Shape := ⟨2, ![8192, 2048]⟩
abbrev S8192x3328 : Shape := ⟨2, ![8192, 3328]⟩
abbrev S_ : Shape := ⟨0, ![]⟩
abbrev S2048x3328 : Shape := ⟨2, ![2048, 3328]⟩
abbrev S3328x2048 : Shape := ⟨2, ![3328, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3328, .bf16⟩
  | .hbm, ⟨2, _⟩ => ⟨S8192x2048, .f32⟩
  | .hbm, ⟨3, _⟩ => ⟨S8192x3328, .f32⟩
  | .hbm, ⟨4, _⟩ => ⟨S_, .f32⟩
  | .hbm, ⟨5, _⟩ => ⟨S2048x3328, .f32⟩
  | .hbm, ⟨6, _⟩ => ⟨S8192x3328, .f32⟩
  | .hbm, ⟨7, _⟩ => ⟨S3328x2048, .f32⟩
  | .hbm, ⟨8, _⟩ => ⟨S2048x3328, .f32⟩
  | .hbm, ⟨9, _⟩ => ⟨S2048x3328, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Win.lean ====
abbrev S8192x2048 : Shape := ⟨2, ![8192, 2048]⟩
abbrev S2048x3328 : Shape := ⟨2, ![2048, 3328]⟩
abbrev S8192x3328 : Shape := ⟨2, ![8192, 3328]⟩
abbrev S512x2048 : Shape := ⟨2, ![512, 2048]⟩
abbrev S2048x1664 : Shape := ⟨2, ![2048, 1664]⟩
abbrev S512x1664 : Shape := ⟨2, ![512, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3328, .bf16⟩
  | .hbm, ⟨2, _⟩ => ⟨S8192x3328, .f32⟩
  | .local _ .vmem, ⟨0, _⟩ => ⟨S512x2048, .bf16⟩
  | .local _ .vmem, ⟨1, _⟩ => ⟨S512x2048, .bf16⟩
  | .local _ .vmem, ⟨2, _⟩ => ⟨S2048x1664, .bf16⟩
  | .local _ .vmem, ⟨3, _⟩ => ⟨S2048x1664, .bf16⟩
  | .local _ .vmem, ⟨4, _⟩ => ⟨S512x1664, .f32⟩
  | .local _ .vmem, ⟨5, _⟩ => ⟨S512x1664, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S8192x2048 : Shape := ⟨2, ![8192, 2048]⟩
abbrev S2048x3328 : Shape := ⟨2, ![2048, 3328]⟩
abbrev S8192x3328 : Shape := ⟨2, ![8192, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3328, .bf16⟩
  | .hbm, ⟨2, _⟩ => ⟨S8192x2048, .f32⟩
  | .hbm, ⟨3, _⟩ => ⟨S2048x3328, .f32⟩
  | .hbm, ⟨4, _⟩ => ⟨S8192x3328, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wxq.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WxqReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wxkv.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WxkvReferenceIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwxkv.lean ====
abbrev S256x2048 : Shape := ⟨2, ![256, 2048]⟩
abbrev S256x4096 : Shape := ⟨2, ![256, 4096]⟩
abbrev S4x2048x1024 : Shape := ⟨3, ![4, 2048, 1024]⟩
abbrev S256x1024 : Shape := ⟨2, ![256, 1024]⟩
abbrev S1x2048x1024 : Shape := ⟨3, ![1, 2048, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S4x2048x1024, .bf16⟩
  | .local _ .vmem, ⟨0, _⟩ => ⟨S256x2048, .bf16⟩
  | .local _ .vmem, ⟨1, _⟩ => ⟨S256x1024, .bf16⟩
  | .local _ .vmem, ⟨2, _⟩ => ⟨S256x1024, .bf16⟩
  | .local _ .vmem, ⟨3, _⟩ => ⟨S1x2048x1024, .bf16⟩
  | .local _ .vmem, ⟨4, _⟩ => ⟨S1x2048x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxkvReferenceIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S256x2048, .f32⟩
  | .hbm, ⟨3, _⟩ => ⟨S256x4096, .f32⟩
  | .hbm, ⟨4, _⟩ => ⟨S_, .f32⟩
  | .hbm, ⟨5, _⟩ => ⟨S2048x4096, .f32⟩
  | .hbm, ⟨6, _⟩ => ⟨S256x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dmem.lean ====
abbrev S256x4096 : Shape := ⟨2, ![256, 4096]⟩
abbrev S2048x4096 : Shape := ⟨2, ![2048, 4096]⟩
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S256x2048, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S256x2048, .f32⟩
  | .local _ .vmem, ⟨5, _⟩ => ⟨S256x2048, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DmemReferenceIdeal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S256x4096, .f32⟩
  | .hbm, ⟨3, _⟩ => ⟨S2048x4096, .f32⟩
  | .hbm, ⟨4, _⟩ => ⟨S_, .f32⟩
  | .hbm, ⟨5, _⟩ => ⟨S256x2048, .f32⟩
  | .hbm, ⟨6, _⟩ => ⟨S256x4096, .f32⟩
  | .hbm, ⟨7, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemReferenceIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dnorm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== DnormMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DnormMemReferenceIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_22 : BitVec 32 := 0#32
  let v59 : BitVec 1 := Scalar.cmpi .ne v58 c0_i32_22
  v59

def k0_cond2 (i : grid0.Coords) : BitVec 1 :=
  let arg0 : BitVec 32 := BitVec.ofNat 32 (i 0).val
  let c0_i32_23 : BitVec 32 := 0#32
  let v60 : BitVec 1 := Scalar.cmpi .sgt arg0 c0_i32_23
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== AdamUp.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpReferenceIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S512x3328 : Shape := ⟨2, ![512, 3328]⟩
abbrev S64x3328 : Shape := ⟨2, ![64, 3328]⟩

abbrev nBuf : Space → Nat
  | .hbm => 8
  | .vmem => 16
  | .smem => 0
  | _ => 0

abbrev bufTy : (tb : Table) → Fin (tcTables nBuf tb) → BufTy
  | .hbm, ⟨0, _⟩ => ⟨S512x3328, .f32⟩
  | .hbm, ⟨1, _⟩ => ⟨S512x3328, .f32⟩
  | .hbm, ⟨2, _⟩ => ⟨S512x3328, .f32⟩
  | .hbm, ⟨3, _⟩ => ⟨S512x3328, .f32⟩
  | .hbm, ⟨4, _⟩ => ⟨S512x3328, .f32⟩
  | .hbm, ⟨5, _⟩ => ⟨S512x3328, .f32⟩
  | .hbm, ⟨6, _⟩ => ⟨S512x3328, .f32⟩
  | .hbm, ⟨7, _⟩ => ⟨S512x3328, .f32⟩
  | .local _ .vmem, ⟨0, _⟩ => ⟨S64x3328, .f32⟩
  | .local _ .vmem, ⟨1, _⟩ => ⟨S64x3328, .f32⟩
  | .local _ .vmem, ⟨2, _⟩ => ⟨S64x3328, .f32⟩
  | .local _ .vmem, ⟨3, _⟩ => ⟨S64x3328, .f32⟩
  | .local _ .vmem, ⟨4, _⟩ => ⟨S64x3328, .f32⟩
  | .local _ .vmem, ⟨5, _⟩ => ⟨S64x3328, .f32⟩
  | .local _ .vmem, ⟨6, _⟩ => ⟨S64x3328, .f32⟩
  | .local _ .vmem, ⟨7, _⟩ => ⟨S64x3328, .f32⟩
  | .local _ .vmem, ⟨8, _⟩ => ⟨S64x3328, .f32⟩
  | .local _ .vmem, ⟨9, _⟩ => ⟨S64x3328, .f32⟩
  | .local _ .vmem, ⟨10, _⟩ => ⟨S64x3328, .f32⟩
  | .local _ .vmem, ⟨11, _⟩ => ⟨S64x3328, .f32⟩
  | .local _ .vmem, ⟨12, _⟩ => ⟨S64x3328, .f32⟩
  | .local _ .vmem, ⟨13, _⟩ => ⟨S64x3328, .f32⟩
  | .local _ .vmem, ⟨14, _⟩ => ⟨S64x3328, .f32⟩
  | .local _ .vmem, ⟨15, _⟩ => ⟨S64x3328, .f32⟩
  | _, _ => ⟨S512x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S512x3328 : Shape := ⟨2, ![512, 3328]⟩
abbrev S64x3328 : Shape := ⟨2, ![64, 3328]⟩

abbrev nBuf : Space → Nat
  | .hbm => 8
  | .vmem => 16
  | .smem => 0
  | _ => 0

abbrev bufTy : (tb : Table) → Fin (tcTables nBuf tb) → BufTy
  | .hbm, ⟨0, _⟩ => ⟨S512x3328, .f32⟩
  | .hbm, ⟨1, _⟩ => ⟨S512x3328, .f32⟩
  | .hbm, ⟨2, _⟩ => ⟨S512x3328, .f32⟩
  | .hbm, ⟨3, _⟩ => ⟨S512x3328, .f32⟩
  | .hbm, ⟨4, _⟩ => ⟨S512x3328, .f32⟩
  | .hbm, ⟨5, _⟩ => ⟨S512x3328, .f32⟩
  | .hbm, ⟨6, _⟩ => ⟨S512x3328, .f32⟩
  | .hbm, ⟨7, _⟩ => ⟨S512x3328, .f32⟩
  | .local _ .vmem, ⟨0, _⟩ => ⟨S64x3328, .f32⟩
  | .local _ .vmem, ⟨1, _⟩ => ⟨S64x3328, .f32⟩
  | .local _ .vmem, ⟨2, _⟩ => ⟨S64x3328, .f32⟩
  | .local _ .vmem, ⟨3, _⟩ => ⟨S64x3328, .f32⟩
  | .local _ .vmem, ⟨4, _⟩ => ⟨S64x3328, .f32⟩
  | .local _ .vmem, ⟨5, _⟩ => ⟨S64x3328, .f32⟩
  | .local _ .vmem, ⟨6, _⟩ => ⟨S64x3328, .f32⟩
  | .local _ .vmem, ⟨7, _⟩ => ⟨S64x3328, .f32⟩
  | .local _ .vmem, ⟨8, _⟩ => ⟨S64x3328, .f32⟩
  | .local _ .vmem, ⟨9, _⟩ => ⟨S64x3328, .f32⟩
  | .local _ .vmem, ⟨10, _⟩ => ⟨S64x3328, .f32⟩
  | .local _ .vmem, ⟨11, _⟩ => ⟨S64x3328, .f32⟩
  | .local _ .vmem, ⟨12, _⟩ => ⟨S64x3328, .f32⟩
  | .local _ .vmem, ⟨13, _⟩ => ⟨S64x3328, .f32⟩
  | .local _ .vmem, ⟨14, _⟩ => ⟨S64x3328, .f32⟩
  | .local _ .vmem, ⟨15, _⟩ => ⟨S64x3328, .f32⟩
  | _, _ => ⟨S512x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S512x3328 : Shape := ⟨2, ![512, 3328]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x3328, .f32⟩
  | .hbm, ⟨1, _⟩ => ⟨S512x3328, .f32⟩
  | .hbm, ⟨2, _⟩ => ⟨S512x3328, .f32⟩
  | .hbm, ⟨3, _⟩ => ⟨S512x3328, .f32⟩
  | .hbm, ⟨4, _⟩ => ⟨S_, .f32⟩
  | .hbm, ⟨5, _⟩ => ⟨S512x3328, .f32⟩
  | .hbm, ⟨6, _⟩ => ⟨S512x3328, .f32⟩
  | .hbm, ⟨7, _⟩ => ⟨S_, .f32⟩
  | .hbm, ⟨8, _⟩ => ⟨S512x3328, .f32⟩
  | .hbm, ⟨9, _⟩ => ⟨S512x3328, .f32⟩
  | .hbm, ⟨10, _⟩ => ⟨S512x3328, .f32⟩
  | .hbm, ⟨11, _⟩ => ⟨S_, .f32⟩
  | .hbm, ⟨12, _⟩ => ⟨S512x3328, .f32⟩
  | .hbm, ⟨13, _⟩ => ⟨S512x3328, .f32⟩
  | .hbm, ⟨14, _⟩ => ⟨S512x3328, .f32⟩
  | .hbm, ⟨15, _⟩ => ⟨S_, .f32⟩
  | .hbm, ⟨16, _⟩ => ⟨S512x3328, .f32⟩
  | .hbm, ⟨17, _⟩ => ⟨S512x3328, .f32⟩
  | .hbm, ⟨18, _⟩ => ⟨S512x3328, .f32⟩
  | .hbm, ⟨19, _⟩ => ⟨S_, .f32⟩
  | .hbm, ⟨20, _⟩ => ⟨S512x3328, .f32⟩
  | .hbm, ⟨21, _⟩ => ⟨S512x3328, .f32⟩
  | .hbm, ⟨22, _⟩ => ⟨S_, .f32⟩
  | .hbm, ⟨23, _⟩ => ⟨S512x3328, .f32⟩
  | .hbm, ⟨24, _⟩ => ⟨S512x3328, .f32⟩
  | .hbm, ⟨25, _⟩ => ⟨S512x3328, .f32⟩
  | .hbm, ⟨26, _⟩ => ⟨S_, .f32⟩
  | .hbm, ⟨27, _⟩ => ⟨S512x3328, .f32⟩
  | .hbm, ⟨28, _⟩ => ⟨S512x3328, .f32⟩
  | .hbm, ⟨29, _⟩ => ⟨S512x3328, .f32⟩
  | .hbm, ⟨30, _⟩ => ⟨S_, .f32⟩
  | .hbm, ⟨31, _⟩ => ⟨S512x3328, .f32⟩
  | .hbm, ⟨32, _⟩ => ⟨S512x3328, .f32⟩
  | .hbm, ⟨33, _⟩ => ⟨S512x3328, .f32⟩
  | .hbm, ⟨34, _⟩ => ⟨S_, .f32⟩
  | .hbm, ⟨35, _⟩ => ⟨S512x3328, .f32⟩
  | .hbm, ⟨36, _⟩ => ⟨S512x3328, .f32⟩
  | _, _ => ⟨S512x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x1024 : Shape := ⟨2, ![2048, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvReferenceIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Mixer.Run.lean ====
/-
The frame of `KernelIdeal`: what its one grid leaves in each output block point by point, and the run.

The grid walks the 64 row blocks from the last to the first.  At the first point the body zeroes the blocks of the
six weight gradients and the carried key/value half (`firstRun`); at every other point it adds into them (`laterRun`).
`Outs` gathers what a point leaves: the block of dz, the six sums, and the half carried to the next point.
-/
module

public import proofs.«01_k».proof.Proof.Gen.KernelIdeal.Frame.RunB
public import Idealize.ShloMosaic.Lib.Claim
public import Idealize.ShloMosaic.Lib.Pipeline.Value

@[expose] public section

set_option maxRecDepth 16384

noncomputable section

namespace Mixer.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one grid point leaves in the output blocks and in the scratch. -/
structure Outs (F : FTy → Type) where
  dz : Vec F S128x3328 .bf16
  dgv : Vec F S1x1024 .f32
  dws : Vec F S8x128x128 .f32
  dbs : Vec F S128x8 .f32
  dsk : Vec F S1x16 .f32
  dga : Vec F S1x1024 .f32
  dgb : Vec F S1x1024 .f32
  carry : Vec F S128x256 .f32

theorem points : cfg0.N = 64 := N_0

/-- The body's run at the first point. -/
def firstRun (c : Dev nD) (t : Fin cfg0.N) (h : t.val % 64 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t)

/-- The body's run at a later point, over what the point before left. -/
def laterRun (c : Dev nD) (t : Fin cfg0.N) (h : ¬t.val % 64 = 0) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t)
    p.dgv p.dws p.dbs p.dsk p.dga p.dgb p.carry

theorem first_covers_dz (c : Dev nD) (t : Fin cfg0.N) (h : t.val % 64 = 0) (y : S128x3328.Idx) :
    ∃ pc ∈ (firstRun m c t h).1, y ∈ pc.1.set :=
  View.cover_of_tiledBy (firstRun m c t h).1 ![128, 128] (by sl_kernel_rfl) y

theorem first_covers_dgv (c : Dev nD) (t : Fin cfg0.N) (h : t.val % 64 = 0) (y : S1x1024.Idx) :
    ∃ pc ∈ (firstRun m c t h).2.1, y ∈ pc.1.set :=
  View.cover_of_tiledL (firstRun m c t h).2.1 S1x1024.size (by sl_kernel_rfl) y

theorem first_covers_dws (c : Dev nD) (t : Fin cfg0.N) (h : t.val % 64 = 0) (y : S8x128x128.Idx) :
    ∃ pc ∈ (firstRun m c t h).2.2.1, y ∈ pc.1.set :=
  View.cover_of_tiledBy (firstRun m c t h).2.2.1 ![1, 128, 128] (by sl_kernel_rfl) y

theorem first_covers_dbs (c : Dev nD) (t : Fin cfg0.N) (h : t.val % 64 = 0) (y : S128x8.Idx) :
    ∃ pc ∈ (firstRun m c t h).2.2.2.1, y ∈ pc.1.set :=
  View.cover_of_tiledBy (firstRun m c t h).2.2.2.1 ![128, 1] (by sl_kernel_rfl) y

theorem first_covers_dsk (c : Dev nD) (t : Fin cfg0.N) (h : t.val % 64 = 0) (y : S1x16.Idx) :
    ∃ pc ∈ (firstRun m c t h).2.2.2.2.1, y ∈ pc.1.set :=
  View.cover_of_tiledBy (firstRun m c t h).2.2.2.2.1 ![1, 1] (by sl_kernel_rfl) y

theorem first_covers_dga (c : Dev nD) (t : Fin cfg0.N) (h : t.val % 64 = 0) (y : S1x1024.Idx) :
    ∃ pc ∈ (firstRun m c t h).2.2.2.2.2.1, y ∈ pc.1.set :=
  View.cover_of_tiledL (firstRun m c t h).2.2.2.2.2.1 S1x1024.size (by sl_kernel_rfl) y

theorem first_covers_dgb (c : Dev nD) (t : Fin cfg0.N) (h : t.val % 64 = 0) (y : S1x1024.Idx) :
    ∃ pc ∈ (firstRun m c t h).2.2.2.2.2.2.1, y ∈ pc.1.set :=
  View.cover_of_tiledL (firstRun m c t h).2.2.2.2.2.2.1 S1x1024.size (by sl_kernel_rfl) y

theorem first_covers_carry (c : Dev nD) (t : Fin cfg0.N) (h : t.val % 64 = 0) (y : S128x256.Idx) :
    ∃ pc ∈ (firstRun m c t h).2.2.2.2.2.2.2.1, y ∈ pc.1.set :=
  View.cover_of_wholeMem (firstRun m c t h).2.2.2.2.2.2.2.1  (by sl_whole_mem) y

/-- What the first point leaves. -/
def firstOuts (c : Dev nD) (t : Fin cfg0.N) (h : t.val % 64 = 0) : Outs F where
  dz := VO0_9.read (Elt F) (VO0_9.writes (Elt F) VO0_9.junk (firstRun m c t h).1)
  dgv := VO0_10.read (Elt F) (VO0_10.writes (Elt F) VO0_10.junk (firstRun m c t h).2.1)
  dws := VO0_11.read (Elt F) (VO0_11.writes (Elt F) VO0_11.junk (firstRun m c t h).2.2.1)
  dbs := VO0_12.read (Elt F) (VO0_12.writes (Elt F) VO0_12.junk (firstRun m c t h).2.2.2.1)
  dsk := VO0_13.read (Elt F) (VO0_13.writes (Elt F) VO0_13.junk (firstRun m c t h).2.2.2.2.1)
  dga := VO0_14.read (Elt F) (VO0_14.writes (Elt F) VO0_14.junk (firstRun m c t h).2.2.2.2.2.1)
  dgb := VO0_15.read (Elt F) (VO0_15.writes (Elt F) VO0_15.junk (firstRun m c t h).2.2.2.2.2.2.1)
  carry := VS0_0.read (Elt F) (VS0_0.writes (Elt F) VS0_0.junk (firstRun m c t h).2.2.2.2.2.2.2.1)

theorem later_covers_dz (c : Dev nD) (t : Fin cfg0.N) (h : ¬t.val % 64 = 0) (p : Outs F) (y : S128x3328.Idx) :
    ∃ pc ∈ (laterRun m c t h p).1, y ∈ pc.1.set :=
  View.cover_of_tiledBy (laterRun m c t h p).1 ![128, 128] (by sl_kernel_rfl) y

theorem later_covers_dgv (c : Dev nD) (t : Fin cfg0.N) (h : ¬t.val % 64 = 0) (p : Outs F) (y : S1x1024.Idx) :
    ∃ pc ∈ (laterRun m c t h p).2.1, y ∈ pc.1.set :=
  View.cover_of_tiledL (laterRun m c t h p).2.1 S1x1024.size (by sl_kernel_rfl) y

theorem later_covers_dws (c : Dev nD) (t : Fin cfg0.N) (h : ¬t.val % 64 = 0) (p : Outs F) (y : S8x128x128.Idx) :
    ∃ pc ∈ (laterRun m c t h p).2.2.1, y ∈ pc.1.set :=
  View.cover_of_tiledL (laterRun m c t h p).2.2.1 S1x128x128.size (by sl_kernel_rfl) y

theorem later_covers_dbs (c : Dev nD) (t : Fin cfg0.N) (h : ¬t.val % 64 = 0) (p : Outs F) (y : S128x8.Idx) :
    ∃ pc ∈ (laterRun m c t h p).2.2.2.1, y ∈ pc.1.set :=
  View.cover_of_tiledL (laterRun m c t h p).2.2.2.1 S128x1.size (by sl_kernel_rfl) y

theorem later_covers_dsk (c : Dev nD) (t : Fin cfg0.N) (h : ¬t.val % 64 = 0) (p : Outs F) (y : S1x16.Idx) :
    ∃ pc ∈ (laterRun m c t h p).2.2.2.2.1, y ∈ pc.1.set :=
  View.cover_of_tiledL (laterRun m c t h p).2.2.2.2.1 S1x1.size (by sl_kernel_rfl) y

theorem later_covers_dga (c : Dev nD) (t : Fin cfg0.N) (h : ¬t.val % 64 = 0) (p : Outs F) (y : S1x1024.Idx) :
    ∃ pc ∈ (laterRun m c t h p).2.2.2.2.2.1, y ∈ pc.1.set :=
  View.cover_of_tiledL (laterRun m c t h p).2.2.2.2.2.1 S1x1024.size (by sl_kernel_rfl) y

theorem later_covers_dgb (c : Dev nD) (t : Fin cfg0.N) (h : ¬t.val % 64 = 0) (p : Outs F) (y : S1x1024.Idx) :
    ∃ pc ∈ (laterRun m c t h p).2.2.2.2.2.2.1, y ∈ pc.1.set :=
  View.cover_of_tiledL (laterRun m c t h p).2.2.2.2.2.2.1 S1x1024.size (by sl_kernel_rfl) y

theorem later_covers_carry (c : Dev nD) (t : Fin cfg0.N) (h : ¬t.val % 64 = 0) (p : Outs F) (y : S128x256.Idx) :
    ∃ pc ∈ (laterRun m c t h p).2.2.2.2.2.2.2.1, y ∈ pc.1.set :=
  View.cover_of_tiledL (laterRun m c t h p).2.2.2.2.2.2.2.1 S128x128.size (by sl_kernel_rfl) y

/-- What a later point leaves. -/
def laterOuts (c : Dev nD) (t : Fin cfg0.N) (h : ¬t.val % 64 = 0) (p : Outs F) : Outs F where
  dz := VO0_9.read (Elt F) (VO0_9.writes (Elt F) VO0_9.junk (laterRun m c t h p).1)
  dgv := VO0_10.read (Elt F) (VO0_10.writes (Elt F) VO0_10.junk (laterRun m c t h p).2.1)
  dws := VO0_11.read (Elt F) (VO0_11.writes (Elt F) VO0_11.junk (laterRun m c t h p).2.2.1)
  dbs := VO0_12.read (Elt F) (VO0_12.writes (Elt F) VO0_12.junk (laterRun m c t h p).2.2.2.1)
  dsk := VO0_13.read (Elt F) (VO0_13.writes (Elt F) VO0_13.junk (laterRun m c t h p).2.2.2.2.1)
  dga := VO0_14.read (Elt F) (VO0_14.writes (Elt F) VO0_14.junk (laterRun m c t h p).2.2.2.2.2.1)
  dgb := VO0_15.read (Elt F) (VO0_15.writes (Elt F) VO0_15.junk (laterRun m c t h p).2.2.2.2.2.2.1)
  carry := VS0_0.read (Elt F) (VS0_0.writes (Elt F) VS0_0.junk (laterRun m c t h p).2.2.2.2.2.2.2.1)

/-- What point `n` leaves, by recursion on the point. -/
def outsAt (c : Dev nD) : (n : ℕ) → n < cfg0.N → Outs F
  | 0, hn => firstOuts m c ⟨0, hn⟩ rfl
  | n + 1, hn => laterOuts m c ⟨n + 1, hn⟩ (by have := points; show ¬(n + 1) % 64 = 0; omega) (outsAt c n (Nat.lt_of_succ_lt hn))

theorem outsAt_first (c : Dev nD) (t : Fin cfg0.N) (h : t.val % 64 = 0) :
    outsAt m c t.val t.isLt = firstOuts m c t h := by
  obtain ⟨n, hn⟩ := t
  cases n with
  | zero => rfl
  | succ n => have := points; dsimp only at h; omega

theorem outsAt_later (c : Dev nD) (t : Fin cfg0.N) (h : ¬t.val % 64 = 0) :
    outsAt m c t.val t.isLt
      = laterOuts m c t h (outsAt m c (t.val - 1) (Nat.lt_of_le_of_lt (Nat.sub_le _ _) t.isLt)) := by
  obtain ⟨n, hn⟩ := t
  cases n with
  | zero => exact absurd rfl h
  | succ n => rfl

/-- The region's invariant before point `n`: after the first point the scratch holds the carried half. -/
def Inv (c : Dev nD) : (n : ℕ) → n ≤ cfg0.N → sProp 𝕄
  | 0, _ => Pipeline.ΦA spec0 c
  | n + 1, hn => iprop(iprop(owns (c : Thread nD τ) scM0_0 fullShare (outsAt m c n hn).carry) ∗ (∃ r, prngReg c r))

theorem inv_start (c : Dev nD) (n : ℕ) (h : n ≤ cfg0.N) (hz : n = 0) : Inv m c n h = Pipeline.ΦA spec0 c := by
  subst hz; rfl

theorem inv_next (c : Dev nD) (n : ℕ) (hn : n < cfg0.N) :
    Inv m c (n + 1) hn = iprop(iprop(owns (c : Thread nD τ) scM0_0 fullShare (outsAt m c n hn).carry) ∗ (∃ r, prngReg c r)) := rfl

theorem inv_mid (c : Dev nD) (n : ℕ) (h : n ≤ cfg0.N) (hz : n ≠ 0) :
    Inv m c n h = iprop(iprop(owns (c : Thread nD τ) scM0_0 fullShare (outsAt m c (n - 1) (by omega)).carry) ∗ (∃ r, prngReg c r)) := by
  cases n with
  | zero => exact absurd rfl hz
  | succ n => rfl

/-- The pipeline's data: inputs hold their blocks, outputs what `outsAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).dz
    | ⟨10, _⟩ => (outsAt m c t.val t.isLt).dgv
    | ⟨11, _⟩ => (outsAt m c t.val t.isLt).dws
    | ⟨12, _⟩ => (outsAt m c t.val t.isLt).dbs
    | ⟨13, _⟩ => (outsAt m c t.val t.isLt).dsk
    | ⟨14, _⟩ => (outsAt m c t.val t.isLt).dga
    | ⟨15, _⟩ => (outsAt m c t.val t.isLt).dgb
    | ⟨_ + 16, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_at (c : Dev nD) (t : Fin cfg0.N) :
    (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt m c t.val t.isLt).dz := by dsimp only [dats]
theorem after0_10 (c : Dev nD) (t : Fin cfg0.N) : (dats m 0 c).after 10 t = (outsAt m c t.val t.isLt).dgv := by dsimp only [dats]
theorem after0_11 (c : Dev nD) (t : Fin cfg0.N) : (dats m 0 c).after 11 t = (outsAt m c t.val t.isLt).dws := by dsimp only [dats]
theorem after0_12 (c : Dev nD) (t : Fin cfg0.N) : (dats m 0 c).after 12 t = (outsAt m c t.val t.isLt).dbs := by dsimp only [dats]
theorem after0_13 (c : Dev nD) (t : Fin cfg0.N) : (dats m 0 c).after 13 t = (outsAt m c t.val t.isLt).dsk := by dsimp only [dats]
theorem after0_14 (c : Dev nD) (t : Fin cfg0.N) : (dats m 0 c).after 14 t = (outsAt m c t.val t.isLt).dga := by dsimp only [dats]
theorem after0_15 (c : Dev nD) (t : Fin cfg0.N) : (dats m 0 c).after 15 t = (outsAt m c t.val t.isLt).dgb := by dsimp only [dats]

theorem held0 (c : Dev nD) (t : Fin cfg0.N) (d) : (dats m 0 c).before 0 t d = iblk m c 0 t :=
  before0_0_of m (dats m 0 c) (A_eq m c 0) (after0_0 m c) t d
theorem held1 (c : Dev nD) (t : Fin cfg0.N) (d) : (dats m 0 c).before 1 t d = iblk m c 1 t :=
  before0_1_of m (dats m 0 c) (A_eq m c 1) (after0_1 m c) t d
theorem held2 (c : Dev nD) (t : Fin cfg0.N) (d) : (dats m 0 c).before 2 t d = iblk m c 2 t :=
  before0_2_of m (dats m 0 c) (A_eq m c 2) (after0_2 m c) t d
theorem held3 (c : Dev nD) (t : Fin cfg0.N) (d) : (dats m 0 c).before 3 t d = iblk m c 3 t :=
  before0_3_of m (dats m 0 c) (A_eq m c 3) (after0_3 m c) t d
theorem held4 (c : Dev nD) (t : Fin cfg0.N) (d) : (dats m 0 c).before 4 t d = iblk m c 4 t :=
  before0_4_of m (dats m 0 c) (A_eq m c 4) (after0_4 m c) t d
theorem held5 (c : Dev nD) (t : Fin cfg0.N) (d) : (dats m 0 c).before 5 t d = iblk m c 5 t :=
  before0_5_of m (dats m 0 c) (A_eq m c 5) (after0_5 m c) t d
theorem held6 (c : Dev nD) (t : Fin cfg0.N) (d) : (dats m 0 c).before 6 t d = iblk m c 6 t :=
  before0_6_of m (dats m 0 c) (A_eq m c 6) (after0_6 m c) t d
theorem held7 (c : Dev nD) (t : Fin cfg0.N) (d) : (dats m 0 c).before 7 t d = iblk m c 7 t :=
  before0_7_of m (dats m 0 c) (A_eq m c 7) (after0_7 m c) t d
theorem held8 (c : Dev nD) (t : Fin cfg0.N) (d) : (dats m 0 c).before 8 t d = iblk m c 8 t :=
  before0_8_of m (dats m 0 c) (A_eq m c 8) (after0_8 m c) t d

theorem kept_dgv (c : Dev nD) (t : Fin cfg0.N) (h : ¬t.val % 64 = 0) (d) :
    (dats m 0 c).before 10 t d = (outsAt m c (t.val - 1) (Nat.lt_of_le_of_lt (Nat.sub_le _ _) t.isLt)).dgv := by
  have hN : t.val < 64 := lt_of_lt_of_eq t.isLt points
  rw [Dat.before_out_kept _ 10 rfl t (by omega)
    (Bool.eq_false_iff.mpr fun e => by have := (flush0_10 _).mp e; dsimp only at this; omega) (fun _ => rfl) (fun _ _ => rfl)]
  dsimp only [dats]
theorem kept_dws (c : Dev nD) (t : Fin cfg0.N) (h : ¬t.val % 64 = 0) (d) :
    (dats m 0 c).before 11 t d = (outsAt m c (t.val - 1) (Nat.lt_of_le_of_lt (Nat.sub_le _ _) t.isLt)).dws := by
  have hN : t.val < 64 := lt_of_lt_of_eq t.isLt points
  rw [Dat.before_out_kept _ 11 rfl t (by omega)
    (Bool.eq_false_iff.mpr fun e => by have := (flush0_11 _).mp e; dsimp only at this; omega) (fun _ => rfl) (fun _ _ => rfl)]
  dsimp only [dats]
theorem kept_dbs (c : Dev nD) (t : Fin cfg0.N) (h : ¬t.val % 64 = 0) (d) :
    (dats m 0 c).before 12 t d = (outsAt m c (t.val - 1) (Nat.lt_of_le_of_lt (Nat.sub_le _ _) t.isLt)).dbs := by
  have hN : t.val < 64 := lt_of_lt_of_eq t.isLt points
  rw [Dat.before_out_kept _ 12 rfl t (by omega)
    (Bool.eq_false_iff.mpr fun e => by have := (flush0_12 _).mp e; dsimp only at this; omega) (fun _ => rfl) (fun _ _ => rfl)]
  dsimp only [dats]
theorem kept_dsk (c : Dev nD) (t : Fin cfg0.N) (h : ¬t.val % 64 = 0) (d) :
    (dats m 0 c).before 13 t d = (outsAt m c (t.val - 1) (Nat.lt_of_le_of_lt (Nat.sub_le _ _) t.isLt)).dsk := by
  have hN : t.val < 64 := lt_of_lt_of_eq t.isLt points
  rw [Dat.before_out_kept _ 13 rfl t (by omega)
    (Bool.eq_false_iff.mpr fun e => by have := (flush0_13 _).mp e; dsimp only at this; omega) (fun _ => rfl) (fun _ _ => rfl)]
  dsimp only [dats]
theorem kept_dga (c : Dev nD) (t : Fin cfg0.N) (h : ¬t.val % 64 = 0) (d) :
    (dats m 0 c).before 14 t d = (outsAt m c (t.val - 1) (Nat.lt_of_le_of_lt (Nat.sub_le _ _) t.isLt)).dga := by
  have hN : t.val < 64 := lt_of_lt_of_eq t.isLt points
  rw [Dat.before_out_kept _ 14 rfl t (by omega)
    (Bool.eq_false_iff.mpr fun e => by have := (flush0_14 _).mp e; dsimp only at this; omega) (fun _ => rfl) (fun _ _ => rfl)]
  dsimp only [dats]
theorem kept_dgb (c : Dev nD) (t : Fin cfg0.N) (h : ¬t.val % 64 = 0) (d) :
    (dats m 0 c).before 15 t d = (outsAt m c (t.val - 1) (Nat.lt_of_le_of_lt (Nat.sub_le _ _) t.isLt)).dgb := by
  have hN : t.val < 64 := lt_of_lt_of_eq t.isLt points
  rw [Dat.before_out_kept _ 15 rfl t (by omega)
    (Bool.eq_false_iff.mpr fun e => by have := (flush0_15 _).mp e; dsimp only at this; omega) (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6, held7, held8]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = Inv m c (t.val + 1) t.isLt from rfl, inv_next]
  have hN : t.val < 64 := lt_of_lt_of_eq t.isLt points
  by_cases h : t.val % 64 = 0
  · rw [inv_at m c t, inv_start m c _ _ (by omega), PhiA0_eq]
    rw [outsAt_first m c t h]
    simp only [firstOuts]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((firstRun m c t h).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS]; · iexact HS
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%es, HS⟩⟩
    isplitl [HS Hg]
    · isplitl [HS]
      · unfold owns; iexists _; isplitr
        swap; · iexact HS
        ipureintro; exact View.read_writes_of_cover _ _ _ _ _ (first_covers_carry m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (first_covers_dz m c t h)
    isplitl [H10]
    · unfold owns; iexists _; isplitr
      swap; · iexact H10
      ipureintro; exact View.read_writes_of_cover _ _ _ _ _ (first_covers_dgv m c t h)
    isplitl [H11]
    · unfold owns; iexists _; isplitr
      swap; · iexact H11
      ipureintro; exact View.read_writes_of_cover _ _ _ _ _ (first_covers_dws m c t h)
    isplitl [H12]
    · unfold owns; iexists _; isplitr
      swap; · iexact H12
      ipureintro; exact View.read_writes_of_cover _ _ _ _ _ (first_covers_dbs m c t h)
    isplitl [H13]
    · unfold owns; iexists _; isplitr
      swap; · iexact H13
      ipureintro; exact View.read_writes_of_cover _ _ _ _ _ (first_covers_dsk m c t h)
    isplitl [H14]
    · unfold owns; iexists _; isplitr
      swap; · iexact H14
      ipureintro; exact View.read_writes_of_cover _ _ _ _ _ (first_covers_dga m c t h)
    unfold owns; iexists _; isplitr
    swap; · iexact H15
    ipureintro; exact View.read_writes_of_cover _ _ _ _ _ (first_covers_dgb m c t h)
  · rw [inv_at m c t, inv_mid m c _ _ (by omega)]
    rw [outsAt_later m c t h]
    simp only [kept_dgv m c t h, kept_dws m c t h, kept_dbs m c t h, kept_dsk m c t h, kept_dga m c t h, kept_dgb m c t h]
    simp only [laterOuts]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((laterRun m c t h _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [HS]; · iexact HS
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%es, HS⟩⟩
    isplitl [HS Hg]
    · isplitl [HS]
      · unfold owns; iexists _; isplitr
        swap; · iexact HS
        ipureintro; exact View.read_writes_of_cover _ _ _ _ _ (later_covers_carry m c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (later_covers_dz m c t h _)
    isplitl [H10]
    · unfold owns; iexists _; isplitr
      swap; · iexact H10
      ipureintro; exact View.read_writes_of_cover _ _ _ _ _ (later_covers_dgv m c t h _)
    isplitl [H11]
    · unfold owns; iexists _; isplitr
      swap; · iexact H11
      ipureintro; exact View.read_writes_of_cover _ _ _ _ _ (later_covers_dws m c t h _)
    isplitl [H12]
    · unfold owns; iexists _; isplitr
      swap; · iexact H12
      ipureintro; exact View.read_writes_of_cover _ _ _ _ _ (later_covers_dbs m c t h _)
    isplitl [H13]
    · unfold owns; iexists _; isplitr
      swap; · iexact H13
      ipureintro; exact View.read_writes_of_cover _ _ _ _ _ (later_covers_dsk m c t h _)
    isplitl [H14]
    · unfold owns; iexists _; isplitr
      swap; · iexact H14
      ipureintro; exact View.read_writes_of_cover _ _ _ _ _ (later_covers_dga m c t h _)
    unfold owns; iexists _; isplitr
    swap; · iexact H15
    ipureintro; exact View.read_writes_of_cover _ _ _ _ _ (later_covers_dgb m c t h _)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enters (c : Dev nD) : Pipeline.ΦA spec0 c ⊢ (dats m 0 c).Φ 0 := by
  rw [show (dats m 0 c).Φ 0 = Inv m c 0 (Nat.zero_le _) from rfl, inv_start m c 0 _ rfl]
  try exact Idealize.SL.BI.Entails.refl _

theorem leaves (c : Dev nD) : (dats m 0 c).Φ (Fin.last cfg0.N) ⊢ Pipeline.ΦA spec0 c := by
  rw [show (dats m 0 c).Φ (Fin.last cfg0.N) = Inv m c cfg0.N le_rfl from rfl,
    inv_mid m c _ _ (by have := points; omega), PhiA0_eq]
  iintro ⟨HS, Hg⟩
  isplitl [HS]
  · iexists _; iexact HS
  iexact Hg

set_option backward.isDefEq.respectTransparency.types false in
/-- The run: it ends, every array holds what the pipeline's data say, and every counter is zero. -/
theorem ends : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enters m) (hout := leaves m)

/-- The run with its arrays named. -/
theorem arrays : θ_run defs (onTc (τ := τ) (main (F := F))) (s₀ m ρ) (Pipeline.FramePost cfgs (dats m) 0 (V m)) :=
  (θ_run defs _ _).mono (fun _ h => h.1) (ends m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (arrays m ρ)) ((θ_run defs _ _).mono (fun _ h => h.2) (ends m ρ))

end Mixer.Run

end
-- ==== Proof.Mixer.Read.lean ====
/-
  The mixer-gradient kernel's vector expressions of the attention half, read at an index.
-/
module

public import proofs.«01_k».proof.Proof.Gen.KernelIdeal.Skeleton
public import Idealize.ShloMosaic.Lib.Pointwise

@[expose] public section

set_option maxRecDepth 16384

noncomputable section

namespace Mixer.Read

open Idealize.ShloMosaic Idealize.ShloMosaic.TcCoe Idealize.SL.Sem
open Cert.KernelIdeal Cert.KernelIdeal.Gen

/-- Row `j` of a window of 256 keys: the block before's 128 rows, then this block's own. -/
def winRow (a b : FVec Ideal S128x128 .f32) (j : Fin 256) (l : Fin 128) : EReal :=
  if h : j.val < 128 then a (ix2 ⟨j.val, h⟩ l) else b (ix2 ⟨j.val - 128, by omega⟩ l)

theorem pay101_at (a b : FVec Ideal S128x128 .f32) (j : Fin 256) (l : Fin 128) :
    k0_pay101 (F := Ideal) a b (ix2 j l) = winRow a b j l := by
  pointwise [k0_pay101, winRow]

theorem pay102_at (a b : FVec Ideal S128x128 .f32) (j : Fin 256) (l : Fin 128) :
    k0_pay102 (F := Ideal) a b (ix2 j l) = winRow a b j l := by
  pointwise [k0_pay102, winRow]

theorem slt64_fin : ∀ n : Fin 1024, IntOp.cmpi .slt (BitVec.ofNat 32 n.val) 64#32 = if n.val < 64 then 1#1 else 0#1 := by
  decide +kernel

/-- A choice by "lane below 64", as a condition on the lane's number. -/
theorem sel64 {α : Type} (n : ℕ) (hn : n < 1024) (x y : α) :
    Scalar.select (IntOp.cmpi .slt (BitVec.ofNat 32 n) 64#32) x y = if n < 64 then x else y := by
  rw [slt64_fin ⟨n, hn⟩]; by_cases h : n < 64 <;> simp [h, Scalar.select]

theorem pay104_at (a b : FVec Ideal S128x128 .f32) (j : Fin 256) (l : Fin 128) :
    k0_pay104 (F := Ideal) a b (ix2 j l) = winRow a b j ⟨l.val % 64, by omega⟩ := by
  pointwise [k0_pay104, pay101_at]
  rw [sel64 _ (by omega)]
  split <;> congr 1 <;> ext <;> simp <;> omega

theorem pay105_at (a b : FVec Ideal S128x128 .f32) (j : Fin 256) (l : Fin 128) :
    k0_pay105 (F := Ideal) a b (ix2 j l) = winRow a b j ⟨64 + l.val % 64, by omega⟩ := by
  pointwise [k0_pay105, pay101_at]
  rw [sel64 _ (by omega)]
  split <;> congr 1 <;> ext <;> simp <;> omega

theorem pay106_at (a b : FVec Ideal S128x128 .f32) (j : Fin 256) (l : Fin 128) :
    k0_pay106 (F := Ideal) a b (ix2 j l) = winRow a b j ⟨l.val % 64, by omega⟩ := by
  pointwise [k0_pay106, pay102_at]
  rw [sel64 _ (by omega)]
  split <;> congr 1 <;> ext <;> simp <;> omega

theorem pay109_at (a b : FVec Ideal S128x128 .f32) (j : Fin 256) (l : Fin 128) :
    k0_pay109 (F := Ideal) (k0_pay102 a b) (k0_pay107 a b) (iota .tc S256x128 32 [1] iota_S256x128_d1_w32) k0_pay108 (ix2 j l)
      = winRow a b j ⟨64 + l.val % 64, by omega⟩ := by
  pointwise [k0_pay109, k0_pay107, k0_pay108, pay102_at]
  rw [sel64 _ (by omega)]
  split <;> congr 1 <;> ext <;> simp <;> omega

theorem lane_or_zero (x : FVec Ideal S128x128 .f32) (i l : Fin 128) :
    select (k0_pay103) x (broadcast S128x128 (Scalar.ofBits (F := Ideal) .f32 0x00000000#32)) (ix2 i l) = if l.val / 64 = 0 then x (ix2 i l) else 0 := by
  pointwise [k0_pay103]
  rw [sel64 _ (by omega)]
  split <;> split <;> first | rfl | omega

theorem zero_or_lane (x : FVec Ideal S128x128 .f32) (i l : Fin 128) :
    select (k0_pay103) (broadcast S128x128 (Scalar.ofBits (F := Ideal) .f32 0x00000000#32)) x (ix2 i l) = if l.val / 64 = 1 then x (ix2 i l) else 0 := by
  pointwise [k0_pay103]
  rw [sel64 _ (by omega)]
  split <;> split <;> first | rfl | omega

theorem lane_or_lane (x y : FVec Ideal S128x128 .f32) (i l : Fin 128) :
    select (k0_pay103) x y (ix2 i l) = if l.val / 64 = 0 then x (ix2 i l) else y (ix2 i l) := by
  pointwise [k0_pay103]
  rw [sel64 _ (by omega)]
  split <;> split <;> first | rfl | omega

/-- Eight blocks of 128 rows, one below the other. -/
theorem rows8_at (a : Fin 8 → FVec Ideal S128x128 .f32) (k : Fin 8) (i l : Fin 128)
    (h : Shape.Concatenates [S128x128, S128x128, S128x128, S128x128, S128x128, S128x128, S128x128, S128x128] S1024x128 0) :
    concatenate S1024x128 0 [⟨S128x128, a 0⟩, ⟨S128x128, a 1⟩, ⟨S128x128, a 2⟩, ⟨S128x128, a 3⟩, ⟨S128x128, a 4⟩, ⟨S128x128, a 5⟩,
        ⟨S128x128, a 6⟩, ⟨S128x128, a 7⟩] h (ix2 ⟨k.val * 128 + i.val, by omega⟩ l) = a k (ix2 i l) := by
  pointwise
  repeat' split
  all_goals (congr 2 <;> (apply Fin.ext; (try simp only [Fin.isValue, Fin.val_ofNat, Nat.reduceMod]); omega))

/-- Eight tiles of 128 columns, side by side. -/
theorem cols8_at (a : Fin 8 → FVec Ideal S128x128 .f32) (k : Fin 8) (i l : Fin 128)
    (h : Shape.Concatenates [S128x128, S128x128, S128x128, S128x128, S128x128, S128x128, S128x128, S128x128] S128x1024 1) :
    concatenate S128x1024 1 [⟨S128x128, a 0⟩, ⟨S128x128, a 1⟩, ⟨S128x128, a 2⟩, ⟨S128x128, a 3⟩, ⟨S128x128, a 4⟩, ⟨S128x128, a 5⟩,
        ⟨S128x128, a 6⟩, ⟨S128x128, a 7⟩] h (ix2 i ⟨k.val * 128 + l.val, by omega⟩) = a k (ix2 i l) := by
  pointwise
  repeat' split
  all_goals (congr 2 <;> (apply Fin.ext; (try simp only [Fin.isValue, Fin.val_ofNat, Nat.reduceMod]); omega))
/-- The eight halves of four tiles of 128 lanes: half `k` is the low (`k` even) or the high (`k` odd) 64 lanes of tile `k / 2`. -/
def halves (T : Fin 4 → FVec Ideal S128x128 .f32) (r : Fin 1024) (l : Fin 128) : EReal :=
  if l.val / 64 = r.val / 128 % 2 then T ⟨r.val / 256, by omega⟩ (ix2 ⟨r.val % 128, by omega⟩ l) else 0

theorem halves_at (T : Fin 4 → FVec Ideal S128x128 .f32) (z : FVec Ideal S128x128 .f32) (r : Fin 1024) (l : Fin 128)
    (hz : z = broadcast S128x128 (Scalar.ofBits (F := Ideal) .f32 0x00000000#32))
    (h : Shape.Concatenates [S128x128, S128x128, S128x128, S128x128, S128x128, S128x128, S128x128, S128x128] S1024x128 0) :
    concatenate S1024x128 0 [⟨S128x128, select (k0_pay103) (T 0) z⟩, ⟨S128x128, select (k0_pay103) z (T 0)⟩,
      ⟨S128x128, select (k0_pay103) (T 1) z⟩, ⟨S128x128, select (k0_pay103) z (T 1)⟩,
      ⟨S128x128, select (k0_pay103) (T 2) z⟩, ⟨S128x128, select (k0_pay103) z (T 2)⟩,
      ⟨S128x128, select (k0_pay103) (T 3) z⟩, ⟨S128x128, select (k0_pay103) z (T 3)⟩] h (ix2 r l) = halves T r l := by
  subst hz
  obtain ⟨k, i, rfl⟩ : ∃ (k : Fin 8) (i : Fin 128), r = ⟨k.val * 128 + i.val, by omega⟩ :=
    ⟨⟨r.val / 128, by omega⟩, ⟨r.val % 128, by omega⟩, by apply Fin.ext; dsimp only; omega⟩
  refine (rows8_at ![select (k0_pay103) (T 0) _, select (k0_pay103) _ (T 0), select (k0_pay103) (T 1) _, select (k0_pay103) _ (T 1),
    select (k0_pay103) (T 2) _, select (k0_pay103) _ (T 2), select (k0_pay103) (T 3) _, select (k0_pay103) _ (T 3)] k i l h).trans ?_
  have hi : (k.val * 128 + i.val) % 128 = i.val := by omega
  have hk : (k.val * 128 + i.val) / 128 = k.val := by omega
  have hT : (k.val * 128 + i.val) / 256 = k.val / 2 := by omega
  simp only [halves, hi, hk, hT]
  fin_cases k <;> first | exact lane_or_zero _ i l | exact zero_or_lane _ i l

theorem halves_of (T : Fin 4 → FVec Ideal S128x128 .f32) (D : FVec Ideal S128x1024 .f32) (o : ℕ) (ho : o ≤ 512)
    (hT : ∀ (k : Fin 4) (i l : Fin 128), T k (ix2 i l) = D (ix2 i ⟨o + k.val * 128 + l.val, by omega⟩)) (r : Fin 1024) (l : Fin 128) :
    halves T r l = if l.val / 64 = r.val / 128 % 2 then D (ix2 ⟨r.val % 128, by omega⟩ ⟨o + r.val / 256 * 128 + l.val, by omega⟩) else 0 := by
  unfold halves
  rw [hT]

theorem pay156_at (D : FVec Ideal S128x1024 .f32) (r : Fin 1024) (l : Fin 128) :
    k0_pay156 (F := Ideal) k0_pay103 D (ix2 r l)
      = if l.val / 64 = r.val / 128 % 2 then D (ix2 ⟨r.val % 128, by omega⟩ ⟨512 + r.val / 256 * 128 + l.val, by omega⟩) else 0 := by
  let T : Fin 4 → FVec Ideal S128x128 .f32 := ![extractStridedSlice S128x128 ![0, 512] D slices_S128x1024_o0_512_S128x128,
      extractStridedSlice S128x128 ![0, 640] D slices_S128x1024_o0_640_S128x128,
      extractStridedSlice S128x128 ![0, 768] D slices_S128x1024_o0_768_S128x128,
      extractStridedSlice S128x128 ![0, 896] D slices_S128x1024_o0_896_S128x128]
  have hT (k : Fin 4) (i l : Fin 128) : T k (ix2 i l) = D (ix2 i ⟨512 + k.val * 128 + l.val, by omega⟩) := by
    fin_cases k
    · show extractStridedSlice S128x128 ![0, 512] D slices_S128x1024_o0_512_S128x128 (ix2 i l) = _
      pointwise
    · show extractStridedSlice S128x128 ![0, 640] D slices_S128x1024_o0_640_S128x128 (ix2 i l) = _
      pointwise
    · show extractStridedSlice S128x128 ![0, 768] D slices_S128x1024_o0_768_S128x128 (ix2 i l) = _
      pointwise
    · show extractStridedSlice S128x128 ![0, 896] D slices_S128x1024_o0_896_S128x128 (ix2 i l) = _
      pointwise
  exact (halves_at T _ r l rfl concatenates_S128x128_S128x128_S128x128_S128x128_S128x128_S128x128_S128x128_S128x128_S1024x128_d0).trans
    (halves_of T D 512 (by omega) hT r l)

theorem do0_at (v489 : FVec Ideal S128x1024 .f32) (v490 : FVec Ideal S1x1024 .f32) (v492 : FVec Ideal S128x1024 .f32) (v497 : FVec Ideal S128x1 .f32)
    (r : Fin 1024) (l : Fin 128) :
    k0_pay129 (F := Ideal) k0_pay103 (k0_pay120 v489 v490 v492 v497) (k0_pay121 k0_pay103 v489 v490 v492 v497)
        (k0_pay122 k0_pay103 v489 v490 v492 v497) (k0_pay123 k0_pay103 v489 v490 v492 v497) (k0_pay124 k0_pay103 v489 v490 v492 v497)
        (k0_pay125 k0_pay103 v489 v490 v492 v497) (k0_pay126 k0_pay103 v489 v490 v492 v497) (k0_pay127 k0_pay103 v489 v490 v492 v497) k0_pay128
        (ix2 r l)
      = if l.val / 64 = r.val / 128 % 2
        then k0_pay115 (F := Ideal) v489 v490 v492 v497 (ix2 ⟨r.val % 128, by omega⟩ ⟨0 + r.val / 256 * 128 + l.val, by omega⟩) else 0 := by
  let T : Fin 4 → FVec Ideal S128x128 .f32 :=
    ![k0_pay117 v489 v490 v492 v497, k0_pay118 v489 v490 v492 v497, k0_pay119 v489 v490 v492 v497, k0_pay120 v489 v490 v492 v497]
  have hT (k : Fin 4) (i l : Fin 128) : T k (ix2 i l) = k0_pay115 v489 v490 v492 v497 (ix2 i ⟨0 + k.val * 128 + l.val, by omega⟩) := by
    generalize hD : k0_pay115 v489 v490 v492 v497 = D
    fin_cases k
    · show k0_pay117 v489 v490 v492 v497 (ix2 i l) = _
      pointwise [k0_pay117]; rw [hD]
    · show k0_pay118 v489 v490 v492 v497 (ix2 i l) = _
      pointwise [k0_pay118]; rw [hD]
    · show k0_pay119 v489 v490 v492 v497 (ix2 i l) = _
      pointwise [k0_pay119]; rw [hD]
    · show k0_pay120 v489 v490 v492 v497 (ix2 i l) = _
      pointwise [k0_pay120]; rw [hD]
  exact (halves_at T _ r l rfl concatenates_S128x128_S128x128_S128x128_S128x128_S128x128_S128x128_S128x128_S128x128_S1024x128_d0).trans (halves_of T _ 0 (by omega) hT r l)

theorem pay130_at (q0 q1 q2 q3 : FVec Ideal S128x128 .f32) (r : Fin 1024) (l : Fin 128) :
    k0_pay130 (F := Ideal) k0_pay103 q0 q1 q2 q3 (ix2 r l) = halves ![q0, q1, q2, q3] r l :=
  halves_at ![q0, q1, q2, q3] _ r l rfl concatenates_S128x128_S128x128_S128x128_S128x128_S128x128_S128x128_S128x128_S128x128_S1024x128_d0

theorem pay157_at (q0 q1 q2 q3 : FVec Ideal S128x128 .f32) (r : Fin 1024) (l : Fin 128) :
    k0_pay157 (F := Ideal) k0_pay103 q0 q1 q2 q3 (ix2 r l) = halves ![q0, q1, q2, q3] r l :=
  halves_at ![q0, q1, q2, q3] _ r l rfl concatenates_S128x128_S128x128_S128x128_S128x128_S128x128_S128x128_S128x128_S128x128_S1024x128_d0

theorem prod_at (p : FVec Ideal S1x1x256x1024 .f32) (w : FVec Ideal S256x128 .bf16) (r : Fin 1024) (l : Fin 128) :
    matmul dot_S256x1024_S256x128_S1024x128_0_0_1_1_n_n none
        (truncf .bf16 (shapeCast S256x1024 p shapeCasts_S1x1x256x1024_S256x1024) bitsLt_bf16_f32) w (constant S1024x128 .f32 0x00000000#32) (ix2 r l)
      = ∑ j : Fin 256, p (ix4 0 0 j r) * w (ix2 j l) := by
  pointwise

/-- The two halves of a tile of 128 lanes, each from its own 128 rows of `M`. -/
def pairTile (M : FVec Ideal S1024x128 .f32) (t : Fin 4) (i l : Fin 128) : EReal :=
  M (ix2 ⟨(t.val * 2 + l.val / 64) * 128 + i.val, by omega⟩ l)

theorem pair_at (M : FVec Ideal S1024x128 .f32) (t : Fin 4) (i l : Fin 128) (a b : ℕ) (x y : FVec Ideal S128x128 .f32)
    (ha : a = t.val * 256) (hb : b = t.val * 256 + 128)
    (hx : ∀ i l : Fin 128, x (ix2 i l) = M (ix2 ⟨t.val * 256 + i.val, by omega⟩ l))
    (hy : ∀ i l : Fin 128, y (ix2 i l) = M (ix2 ⟨t.val * 256 + 128 + i.val, by omega⟩ l)) :
    select (k0_pay103) x y (ix2 i l) = pairTile M t i l := by
  rw [lane_or_lane, hx, hy, pairTile]
  split <;> congr 2 <;> (apply Fin.ext; dsimp only; omega)

theorem pay149_at (w : FVec Ideal S256x128 .bf16) (p dp : FVec Ideal S256x1024 .f32) (de : FVec Ideal S1x1024 .f32) (i l : Fin 128) :
    k0_pay151 (F := Ideal) (k0_pay149 k0_pay103 w p dp de) (ix2 i l) = pairTile (k0_pay148 w p dp de) 0 i l := by
  refine pair_at (k0_pay148 w p dp de) 0 i l 0 128 _ _ rfl rfl (fun i l => ?_) (fun i l => ?_) <;> pointwise

theorem pay152_at (w : FVec Ideal S256x128 .bf16) (p dp : FVec Ideal S256x1024 .f32) (de : FVec Ideal S1x1024 .f32) (i l : Fin 128) :
    k0_pay152 (F := Ideal) k0_pay103 (k0_pay148 w p dp de) (k0_pay150 w p dp de) (ix2 i l) = pairTile (k0_pay148 w p dp de) 1 i l := by
  refine pair_at (k0_pay148 w p dp de) 1 i l 256 384 _ _ rfl rfl (fun i l => ?_) (fun i l => ?_) <;> pointwise [k0_pay150]

theorem pay153_at (M : FVec Ideal S1024x128 .f32) (i l : Fin 128) :
    k0_pay153 (F := Ideal) k0_pay103 M (ix2 i l) = pairTile M 2 i l := by
  refine pair_at M 2 i l 512 640 _ _ rfl rfl (fun i l => ?_) (fun i l => ?_) <;> pointwise

theorem pay154_at (M : FVec Ideal S1024x128 .f32) (i l : Fin 128) :
    k0_pay154 (F := Ideal) k0_pay103 M (ix2 i l) = pairTile M 3 i l := by
  refine pair_at M 3 i l 768 896 _ _ rfl rfl (fun i l => ?_) (fun i l => ?_) <;> pointwise

theorem pay178_at (w : FVec Ideal S256x128 .bf16) (p dp : FVec Ideal S256x1024 .f32) (de : FVec Ideal S1x1024 .f32) (i l : Fin 128) :
    k0_pay178 (F := Ideal) (k0_pay175 k0_pay103 w p dp de) (ix2 i l) = pairTile (k0_pay174 w p dp de) 0 i l := by
  refine pair_at (k0_pay174 w p dp de) 0 i l 0 128 _ _ rfl rfl (fun i l => ?_) (fun i l => ?_) <;> pointwise

theorem pay179_at (w : FVec Ideal S256x128 .bf16) (p dp : FVec Ideal S256x1024 .f32) (de : FVec Ideal S1x1024 .f32) (i l : Fin 128) :
    k0_pay179 (F := Ideal) (k0_pay176 k0_pay103 w p dp de) (ix2 i l) = pairTile (k0_pay174 w p dp de) 1 i l := by
  refine pair_at (k0_pay174 w p dp de) 1 i l 256 384 _ _ rfl rfl (fun i l => ?_) (fun i l => ?_) <;> pointwise

theorem pay180_at (w : FVec Ideal S256x128 .bf16) (p dp : FVec Ideal S256x1024 .f32) (de : FVec Ideal S1x1024 .f32) (i l : Fin 128) :
    k0_pay180 (F := Ideal) k0_pay103 (k0_pay174 w p dp de) (k0_pay177 w p dp de) (ix2 i l) = pairTile (k0_pay174 w p dp de) 2 i l := by
  refine pair_at (k0_pay174 w p dp de) 2 i l 512 640 _ _ rfl rfl (fun i l => ?_) (fun i l => ?_) <;> pointwise [k0_pay177]

theorem pay181_at (M : FVec Ideal S1024x128 .f32) (i l : Fin 128) :
    k0_pay181 (F := Ideal) k0_pay103 M (ix2 i l) = pairTile M 3 i l := by
  refine pair_at M 3 i l 768 896 _ _ rfl rfl (fun i l => ?_) (fun i l => ?_) <;> pointwise

theorem pay110_at (w0 : FVec Ideal S256x128 .bf16) (v429 v451 : FVec Ideal S256x128 .f32) (v452 v453 : IVec S256x128 32)
    (p0 p1 : FVec Ideal S1x1x256x1024 .f32) (i : Fin 128) (c : Fin 1024) :
    k0_pay110 (F := Ideal) v429 k0_pay103 w0 v451 v452 v453 p0 p1 (ix2 i c)
      = if c.val < 512 then ∑ j : Fin 256, p0 (ix4 0 0 j ⟨c.val / 64 % 8 * 128 + i.val, by omega⟩) * w0 (ix2 j ⟨c.val % 128, by omega⟩)
        else ∑ j : Fin 256, p1 (ix4 0 0 j ⟨c.val / 64 % 8 * 128 + i.val, by omega⟩)
            * k0_pay109 (F := Ideal) v429 v451 v452 v453 (ix2 j ⟨c.val % 128, by omega⟩) := by
  obtain ⟨k, l, rfl⟩ : ∃ (k : Fin 8) (l : Fin 128), c = ⟨k.val * 128 + l.val, by omega⟩ :=
    ⟨⟨c.val / 128, by omega⟩, ⟨c.val % 128, by omega⟩, by apply Fin.ext; dsimp only; omega⟩
  unfold k0_pay110
  have e0 := prod_at p0 w0
  have e1 := prod_at p1 (k0_pay109 (F := Ideal) v429 v451 v452 v453)
  revert e0 e1
  generalize matmul dot_S256x1024_S256x128_S1024x128_0_0_1_1_n_n none
          (truncf .bf16 (shapeCast S256x1024 p0 shapeCasts_S1x1x256x1024_S256x1024) bitsLt_bf16_f32) w0 (constant (F := Ideal) S1024x128 .f32 0x00000000#32) = M0
  generalize matmul dot_S256x1024_S256x128_S1024x128_0_0_1_1_n_n none
          (truncf .bf16 (shapeCast S256x1024 p1 shapeCasts_S1x1x256x1024_S256x1024) bitsLt_bf16_f32) (k0_pay109 (F := Ideal) v429 v451 v452 v453) (constant (F := Ideal) S1024x128 .f32 0x00000000#32) = M1
  intro e0 e1
  have hT (M : FVec Ideal S1024x128 .f32) (t : Fin 4) (y : EReal) (hy : y = M (ix2 ⟨(t.val * 2 + l.val / 64) * 128 + i.val, by omega⟩ l)) : pairTile M t i l = y := hy.symm
  refine (cols8_at ![select (k0_pay103) (extractStridedSlice S128x128 ![0, 0] M0 slices_S1024x128_o0_0_S128x128) (extractStridedSlice S128x128 ![128, 0] M0 slices_S1024x128_o128_0_S128x128),
    select (k0_pay103) (extractStridedSlice S128x128 ![256, 0] M0 slices_S1024x128_o256_0_S128x128) (extractStridedSlice S128x128 ![384, 0] M0 slices_S1024x128_o384_0_S128x128),
    select (k0_pay103) (extractStridedSlice S128x128 ![512, 0] M0 slices_S1024x128_o512_0_S128x128) (extractStridedSlice S128x128 ![640, 0] M0 slices_S1024x128_o640_0_S128x128),
    select (k0_pay103) (extractStridedSlice S128x128 ![768, 0] M0 slices_S1024x128_o768_0_S128x128) (extractStridedSlice S128x128 ![896, 0] M0 slices_S1024x128_o896_0_S128x128),
    select (k0_pay103) (extractStridedSlice S128x128 ![0, 0] M1 slices_S1024x128_o0_0_S128x128) (extractStridedSlice S128x128 ![128, 0] M1 slices_S1024x128_o128_0_S128x128),
    select (k0_pay103) (extractStridedSlice S128x128 ![256, 0] M1 slices_S1024x128_o256_0_S128x128) (extractStridedSlice S128x128 ![384, 0] M1 slices_S1024x128_o384_0_S128x128),
    select (k0_pay103) (extractStridedSlice S128x128 ![512, 0] M1 slices_S1024x128_o512_0_S128x128) (extractStridedSlice S128x128 ![640, 0] M1 slices_S1024x128_o640_0_S128x128),
    select (k0_pay103) (extractStridedSlice S128x128 ![768, 0] M1 slices_S1024x128_o768_0_S128x128) (extractStridedSlice S128x128 ![896, 0] M1 slices_S1024x128_o896_0_S128x128)]
    k i l concatenates_S128x128_S128x128_S128x128_S128x128_S128x128_S128x128_S128x128_S128x128_S128x1024_d1).trans ?_
  refine Eq.trans (b := if k.val < 4 then pairTile M0 ⟨k.val % 4, by omega⟩ i l else pairTile M1 ⟨k.val % 4, by omega⟩ i l) ?_ ?_
  · fin_cases k
    · exact pair_at M0 0 i l 0 128 _ _ rfl rfl (fun i l => by pointwise) (fun i l => by pointwise)
    · exact pair_at M0 1 i l 256 384 _ _ rfl rfl (fun i l => by pointwise) (fun i l => by pointwise)
    · exact pair_at M0 2 i l 512 640 _ _ rfl rfl (fun i l => by pointwise) (fun i l => by pointwise)
    · exact pair_at M0 3 i l 768 896 _ _ rfl rfl (fun i l => by pointwise) (fun i l => by pointwise)
    · exact pair_at M1 0 i l 0 128 _ _ rfl rfl (fun i l => by pointwise) (fun i l => by pointwise)
    · exact pair_at M1 1 i l 256 384 _ _ rfl rfl (fun i l => by pointwise) (fun i l => by pointwise)
    · exact pair_at M1 2 i l 512 640 _ _ rfl rfl (fun i l => by pointwise) (fun i l => by pointwise)
    · exact pair_at M1 3 i l 768 896 _ _ rfl rfl (fun i l => by pointwise) (fun i l => by pointwise)
  · have h512 : (k.val * 128 + l.val < 512) = (k.val < 4) := by apply propext; omega
    simp only [h512]
    have hl : (k.val * 128 + l.val) % 128 = l.val := by omega
    have hr : (k.val * 128 + l.val) / 64 % 8 * 128 + i.val = (k.val % 4 * 2 + l.val / 64) * 128 + i.val := by omega
    simp only [hl, hr, pairTile, e0, e1]

/-! ### The gradient of the norm's input, and of its scale -/

theorem pay112_at (Y : FVec Ideal S128x1024 .f32) (v429 v451 : FVec Ideal S256x128 .f32) (w0 : FVec Ideal S256x128 .bf16) (v452 v453 : IVec S256x128 32)
    (p0 p1 : FVec Ideal S1x1x256x1024 .f32) (hY : k0_pay110 (F := Ideal) v429 k0_pay103 w0 v451 v452 v453 p0 p1 = Y) (i : Fin 128) :
    k0_pay112 (F := Ideal) v429 k0_pay103 w0 v451 v452 v453 p0 p1 (ix2 i 0)
      = Ideal.div (∑ c : Fin 1024, Y (ix2 i c) * Y (ix2 i c)) (Ideal.ofBits .f32 0x44800000#32) := by
  unfold k0_pay112
  rw [hY]
  pointwise

theorem pay115_at (Y DY : FVec Ideal S128x1024 .f32) (g : FVec Ideal S1x1024 .f32) (ms : FVec Ideal S128x1 .f32) (i : Fin 128) (c : Fin 1024) :
    k0_pay115 (F := Ideal) Y g DY ms (ix2 i c)
      = Ideal.rsqrt (ms (ix2 i 0) + Ideal.ofBits .f32 925353388#32) * (DY (ix2 i c) * g (ix2 0 c)
          - Y (ix2 i c) * Ideal.rsqrt (ms (ix2 i 0) + Ideal.ofBits .f32 925353388#32)
            * Ideal.div (∑ x : Fin 1024, DY (ix2 i x) * g (ix2 0 x)
                * (Y (ix2 i x) * Ideal.rsqrt (ms (ix2 i 0) + Ideal.ofBits .f32 925353388#32))) (Ideal.ofBits .f32 1149239296#32)) := by
  pointwise [k0_pay115, k0_pay114, k0_pay113]

theorem pay116_at (Y DY : FVec Ideal S128x1024 .f32) (o : FVec Ideal S1x1024 .f32) (ms : FVec Ideal S128x1 .f32) (c : Fin 1024) :
    k0_pay116 (F := Ideal) Y DY ms o (ix2 0 c)
      = o (ix2 0 c) + ∑ x : Fin 128, DY (ix2 x c) * (Y (ix2 x c) * Ideal.rsqrt (ms (ix2 x 0) + Ideal.ofBits .f32 925353388#32)) := by
  pointwise [k0_pay116, k0_pay114, k0_pay113]

end Mixer.Read

end
-- ==== Proof.Mixer.Read2.lean ====
/-
  The mixer-gradient kernel's products of the attention half, read at an index.
-/
module

public import proofs.«01_k».proof.Proof.Mixer.Read
public import Idealize.ShloMosaic.Lib.Pointwise

@[expose] public section

set_option maxRecDepth 16384

noncomputable section

namespace Mixer.Read

open Idealize.ShloMosaic Idealize.ShloMosaic.TcCoe Idealize.SL.Sem
open Cert.KernelIdeal Cert.KernelIdeal.Gen

variable (D : FVec Ideal S1024x128 .bf16) (P : FVec Ideal S1x1x256x1024 .f32)

theorem pay158_at (j : Fin 256) (r : Fin 1024) : k0_pay158 (F := Ideal) P (ix2 j r) = P (ix4 0 0 j r) := by
  pointwise [k0_pay158]

theorem pay159_at (j : Fin 256) (l : Fin 128) :
    k0_pay159 (F := Ideal) D P (ix2 j l) = ∑ r : Fin 1024, P (ix4 0 0 j r) * D (ix2 r l) := by
  pointwise [k0_pay159, k0_pay158]

theorem pay160_at (w : FVec Ideal S256x128 .bf16) (j : Fin 256) (r : Fin 1024) :
    k0_pay160 (F := Ideal) w D (ix2 j r) = ∑ l : Fin 128, w (ix2 j l) * D (ix2 r l) := by
  pointwise [k0_pay160]

theorem pay161_at (w : FVec Ideal S256x128 .bf16) (r : Fin 1024) :
    k0_pay161 (F := Ideal) w D P (ix2 0 r) = ∑ j : Fin 256, P (ix4 0 0 j r) * ∑ l : Fin 128, w (ix2 j l) * D (ix2 r l) := by
  pointwise [k0_pay161, k0_pay160, k0_pay158]

theorem pay162_at (w : FVec Ideal S256x128 .bf16) (r : Fin 1024) :
    k0_pay162 (F := Ideal) w D P (ix2 0 r)
      = (∑ j : Fin 256, P (ix4 0 0 j r) - Ideal.ofBits .f32 0x3F800000#32) * k0_pay161 (F := Ideal) w D P (ix2 0 r) := by
  pointwise [k0_pay162, k0_pay158]

section
variable (v432 : IVec S128x128 1) (v525 v527 v529 v531 v533 v535 v537 v539 v540 : FVec Ideal S128x128 .f32)
  (hD : k0_pay129 (F := Ideal) v432 v525 v527 v529 v531 v533 v535 v537 v539 v540 = D)
include hD

theorem pay132_eq : k0_pay132 (F := Ideal) v432 v525 v527 v529 v531 v533 v535 v537 v539 v540 P = k0_pay159 (F := Ideal) D P := by
  unfold k0_pay132; rw [hD]; rfl

theorem pay133_eq (w : FVec Ideal S256x128 .bf16) : k0_pay133 (F := Ideal) v432 w v525 v527 v529 v531 v533 v535 v537 v539 v540 = k0_pay160 (F := Ideal) w D := by
  unfold k0_pay133; rw [hD]; rfl

theorem pay134_eq (w : FVec Ideal S256x128 .bf16) : k0_pay134 (F := Ideal) v432 w v525 v527 v529 v531 v533 v535 v537 v539 v540 P = k0_pay161 (F := Ideal) w D P := by
  unfold k0_pay134; rw [pay133_eq D _ _ _ _ _ _ _ _ _ _ hD]; rfl

theorem pay136_eq (w : FVec Ideal S256x128 .bf16) :
    k0_pay136 (F := Ideal) (k0_pay134 (F := Ideal) v432 w v525 v527 v529 v531 v533 v535 v537 v539 v540 P) (k0_pay135 P) (Scalar.ofBits .f32 0x3F800000#32)
      = k0_pay162 (F := Ideal) w D P := by
  rw [pay134_eq D P _ _ _ _ _ _ _ _ _ _ hD]; rfl

end

/-- The sum over head `k`'s 128 rows. -/
def headSum (X : FVec Ideal S1x1024 .f32) (k : Fin 8) : EReal := ∑ x : Fin 128, X (ix2 0 ⟨k.val * 128 + x.val, by omega⟩)

section
variable (X d s : FVec Ideal S1x1024 .f32) (c1 : EReal) (o : FVec Ideal S1x1 .f32)

theorem pay137_at (hX : k0_pay136 (F := Ideal) d s c1 = X) : k0_pay137 (F := Ideal) d s c1 o (ix2 0 0) = o (ix2 0 0) + headSum X 0 := by
  unfold k0_pay137 headSum; rw [hX]; pointwise

theorem pay138_at (hX : k0_pay136 (F := Ideal) d s c1 = X) : k0_pay138 (F := Ideal) d s c1 o (ix2 0 0) = o (ix2 0 0) + headSum X 1 := by
  unfold k0_pay138 headSum; rw [hX]; pointwise

theorem pay139_at (hX : k0_pay136 (F := Ideal) d s c1 = X) : k0_pay139 (F := Ideal) d s c1 o (ix2 0 0) = o (ix2 0 0) + headSum X 2 := by
  unfold k0_pay139 headSum; rw [hX]; pointwise

theorem pay140_at (hX : k0_pay136 (F := Ideal) d s c1 = X) : k0_pay140 (F := Ideal) d s c1 o (ix2 0 0) = o (ix2 0 0) + headSum X 3 := by
  unfold k0_pay140 headSum; rw [hX]; pointwise

theorem pay143_at (hX : k0_pay136 (F := Ideal) d s c1 = X) :
    k0_pay143 (F := Ideal) (k0_pay141 o) (k0_pay142 d s c1) (ix2 0 0) = o (ix2 0 0) + headSum X 4 := by
  unfold k0_pay143 k0_pay141 k0_pay142 headSum; rw [hX]; pointwise

theorem pay144_at : k0_pay144 (F := Ideal) X o (ix2 0 0) = o (ix2 0 0) + headSum X 5 := by
  unfold headSum; pointwise [k0_pay144]

theorem pay145_at : k0_pay145 (F := Ideal) X o (ix2 0 0) = o (ix2 0 0) + headSum X 6 := by
  unfold headSum; pointwise [k0_pay145]

theorem pay146_at : k0_pay146 (F := Ideal) X o (ix2 0 0) = o (ix2 0 0) + headSum X 7 := by
  unfold headSum; pointwise [k0_pay146]

theorem pay163_at : k0_pay163 (F := Ideal) X o (ix2 0 0) = o (ix2 0 0) + headSum X 0 := by
  unfold headSum; pointwise [k0_pay163]

theorem pay164_at : k0_pay164 (F := Ideal) X o (ix2 0 0) = o (ix2 0 0) + headSum X 1 := by
  unfold headSum; pointwise [k0_pay164]

theorem pay165_at : k0_pay165 (F := Ideal) X o (ix2 0 0) = o (ix2 0 0) + headSum X 2 := by
  unfold headSum; pointwise [k0_pay165]

theorem pay166_at : k0_pay166 (F := Ideal) X o (ix2 0 0) = o (ix2 0 0) + headSum X 3 := by
  unfold headSum; pointwise [k0_pay166]

theorem pay170_at : k0_pay170 (F := Ideal) X o (ix2 0 0) = o (ix2 0 0) + headSum X 5 := by
  unfold headSum; pointwise [k0_pay170]

theorem pay171_at : k0_pay171 (F := Ideal) X o (ix2 0 0) = o (ix2 0 0) + headSum X 6 := by
  unfold headSum; pointwise [k0_pay171]

theorem pay172_at : k0_pay172 (F := Ideal) X o (ix2 0 0) = o (ix2 0 0) + headSum X 7 := by
  unfold headSum; pointwise [k0_pay172]

theorem pay169_at : k0_pay169 (F := Ideal) (k0_pay167 o) (k0_pay168 X) (ix2 0 0) = o (ix2 0 0) + headSum X 4 := by
  unfold headSum; pointwise [k0_pay169, k0_pay167, k0_pay168]

end

theorem pay173_at (p dp : FVec Ideal S256x1024 .f32) (d : FVec Ideal S1x1024 .f32) (j : Fin 256) (r : Fin 1024) :
    k0_pay173 (F := Ideal) p dp d (ix2 j r) = p (ix2 j r) * (dp (ix2 j r) - d (ix2 0 r)) * Ideal.ofBits .f32 0x3E000000#32 := by
  pointwise [k0_pay173]

theorem pay174_at (w : FVec Ideal S256x128 .bf16) (p dp : FVec Ideal S256x1024 .f32) (d : FVec Ideal S1x1024 .f32) (r : Fin 1024) (l : Fin 128) :
    k0_pay174 (F := Ideal) w p dp d (ix2 r l) = ∑ j : Fin 256, k0_pay173 (F := Ideal) p dp d (ix2 j r) * w (ix2 j l) := by
  unfold k0_pay174; generalize k0_pay173 (F := Ideal) p dp d = X; pointwise

theorem pay155_at (q : FVec Ideal S1024x128 .bf16) (ds : FVec Ideal S256x1024 .bf16) (j : Fin 256) (l : Fin 128) :
    k0_pay155 (F := Ideal) q ds (ix2 j l) = ∑ r : Fin 1024, ds (ix2 j r) * q (ix2 r l) := by
  pointwise [k0_pay155]

/-- A pair of head groups' key gradients folded: lane `l` and the lane 64 further round, of the first group below lane 64, of the second above. -/
def fold (A B : FVec Ideal S256x128 .f32) (j : Fin 256) (l : Fin 128) : EReal :=
  if l.val < 64 then A (ix2 j l) + A (ix2 j ⟨(l.val + 64) % 128, by omega⟩) else B (ix2 j l) + B (ix2 j ⟨(l.val + 64) % 128, by omega⟩)

theorem pay183_at (A B : FVec Ideal S256x128 .f32) (j : Fin 256) (l : Fin 128) : k0_pay183 (F := Ideal) A B (ix2 j l) = fold A B j l := by
  pointwise [k0_pay183, fold]
  rw [sel64 _ (by omega)]
  have h : (l.val + 128 - 64) % 128 = (l.val + 64) % 128 := by omega
  simp only [h]

theorem pay182_at (A : FVec Ideal S256x128 .f32) (q : FVec Ideal S1024x128 .bf16) (ds : FVec Ideal S256x1024 .bf16) (j : Fin 256) (l : Fin 128) :
    k0_pay182 (F := Ideal) A q ds (ix2 j l) = fold A (k0_pay155 q ds) j l := by
  exact pay183_at A (k0_pay155 q ds) j l

theorem pay184_at (A : FVec Ideal S256x128 .f32) (q : FVec Ideal S1024x128 .bf16) (ds : FVec Ideal S256x1024 .bf16) (o : FVec Ideal S128x128 .f32) (i l : Fin 128) :
    k0_pay184 (F := Ideal) A q ds o (ix2 i l) = fold A (k0_pay155 q ds) ⟨128 + i.val, by omega⟩ l + o (ix2 i l) := by
  rw [← pay182_at]; unfold k0_pay184; generalize k0_pay182 (F := Ideal) A q ds = X; pointwise

theorem pay1_at (A B : FVec Ideal S256x128 .f32) (o : FVec Ideal S128x128 .f32) (i l : Fin 128) :
    k0_pay1 (F := Ideal) (k0_pay185 A B) o (ix2 i l) = fold A B ⟨128 + i.val, by omega⟩ l + o (ix2 i l) := by
  rw [← pay183_at]; unfold k0_pay1 k0_pay185; generalize k0_pay183 (F := Ideal) A B = X; pointwise

theorem pay2_at (A : FVec Ideal S256x128 .f32) (q : FVec Ideal S1024x128 .bf16) (ds : FVec Ideal S256x1024 .bf16) (i l : Fin 128) :
    k0_pay2 (F := Ideal) (k0_pay182 A q ds) (ix2 i l) = fold A (k0_pay155 q ds) ⟨i.val, by omega⟩ l := by
  rw [← pay182_at]; generalize k0_pay182 (F := Ideal) A q ds = X; pointwise [k0_pay2]

theorem pay3_at (A B : FVec Ideal S256x128 .f32) (i l : Fin 128) :
    k0_pay3 (F := Ideal) (k0_pay183 A B) (ix2 i l) = fold A B ⟨i.val, by omega⟩ l := by
  rw [← pay183_at]; generalize k0_pay183 (F := Ideal) A B = X; pointwise [k0_pay3]

theorem pay4_at (i : Fin 128) (l : Fin 256) : k0_pay4 (F := Ideal) (ix2 i l) = 0 := by pointwise [k0_pay4]
theorem pay8_at (h : Fin 16) : k0_pay8 (F := Ideal) (ix2 0 h) = 0 := by pointwise [k0_pay8]
theorem pay10_at (c : Fin 1024) : k0_pay10 (F := Ideal) (ix2 0 c) = 0 := by pointwise [k0_pay10]

end Mixer.Read

end
-- ==== Proof.Mixer.Spec.lean ====
/-
  The gradient of one block of 128 queries of the banded attention and of the norm after it, as sums over the extended reals,
  and the two forms of each that a differentiated program can hold.
-/
module

public import Idealize.ShloMosaic.Lib.Pointwise
public import Idealize.ShloMosaic.Lib.IdealHost

@[expose] public section

noncomputable section

namespace Mixer.Spec

open Idealize.ShloMosaic

/-- The column of lane `d` of head `(kv, g)`. -/
def col (kv : Fin 2) (g : Fin 8) (d : Fin 64) : Fin 1024 := ⟨kv.val * 512 + g.val * 64 + d.val, by omega⟩
def ckv (c : Fin 1024) : Fin 2 := ⟨c.val / 512, by omega⟩
def cg (c : Fin 1024) : Fin 8 := ⟨c.val / 64 % 8, by omega⟩
def cd (c : Fin 1024) : Fin 64 := ⟨c.val % 64, by omega⟩

/-- What the gradient of a block's attention reads: the probabilities, the keys and values of its window, the queries, the
    gradient of the norm's result, and the norm's scale. -/
structure Blk where
  p : Fin 2 → Fin 8 → Fin 128 → Fin 256 → EReal
  k : Fin 2 → Fin 256 → Fin 64 → EReal
  v : Fin 2 → Fin 256 → Fin 64 → EReal
  q : Fin 128 → Fin 1024 → EReal
  dy : Fin 128 → Fin 1024 → EReal
  g : Fin 1024 → EReal

namespace Blk
variable (B : Blk)

/-- The attention's output. -/
def y (i : Fin 128) (c : Fin 1024) : EReal := ∑ j : Fin 256, B.p (ckv c) (cg c) i j * B.v (ckv c) j (cd c)
/-- The reciprocal root of the mean square. -/
def r (i : Fin 128) : EReal :=
  Ideal.rsqrt (Ideal.div (∑ c : Fin 1024, B.y i c * B.y i c) (Ideal.ofBits .f32 0x44800000#32) + Ideal.ofBits .f32 925353388#32)
/-- The gradient of the attention's output. -/
def gy (i : Fin 128) (c : Fin 1024) : EReal :=
  B.r i * (B.dy i c * B.g c - B.y i c * B.r i * Ideal.div (∑ x : Fin 1024, B.dy i x * B.g x * (B.y i x * B.r i)) (Ideal.ofBits .f32 0x44800000#32))
/-- The gradient of the norm's scale. -/
def dg (c : Fin 1024) : EReal := ∑ i : Fin 128, B.dy i c * (B.y i c * B.r i)
/-- The gradient of the probabilities. -/
def dp (kv : Fin 2) (g : Fin 8) (i : Fin 128) (j : Fin 256) : EReal := ∑ d : Fin 64, B.v kv j d * B.gy i (col kv g d)
def de (kv : Fin 2) (g : Fin 8) (i : Fin 128) : EReal := ∑ j : Fin 256, B.p kv g i j * B.dp kv g i j
/-- The gradient of the scores. -/
def ds (kv : Fin 2) (g : Fin 8) (i : Fin 128) (j : Fin 256) : EReal :=
  B.p kv g i j * (B.dp kv g i j - B.de kv g i) * Ideal.ofBits .f32 0x3E000000#32
/-- The gradient of a head's sink. -/
def dk₀ (kv : Fin 2) (g : Fin 8) : EReal := ∑ i : Fin 128, (∑ j : Fin 256, B.p kv g i j - 1) * B.de kv g i
def dq (i : Fin 128) (c : Fin 1024) : EReal := ∑ j : Fin 256, B.ds (ckv c) (cg c) i j * B.k (ckv c) j (cd c)
def dk (kv : Fin 2) (j : Fin 256) (d : Fin 64) : EReal := ∑ g : Fin 8, ∑ i : Fin 128, B.ds kv g i j * B.q i (col kv g d)
def dv (kv : Fin 2) (j : Fin 256) (d : Fin 64) : EReal := ∑ g : Fin 8, ∑ i : Fin 128, B.p kv g i j * B.gy i (col kv g d)

/-- The same block with other keys and values. -/
def withKV (k v : Fin 2 → Fin 256 → Fin 64 → EReal) : Blk := { B with k := k, v := v }

/-! Keys and values whose probability is zero do not matter. -/
section
variable (k v : Fin 2 → Fin 256 → Fin 64 → EReal)
  (h : ∀ kv j, (∀ g i, B.p kv g i j = 0) ∨ ((∀ d, B.k kv j d = k kv j d) ∧ ∀ d, B.v kv j d = v kv j d))
include h

theorem y_withKV : (B.withKV k v).y = B.y := by
  funext i c
  refine Finset.sum_congr rfl fun j _ => ?_
  rcases h (ckv c) j with h0 | ⟨_, h1⟩
  · show B.p _ _ _ _ * _ = _; rw [h0, zero_mul, zero_mul]
  · show B.p _ _ _ _ * v _ _ _ = _; rw [h1]

theorem r_withKV : (B.withKV k v).r = B.r := by
  funext i; unfold r; rw [B.y_withKV k v h]

theorem gy_withKV : (B.withKV k v).gy = B.gy := by
  funext i c; unfold gy; rw [B.y_withKV k v h, B.r_withKV k v h]; rfl

theorem dg_withKV : (B.withKV k v).dg = B.dg := by
  funext c; unfold dg; rw [B.y_withKV k v h, B.r_withKV k v h]; rfl

theorem pdp_withKV (kv : Fin 2) (g : Fin 8) (i : Fin 128) (j : Fin 256) :
    B.p kv g i j = 0 ∨ (B.withKV k v).dp kv g i j = B.dp kv g i j := by
  rcases h kv j with h0 | ⟨_, h1⟩
  · exact .inl (h0 g i)
  · right; unfold dp; rw [B.gy_withKV k v h]
    exact Finset.sum_congr rfl fun d _ => by rw [h1]; rfl

theorem de_withKV : (B.withKV k v).de = B.de := by
  funext kv g i
  refine Finset.sum_congr rfl fun j _ => ?_
  show B.p kv g i j * _ = _
  rcases B.pdp_withKV k v h kv g i j with h0 | h1
  · rw [h0, zero_mul, zero_mul]
  · rw [h1]

theorem ds_withKV : (B.withKV k v).ds = B.ds := by
  funext kv g i j
  unfold ds; rw [B.de_withKV k v h]
  show B.p kv g i j * _ * _ = _
  rcases B.pdp_withKV k v h kv g i j with h0 | h1
  · simp only [h0, zero_mul]
  · rw [h1]

theorem dk₀_withKV : (B.withKV k v).dk₀ = B.dk₀ := by
  funext kv g; unfold dk₀; rw [B.de_withKV k v h]; rfl

theorem dq_withKV : (B.withKV k v).dq = B.dq := by
  funext i c
  unfold dq; rw [B.ds_withKV k v h]
  refine Finset.sum_congr rfl fun j _ => ?_
  rcases h (ckv c) j with h0 | ⟨h1, _⟩
  · unfold ds; rw [h0, zero_mul, zero_mul, zero_mul, zero_mul]
  · show _ * k _ _ _ = _; rw [h1]

theorem dk_withKV : (B.withKV k v).dk = B.dk := by
  funext kv j d; unfold dk; rw [B.ds_withKV k v h]; rfl

theorem dv_withKV : (B.withKV k v).dv = B.dv := by
  funext kv j d; unfold dv; rw [B.gy_withKV k v h]; rfl

end
end Blk

/-! ### Sums over the extended reals -/

theorem sum_blocks (a b : ℕ) {N : ℕ} (hN : N = a * b) (f : Fin N → EReal) :
    ∑ r : Fin N, f r = ∑ x : Fin a, ∑ y : Fin b, f ⟨x.val * b + y.val, by
      subst hN; have := x.isLt; have := y.isLt; calc x.val * b + y.val < x.val * b + b := by omega
        _ = (x.val + 1) * b := by ring
        _ ≤ a * b := Nat.mul_le_mul_right _ (by omega)⟩ := by
  subst hN
  rw [← Fintype.sum_prod_type', ← finProdFinEquiv.sum_comp]
  refine Finset.sum_congr rfl fun x _ => congrArg f (Fin.ext ?_)
  simp only [finProdFinEquiv_apply_val]; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_real (c : ℝ) (hc : 0 ≤ c) {ι : Type} (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

theorem mul_sub_real (c : ℝ) (hc : 0 ≤ c) (a b : EReal) : (c : EReal) * (a - b) = (c : EReal) * a - (c : EReal) * b := by
  rw [sub_eq_add_neg, EReal.left_distrib_of_nonneg_of_ne_top (by exact_mod_cast hc) (EReal.coe_ne_top c), mul_neg, ← sub_eq_add_neg]

theorem half_add_half (x : EReal) : ((-(1 / 2) : ℝ) : EReal) * x + ((-(1 / 2) : ℝ) : EReal) * x = -x := by
  induction x with
  | bot => rw [EReal.coe_mul_bot_of_neg (by norm_num)]; rfl
  | top => rw [EReal.coe_mul_top_of_neg (by norm_num)]; rfl
  | coe x => norm_cast; ring

/-! ### The constants -/

theorem c1024 : Ideal.ofBits .f32 0x44800000#32 = ((1024 : ℝ) : EReal) := by
  simp [Ideal.ofBits, Ideal.ieee, -EReal.coe_mul]; norm_num
theorem c_half : Ideal.ofBits .f32 0xBF000000#32 = ((-(1 / 2) : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_eps : ∃ e : ℝ, 0 < e ∧ Ideal.ofBits .f32 925353388#32 = (e : EReal) := by
  refine ⟨(1 + 2606508 / 8388608) * 2 ^ (-17 : ℤ), by positivity, ?_⟩
  simp [Ideal.ofBits, Ideal.ieee, -EReal.coe_mul]; norm_num
theorem c_ninf : Ideal.ofBits .f32 0xFF800000#32 = ⊥ := by
  simp [Ideal.ofBits, Ideal.ieee]
theorem c_pinf : Ideal.ofBits .f32 0x7F800000#32 = ⊤ := by
  simp [Ideal.ofBits, Ideal.ieee]

theorem div_real (x : EReal) (c : ℝ) (hc : c ≠ 0) : Ideal.div x (c : EReal) = x * ((c⁻¹ : ℝ) : EReal) := by
  unfold Ideal.div
  rw [if_neg (by exact_mod_cast hc), EReal.coe_inv]

/-! ### The norm's gradient: as differentiated, and as the kernel holds it -/

theorem sq_nonneg' (x : EReal) : 0 ≤ x * x := by
  induction x with
  | bot => simp
  | top => simp
  | coe x => exact_mod_cast mul_self_nonneg x

theorem real_of_sum_sq {ι : Type} [Fintype ι] (y : ι → EReal) (h : ∑ c, y c * y c ≠ ⊤) (c : ι) : ∃ a : ℝ, y c = (a : EReal) := by
  have hle : y c * y c ≤ ∑ c, y c * y c := Finset.single_le_sum (f := fun c => y c * y c) (fun i _ => sq_nonneg' (y i)) (Finset.mem_univ c)
  have hc : y c * y c ≠ ⊤ := fun h' => h (top_le_iff.mp (h' ▸ hle))
  refine ⟨(y c).toReal, (EReal.coe_toReal ?_ ?_).symm⟩
  · intro h'; rw [h'] at hc; simp at hc
  · intro h'; rw [h'] at hc; simp at hc

/-- The norm's gradient by the chain rule: `d/dy` of `y · r(y)`, the mean square's part twice. -/
theorem norm_grad (y a : Fin 1024 → EReal) (c : Fin 1024) (V R : EReal)
    (hV : V = Ideal.div (∑ c : Fin 1024, y c * y c) (Ideal.ofBits .f32 0x44800000#32) + Ideal.ofBits .f32 925353388#32)
    (hR : R = Ideal.rsqrt V) (w : EReal)
    (hw : w = Ideal.div ((∑ x : Fin 1024, y x * a x) * (Ideal.ofBits .f32 0xBF000000#32 * Ideal.div R V)) (Ideal.ofBits .f32 0x44800000#32)) :
    a c * R + y c * w + w * y c
      = R * (a c - y c * R * Ideal.div (∑ x : Fin 1024, a x * (y x * R)) (Ideal.ofBits .f32 0x44800000#32)) := by
  obtain ⟨e, he, hE⟩ := c_eps
  rw [c1024, div_real _ _ (by norm_num), hE] at hV
  rw [c1024, div_real _ _ (by norm_num), c_half] at hw
  rw [c1024, div_real _ _ (by norm_num)]
  by_cases hT : ∑ c : Fin 1024, y c * y c = ⊤
  · rw [hT, EReal.top_mul_coe_of_pos (by norm_num), EReal.top_add_coe] at hV
    have hR0 : R = 0 := by rw [hR, hV]; rfl
    have hw0 : w = 0 := by
      rw [hw, hR0, hV]
      simp [Ideal.div]
    rw [hR0, hw0]; simp
  · choose b hb using real_of_sum_sq y hT
    have hs : ∑ c : Fin 1024, y c * y c = ((∑ c : Fin 1024, b c * b c : ℝ) : EReal) := by
      rw [coe_sum]
      exact Finset.sum_congr rfl fun c _ => by rw [hb, EReal.coe_mul]
    have hs0 : 0 ≤ ∑ c : Fin 1024, b c * b c := Finset.sum_nonneg fun c _ => mul_self_nonneg _
    rw [hs, ← EReal.coe_mul, ← EReal.coe_add] at hV
    set v : ℝ := (∑ c : Fin 1024, b c * b c) * (1024 : ℝ)⁻¹ + e with hv
    have hv0 : 0 < v := by positivity
    have hRr : R = (((Real.sqrt v)⁻¹ : ℝ) : EReal) := by
      rw [hR, hV]
      show (if v < 0 then (⊥ : EReal) else if v = 0 then ⊤ else (((Real.sqrt v)⁻¹ : ℝ) : EReal)) = _
      rw [if_neg (not_lt.mpr hv0.le), if_neg hv0.ne']
    set ρ : ℝ := (Real.sqrt v)⁻¹ with hρ
    have hρ0 : 0 ≤ ρ := by positivity
    have hρ2 : ρ * v⁻¹ = ρ * ρ * ρ := by
      have : ρ * ρ = v⁻¹ := by rw [hρ, ← mul_inv, Real.mul_self_sqrt hv0.le]
      rw [mul_assoc, this]
    set T : EReal := ∑ x : Fin 1024, y x * a x with hTdef
    have hsum : ∑ x : Fin 1024, a x * (y x * R) = (ρ : EReal) * T := by
      rw [hTdef, mul_sum_real _ hρ0, hRr]
      exact Finset.sum_congr rfl fun x _ => by ac_rfl
    rw [hsum, hRr, mul_sub_real _ hρ0]
    have hw' : w = ((-(1 / 2) : ℝ) : EReal) * (T * (((ρ * ρ * ρ : ℝ) : EReal) * (((1024 : ℝ)⁻¹ : ℝ) : EReal))) := by
      rw [hw, hRr, hV, div_real _ _ hv0.ne', ← EReal.coe_mul ρ, hρ2]; ac_rfl
    have e1 : y c * w = ((-(1 / 2) : ℝ) : EReal) * (y c * (T * (((ρ * ρ * ρ : ℝ) : EReal) * (((1024 : ℝ)⁻¹ : ℝ) : EReal)))) := by
      rw [hw']; ac_rfl
    have e2 : w * y c = ((-(1 / 2) : ℝ) : EReal) * (y c * (T * (((ρ * ρ * ρ : ℝ) : EReal) * (((1024 : ℝ)⁻¹ : ℝ) : EReal)))) := by
      rw [hw']; ac_rfl
    rw [e1, e2, add_assoc, half_add_half, ← sub_eq_add_neg]
    congr 1
    · ac_rfl
    · rw [EReal.coe_mul, EReal.coe_mul]; ac_rfl

/-! ### The softmax's gradient: as differentiated, and as the kernel holds it -/

/-- A score's gradient: what comes through the numerator and what comes through the sum. -/
theorem score_grad (S e : ℝ) (hS : 0 < S) (he : 0 ≤ e) (x D : EReal) :
    (Ideal.div x (S : EReal) + -((((S⁻¹ : ℝ) : EReal)) * D)) * (e : EReal) = Ideal.div (e : EReal) (S : EReal) * (x - D) := by
  rw [div_real _ _ hS.ne', div_real _ _ hS.ne', ← sub_eq_add_neg, mul_comm x, ← mul_sub_real _ (by positivity)]
  ac_rfl

end Mixer.Spec

end
-- ==== Proof.Mixer.Block.lean ====
/-
  The mixer-gradient kernel's expressions at one grid point are the block's gradient of Spec.lean.
-/
module

public import proofs.«01_k».proof.Proof.Mixer.Read2
public import proofs.«01_k».proof.Proof.Mixer.Spec

@[expose] public section

set_option maxRecDepth 16384

noncomputable section

namespace Mixer.Block

open Idealize.ShloMosaic Idealize.ShloMosaic.TcCoe Idealize.SL.Sem
open Cert.KernelIdeal Cert.KernelIdeal.Gen Mixer.Read Mixer.Spec

/-- Row of query `i` of head `g` in a group of eight heads. -/
def row (g : Fin 8) (i : Fin 128) : Fin 1024 := ⟨g.val * 128 + i.val, by omega⟩
/-- The lane within its half of 64. -/
def lane (l : Fin 128) : Fin 64 := ⟨l.val % 64, by omega⟩

theorem c_one : Ideal.ofBits .f32 0x3F800000#32 = 1 := by
  simp [Ideal.ofBits, Ideal.ieee, -EReal.coe_mul]; norm_num

/-- What the kernel's operands of one group of eight heads are, of block `B`. -/
structure Reads (B : Blk) (kv : Fin 2) (P : FVec Ideal S1x1x256x1024 .f32) (w k : FVec Ideal S256x128 .bf16) (D Q : FVec Ideal S1024x128 .bf16) : Prop where
  p : ∀ g i j, P (ix4 0 0 j (row g i)) = B.p kv g i j
  v : ∀ j l, w (ix2 j l) = B.v kv j (lane l)
  k : ∀ j l, k (ix2 j l) = B.k kv j (lane l)
  gy : ∀ (g : Fin 8) i l, D (ix2 (row g i) l) = if l.val / 64 = g.val % 2 then B.gy i (col kv g (lane l)) else 0
  q : ∀ (g : Fin 8) i l, Q (ix2 (row g i) l) = if l.val / 64 = g.val % 2 then B.q i (col kv g (lane l)) else 0

theorem sum_half (h : ℕ) (hh : h < 2) (f : Fin 128 → EReal) (G : Fin 64 → EReal) :
    ∑ l : Fin 128, f l * (if l.val / 64 = h then G (lane l) else 0) = ∑ d : Fin 64, f ⟨h * 64 + d.val, by omega⟩ * G d := by
  have hl (x : Fin 2) (d : Fin 64) : lane ⟨x.val * 64 + d.val, by omega⟩ = d := Fin.ext (by simp only [lane]; omega)
  have hd (x : Fin 2) (d : Fin 64) : (x.val * 64 + d.val) / 64 = x.val := by omega
  rw [sum_blocks 2 64 rfl]
  simp only [hl, hd]
  rw [Fin.sum_univ_two]
  rcases (by omega : h = 0 ∨ h = 1) with rfl | rfl <;> simp

/-- Rows in halves of the lanes, contracted and folded over the two halves. -/
theorem fold_half (X : FVec Ideal S256x1024 .f32) (A : FVec Ideal S256x128 .f32) (D : FVec Ideal S1024x128 .bf16) (G : Fin 8 → Fin 128 → Fin 64 → EReal)
    (hA : ∀ j l, A (ix2 j l) = ∑ r : Fin 1024, X (ix2 j r) * D (ix2 r l))
    (hD : ∀ (g : Fin 8) i l, D (ix2 (row g i) l) = if l.val / 64 = g.val % 2 then G g i (lane l) else 0) (j : Fin 256) (l : Fin 128) :
    A (ix2 j l) + A (ix2 j ⟨(l.val + 64) % 128, by omega⟩) = ∑ g : Fin 8, ∑ i : Fin 128, X (ix2 j (row g i)) * G g i (lane l) := by
  rw [hA, hA, ← Finset.sum_add_distrib, sum_blocks 8 128 rfl]
  refine Finset.sum_congr rfl fun g _ => Finset.sum_congr rfl fun i _ => ?_
  show X (ix2 j (row g i)) * D (ix2 (row g i) l) + X (ix2 j (row g i)) * D (ix2 (row g i) _) = _
  have hl : lane ⟨(l.val + 64) % 128, by omega⟩ = lane l := Fin.ext (by simp only [lane]; omega)
  rw [hD, hD, hl]
  dsimp only
  by_cases h : l.val / 64 = g.val % 2
  · rw [if_pos h, if_neg (by omega), mul_zero, add_zero]
  · rw [if_neg h, if_pos (by omega), mul_zero, zero_add]

section
variable {B : Blk} {kv : Fin 2} {P : FVec Ideal S1x1x256x1024 .f32} {w k : FVec Ideal S256x128 .bf16} {D Q : FVec Ideal S1024x128 .bf16}
  (R : Reads B kv P w k D Q)
include R

theorem dp_at (j : Fin 256) (g : Fin 8) (i : Fin 128) : k0_pay160 (F := Ideal) w D (ix2 j (row g i)) = B.dp kv g i j := by
  rw [pay160_at]
  simp only [R.gy]
  rw [sum_half (g.val % 2) (by omega) (fun l => w (ix2 j l)) (fun d => B.gy i (col kv g d))]
  refine Finset.sum_congr rfl fun d _ => ?_
  rw [R.v]
  congr 2
  exact Fin.ext (by simp only [lane]; omega)

theorem de_at (g : Fin 8) (i : Fin 128) : k0_pay161 (F := Ideal) w D P (ix2 0 (row g i)) = B.de kv g i := by
  rw [pay161_at]
  refine Finset.sum_congr rfl fun j _ => ?_
  rw [← pay160_at, dp_at R, R.p]

theorem sink_at (g : Fin 8) : headSum (k0_pay162 (F := Ideal) w D P) g = B.dk₀ kv g := by
  refine Finset.sum_congr rfl fun i _ => ?_
  show k0_pay162 (F := Ideal) w D P (ix2 0 (row g i)) = _
  rw [pay162_at, de_at R, c_one]
  simp only [R.p]

/-- The gradient of a group's scores. -/
def scores (P : FVec Ideal S1x1x256x1024 .f32) (w : FVec Ideal S256x128 .bf16) (D : FVec Ideal S1024x128 .bf16) : FVec Ideal S256x1024 .bf16 :=
  k0_pay173 (F := Ideal) (k0_pay158 P) (k0_pay160 w D) (k0_pay161 w D P)

theorem ds_at (j : Fin 256) (g : Fin 8) (i : Fin 128) : scores P w D (ix2 j (row g i)) = B.ds kv g i j := by
  unfold scores
  rw [pay173_at, pay158_at, dp_at R, de_at R, R.p]; rfl

theorem dq_at (t : Fin 4) (i l : Fin 128) :
    pairTile (k0_pay174 (F := Ideal) k (k0_pay158 P) (k0_pay160 w D) (k0_pay161 w D P)) t i l
      = B.dq i ⟨kv.val * 512 + t.val * 128 + l.val, by omega⟩ := by
  have hc : ⟨kv.val * 512 + t.val * 128 + l.val, by omega⟩ = col kv ⟨t.val * 2 + l.val / 64, by omega⟩ (lane l) :=
    Fin.ext (by simp only [col, lane]; omega)
  show k0_pay174 (F := Ideal) k _ _ _ (ix2 (row ⟨t.val * 2 + l.val / 64, by omega⟩ i) l) = _
  rw [pay174_at, hc]
  refine Finset.sum_congr rfl fun j _ => ?_
  rw [show k0_pay173 (F := Ideal) (k0_pay158 P) (k0_pay160 w D) (k0_pay161 w D P) = scores P w D from rfl, ds_at R, R.k]
  congr 2 <;> first | rfl | (apply Fin.ext; simp only [ckv, cg, cd, col, lane]; omega) | skip

theorem dk_at (j : Fin 256) (l : Fin 128) :
    k0_pay155 (F := Ideal) Q (scores P w D) (ix2 j l) + k0_pay155 (F := Ideal) Q (scores P w D) (ix2 j ⟨(l.val + 64) % 128, by omega⟩) = B.dk kv j (lane l) := by
  rw [fold_half (scores P w D) _ Q (fun g i d => B.q i (col kv g d)) (fun j l => pay155_at Q (scores P w D) j l) R.q]
  simp only [ds_at R]; rfl

theorem dv_at (j : Fin 256) (l : Fin 128) :
    k0_pay159 (F := Ideal) D P (ix2 j l) + k0_pay159 (F := Ideal) D P (ix2 j ⟨(l.val + 64) % 128, by omega⟩) = B.dv kv j (lane l) := by
  rw [fold_half (k0_pay158 P) _ D (fun g i d => B.gy i (col kv g d)) (fun j l => by rw [pay159_at]; simp only [pay158_at]) R.gy]
  simp only [pay158_at, R.p]; rfl

end

/-- Both groups' key gradients, folded. -/
theorem fold_dk {B : Blk} {P0 P1 : FVec Ideal S1x1x256x1024 .f32} {w0 w1 k0 k1 : FVec Ideal S256x128 .bf16} {D0 D1 Q0 Q1 : FVec Ideal S1024x128 .bf16}
    (R0 : Reads B 0 P0 w0 k0 D0 Q0) (R1 : Reads B 1 P1 w1 k1 D1 Q1) (j : Fin 256) (l : Fin 128) :
    fold (k0_pay155 (F := Ideal) Q0 (scores P0 w0 D0)) (k0_pay155 (F := Ideal) Q1 (scores P1 w1 D1)) j l
      = B.dk ⟨l.val / 64, by omega⟩ j (lane l) := by
  unfold fold
  by_cases h : l.val < 64
  · rw [if_pos h, dk_at R0]; congr 1; exact Fin.ext (show 0 = l.val / 64 by omega)
  · rw [if_neg h, dk_at R1]; congr 1; exact Fin.ext (show 1 = l.val / 64 by omega)

theorem fold_dv {B : Blk} {P0 P1 : FVec Ideal S1x1x256x1024 .f32} {w0 w1 k0 k1 : FVec Ideal S256x128 .bf16} {D0 D1 Q0 Q1 : FVec Ideal S1024x128 .bf16}
    (R0 : Reads B 0 P0 w0 k0 D0 Q0) (R1 : Reads B 1 P1 w1 k1 D1 Q1) (j : Fin 256) (l : Fin 128) :
    fold (k0_pay159 (F := Ideal) D0 P0) (k0_pay159 (F := Ideal) D1 P1) j l = B.dv ⟨l.val / 64, by omega⟩ j (lane l) := by
  unfold fold
  by_cases h : l.val < 64
  · rw [if_pos h, dv_at R0]; congr 1; exact Fin.ext (show 0 = l.val / 64 by omega)
  · rw [if_neg h, dv_at R1]; congr 1; exact Fin.ext (show 1 = l.val / 64 by omega)

/-! ### The operands of one grid point -/

section
variable (ak bk av bv : FVec Ideal S128x128 .f32) (P0 P1 : FVec Ideal S1x1x256x1024 .f32) (q : Fin 8 → FVec Ideal S128x128 .f32)
  (DY : FVec Ideal S128x1024 .f32) (g : FVec Ideal S1x1024 .f32)

/-- The block one grid point reads. -/
def blk : Blk where
  p kv gi i j := (if kv.val = 0 then P0 else P1) (ix4 0 0 j (row gi i))
  k kv j d := winRow ak bk j ⟨kv.val * 64 + d.val, by omega⟩
  v kv j d := winRow av bv j ⟨kv.val * 64 + d.val, by omega⟩
  q i c := q ⟨c.val / 128, by omega⟩ (ix2 i ⟨c.val % 128, by omega⟩)
  dy i c := DY (ix2 i c)
  g c := g (ix2 0 c)

/-- The attention's output of one grid point. -/
def out : FVec Ideal S128x1024 .f32 :=
  k0_pay110 (F := Ideal) (k0_pay102 av bv) k0_pay103 (k0_pay106 av bv) (k0_pay107 av bv) (iota .tc S256x128 32 [1] iota_S256x128_d1_w32) k0_pay108 P0 P1

/-- Its mean square. -/
def msq : FVec Ideal S128x1 .f32 :=
  k0_pay112 (F := Ideal) (k0_pay102 av bv) k0_pay103 (k0_pay106 av bv) (k0_pay107 av bv) (iota .tc S256x128 32 [1] iota_S256x128_d1_w32) k0_pay108 P0 P1

/-- Its gradient. -/
def gout : FVec Ideal S128x1024 .f32 := k0_pay115 (F := Ideal) (out av bv P0 P1) g DY (msq av bv P0 P1)

theorem out_at (i : Fin 128) (c : Fin 1024) : out av bv P0 P1 (ix2 i c) = (blk ak bk av bv P0 P1 q DY g).y i c := by
  unfold out Blk.y
  rw [pay110_at]
  by_cases h : c.val < 512
  · rw [if_pos h]
    refine Finset.sum_congr rfl fun j _ => ?_
    rw [pay106_at]
    show _ = (if (ckv c).val = 0 then P0 else P1) _ * winRow av bv j _
    rw [if_pos (show (ckv c).val = 0 by show c.val / 512 = 0; omega)]
    congr 2
    apply Fin.ext; show c.val % 128 % 64 = c.val / 512 * 64 + c.val % 64; omega
  · rw [if_neg h]
    refine Finset.sum_congr rfl fun j _ => ?_
    rw [pay109_at]
    show _ = (if (ckv c).val = 0 then P0 else P1) _ * winRow av bv j _
    rw [if_neg (show ¬ (ckv c).val = 0 by show ¬ c.val / 512 = 0; omega)]
    congr 2
    apply Fin.ext; show 64 + c.val % 128 % 64 = c.val / 512 * 64 + c.val % 64; omega

theorem msq_at (i : Fin 128) :
    Ideal.rsqrt (msq av bv P0 P1 (ix2 i 0) + Ideal.ofBits .f32 925353388#32) = (blk ak bk av bv P0 P1 q DY g).r i := by
  unfold msq Blk.r
  rw [pay112_at (out av bv P0 P1) _ _ _ _ _ _ _ rfl]
  simp only [out_at ak bk av bv P0 P1 q DY g]

theorem gout_at (i : Fin 128) (c : Fin 1024) : gout av bv P0 P1 DY g (ix2 i c) = (blk ak bk av bv P0 P1 q DY g).gy i c := by
  unfold gout Blk.gy
  rw [pay115_at]
  simp only [msq_at ak bk av bv P0 P1 q DY g, out_at ak bk av bv P0 P1 q DY g]; rfl

theorem dg_at (o : FVec Ideal S1x1024 .f32) (c : Fin 1024) :
    k0_pay116 (F := Ideal) (out av bv P0 P1) DY (msq av bv P0 P1) o (ix2 0 c) = o (ix2 0 c) + (blk ak bk av bv P0 P1 q DY g).dg c := by
  rw [pay116_at]
  simp only [msq_at ak bk av bv P0 P1 q DY g, out_at ak bk av bv P0 P1 q DY g]; rfl

theorem reads0 (D : FVec Ideal S1024x128 .bf16)
    (hD : ∀ (r : Fin 1024) (l : Fin 128), D (ix2 r l) = if l.val / 64 = r.val / 128 % 2
        then gout av bv P0 P1 DY g (ix2 ⟨r.val % 128, by omega⟩ ⟨0 + r.val / 256 * 128 + l.val, by omega⟩) else 0) :
    Reads (blk ak bk av bv P0 P1 q DY g) 0 P0 (k0_pay106 av bv) (k0_pay104 ak bk) D (k0_pay130 k0_pay103 (q 0) (q 1) (q 2) (q 3)) where
  p _ _ _ := rfl
  v j l := by rw [pay106_at]; congr 1; apply Fin.ext; show l.val % 64 = 0 * 64 + l.val % 64; omega
  k j l := by rw [pay104_at]; congr 1; apply Fin.ext; show l.val % 64 = 0 * 64 + l.val % 64; omega
  gy gi i l := by
    rw [hD]
    have h1 : (row gi i).val / 128 % 2 = gi.val % 2 := by simp only [row]; omega
    rw [h1, gout_at ak bk av bv P0 P1 q DY g]
    split
    · congr 1 <;> (apply Fin.ext; simp only [row, col, lane, Fin.isValue, Fin.val_zero]; omega)
    · rfl
  q gi i l := by
    rw [pay130_at]
    unfold halves
    have h1 : (row gi i).val / 128 % 2 = gi.val % 2 := by simp only [row]; omega
    rw [h1]
    split
    · next h =>
      have h2 : (⟨(row gi i).val % 128, by omega⟩ : Fin 128) = i := Fin.ext (by simp only [row]; omega)
      rw [h2]
      show _ = q ⟨(col 0 gi (lane l)).val / 128, _⟩ (ix2 i ⟨(col 0 gi (lane l)).val % 128, _⟩)
      have h3 : (⟨(col 0 gi (lane l)).val % 128, by omega⟩ : Fin 128) = l := Fin.ext (by simp only [col, lane, Fin.isValue, Fin.val_zero]; omega)
      rw [h3]
      have h4 : (⟨(col 0 gi (lane l)).val / 128, by omega⟩ : Fin 8) = ⟨gi.val / 2, by omega⟩ := Fin.ext (by simp only [col, lane, Fin.isValue, Fin.val_zero]; omega)
      have h5 : (⟨(row gi i).val / 256, by omega⟩ : Fin 4) = ⟨gi.val / 2, by omega⟩ := Fin.ext (by simp only [row]; omega)
      rw [h4, h5]
      fin_cases gi <;> rfl
    · rfl

theorem reads1 :
    Reads (blk ak bk av bv P0 P1 q DY g) 1 P1 (k0_pay109 (k0_pay102 av bv) (k0_pay107 av bv) (iota .tc S256x128 32 [1] iota_S256x128_d1_w32) k0_pay108)
      (k0_pay105 ak bk) (k0_pay156 k0_pay103 (gout av bv P0 P1 DY g)) (k0_pay157 k0_pay103 (q 4) (q 5) (q 6) (q 7)) where
  p _ _ _ := rfl
  v j l := by rw [pay109_at]; congr 1
  k j l := by rw [pay105_at]; congr 1
  gy gi i l := by
    rw [pay156_at]
    have h1 : (row gi i).val / 128 % 2 = gi.val % 2 := by simp only [row]; omega
    rw [h1, gout_at ak bk av bv P0 P1 q DY g]
    split
    · congr 1 <;> (apply Fin.ext; simp only [row, col, lane, Fin.isValue, Fin.val_one]; omega)
    · rfl
  q gi i l := by
    rw [pay157_at]
    unfold halves
    have h1 : (row gi i).val / 128 % 2 = gi.val % 2 := by simp only [row]; omega
    rw [h1]
    split
    · next h =>
      have h2 : (⟨(row gi i).val % 128, by omega⟩ : Fin 128) = i := Fin.ext (by simp only [row]; omega)
      rw [h2]
      show _ = q ⟨(col 1 gi (lane l)).val / 128, _⟩ (ix2 i ⟨(col 1 gi (lane l)).val % 128, _⟩)
      have h3 : (⟨(col 1 gi (lane l)).val % 128, by omega⟩ : Fin 128) = l := Fin.ext (by simp only [col, lane, Fin.isValue, Fin.val_one]; omega)
      rw [h3]
      have h4 : (⟨(col 1 gi (lane l)).val / 128, by omega⟩ : Fin 8) = ⟨4 + gi.val / 2, by omega⟩ := Fin.ext (by simp only [col, lane, Fin.isValue, Fin.val_one]; omega)
      have h5 : (⟨(row gi i).val / 256, by omega⟩ : Fin 4) = ⟨gi.val / 2, by omega⟩ := Fin.ext (by simp only [row]; omega)
      rw [h4, h5]
      fin_cases gi <;> rfl
    · rfl

end

end Mixer.Block

end
-- ==== Proof.Mixer.Point.lean ====
/-
  The mixer-gradient kernel's arrays: what each grid point leaves, in terms of the argument arrays.
-/
module

public import proofs.«01_k».proof.Proof.Mixer.Run
public import proofs.«01_k».proof.Proof.Mixer.Block
public import Idealize.ShloMosaic.Lib.Pipeline.ValueKit
public import Idealize.ShloMosaic.Lib.Pipeline.ReadBack

@[expose] public section

set_option maxRecDepth 16384

noncomputable section

namespace Mixer.Point

open Idealize.ShloMosaic Idealize.ShloMosaic.TcCoe Idealize.SL.Sem
open Idealize.ShloMosaic.Pipeline (Dat)
open Cert.KernelIdeal Cert.KernelIdeal.Gen Mixer.Run Mixer.Spec Mixer.Block

variable (m : (ℓ : Loc nD τ sig) → Buf (Elt Ideal) ℓ)

/-- Block `n` of the arrays. -/
def kblk (X0 : FVec Ideal S8192x3328 .f32) (X1 : FVec Ideal S8192x2048 .bf16) (P : FVec Ideal S64x2x256x1024 .f32) (X7 : FVec Ideal S1x1024 .f32) (n : Fin 64) : Blk where
  p kv g i j := P (ix4 n kv j (row g i))
  k kv j d := if j.val < 128 then X0 (ix2 ⟨(n.val - 1) * 128 + j.val % 128, by omega⟩ ⟨3072 + (kv.val * 64 + d.val), by omega⟩)
    else X0 (ix2 ⟨n.val * 128 + j.val % 128, by omega⟩ ⟨3072 + (kv.val * 64 + d.val), by omega⟩)
  v kv j d := if j.val < 128 then X0 (ix2 ⟨(n.val - 1) * 128 + j.val % 128, by omega⟩ ⟨3200 + (kv.val * 64 + d.val), by omega⟩)
    else X0 (ix2 ⟨n.val * 128 + j.val % 128, by omega⟩ ⟨3200 + (kv.val * 64 + d.val), by omega⟩)
  q i c := X0 (ix2 ⟨n.val * 128 + i.val, by omega⟩ ⟨2048 + c.val, by omega⟩)
  dy i c := X1 (ix2 ⟨n.val * 128 + i.val, by omega⟩ ⟨1024 + c.val, by omega⟩)
  g c := X7 (ix2 0 c)

theorem idx : ∀ t : Fin cfg0.N, win0_0.index t = ![63 - t.val, 0] ∧ win0_1.index t = ![62 - t.val, 12] ∧ win0_2.index t = ![63 - t.val, 0]
    ∧ win0_3.index t = ![63 - t.val, 0, 0, 0] ∧ win0_8.index t = ![0, 0] ∧ win0_9.index t = ![63 - t.val, 0] :=
  (by decide +kernel : ∀ t : Fin grid0.N, _)

/-! The two groups' operands. -/
section
variable (ak bk av bv : FVec Ideal S128x128 .f32) (P0 P1 : FVec Ideal S1x1x256x1024 .f32) (q : Fin 8 → FVec Ideal S128x128 .f32)
  (DY : FVec Ideal S128x1024 .f32) (g : FVec Ideal S1x1024 .f32)

def D0 : FVec Ideal S1024x128 .bf16 :=
  k0_pay129 (F := Ideal) k0_pay103 (k0_pay120 (out av bv P0 P1) g DY (msq av bv P0 P1)) (k0_pay121 k0_pay103 (out av bv P0 P1) g DY (msq av bv P0 P1))
    (k0_pay122 k0_pay103 (out av bv P0 P1) g DY (msq av bv P0 P1)) (k0_pay123 k0_pay103 (out av bv P0 P1) g DY (msq av bv P0 P1))
    (k0_pay124 k0_pay103 (out av bv P0 P1) g DY (msq av bv P0 P1)) (k0_pay125 k0_pay103 (out av bv P0 P1) g DY (msq av bv P0 P1))
    (k0_pay126 k0_pay103 (out av bv P0 P1) g DY (msq av bv P0 P1)) (k0_pay127 k0_pay103 (out av bv P0 P1) g DY (msq av bv P0 P1)) k0_pay128

theorem R0 : Reads (blk ak bk av bv P0 P1 q DY g) 0 P0 (k0_pay106 av bv) (k0_pay104 ak bk) (D0 av bv P0 P1 DY g)
    (k0_pay130 k0_pay103 (q 0) (q 1) (q 2) (q 3)) :=
  reads0 ak bk av bv P0 P1 q DY g _ (Mixer.Read.do0_at _ _ _ _)

end

section
variable (c : Dev nD) (t : Fin cfg0.N)

/-! The tiles point `t` loads. -/
def tak : FVec Ideal S128x128 .f32 := View.ld (Val := Elt Ideal) (iblk m c 1 t) (Rect.unit (s := S128x256) ![0, 0] ![128, 128] inb_S128x256_S128x128_0_0)
def tav : FVec Ideal S128x128 .f32 := View.ld (Val := Elt Ideal) (iblk m c 1 t) (Rect.unit (s := S128x256) ![0, 128] ![128, 128] inb_S128x256_S128x128_0_128)
def tbk : FVec Ideal S128x128 .f32 := View.ld (Val := Elt Ideal) (iblk m c 0 t) (Rect.unit (s := S128x3328) ![0, 3072] ![128, 128] inb_S128x3328_S128x128_0_3072)
def tbv : FVec Ideal S128x128 .f32 := View.ld (Val := Elt Ideal) (iblk m c 0 t) (Rect.unit (s := S128x3328) ![0, 3200] ![128, 128] inb_S128x3328_S128x128_0_3200)
def tP0 : FVec Ideal S1x1x256x1024 .f32 := View.ld (Val := Elt Ideal) (iblk m c 3 t) (Rect.unit (s := S1x2x256x1024) ![0, 0, 0, 0] ![1, 1, 256, 1024] inb_S1x2x256x1024_S1x1x256x1024_0_0_0_0)
def tP1 : FVec Ideal S1x1x256x1024 .f32 := View.ld (Val := Elt Ideal) (iblk m c 3 t) (Rect.unit (s := S1x2x256x1024) ![0, 1, 0, 0] ![1, 1, 256, 1024] inb_S1x2x256x1024_S1x1x256x1024_0_1_0_0)
def tdy : FVec Ideal S128x1024 .f32 := k0_pay111 (View.ld (Val := Elt Ideal) (iblk m c 2 t) (Rect.unit (s := S128x2048) ![0, 1024] ![128, 1024] inb_S128x2048_S128x1024_0_1024))
def tg : FVec Ideal S1x1024 .f32 := iblk m c 8 t
def tq : Fin 8 → FVec Ideal S128x128 .f32 := ![
  View.ld (Val := Elt Ideal) (iblk m c 0 t) (Rect.unit (s := S128x3328) ![0, 2048] ![128, 128] inb_S128x3328_S128x128_0_2048),
  View.ld (Val := Elt Ideal) (iblk m c 0 t) (Rect.unit (s := S128x3328) ![0, 2176] ![128, 128] inb_S128x3328_S128x128_0_2176),
  View.ld (Val := Elt Ideal) (iblk m c 0 t) (Rect.unit (s := S128x3328) ![0, 2304] ![128, 128] inb_S128x3328_S128x128_0_2304),
  View.ld (Val := Elt Ideal) (iblk m c 0 t) (Rect.unit (s := S128x3328) ![0, 2432] ![128, 128] inb_S128x3328_S128x128_0_2432),
  View.ld (Val := Elt Ideal) (iblk m c 0 t) (Rect.unit (s := S128x3328) ![0, 2560] ![128, 128] inb_S128x3328_S128x128_0_2560),
  View.ld (Val := Elt Ideal) (iblk m c 0 t) (Rect.unit (s := S128x3328) ![0, 2688] ![128, 128] inb_S128x3328_S128x128_0_2688),
  View.ld (Val := Elt Ideal) (iblk m c 0 t) (Rect.unit (s := S128x3328) ![0, 2816] ![128, 128] inb_S128x3328_S128x128_0_2816),
  View.ld (Val := Elt Ideal) (iblk m c 0 t) (Rect.unit (s := S128x3328) ![0, 2944] ![128, 128] inb_S128x3328_S128x128_0_2944)]

/-- The block point `t` reads. -/
def B : Blk := blk (tak m c t) (tbk m c t) (tav m c t) (tbv m c t) (tP0 m c t) (tP1 m c t) (tq m c t) (tdy m c t) (tg m c t)

theorem dgb_first (h : t.val % 64 = 0) (x : Fin 1024) : (outsAt m c t.val t.isLt).dgb (ix2 0 x) = (B m c t).dg x := by
  rw [outsAt_first m c t h]
  simp only [firstOuts, firstRun]; frame_out
  refine (dg_at (tak m c t) (tbk m c t) (tav m c t) (tbv m c t) (tP0 m c t) (tP1 m c t) (tq m c t) (tdy m c t) (tg m c t) _ x).trans ?_
  rw [Mixer.Read.pay10_at, zero_add]; rfl

theorem dgb_later (h : ¬t.val % 64 = 0) (x : Fin 1024) : (outsAt m c t.val t.isLt).dgb (ix2 0 x)
    = (outsAt m c (t.val - 1) (Nat.lt_of_le_of_lt (Nat.sub_le _ _) t.isLt)).dgb (ix2 0 x) + (B m c t).dg x := by
  rw [outsAt_later m c t h]; generalize outsAt m c (t.val - 1) _ = p
  simp only [laterOuts, laterRun]; frame_out
  exact dg_at (tak m c t) (tbk m c t) (tav m c t) (tbv m c t) (tP0 m c t) (tP1 m c t) (tq m c t) (tdy m c t) (tg m c t) _ x

theorem RP0 : Reads (B m c t) 0 (tP0 m c t) (k0_pay106 (tav m c t) (tbv m c t)) (k0_pay104 (tak m c t) (tbk m c t))
    (D0 (tav m c t) (tbv m c t) (tP0 m c t) (tP1 m c t) (tdy m c t) (tg m c t)) (k0_pay130 k0_pay103 (tq m c t 0) (tq m c t 1) (tq m c t 2) (tq m c t 3)) :=
  R0 _ _ _ _ _ _ _ _ _

theorem RP1 : Reads (B m c t) 1 (tP1 m c t) (k0_pay109 (k0_pay102 (tav m c t) (tbv m c t)) (k0_pay107 (tav m c t) (tbv m c t)) (iota .tc S256x128 32 [1] iota_S256x128_d1_w32) k0_pay108)
    (k0_pay105 (tak m c t) (tbk m c t)) (k0_pay156 k0_pay103 (gout (tav m c t) (tbv m c t) (tP0 m c t) (tP1 m c t) (tdy m c t) (tg m c t)))
    (k0_pay157 k0_pay103 (tq m c t 4) (tq m c t 5) (tq m c t 6) (tq m c t 7)) :=
  reads1 _ _ _ _ _ _ _ _ _

theorem dsk_later (h : ¬t.val % 64 = 0) (x : Fin 16) : (outsAt m c t.val t.isLt).dsk (ix2 0 x)
    = (outsAt m c (t.val - 1) (Nat.lt_of_le_of_lt (Nat.sub_le _ _) t.isLt)).dsk (ix2 0 x) + (B m c t).dk₀ ⟨x.val / 8, by omega⟩ ⟨x.val % 8, by omega⟩ := by
  rw [outsAt_later m c t h]; generalize outsAt m c (t.val - 1) _ = p
  simp only [laterOuts, laterRun]; frame_out
  canon_tiles y h
  all_goals
    obtain rfl : y = ix2 0 0 := by idx_ext
  case piece15 =>
    obtain rfl : x = (0 : Fin 16) := Fin.ext h1
    refine (Mixer.Read.pay137_at _ _ _ _ _ (Mixer.Read.pay136_eq (D0 (tav m c t) (tbv m c t) (tP0 m c t) (tP1 m c t) (tdy m c t) (tg m c t)) _ _ _ _ _ _ _ _ _ _ _ rfl _)).trans (Ideal.add_congr (by pointwise) ?_)
    exact sink_at (RP0 m c t) 0
  case piece14 =>
    obtain rfl : x = (1 : Fin 16) := Fin.ext h1
    refine (Mixer.Read.pay138_at _ _ _ _ _ (Mixer.Read.pay136_eq (D0 (tav m c t) (tbv m c t) (tP0 m c t) (tP1 m c t) (tdy m c t) (tg m c t)) _ _ _ _ _ _ _ _ _ _ _ rfl _)).trans (Ideal.add_congr (by pointwise) ?_)
    exact sink_at (RP0 m c t) 1
  case piece13 =>
    obtain rfl : x = (2 : Fin 16) := Fin.ext h1
    refine (Mixer.Read.pay139_at _ _ _ _ _ (Mixer.Read.pay136_eq (D0 (tav m c t) (tbv m c t) (tP0 m c t) (tP1 m c t) (tdy m c t) (tg m c t)) _ _ _ _ _ _ _ _ _ _ _ rfl _)).trans (Ideal.add_congr (by pointwise) ?_)
    exact sink_at (RP0 m c t) 2
  case piece12 =>
    obtain rfl : x = (3 : Fin 16) := Fin.ext h1
    refine (Mixer.Read.pay140_at _ _ _ _ _ (Mixer.Read.pay136_eq (D0 (tav m c t) (tbv m c t) (tP0 m c t) (tP1 m c t) (tdy m c t) (tg m c t)) _ _ _ _ _ _ _ _ _ _ _ rfl _)).trans (Ideal.add_congr (by pointwise) ?_)
    exact sink_at (RP0 m c t) 3
  case piece11 =>
    obtain rfl : x = (4 : Fin 16) := Fin.ext h1
    refine (Mixer.Read.pay143_at _ _ _ _ _ (Mixer.Read.pay136_eq (D0 (tav m c t) (tbv m c t) (tP0 m c t) (tP1 m c t) (tdy m c t) (tg m c t)) _ _ _ _ _ _ _ _ _ _ _ rfl _)).trans (Ideal.add_congr (by pointwise) ?_)
    exact sink_at (RP0 m c t) 4
  case piece10 =>
    obtain rfl : x = (5 : Fin 16) := Fin.ext h1
    refine (Mixer.Read.pay144_at _ _).trans (Ideal.add_congr (by pointwise) ?_)
    exact (congrArg (fun X => Mixer.Read.headSum X 5) (Mixer.Read.pay136_eq (D0 (tav m c t) (tbv m c t) (tP0 m c t) (tP1 m c t) (tdy m c t) (tg m c t)) _ _ _ _ _ _ _ _ _ _ _ rfl _)).trans (sink_at (RP0 m c t) 5)
  case piece9 =>
    obtain rfl : x = (6 : Fin 16) := Fin.ext h1
    refine (Mixer.Read.pay145_at _ _).trans (Ideal.add_congr (by pointwise) ?_)
    exact (congrArg (fun X => Mixer.Read.headSum X 6) (Mixer.Read.pay136_eq (D0 (tav m c t) (tbv m c t) (tP0 m c t) (tP1 m c t) (tdy m c t) (tg m c t)) _ _ _ _ _ _ _ _ _ _ _ rfl _)).trans (sink_at (RP0 m c t) 6)
  case piece8 =>
    obtain rfl : x = (7 : Fin 16) := Fin.ext h1
    refine (Mixer.Read.pay146_at _ _).trans (Ideal.add_congr (by pointwise) ?_)
    exact (congrArg (fun X => Mixer.Read.headSum X 7) (Mixer.Read.pay136_eq (D0 (tav m c t) (tbv m c t) (tP0 m c t) (tP1 m c t) (tdy m c t) (tg m c t)) _ _ _ _ _ _ _ _ _ _ _ rfl _)).trans (sink_at (RP0 m c t) 7)
  case piece7 =>
    obtain rfl : x = (8 : Fin 16) := Fin.ext h1
    refine (Mixer.Read.pay163_at _ _).trans (Ideal.add_congr (by pointwise) ?_)
    exact sink_at (RP1 m c t) 0
  case piece6 =>
    obtain rfl : x = (9 : Fin 16) := Fin.ext h1
    refine (Mixer.Read.pay164_at _ _).trans (Ideal.add_congr (by pointwise) ?_)
    exact sink_at (RP1 m c t) 1
  case piece5 =>
    obtain rfl : x = (10 : Fin 16) := Fin.ext h1
    refine (Mixer.Read.pay165_at _ _).trans (Ideal.add_congr (by pointwise) ?_)
    exact sink_at (RP1 m c t) 2
  case piece4 =>
    obtain rfl : x = (11 : Fin 16) := Fin.ext h1
    refine (Mixer.Read.pay166_at _ _).trans (Ideal.add_congr (by pointwise) ?_)
    exact sink_at (RP1 m c t) 3
  case piece3 =>
    obtain rfl : x = (12 : Fin 16) := Fin.ext h1
    refine (Mixer.Read.pay169_at _ _).trans (Ideal.add_congr (by pointwise) ?_)
    exact sink_at (RP1 m c t) 4
  case piece2 =>
    obtain rfl : x = (13 : Fin 16) := Fin.ext h1
    refine (Mixer.Read.pay170_at _ _).trans (Ideal.add_congr (by pointwise) ?_)
    exact sink_at (RP1 m c t) 5
  case piece1 =>
    obtain rfl : x = (14 : Fin 16) := Fin.ext h1
    refine (Mixer.Read.pay171_at _ _).trans (Ideal.add_congr (by pointwise) ?_)
    exact sink_at (RP1 m c t) 6
  case piece0 =>
    obtain rfl : x = (15 : Fin 16) := Fin.ext h1
    refine (Mixer.Read.pay172_at _ _).trans (Ideal.add_congr (by pointwise) ?_)
    exact sink_at (RP1 m c t) 7

end

end Mixer.Point

end
-- ==== Proof.Mixer.Tile.lean ====
/-
  The tiles a grid point loads, read from the argument arrays: point `t` works on block `63 - t`.
-/
module

public import proofs.«01_k».proof.Proof.Mixer.Point

@[expose] public section

set_option maxRecDepth 16384

noncomputable section

namespace Mixer.Point

open Idealize.ShloMosaic Idealize.ShloMosaic.TcCoe Idealize.SL.Sem
open Idealize.ShloMosaic.Pipeline (Dat)
open Cert.KernelIdeal Cert.KernelIdeal.Gen Mixer.Run Mixer.Spec Mixer.Block

variable (m : (ℓ : Loc nD τ sig) → Buf (Elt Ideal) ℓ) (c : Dev nD) (t : Fin cfg0.N)

def rev (t : Fin cfg0.N) : Fin 64 := ⟨63 - t.val, by omega⟩

theorem tbk_at (i l : Fin 128) : tbk m c t (ix2 i l) = V m c main_arg0 (ix2 ⟨(63 - t.val) * 128 + i.val, by omega⟩ ⟨3072 + l.val, by omega⟩) := by
  unfold tbk
  blk_point [iblk, idx t]

theorem tbv_at (i l : Fin 128) : tbv m c t (ix2 i l) = V m c main_arg0 (ix2 ⟨(63 - t.val) * 128 + i.val, by omega⟩ ⟨3200 + l.val, by omega⟩) := by
  unfold tbv
  blk_point [iblk, idx t]

theorem tak_at (i l : Fin 128) : tak m c t (ix2 i l) = V m c main_arg0 (ix2 ⟨(62 - t.val) * 128 + i.val, by omega⟩ ⟨3072 + l.val, by omega⟩) := by
  unfold tak
  blk_point [iblk, idx t]

theorem tav_at (i l : Fin 128) : tav m c t (ix2 i l) = V m c main_arg0 (ix2 ⟨(62 - t.val) * 128 + i.val, by omega⟩ ⟨3200 + l.val, by omega⟩) := by
  unfold tav
  blk_point [iblk, idx t]

theorem tdy_at (i : Fin 128) (l : Fin 1024) : tdy m c t (ix2 i l) = V m c main_arg1 (ix2 ⟨(63 - t.val) * 128 + i.val, by omega⟩ ⟨1024 + l.val, by omega⟩) := by
  unfold tdy
  refine (show k0_pay111 (F := Ideal) _ (ix2 i l) = View.ld (Val := Elt Ideal) (iblk m c 2 t) (Rect.unit (s := S128x2048) ![0, 1024] ![128, 1024] inb_S128x2048_S128x1024_0_1024) (ix2 i l) by pointwise [k0_pay111]).trans ?_
  blk_point [iblk, idx t]

theorem tg_at (l : Fin 1024) : tg m c t (ix2 0 l) = V m c main_arg7 (ix2 0 l) := by
  unfold tg
  blk_point [iblk, idx t]

theorem read3_0 (X : FVec Ideal S64x2x256x1024 .f32) (j : Fin 256) (l : Fin 1024) :
    View.ld (Val := Elt Ideal) (((cfg0.win 3).blk t).view.read (Elt Ideal) X) (Rect.unit (s := S1x2x256x1024) ![0, 0, 0, 0] ![1, 1, 256, 1024] inb_S1x2x256x1024_S1x1x256x1024_0_0_0_0) (ix4 0 0 j l) = X (ix4 (rev t) 0 j l) := by
  refine congrArg X ?_
  blk_ext [idx t, rev]
  all_goals first | rfl | ((try simp only [Rect.idx_unit_val]); simp)

theorem read3_1 (X : FVec Ideal S64x2x256x1024 .f32) (j : Fin 256) (l : Fin 1024) :
    View.ld (Val := Elt Ideal) (((cfg0.win 3).blk t).view.read (Elt Ideal) X) (Rect.unit (s := S1x2x256x1024) ![0, 1, 0, 0] ![1, 1, 256, 1024] inb_S1x2x256x1024_S1x1x256x1024_0_1_0_0) (ix4 0 0 j l) = X (ix4 (rev t) 1 j l) := by
  refine congrArg X ?_
  blk_ext [idx t, rev]
  all_goals first | rfl | ((try simp only [Rect.idx_unit_val]); simp)

theorem tP0_at (j : Fin 256) (l : Fin 1024) : tP0 m c t (ix4 0 0 j l) = V m c main_v60 (ix4 (rev t) 0 j l) :=
  read3_0 t (V m c main_v60) j l

theorem tP1_at (j : Fin 256) (l : Fin 1024) : tP1 m c t (ix4 0 0 j l) = V m c main_v60 (ix4 (rev t) 1 j l) :=
  read3_1 t (V m c main_v60) j l

theorem tq_at (x : Fin 8) (i l : Fin 128) : tq m c t x (ix2 i l) = V m c main_arg0 (ix2 ⟨(63 - t.val) * 128 + i.val, by omega⟩ ⟨2048 + (x.val * 128 + l.val), by omega⟩) := by
  fin_cases x <;> dsimp only [tq, Matrix.cons_val] <;> blk_point [iblk, idx t]

theorem B_eq : B m c t = kblk (V m c main_arg0) (V m c main_arg1) (V m c main_v60) (V m c main_arg7) (rev t) := by
  have hN : t.val < 64 := lt_of_lt_of_eq t.isLt points
  unfold B
  show Blk.mk _ _ _ _ _ _ = Blk.mk _ _ _ _ _ _
  congr 1
  · funext kv g i j
    show (if kv.val = 0 then tP0 m c t else tP1 m c t) _ = _
    obtain ⟨kv, hkv⟩ := kv
    rcases (by omega : kv = 0 ∨ kv = 1) with rfl | rfl
    · exact tP0_at m c t j _
    · exact tP1_at m c t j _
  · funext kv j d
    show Mixer.Read.winRow _ _ _ _ = ite _ _ _
    unfold Mixer.Read.winRow
    by_cases h : j.val < 128
    · rw [dif_pos h, if_pos h]
      refine (tak_at m c t _ _).trans (congrArg (V m c main_arg0) ?_)
      have hr : (rev t).val = 63 - t.val := rfl
      idx_ext
    · rw [dif_neg h, if_neg h]
      refine (tbk_at m c t _ _).trans (congrArg (V m c main_arg0) ?_)
      have hr : (rev t).val = 63 - t.val := rfl
      idx_ext
  · funext kv j d
    show Mixer.Read.winRow _ _ _ _ = ite _ _ _
    unfold Mixer.Read.winRow
    by_cases h : j.val < 128
    · rw [dif_pos h, if_pos h]
      refine (tav_at m c t _ _).trans (congrArg (V m c main_arg0) ?_)
      have hr : (rev t).val = 63 - t.val := rfl
      idx_ext
    · rw [dif_neg h, if_neg h]
      refine (tbv_at m c t _ _).trans (congrArg (V m c main_arg0) ?_)
      have hr : (rev t).val = 63 - t.val := rfl
      idx_ext
  · funext i x
    refine (tq_at m c t _ _ _).trans (congrArg (V m c main_arg0) ?_)
    idx_ext
  · funext i x
    refine (tdy_at m c t _ _).trans (congrArg (V m c main_arg1) ?_)
    idx_ext
  · funext x
    exact tg_at m c t x

end Mixer.Point

end
-- ==== Proof.Mixer.Dz.lean ====
/-
  The mixer-gradient kernel's arrays: the blocks of the input's gradient, the carried half window and the sinks' gradient each grid point leaves.
-/
module

public import proofs.«01_k».proof.Proof.Mixer.Point

@[expose] public section

set_option maxRecDepth 16384

noncomputable section

namespace Mixer.Point

open Idealize.ShloMosaic Idealize.ShloMosaic.TcCoe Idealize.SL.Sem
open Idealize.ShloMosaic.Pipeline (Dat)
open Cert.KernelIdeal Cert.KernelIdeal.Gen Mixer.Run Mixer.Spec Mixer.Block

variable (m : (ℓ : Loc nD τ sig) → Buf (Elt Ideal) ℓ)

variable (c : Dev nD) (t : Fin cfg0.N)

theorem tq_0 : tq m c t 0 = View.ld (Val := Elt Ideal) (iblk m c 0 t) (Rect.unit (s := S128x3328) ![0, 2048] ![128, 128] inb_S128x3328_S128x128_0_2048) := rfl
theorem tq_1 : tq m c t 1 = View.ld (Val := Elt Ideal) (iblk m c 0 t) (Rect.unit (s := S128x3328) ![0, 2176] ![128, 128] inb_S128x3328_S128x128_0_2176) := rfl
theorem tq_2 : tq m c t 2 = View.ld (Val := Elt Ideal) (iblk m c 0 t) (Rect.unit (s := S128x3328) ![0, 2304] ![128, 128] inb_S128x3328_S128x128_0_2304) := rfl
theorem tq_3 : tq m c t 3 = View.ld (Val := Elt Ideal) (iblk m c 0 t) (Rect.unit (s := S128x3328) ![0, 2432] ![128, 128] inb_S128x3328_S128x128_0_2432) := rfl
theorem tq_4 : tq m c t 4 = View.ld (Val := Elt Ideal) (iblk m c 0 t) (Rect.unit (s := S128x3328) ![0, 2560] ![128, 128] inb_S128x3328_S128x128_0_2560) := rfl
theorem tq_5 : tq m c t 5 = View.ld (Val := Elt Ideal) (iblk m c 0 t) (Rect.unit (s := S128x3328) ![0, 2688] ![128, 128] inb_S128x3328_S128x128_0_2688) := rfl
theorem tq_6 : tq m c t 6 = View.ld (Val := Elt Ideal) (iblk m c 0 t) (Rect.unit (s := S128x3328) ![0, 2816] ![128, 128] inb_S128x3328_S128x128_0_2816) := rfl
theorem tq_7 : tq m c t 7 = View.ld (Val := Elt Ideal) (iblk m c 0 t) (Rect.unit (s := S128x3328) ![0, 2944] ![128, 128] inb_S128x3328_S128x128_0_2944) := rfl

theorem RQ0 : Reads (B m c t) 0 (tP0 m c t) (k0_pay106 (tav m c t) (tbv m c t)) (k0_pay104 (tak m c t) (tbk m c t))
    (D0 (tav m c t) (tbv m c t) (tP0 m c t) (tP1 m c t) (tdy m c t) (tg m c t)) (k0_pay130 k0_pay103
      (View.ld (Val := Elt Ideal) (iblk m c 0 t) (Rect.unit (s := S128x3328) ![0, 2048] ![128, 128] inb_S128x3328_S128x128_0_2048))
      (View.ld (Val := Elt Ideal) (iblk m c 0 t) (Rect.unit (s := S128x3328) ![0, 2176] ![128, 128] inb_S128x3328_S128x128_0_2176))
      (View.ld (Val := Elt Ideal) (iblk m c 0 t) (Rect.unit (s := S128x3328) ![0, 2304] ![128, 128] inb_S128x3328_S128x128_0_2304))
      (View.ld (Val := Elt Ideal) (iblk m c 0 t) (Rect.unit (s := S128x3328) ![0, 2432] ![128, 128] inb_S128x3328_S128x128_0_2432))) := by
  have h := RP0 m c t; rw [tq_0, tq_1, tq_2, tq_3] at h; exact h

theorem RQ1 : Reads (B m c t) 1 (tP1 m c t) (k0_pay109 (k0_pay102 (tav m c t) (tbv m c t)) (k0_pay107 (tav m c t) (tbv m c t)) (iota .tc S256x128 32 [1] iota_S256x128_d1_w32) k0_pay108)
    (k0_pay105 (tak m c t) (tbk m c t)) (k0_pay156 k0_pay103 (gout (tav m c t) (tbv m c t) (tP0 m c t) (tP1 m c t) (tdy m c t) (tg m c t)))
    (k0_pay157 k0_pay103
      (View.ld (Val := Elt Ideal) (iblk m c 0 t) (Rect.unit (s := S128x3328) ![0, 2560] ![128, 128] inb_S128x3328_S128x128_0_2560))
      (View.ld (Val := Elt Ideal) (iblk m c 0 t) (Rect.unit (s := S128x3328) ![0, 2688] ![128, 128] inb_S128x3328_S128x128_0_2688))
      (View.ld (Val := Elt Ideal) (iblk m c 0 t) (Rect.unit (s := S128x3328) ![0, 2816] ![128, 128] inb_S128x3328_S128x128_0_2816))
      (View.ld (Val := Elt Ideal) (iblk m c 0 t) (Rect.unit (s := S128x3328) ![0, 2944] ![128, 128] inb_S128x3328_S128x128_0_2944))) := by
  have h := RP1 m c t; rw [tq_4, tq_5, tq_6, tq_7] at h; exact h

/-- Stores that cover an index leave there what they leave without the earlier ones. -/
theorem canon_over {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' L y ?_
      obtain ⟨q, hq, hyq⟩ := hy
      rcases List.mem_cons.mp hq with rfl | hq'
      · exact absurd hyq hm
      · exact ⟨q, hq', hyq⟩

/-- A block's key and value gradients, 128 lanes each, at window row `o + j`. -/
def half (b : Blk) (o : ℕ) (ho : o ≤ 128) (j : Fin 128) (l : Fin 256) : EReal :=
  if l.val < 128 then b.dk ⟨l.val % 128 / 64, by omega⟩ ⟨o + j.val, by omega⟩ ⟨l.val % 64, by omega⟩
  else b.dv ⟨l.val % 128 / 64, by omega⟩ ⟨o + j.val, by omega⟩ ⟨l.val % 64, by omega⟩

theorem half_k (b : Blk) (o : ℕ) (ho : o ≤ 128) (j : Fin 128) (l : Fin 256) (x : Fin 128) (e : l.val = x.val) :
    b.dk ⟨x.val / 64, by omega⟩ ⟨o + j.val, by omega⟩ (lane x) = half b o ho j l := by
  unfold half; rw [if_pos (by omega)]; congr 1 <;> (apply Fin.ext; simp only [lane]; omega)

theorem half_v (b : Blk) (o : ℕ) (ho : o ≤ 128) (j : Fin 128) (l : Fin 256) (x : Fin 128) (e : l.val = 128 + x.val) :
    b.dv ⟨x.val / 64, by omega⟩ ⟨o + j.val, by omega⟩ (lane x) = half b o ho j l := by
  unfold half; rw [if_neg (by omega)]; congr 1 <;> (apply Fin.ext; simp only [lane]; omega)

theorem zero_carry (i : S128x256.Idx) : k0_pay4 (F := Ideal) i = 0 := by
  obtain ⟨a, b, rfl⟩ : ∃ (a : Fin 128) (b : Fin 256), i = ix2 a b := ⟨i 0, i 1, by idx_ext⟩
  exact Mixer.Read.pay4_at a b

/-- Group 0's gradient of the scores, as the point computes it. -/
theorem scores0 {D : FVec Ideal S1024x128 .bf16} (P : FVec Ideal S1x1x256x1024 .f32) (w : FVec Ideal S256x128 .bf16)
    (v432 : IVec S128x128 1) (v525 v527 v529 v531 v533 v535 v537 v539 v540 : FVec Ideal S128x128 .f32)
    (hD : k0_pay129 (F := Ideal) v432 v525 v527 v529 v531 v533 v535 v537 v539 v540 = D) :
    k0_pay147 (F := Ideal) (k0_pay131 P) (k0_pay133 v432 w v525 v527 v529 v531 v533 v535 v537 v539 v540)
      (k0_pay134 v432 w v525 v527 v529 v531 v533 v535 v537 v539 v540 P) = scores P w D := by
  rw [Mixer.Read.pay133_eq D _ _ _ _ _ _ _ _ _ _ hD, Mixer.Read.pay134_eq D P _ _ _ _ _ _ _ _ _ _ hD]; rfl

theorem products0 {D : FVec Ideal S1024x128 .bf16} (P : FVec Ideal S1x1x256x1024 .f32) (w k : FVec Ideal S256x128 .bf16)
    (v432 : IVec S128x128 1) (v525 v527 v529 v531 v533 v535 v537 v539 v540 : FVec Ideal S128x128 .f32)
    (hD : k0_pay129 (F := Ideal) v432 v525 v527 v529 v531 v533 v535 v537 v539 v540 = D) :
    k0_pay148 (F := Ideal) k (k0_pay131 P) (k0_pay133 v432 w v525 v527 v529 v531 v533 v535 v537 v539 v540)
      (k0_pay134 v432 w v525 v527 v529 v531 v533 v535 v537 v539 v540 P) = k0_pay174 (F := Ideal) k (k0_pay158 P) (k0_pay160 w D) (k0_pay161 w D P) := by
  rw [Mixer.Read.pay133_eq D _ _ _ _ _ _ _ _ _ _ hD, Mixer.Read.pay134_eq D P _ _ _ _ _ _ _ _ _ _ hD]; rfl

/-- Both groups' key gradients, as the point computes them. -/
theorem fold_keys {b : Blk} {P0 P1 : FVec Ideal S1x1x256x1024 .f32} {w0 w1 k0 k1 : FVec Ideal S256x128 .bf16} {D0 D1 Q0 Q1 : FVec Ideal S1024x128 .bf16}
    (R0 : Reads b 0 P0 w0 k0 D0 Q0) (R1 : Reads b 1 P1 w1 k1 D1 Q1)
    (v432 : IVec S128x128 1) (v525 v527 v529 v531 v533 v535 v537 v539 v540 : FVec Ideal S128x128 .f32)
    (hD : k0_pay129 (F := Ideal) v432 v525 v527 v529 v531 v533 v535 v537 v539 v540 = D0) (j : Fin 256) (l : Fin 128) :
    Mixer.Read.fold (k0_pay155 (F := Ideal) Q0 (k0_pay147 (k0_pay131 P0) (k0_pay133 v432 w0 v525 v527 v529 v531 v533 v535 v537 v539 v540)
      (k0_pay134 v432 w0 v525 v527 v529 v531 v533 v535 v537 v539 v540 P0)))
      (k0_pay155 (F := Ideal) Q1 (k0_pay173 (k0_pay158 P1) (k0_pay160 w1 D1) (k0_pay161 w1 D1 P1))) j l
      = b.dk ⟨l.val / 64, by omega⟩ j (lane l) := by
  rw [scores0 P0 w0 _ _ _ _ _ _ _ _ _ _ hD]; exact fold_dk R0 R1 j l

theorem carry_later (e0 : ¬t.val % 64 = 0) (j : Fin 128) (l : Fin 256) :
    (outsAt m c t.val t.isLt).carry (ix2 j l) = half (B m c t) 0 (by omega) j l := by
  rw [outsAt_later m c t e0]; generalize outsAt m c (t.val - 1) _ = p
  simp only [laterOuts, laterRun]; frame_out
  canon_tiles y h
  all_goals
    obtain ⟨a, b, rfl⟩ : ∃ (a b : Fin 128), y = ix2 a b := ⟨y 0, y 1, by idx_ext⟩
    obtain rfl : j = a := Fin.ext h0
  case piece0 =>
    refine (Mixer.Read.pay3_at _ _ _ _).trans (((congrArg (fun A => Mixer.Read.fold A _ _ _) (Mixer.Read.pay132_eq (D0 (tav m c t) (tbv m c t) (tP0 m c t) (tP1 m c t) (tdy m c t) (tg m c t)) _ _ _ _ _ _ _ _ _ _ _ rfl)).trans (fold_dv (RP0 m c t) (RP1 m c t) _ _)).trans ?_)
    refine Eq.trans ?_ (half_v (B m c t) 0 (by omega) j l b h1)
    congr 1; exact Fin.ext (Nat.zero_add _).symm
  case piece1 =>
    refine (Mixer.Read.pay2_at _ _ _ _ _).trans (((fold_keys (RQ0 m c t) (RQ1 m c t) _ _ _ _ _ _ _ _ _ _ rfl _ _)).trans ?_)
    refine Eq.trans ?_ (half_k (B m c t) 0 (by omega) j l b h1)
    congr 1; exact Fin.ext (Nat.zero_add _).symm

theorem carry_first (e0 : t.val % 64 = 0) (j : Fin 128) (l : Fin 256) :
    (outsAt m c t.val t.isLt).carry (ix2 j l) = half (B m c t) 0 (by omega) j l := by
  rw [outsAt_first m c t e0]
  simp only [firstOuts, firstRun]; frame_out
  refine (canon_over [_] [_, _] _ (View.cover_of_tiledBy _ ![128, 128] (by sl_kernel_rfl) _)).trans ?_
  canon_tiles y h
  all_goals
    obtain ⟨a, b, rfl⟩ : ∃ (a b : Fin 128), y = ix2 a b := ⟨y 0, y 1, by idx_ext⟩
    obtain rfl : j = a := Fin.ext h0
  case piece0 =>
    refine (Mixer.Read.pay3_at _ _ _ _).trans (((congrArg (fun A => Mixer.Read.fold A _ _ _) (Mixer.Read.pay132_eq (D0 (tav m c t) (tbv m c t) (tP0 m c t) (tP1 m c t) (tdy m c t) (tg m c t)) _ _ _ _ _ _ _ _ _ _ _ rfl)).trans (fold_dv (RP0 m c t) (RP1 m c t) _ _)).trans ?_)
    refine Eq.trans ?_ (half_v (B m c t) 0 (by omega) j l b h1)
    congr 1; exact Fin.ext (Nat.zero_add _).symm
  case piece1 =>
    refine (Mixer.Read.pay2_at _ _ _ _ _).trans (((fold_keys (RQ0 m c t) (RQ1 m c t) _ _ _ _ _ _ _ _ _ _ rfl _ _)).trans ?_)
    refine Eq.trans ?_ (half_k (B m c t) 0 (by omega) j l b h1)
    congr 1; exact Fin.ext (Nat.zero_add _).symm

theorem dq_later (e0 : ¬t.val % 64 = 0) (i : Fin 128) (l : Fin 1024) :
    (outsAt m c t.val t.isLt).dz (ix2 i ⟨2048 + l.val, by omega⟩) = (B m c t).dq i l := by
  rw [outsAt_later m c t e0]; generalize outsAt m c (t.val - 1) _ = p
  simp only [laterOuts, laterRun]; frame_out
  canon_tiles y h using (View.cover_of_tiledBy _ ![128, 128] (by sl_kernel_rfl) (ix2 i ⟨2048 + l.val, by omega⟩))
  case piece0 => exact absurd (show 2048 + l.val = 3200 + (y 1).val from h1) (by omega)
  case piece1 => exact absurd (show 2048 + l.val = 3072 + (y 1).val from h1) (by omega)
  case piece10 => exact absurd (show 2048 + l.val = 1024 + (y 1).val from h1) (by omega)
  case piece11 => exact absurd (show 2048 + l.val = (y 1).val from h1) (by omega)
  all_goals
    obtain ⟨a, b, rfl⟩ : ∃ (a b : Fin 128), y = ix2 a b := ⟨y 0, y 1, by idx_ext⟩
    obtain rfl : i = a := Fin.ext h0
  case piece2 =>
    refine Eq.trans ?_ (congrArg ((B m c t).dq i) (Fin.ext (by have : 2048 + l.val = 2944 + b.val := h1; show 1 * 512 + 3 * 128 + b.val = l.val; omega) : (⟨1 * 512 + 3 * 128 + b.val, by omega⟩ : Fin 1024) = l))
    refine (Mixer.Read.pay181_at _ i b).trans ?_
    exact dq_at (RP1 m c t) 3 i b
  case piece3 =>
    refine Eq.trans ?_ (congrArg ((B m c t).dq i) (Fin.ext (by have : 2048 + l.val = 2816 + b.val := h1; show 1 * 512 + 2 * 128 + b.val = l.val; omega) : (⟨1 * 512 + 2 * 128 + b.val, by omega⟩ : Fin 1024) = l))
    refine (Mixer.Read.pay180_at _ _ _ _ i b).trans ?_
    exact dq_at (RP1 m c t) 2 i b
  case piece4 =>
    refine Eq.trans ?_ (congrArg ((B m c t).dq i) (Fin.ext (by have : 2048 + l.val = 2688 + b.val := h1; show 1 * 512 + 1 * 128 + b.val = l.val; omega) : (⟨1 * 512 + 1 * 128 + b.val, by omega⟩ : Fin 1024) = l))
    refine (Mixer.Read.pay179_at _ _ _ _ i b).trans ?_
    exact dq_at (RP1 m c t) 1 i b
  case piece5 =>
    refine Eq.trans ?_ (congrArg ((B m c t).dq i) (Fin.ext (by have : 2048 + l.val = 2560 + b.val := h1; show 1 * 512 + 0 * 128 + b.val = l.val; omega) : (⟨1 * 512 + 0 * 128 + b.val, by omega⟩ : Fin 1024) = l))
    refine (Mixer.Read.pay178_at _ _ _ _ i b).trans ?_
    exact dq_at (RP1 m c t) 0 i b
  case piece6 =>
    refine Eq.trans ?_ (congrArg ((B m c t).dq i) (Fin.ext (by have : 2048 + l.val = 2432 + b.val := h1; show 0 * 512 + 3 * 128 + b.val = l.val; omega) : (⟨0 * 512 + 3 * 128 + b.val, by omega⟩ : Fin 1024) = l))
    refine (Mixer.Read.pay154_at _ i b).trans ?_
    exact (congrArg (fun M => Mixer.Read.pairTile M 3 i b) (products0 (D := (D0 (tav m c t) (tbv m c t) (tP0 m c t) (tP1 m c t) (tdy m c t) (tg m c t))) _ _ _ _ _ _ _ _ _ _ _ _ _ rfl)).trans (dq_at (RP0 m c t) 3 i b)
  case piece7 =>
    refine Eq.trans ?_ (congrArg ((B m c t).dq i) (Fin.ext (by have : 2048 + l.val = 2304 + b.val := h1; show 0 * 512 + 2 * 128 + b.val = l.val; omega) : (⟨0 * 512 + 2 * 128 + b.val, by omega⟩ : Fin 1024) = l))
    refine (Mixer.Read.pay153_at _ i b).trans ?_
    exact (congrArg (fun M => Mixer.Read.pairTile M 2 i b) (products0 (D := (D0 (tav m c t) (tbv m c t) (tP0 m c t) (tP1 m c t) (tdy m c t) (tg m c t))) _ _ _ _ _ _ _ _ _ _ _ _ _ rfl)).trans (dq_at (RP0 m c t) 2 i b)
  case piece8 =>
    refine Eq.trans ?_ (congrArg ((B m c t).dq i) (Fin.ext (by have : 2048 + l.val = 2176 + b.val := h1; show 0 * 512 + 1 * 128 + b.val = l.val; omega) : (⟨0 * 512 + 1 * 128 + b.val, by omega⟩ : Fin 1024) = l))
    refine (Mixer.Read.pay152_at _ _ _ _ i b).trans ?_
    exact (congrArg (fun M => Mixer.Read.pairTile M 1 i b) (products0 (D := (D0 (tav m c t) (tbv m c t) (tP0 m c t) (tP1 m c t) (tdy m c t) (tg m c t))) _ _ _ _ _ _ _ _ _ _ _ _ _ rfl)).trans (dq_at (RP0 m c t) 1 i b)
  case piece9 =>
    refine Eq.trans ?_ (congrArg ((B m c t).dq i) (Fin.ext (by have : 2048 + l.val = 2048 + b.val := h1; show 0 * 512 + 0 * 128 + b.val = l.val; omega) : (⟨0 * 512 + 0 * 128 + b.val, by omega⟩ : Fin 1024) = l))
    refine (Mixer.Read.pay149_at _ _ _ _ i b).trans ?_
    exact (congrArg (fun M => Mixer.Read.pairTile M 0 i b) (products0 (D := (D0 (tav m c t) (tbv m c t) (tP0 m c t) (tP1 m c t) (tdy m c t) (tg m c t))) _ _ _ _ _ _ _ _ _ _ _ _ _ rfl)).trans (dq_at (RP0 m c t) 0 i b)

theorem dq_first (e0 : t.val % 64 = 0) (i : Fin 128) (l : Fin 1024) :
    (outsAt m c t.val t.isLt).dz (ix2 i ⟨2048 + l.val, by omega⟩) = (B m c t).dq i l := by
  rw [outsAt_first m c t e0]
  simp only [firstOuts, firstRun]; frame_out
  try simp (disch := decide) only [↓ View.readCov_skip, ↓ View.readCov_fill]
  canon_tiles y h using (View.cover_of_tiledBy _ ![128, 128] (by sl_kernel_rfl) (ix2 i ⟨2048 + l.val, by omega⟩))
  case piece0 => exact absurd (show 2048 + l.val = 3200 + (y 1).val from h1) (by omega)
  case piece1 => exact absurd (show 2048 + l.val = 3072 + (y 1).val from h1) (by omega)
  case piece10 => exact absurd (show 2048 + l.val = 1024 + (y 1).val from h1) (by omega)
  case piece11 => exact absurd (show 2048 + l.val = (y 1).val from h1) (by omega)
  all_goals
    obtain ⟨a, b, rfl⟩ : ∃ (a b : Fin 128), y = ix2 a b := ⟨y 0, y 1, by idx_ext⟩
    obtain rfl : i = a := Fin.ext h0
  case piece2 =>
    refine Eq.trans ?_ (congrArg ((B m c t).dq i) (Fin.ext (by have : 2048 + l.val = 2944 + b.val := h1; show 1 * 512 + 3 * 128 + b.val = l.val; omega) : (⟨1 * 512 + 3 * 128 + b.val, by omega⟩ : Fin 1024) = l))
    refine (Mixer.Read.pay181_at _ i b).trans ?_
    exact dq_at (RP1 m c t) 3 i b
  case piece3 =>
    refine Eq.trans ?_ (congrArg ((B m c t).dq i) (Fin.ext (by have : 2048 + l.val = 2816 + b.val := h1; show 1 * 512 + 2 * 128 + b.val = l.val; omega) : (⟨1 * 512 + 2 * 128 + b.val, by omega⟩ : Fin 1024) = l))
    refine (Mixer.Read.pay180_at _ _ _ _ i b).trans ?_
    exact dq_at (RP1 m c t) 2 i b
  case piece4 =>
    refine Eq.trans ?_ (congrArg ((B m c t).dq i) (Fin.ext (by have : 2048 + l.val = 2688 + b.val := h1; show 1 * 512 + 1 * 128 + b.val = l.val; omega) : (⟨1 * 512 + 1 * 128 + b.val, by omega⟩ : Fin 1024) = l))
    refine (Mixer.Read.pay179_at _ _ _ _ i b).trans ?_
    exact dq_at (RP1 m c t) 1 i b
  case piece5 =>
    refine Eq.trans ?_ (congrArg ((B m c t).dq i) (Fin.ext (by have : 2048 + l.val = 2560 + b.val := h1; show 1 * 512 + 0 * 128 + b.val = l.val; omega) : (⟨1 * 512 + 0 * 128 + b.val, by omega⟩ : Fin 1024) = l))
    refine (Mixer.Read.pay178_at _ _ _ _ i b).trans ?_
    exact dq_at (RP1 m c t) 0 i b
  case piece6 =>
    refine Eq.trans ?_ (congrArg ((B m c t).dq i) (Fin.ext (by have : 2048 + l.val = 2432 + b.val := h1; show 0 * 512 + 3 * 128 + b.val = l.val; omega) : (⟨0 * 512 + 3 * 128 + b.val, by omega⟩ : Fin 1024) = l))
    refine (Mixer.Read.pay154_at _ i b).trans ?_
    exact (congrArg (fun M => Mixer.Read.pairTile M 3 i b) (products0 (D := (D0 (tav m c t) (tbv m c t) (tP0 m c t) (tP1 m c t) (tdy m c t) (tg m c t))) _ _ _ _ _ _ _ _ _ _ _ _ _ rfl)).trans (dq_at (RP0 m c t) 3 i b)
  case piece7 =>
    refine Eq.trans ?_ (congrArg ((B m c t).dq i) (Fin.ext (by have : 2048 + l.val = 2304 + b.val := h1; show 0 * 512 + 2 * 128 + b.val = l.val; omega) : (⟨0 * 512 + 2 * 128 + b.val, by omega⟩ : Fin 1024) = l))
    refine (Mixer.Read.pay153_at _ i b).trans ?_
    exact (congrArg (fun M => Mixer.Read.pairTile M 2 i b) (products0 (D := (D0 (tav m c t) (tbv m c t) (tP0 m c t) (tP1 m c t) (tdy m c t) (tg m c t))) _ _ _ _ _ _ _ _ _ _ _ _ _ rfl)).trans (dq_at (RP0 m c t) 2 i b)
  case piece8 =>
    refine Eq.trans ?_ (congrArg ((B m c t).dq i) (Fin.ext (by have : 2048 + l.val = 2176 + b.val := h1; show 0 * 512 + 1 * 128 + b.val = l.val; omega) : (⟨0 * 512 + 1 * 128 + b.val, by omega⟩ : Fin 1024) = l))
    refine (Mixer.Read.pay152_at _ _ _ _ i b).trans ?_
    exact (congrArg (fun M => Mixer.Read.pairTile M 1 i b) (products0 (D := (D0 (tav m c t) (tbv m c t) (tP0 m c t) (tP1 m c t) (tdy m c t) (tg m c t))) _ _ _ _ _ _ _ _ _ _ _ _ _ rfl)).trans (dq_at (RP0 m c t) 1 i b)
  case piece9 =>
    refine Eq.trans ?_ (congrArg ((B m c t).dq i) (Fin.ext (by have : 2048 + l.val = 2048 + b.val := h1; show 0 * 512 + 0 * 128 + b.val = l.val; omega) : (⟨0 * 512 + 0 * 128 + b.val, by omega⟩ : Fin 1024) = l))
    refine (Mixer.Read.pay149_at _ _ _ _ i b).trans ?_
    exact (congrArg (fun M => Mixer.Read.pairTile M 0 i b) (products0 (D := (D0 (tav m c t) (tbv m c t) (tP0 m c t) (tP1 m c t) (tdy m c t) (tg m c t))) _ _ _ _ _ _ _ _ _ _ _ _ _ rfl)).trans (dq_at (RP0 m c t) 0 i b)

theorem dkv_later (e0 : ¬t.val % 64 = 0) (i : Fin 128) (l : Fin 256) :
    (outsAt m c t.val t.isLt).dz (ix2 i ⟨3072 + l.val, by omega⟩) = half (B m c t) 128 (by omega) i l
      + (outsAt m c (t.val - 1) (Nat.lt_of_le_of_lt (Nat.sub_le _ _) t.isLt)).carry (ix2 i l) := by
  rw [outsAt_later m c t e0]; generalize outsAt m c (t.val - 1) _ = p
  simp only [laterOuts, laterRun]; frame_out
  canon_tiles y h using (View.cover_of_tiledBy _ ![128, 128] (by sl_kernel_rfl) (ix2 i ⟨3072 + l.val, by omega⟩))
  case piece2 => exact absurd (show 3072 + l.val = 2944 + (y 1).val from h1) (by have : (y 1).val < 128 := y1_lt; omega)
  case piece3 => exact absurd (show 3072 + l.val = 2816 + (y 1).val from h1) (by have : (y 1).val < 128 := y1_lt; omega)
  case piece4 => exact absurd (show 3072 + l.val = 2688 + (y 1).val from h1) (by have : (y 1).val < 128 := y1_lt; omega)
  case piece5 => exact absurd (show 3072 + l.val = 2560 + (y 1).val from h1) (by have : (y 1).val < 128 := y1_lt; omega)
  case piece6 => exact absurd (show 3072 + l.val = 2432 + (y 1).val from h1) (by have : (y 1).val < 128 := y1_lt; omega)
  case piece7 => exact absurd (show 3072 + l.val = 2304 + (y 1).val from h1) (by have : (y 1).val < 128 := y1_lt; omega)
  case piece8 => exact absurd (show 3072 + l.val = 2176 + (y 1).val from h1) (by have : (y 1).val < 128 := y1_lt; omega)
  case piece9 => exact absurd (show 3072 + l.val = 2048 + (y 1).val from h1) (by have : (y 1).val < 128 := y1_lt; omega)
  case piece10 => exact absurd (show 3072 + l.val = 1024 + (y 1).val from h1) (by have : (y 1).val < 1024 := y1_lt; omega)
  case piece11 => exact absurd (show 3072 + l.val = (y 1).val from h1) (by have : (y 1).val < 1024 := y1_lt; omega)
  all_goals
    obtain ⟨a, b, rfl⟩ : ∃ (a b : Fin 128), y = ix2 a b := ⟨y 0, y 1, by idx_ext⟩
    obtain rfl : i = a := Fin.ext h0
  case piece0 =>
    have e1 : l.val = 128 + b.val := by have : 3072 + l.val = 3200 + b.val := h1; omega
    refine (Mixer.Read.pay1_at _ _ _ _ _).trans ?_
    refine congrArg₂ (· + ·) (((congrArg (fun A => Mixer.Read.fold A _ _ _) (Mixer.Read.pay132_eq (D0 (tav m c t) (tbv m c t) (tP0 m c t) (tP1 m c t) (tdy m c t) (tg m c t)) _ _ _ _ _ _ _ _ _ _ _ rfl)).trans (fold_dv (RP0 m c t) (RP1 m c t) _ _)).trans (half_v (B m c t) 128 (by omega) i l b e1)) ?_
    rw [show l = (⟨128 + b.val, Nat.add_lt_add_left b.isLt 128⟩ : Fin 256) from Fin.ext e1]
    pointwise
    exact congrFun (Memref.IsWhole.read_unread _ p.carry) _
  case piece1 =>
    have e1 : l.val = b.val := by have : 3072 + l.val = 3072 + b.val := h1; omega
    refine (Mixer.Read.pay184_at _ _ _ _ _ _).trans ?_
    refine congrArg₂ (· + ·) (((fold_keys (RQ0 m c t) (RQ1 m c t) _ _ _ _ _ _ _ _ _ _ rfl _ _)).trans (half_k (B m c t) 128 (by omega) i l b e1)) ?_
    rw [show l = (⟨b.val, Nat.lt_trans b.isLt (by decide)⟩ : Fin 256) from Fin.ext e1]
    pointwise
    exact congrFun (Memref.IsWhole.read_unread _ p.carry) _

theorem dkv_first (e0 : t.val % 64 = 0) (i : Fin 128) (l : Fin 256) :
    (outsAt m c t.val t.isLt).dz (ix2 i ⟨3072 + l.val, by omega⟩) = half (B m c t) 128 (by omega) i l := by
  rw [outsAt_first m c t e0]
  simp only [firstOuts, firstRun]; frame_out
  try simp (disch := decide) only [↓ View.readCov_skip, ↓ View.readCov_fill]
  canon_tiles y h using (View.cover_of_tiledBy _ ![128, 128] (by sl_kernel_rfl) (ix2 i ⟨3072 + l.val, by omega⟩))
  case piece2 => exact absurd (show 3072 + l.val = 2944 + (y 1).val from h1) (by have : (y 1).val < 128 := y1_lt; omega)
  case piece3 => exact absurd (show 3072 + l.val = 2816 + (y 1).val from h1) (by have : (y 1).val < 128 := y1_lt; omega)
  case piece4 => exact absurd (show 3072 + l.val = 2688 + (y 1).val from h1) (by have : (y 1).val < 128 := y1_lt; omega)
  case piece5 => exact absurd (show 3072 + l.val = 2560 + (y 1).val from h1) (by have : (y 1).val < 128 := y1_lt; omega)
  case piece6 => exact absurd (show 3072 + l.val = 2432 + (y 1).val from h1) (by have : (y 1).val < 128 := y1_lt; omega)
  case piece7 => exact absurd (show 3072 + l.val = 2304 + (y 1).val from h1) (by have : (y 1).val < 128 := y1_lt; omega)
  case piece8 => exact absurd (show 3072 + l.val = 2176 + (y 1).val from h1) (by have : (y 1).val < 128 := y1_lt; omega)
  case piece9 => exact absurd (show 3072 + l.val = 2048 + (y 1).val from h1) (by have : (y 1).val < 128 := y1_lt; omega)
  case piece10 => exact absurd (show 3072 + l.val = 1024 + (y 1).val from h1) (by have : (y 1).val < 1024 := y1_lt; omega)
  case piece11 => exact absurd (show 3072 + l.val = (y 1).val from h1) (by have : (y 1).val < 1024 := y1_lt; omega)
  all_goals
    obtain ⟨a, b, rfl⟩ : ∃ (a b : Fin 128), y = ix2 a b := ⟨y 0, y 1, by idx_ext⟩
    obtain rfl : i = a := Fin.ext h0
  case piece0 =>
    have e1 : l.val = 128 + b.val := by have : 3072 + l.val = 3200 + b.val := h1; omega
    refine (Mixer.Read.pay1_at _ _ _ _ _).trans ?_
    refine (congrArg₂ (· + ·) rfl (zero_carry _)).trans ((add_zero _).trans ?_)
    exact ((congrArg (fun A => Mixer.Read.fold A _ _ _) (Mixer.Read.pay132_eq (D0 (tav m c t) (tbv m c t) (tP0 m c t) (tP1 m c t) (tdy m c t) (tg m c t)) _ _ _ _ _ _ _ _ _ _ _ rfl)).trans (fold_dv (RP0 m c t) (RP1 m c t) _ _)).trans (half_v (B m c t) 128 (by omega) i l b e1)
  case piece1 =>
    have e1 : l.val = b.val := by have : 3072 + l.val = 3072 + b.val := h1; omega
    refine (Mixer.Read.pay184_at _ _ _ _ _ _).trans ?_
    refine (congrArg₂ (· + ·) rfl (zero_carry _)).trans ((add_zero _).trans ?_)
    exact ((fold_keys (RQ0 m c t) (RQ1 m c t) _ _ _ _ _ _ _ _ _ _ rfl _ _)).trans (half_k (B m c t) 128 (by omega) i l b e1)

theorem dsk_first (h : t.val % 64 = 0) (x : Fin 16) : (outsAt m c t.val t.isLt).dsk (ix2 0 x) = (B m c t).dk₀ ⟨x.val / 8, by omega⟩ ⟨x.val % 8, by omega⟩ := by
  rw [outsAt_first m c t h]
  simp only [firstOuts, firstRun]; frame_out
  simp (disch := decide) only [↓ View.readCov_skip, ↓ View.readCov_fill]
  refine (canon_over [_] [_, _, _, _, _, _, _, _, _, _, _, _, _, _, _, _] _ (View.cover_of_tiledBy _ ![1, 1] (by sl_kernel_rfl) _)).trans ?_
  have Z : ∀ i : S1x16.Idx, k0_pay8 (F := Ideal) i = 0 := fun i => by
    obtain ⟨x, rfl⟩ : ∃ x : Fin 16, i = ix2 0 x := ⟨i 1, by idx_ext⟩
    exact Mixer.Read.pay8_at x
  canon_tiles y h
  all_goals
    obtain rfl : y = ix2 0 0 := by idx_ext
  case piece15 =>
    obtain rfl : x = (0 : Fin 16) := Fin.ext h1
    refine (Mixer.Read.pay137_at _ _ _ _ _ (Mixer.Read.pay136_eq (D0 (tav m c t) (tbv m c t) (tP0 m c t) (tP1 m c t) (tdy m c t) (tg m c t)) _ _ _ _ _ _ _ _ _ _ _ rfl _)).trans ((congrArg₂ (· + ·) (Z _) rfl).trans ((zero_add _).trans ?_))
    exact sink_at (RP0 m c t) 0
  case piece14 =>
    obtain rfl : x = (1 : Fin 16) := Fin.ext h1
    refine (Mixer.Read.pay138_at _ _ _ _ _ (Mixer.Read.pay136_eq (D0 (tav m c t) (tbv m c t) (tP0 m c t) (tP1 m c t) (tdy m c t) (tg m c t)) _ _ _ _ _ _ _ _ _ _ _ rfl _)).trans ((congrArg₂ (· + ·) (Z _) rfl).trans ((zero_add _).trans ?_))
    exact sink_at (RP0 m c t) 1
  case piece13 =>
    obtain rfl : x = (2 : Fin 16) := Fin.ext h1
    refine (Mixer.Read.pay139_at _ _ _ _ _ (Mixer.Read.pay136_eq (D0 (tav m c t) (tbv m c t) (tP0 m c t) (tP1 m c t) (tdy m c t) (tg m c t)) _ _ _ _ _ _ _ _ _ _ _ rfl _)).trans ((congrArg₂ (· + ·) (Z _) rfl).trans ((zero_add _).trans ?_))
    exact sink_at (RP0 m c t) 2
  case piece12 =>
    obtain rfl : x = (3 : Fin 16) := Fin.ext h1
    refine (Mixer.Read.pay140_at _ _ _ _ _ (Mixer.Read.pay136_eq (D0 (tav m c t) (tbv m c t) (tP0 m c t) (tP1 m c t) (tdy m c t) (tg m c t)) _ _ _ _ _ _ _ _ _ _ _ rfl _)).trans ((congrArg₂ (· + ·) (Z _) rfl).trans ((zero_add _).trans ?_))
    exact sink_at (RP0 m c t) 3
  case piece11 =>
    obtain rfl : x = (4 : Fin 16) := Fin.ext h1
    refine (Mixer.Read.pay143_at _ _ _ _ _ (Mixer.Read.pay136_eq (D0 (tav m c t) (tbv m c t) (tP0 m c t) (tP1 m c t) (tdy m c t) (tg m c t)) _ _ _ _ _ _ _ _ _ _ _ rfl _)).trans ((congrArg₂ (· + ·) (Z _) rfl).trans ((zero_add _).trans ?_))
    exact sink_at (RP0 m c t) 4
  case piece10 =>
    obtain rfl : x = (5 : Fin 16) := Fin.ext h1
    refine (Mixer.Read.pay144_at _ _).trans ((congrArg₂ (· + ·) (Z _) rfl).trans ((zero_add _).trans ?_))
    exact (congrArg (fun X => Mixer.Read.headSum X 5) (Mixer.Read.pay136_eq (D0 (tav m c t) (tbv m c t) (tP0 m c t) (tP1 m c t) (tdy m c t) (tg m c t)) _ _ _ _ _ _ _ _ _ _ _ rfl _)).trans (sink_at (RP0 m c t) 5)
  case piece9 =>
    obtain rfl : x = (6 : Fin 16) := Fin.ext h1
    refine (Mixer.Read.pay145_at _ _).trans ((congrArg₂ (· + ·) (Z _) rfl).trans ((zero_add _).trans ?_))
    exact (congrArg (fun X => Mixer.Read.headSum X 6) (Mixer.Read.pay136_eq (D0 (tav m c t) (tbv m c t) (tP0 m c t) (tP1 m c t) (tdy m c t) (tg m c t)) _ _ _ _ _ _ _ _ _ _ _ rfl _)).trans (sink_at (RP0 m c t) 6)
  case piece8 =>
    obtain rfl : x = (7 : Fin 16) := Fin.ext h1
    refine (Mixer.Read.pay146_at _ _).trans ((congrArg₂ (· + ·) (Z _) rfl).trans ((zero_add _).trans ?_))
    exact (congrArg (fun X => Mixer.Read.headSum X 7) (Mixer.Read.pay136_eq (D0 (tav m c t) (tbv m c t) (tP0 m c t) (tP1 m c t) (tdy m c t) (tg m c t)) _ _ _ _ _ _ _ _ _ _ _ rfl _)).trans (sink_at (RP0 m c t) 7)
  case piece7 =>
    obtain rfl : x = (8 : Fin 16) := Fin.ext h1
    refine (Mixer.Read.pay163_at _ _).trans ((congrArg₂ (· + ·) (Z _) rfl).trans ((zero_add _).trans ?_))
    exact sink_at (RP1 m c t) 0
  case piece6 =>
    obtain rfl : x = (9 : Fin 16) := Fin.ext h1
    refine (Mixer.Read.pay164_at _ _).trans ((congrArg₂ (· + ·) (Z _) rfl).trans ((zero_add _).trans ?_))
    exact sink_at (RP1 m c t) 1
  case piece5 =>
    obtain rfl : x = (10 : Fin 16) := Fin.ext h1
    refine (Mixer.Read.pay165_at _ _).trans ((congrArg₂ (· + ·) (Z _) rfl).trans ((zero_add _).trans ?_))
    exact sink_at (RP1 m c t) 2
  case piece4 =>
    obtain rfl : x = (11 : Fin 16) := Fin.ext h1
    refine (Mixer.Read.pay166_at _ _).trans ((congrArg₂ (· + ·) (Z _) rfl).trans ((zero_add _).trans ?_))
    exact sink_at (RP1 m c t) 3
  case piece3 =>
    obtain rfl : x = (12 : Fin 16) := Fin.ext h1
    refine (Mixer.Read.pay169_at _ _).trans ((congrArg₂ (· + ·) (Z _) rfl).trans ((zero_add _).trans ?_))
    exact sink_at (RP1 m c t) 4
  case piece2 =>
    obtain rfl : x = (13 : Fin 16) := Fin.ext h1
    refine (Mixer.Read.pay170_at _ _).trans ((congrArg₂ (· + ·) (Z _) rfl).trans ((zero_add _).trans ?_))
    exact sink_at (RP1 m c t) 5
  case piece1 =>
    obtain rfl : x = (14 : Fin 16) := Fin.ext h1
    refine (Mixer.Read.pay171_at _ _).trans ((congrArg₂ (· + ·) (Z _) rfl).trans ((zero_add _).trans ?_))
    exact sink_at (RP1 m c t) 6
  case piece0 =>
    obtain rfl : x = (15 : Fin 16) := Fin.ext h1
    refine (Mixer.Read.pay172_at _ _).trans ((congrArg₂ (· + ·) (Z _) rfl).trans ((zero_add _).trans ?_))
    exact sink_at (RP1 m c t) 7

end Mixer.Point

end
-- ==== Proof.Mixer.Arrays.lean ====
/-
  The mixer-gradient kernel's result arrays after the run: the attention's part, block by block.
-/
module

public import proofs.«01_k».proof.Proof.Mixer.Tile
public import proofs.«01_k».proof.Proof.Mixer.Dz

@[expose] public section

set_option maxRecDepth 16384

noncomputable section

namespace Mixer.Arrays

open Idealize.ShloMosaic Idealize.ShloMosaic.TcCoe Idealize.SL.Sem
open Idealize.ShloMosaic.Pipeline (Dat)
open Cert.KernelIdeal Cert.KernelIdeal.Gen Mixer.Run Mixer.Spec Mixer.Block Mixer.Point

variable (m : (ℓ : Loc nD τ sig) → Buf (Elt Ideal) ℓ) (c : Dev nD)

def KB (n : Fin 64) : Blk := kblk (V m c main_arg0) (V m c main_arg1) (V m c main_v60) (V m c main_arg7) n

/-- The grid point that works on block `n`. -/
def pt (n : Fin 64) : Fin cfg0.N := ⟨63 - n.val, by have := points; omega⟩

theorem B_pt (n : Fin 64) : B m c (pt n) = KB m c n := by
  rw [B_eq, show rev (pt n) = n from Fin.ext (by dsimp only [rev, pt]; omega)]; rfl

theorem B_KB (t : Fin cfg0.N) : B m c t = KB m c (rev t) := B_eq m c t

theorem sum_rev (f : Fin 64 → EReal) (t : Fin cfg0.N) (g : Fin cfg0.N → EReal) (hg : ∀ s, g s = f (rev s))
    (hb : ∀ s : Fin 64, 64 * (t.val / 64) + s.val < cfg0.N) :
    (∑ s : Fin 64, g ⟨64 * (t.val / 64) + s.val, hb s⟩) = ∑ n : Fin 64, f n := by
  have hN := points
  have := t.isLt
  refine Finset.sum_nbij' (fun s => ⟨63 - s.val, by omega⟩) (fun n => ⟨63 - n.val, by omega⟩) (fun _ _ => Finset.mem_univ _) (fun _ _ => Finset.mem_univ _) ?_ ?_ ?_
  · intro s _; exact Fin.ext (by dsimp only; omega)
  · intro n _; exact Fin.ext (by dsimp only; omega)
  · intro s _; rw [hg]; exact congrArg f (Fin.ext (by dsimp only [rev]; omega))

theorem idxs : ∀ t : Fin cfg0.N, win0_13.index t = ![0, 0] ∧ win0_15.index t = ![0, 0] :=
  (by decide +kernel : ∀ t : Fin grid0.N, _)

/-- The three result arrays. -/
def dzOf : FVec Ideal S8192x3328 .bf16 := (dats m 0 c).arrAt 9 cfg0.N
def dskOf : FVec Ideal S1x16 .f32 := (dats m 0 c).arrAt 13 cfg0.N
def dgbOf : FVec Ideal S1x1024 .f32 := (dats m 0 c).arrAt 15 cfg0.N

theorem dgb_last (t : Fin cfg0.N) (hf : t.val % 64 = 63) (x : Fin 1024) : (outsAt m c t.val t.isLt).dgb (ix2 0 x) = ∑ n : Fin 64, (KB m c n).dg x := by
  refine (Pipeline.eq_sum_fin_of_reset_step_apply_of_flush (fun n h => fun x : Fin 1024 => (outsAt m c n h).dgb (ix2 0 x)) 64 (fun _ => 0)
    (fun t x => (B m c t).dg x) (fun t h x => by rw [dgb_first m c t h x, zero_add]) (fun t h x => dgb_later m c t h x) t hf x).trans ?_
  rw [zero_add]
  exact sum_rev (fun n => (KB m c n).dg x) t (fun t => (B m c t).dg x) (fun s => by rw [B_KB]) _

theorem dgb_arr : dgbOf m c = fun i => ∑ n : Fin 64, (KB m c n).dg (i 1) := by
  refine (dats m 0 c).arrAt_eq_of_covers 15 (fun i => ∑ n : Fin 64, (KB m c n).dg (i 1) : FVec Ideal S1x1024 .f32) (by decide +kernel) fun t hf y => ?_
  blk_simp
  rw [after0_15]
  refine (congrArg (outsAt m c t.val t.isLt).dgb (show y = ix2 0 (y 1) by idx_ext)).trans ((dgb_last m c t ((flush0_15 t).mp hf) _).trans ?_)
  refine Finset.sum_congr rfl fun n _ => congrArg (KB m c n).dg (Fin.ext ?_)
  blk_simp [idxs t]

theorem dgb_arr_at (x : Fin 1024) : dgbOf m c (ix2 0 x) = (∑ n : Fin 64, (KB m c n).dg x : EReal) :=
  congrFun (dgb_arr m c) (ix2 0 x)

theorem dsk_last (t : Fin cfg0.N) (hf : t.val % 64 = 63) (x : Fin 16) : (outsAt m c t.val t.isLt).dsk (ix2 0 x)
    = ∑ n : Fin 64, (KB m c n).dk₀ ⟨x.val / 8, by omega⟩ ⟨x.val % 8, by omega⟩ := by
  refine (Pipeline.eq_sum_fin_of_reset_step_apply_of_flush (fun n h => fun x : Fin 16 => (outsAt m c n h).dsk (ix2 0 x)) 64 (fun _ => 0)
    (fun t x => (B m c t).dk₀ ⟨x.val / 8, by omega⟩ ⟨x.val % 8, by omega⟩) (fun t h x => by rw [dsk_first m c t h x, zero_add]) (fun t h x => dsk_later m c t h x) t hf x).trans ?_
  rw [zero_add]
  exact sum_rev (fun n => (KB m c n).dk₀ ⟨x.val / 8, by omega⟩ ⟨x.val % 8, by omega⟩) t (fun t => (B m c t).dk₀ ⟨x.val / 8, by omega⟩ ⟨x.val % 8, by omega⟩) (fun s => by rw [B_KB]) _

def dskAt (x : Fin 16) : EReal := ∑ n : Fin 64, (KB m c n).dk₀ ⟨x.val / 8, by omega⟩ ⟨x.val % 8, by omega⟩

theorem dsk_arr : dskOf m c = fun i => dskAt m c (i 1) := by
  refine (dats m 0 c).arrAt_eq_of_covers 13 (fun i => dskAt m c (i 1) : FVec Ideal S1x16 .f32) (by decide +kernel) fun t hf y => ?_
  blk_simp
  rw [after0_13]
  refine (congrArg (outsAt m c t.val t.isLt).dsk (show y = ix2 0 (y 1) by idx_ext)).trans ((dsk_last m c t ((flush0_13 t).mp hf) _).trans ?_)
  refine congrArg (dskAt m c) (Fin.ext ?_)
  blk_simp [idxs t]

theorem dsk_arr_at (x : Fin 16) : dskOf m c (ix2 0 x) = dskAt m c x :=
  congrFun (dsk_arr m c) (ix2 0 x)

/-- Entry `(r, x)` of the gradient, as the grid point of its block leaves it. -/
def dzAt (r : Fin 8192) (x : Fin 3328) : EReal :=
  (outsAt m c (pt ⟨r.val / 128, by omega⟩).val (pt _).isLt).dz (ix2 ⟨r.val % 128, by omega⟩ x)

theorem dz_arr : dzOf m c = fun i => dzAt m c (i 0) (i 1) := by
  refine (dats m 0 c).arrAt_eq_of_covers 9 (fun i => dzAt m c (i 0) (i 1) : FVec Ideal S8192x3328 .bf16) (by decide +kernel) fun t hf y => ?_
  have hN := points
  have ht : t.val < 64 := lt_of_lt_of_eq t.isLt points
  blk_simp
  rw [after0_9]
  have hy : (y 0).val < 128 := (y 0).isLt
  have h0 : (((win0_9.blk t).view.emb y 0).val : ℕ) = (63 - t.val) * 128 + (y 0).val := by blk_simp [idx t]
  have h1 : (((win0_9.blk t).view.emb y 1).val : ℕ) = (y 1).val := by blk_simp [idx t]
  have key : ∀ E Y : ℕ, E = (63 - t.val) * 128 + Y → Y < 128 → 63 - E / 128 = t.val ∧ E % 128 = Y := by intro E Y h h'; omega
  have h2 : pt ⟨((win0_9.blk t).view.emb y 0).val / 128, by have := ((win0_9.blk t).view.emb y 0).isLt; exact Nat.div_lt_of_lt_mul this⟩ = t := Fin.ext (key _ _ h0 hy).1
  have h3 : ∀ s : Fin cfg0.N, s = t → ∀ z, z = y → (outsAt m c t.val t.isLt).dz y = (outsAt m c s.val s.isLt).dz z := by
    rintro s rfl z rfl; rfl
  refine h3 _ h2 _ ?_
  funext a
  fin_cases a
  · exact Fin.ext (key _ _ h0 hy).2
  · exact Fin.ext h1

theorem dz_arr_at (r : Fin 8192) (x : Fin 3328) : dzOf m c (ix2 r x) = dzAt m c r x :=
  congrFun (dz_arr m c) (ix2 r x)

section
variable (n : Fin 64) (i : Fin 128)

theorem dzAt_row (r : Fin 8192) (hr : r.val = n.val * 128 + i.val) (x : Fin 3328) :
    dzAt m c r x = (outsAt m c (pt n).val (pt n).isLt).dz (ix2 i x) := by
  have h1 : (⟨r.val / 128, by omega⟩ : Fin 64) = n := Fin.ext (by dsimp only; omega)
  have h2 : (⟨r.val % 128, by omega⟩ : Fin 128) = i := Fin.ext (by dsimp only; omega)
  have h3 : ∀ n', n' = n → ∀ i', i' = i → (outsAt m c (pt n').val (pt n').isLt).dz (ix2 i' x) = (outsAt m c (pt n).val (pt n).isLt).dz (ix2 i x) := by
    rintro _ rfl _ rfl; rfl
  exact h3 _ h1 _ h2

theorem dz_q (r : Fin 8192) (hr : r.val = n.val * 128 + i.val) (l : Fin 1024) : dzAt m c r ⟨2048 + l.val, by omega⟩ = (KB m c n).dq i l := by
  rw [dzAt_row m c n i r hr]
  by_cases h : (pt n).val % 64 = 0
  · rw [dq_first m c _ h, B_pt]
  · rw [dq_later m c _ h, B_pt]

theorem carry_at (t : Fin cfg0.N) (l : Fin 256) : (outsAt m c t.val t.isLt).carry (ix2 i l) = half (KB m c (rev t)) 0 (by omega) i l := by
  by_cases h : t.val % 64 = 0
  · rw [carry_first m c _ h, B_KB]
  · rw [carry_later m c _ h, B_KB]

theorem dz_kv (r : Fin 8192) (hr : r.val = n.val * 128 + i.val) (l : Fin 256) : dzAt m c r ⟨3072 + l.val, by omega⟩
    = half (KB m c n) 128 (by omega) i l + if h : n.val + 1 < 64 then half (KB m c ⟨n.val + 1, h⟩) 0 (by omega) i l else 0 := by
  have hN := points
  rw [dzAt_row m c n i r hr]
  by_cases h : (pt n).val % 64 = 0
  · rw [dkv_first m c _ h, B_pt, dif_neg (by dsimp only [pt] at h; omega), add_zero]
  · have hp : (pt n).val = 63 - n.val := rfl
    rw [dkv_later m c _ h, B_pt, dif_pos (by omega)]
    congr 1
    refine (carry_at m c i ⟨(pt n).val - 1, by omega⟩ l).trans ?_
    rw [show rev ⟨(pt n).val - 1, by omega⟩ = ⟨n.val + 1, by omega⟩ from Fin.ext (by dsimp only [rev, pt]; omega)]

end

end Mixer.Arrays

end
-- ==== Proof.Mixer.Ref.lean ====
/-
The reference's operations as definitions over its arguments, one per operation, in program order, and the terms
`Cert.ReferenceIdeal.Value.run` states for the three claimed results as the last of them.
-/
module

public import proofs.«01_k».proof.Proof.Gen.ReferenceIdeal.Run

@[expose] public section

set_option Elab.async false

noncomputable section

namespace Mixer.Ref

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S8192x3328, .f32⟩ : BufTy).Contents (Elt F)) (x1 : (⟨S8192x2048, .bf16⟩ : BufTy).Contents (Elt F)) (x5 : (⟨S1x16, .f32⟩ : BufTy).Contents (Elt F)) (x7 : (⟨S1x1024, .f32⟩ : BufTy).Contents (Elt F))

def v0 : (⟨S8192x1024, .f32⟩ : BufTy).Contents (Elt F) :=
  extractStridedSlice S8192x1024 ![0, 2048] (x0) slices_S8192x3328_S8192x1024_0_2048

def v1 : (⟨S8192x128, .f32⟩ : BufTy).Contents (Elt F) :=
  extractStridedSlice S8192x128 ![0, 3072] (x0) slices_S8192x3328_S8192x128_0_3072

def v2 : (⟨S8192x128, .f32⟩ : BufTy).Contents (Elt F) :=
  extractStridedSlice S8192x128 ![0, 3200] (x0) slices_S8192x3328_S8192x128_0_3200

def v3 : (⟨S64x128x2x8x64, .f32⟩ : BufTy).Contents (Elt F) :=
  shapeCast _ (v0 (F := F) x0) shapeCasts_S8192x1024_S64x128x2x8x64

def v4 : (⟨S64x128x2x64, .f32⟩ : BufTy).Contents (Elt F) :=
  shapeCast _ (v1 (F := F) x0) shapeCasts_S8192x128_S64x128x2x64

def cst : (⟨S_, .f32⟩ : BufTy).Contents (Elt F) :=
  constant S_ .f32 0x00000000#32

def v6 : (⟨S1x128x2x64, .f32⟩ : BufTy).Contents (Elt F) :=
  broadcastInDim S1x128x2x64 ![] bcast_S_S1x128x2x64 (cst (F := F))

def v7 : (⟨S63x128x2x64, .f32⟩ : BufTy).Contents (Elt F) :=
  extractStridedSlice S63x128x2x64 ![0, 0, 0, 0] (v4 (F := F) x0) slices_S64x128x2x64_S63x128x2x64_0_0_0_0

def v8 : (⟨S64x128x2x64, .f32⟩ : BufTy).Contents (Elt F) :=
  concatenate S64x128x2x64 0 [⟨S1x128x2x64, (v6 (F := F))⟩, ⟨S63x128x2x64, (v7 (F := F) x0)⟩] concatenates_S1x128x2x64_S63x128x2x64_S64x128x2x64_d0

def cst_0 : (⟨S_, .f32⟩ : BufTy).Contents (Elt F) :=
  constant S_ .f32 0x00000000#32

def v10 : (⟨S64x256x2x64, .f32⟩ : BufTy).Contents (Elt F) :=
  concatenate S64x256x2x64 1 [⟨S64x128x2x64, (v8 (F := F) x0)⟩, ⟨S64x128x2x64, (v4 (F := F) x0)⟩] concatenates_S64x128x2x64_S64x128x2x64_S64x256x2x64_d1

def v11 : (⟨S64x2x256x128x8, .f32⟩ : BufTy).Contents (Elt F) :=
  Host.dotGeneral dot_S64x256x2x64_S64x128x2x8x64_S64x2x256x128x8_3_4_1_13_02_02 none (v10 (F := F) x0) (v3 (F := F) x0)

def v12 : (⟨S64x2x8x128x256, .f32⟩ : BufTy).Contents (Elt F) :=
  transpose S64x2x8x128x256 [0, 1, 4, 3, 2] (v11 (F := F) x0) transposes_S64x2x256x128x8_S64x2x8x128x256_0_1_4_3_2

def cst_1 : (⟨S_, .f32⟩ : BufTy).Contents (Elt F) :=
  constant S_ .f32 0x3E000000#32

def v13 : (⟨S64x2x8x128x256, .f32⟩ : BufTy).Contents (Elt F) :=
  broadcastInDim S64x2x8x128x256 ![] bcast_S_S64x2x8x128x256 (cst_1 (F := F))

def v14 : (⟨S64x2x8x128x256, .f32⟩ : BufTy).Contents (Elt F) :=
  mulf (v12 (F := F) x0) (v13 (F := F))

def v15 : (⟨S128, .i32⟩ : BufTy).Contents (Elt F) :=
  iotaInDim S128 32 0

def v16 : (⟨S128x1, .i32⟩ : BufTy).Contents (Elt F) :=
  broadcastInDim S128x1 ![0] bcast_S128_S128x1_0 (v15 (F := F))

def c : (⟨S_, .i32⟩ : BufTy).Contents (Elt F) :=
  constantI S_ 32 128#32

def v17 : (⟨S128x1, .i32⟩ : BufTy).Contents (Elt F) :=
  broadcastInDim S128x1 ![] bcast_S_S128x1 (c (F := F))

def v18 : (⟨S128x1, .i32⟩ : BufTy).Contents (Elt F) :=
  addi (v16 (F := F)) (v17 (F := F))

def v19 : (⟨S256, .i32⟩ : BufTy).Contents (Elt F) :=
  iotaInDim S256 32 0

def v20 : (⟨S1x256, .i32⟩ : BufTy).Contents (Elt F) :=
  broadcastInDim S1x256 ![1] bcast_S256_S1x256_1 (v19 (F := F))

def v21 : (⟨S128x256, .i32⟩ : BufTy).Contents (Elt F) :=
  broadcastInDim S128x256 ![0, 1] bcast_S128x1_S128x256_0_1 (v18 (F := F))

def v22 : (⟨S128x256, .i32⟩ : BufTy).Contents (Elt F) :=
  broadcastInDim S128x256 ![0, 1] bcast_S1x256_S128x256_0_1 (v20 (F := F))

def v23 : (⟨S128x256, .i32⟩ : BufTy).Contents (Elt F) :=
  subi (v21 (F := F)) (v22 (F := F))

def c_2 : (⟨S_, .i32⟩ : BufTy).Contents (Elt F) :=
  constantI S_ 32 0#32

def v24 : (⟨S128x256, .i32⟩ : BufTy).Contents (Elt F) :=
  broadcastInDim S128x256 ![] bcast_S_S128x256 (c_2 (F := F))

def v25 : (⟨S128x256, .i1⟩ : BufTy).Contents (Elt F) :=
  cmpi .sge (v23 (F := F)) (v24 (F := F))

def c_3 : (⟨S_, .i32⟩ : BufTy).Contents (Elt F) :=
  constantI S_ 32 128#32

def v26 : (⟨S128x256, .i32⟩ : BufTy).Contents (Elt F) :=
  broadcastInDim S128x256 ![] bcast_S_S128x256 (c_3 (F := F))

def v27 : (⟨S128x256, .i1⟩ : BufTy).Contents (Elt F) :=
  cmpi .slt (v23 (F := F)) (v26 (F := F))

def v28 : (⟨S128x256, .i1⟩ : BufTy).Contents (Elt F) :=
  andi (v25 (F := F)) (v27 (F := F))

def v29 : (⟨S64, .i32⟩ : BufTy).Contents (Elt F) :=
  iotaInDim S64 32 0

def v30 : (⟨S64x1x1, .i32⟩ : BufTy).Contents (Elt F) :=
  broadcastInDim S64x1x1 ![0] bcast_S64_S64x1x1_0 (v29 (F := F))

def c_4 : (⟨S_, .i32⟩ : BufTy).Contents (Elt F) :=
  constantI S_ 32 0#32

def v31 : (⟨S64x1x1, .i32⟩ : BufTy).Contents (Elt F) :=
  broadcastInDim S64x1x1 ![] bcast_S_S64x1x1 (c_4 (F := F))

def v32 : (⟨S64x1x1, .i1⟩ : BufTy).Contents (Elt F) :=
  cmpi .eq (v30 (F := F)) (v31 (F := F))

def v33 : (⟨S1x1x256, .i32⟩ : BufTy).Contents (Elt F) :=
  broadcastInDim S1x1x256 ![1, 2] bcast_S1x256_S1x1x256_1_2 (v20 (F := F))

def c_5 : (⟨S_, .i32⟩ : BufTy).Contents (Elt F) :=
  constantI S_ 32 128#32

def v34 : (⟨S1x1x256, .i32⟩ : BufTy).Contents (Elt F) :=
  broadcastInDim S1x1x256 ![] bcast_S_S1x1x256 (c_5 (F := F))

def v35 : (⟨S1x1x256, .i1⟩ : BufTy).Contents (Elt F) :=
  cmpi .slt (v33 (F := F)) (v34 (F := F))

def v36 : (⟨S64x1x256, .i1⟩ : BufTy).Contents (Elt F) :=
  broadcastInDim S64x1x256 ![0, 1, 2] bcast_S64x1x1_S64x1x256_0_1_2 (v32 (F := F))

def v37 : (⟨S64x1x256, .i1⟩ : BufTy).Contents (Elt F) :=
  broadcastInDim S64x1x256 ![0, 1, 2] bcast_S1x1x256_S64x1x256_0_1_2 (v35 (F := F))

def v38 : (⟨S64x1x256, .i1⟩ : BufTy).Contents (Elt F) :=
  andi (v36 (F := F)) (v37 (F := F))

def v39 : (⟨S1x128x256, .i1⟩ : BufTy).Contents (Elt F) :=
  broadcastInDim S1x128x256 ![1, 2] bcast_S128x256_S1x128x256_1_2 (v28 (F := F))

def v40 : (⟨S64x1x256, .i1⟩ : BufTy).Contents (Elt F) :=
  noti (v38 (F := F))

def v41 : (⟨S64x128x256, .i1⟩ : BufTy).Contents (Elt F) :=
  broadcastInDim S64x128x256 ![0, 1, 2] bcast_S1x128x256_S64x128x256_0_1_2 (v39 (F := F))

def v42 : (⟨S64x128x256, .i1⟩ : BufTy).Contents (Elt F) :=
  broadcastInDim S64x128x256 ![0, 1, 2] bcast_S64x1x256_S64x128x256_0_1_2 (v40 (F := F))

def v43 : (⟨S64x128x256, .i1⟩ : BufTy).Contents (Elt F) :=
  andi (v41 (F := F)) (v42 (F := F))

def v44 : (⟨S64x1x1x128x256, .i1⟩ : BufTy).Contents (Elt F) :=
  broadcastInDim S64x1x1x128x256 ![0, 3, 4] bcast_S64x128x256_S64x1x1x128x256_0_3_4 (v43 (F := F))

def cst_6 : (⟨S_, .f32⟩ : BufTy).Contents (Elt F) :=
  constant S_ .f32 0xFF800000#32

def call0_v0 : (⟨S_, .f32⟩ : BufTy).Contents (Elt F) :=
  id (cst_6 (F := F))

def v45_1 : (⟨S64x2x8x128x256, .i1⟩ : BufTy).Contents (Elt F) :=
  broadcastInDim S64x2x8x128x256 ![0, 1, 2, 3, 4] bcast_S64x1x1x128x256_S64x2x8x128x256_0_1_2_3_4 (v44 (F := F))

def call0_v2 : (⟨S64x2x8x128x256, .f32⟩ : BufTy).Contents (Elt F) :=
  broadcastInDim S64x2x8x128x256 ![] bcast_S_S64x2x8x128x256 (call0_v0 (F := F))

def v45_0 : (⟨S64x2x8x128x256, .f32⟩ : BufTy).Contents (Elt F) :=
  select (v45_1 (F := F)) (v14 (F := F) x0) (call0_v2 (F := F))

def call0_cst : (⟨S_, .f32⟩ : BufTy).Contents (Elt F) :=
  constant S_ .f32 0x00000000#32

def v46 : (⟨S1x2x8x1x1, .f32⟩ : BufTy).Contents (Elt F) :=
  shapeCast _ (x5) shapeCasts_S1x16_S1x2x8x1x1

def v47 : (⟨S64x2x8x128x1, .f32⟩ : BufTy).Contents (Elt F) :=
  broadcastInDim S64x2x8x128x1 ![0, 1, 2, 3, 4] bcast_S1x2x8x1x1_S64x2x8x128x1_0_1_2_3_4 (v46 (F := F) x5)

def v48 : (⟨S64x2x8x128x257, .f32⟩ : BufTy).Contents (Elt F) :=
  concatenate S64x2x8x128x257 4 [⟨S64x2x8x128x256, (v45_0 (F := F) x0)⟩, ⟨S64x2x8x128x1, (v47 (F := F) x5)⟩] concatenates_S64x2x8x128x256_S64x2x8x128x1_S64x2x8x128x257_d4

def cst_7 : (⟨S_, .f32⟩ : BufTy).Contents (Elt F) :=
  constant S_ .f32 0xFF800000#32

def v49 : (⟨S64x2x8x128, .f32⟩ : BufTy).Contents (Elt F) :=
  Host.reduce FloatOps.maximumf (v48 (F := F) x0 x5) (cst_7 (F := F)) reducesTo_S64x2x8x128x257_S64x2x8x128_d4 h_S_

def v50 : (⟨S64x2x8x128x1, .f32⟩ : BufTy).Contents (Elt F) :=
  shapeCast _ (v49 (F := F) x0 x5) shapeCasts_S64x2x8x128_S64x2x8x128x1

def v51 : (⟨S64x2x8x128x257, .f32⟩ : BufTy).Contents (Elt F) :=
  broadcastInDim S64x2x8x128x257 ![0, 1, 2, 3, 4] bcast_S64x2x8x128x1_S64x2x8x128x257_0_1_2_3_4 (v50 (F := F) x0 x5)

def v52 : (⟨S64x2x8x128x257, .i1⟩ : BufTy).Contents (Elt F) :=
  cmpf .oeq (v48 (F := F) x0 x5) (v51 (F := F) x0 x5)

def v53 : (⟨S64x2x8x128x257, .f32⟩ : BufTy).Contents (Elt F) :=
  uitofp .f32 (v52 (F := F) x0 x5)

def cst_8 : (⟨S_, .f32⟩ : BufTy).Contents (Elt F) :=
  constant S_ .f32 0x00000000#32

def cst_9 : (⟨S_, .f32⟩ : BufTy).Contents (Elt F) :=
  constant S_ .f32 0xFF800000#32

def v55 : (⟨S64x2x8x128, .f32⟩ : BufTy).Contents (Elt F) :=
  broadcastInDim S64x2x8x128 ![] bcast_S_S64x2x8x128 (cst_9 (F := F))

def v56 : (⟨S64x2x8x128, .f32⟩ : BufTy).Contents (Elt F) :=
  maximumf (v55 (F := F)) (v49 (F := F) x0 x5)

def cst_10 : (⟨S_, .f32⟩ : BufTy).Contents (Elt F) :=
  constant S_ .f32 0xFF800000#32

def v57 : (⟨S64x2x8x128, .f32⟩ : BufTy).Contents (Elt F) :=
  broadcastInDim S64x2x8x128 ![] bcast_S_S64x2x8x128 (cst_10 (F := F))

def v58 : (⟨S64x2x8x128, .i1⟩ : BufTy).Contents (Elt F) :=
  cmpf .ogt (v49 (F := F) x0 x5) (v57 (F := F))

def cst_11 : (⟨S_, .f32⟩ : BufTy).Contents (Elt F) :=
  constant S_ .f32 0xFF800000#32

def v59 : (⟨S64x2x8x128, .f32⟩ : BufTy).Contents (Elt F) :=
  broadcastInDim S64x2x8x128 ![] bcast_S_S64x2x8x128 (cst_11 (F := F))

def v60 : (⟨S64x2x8x128, .i1⟩ : BufTy).Contents (Elt F) :=
  cmpf .oeq (v49 (F := F) x0 x5) (v59 (F := F))

def cst_12 : (⟨S_, .f32⟩ : BufTy).Contents (Elt F) :=
  constant S_ .f32 0x3F800000#32

def v61 : (⟨S64x2x8x128, .f32⟩ : BufTy).Contents (Elt F) :=
  broadcastInDim S64x2x8x128 ![] bcast_S_S64x2x8x128 (cst_12 (F := F))

def cst_13 : (⟨S_, .f32⟩ : BufTy).Contents (Elt F) :=
  constant S_ .f32 0x00000000#32

def v62 : (⟨S64x2x8x128, .f32⟩ : BufTy).Contents (Elt F) :=
  broadcastInDim S64x2x8x128 ![] bcast_S_S64x2x8x128 (cst_13 (F := F))

def cst_14 : (⟨S_, .f32⟩ : BufTy).Contents (Elt F) :=
  constant S_ .f32 0x3F000000#32

def v63 : (⟨S64x2x8x128, .f32⟩ : BufTy).Contents (Elt F) :=
  broadcastInDim S64x2x8x128 ![] bcast_S_S64x2x8x128 (cst_14 (F := F))

def v64 : (⟨S64x2x8x128, .f32⟩ : BufTy).Contents (Elt F) :=
  select (v60 (F := F) x0 x5) (v63 (F := F)) (v62 (F := F))

def v66 : (⟨S64x2x8x128x1, .f32⟩ : BufTy).Contents (Elt F) :=
  broadcastInDim S64x2x8x128x1 ![0, 1, 2, 3] bcast_S64x2x8x128_S64x2x8x128x1_0_1_2_3 (v56 (F := F) x0 x5)

def v67 : (⟨S64x2x8x128x257, .f32⟩ : BufTy).Contents (Elt F) :=
  broadcastInDim S64x2x8x128x257 ![0, 1, 2, 3, 4] bcast_S64x2x8x128x1_S64x2x8x128x257_0_1_2_3_4 (v66 (F := F) x0 x5)

def v68 : (⟨S64x2x8x128x257, .f32⟩ : BufTy).Contents (Elt F) :=
  subf (v48 (F := F) x0 x5) (v67 (F := F) x0 x5)

def v69 : (⟨S64x2x8x128x257, .f32⟩ : BufTy).Contents (Elt F) :=
  Host.exp (v68 (F := F) x0 x5)

def cst_15 : (⟨S_, .f32⟩ : BufTy).Contents (Elt F) :=
  constant S_ .f32 0x00000000#32

def v70 : (⟨S64x2x8x128, .f32⟩ : BufTy).Contents (Elt F) :=
  Host.reduceAdd (v69 (F := F) x0 x5) (cst_15 (F := F)) reducesTo_S64x2x8x128x257_S64x2x8x128_d4 h_S_

def v71 : (⟨S64x2x8x128x1, .f32⟩ : BufTy).Contents (Elt F) :=
  broadcastInDim S64x2x8x128x1 ![0, 1, 2, 3] bcast_S64x2x8x128_S64x2x8x128x1_0_1_2_3 (v70 (F := F) x0 x5)

def v72 : (⟨S64x2x8x128x257, .f32⟩ : BufTy).Contents (Elt F) :=
  broadcastInDim S64x2x8x128x257 ![0, 1, 2, 3, 4] bcast_S64x2x8x128x1_S64x2x8x128x257_0_1_2_3_4 (v71 (F := F) x0 x5)

def v73 : (⟨S64x2x8x128x257, .f32⟩ : BufTy).Contents (Elt F) :=
  Host.divf (v69 (F := F) x0 x5) (v72 (F := F) x0 x5)

def v74 : (⟨S64x2x8x128x1, .f32⟩ : BufTy).Contents (Elt F) :=
  mulf (v71 (F := F) x0 x5) (v71 (F := F) x0 x5)

def cst_16 : (⟨S_, .f32⟩ : BufTy).Contents (Elt F) :=
  constant S_ .f32 0x3F800000#32

def v75 : (⟨S64x2x8x128x1, .f32⟩ : BufTy).Contents (Elt F) :=
  broadcastInDim S64x2x8x128x1 ![] bcast_S_S64x2x8x128x1 (cst_16 (F := F))

def v76 : (⟨S64x2x8x128x1, .f32⟩ : BufTy).Contents (Elt F) :=
  Host.divf (v75 (F := F)) (v74 (F := F) x0 x5)

def v77 : (⟨S64x2x8x128x256, .f32⟩ : BufTy).Contents (Elt F) :=
  extractStridedSlice S64x2x8x128x256 ![0, 0, 0, 0, 0] (v73 (F := F) x0 x5) slices_S64x2x8x128x257_S64x2x8x128x256_0_0_0_0_0

def v78 : (⟨S64x128x2x64, .f32⟩ : BufTy).Contents (Elt F) :=
  shapeCast _ (v2 (F := F) x0) shapeCasts_S8192x128_S64x128x2x64

def cst_17 : (⟨S_, .f32⟩ : BufTy).Contents (Elt F) :=
  constant S_ .f32 0x00000000#32

def v80 : (⟨S1x128x2x64, .f32⟩ : BufTy).Contents (Elt F) :=
  broadcastInDim S1x128x2x64 ![] bcast_S_S1x128x2x64 (cst_17 (F := F))

def v81 : (⟨S63x128x2x64, .f32⟩ : BufTy).Contents (Elt F) :=
  extractStridedSlice S63x128x2x64 ![0, 0, 0, 0] (v78 (F := F) x0) slices_S64x128x2x64_S63x128x2x64_0_0_0_0

def v82 : (⟨S64x128x2x64, .f32⟩ : BufTy).Contents (Elt F) :=
  concatenate S64x128x2x64 0 [⟨S1x128x2x64, (v80 (F := F))⟩, ⟨S63x128x2x64, (v81 (F := F) x0)⟩] concatenates_S1x128x2x64_S63x128x2x64_S64x128x2x64_d0

def cst_18 : (⟨S_, .f32⟩ : BufTy).Contents (Elt F) :=
  constant S_ .f32 0x00000000#32

def v84 : (⟨S64x256x2x64, .f32⟩ : BufTy).Contents (Elt F) :=
  concatenate S64x256x2x64 1 [⟨S64x128x2x64, (v82 (F := F) x0)⟩, ⟨S64x128x2x64, (v78 (F := F) x0)⟩] concatenates_S64x128x2x64_S64x128x2x64_S64x256x2x64_d1

def v85 : (⟨S64x2x64x8x128, .f32⟩ : BufTy).Contents (Elt F) :=
  Host.dotGeneral dot_S64x256x2x64_S64x2x8x128x256_S64x2x64x8x128_1_4_3_23_02_01 none (v84 (F := F) x0) (v77 (F := F) x0 x5)

def v86 : (⟨S64x128x2x8x64, .f32⟩ : BufTy).Contents (Elt F) :=
  transpose S64x128x2x8x64 [0, 4, 1, 3, 2] (v85 (F := F) x0 x5) transposes_S64x2x64x8x128_S64x128x2x8x64_0_4_1_3_2

def v87 : (⟨S8192x1024, .f32⟩ : BufTy).Contents (Elt F) :=
  shapeCast _ (v86 (F := F) x0 x5) shapeCasts_S64x128x2x8x64_S8192x1024

def v88 : (⟨S8192x1024, .f32⟩ : BufTy).Contents (Elt F) :=
  mulf (v87 (F := F) x0 x5) (v87 (F := F) x0 x5)

def cst_19 : (⟨S_, .f32⟩ : BufTy).Contents (Elt F) :=
  constant S_ .f32 0x00000000#32

def v89 : (⟨S8192, .f32⟩ : BufTy).Contents (Elt F) :=
  Host.reduceAdd (v88 (F := F) x0 x5) (cst_19 (F := F)) reducesTo_S8192x1024_S8192_d1 h_S_

def v90 : (⟨S8192x1, .f32⟩ : BufTy).Contents (Elt F) :=
  broadcastInDim S8192x1 ![0] bcast_S8192_S8192x1_0 (v89 (F := F) x0 x5)

def cst_20 : (⟨S_, .f32⟩ : BufTy).Contents (Elt F) :=
  constant S_ .f32 0x44800000#32

def v91 : (⟨S8192x1, .f32⟩ : BufTy).Contents (Elt F) :=
  broadcastInDim S8192x1 ![] bcast_S_S8192x1 (cst_20 (F := F))

def v92 : (⟨S8192x1, .f32⟩ : BufTy).Contents (Elt F) :=
  Host.divf (v90 (F := F) x0 x5) (v91 (F := F))

def cst_21 : (⟨S_, .f32⟩ : BufTy).Contents (Elt F) :=
  constant S_ .f32 0x3727C5AC#32

def v93 : (⟨S8192x1, .f32⟩ : BufTy).Contents (Elt F) :=
  broadcastInDim S8192x1 ![] bcast_S_S8192x1 (cst_21 (F := F))

def v94 : (⟨S8192x1, .f32⟩ : BufTy).Contents (Elt F) :=
  addf (v92 (F := F) x0 x5) (v93 (F := F))

def v95 : (⟨S8192x1, .f32⟩ : BufTy).Contents (Elt F) :=
  Host.rsqrt (v94 (F := F) x0 x5)

def v96 : (⟨S8192x1, .f32⟩ : BufTy).Contents (Elt F) :=
  Host.divf (v95 (F := F) x0 x5) (v94 (F := F) x0 x5)

def cst_22 : (⟨S_, .f32⟩ : BufTy).Contents (Elt F) :=
  constant S_ .f32 0xBF000000#32

def v97 : (⟨S8192x1, .f32⟩ : BufTy).Contents (Elt F) :=
  broadcastInDim S8192x1 ![] bcast_S_S8192x1 (cst_22 (F := F))

def v98 : (⟨S8192x1, .f32⟩ : BufTy).Contents (Elt F) :=
  mulf (v97 (F := F)) (v96 (F := F) x0 x5)

def v99 : (⟨S8192x1024, .f32⟩ : BufTy).Contents (Elt F) :=
  broadcastInDim S8192x1024 ![0, 1] bcast_S8192x1_S8192x1024_0_1 (v95 (F := F) x0 x5)

def v100 : (⟨S8192x1024, .f32⟩ : BufTy).Contents (Elt F) :=
  mulf (v87 (F := F) x0 x5) (v99 (F := F) x0 x5)

def v101 : (⟨S8192x1024, .f32⟩ : BufTy).Contents (Elt F) :=
  broadcastInDim S8192x1024 ![0, 1] bcast_S1x1024_S8192x1024_0_1 (x7)

def v103 : (⟨S8192x1024, .bf16⟩ : BufTy).Contents (Elt F) :=
  extractStridedSlice S8192x1024 ![0, 1024] (x1) slices_S8192x2048_S8192x1024_0_1024

def v104 : (⟨S8192x1024, .f32⟩ : BufTy).Contents (Elt F) :=
  extf .f32 (v103 (F := F) x1) bitsLt_bf16_f32

def v105 : (⟨S8192x1024, .f32⟩ : BufTy).Contents (Elt F) :=
  mulf (v100 (F := F) x0 x5) (v104 (F := F) x1)

def cst_23 : (⟨S_, .f32⟩ : BufTy).Contents (Elt F) :=
  constant S_ .f32 0x00000000#32

def v106 : (⟨S1024, .f32⟩ : BufTy).Contents (Elt F) :=
  Host.reduceAdd (v105 (F := F) x0 x1 x5) (cst_23 (F := F)) reducesTo_S8192x1024_S1024_d0 h_S_

def v107 : (⟨S1x1024, .f32⟩ : BufTy).Contents (Elt F) :=
  shapeCast _ (v106 (F := F) x0 x1 x5) shapeCasts_S1024_S1x1024

def v108 : (⟨S8192x1024, .f32⟩ : BufTy).Contents (Elt F) :=
  broadcastInDim S8192x1024 ![0, 1] bcast_S1x1024_S8192x1024_0_1 (x7)

def v109 : (⟨S8192x1024, .f32⟩ : BufTy).Contents (Elt F) :=
  mulf (v104 (F := F) x1) (v108 (F := F) x7)

def v110 : (⟨S8192x1024, .f32⟩ : BufTy).Contents (Elt F) :=
  mulf (v87 (F := F) x0 x5) (v109 (F := F) x1 x7)

def cst_24 : (⟨S_, .f32⟩ : BufTy).Contents (Elt F) :=
  constant S_ .f32 0x00000000#32

def v111 : (⟨S8192, .f32⟩ : BufTy).Contents (Elt F) :=
  Host.reduceAdd (v110 (F := F) x0 x1 x5 x7) (cst_24 (F := F)) reducesTo_S8192x1024_S8192_d1 h_S_

def v112 : (⟨S8192x1, .f32⟩ : BufTy).Contents (Elt F) :=
  shapeCast _ (v111 (F := F) x0 x1 x5 x7) shapeCasts_S8192_S8192x1

def v113 : (⟨S8192x1024, .f32⟩ : BufTy).Contents (Elt F) :=
  broadcastInDim S8192x1024 ![0, 1] bcast_S8192x1_S8192x1024_0_1 (v95 (F := F) x0 x5)

def v114 : (⟨S8192x1024, .f32⟩ : BufTy).Contents (Elt F) :=
  mulf (v109 (F := F) x1 x7) (v113 (F := F) x0 x5)

def v115 : (⟨S8192x1, .f32⟩ : BufTy).Contents (Elt F) :=
  mulf (v112 (F := F) x0 x1 x5 x7) (v98 (F := F) x0 x5)

def cst_25 : (⟨S_, .f32⟩ : BufTy).Contents (Elt F) :=
  constant S_ .f32 0x44800000#32

def v116 : (⟨S8192x1, .f32⟩ : BufTy).Contents (Elt F) :=
  broadcastInDim S8192x1 ![] bcast_S_S8192x1 (cst_25 (F := F))

def v117 : (⟨S8192x1, .f32⟩ : BufTy).Contents (Elt F) :=
  Host.divf (v115 (F := F) x0 x1 x5 x7) (v116 (F := F))

def cst_26 : (⟨S_, .f32⟩ : BufTy).Contents (Elt F) :=
  constant S_ .f32 0x00000000#32

def v118 : (⟨S8192, .f32⟩ : BufTy).Contents (Elt F) :=
  Host.reduceAdd (v117 (F := F) x0 x1 x5 x7) (cst_26 (F := F)) reducesTo_S8192x1_S8192_d1 h_S_

def v119 : (⟨S8192x1024, .f32⟩ : BufTy).Contents (Elt F) :=
  broadcastInDim S8192x1024 ![0] bcast_S8192_S8192x1024_0 (v118 (F := F) x0 x1 x5 x7)

def v120 : (⟨S8192x1024, .f32⟩ : BufTy).Contents (Elt F) :=
  mulf (v87 (F := F) x0 x5) (v119 (F := F) x0 x1 x5 x7)

def v121 : (⟨S8192x1024, .f32⟩ : BufTy).Contents (Elt F) :=
  addf (v114 (F := F) x0 x1 x5 x7) (v120 (F := F) x0 x1 x5 x7)

def v122 : (⟨S8192x1024, .f32⟩ : BufTy).Contents (Elt F) :=
  mulf (v119 (F := F) x0 x1 x5 x7) (v87 (F := F) x0 x5)

def v123 : (⟨S8192x1024, .f32⟩ : BufTy).Contents (Elt F) :=
  addf (v121 (F := F) x0 x1 x5 x7) (v122 (F := F) x0 x1 x5 x7)

def v124 : (⟨S64x128x2x8x64, .f32⟩ : BufTy).Contents (Elt F) :=
  shapeCast _ (v123 (F := F) x0 x1 x5 x7) shapeCasts_S8192x1024_S64x128x2x8x64

def v125 : (⟨S64x2x64x8x128, .f32⟩ : BufTy).Contents (Elt F) :=
  transpose S64x2x64x8x128 [0, 2, 4, 3, 1] (v124 (F := F) x0 x1 x5 x7) transposes_S64x128x2x8x64_S64x2x64x8x128_0_2_4_3_1

def v126 : (⟨S64x2x8x128x256, .f32⟩ : BufTy).Contents (Elt F) :=
  Host.dotGeneral dot_S64x2x64x8x128_S64x256x2x64_S64x2x8x128x256_2_3_34_1_01_02 none (v125 (F := F) x0 x1 x5 x7) (v84 (F := F) x0)

def v127 : (⟨S64x2x64x256, .f32⟩ : BufTy).Contents (Elt F) :=
  Host.dotGeneral dot_S64x2x64x8x128_S64x2x8x128x256_S64x2x64x256_34_23_2_4_01_01 none (v125 (F := F) x0 x1 x5 x7) (v77 (F := F) x0 x5)

def v128 : (⟨S64x256x2x64, .f32⟩ : BufTy).Contents (Elt F) :=
  transpose S64x256x2x64 [0, 3, 1, 2] (v127 (F := F) x0 x1 x5 x7) transposes_S64x2x64x256_S64x256x2x64_0_3_1_2

def v129 : (⟨S64x128x2x64, .f32⟩ : BufTy).Contents (Elt F) :=
  extractStridedSlice S64x128x2x64 ![0, 0, 0, 0] (v128 (F := F) x0 x1 x5 x7) slices_S64x256x2x64_S64x128x2x64_0_0_0_0

def v130 : (⟨S64x128x2x64, .f32⟩ : BufTy).Contents (Elt F) :=
  extractStridedSlice S64x128x2x64 ![0, 128, 0, 0] (v128 (F := F) x0 x1 x5 x7) slices_S64x256x2x64_S64x128x2x64_0_128_0_0

def v132 : (⟨S63x128x2x64, .f32⟩ : BufTy).Contents (Elt F) :=
  extractStridedSlice S63x128x2x64 ![1, 0, 0, 0] (v129 (F := F) x0 x1 x5 x7) slices_S64x128x2x64_S63x128x2x64_1_0_0_0

def cst_27 : (⟨S_, .f32⟩ : BufTy).Contents (Elt F) :=
  constant S_ .f32 0x00000000#32

def v133 : (⟨S64x128x2x64, .f32⟩ : BufTy).Contents (Elt F) :=
  pad S64x128x2x64 ![0, 0, 0, 0] ![1, 0, 0, 0] ![0, 0, 0, 0] (v132 (F := F) x0 x1 x5 x7) (cst_27 (F := F)) pads_S63x128x2x64_S64x128x2x64_010_000_000_000 h_S_

def v134 : (⟨S64x128x2x64, .f32⟩ : BufTy).Contents (Elt F) :=
  addf (v130 (F := F) x0 x1 x5 x7) (v133 (F := F) x0 x1 x5 x7)

def v135 : (⟨S8192x128, .f32⟩ : BufTy).Contents (Elt F) :=
  shapeCast _ (v134 (F := F) x0 x1 x5 x7) shapeCasts_S64x128x2x64_S8192x128

def cst_28 : (⟨S_, .f32⟩ : BufTy).Contents (Elt F) :=
  constant S_ .f32 0x00000000#32

def v136 : (⟨S64x2x8x128x257, .f32⟩ : BufTy).Contents (Elt F) :=
  pad S64x2x8x128x257 ![0, 0, 0, 0, 0] ![0, 0, 0, 0, 1] ![0, 0, 0, 0, 0] (v126 (F := F) x0 x1 x5 x7) (cst_28 (F := F)) pads_S64x2x8x128x256_S64x2x8x128x257_000_000_000_000_010 h_S_

def v137 : (⟨S64x2x8x128x257, .f32⟩ : BufTy).Contents (Elt F) :=
  broadcastInDim S64x2x8x128x257 ![0, 1, 2, 3, 4] bcast_S64x2x8x128x1_S64x2x8x128x257_0_1_2_3_4 (v76 (F := F) x0 x5)

def v138 : (⟨S64x2x8x128x257, .f32⟩ : BufTy).Contents (Elt F) :=
  mulf (v136 (F := F) x0 x1 x5 x7) (v137 (F := F) x0 x5)

def v139 : (⟨S64x2x8x128x257, .f32⟩ : BufTy).Contents (Elt F) :=
  mulf (v138 (F := F) x0 x1 x5 x7) (v69 (F := F) x0 x5)

def cst_29 : (⟨S_, .f32⟩ : BufTy).Contents (Elt F) :=
  constant S_ .f32 0x00000000#32

def v140 : (⟨S64x2x8x128, .f32⟩ : BufTy).Contents (Elt F) :=
  Host.reduceAdd (v139 (F := F) x0 x1 x5 x7) (cst_29 (F := F)) reducesTo_S64x2x8x128x257_S64x2x8x128_d4 h_S_

def v141 : (⟨S64x2x8x128x1, .f32⟩ : BufTy).Contents (Elt F) :=
  shapeCast _ (v140 (F := F) x0 x1 x5 x7) shapeCasts_S64x2x8x128_S64x2x8x128x1

def v142 : (⟨S64x2x8x128x1, .f32⟩ : BufTy).Contents (Elt F) :=
  Host.negf (v141 (F := F) x0 x1 x5 x7)

def v143 : (⟨S64x2x8x128x257, .f32⟩ : BufTy).Contents (Elt F) :=
  broadcastInDim S64x2x8x128x257 ![0, 1, 2, 3, 4] bcast_S64x2x8x128x1_S64x2x8x128x257_0_1_2_3_4 (v71 (F := F) x0 x5)

def v144 : (⟨S64x2x8x128x257, .f32⟩ : BufTy).Contents (Elt F) :=
  Host.divf (v136 (F := F) x0 x1 x5 x7) (v143 (F := F) x0 x5)

def cst_30 : (⟨S_, .f32⟩ : BufTy).Contents (Elt F) :=
  constant S_ .f32 0x00000000#32

def v145 : (⟨S64x2x8x128, .f32⟩ : BufTy).Contents (Elt F) :=
  Host.reduceAdd (v142 (F := F) x0 x1 x5 x7) (cst_30 (F := F)) reducesTo_S64x2x8x128x1_S64x2x8x128_d4 h_S_

def v146 : (⟨S64x2x8x128x257, .f32⟩ : BufTy).Contents (Elt F) :=
  broadcastInDim S64x2x8x128x257 ![0, 1, 2, 3] bcast_S64x2x8x128_S64x2x8x128x257_0_1_2_3 (v145 (F := F) x0 x1 x5 x7)

def v147 : (⟨S64x2x8x128x257, .f32⟩ : BufTy).Contents (Elt F) :=
  addf (v144 (F := F) x0 x1 x5 x7) (v146 (F := F) x0 x1 x5 x7)

def v148 : (⟨S64x2x8x128x257, .f32⟩ : BufTy).Contents (Elt F) :=
  mulf (v147 (F := F) x0 x1 x5 x7) (v69 (F := F) x0 x5)

def v149 : (⟨S64x2x8x128x256, .f32⟩ : BufTy).Contents (Elt F) :=
  extractStridedSlice S64x2x8x128x256 ![0, 0, 0, 0, 0] (v148 (F := F) x0 x1 x5 x7) slices_S64x2x8x128x257_S64x2x8x128x256_0_0_0_0_0

def v150 : (⟨S64x2x8x128x1, .f32⟩ : BufTy).Contents (Elt F) :=
  extractStridedSlice S64x2x8x128x1 ![0, 0, 0, 0, 256] (v148 (F := F) x0 x1 x5 x7) slices_S64x2x8x128x257_S64x2x8x128x1_0_0_0_0_256

def cst_31 : (⟨S_, .f32⟩ : BufTy).Contents (Elt F) :=
  constant S_ .f32 0x00000000#32

def v151 : (⟨S2x8, .f32⟩ : BufTy).Contents (Elt F) :=
  Host.reduceAdd (v150 (F := F) x0 x1 x5 x7) (cst_31 (F := F)) reducesTo_S64x2x8x128x1_S2x8_d0_3_4 h_S_

def v152 : (⟨S1x2x8x1x1, .f32⟩ : BufTy).Contents (Elt F) :=
  broadcastInDim S1x2x8x1x1 ![1, 2] bcast_S2x8_S1x2x8x1x1_1_2 (v151 (F := F) x0 x1 x5 x7)

def v153 : (⟨S1x16, .f32⟩ : BufTy).Contents (Elt F) :=
  shapeCast _ (v152 (F := F) x0 x1 x5 x7) shapeCasts_S1x2x8x1x1_S1x16

def call1_cst : (⟨S_, .f32⟩ : BufTy).Contents (Elt F) :=
  constant S_ .f32 0x00000000#32

def call1_v0 : (⟨S64x2x8x128x256, .f32⟩ : BufTy).Contents (Elt F) :=
  broadcastInDim S64x2x8x128x256 ![] bcast_S_S64x2x8x128x256 (call1_cst (F := F))

def v154 : (⟨S64x2x8x128x256, .f32⟩ : BufTy).Contents (Elt F) :=
  select (v45_1 (F := F)) (v149 (F := F) x0 x1 x5 x7) (call1_v0 (F := F))

def cst_32 : (⟨S_, .f32⟩ : BufTy).Contents (Elt F) :=
  constant S_ .f32 0x3E000000#32

def v155 : (⟨S64x2x8x128x256, .f32⟩ : BufTy).Contents (Elt F) :=
  broadcastInDim S64x2x8x128x256 ![] bcast_S_S64x2x8x128x256 (cst_32 (F := F))

def v156 : (⟨S64x2x8x128x256, .f32⟩ : BufTy).Contents (Elt F) :=
  mulf (v154 (F := F) x0 x1 x5 x7) (v155 (F := F))

def v157 : (⟨S64x2x256x128x8, .f32⟩ : BufTy).Contents (Elt F) :=
  transpose S64x2x256x128x8 [0, 1, 4, 3, 2] (v156 (F := F) x0 x1 x5 x7) transposes_S64x2x8x128x256_S64x2x256x128x8_0_1_4_3_2

def v158 : (⟨S64x2x128x8x64, .f32⟩ : BufTy).Contents (Elt F) :=
  Host.dotGeneral dot_S64x2x256x128x8_S64x256x2x64_S64x2x128x8x64_2_1_34_3_01_02 none (v157 (F := F) x0 x1 x5 x7) (v10 (F := F) x0)

def v159 : (⟨S64x128x2x8x64, .f32⟩ : BufTy).Contents (Elt F) :=
  transpose S64x128x2x8x64 [0, 2, 1, 3, 4] (v158 (F := F) x0 x1 x5 x7) transposes_S64x2x128x8x64_S64x128x2x8x64_0_2_1_3_4

def v160 : (⟨S64x2x256x64, .f32⟩ : BufTy).Contents (Elt F) :=
  Host.dotGeneral dot_S64x2x256x128x8_S64x128x2x8x64_S64x2x256x64_34_13_2_4_01_02 none (v157 (F := F) x0 x1 x5 x7) (v3 (F := F) x0)

def v161 : (⟨S64x256x2x64, .f32⟩ : BufTy).Contents (Elt F) :=
  transpose S64x256x2x64 [0, 2, 1, 3] (v160 (F := F) x0 x1 x5 x7) transposes_S64x2x256x64_S64x256x2x64_0_2_1_3

def v162 : (⟨S64x128x2x64, .f32⟩ : BufTy).Contents (Elt F) :=
  extractStridedSlice S64x128x2x64 ![0, 0, 0, 0] (v161 (F := F) x0 x1 x5 x7) slices_S64x256x2x64_S64x128x2x64_0_0_0_0

def v163 : (⟨S64x128x2x64, .f32⟩ : BufTy).Contents (Elt F) :=
  extractStridedSlice S64x128x2x64 ![0, 128, 0, 0] (v161 (F := F) x0 x1 x5 x7) slices_S64x256x2x64_S64x128x2x64_0_128_0_0

def v165 : (⟨S63x128x2x64, .f32⟩ : BufTy).Contents (Elt F) :=
  extractStridedSlice S63x128x2x64 ![1, 0, 0, 0] (v162 (F := F) x0 x1 x5 x7) slices_S64x128x2x64_S63x128x2x64_1_0_0_0

def cst_33 : (⟨S_, .f32⟩ : BufTy).Contents (Elt F) :=
  constant S_ .f32 0x00000000#32

def v166 : (⟨S64x128x2x64, .f32⟩ : BufTy).Contents (Elt F) :=
  pad S64x128x2x64 ![0, 0, 0, 0] ![1, 0, 0, 0] ![0, 0, 0, 0] (v165 (F := F) x0 x1 x5 x7) (cst_33 (F := F)) pads_S63x128x2x64_S64x128x2x64_010_000_000_000 h_S_

def v167 : (⟨S64x128x2x64, .f32⟩ : BufTy).Contents (Elt F) :=
  addf (v163 (F := F) x0 x1 x5 x7) (v166 (F := F) x0 x1 x5 x7)

def v168 : (⟨S8192x128, .f32⟩ : BufTy).Contents (Elt F) :=
  shapeCast _ (v167 (F := F) x0 x1 x5 x7) shapeCasts_S64x128x2x64_S8192x128

def v169 : (⟨S8192x1024, .f32⟩ : BufTy).Contents (Elt F) :=
  shapeCast _ (v159 (F := F) x0 x1 x5 x7) shapeCasts_S64x128x2x8x64_S8192x1024

def cst_34 : (⟨S_, .f32⟩ : BufTy).Contents (Elt F) :=
  constant S_ .f32 0x00000000#32

def v170 : (⟨S8192x3328, .f32⟩ : BufTy).Contents (Elt F) :=
  pad S8192x3328 ![0, 3200] ![0, 0] ![0, 0] (v135 (F := F) x0 x1 x5 x7) (cst_34 (F := F)) pads_S8192x128_S8192x3328_000_320000 h_S_

def cst_35 : (⟨S_, .f32⟩ : BufTy).Contents (Elt F) :=
  constant S_ .f32 0x00000000#32

def v171 : (⟨S8192x3328, .f32⟩ : BufTy).Contents (Elt F) :=
  pad S8192x3328 ![0, 3072] ![0, 128] ![0, 0] (v168 (F := F) x0 x1 x5 x7) (cst_35 (F := F)) pads_S8192x128_S8192x3328_000_30721280 h_S_

def v172 : (⟨S8192x3328, .f32⟩ : BufTy).Contents (Elt F) :=
  addf (v170 (F := F) x0 x1 x5 x7) (v171 (F := F) x0 x1 x5 x7)

def cst_36 : (⟨S_, .f32⟩ : BufTy).Contents (Elt F) :=
  constant S_ .f32 0x00000000#32

def v173 : (⟨S8192x3328, .f32⟩ : BufTy).Contents (Elt F) :=
  pad S8192x3328 ![0, 2048] ![0, 256] ![0, 0] (v169 (F := F) x0 x1 x5 x7) (cst_36 (F := F)) pads_S8192x1024_S8192x3328_000_20482560 h_S_

def v174 : (⟨S8192x3328, .f32⟩ : BufTy).Contents (Elt F) :=
  addf (v172 (F := F) x0 x1 x5 x7) (v173 (F := F) x0 x1 x5 x7)

def v175 : (⟨S8192x3328, .bf16⟩ : BufTy).Contents (Elt F) :=
  truncf .bf16 (v174 (F := F) x0 x1 x5 x7) bitsLt_bf16_f32

def cst_37 : (⟨S_, .f32⟩ : BufTy).Contents (Elt F) :=
  constant S_ .f32 0x00000000#32

def cst_38 : (⟨S_, .f32⟩ : BufTy).Contents (Elt F) :=
  constant S_ .f32 0x00000000#32

def cst_39 : (⟨S_, .f32⟩ : BufTy).Contents (Elt F) :=
  constant S_ .f32 0x00000000#32

def cst_40 : (⟨S_, .f32⟩ : BufTy).Contents (Elt F) :=
  constant S_ .f32 0x00000000#32

theorem r_v3 (V0 : Valuation τ sig (Elt F)) :
    Cert.ReferenceIdeal.Value.res_main_v3 V0 = v3 (F := F) (V0 (Proc.devRef .tc main_arg0)) := by
  rw [Cert.ReferenceIdeal.Value.res_main_v3]
  rfl

theorem r_v4 (V0 : Valuation τ sig (Elt F)) :
    Cert.ReferenceIdeal.Value.res_main_v4 V0 = v4 (F := F) (V0 (Proc.devRef .tc main_arg0)) := by
  rw [Cert.ReferenceIdeal.Value.res_main_v4]
  try simp only [r_v3]
  rfl

theorem r_v10 (V0 : Valuation τ sig (Elt F)) :
    Cert.ReferenceIdeal.Value.res_main_v10 V0 = v10 (F := F) (V0 (Proc.devRef .tc main_arg0)) := by
  rw [Cert.ReferenceIdeal.Value.res_main_v10]
  try simp only [r_v3, r_v4]
  rfl

theorem r_v20 (V0 : Valuation τ sig (Elt F)) :
    Cert.ReferenceIdeal.Value.res_main_v20 V0 = v20 (F := F)  := by
  rw [Cert.ReferenceIdeal.Value.res_main_v20]
  try simp only [r_v3, r_v4, r_v10]
  rfl

theorem r_v23 (V0 : Valuation τ sig (Elt F)) :
    Cert.ReferenceIdeal.Value.res_main_v23 V0 = v23 (F := F)  := by
  rw [Cert.ReferenceIdeal.Value.res_main_v23]
  try simp only [r_v3, r_v4, r_v10, r_v20]
  rfl

theorem r_v45_1 (V0 : Valuation τ sig (Elt F)) :
    Cert.ReferenceIdeal.Value.res_main_v45_1 V0 = v45_1 (F := F)  := by
  rw [Cert.ReferenceIdeal.Value.res_main_v45_1]
  try simp only [r_v3, r_v4, r_v10, r_v20, r_v23]
  rfl

theorem r_v48 (V0 : Valuation τ sig (Elt F)) :
    Cert.ReferenceIdeal.Value.res_main_v48 V0 = v48 (F := F) (V0 (Proc.devRef .tc main_arg0)) (V0 (Proc.devRef .tc main_arg5)) := by
  rw [Cert.ReferenceIdeal.Value.res_main_v48]
  try simp only [r_v3, r_v4, r_v10, r_v20, r_v23, r_v45_1]
  rfl

theorem r_v49 (V0 : Valuation τ sig (Elt F)) :
    Cert.ReferenceIdeal.Value.res_main_v49 V0 = v49 (F := F) (V0 (Proc.devRef .tc main_arg0)) (V0 (Proc.devRef .tc main_arg5)) := by
  rw [Cert.ReferenceIdeal.Value.res_main_v49]
  try simp only [r_v3, r_v4, r_v10, r_v20, r_v23, r_v45_1, r_v48]
  rfl

theorem r_v69 (V0 : Valuation τ sig (Elt F)) :
    Cert.ReferenceIdeal.Value.res_main_v69 V0 = v69 (F := F) (V0 (Proc.devRef .tc main_arg0)) (V0 (Proc.devRef .tc main_arg5)) := by
  rw [Cert.ReferenceIdeal.Value.res_main_v69]
  try simp only [r_v3, r_v4, r_v10, r_v20, r_v23, r_v45_1, r_v48, r_v49]
  rfl

theorem r_v71 (V0 : Valuation τ sig (Elt F)) :
    Cert.ReferenceIdeal.Value.res_main_v71 V0 = v71 (F := F) (V0 (Proc.devRef .tc main_arg0)) (V0 (Proc.devRef .tc main_arg5)) := by
  rw [Cert.ReferenceIdeal.Value.res_main_v71]
  try simp only [r_v3, r_v4, r_v10, r_v20, r_v23, r_v45_1, r_v48, r_v49, r_v69]
  rfl

theorem r_v77 (V0 : Valuation τ sig (Elt F)) :
    Cert.ReferenceIdeal.Value.res_main_v77 V0 = v77 (F := F) (V0 (Proc.devRef .tc main_arg0)) (V0 (Proc.devRef .tc main_arg5)) := by
  rw [Cert.ReferenceIdeal.Value.res_main_v77]
  try simp only [r_v3, r_v4, r_v10, r_v20, r_v23, r_v45_1, r_v48, r_v49, r_v69, r_v71]
  rfl

theorem r_v78 (V0 : Valuation τ sig (Elt F)) :
    Cert.ReferenceIdeal.Value.res_main_v78 V0 = v78 (F := F) (V0 (Proc.devRef .tc main_arg0)) := by
  rw [Cert.ReferenceIdeal.Value.res_main_v78]
  try simp only [r_v3, r_v4, r_v10, r_v20, r_v23, r_v45_1, r_v48, r_v49, r_v69, r_v71, r_v77]
  rfl

theorem r_v84 (V0 : Valuation τ sig (Elt F)) :
    Cert.ReferenceIdeal.Value.res_main_v84 V0 = v84 (F := F) (V0 (Proc.devRef .tc main_arg0)) := by
  rw [Cert.ReferenceIdeal.Value.res_main_v84]
  try simp only [r_v3, r_v4, r_v10, r_v20, r_v23, r_v45_1, r_v48, r_v49, r_v69, r_v71, r_v77, r_v78]
  rfl

theorem r_v87 (V0 : Valuation τ sig (Elt F)) :
    Cert.ReferenceIdeal.Value.res_main_v87 V0 = v87 (F := F) (V0 (Proc.devRef .tc main_arg0)) (V0 (Proc.devRef .tc main_arg5)) := by
  rw [Cert.ReferenceIdeal.Value.res_main_v87]
  try simp only [r_v3, r_v4, r_v10, r_v20, r_v23, r_v45_1, r_v48, r_v49, r_v69, r_v71, r_v77, r_v78, r_v84]
  rfl

theorem r_v94 (V0 : Valuation τ sig (Elt F)) :
    Cert.ReferenceIdeal.Value.res_main_v94 V0 = v94 (F := F) (V0 (Proc.devRef .tc main_arg0)) (V0 (Proc.devRef .tc main_arg5)) := by
  rw [Cert.ReferenceIdeal.Value.res_main_v94]
  try simp only [r_v3, r_v4, r_v10, r_v20, r_v23, r_v45_1, r_v48, r_v49, r_v69, r_v71, r_v77, r_v78, r_v84, r_v87]
  rfl

theorem r_v95 (V0 : Valuation τ sig (Elt F)) :
    Cert.ReferenceIdeal.Value.res_main_v95 V0 = v95 (F := F) (V0 (Proc.devRef .tc main_arg0)) (V0 (Proc.devRef .tc main_arg5)) := by
  rw [Cert.ReferenceIdeal.Value.res_main_v95]
  try simp only [r_v3, r_v4, r_v10, r_v20, r_v23, r_v45_1, r_v48, r_v49, r_v69, r_v71, r_v77, r_v78, r_v84, r_v87, r_v94]
  rfl

theorem r_v100 (V0 : Valuation τ sig (Elt F)) :
    Cert.ReferenceIdeal.Value.res_main_v100 V0 = v100 (F := F) (V0 (Proc.devRef .tc main_arg0)) (V0 (Proc.devRef .tc main_arg5)) := by
  rw [Cert.ReferenceIdeal.Value.res_main_v100]
  try simp only [r_v3, r_v4, r_v10, r_v20, r_v23, r_v45_1, r_v48, r_v49, r_v69, r_v71, r_v77, r_v78, r_v84, r_v87, r_v94, r_v95]
  rfl

theorem r_v104 (V0 : Valuation τ sig (Elt F)) :
    Cert.ReferenceIdeal.Value.res_main_v104 V0 = v104 (F := F) (V0 (Proc.devRef .tc main_arg1)) := by
  rw [Cert.ReferenceIdeal.Value.res_main_v104]
  try simp only [r_v3, r_v4, r_v10, r_v20, r_v23, r_v45_1, r_v48, r_v49, r_v69, r_v71, r_v77, r_v78, r_v84, r_v87, r_v94, r_v95, r_v100]
  rfl

theorem r_v109 (V0 : Valuation τ sig (Elt F)) :
    Cert.ReferenceIdeal.Value.res_main_v109 V0 = v109 (F := F) (V0 (Proc.devRef .tc main_arg1)) (V0 (Proc.devRef .tc main_arg7)) := by
  rw [Cert.ReferenceIdeal.Value.res_main_v109]
  try simp only [r_v3, r_v4, r_v10, r_v20, r_v23, r_v45_1, r_v48, r_v49, r_v69, r_v71, r_v77, r_v78, r_v84, r_v87, r_v94, r_v95, r_v100, r_v104]
  rfl

theorem r_v119 (V0 : Valuation τ sig (Elt F)) :
    Cert.ReferenceIdeal.Value.res_main_v119 V0 = v119 (F := F) (V0 (Proc.devRef .tc main_arg0)) (V0 (Proc.devRef .tc main_arg1)) (V0 (Proc.devRef .tc main_arg5)) (V0 (Proc.devRef .tc main_arg7)) := by
  rw [Cert.ReferenceIdeal.Value.res_main_v119]
  try simp only [r_v3, r_v4, r_v10, r_v20, r_v23, r_v45_1, r_v48, r_v49, r_v69, r_v71, r_v77, r_v78, r_v84, r_v87, r_v94, r_v95, r_v100, r_v104, r_v109]
  rfl

theorem r_v125 (V0 : Valuation τ sig (Elt F)) :
    Cert.ReferenceIdeal.Value.res_main_v125 V0 = v125 (F := F) (V0 (Proc.devRef .tc main_arg0)) (V0 (Proc.devRef .tc main_arg1)) (V0 (Proc.devRef .tc main_arg5)) (V0 (Proc.devRef .tc main_arg7)) := by
  rw [Cert.ReferenceIdeal.Value.res_main_v125]
  try simp only [r_v3, r_v4, r_v10, r_v20, r_v23, r_v45_1, r_v48, r_v49, r_v69, r_v71, r_v77, r_v78, r_v84, r_v87, r_v94, r_v95, r_v100, r_v104, r_v109, r_v119]
  rfl

theorem r_v128 (V0 : Valuation τ sig (Elt F)) :
    Cert.ReferenceIdeal.Value.res_main_v128 V0 = v128 (F := F) (V0 (Proc.devRef .tc main_arg0)) (V0 (Proc.devRef .tc main_arg1)) (V0 (Proc.devRef .tc main_arg5)) (V0 (Proc.devRef .tc main_arg7)) := by
  rw [Cert.ReferenceIdeal.Value.res_main_v128]
  try simp only [r_v3, r_v4, r_v10, r_v20, r_v23, r_v45_1, r_v48, r_v49, r_v69, r_v71, r_v77, r_v78, r_v84, r_v87, r_v94, r_v95, r_v100, r_v104, r_v109, r_v119, r_v125]
  rfl

theorem r_v129 (V0 : Valuation τ sig (Elt F)) :
    Cert.ReferenceIdeal.Value.res_main_v129 V0 = v129 (F := F) (V0 (Proc.devRef .tc main_arg0)) (V0 (Proc.devRef .tc main_arg1)) (V0 (Proc.devRef .tc main_arg5)) (V0 (Proc.devRef .tc main_arg7)) := by
  rw [Cert.ReferenceIdeal.Value.res_main_v129]
  try simp only [r_v3, r_v4, r_v10, r_v20, r_v23, r_v45_1, r_v48, r_v49, r_v69, r_v71, r_v77, r_v78, r_v84, r_v87, r_v94, r_v95, r_v100, r_v104, r_v109, r_v119, r_v125, r_v128]
  rfl

theorem r_v136 (V0 : Valuation τ sig (Elt F)) :
    Cert.ReferenceIdeal.Value.res_main_v136 V0 = v136 (F := F) (V0 (Proc.devRef .tc main_arg0)) (V0 (Proc.devRef .tc main_arg1)) (V0 (Proc.devRef .tc main_arg5)) (V0 (Proc.devRef .tc main_arg7)) := by
  rw [Cert.ReferenceIdeal.Value.res_main_v136]
  try simp only [r_v3, r_v4, r_v10, r_v20, r_v23, r_v45_1, r_v48, r_v49, r_v69, r_v71, r_v77, r_v78, r_v84, r_v87, r_v94, r_v95, r_v100, r_v104, r_v109, r_v119, r_v125, r_v128, r_v129]
  rfl

theorem r_v148 (V0 : Valuation τ sig (Elt F)) :
    Cert.ReferenceIdeal.Value.res_main_v148 V0 = v148 (F := F) (V0 (Proc.devRef .tc main_arg0)) (V0 (Proc.devRef .tc main_arg1)) (V0 (Proc.devRef .tc main_arg5)) (V0 (Proc.devRef .tc main_arg7)) := by
  rw [Cert.ReferenceIdeal.Value.res_main_v148]
  try simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136]
  rfl

theorem r_v157 (V0 : Valuation τ sig (Elt F)) :
    Cert.ReferenceIdeal.Value.res_main_v157 V0 = v157 (F := F) (V0 (Proc.devRef .tc main_arg0)) (V0 (Proc.devRef .tc main_arg1)) (V0 (Proc.devRef .tc main_arg5)) (V0 (Proc.devRef .tc main_arg7)) := by
  rw [Cert.ReferenceIdeal.Value.res_main_v157]
  try simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148]
  rfl

theorem r_v161 (V0 : Valuation τ sig (Elt F)) :
    Cert.ReferenceIdeal.Value.res_main_v161 V0 = v161 (F := F) (V0 (Proc.devRef .tc main_arg0)) (V0 (Proc.devRef .tc main_arg1)) (V0 (Proc.devRef .tc main_arg5)) (V0 (Proc.devRef .tc main_arg7)) := by
  rw [Cert.ReferenceIdeal.Value.res_main_v161]
  try simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148, r_v157]
  rfl

theorem r_v162 (V0 : Valuation τ sig (Elt F)) :
    Cert.ReferenceIdeal.Value.res_main_v162 V0 = v162 (F := F) (V0 (Proc.devRef .tc main_arg0)) (V0 (Proc.devRef .tc main_arg1)) (V0 (Proc.devRef .tc main_arg5)) (V0 (Proc.devRef .tc main_arg7)) := by
  rw [Cert.ReferenceIdeal.Value.res_main_v162]
  try simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148, r_v157, r_v161]
  rfl

theorem v175_eq (V0 : Valuation τ sig (Elt F)) :
    truncf .bf16 (addf (addf (pad S8192x3328 ![0, 3200] ![0, 0] ![0, 0] (shapeCast _ (addf (extractStridedSlice S64x128x2x64 ![0, 128, 0, 0] (Cert.ReferenceIdeal.Value.res_main_v128 V0) slices_S64x256x2x64_S64x128x2x64_0_128_0_0) (pad S64x128x2x64 ![0, 0, 0, 0] ![1, 0, 0, 0] ![0, 0, 0, 0] (extractStridedSlice S63x128x2x64 ![1, 0, 0, 0] (Cert.ReferenceIdeal.Value.res_main_v129 V0) slices_S64x128x2x64_S63x128x2x64_1_0_0_0) (constant S_ .f32 0x00000000#32) pads_S63x128x2x64_S64x128x2x64_010_000_000_000 h_S_)) shapeCasts_S64x128x2x64_S8192x128) (constant S_ .f32 0x00000000#32) pads_S8192x128_S8192x3328_000_320000 h_S_) (pad S8192x3328 ![0, 3072] ![0, 128] ![0, 0] (shapeCast _ (addf (extractStridedSlice S64x128x2x64 ![0, 128, 0, 0] (Cert.ReferenceIdeal.Value.res_main_v161 V0) slices_S64x256x2x64_S64x128x2x64_0_128_0_0) (pad S64x128x2x64 ![0, 0, 0, 0] ![1, 0, 0, 0] ![0, 0, 0, 0] (extractStridedSlice S63x128x2x64 ![1, 0, 0, 0] (Cert.ReferenceIdeal.Value.res_main_v162 V0) slices_S64x128x2x64_S63x128x2x64_1_0_0_0) (constant S_ .f32 0x00000000#32) pads_S63x128x2x64_S64x128x2x64_010_000_000_000 h_S_)) shapeCasts_S64x128x2x64_S8192x128) (constant S_ .f32 0x00000000#32) pads_S8192x128_S8192x3328_000_30721280 h_S_)) (pad S8192x3328 ![0, 2048] ![0, 256] ![0, 0] (shapeCast _ (transpose S64x128x2x8x64 [0, 2, 1, 3, 4] (Host.dotGeneral dot_S64x2x256x128x8_S64x256x2x64_S64x2x128x8x64_2_1_34_3_01_02 none (Cert.ReferenceIdeal.Value.res_main_v157 V0) (Cert.ReferenceIdeal.Value.res_main_v10 V0)) transposes_S64x2x128x8x64_S64x128x2x8x64_0_2_1_3_4) shapeCasts_S64x128x2x8x64_S8192x1024) (constant S_ .f32 0x00000000#32) pads_S8192x1024_S8192x3328_000_20482560 h_S_)) bitsLt_bf16_f32
      = v175 (F := F) (V0 (Proc.devRef .tc main_arg0)) (V0 (Proc.devRef .tc main_arg1)) (V0 (Proc.devRef .tc main_arg5)) (V0 (Proc.devRef .tc main_arg7)) := by
  simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148, r_v157, r_v161, r_v162]
  rfl

theorem v153_eq (V0 : Valuation τ sig (Elt F)) :
    shapeCast _ (broadcastInDim S1x2x8x1x1 ![1, 2] bcast_S2x8_S1x2x8x1x1_1_2 (Host.reduceAdd (extractStridedSlice S64x2x8x128x1 ![0, 0, 0, 0, 256] (Cert.ReferenceIdeal.Value.res_main_v148 V0) slices_S64x2x8x128x257_S64x2x8x128x1_0_0_0_0_256) (constant S_ .f32 0x00000000#32) reducesTo_S64x2x8x128x1_S2x8_d0_3_4 h_S_)) shapeCasts_S1x2x8x1x1_S1x16
      = v153 (F := F) (V0 (Proc.devRef .tc main_arg0)) (V0 (Proc.devRef .tc main_arg1)) (V0 (Proc.devRef .tc main_arg5)) (V0 (Proc.devRef .tc main_arg7)) := by
  simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148, r_v157, r_v161, r_v162]
  rfl

theorem v107_eq (V0 : Valuation τ sig (Elt F)) :
    shapeCast _ (Host.reduceAdd (mulf (Cert.ReferenceIdeal.Value.res_main_v100 V0) (Cert.ReferenceIdeal.Value.res_main_v104 V0)) (constant S_ .f32 0x00000000#32) reducesTo_S8192x1024_S1024_d0 h_S_) shapeCasts_S1024_S1x1024
      = v107 (F := F) (V0 (Proc.devRef .tc main_arg0)) (V0 (Proc.devRef .tc main_arg1)) (V0 (Proc.devRef .tc main_arg5)) := by
  simp only [r_v3, r_v4, r_v10, r_v20, r_v23, r_v45_1, r_v48, r_v49, r_v69, r_v71, r_v77, r_v78, r_v84, r_v87, r_v94, r_v95, r_v100, r_v104, r_v109, r_v119, r_v125, r_v128, r_v129, r_v136, r_v148, r_v157, r_v161, r_v162]
  rfl

end Mixer.Ref

end
-- ==== Proof.Mixer.RefRead.lean ====
/-
  The reference's operations, each read at an index.
-/
module

public import proofs.«01_k».proof.Proof.Mixer.Ref
public import proofs.«01_k».proof.Proof.Mixer.Spec
public import Idealize.ShloMosaic.Lib.Pointwise
public import Idealize.ShloMosaic.Lib.IdealHost

@[expose] public section

set_option maxRecDepth 16384

noncomputable section

namespace Mixer.Ref

open Idealize.ShloMosaic Idealize.ShloMosaic.TcCoe
open Cert.ReferenceIdeal Mixer.Spec

variable (x0 : FVec Ideal S8192x3328 .f32) (x1 : FVec Ideal S8192x2048 .bf16) (x5 : FVec Ideal S1x16 .f32) (x7 : FVec Ideal S1x1024 .f32)

theorem v85_at (n : Fin 64) (kv : Fin 2) (d : Fin 64) (g : Fin 8) (i : Fin 128) :
    v85 (F := Ideal) x0 x5 (ix5 n kv d g i) = ∑ j : Fin 256, v84 (F := Ideal) x0 (ix4 n j kv d) * v77 (F := Ideal) x0 x5 (ix5 n kv g i j) := by
  unfold v85; generalize v84 (F := Ideal) x0 = A; generalize v77 (F := Ideal) x0 x5 = B; pointwise

theorem v87_cast (r : Fin 8192) (c : Fin 1024) : v87 (F := Ideal) x0 x5 (ix2 r c)
    = v85 (F := Ideal) x0 x5 (ix5 (⟨r.val / 128, by omega⟩ : Fin 64) (ckv c) (cd c) (cg c) (⟨r.val % 128, by omega⟩ : Fin 128)) := by
  unfold v87 v86; generalize v85 (F := Ideal) x0 x5 = A; pointwise [ckv, cd, cg]

theorem v94_at (r : Fin 8192) : v94 (F := Ideal) x0 x5 (ix2 r 0)
    = Ideal.div (∑ c : Fin 1024, v87 (F := Ideal) x0 x5 (ix2 r c) * v87 (F := Ideal) x0 x5 (ix2 r c)) (Ideal.ofBits .f32 0x44800000#32) + Ideal.ofBits .f32 0x3727C5AC#32 := by
  unfold v94 v93 v92 v91 v90 v89 v88; generalize v87 (F := Ideal) x0 x5 = A; pointwise [cst_19, cst_20, cst_21]

theorem v95_at (r : Fin 8192) : v95 (F := Ideal) x0 x5 (ix2 r 0) = Ideal.rsqrt (v94 (F := Ideal) x0 x5 (ix2 r 0)) := by
  unfold v95; generalize v94 (F := Ideal) x0 x5 = A; pointwise

theorem v98_at (r : Fin 8192) : v98 (F := Ideal) x0 x5 (ix2 r 0) = Ideal.ofBits .f32 0xBF000000#32 * Ideal.div (v95 (F := Ideal) x0 x5 (ix2 r 0)) (v94 (F := Ideal) x0 x5 (ix2 r 0)) := by
  unfold v98 v97 v96; generalize v94 (F := Ideal) x0 x5 = A; generalize v95 (F := Ideal) x0 x5 = B;  pointwise [cst_22]

theorem v104_at (r : Fin 8192) (c : Fin 1024) : v104 (F := Ideal) x1 (ix2 r c) = x1 (ix2 r (⟨1024 + c.val, by omega⟩ : Fin 2048)) := by
  pointwise [v104, v103]

theorem v107_at (c : Fin 1024) : v107 (F := Ideal) x0 x1 x5 (ix2 0 c)
    = ∑ r : Fin 8192, v87 (F := Ideal) x0 x5 (ix2 r c) * v95 (F := Ideal) x0 x5 (ix2 r 0) * v104 (F := Ideal) x1 (ix2 r c) := by
  unfold v107 v106 v105 v100 v99; generalize v87 (F := Ideal) x0 x5 = A; generalize v95 (F := Ideal) x0 x5 = B; generalize v104 (F := Ideal) x1 = C; pointwise [cst_23]

theorem v109_at (r : Fin 8192) (c : Fin 1024) : v109 (F := Ideal) x1 x7 (ix2 r c) = v104 (F := Ideal) x1 (ix2 r c) * x7 (ix2 0 c) := by
  unfold v109 v108; generalize v104 (F := Ideal) x1 = A; pointwise

theorem v118_at (r : Fin 8192) : v118 (F := Ideal) x0 x1 x5 x7 (ix1 r)
    = Ideal.div ((∑ c : Fin 1024, v87 (F := Ideal) x0 x5 (ix2 r c) * v109 (F := Ideal) x1 x7 (ix2 r c)) * v98 (F := Ideal) x0 x5 (ix2 r 0)) (Ideal.ofBits .f32 0x44800000#32) := by
  unfold v118 v117 v116 v115 v112 v111 v110
  generalize v87 (F := Ideal) x0 x5 = A; generalize v98 (F := Ideal) x0 x5 = B; generalize v109 (F := Ideal) x1 x7 = C; pointwise [cst_24, cst_25, cst_26]
  exact Fin.sum_univ_one _

theorem v123_at (r : Fin 8192) (c : Fin 1024) : v123 (F := Ideal) x0 x1 x5 x7 (ix2 r c)
    = v109 (F := Ideal) x1 x7 (ix2 r c) * v95 (F := Ideal) x0 x5 (ix2 r 0) + v87 (F := Ideal) x0 x5 (ix2 r c) * v118 (F := Ideal) x0 x1 x5 x7 (ix1 r)
      + v118 (F := Ideal) x0 x1 x5 x7 (ix1 r) * v87 (F := Ideal) x0 x5 (ix2 r c) := by
  unfold v123 v122 v121 v120 v119 v114 v113
  generalize v87 (F := Ideal) x0 x5 = A; generalize v95 (F := Ideal) x0 x5 = B; generalize v109 (F := Ideal) x1 x7 = C; generalize v118 (F := Ideal) x0 x1 x5 x7 = D; pointwise

theorem v125_at (n : Fin 64) (kv : Fin 2) (d : Fin 64) (g : Fin 8) (i : Fin 128) : v125 (F := Ideal) x0 x1 x5 x7 (ix5 n kv d g i)
    = v123 (F := Ideal) x0 x1 x5 x7 (ix2 (⟨n.val * 128 + i.val, by omega⟩ : Fin 8192) (col kv g d)) := by
  unfold v125 v124; generalize v123 (F := Ideal) x0 x1 x5 x7 = A; pointwise [col]

theorem v126_at (n : Fin 64) (kv : Fin 2) (g : Fin 8) (i : Fin 128) (j : Fin 256) : v126 (F := Ideal) x0 x1 x5 x7 (ix5 n kv g i j)
    = ∑ d : Fin 64, v125 (F := Ideal) x0 x1 x5 x7 (ix5 n kv d g i) * v84 (F := Ideal) x0 (ix4 n j kv d) := by
  unfold v126; generalize v84 (F := Ideal) x0 = A; generalize v125 (F := Ideal) x0 x1 x5 x7 = B; pointwise

theorem v128_at (n : Fin 64) (kv : Fin 2) (j : Fin 256) (d : Fin 64) : v128 (F := Ideal) x0 x1 x5 x7 (ix4 n j kv d)
    = ∑ g : Fin 8, ∑ i : Fin 128, v125 (F := Ideal) x0 x1 x5 x7 (ix5 n kv d g i) * v77 (F := Ideal) x0 x5 (ix5 n kv g i j) := by
  unfold v128 v127; generalize v77 (F := Ideal) x0 x5 = A; generalize v125 (F := Ideal) x0 x1 x5 x7 = B; pointwise

theorem dite_same {p q : Prop} {dp : Decidable p} {dq : Decidable q} (hpq : p ↔ q) (f : p → EReal) (g : q → EReal) (h : ∀ a b, f a = g b) :
    (if h : p then f h else 0) = if h : q then g h else 0 := by
  by_cases hp : p
  · rw [dif_pos hp, dif_pos (hpq.mp hp)]; exact h _ _
  · rw [dif_neg hp, dif_neg (fun hq => hp (hpq.mpr hq))]

theorem v135_at (r : Fin 8192) (c : Fin 128) : v135 (F := Ideal) x0 x1 x5 x7 (ix2 r c)
    = v128 (F := Ideal) x0 x1 x5 x7 (ix4 (⟨r.val / 128, by omega⟩ : Fin 64) (⟨128 + r.val % 128, by omega⟩ : Fin 256) (⟨c.val / 64, by omega⟩ : Fin 2) (⟨c.val % 64, by omega⟩ : Fin 64))
      + if h : r.val / 128 + 1 < 64 then
        v128 (F := Ideal) x0 x1 x5 x7 (ix4 (⟨r.val / 128 + 1, h⟩ : Fin 64) (⟨r.val % 128, by omega⟩ : Fin 256) (⟨c.val / 64, by omega⟩ : Fin 2) (⟨c.val % 64, by omega⟩ : Fin 64)) else 0 := by
  unfold v135 v134 v133 v132 v130 v129; generalize v128 (F := Ideal) x0 x1 x5 x7 = A; pointwise [cst_27]
  refine congrArg₂ (· + ·) rfl ?_
  refine dite_same (by omega) _ _ fun _ _ => ?_
  simp only [Nat.add_comm 1 (r.val / 128)]

theorem v168_at (r : Fin 8192) (c : Fin 128) : v168 (F := Ideal) x0 x1 x5 x7 (ix2 r c)
    = v161 (F := Ideal) x0 x1 x5 x7 (ix4 (⟨r.val / 128, by omega⟩ : Fin 64) (⟨128 + r.val % 128, by omega⟩ : Fin 256) (⟨c.val / 64, by omega⟩ : Fin 2) (⟨c.val % 64, by omega⟩ : Fin 64))
      + if h : r.val / 128 + 1 < 64 then
        v161 (F := Ideal) x0 x1 x5 x7 (ix4 (⟨r.val / 128 + 1, h⟩ : Fin 64) (⟨r.val % 128, by omega⟩ : Fin 256) (⟨c.val / 64, by omega⟩ : Fin 2) (⟨c.val % 64, by omega⟩ : Fin 64)) else 0 := by
  unfold v168 v167 v166 v165 v163 v162; generalize v161 (F := Ideal) x0 x1 x5 x7 = A; pointwise [cst_33]
  refine congrArg₂ (· + ·) rfl ?_
  refine dite_same (by omega) _ _ fun _ _ => ?_
  simp only [Nat.add_comm 1 (r.val / 128)]

theorem v161_at (n : Fin 64) (kv : Fin 2) (j : Fin 256) (d : Fin 64) : v161 (F := Ideal) x0 x1 x5 x7 (ix4 n j kv d)
    = ∑ i : Fin 128, ∑ g : Fin 8, v156 (F := Ideal) x0 x1 x5 x7 (ix5 n kv g i j) * v3 (F := Ideal) x0 (ix5 n i kv g d) := by
  unfold v161 v160 v157; generalize v156 (F := Ideal) x0 x1 x5 x7 = A; generalize v3 (F := Ideal) x0 = B; pointwise

theorem v169_at (r : Fin 8192) (c : Fin 1024) : v169 (F := Ideal) x0 x1 x5 x7 (ix2 r c)
    = ∑ j : Fin 256, v156 (F := Ideal) x0 x1 x5 x7 (ix5 (⟨r.val / 128, by omega⟩ : Fin 64) (ckv c) (cg c) (⟨r.val % 128, by omega⟩ : Fin 128) j)
        * v10 (F := Ideal) x0 (ix4 (⟨r.val / 128, by omega⟩ : Fin 64) j (ckv c) (cd c)) := by
  unfold v169 v159 v158 v157; generalize v156 (F := Ideal) x0 x1 x5 x7 = A; generalize v10 (F := Ideal) x0 = B; pointwise [ckv, cd, cg]

theorem v175_q (r : Fin 8192) (c : Fin 1024) : v175 (F := Ideal) x0 x1 x5 x7 (ix2 r (⟨2048 + c.val, by omega⟩ : Fin 3328))
    = v169 (F := Ideal) x0 x1 x5 x7 (ix2 r c) := by
  unfold v175 v174 v173 v172 v171 v170; generalize v169 (F := Ideal) x0 x1 x5 x7 = A; generalize v168 (F := Ideal) x0 x1 x5 x7 = B; generalize v135 (F := Ideal) x0 x1 x5 x7 = C; pointwise [cst_34, cst_35, cst_36]
  rw [dif_neg (by omega), dif_neg (by omega), zero_add, zero_add]

theorem v175_k (r : Fin 8192) (c : Fin 128) : v175 (F := Ideal) x0 x1 x5 x7 (ix2 r (⟨3072 + c.val, by omega⟩ : Fin 3328))
    = v168 (F := Ideal) x0 x1 x5 x7 (ix2 r c) := by
  unfold v175 v174 v173 v172 v171 v170; generalize v169 (F := Ideal) x0 x1 x5 x7 = A; generalize v168 (F := Ideal) x0 x1 x5 x7 = B; generalize v135 (F := Ideal) x0 x1 x5 x7 = C; pointwise [cst_34, cst_35, cst_36]
  rw [dif_neg (by omega), dif_neg (by omega), zero_add, add_zero]

theorem v175_v (r : Fin 8192) (c : Fin 128) : v175 (F := Ideal) x0 x1 x5 x7 (ix2 r (⟨3200 + c.val, by omega⟩ : Fin 3328))
    = v135 (F := Ideal) x0 x1 x5 x7 (ix2 r c) := by
  unfold v175 v174 v173 v172 v171 v170; generalize v169 (F := Ideal) x0 x1 x5 x7 = A; generalize v168 (F := Ideal) x0 x1 x5 x7 = B; generalize v135 (F := Ideal) x0 x1 x5 x7 = C; pointwise [cst_34, cst_35, cst_36]
  rw [dif_neg (by omega), dif_neg (by omega), add_zero, add_zero]

theorem v156_at (n : Fin 64) (kv : Fin 2) (g : Fin 8) (i : Fin 128) (j : Fin 256) : v156 (F := Ideal) x0 x1 x5 x7 (ix5 n kv g i j)
    = (if v43 (F := Ideal) (ix3 n i j) = 1#1 then v148 (F := Ideal) x0 x1 x5 x7 (ix5 n kv g i (⟨j.val, by omega⟩ : Fin 257)) else 0) * Ideal.ofBits .f32 0x3E000000#32 := by
  unfold v156 v155 v154 v149 v45_1 v44 call1_v0; generalize v148 (F := Ideal) x0 x1 x5 x7 = A; generalize v43 (F := Ideal) = M; pointwise [call1_cst, cst_32]
  by_cases h : M (ix3 n i j) = 1#1 <;> simp [Scalar.select, h]

theorem v148_at (n : Fin 64) (kv : Fin 2) (g : Fin 8) (i : Fin 128) (j : Fin 257) : v148 (F := Ideal) x0 x1 x5 x7 (ix5 n kv g i j)
    = (Ideal.div (v136 (F := Ideal) x0 x1 x5 x7 (ix5 n kv g i j)) (v70 (F := Ideal) x0 x5 (ix4 n kv g i))
        + -∑ j : Fin 257, v136 (F := Ideal) x0 x1 x5 x7 (ix5 n kv g i j)
          * Ideal.div (Ideal.ofBits .f32 0x3F800000#32) (v70 (F := Ideal) x0 x5 (ix4 n kv g i) * v70 (F := Ideal) x0 x5 (ix4 n kv g i))
          * v69 (F := Ideal) x0 x5 (ix5 n kv g i j)) * v69 (F := Ideal) x0 x5 (ix5 n kv g i j) := by
  unfold v148 v147 v146 v145 v144 v143 v142 v141 v140 v139 v138 v137 v76 v75 v74 v71
  generalize v136 (F := Ideal) x0 x1 x5 x7 = A; generalize v70 (F := Ideal) x0 x5 = B; generalize v69 (F := Ideal) x0 x5 = C; pointwise [cst_29, cst_30, cst_16]
  rw [Fin.sum_univ_one]

theorem v136_at (n : Fin 64) (kv : Fin 2) (g : Fin 8) (i : Fin 128) (j : Fin 257) : v136 (F := Ideal) x0 x1 x5 x7 (ix5 n kv g i j)
    = if h : j.val < 256 then v126 (F := Ideal) x0 x1 x5 x7 (ix5 n kv g i (⟨j.val, h⟩ : Fin 256)) else 0 := by
  unfold v136; generalize v126 (F := Ideal) x0 x1 x5 x7 = A; pointwise [cst_28]

theorem v153_at (h : Fin 16) : v153 (F := Ideal) x0 x1 x5 x7 (ix2 0 h)
    = ∑ n : Fin 64, ∑ i : Fin 128, v148 (F := Ideal) x0 x1 x5 x7 (ix5 n (⟨h.val / 8, by omega⟩ : Fin 2) (⟨h.val % 8, by omega⟩ : Fin 8) i (⟨256, by omega⟩ : Fin 257)) := by
  unfold v153 v152 v151 v150; generalize v148 (F := Ideal) x0 x1 x5 x7 = A; pointwise [cst_31]
  unfold Ideal.hostReduceAdd
  rw [zero_add, ← Fintype.sum_prod_type']
  refine Finset.sum_nbij' (fun i => (i 0, i 3)) (fun p => ix5 p.1 ⟨h.val / 8, by omega⟩ ⟨h.val % 8, by omega⟩ p.2 0) (fun _ _ => Finset.mem_univ _) ?_ ?_ ?_ ?_
  · intro p _
    refine Finset.mem_filter.mpr ⟨Finset.mem_univ _, ?_⟩
    funext a; fin_cases a <;> rfl
  · intro i hi
    have e := (Finset.mem_filter.mp hi).2
    have e0 := congrFun e 0
    have e1 := congrFun e 1
    funext a; fin_cases a
    · rfl
    · exact e0.symm
    · exact e1.symm
    · rfl
    · exact (Fin.ext (Nat.lt_one_iff.mp (i 4).isLt)).symm
  · intro p _; rfl
  · intro i hi
    have e := (Finset.mem_filter.mp hi).2
    have e0 := congrFun e 0
    have e1 := congrFun e 1
    refine congrArg A ?_
    funext a; fin_cases a
    · exact Fin.ext (Nat.zero_add _)
    · exact Fin.ext ((Nat.zero_add _).trans (congrArg Fin.val e0))
    · exact Fin.ext ((Nat.zero_add _).trans (congrArg Fin.val e1))
    · exact Fin.ext (Nat.zero_add _)
    · exact Fin.ext (show 256 + (i 4).val = 256 by have : (i 4).val < 1 := (i 4).isLt; omega)

theorem v77_at (n : Fin 64) (kv : Fin 2) (g : Fin 8) (i : Fin 128) (j : Fin 256) : v77 (F := Ideal) x0 x5 (ix5 n kv g i j)
    = Ideal.div (v69 (F := Ideal) x0 x5 (ix5 n kv g i (⟨j.val, by omega⟩ : Fin 257))) (v70 (F := Ideal) x0 x5 (ix4 n kv g i)) := by
  unfold v77 v73 v72 v71; generalize v70 (F := Ideal) x0 x5 = B; generalize v69 (F := Ideal) x0 x5 = C; pointwise

theorem v70_at (n : Fin 64) (kv : Fin 2) (g : Fin 8) (i : Fin 128) : v70 (F := Ideal) x0 x5 (ix4 n kv g i) = ∑ j : Fin 257, v69 (F := Ideal) x0 x5 (ix5 n kv g i j) := by
  unfold v70; generalize v69 (F := Ideal) x0 x5 = C; pointwise [cst_15]

theorem maxi {s : Shape} (B A : FVec Ideal s .f32) (i : s.Idx) (h : B i = ⊥) : maximumf B A i = A i := by
  show max (B i : EReal) (A i) = A i
  rw [h]; exact max_eq_right bot_le

theorem v56_at (n : Fin 64) (kv : Fin 2) (g : Fin 8) (i : Fin 128) : v56 (F := Ideal) x0 x5 (ix4 n kv g i) = v49 (F := Ideal) x0 x5 (ix4 n kv g i) := by
  have h : v55 (F := Ideal) (ix4 n kv g i) = ⊥ := by
    unfold v55; generalize hc : cst_9 (F := Ideal) = z
    have e : z ix0 = Ideal.ofBits .f32 0xFF800000#32 := by rw [← hc]; rfl
    refine Eq.trans ?_ (e.trans c_ninf); pointwise
  rw [v56]; exact maxi _ _ _ h

theorem v67_at (n : Fin 64) (kv : Fin 2) (g : Fin 8) (i : Fin 128) (j : Fin 257) : v67 (F := Ideal) x0 x5 (ix5 n kv g i j) = v56 (F := Ideal) x0 x5 (ix4 n kv g i) := by
  unfold v67 v66; generalize v56 (F := Ideal) x0 x5 = C; pointwise

theorem v69_at (n : Fin 64) (kv : Fin 2) (g : Fin 8) (i : Fin 128) (j : Fin 257) : v69 (F := Ideal) x0 x5 (ix5 n kv g i j)
    = Ideal.exp (v48 (F := Ideal) x0 x5 (ix5 n kv g i j) - v49 (F := Ideal) x0 x5 (ix4 n kv g i)) := by
  have h := (v67_at x0 x5 n kv g i j).trans (v56_at x0 x5 n kv g i)
  revert h
  unfold v69 v68
  generalize v49 (F := Ideal) x0 x5 = A
  generalize v48 (F := Ideal) x0 x5 = B; generalize v67 (F := Ideal) x0 x5 = C; intro h
  rw [← h]; rfl

theorem v48_at (n : Fin 64) (kv : Fin 2) (g : Fin 8) (i : Fin 128) (j : Fin 257) : v48 (F := Ideal) x0 x5 (ix5 n kv g i j)
    = if h : j.val < 256 then (if v43 (F := Ideal) (ix3 n i (⟨j.val, h⟩ : Fin 256)) = 1#1 then v14 (F := Ideal) x0 (ix5 n kv g i (⟨j.val, h⟩ : Fin 256)) else Ideal.ofBits .f32 0xFF800000#32)
      else x5 (ix2 0 (⟨kv.val * 8 + g.val, by omega⟩ : Fin 16)) := by
  unfold v48 v47 v46 v45_0 v45_1 v44 call0_v2 call0_v0; generalize v14 (F := Ideal) x0 = A; generalize v43 (F := Ideal) = M; pointwise [cst_6]
  split
  · rename_i hj
    by_cases h : M (ix3 n i ⟨j.val, hj⟩) = 1#1 <;> simp [Scalar.select, h]
    rfl
  · rfl

theorem v14_at (n : Fin 64) (kv : Fin 2) (g : Fin 8) (i : Fin 128) (j : Fin 256) : v14 (F := Ideal) x0 (ix5 n kv g i j)
    = (∑ d : Fin 64, v10 (F := Ideal) x0 (ix4 n j kv d) * v3 (F := Ideal) x0 (ix5 n i kv g d)) * Ideal.ofBits .f32 0x3E000000#32 := by
  unfold v14 v13 v12 v11; generalize v10 (F := Ideal) x0 = A; generalize v3 (F := Ideal) x0 = M; pointwise [cst_1]

theorem v3_at (n : Fin 64) (kv : Fin 2) (g : Fin 8) (i : Fin 128) (d : Fin 64) : v3 (F := Ideal) x0 (ix5 n i kv g d)
    = x0 (ix2 (⟨n.val * 128 + i.val, by omega⟩ : Fin 8192) (⟨2048 + (kv.val * 512 + g.val * 64 + d.val), by omega⟩ : Fin 3328)) := by
  unfold v3 v0; pointwise

theorem v10_at (n : Fin 64) (kv : Fin 2) (j : Fin 256) (d : Fin 64) : v10 (F := Ideal) x0 (ix4 n j kv d)
    = if j.val < 128 then if n.val = 0 then 0 else x0 (ix2 (⟨(n.val - 1) * 128 + j.val % 128, by omega⟩ : Fin 8192) (⟨3072 + (kv.val * 64 + d.val), by omega⟩ : Fin 3328))
      else x0 (ix2 (⟨n.val * 128 + j.val % 128, by omega⟩ : Fin 8192) (⟨3072 + (kv.val * 64 + d.val), by omega⟩ : Fin 3328)) := by
  unfold v10 v8 v7 v6 v4 v1; pointwise [cst]
  by_cases h : j.val < 128
  · rw [dif_pos h, if_pos h]
    by_cases h' : n.val = 0
    · rw [dif_pos (by omega), if_pos h']
    · rw [dif_neg (by omega), if_neg h']; congr 2; apply Fin.ext; dsimp only; omega
  · rw [dif_neg h, if_neg h]; congr 2; apply Fin.ext; dsimp only; omega

theorem v84_at (n : Fin 64) (kv : Fin 2) (j : Fin 256) (d : Fin 64) : v84 (F := Ideal) x0 (ix4 n j kv d)
    = if j.val < 128 then if n.val = 0 then 0 else x0 (ix2 (⟨(n.val - 1) * 128 + j.val % 128, by omega⟩ : Fin 8192) (⟨3200 + (kv.val * 64 + d.val), by omega⟩ : Fin 3328))
      else x0 (ix2 (⟨n.val * 128 + j.val % 128, by omega⟩ : Fin 8192) (⟨3200 + (kv.val * 64 + d.val), by omega⟩ : Fin 3328)) := by
  unfold v84 v82 v81 v80 v78 v2; pointwise [cst_17]
  by_cases h : j.val < 128
  · rw [dif_pos h, if_pos h]
    by_cases h' : n.val = 0
    · rw [dif_pos (by omega), if_pos h']
    · rw [dif_neg (by omega), if_neg h']; congr 2; apply Fin.ext; dsimp only; omega
  · rw [dif_neg h, if_neg h]; congr 2; apply Fin.ext; dsimp only; omega

theorem v40_at : ∀ j : Fin 128, v40 (F := Ideal) (ix3 0 0 (⟨j.val, by omega⟩ : Fin 256)) = 0#1 := by decide +kernel

theorem v43_at (n : Fin 64) (i : Fin 128) (j : Fin 256) (hn : n.val = 0) (hj : j.val < 128) : ¬v43 (F := Ideal) (ix3 n i j) = 1#1 := by
  obtain rfl : n = 0 := Fin.ext hn
  have e := v40_at ⟨j.val, hj⟩
  unfold v43 v42
  generalize v41 (F := Ideal) = M at *
  generalize v40 (F := Ideal) = N at *
  have : ∀ x y : BitVec 1, y = 0#1 → ¬x &&& y = 1#1 := by decide
  exact this _ _ (by rw [← e]; pointwise)

end Mixer.Ref

end
-- ==== Proof.Mixer.Soft.lean ====
/-
  A row's maximum, its exponentials and their sum, when the row is finite.
-/
module

public import proofs.«01_k».proof.Proof.Mixer.Spec

@[expose] public section

noncomputable section

namespace Mixer.Spec

open Idealize.ShloMosaic

/-- A finite row's maximum is a real number. -/
theorem fold_real {N : ℕ} (op : EReal → EReal → EReal) [Std.Commutative op] [Std.Associative op] (hop : op = max) (b : EReal) (hb : b = ⊥)
    (f : Fin N → EReal) (h1 : ∀ j, f j ≠ ⊤) (j₀ : Fin N) (s : ℝ) (h2 : f j₀ = (s : EReal)) :
    ∃ a : ℝ, (Finset.univ : Finset (Fin N)).fold op b f = (a : EReal) := by
  subst hop hb
  have hlt : (Finset.univ : Finset (Fin N)).fold max ⊥ f < ⊤ :=
    (Finset.fold_max_lt _).mpr ⟨bot_lt_top, fun x _ => lt_top_iff_ne_top.mpr (h1 x)⟩
  have hgt : ⊥ < (Finset.univ : Finset (Fin N)).fold max ⊥ f :=
    (Finset.lt_fold_max _).mpr (Or.inr ⟨j₀, Finset.mem_univ _, by rw [h2]; exact EReal.bot_lt_coe s⟩)
  generalize (Finset.univ : Finset (Fin N)).fold max ⊥ f = x at *
  induction x with
  | bot => exact absurd hgt (lt_irrefl _)
  | top => exact absurd hlt (lt_irrefl _)
  | coe a => exact ⟨a, rfl⟩

theorem c_one : Ideal.ofBits .f32 0x3F800000#32 = ((1 : ℝ) : EReal) := by
  simp [Ideal.ofBits, Ideal.ieee, -EReal.coe_mul]; norm_num

/-- The exponentials of a row, their sum, and what they are worth. -/
theorem soft_real {N : ℕ} (f : Fin N → EReal) (M : ℝ) (h1 : ∀ j, f j ≠ ⊤) (j₀ : Fin N) (s : ℝ) (h2 : f j₀ = (s : EReal)) :
    ∃ (e : Fin N → ℝ) (S : ℝ), 0 < S ∧ (∀ j, 0 ≤ e j) ∧ S = ∑ j, e j ∧ (∀ j, Ideal.exp (f j - (M : EReal)) = (e j : EReal)) ∧ (∀ j, f j = ⊥ → e j = 0) := by
  have h : ∀ j, ∃ a : ℝ, 0 ≤ a ∧ Ideal.exp (f j - (M : EReal)) = (a : EReal) ∧ (f j = ⊥ → a = 0) ∧ (j = j₀ → 0 < a) := fun j => by
    have hj := h1 j
    have hs : j = j₀ → f j ≠ ⊥ := fun e => by rw [e, h2]; exact EReal.coe_ne_bot s
    revert hj hs
    generalize f j = x
    intro hj hs
    induction x with
    | bot => exact ⟨0, le_rfl, by rw [EReal.bot_sub]; rfl, fun _ => rfl, fun e => absurd rfl (hs e)⟩
    | top => exact absurd rfl hj
    | coe a => exact ⟨Real.exp (a - M), (Real.exp_pos _).le, by rw [← EReal.coe_sub]; rfl, fun e => absurd e (EReal.coe_ne_bot a), fun _ => Real.exp_pos _⟩
  choose e he0 he hb hp using h
  exact ⟨e, ∑ j, e j, Finset.sum_pos' (fun j _ => he0 j) ⟨j₀, Finset.mem_univ _, hp j₀ rfl⟩, he0, rfl, he, hb⟩

end Mixer.Spec

end
-- ==== Proof.Mixer.RefBlk.lean ====
/-
  The reference's gradients as the sums of `Spec`: each block of 128 queries with the window of keys and values it reads.
-/
module

public import proofs.«01_k».proof.Proof.Mixer.RefRead
public import proofs.«01_k».proof.Proof.Mixer.Soft

@[expose] public section

set_option maxRecDepth 16384

noncomputable section

namespace Mixer.Ref

open Idealize.ShloMosaic Idealize.ShloMosaic.TcCoe
open Cert.ReferenceIdeal Mixer.Spec

variable (x0 : FVec Ideal S8192x3328 .f32) (x1 : FVec Ideal S8192x2048 .bf16) (x5 : FVec Ideal S1x16 .f32) (x7 : FVec Ideal S1x1024 .f32)

/-- A score's gradient with the softmax's exponentials and their sum at hand: the lane's, and the sink's. -/
theorem soft_grad (e : Fin 257 → ℝ) (S : ℝ) (hS : 0 < S) (he : ∀ j, 0 ≤ e j) (hsum : S = ∑ j, e j) (D : Fin 256 → EReal) (j : Fin 257) :
    (Ideal.div (if h : j.val < 256 then D ⟨j.val, h⟩ else 0) (S : EReal)
      + -∑ j : Fin 257, (if h : j.val < 256 then D ⟨j.val, h⟩ else 0) * Ideal.div (Ideal.ofBits .f32 0x3F800000#32) ((S : EReal) * (S : EReal)) * (e j : EReal)) * (e j : EReal)
    = if h : j.val < 256 then Ideal.div (e j : EReal) (S : EReal) * (D ⟨j.val, h⟩ - ∑ j : Fin 256, Ideal.div (e ⟨j.val, by omega⟩ : EReal) (S : EReal) * D j)
      else (∑ j : Fin 256, Ideal.div (e ⟨j.val, by omega⟩ : EReal) (S : EReal) - 1) * ∑ j : Fin 256, Ideal.div (e ⟨j.val, by omega⟩ : EReal) (S : EReal) * D j := by
  have hD : (∑ j : Fin 257, (if h : j.val < 256 then D ⟨j.val, h⟩ else 0) * Ideal.div (Ideal.ofBits .f32 0x3F800000#32) ((S : EReal) * (S : EReal)) * (e j : EReal))
      = ((S⁻¹ : ℝ) : EReal) * ∑ j : Fin 256, Ideal.div (e ⟨j.val, by omega⟩ : EReal) (S : EReal) * D j := by
    rw [Fin.sum_univ_castSucc, dif_neg (by rw [Fin.val_last]; omega), zero_mul, zero_mul, add_zero, mul_sum_real _ (by positivity)]
    refine Finset.sum_congr rfl fun j _ => ?_
    rw [dif_pos (show (Fin.castSucc j).val < 256 from j.isLt), ← EReal.coe_mul, div_real _ _ (by positivity), div_real _ _ hS.ne', c_one]
    show D j * _ * (e ⟨j.val, _⟩ : EReal) = _
    rw [← EReal.coe_mul, mul_assoc, ← EReal.coe_mul, ← EReal.coe_mul, ← mul_assoc, ← EReal.coe_mul, mul_comm (D j)]
    congr 2
    field_simp
  rw [hD, score_grad S (e j) hS (he j)]
  split
  · rfl
  · rename_i hj
    have hp : (∑ j : Fin 256, Ideal.div (e ⟨j.val, by omega⟩ : EReal) (S : EReal)) - 1 = ((-(e j * S⁻¹) : ℝ) : EReal) := by
      have h0 : ∀ j : Fin 256, Ideal.div (e ⟨j.val, by omega⟩ : EReal) (S : EReal) = ((e ⟨j.val, by omega⟩ * S⁻¹ : ℝ) : EReal) := fun j => by
        rw [div_real _ _ hS.ne', EReal.coe_mul]
      simp only [h0]
      rw [← coe_sum, ← EReal.coe_one, ← EReal.coe_sub]
      congr 1
      obtain rfl : j = Fin.last 256 := Fin.ext (by rw [Fin.val_last]; omega)
      have h1 : S = ∑ j : Fin 256, e ⟨j.val, by omega⟩ + e (Fin.last 256) := by rw [hsum, Fin.sum_univ_castSucc]; rfl
      rw [← Finset.sum_mul]
      have h2 : ∑ j : Fin 256, e ⟨j.val, by omega⟩ = S - e (Fin.last 256) := by linarith
      rw [h2]; field_simp; ring
    rw [hp, div_real _ _ hS.ne', ← EReal.coe_mul, zero_sub, mul_neg, EReal.coe_neg, EReal.neg_mul]

/-- The queries, the keys and the sinks are real. -/
def Real : Prop :=
  (∀ (r : Fin 8192) (c : Fin 3328), 2048 ≤ c.val → c.val < 3200 → ∃ a : ℝ, x0 (ix2 r c) = (a : EReal)) ∧ ∀ h : Fin 16, ∃ a : ℝ, x5 (ix2 0 h) = (a : EReal)

def row8 (n : Fin 64) (i : Fin 128) : Fin 8192 := ⟨n.val * 128 + i.val, by omega⟩

theorem row8_div (n : Fin 64) (i : Fin 128) (h : (row8 n i).val / 128 < 64) : (⟨(row8 n i).val / 128, h⟩ : Fin 64) = n :=
  Fin.ext (by dsimp only [row8]; omega)
theorem row8_mod (n : Fin 64) (i : Fin 128) (h : (row8 n i).val % 128 < 128) : (⟨(row8 n i).val % 128, h⟩ : Fin 128) = i :=
  Fin.ext (by dsimp only [row8]; omega)

def RB (n : Fin 64) : Blk where
  p kv g i j := v77 (F := Ideal) x0 x5 (ix5 n kv g i j)
  k kv j d := v10 (F := Ideal) x0 (ix4 n j kv d)
  v kv j d := v84 (F := Ideal) x0 (ix4 n j kv d)
  q i c := x0 (ix2 (row8 n i) (⟨2048 + c.val, by omega⟩ : Fin 3328))
  dy i c := x1 (ix2 (row8 n i) (⟨1024 + c.val, by omega⟩ : Fin 2048))
  g c := x7 (ix2 0 c)

section
variable (n : Fin 64) (kv : Fin 2) (g : Fin 8) (i : Fin 128) (d : Fin 64) (c : Fin 1024)

theorem y_eq : v87 (F := Ideal) x0 x5 (ix2 (row8 n i) c) = (RB x0 x1 x5 x7 n).y i c := by
  rw [v87_cast, v85_at, row8_div, row8_mod]
  exact Finset.sum_congr rfl fun j _ => mul_comm _ _

theorem ms_eq : v94 (F := Ideal) x0 x5 (ix2 (row8 n i) 0) = Ideal.div (∑ c : Fin 1024, (RB x0 x1 x5 x7 n).y i c * (RB x0 x1 x5 x7 n).y i c) (Ideal.ofBits .f32 0x44800000#32) + Ideal.ofBits .f32 925353388#32 := by
  rw [v94_at]; simp only [y_eq x0 x1 x5 x7]

theorem r_eq : v95 (F := Ideal) x0 x5 (ix2 (row8 n i) 0) = (RB x0 x1 x5 x7 n).r i := by
  rw [v95_at, ms_eq x0 x1 x5 x7]; rfl

theorem dy_eq : v104 (F := Ideal) x1 (ix2 (row8 n i) c) = (RB x0 x1 x5 x7 n).dy i c := v104_at x1 _ _

theorem dg_eq : v107 (F := Ideal) x0 x1 x5 (ix2 0 c) = ∑ n : Fin 64, (RB x0 x1 x5 x7 n).dg c := by
  rw [v107_at, sum_blocks 64 128 rfl]
  refine Finset.sum_congr rfl fun n _ => Finset.sum_congr rfl fun i _ => ?_
  show v87 (F := Ideal) x0 x5 (ix2 (row8 n i) c) * v95 (F := Ideal) x0 x5 (ix2 (row8 n i) 0) * v104 (F := Ideal) x1 (ix2 (row8 n i) c) = _
  rw [y_eq x0 x1 x5 x7, r_eq x0 x1 x5 x7, dy_eq x0 x1 x5 x7, mul_comm]

theorem gy_eq : v123 (F := Ideal) x0 x1 x5 x7 (ix2 (row8 n i) c) = (RB x0 x1 x5 x7 n).gy i c := by
  have ha : ∀ c, v109 (F := Ideal) x1 x7 (ix2 (row8 n i) c) = (RB x0 x1 x5 x7 n).dy i c * (RB x0 x1 x5 x7 n).g c := fun c => by
    rw [v109_at, dy_eq x0 x1 x5 x7]; rfl
  have hw : v118 (F := Ideal) x0 x1 x5 x7 (ix1 (row8 n i))
      = Ideal.div ((∑ x : Fin 1024, (RB x0 x1 x5 x7 n).y i x * ((RB x0 x1 x5 x7 n).dy i x * (RB x0 x1 x5 x7 n).g x))
        * (Ideal.ofBits .f32 0xBF000000#32 * Ideal.div ((RB x0 x1 x5 x7 n).r i) (v94 (F := Ideal) x0 x5 (ix2 (row8 n i) 0)))) (Ideal.ofBits .f32 0x44800000#32) := by
    rw [v118_at, v98_at, r_eq x0 x1 x5 x7]
    simp only [y_eq x0 x1 x5 x7, ha]
  rw [v123_at, ha, r_eq x0 x1 x5 x7, y_eq x0 x1 x5 x7]
  exact norm_grad (fun c => (RB x0 x1 x5 x7 n).y i c) (fun c => (RB x0 x1 x5 x7 n).dy i c * (RB x0 x1 x5 x7 n).g c) c _ _ (ms_eq x0 x1 x5 x7 n i) ((r_eq x0 x1 x5 x7 n i).symm.trans (v95_at x0 x5 _)) _ hw

theorem gyT_eq : v125 (F := Ideal) x0 x1 x5 x7 (ix5 n kv d g i) = (RB x0 x1 x5 x7 n).gy i (col kv g d) := by
  rw [v125_at]; exact gy_eq x0 x1 x5 x7 n i _

theorem dp_eq (j : Fin 256) : v126 (F := Ideal) x0 x1 x5 x7 (ix5 n kv g i j) = (RB x0 x1 x5 x7 n).dp kv g i j := by
  rw [v126_at]
  exact Finset.sum_congr rfl fun d _ => by rw [gyT_eq, mul_comm]; rfl

theorem dv_eq (j : Fin 256) : v128 (F := Ideal) x0 x1 x5 x7 (ix4 n j kv d) = (RB x0 x1 x5 x7 n).dv kv j d := by
  rw [v128_at]
  exact Finset.sum_congr rfl fun g _ => Finset.sum_congr rfl fun i _ => by rw [gyT_eq, mul_comm]; rfl

/-! ### The softmax -/

variable {x0 x5} (H : Real x0 x5)
include H

theorem q_real : ∃ a : ℝ, v3 (F := Ideal) x0 (ix5 n i kv g d) = (a : EReal) := by
  rw [v3_at]; exact H.1 _ _ (by dsimp only; omega) (by dsimp only; omega)

theorem k_real (j : Fin 256) : ∃ a : ℝ, v10 (F := Ideal) x0 (ix4 n j kv d) = (a : EReal) := by
  rw [v10_at]
  split
  · split
    · exact ⟨0, rfl⟩
    · exact H.1 _ _ (by dsimp only; omega) (by dsimp only; omega)
  · exact H.1 _ _ (by dsimp only; omega) (by dsimp only; omega)

theorem score_real (j : Fin 256) : ∃ a : ℝ, v14 (F := Ideal) x0 (ix5 n kv g i j) = (a : EReal) := by
  rw [v14_at, c_eighth]
  choose a ha using fun d => k_real n kv d H j
  choose b hb using fun d => q_real n kv g i d H
  refine ⟨(∑ d : Fin 64, a d * b d) * (1 / 8), ?_⟩
  rw [EReal.coe_mul, coe_sum]
  congr 1
  exact Finset.sum_congr rfl fun d _ => by rw [ha, hb, EReal.coe_mul]

theorem v48_ne_top (j : Fin 257) : v48 (F := Ideal) x0 x5 (ix5 n kv g i j) ≠ ⊤ := by
  rw [v48_at]
  split
  · split
    · obtain ⟨a, ha⟩ := score_real n kv g i H _; rw [ha]; exact EReal.coe_ne_top a
    · rw [c_ninf]; exact bot_ne_top
  · obtain ⟨a, ha⟩ := H.2 ⟨kv.val * 8 + g.val, by omega⟩; rw [ha]; exact EReal.coe_ne_top a

theorem v48_sink : ∃ a : ℝ, v48 (F := Ideal) x0 x5 (ix5 n kv g i (⟨256, by omega⟩ : Fin 257)) = (a : EReal) := by
  rw [v48_at, dif_neg (by dsimp only; omega)]
  exact H.2 _

theorem v49_real : ∃ a : ℝ, v49 (F := Ideal) x0 x5 (ix4 n kv g i) = (a : EReal) := by
  have h1 := v48_ne_top n kv g i H
  obtain ⟨s, h2⟩ := v48_sink n kv g i H
  revert h1 h2
  unfold v49; generalize v48 (F := Ideal) x0 x5 = A
  generalize hc : cst_7 (F := Ideal) = z
  have e : ∀ k, z k = Ideal.ofBits .f32 0xFF800000#32 := fun k => by rw [← hc]; rfl
  intro h1 h2
  pointwise
  exact fold_real _ rfl _ ((e _).trans c_ninf) _ h1 _ s h2

theorem soft : ∃ (e : Fin 257 → ℝ) (S : ℝ), 0 < S ∧ (∀ j, 0 ≤ e j) ∧ S = ∑ j, e j
    ∧ (∀ j, v69 (F := Ideal) x0 x5 (ix5 n kv g i j) = (e j : EReal)) ∧ v70 (F := Ideal) x0 x5 (ix4 n kv g i) = (S : EReal)
    ∧ ∀ j : Fin 256, ¬v43 (F := Ideal) (ix3 n i j) = 1#1 → e (⟨j.val, by omega⟩ : Fin 257) = 0 := by
  obtain ⟨M, hM⟩ := v49_real n kv g i H
  obtain ⟨s, h2⟩ := v48_sink n kv g i H
  obtain ⟨e, S, hS, he, hsum, hexp, hbot⟩ := soft_real (fun j => v48 (F := Ideal) x0 x5 (ix5 n kv g i j)) M (v48_ne_top n kv g i H) _ s h2
  have h69 : ∀ j, v69 (F := Ideal) x0 x5 (ix5 n kv g i j) = (e j : EReal) := fun j => by rw [v69_at, hM]; exact hexp j
  refine ⟨e, S, hS, he, hsum, h69, ?_, fun j hj => hbot _ ?_⟩
  · rw [v70_at, hsum, coe_sum]; exact Finset.sum_congr rfl fun j _ => h69 j
  · show v48 (F := Ideal) x0 x5 (ix5 n kv g i _) = ⊥
    rw [v48_at, dif_pos j.isLt, if_neg hj, c_ninf]

theorem p_masked (j : Fin 256) (hj : ¬v43 (F := Ideal) (ix3 n i j) = 1#1) : v77 (F := Ideal) x0 x5 (ix5 n kv g i j) = 0 := by
  obtain ⟨e, S, hS, he, hsum, h69, h70, hm⟩ := soft n kv g i H
  rw [v77_at, h69, h70, hm j hj, div_real _ _ hS.ne', EReal.coe_zero, zero_mul]

theorem v148_eq (j : Fin 257) : v148 (F := Ideal) x0 x1 x5 x7 (ix5 n kv g i j)
    = if h : j.val < 256 then (RB x0 x1 x5 x7 n).p kv g i ⟨j.val, h⟩ * ((RB x0 x1 x5 x7 n).dp kv g i ⟨j.val, h⟩ - (RB x0 x1 x5 x7 n).de kv g i)
      else (∑ j : Fin 256, (RB x0 x1 x5 x7 n).p kv g i j - 1) * (RB x0 x1 x5 x7 n).de kv g i := by
  obtain ⟨e, S, hS, he, hsum, h69, h70, hm⟩ := soft n kv g i H
  have hp : ∀ j : Fin 256, (RB x0 x1 x5 x7 n).p kv g i j = Ideal.div (e ⟨j.val, by omega⟩ : EReal) (S : EReal) := fun j => by
    show v77 (F := Ideal) x0 x5 (ix5 n kv g i j) = _
    rw [v77_at, h69, h70]
  have h136 : ∀ j : Fin 257, v136 (F := Ideal) x0 x1 x5 x7 (ix5 n kv g i j) = if h : j.val < 256 then (RB x0 x1 x5 x7 n).dp kv g i ⟨j.val, h⟩ else 0 := fun j => by
    rw [v136_at]; simp only [dp_eq]
  have hde : (RB x0 x1 x5 x7 n).de kv g i = ∑ j : Fin 256, Ideal.div (e ⟨j.val, by omega⟩ : EReal) (S : EReal) * (RB x0 x1 x5 x7 n).dp kv g i j :=
    Finset.sum_congr rfl fun j _ => by rw [hp]
  rw [v148_at, h70]
  simp only [h69, h136, hp, hde]
  exact soft_grad e S hS he hsum (fun j => (RB x0 x1 x5 x7 n).dp kv g i j) j

theorem ds_eq (j : Fin 256) : v156 (F := Ideal) x0 x1 x5 x7 (ix5 n kv g i j) = (RB x0 x1 x5 x7 n).ds kv g i j := by
  rw [v156_at]
  show _ = (RB x0 x1 x5 x7 n).p kv g i j * ((RB x0 x1 x5 x7 n).dp kv g i j - (RB x0 x1 x5 x7 n).de kv g i) * _
  by_cases h : v43 (F := Ideal) (ix3 n i j) = 1#1
  · rw [if_pos h, v148_eq x1 x7 n kv g i H, dif_pos j.isLt]
  · rw [if_neg h, show (RB x0 x1 x5 x7 n).p kv g i j = 0 from p_masked n kv g i H j h, zero_mul, zero_mul, zero_mul]

theorem dsk_eq (h : Fin 16) : v153 (F := Ideal) x0 x1 x5 x7 (ix2 0 h) = ∑ n : Fin 64, (RB x0 x1 x5 x7 n).dk₀ (⟨h.val / 8, by omega⟩ : Fin 2) (⟨h.val % 8, by omega⟩ : Fin 8) := by
  rw [v153_at]
  refine Finset.sum_congr rfl fun n _ => Finset.sum_congr rfl fun i _ => ?_
  rw [v148_eq x1 x7 n _ _ i H, dif_neg (by dsimp only; omega)]

theorem dk_eq (j : Fin 256) : v161 (F := Ideal) x0 x1 x5 x7 (ix4 n j kv d) = (RB x0 x1 x5 x7 n).dk kv j d := by
  rw [v161_at, Finset.sum_comm]
  refine Finset.sum_congr rfl fun g _ => Finset.sum_congr rfl fun i _ => ?_
  rw [ds_eq x1 x7 n kv g i H, v3_at]; rfl

theorem dq_eq : v175 (F := Ideal) x0 x1 x5 x7 (ix2 (row8 n i) (⟨2048 + c.val, by omega⟩ : Fin 3328)) = (RB x0 x1 x5 x7 n).dq i c := by
  rw [v175_q, v169_at, row8_div, row8_mod]
  refine Finset.sum_congr rfl fun j _ => ?_
  rw [ds_eq x1 x7 n _ _ i H]; rfl

theorem dkw_eq (c : Fin 128) : v175 (F := Ideal) x0 x1 x5 x7 (ix2 (row8 n i) (⟨3072 + c.val, by omega⟩ : Fin 3328))
    = (RB x0 x1 x5 x7 n).dk ⟨c.val / 64, by omega⟩ ⟨128 + i.val, by omega⟩ ⟨c.val % 64, by omega⟩
      + if h : n.val + 1 < 64 then (RB x0 x1 x5 x7 ⟨n.val + 1, h⟩).dk ⟨c.val / 64, by omega⟩ ⟨i.val, by omega⟩ ⟨c.val % 64, by omega⟩ else 0 := by
  have e1 : (row8 n i).val / 128 = n.val := by dsimp only [row8]; omega
  have e2 : (row8 n i).val % 128 = i.val := by dsimp only [row8]; omega
  rw [v175_k, v168_at]
  simp only [dk_eq x1 x7 _ _ _ H, e1, e2]

end

theorem dvw_eq (n : Fin 64) (i : Fin 128) (c : Fin 128) : v175 (F := Ideal) x0 x1 x5 x7 (ix2 (row8 n i) (⟨3200 + c.val, by omega⟩ : Fin 3328))
    = (RB x0 x1 x5 x7 n).dv ⟨c.val / 64, by omega⟩ ⟨128 + i.val, by omega⟩ ⟨c.val % 64, by omega⟩
      + if h : n.val + 1 < 64 then (RB x0 x1 x5 x7 ⟨n.val + 1, h⟩).dv ⟨c.val / 64, by omega⟩ ⟨i.val, by omega⟩ ⟨c.val % 64, by omega⟩ else 0 := by
  have e1 : (row8 n i).val / 128 = n.val := by dsimp only [row8]; omega
  have e2 : (row8 n i).val % 128 = i.val := by dsimp only [row8]; omega
  rw [v175_v, v135_at]
  simp only [dv_eq, e1, e2]

end Mixer.Ref

end
-- ==== Proof.Mixer.Host.lean ====
/-
  The probabilities the mixer-gradient kernel is given: the host lines compute the reference's softmax, laid out per lane.
-/
module

public import proofs.«01_k».proof.Proof.Mixer.Run
public import proofs.«01_k».proof.Proof.Mixer.RefBlk
public import proofs.«01_k».proof.Proof.Mixer.Block
public import Idealize.ShloMosaic.Lib.Claim

@[expose] public section

set_option maxRecDepth 16384

noncomputable section

namespace Mixer.Host

open Idealize.ShloMosaic Idealize.ShloMosaic.TcCoe Idealize.SL.Sem
open Cert.KernelIdeal Cert.KernelIdeal.Gen Mixer.Run

variable (m : (ℓ : Loc nD τ sig) → Buf (Elt Ideal) ℓ) (c : Dev nD)

set_option maxHeartbeats 4000000 in
theorem v60_raw : V m c main_v60 = shapeCast S64x2x256x1024 (transpose S64x2x256x8x128 [0, 1, 4, 2, 3] (Mixer.Ref.v77 (F := Ideal) (m ((c : Thread nD τ).loc main_arg0)) (m ((c : Thread nD τ).loc main_arg5)))
    transposes_S64x2x8x128x256_S64x2x256x8x128_0_1_4_2_3) shapeCasts_S64x2x256x8x128_S64x2x256x1024 := by
  show StableHlo.after (List.flatten [hostOps0, hostOps0_1, hostOps0_2]) (fun b => m (c, b)) (Proc.devRef .tc main_v60) = _
  simp only [hostOps0, hostOps0_1, hostOps0_2, List.flatten_cons, List.flatten_nil, List.append_nil, List.cons_append, List.nil_append, StableHlo.after_cons, StableHlo.after_nil]
  after_results_simp
  after_results_loop
  rfl

theorem prob_at (n : Fin 64) (kv : Fin 2) (g : Fin 8) (i : Fin 128) (j : Fin 256) : V m c main_v60 (ix4 n kv j (Mixer.Block.row g i))
    = Mixer.Ref.v77 (F := Ideal) (m ((c : Thread nD τ).loc main_arg0)) (m ((c : Thread nD τ).loc main_arg5)) (ix5 n kv g i j) := by
  rw [v60_raw]
  generalize Mixer.Ref.v77 (F := Ideal) _ _ = A
  unfold Mixer.Block.row
  pointwise

end Mixer.Host

end
-- ==== Proof.Mixer.Link.lean ====
/-
  The attention part of the mixer-gradient kernel's results is the reference's.
-/
module

public import proofs.«01_k».proof.Proof.Mixer.Arrays
public import proofs.«01_k».proof.Proof.Mixer.Host

@[expose] public section

set_option maxRecDepth 16384

noncomputable section

namespace Mixer.Link

open Idealize.ShloMosaic Idealize.ShloMosaic.TcCoe Idealize.SL.Sem
open Cert.KernelIdeal Cert.KernelIdeal.Gen Mixer.Run Mixer.Spec Mixer.Point Mixer.Arrays

variable (m : (ℓ : Loc nD τ sig) → Buf (Elt Ideal) ℓ) (c : Dev nD)

abbrev X0 : FVec Ideal S8192x3328 .f32 := m ((c : Thread nD τ).loc main_arg0)
abbrev X1 : FVec Ideal S8192x2048 .bf16 := m ((c : Thread nD τ).loc main_arg1)
abbrev X5 : FVec Ideal S1x16 .f32 := m ((c : Thread nD τ).loc main_arg5)
abbrev X7 : FVec Ideal S1x1024 .f32 := m ((c : Thread nD τ).loc main_arg7)

abbrev RBm (n : Fin 64) : Blk := Mixer.Ref.RB (X0 m c) (X1 m c) (X5 m c) (X7 m c) n

variable (H : Mixer.Ref.Real (X0 m c) (X5 m c))

def rk (n : Fin 64) : Fin 2 → Fin 256 → Fin 64 → EReal := fun kv j d => Mixer.Ref.v10 (F := Ideal) (X0 m c) (ix4 n j kv d)
def rv (n : Fin 64) : Fin 2 → Fin 256 → Fin 64 → EReal := fun kv j d => Mixer.Ref.v84 (F := Ideal) (X0 m c) (ix4 n j kv d)

theorem KB_p (n : Fin 64) (kv : Fin 2) (g : Fin 8) (i : Fin 128) (j : Fin 256) : (KB m c n).p kv g i j = Mixer.Ref.v77 (F := Ideal) (X0 m c) (X5 m c) (ix5 n kv g i j) :=
  Mixer.Host.prob_at m c n kv g i j

theorem KB_k (n : Fin 64) : (KB m c n).k = fun kv j d => if j.val < 128 then X0 m c (ix2 ⟨(n.val - 1) * 128 + j.val % 128, by omega⟩ ⟨3072 + (kv.val * 64 + d.val), by omega⟩)
    else X0 m c (ix2 ⟨n.val * 128 + j.val % 128, by omega⟩ ⟨3072 + (kv.val * 64 + d.val), by omega⟩) := by
  unfold KB kblk; rw [V_main_arg0]

theorem KB_v (n : Fin 64) : (KB m c n).v = fun kv j d => if j.val < 128 then X0 m c (ix2 ⟨(n.val - 1) * 128 + j.val % 128, by omega⟩ ⟨3200 + (kv.val * 64 + d.val), by omega⟩)
    else X0 m c (ix2 ⟨n.val * 128 + j.val % 128, by omega⟩ ⟨3200 + (kv.val * 64 + d.val), by omega⟩) := by
  unfold KB kblk; rw [V_main_arg0]

theorem KB_q (n : Fin 64) : (KB m c n).q = fun i x => X0 m c (ix2 ⟨n.val * 128 + i.val, by omega⟩ ⟨2048 + x.val, by omega⟩) := by
  unfold KB kblk; rw [V_main_arg0]
theorem KB_dy (n : Fin 64) : (KB m c n).dy = fun i x => X1 m c (ix2 ⟨n.val * 128 + i.val, by omega⟩ ⟨1024 + x.val, by omega⟩) := by
  unfold KB kblk; rw [V_main_arg1]
theorem KB_g (n : Fin 64) : (KB m c n).g = fun x => X7 m c (ix2 0 x) := by
  unfold KB kblk; rw [V_main_arg7]

section
variable (x0 : FVec Ideal S8192x3328 .f32) (x1 : FVec Ideal S8192x2048 .bf16) (x5 : FVec Ideal S1x16 .f32) (x7 : FVec Ideal S1x1024 .f32) (n : Fin 64)
theorem RB_p : (Mixer.Ref.RB x0 x1 x5 x7 n).p = fun kv g i j => Mixer.Ref.v77 (F := Ideal) x0 x5 (ix5 n kv g i j) := rfl
theorem RB_q : (Mixer.Ref.RB x0 x1 x5 x7 n).q = fun i x => x0 (ix2 ⟨n.val * 128 + i.val, by omega⟩ ⟨2048 + x.val, by omega⟩) := rfl
theorem RB_dy : (Mixer.Ref.RB x0 x1 x5 x7 n).dy = fun i x => x1 (ix2 ⟨n.val * 128 + i.val, by omega⟩ ⟨1024 + x.val, by omega⟩) := rfl
theorem RB_g : (Mixer.Ref.RB x0 x1 x5 x7 n).g = fun x => x7 (ix2 0 x) := rfl
end

theorem Blk_ext : ∀ (A B : Blk) k v, A.p = B.p → A.k = k → A.v = v → A.q = B.q → A.dy = B.dy → A.g = B.g → A = B.withKV k v := by
  rintro ⟨⟩ ⟨⟩ _ _ rfl rfl rfl rfl rfl rfl; rfl

theorem RB_k (n : Fin 64) : (RBm m c n).k = rk m c n := rfl
theorem RB_v (n : Fin 64) : (RBm m c n).v = rv m c n := rfl

theorem KB_p' (n : Fin 64) : (KB m c n).p = fun kv g i j => Mixer.Ref.v77 (F := Ideal) (X0 m c) (X5 m c) (ix5 n kv g i j) := by
  funext kv g i j; exact KB_p m c n kv g i j

theorem RB_eq (n : Fin 64) : RBm m c n = (KB m c n).withKV (rk m c n) (rv m c n) :=
  Blk_ext _ (KB m c n) _ _ ((RB_p _ _ _ _ n).trans (KB_p' m c n).symm) (RB_k m c n) (RB_v m c n) ((RB_q _ _ _ _ n).trans (KB_q m c n).symm)
    ((RB_dy _ _ _ _ n).trans (KB_dy m c n).symm) ((RB_g _ _ _ _ n).trans (KB_g m c n).symm)

include H

/-- Where the window's keys and values differ from the reference's zeros, the probability is zero. -/
theorem same (n : Fin 64) (kv : Fin 2) (j : Fin 256) :
    (∀ g i, (KB m c n).p kv g i j = 0) ∨ ((∀ d, (KB m c n).k kv j d = rk m c n kv j d) ∧ ∀ d, (KB m c n).v kv j d = rv m c n kv j d) := by
  by_cases h : n.val = 0 ∧ j.val < 128
  · refine Or.inl fun g i => ?_
    rw [KB_p]
    exact Mixer.Ref.p_masked n kv g i H j (Mixer.Ref.v43_at n i j h.1 h.2)
  · refine Or.inr ⟨fun d => ?_, fun d => ?_⟩
    · rw [KB_k]; unfold rk; rw [Mixer.Ref.v10_at]
      by_cases hj : j.val < 128
      · have hn : ¬n.val = 0 := fun hn => h ⟨hn, hj⟩
        rw [if_pos hj, if_neg hn]; exact if_pos hj
      · rw [if_neg hj]; exact if_neg hj
    · rw [KB_v]; unfold rv; rw [Mixer.Ref.v84_at]
      by_cases hj : j.val < 128
      · have hn : ¬n.val = 0 := fun hn => h ⟨hn, hj⟩
        rw [if_pos hj, if_neg hn]; exact if_pos hj
      · rw [if_neg hj]; exact if_neg hj

theorem dg_same (n : Fin 64) : (RBm m c n).dg = (KB m c n).dg := by rw [RB_eq]; exact Blk.dg_withKV _ _ _ (same m c H n)
theorem dk₀_same (n : Fin 64) : (RBm m c n).dk₀ = (KB m c n).dk₀ := by rw [RB_eq]; exact Blk.dk₀_withKV _ _ _ (same m c H n)
theorem dq_same (n : Fin 64) : (RBm m c n).dq = (KB m c n).dq := by rw [RB_eq]; exact Blk.dq_withKV _ _ _ (same m c H n)
theorem dk_same (n : Fin 64) : (RBm m c n).dk = (KB m c n).dk := by rw [RB_eq]; exact Blk.dk_withKV _ _ _ (same m c H n)
theorem dv_same (n : Fin 64) : (RBm m c n).dv = (KB m c n).dv := by rw [RB_eq]; exact Blk.dv_withKV _ _ _ (same m c H n)

theorem dgb (x : Fin 1024) : dgbOf m c (ix2 0 x) = Mixer.Ref.v107 (F := Ideal) (X0 m c) (X1 m c) (X5 m c) (ix2 0 x) := by
  refine (dgb_arr_at m c x).trans (Eq.trans ?_ (Mixer.Ref.dg_eq (X0 m c) (X1 m c) (X5 m c) (X7 m c) x).symm)
  exact Finset.sum_congr rfl fun n _ => congrFun (dg_same m c H n).symm x

theorem dsk (x : Fin 16) : dskOf m c (ix2 0 x) = Mixer.Ref.v153 (F := Ideal) (X0 m c) (X1 m c) (X5 m c) (X7 m c) (ix2 0 x) := by
  refine (dsk_arr_at m c x).trans (Eq.trans ?_ (Mixer.Ref.dsk_eq (X1 m c) (X7 m c) H x).symm)
  exact Finset.sum_congr rfl fun n _ => congrFun (congrFun (dk₀_same m c H n).symm _) _

omit H in
theorem dite_of {p : Prop} [Decidable p] (f g : p → EReal) (h : ∀ a, f a = g a) : (if h : p then f h else 0) = if h : p then g h else 0 := by
  split
  · exact h _
  · rfl

omit H in
theorem half_k (b : Blk) (o : ℕ) (ho : o ≤ 128) (i : Fin 128) (l : Fin 128) (L : Fin 256) (hL : L.val = l.val) :
    half b o ho i L = b.dk ⟨l.val / 64, by omega⟩ ⟨o + i.val, by omega⟩ ⟨l.val % 64, by omega⟩ := by
  have h : ∀ k k' j d d', k = k' → d = d' → b.dk k j d = b.dk k' j d' := by rintro _ _ _ _ _ rfl rfl; rfl
  unfold half
  rw [if_pos (by omega)]
  exact h _ _ _ _ _ (Fin.ext (by dsimp only; omega)) (Fin.ext (by dsimp only; omega))

omit H in
theorem half_v (b : Blk) (o : ℕ) (ho : o ≤ 128) (i : Fin 128) (l : Fin 128) (L : Fin 256) (hL : L.val = l.val + 128) :
    half b o ho i L = b.dv ⟨l.val / 64, by omega⟩ ⟨o + i.val, by omega⟩ ⟨l.val % 64, by omega⟩ := by
  have h : ∀ k k' j d d', k = k' → d = d' → b.dv k j d = b.dv k' j d' := by rintro _ _ _ _ _ rfl rfl; rfl
  unfold half
  rw [if_neg (by omega)]
  exact h _ _ _ _ _ (Fin.ext (by dsimp only; omega)) (Fin.ext (by dsimp only; omega))

theorem dz_k (n : Fin 64) (i : Fin 128) (l : Fin 128) (x : Fin 3328) (hx : x.val = 3072 + l.val) :
    dzAt m c (Mixer.Ref.row8 n i) x = Mixer.Ref.v175 (F := Ideal) (X0 m c) (X1 m c) (X5 m c) (X7 m c) (ix2 (Mixer.Ref.row8 n i) (⟨3072 + l.val, by omega⟩ : Fin 3328)) := by
  refine (congrArg (dzAt m c _) (Fin.ext hx : x = (⟨3072 + (⟨l.val, by omega⟩ : Fin 256).val, by omega⟩ : Fin 3328))).trans ((dz_kv m c n i _ rfl _).trans ?_)
  refine Eq.trans ?_ (Mixer.Ref.dkw_eq (X1 m c) (X7 m c) n i H l).symm
  refine congrArg₂ (· + ·) ?_ (dite_of _ _ fun h => ?_)
  · exact (half_k _ _ _ i l _ rfl).trans (congrFun (congrFun (congrFun (dk_same m c H n).symm _) _) _)
  · refine (half_k _ _ _ i l _ rfl).trans ((congrFun (congrFun (congrFun (dk_same m c H ⟨n.val + 1, h⟩).symm _) _) _).trans ?_)
    exact congrArg (fun j => (RBm m c ⟨n.val + 1, h⟩).dk _ j _) (Fin.ext (Nat.zero_add _))

theorem dz_v (n : Fin 64) (i : Fin 128) (l : Fin 128) (x : Fin 3328) (hx : x.val = 3200 + l.val) :
    dzAt m c (Mixer.Ref.row8 n i) x = Mixer.Ref.v175 (F := Ideal) (X0 m c) (X1 m c) (X5 m c) (X7 m c) (ix2 (Mixer.Ref.row8 n i) (⟨3200 + l.val, by omega⟩ : Fin 3328)) := by
  refine (congrArg (dzAt m c _) (Fin.ext (by dsimp only; omega) : x = (⟨3072 + (⟨l.val + 128, by omega⟩ : Fin 256).val, by dsimp only; omega⟩ : Fin 3328))).trans ((dz_kv m c n i _ rfl _).trans ?_)
  refine Eq.trans ?_ (Mixer.Ref.dvw_eq (X0 m c) (X1 m c) (X5 m c) (X7 m c) n i l).symm
  refine congrArg₂ (· + ·) ?_ (dite_of _ _ fun h => ?_)
  · exact (half_v _ _ _ i l _ rfl).trans (congrFun (congrFun (congrFun (dv_same m c H n).symm _) _) _)
  · refine (half_v _ _ _ i l _ rfl).trans ((congrFun (congrFun (congrFun (dv_same m c H ⟨n.val + 1, h⟩).symm _) _) _).trans ?_)
    exact congrArg (fun j => (RBm m c ⟨n.val + 1, h⟩).dv _ j _) (Fin.ext (Nat.zero_add _))

theorem dz_q (n : Fin 64) (i : Fin 128) (l : Fin 1024) (x : Fin 3328) (hx : x.val = 2048 + l.val) :
    dzAt m c (Mixer.Ref.row8 n i) x = Mixer.Ref.v175 (F := Ideal) (X0 m c) (X1 m c) (X5 m c) (X7 m c) (ix2 (Mixer.Ref.row8 n i) (⟨2048 + l.val, by omega⟩ : Fin 3328)) := by
  refine (congrArg (dzAt m c _) (Fin.ext hx : x = (⟨2048 + l.val, by omega⟩ : Fin 3328))).trans ((Mixer.Arrays.dz_q m c n i _ rfl l).trans ?_)
  exact (congrFun (congrFun (dq_same m c H n).symm i) l).trans (Mixer.Ref.dq_eq (X1 m c) (X7 m c) n i l H).symm

theorem dz (r : Fin 8192) (x : Fin 3328) (hx : 2048 ≤ x.val) : dzOf m c (ix2 r x)
    = Mixer.Ref.v175 (F := Ideal) (X0 m c) (X1 m c) (X5 m c) (X7 m c) (ix2 r x) := by
  refine (dz_arr_at m c r x).trans ?_
  have hr : r = Mixer.Ref.row8 (⟨r.val / 128, by omega⟩ : Fin 64) (⟨r.val % 128, by omega⟩ : Fin 128) := Fin.ext (by dsimp only [Mixer.Ref.row8]; omega)
  have h : ∀ x', x' = x → dzAt m c r x = Mixer.Ref.v175 (F := Ideal) (X0 m c) (X1 m c) (X5 m c) (X7 m c) (ix2 r x') →
      dzAt m c r x = Mixer.Ref.v175 (F := Ideal) (X0 m c) (X1 m c) (X5 m c) (X7 m c) (ix2 r x) := by rintro _ rfl h; exact h
  rw [hr] at h ⊢
  by_cases h1 : x.val < 3072
  · exact h _ (Fin.ext (by dsimp only; omega)) (dz_q m c H _ _ (⟨x.val - 2048, by omega⟩ : Fin 1024) x (by dsimp only; omega))
  · by_cases h2 : x.val < 3200
    · exact h _ (Fin.ext (by dsimp only; omega)) (dz_k m c H _ _ (⟨x.val - 3072, by omega⟩ : Fin 128) x (by dsimp only; omega))
    · exact h _ (Fin.ext (by dsimp only; omega)) (dz_v m c H _ _ (⟨x.val - 3200, by omega⟩ : Fin 128) x (by dsimp only; omega))

end Mixer.Link

end
-- ==== Proof.Mixer.KernelFrame.lean ====
/-
  The frame of `Kernel`: its text is `KernelIdeal`'s, whose run holds over any floats.
-/
module

public import proofs.«01_k».proof.Defs
public import proofs.«01_k».proof.Proof.Gen.Kernel
public import proofs.«01_k».proof.Proof.Gen.KernelIdeal
public import proofs.«01_k».proof.Proof.Mixer.Run

@[expose] public section

noncomputable section

namespace Mixer.Frames

set_option maxHeartbeats 4000000
set_option Elab.async false

open Idealize.ShloMosaic Idealize.SL.Sem

theorem body_eq : (Cert.Kernel.cc0_b_mixer (F := Bits)) = Cert.KernelIdeal.cc0_b_mixer (F := Bits) := rfl

theorem defs₀_eq : (Cert.Kernel.defs₀ (F := Bits)) = Cert.KernelIdeal.defs₀ (F := Bits) := by
  unfold Cert.Kernel.defs₀ Cert.KernelIdeal.defs₀
  refine congrArg Defs.onTc (funext fun l => funext fun a => ?_)
  obtain ⟨l, hl⟩ := l
  obtain rfl : l = 0 := by omega
  obtain ⟨t, s⟩ := a
  rfl

theorem defs_eq : (Cert.Kernel.defs (F := Bits)) = Cert.KernelIdeal.defs (F := Bits) := by
  unfold Cert.Kernel.defs Cert.KernelIdeal.defs
  exact congrArg (Pipeline.defs (Cert.KernelIdeal.pcfgs (F := Bits))) defs₀_eq

theorem main_eq : (Cert.Kernel.main (F := Bits)) = Cert.KernelIdeal.main (F := Bits) := by
  unfold Cert.Kernel.main Cert.KernelIdeal.main
  have h0 : (Cert.Kernel.main_part0 (F := Bits)) = Cert.KernelIdeal.main_part0 (F := Bits) := rfl
  have h1 : (Cert.Kernel.main_part1 (F := Bits)) = Cert.KernelIdeal.main_part1 (F := Bits) := rfl
  funext d
  exact congrArg₂ (fun a b => Bind.bind (a d) fun _ => b d) h0 h1

theorem kernel_frame : Cert.quiescent_Kernel := by
  intro m ρ _
  rw [defs_eq, main_eq]
  exact Mixer.Run.frame (F := Bits) m ρ

end Mixer.Frames

end
-- ==== Proof.Mixer.Frames.lean ====
/-
  The frames of the three programs: they end, their arguments unchanged.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Mixer.KernelFrame

@[expose] public section

noncomputable section

namespace Mixer.Frames

open Idealize.ShloMosaic Idealize.SL.Sem

attribute [local instance] Cert.Kernel.Gen.facts Cert.KernelIdeal.Gen.facts Cert.ReferenceIdeal.Gen.facts

theorem pre_facts : Cert.Pre_finite_scores.Facts where
  slices_S8192x3328_S8192x1152_0_2048 := by decide
  bcast_S_S8192x1152 := by decide
  bcast_S_S1x16 := by decide

theorem on_facts : Cert.On_attention_part.Facts where
  bcast_S_S8192x3328 := by decide
  bcast_S_S1x1024 := by decide
  bcast_S_S8x128x128 := by decide
  bcast_S_S128x8 := by decide
  bcast_S_S1x16 := by decide

attribute [local instance] pre_facts on_facts

theorem kernel : Cert.quiescent_Kernel := Mixer.Frames.kernel_frame

theorem kernelIdeal : Cert.quiescent_KernelIdeal := fun m ρ _ => Mixer.Run.frame (F := Ideal) m ρ

theorem kernelIdeal_pre : Cert.quiescent_KernelIdeal_pre_finite_scores := fun m ρ _ => Mixer.Run.frame (F := Ideal) m ρ

theorem reference : Cert.quiescent_ReferenceIdeal := fun m ρ _ =>
  (θ_run Cert.ReferenceIdeal.defs _ _).mono (fun r h => ⟨fun c => (h c).2.2.2.2.2.2.2, sem_eq_zero_of_no_sems rfl r.2⟩) (Cert.ReferenceIdeal.Value.run (F := Ideal) m ρ)

theorem reference_pre : Cert.quiescent_ReferenceIdeal_pre_finite_scores := fun m ρ _ =>
  (θ_run Cert.ReferenceIdeal.defs _ _).mono (fun r h => ⟨fun c => (h c).2.2.2.2.2.2.2, sem_eq_zero_of_no_sems rfl r.2⟩) (Cert.ReferenceIdeal.Value.run (F := Ideal) m ρ)

end Mixer.Frames

end
-- ==== Proof.Mixer.Value.lean ====
/-
  The value claim: the attention part of the kernel's results is the reference's.
-/
module

public import proofs.«01_k».proof.Proof.Mixer.Link
public import proofs.«01_k».proof.Proof.Mixer.Frames

@[expose] public section

set_option maxRecDepth 16384

noncomputable section

namespace Mixer.Value

open Idealize.ShloMosaic Idealize.ShloMosaic.TcCoe Idealize.SL.Sem

attribute [local instance] Cert.Kernel.Gen.facts Cert.KernelIdeal.Gen.facts Cert.ReferenceIdeal.Gen.facts Mixer.Frames.pre_facts Mixer.Frames.on_facts

section
variable (x0 : FVec Ideal Cert.KernelIdeal.S8192x3328 .f32) (x1 : FVec Ideal Cert.KernelIdeal.S8192x2048 .bf16) (x2 : FVec Ideal Cert.KernelIdeal.S1x1024 .f32)
  (x3 : FVec Ideal Cert.KernelIdeal.S8x128x128 .f32) (x4 : FVec Ideal Cert.KernelIdeal.S8x128 .f32) (x5 : FVec Ideal Cert.KernelIdeal.S1x16 .f32)
  (x6 x7 : FVec Ideal Cert.KernelIdeal.S1x1024 .f32)

theorem real_of (x : EReal) (h : max x (-x) < ⊤) : ∃ a : ℝ, x = a := by
  induction x using EReal.rec with
  | bot => simp at h
  | top => simp at h
  | coe a => exact ⟨a, rfl⟩

theorem abs_lt (x : EReal) (h : FloatOps.cmpf (F := Ideal) (φ := .f32) .olt (FloatOps.hostAbsf (F := Ideal) (φ := .f32) x) (Ideal.ofBits .f32 0x7F800000#32) = 1#1) : ∃ a : ℝ, x = a := by
  refine real_of x ?_
  rw [Mixer.Spec.c_pinf] at h
  have h' : BitVec.ofBool (decide (max x (-x) < ⊤)) = 1#1 := h
  by_contra hn
  rw [decide_eq_false hn] at h'
  exact absurd h' (by decide)

/-- The precondition says that the queries, the keys and the sinks are real numbers. -/
theorem real (h : (Cert.Pre_finite_scores.fn (F := Ideal) x0 x1 x2 x3 x4 x5 x6 x7).1 = (fun _ => 1#1) ∧ (Cert.Pre_finite_scores.fn (F := Ideal) x0 x1 x2 x3 x4 x5 x6 x7).2 = (fun _ => 1#1)) :
    Mixer.Ref.Real x0 x5 := by
  obtain ⟨h0, h5⟩ := h
  constructor
  · intro r x h1 h2
    have e := congrFun h0 (ix2 r (⟨x.val - 2048, by omega⟩ : Fin 1152))
    have := abs_lt (extractStridedSlice Cert.Pre_finite_scores.S8192x1152 ![0, 2048] x0 Mixer.Frames.pre_facts.slices_S8192x3328_S8192x1152_0_2048 (ix2 r (⟨x.val - 2048, by omega⟩ : Fin 1152))) e
    obtain ⟨a, ha⟩ := this
    refine ⟨a, Eq.trans ?_ ha⟩
    refine congrArg x0 ?_
    idx_ext
    all_goals (dsimp; omega)
  · intro x
    exact abs_lt _ (congrFun h5 (ix2 0 x))

/-- The column test of the claim. -/
theorem on_dz (r : Fin 8192) (x : Fin 3328) (h : (Cert.On_attention_part.fn (F := Ideal) x0 x1 x2 x3 x4 x5 x6 x7).1 (ix2 r x) = 1#1) : 2048 ≤ x.val := by
  have h' : IntOp.cmpi .sge (BitVec.ofNat 32 x.val) 2048#32 = 1#1 := h
  have e : ∀ n : Fin 3328, IntOp.cmpi .sge (BitVec.ofNat 32 n.val) 2048#32 = 1#1 → 2048 ≤ n.val := by
    intro n hn
    have t : (BitVec.ofNat 32 n.val).toInt = n.val := by
      have tn : (BitVec.ofNat 32 n.val).toNat = n.val := by rw [BitVec.toNat_ofNat]; exact Nat.mod_eq_of_lt (by omega)
      rw [BitVec.toInt_eq_toNat_of_lt (by rw [tn]; omega), tn]
    have hn' : BitVec.ofBool (decide ((2048#32).toInt ≤ (BitVec.ofNat 32 n.val).toInt)) = 1#1 := hn
    rw [t] at hn'
    by_contra hc
    rw [decide_eq_false (by have : (2048#32).toInt = 2048 := by decide
                            omega)] at hn'
    exact absurd hn' (by decide)
  exact e x h'

end

section
open Cert.KernelIdeal Cert.KernelIdeal.Gen Mixer.Run
variable (m : (ℓ : Loc nD τ sig) → Buf (Elt Ideal) ℓ)

/-- What the kernel leaves in the claimed places. -/
theorem kernel_side (c : Dev nD) (H : Mixer.Ref.Real (Mixer.Link.X0 m c) (Mixer.Link.X5 m c))
    (r : PUnit × MemSt nD τ sig (Elt Ideal)) (h : Pipeline.FramePost cfgs (dats m) 0 (V m) r) :
    (∀ i : S8192x3328.Idx, 2048 ≤ (i 1).val → (r.2.mem ((c.tc : Thread nD τ).loc main_v62_0) : FVec Ideal S8192x3328 .bf16) i = Mixer.Ref.v175 (F := Ideal) (Mixer.Link.X0 m c) (Mixer.Link.X1 m c) (Mixer.Link.X5 m c) (Mixer.Link.X7 m c) i)
    ∧ (∀ i : S1x16.Idx, (r.2.mem ((c.tc : Thread nD τ).loc main_v62_4) : FVec Ideal S1x16 .f32) i = Mixer.Ref.v153 (F := Ideal) (Mixer.Link.X0 m c) (Mixer.Link.X1 m c) (Mixer.Link.X5 m c) (Mixer.Link.X7 m c) i)
    ∧ (∀ i : S1x1024.Idx, (r.2.mem ((c.tc : Thread nD τ).loc main_v62_6) : FVec Ideal S1x1024 .f32) i = Mixer.Ref.v107 (F := Ideal) (Mixer.Link.X0 m c) (Mixer.Link.X1 m c) (Mixer.Link.X5 m c) i) := by
  refine ⟨fun i hi => ?_, fun i => ?_, fun i => ?_⟩
  · have e : i = ix2 (i 0) (i 1) := by idx_ext <;> rfl
    rw [e]
    exact (congrFun ((h c).1 9) (ix2 (i 0) (i 1))).trans (Mixer.Link.dz m c H (i 0) (i 1) hi)
  · have e : i = ix2 0 (i 1) := by idx_ext <;> first | rfl | exact Fin.val_eq_zero _
    rw [e]
    exact (congrFun ((h c).1 13) (ix2 0 (i 1))).trans (Mixer.Link.dsk m c H (i 1))
  · have e : i = ix2 0 (i 1) := by idx_ext <;> first | rfl | exact Fin.val_eq_zero _
    rw [e]
    exact (congrFun ((h c).1 15) (ix2 0 (i 1))).trans (Mixer.Link.dgb m c H (i 1))

end

theorem no_bit (h : (0#1 : BitVec 1) = 1#1) : False := absurd h (by decide)

theorem v175_congr (x0 y0 : FVec Ideal Cert.KernelIdeal.S8192x3328 .f32) (x1 y1 : FVec Ideal Cert.KernelIdeal.S8192x2048 .bf16) (x5 y5 : FVec Ideal Cert.KernelIdeal.S1x16 .f32)
    (x7 y7 : FVec Ideal Cert.KernelIdeal.S1x1024 .f32) (h0 : x0 = y0) (h1 : x1 = y1) (h5 : x5 = y5) (h7 : x7 = y7) :
    Mixer.Ref.v175 (F := Ideal) x0 x1 x5 x7 = Mixer.Ref.v175 (F := Ideal) y0 y1 y5 y7 := by rw [h0, h1, h5, h7]

theorem v153_congr (x0 y0 : FVec Ideal Cert.KernelIdeal.S8192x3328 .f32) (x1 y1 : FVec Ideal Cert.KernelIdeal.S8192x2048 .bf16) (x5 y5 : FVec Ideal Cert.KernelIdeal.S1x16 .f32)
    (x7 y7 : FVec Ideal Cert.KernelIdeal.S1x1024 .f32) (h0 : x0 = y0) (h1 : x1 = y1) (h5 : x5 = y5) (h7 : x7 = y7) :
    Mixer.Ref.v153 (F := Ideal) x0 x1 x5 x7 = Mixer.Ref.v153 (F := Ideal) y0 y1 y5 y7 := by rw [h0, h1, h5, h7]

theorem v107_congr (x0 y0 : FVec Ideal Cert.KernelIdeal.S8192x3328 .f32) (x1 y1 : FVec Ideal Cert.KernelIdeal.S8192x2048 .bf16) (x5 y5 : FVec Ideal Cert.KernelIdeal.S1x16 .f32)
    (h0 : x0 = y0) (h1 : x1 = y1) (h5 : x5 = y5) :
    Mixer.Ref.v107 (F := Ideal) x0 x1 x5 = Mixer.Ref.v107 (F := Ideal) y0 y1 y5 := by rw [h0, h1, h5]

/-- The attention part of the kernel's results is the reference's. -/
theorem algebraic : Cert.algebraic_KernelIdeal_ReferenceIdeal_on_attention_part_pre_finite_scores := by
  intro m g m' g' pre agree
  have H : ∀ c : Dev Cert.KernelIdeal.nD, Mixer.Ref.Real (Mixer.Link.X0 m c) (Mixer.Link.X5 m c) := fun c => real _ _ _ _ _ _ _ _ (pre c)
  refine ⟨fun c => Mixer.Ref.v175 (F := Ideal) (Mixer.Link.X0 m c) (Mixer.Link.X1 m c) (Mixer.Link.X5 m c) (Mixer.Link.X7 m c),
    fun c => fun _ => (0 : EReal), fun c => fun _ => (0 : EReal), fun c => fun _ => (0 : EReal),
    fun c => Mixer.Ref.v153 (F := Ideal) (Mixer.Link.X0 m c) (Mixer.Link.X1 m c) (Mixer.Link.X5 m c) (Mixer.Link.X7 m c),
    fun c => fun _ => (0 : EReal),
    fun c => Mixer.Ref.v107 (F := Ideal) (Mixer.Link.X0 m c) (Mixer.Link.X1 m c) (Mixer.Link.X5 m c), ?_, ?_⟩
  · refine (θ_run _ _ _).mono (fun r h c => ?_) (θ_run_and (Mixer.Run.arrays (F := Ideal) m g) (Mixer.Run.frame (F := Ideal) m g))
    obtain ⟨k0, k4, k6⟩ := kernel_side m c (H c) r h.1
    refine ⟨fun i hi => k0 i ?_, fun i hi => False.elim (no_bit hi), fun i hi => False.elim (no_bit hi), fun i hi => False.elim (no_bit hi),
      fun i _ => k4 i, fun i hi => False.elim (no_bit hi), fun i _ => k6 i, h.2.1 c⟩
    have e : i = ix2 (i 0) (i 1) := by idx_ext <;> rfl
    rw [e] at hi
    exact on_dz _ _ _ _ _ _ _ _ (i 0) (i 1) hi
  · refine (θ_run _ _ _).mono (fun r h c => ?_) (Cert.ReferenceIdeal.Value.run (F := Ideal) m' g')
    obtain ⟨a0, a1, a2, a3, a4, a5, a6, a7⟩ := agree c
    obtain ⟨h0, h1, h2, h3, h4, h5, h6, hargs⟩ := h c
    have e0 := h0.trans (Mixer.Ref.v175_eq (F := Ideal) _)
    have e4 := h4.trans (Mixer.Ref.v153_eq (F := Ideal) _)
    have e6 := h6.trans (Mixer.Ref.v107_eq (F := Ideal) _)
    refine ⟨fun i _ => ?_, fun i hi => False.elim (no_bit hi), fun i hi => False.elim (no_bit hi), fun i hi => False.elim (no_bit hi),
      fun i _ => ?_, fun i hi => False.elim (no_bit hi), fun i _ => ?_, hargs⟩
    · refine (congrFun e0 i).trans ?_
      exact congrFun (v175_congr _ _ _ _ _ _ _ _ a0 a1 a5 a7) i
    · refine (congrFun e4 i).trans ?_
      exact congrFun (v153_congr _ _ _ _ _ _ _ _ a0 a1 a5 a7) i
    · refine (congrFun e6 i).trans ?_
      exact congrFun (v107_congr _ _ _ _ _ _ a0 a1 a5) i

end Mixer.Value

end
-- ==== Proof.Ffn.Run.lean ====
/-
  The feed-forward program's run: what it leaves in its three results, and its arguments unchanged.
-/
module

public import proofs.«01_k».proof.Proof.Gen.FfnIdeal.Frame

@[expose] public section

set_option maxRecDepth 16384

noncomputable section

namespace Ffn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the last boundary's contents. -/
theorem last : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The gradient arrays at the first region's and the second region's contents. -/
def pgOf (c : Dev nD) : Vec F S8192x5632 .bf16 := (dat0 (V0 m ρ) c).arrAt 3 cfg0.N
def puOf (c : Dev nD) : Vec F S8192x5632 .bf16 := (dat0 (V0 m ρ) c).arrAt 4 cfg0.N
def actOf (c : Dev nD) : Vec F S8192x5632 .bf16 := (dat0 (V0 m ρ) c).arrAt 5 cfg0.N
def dgOf (c : Dev nD) : Vec F S8192x5632 .bf16 := (dat1 (V1 m ρ) c).arrAt 4 cfg1.N
def duOf (c : Dev nD) : Vec F S8192x5632 .bf16 := (dat1 (V1 m ρ) c).arrAt 5 cfg1.N
def dwdOf (c : Dev nD) : Vec F S5632x2048 .bf16 := (dat2 (V2 m ρ) c).arrAt 2 cfg2.N

theorem V1_pg (c : Dev nD) : V1 m ρ c main_v0_0 = pgOf m ρ c := W1_arr m ρ c 3
theorem V1_pu (c : Dev nD) : V1 m ρ c main_v0_1 = puOf m ρ c := W1_arr m ρ c 4
theorem V1_act (c : Dev nD) : V1 m ρ c main_v0_2 = actOf m ρ c := W1_arr m ρ c 5
theorem V1_wd (c : Dev nD) : V1 m ρ c main_arg3 = m ((c : Thread nD τ).loc main_arg3) := W1_args m ρ c main_arg3 (by decide)
theorem V1_dh (c : Dev nD) : V1 m ρ c main_arg4 = m ((c : Thread nD τ).loc main_arg4) := W1_args m ρ c main_arg4 (by decide)
theorem V2_act (c : Dev nD) : V2 m ρ c main_v0_2 = actOf m ρ c := (W2_of m ρ c main_v0_2 (by decide)).trans (V1_act m ρ c)
theorem V2_dh (c : Dev nD) : V2 m ρ c main_arg4 = m ((c : Thread nD τ).loc main_arg4) := W2_args m ρ c main_arg4 (by decide)

/-- The results, and the arguments. -/
theorem run : θ_run defs (onTc (τ := τ) (main (F := F))) ⟨m, fun _ => 0, ρ⟩ (fun r => ∀ c : Dev nD,
      r.2.mem ((c.tc : Thread nD τ).loc main_v1_0) = dgOf m ρ c
      ∧ r.2.mem ((c.tc : Thread nD τ).loc main_v1_1) = duOf m ρ c
      ∧ r.2.mem ((c.tc : Thread nD τ).loc main_v2) = dwdOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1_0 (by decide))).trans ((W3_of m ρ c main_v1_0 (by decide)).trans (W2_arr m ρ c 4)),
     (h c _ (mem_uc main_v1_1 (by decide))).trans ((W3_of m ρ c main_v1_1 (by decide)).trans (W2_arr m ρ c 5)),
     (h c _ (mem_uc main_v2 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (last m ρ)

end Ffn.Run

end
-- ==== Proof.Ffn.Body.lean ====
/-
  The feed-forward program's payloads and its reference's results, entry by entry.
-/
module

public import proofs.«01_k».proof.Proof.Gen.FfnIdeal.Skeleton
public import proofs.«01_k».proof.Proof.Gen.FfnReferenceIdeal.Read
public import Idealize.ShloMosaic.Lib.Pointwise

@[expose] public section

set_option maxRecDepth 16384

noncomputable section

namespace Ffn.Body

open Idealize.ShloMosaic Idealize.ShloMosaic.TcCoe Idealize.SL.Sem

/-- One half. -/
def half : EReal := Ideal.ofBits .f32 0x3F000000#32

/-- The derivative of the gated activation along the gate, the other factor included. -/
def gslope (g u : EReal) : EReal := (Ideal.logistic g + g * Ideal.logistic g * (1 - Ideal.logistic g)) * u

/-- The gate, and its product with the other factor. -/
def gate (g : EReal) : EReal := g * Ideal.logistic g

section
open Cert.FfnIdeal Cert.FfnIdeal.Gen
section
variable (x : Vec Ideal S1024x2048 .bf16) (wg wu : Vec Ideal S2048x512 .bf16) (i : Fin 1024) (j : Fin 512)

theorem pay5_at : k0_pay5 (F := Ideal) x wg wu (ix2 i j) = gslope (∑ k : Fin 2048, x (ix2 i k) * wg (ix2 k j)) (∑ k : Fin 2048, x (ix2 i k) * wu (ix2 k j)) := by
  pointwise [k0_pay5, k0_pay4, k0_pay3, k0_pay2, k0_pay1, gslope]

theorem pay6_at : k0_pay6 (F := Ideal) x wg (ix2 i j) = gate (∑ k : Fin 2048, x (ix2 i k) * wg (ix2 k j)) := by
  pointwise [k0_pay6, k0_pay4, k0_pay3, k0_pay2, k0_pay1, gate]

theorem pay7_at : k0_pay7 (F := Ideal) x wg wu (ix2 i j) = gate (∑ k : Fin 2048, x (ix2 i k) * wg (ix2 k j)) * (∑ k : Fin 2048, x (ix2 i k) * wu (ix2 k j)) := by
  pointwise [k0_pay7, k0_pay4, k0_pay3, k0_pay2, k0_pay1, gate]
end

section
variable (x : Vec Ideal S1024x2048 .bf16) (w : Vec Ideal S1408x2048 .bf16) (p : Vec Ideal S1024x1408 .bf16) (i : Fin 1024) (j : Fin 1408)

theorem pay1_2_at : k1_pay2 (F := Ideal) x w p (ix2 i j) = half * (∑ k : Fin 2048, x (ix2 i k) * w (ix2 j k)) * p (ix2 i j) := by
  pointwise [k1_pay2, k1_pay1, half]

theorem pay1_3_at : k1_pay3 (F := Ideal) x w p (ix2 i j) = half * (∑ k : Fin 2048, x (ix2 i k) * w (ix2 j k)) * p (ix2 i j) := by
  pointwise [k1_pay3, k1_pay1, half]
end

theorem pay2_1_at (a w : Vec Ideal S8192x512 .bf16) (i j : Fin 512) :
    k2_pay1 (F := Ideal) a w (ix2 i j) = (∑ t : Fin 8192, a (ix2 t i) * w (ix2 t j)) * half := by
  pointwise [k2_pay1, half]
end

/-! ### The whole arrays -/

section
variable (n : FVec Ideal Cert.FfnIdeal.S8192x2048 .bf16) (wg wu : FVec Ideal Cert.FfnIdeal.S2048x5632 .bf16) (wd : FVec Ideal Cert.FfnIdeal.S5632x2048 .bf16)
  (dh : FVec Ideal Cert.FfnIdeal.S8192x2048 .bf16)

/-- A row of the input against a column of a weight. -/
def up (w : FVec Ideal Cert.FfnIdeal.S2048x5632 .bf16) (r : Fin 8192) (f : Fin 5632) : EReal := ∑ k : Fin 2048, n (ix2 r k) * w (ix2 k f)

/-- A row of the output's gradient against a row of the down weight. -/
def back (r : Fin 8192) (f : Fin 5632) : EReal := ∑ k : Fin 2048, dh (ix2 r k) * wd (ix2 f k)

/-- The same, the gradient scaled first. -/
def backHalf (r : Fin 8192) (f : Fin 5632) : EReal := ∑ k : Fin 2048, half * dh (ix2 r k) * wd (ix2 f k)

def dg (r : Fin 8192) (f : Fin 5632) : EReal := half * back wd dh r f * gslope (up n wg r f) (up n wu r f)
def du (r : Fin 8192) (f : Fin 5632) : EReal := half * back wd dh r f * gate (up n wg r f)
def dwd (f : Fin 5632) (d : Fin 2048) : EReal := (∑ t : Fin 8192, gate (up n wg t f) * up n wu t f * dh (ix2 t d)) * half

open Cert.FfnReferenceIdeal Cert.FfnReferenceIdeal.Read

theorem ref_dg (r : Fin 8192) (f : Fin 5632) : val_main_v20 (F := Ideal) n wg wu wd dh (ix2 r f)
    = backHalf wd dh r f * up n wu r f * Ideal.logistic (up n wg r f)
      + up n wg r f * (backHalf wd dh r f * up n wu r f) * (Ideal.logistic (up n wg r f) * (1 - Ideal.logistic (up n wg r f))) := by
  pointwise [val_main_v20, val_main_v19, val_main_call1_v0, val_main_call1_v1, val_main_call1_v2, val_main_v18, val_main_v17, val_main_v16, val_main_v13,
    val_main_v12, val_main_cst_0, val_main_v5, val_main_v6, val_main_v0, val_main_v1, val_main_v2, val_main_v3, val_main_v4,
    val_main_call0_v0, val_main_call0_v1, val_main_call0_v2, val_main_call0_v3, val_main_call0_v4, val_main_call0_cst, val_main_call0_cst_0, val_main_call0_cst_1,
    val_main_call0_v6, val_main_call0_v7, val_main_v7_0, val_main_v7_1, val_main_v7_2, up, backHalf, half, Ideal.logistic]

theorem ref_du (r : Fin 8192) (f : Fin 5632) : val_main_v21 (F := Ideal) n wg wd dh (ix2 r f) = gate (up n wg r f) * backHalf wd dh r f := by
  pointwise [val_main_v21, val_main_v17, val_main_v16, val_main_v13,
    val_main_v12, val_main_cst_0, val_main_v5, val_main_v0, val_main_v1, val_main_v3, val_main_v4,
    val_main_call0_v0, val_main_call0_v1, val_main_call0_v2, val_main_call0_v3, val_main_call0_v4, val_main_call0_cst, val_main_call0_cst_0,
    val_main_v7_0, val_main_v7_2, up, backHalf, half, gate, Ideal.logistic]

theorem ref_dwd (f : Fin 5632) (d : Fin 2048) : val_main_v22 (F := Ideal) n wg wu dh (ix2 f d)
    = ∑ t : Fin 8192, half * dh (ix2 t d) * (gate (up n wg t f) * up n wu t f) := by
  pointwise [val_main_v22, val_main_v15, val_main_v14, val_main_v8, val_main_v13,
    val_main_v12, val_main_cst_0, val_main_v5, val_main_v6, val_main_v0, val_main_v1, val_main_v2, val_main_v4,
    val_main_call0_v0, val_main_call0_v1, val_main_call0_v2, val_main_call0_v3, val_main_call0_v4, val_main_call0_cst, val_main_call0_cst_0,
    val_main_v7_0, val_main_v7_2, up, half, gate, Ideal.logistic]

end

end Ffn.Body

end
-- ==== Proof.Ffn.Arrays.lean ====
/-
  The feed-forward program's arrays after each of its three calls, entry by entry.
-/
module

public import proofs.«01_k».proof.Proof.Ffn.Run
public import proofs.«01_k».proof.Proof.Ffn.Body
public import Idealize.ShloMosaic.Lib.Pipeline.ValueKit

@[expose] public section

set_option maxRecDepth 16384

noncomputable section

namespace Ffn.Arrays

open Idealize.ShloMosaic Idealize.ShloMosaic.TcCoe Idealize.SL.Sem
open Cert.FfnIdeal Cert.FfnIdeal.Gen Ffn.Run Ffn.Body

variable (m : (ℓ : Loc nD τ sig) → Buf (Elt Ideal) ℓ) (ρ : Dev nD → PrngReg) (c : Dev nD)

def X0 : FVec Ideal S8192x2048 .bf16 := m ((c.tc : Thread nD τ).loc main_arg0)
def X1 : FVec Ideal S2048x5632 .bf16 := m ((c.tc : Thread nD τ).loc main_arg1)
def X2 : FVec Ideal S2048x5632 .bf16 := m ((c.tc : Thread nD τ).loc main_arg2)
def X3 : FVec Ideal S5632x2048 .bf16 := m ((c.tc : Thread nD τ).loc main_arg3)
def X4 : FVec Ideal S8192x2048 .bf16 := m ((c.tc : Thread nD τ).loc main_arg4)

theorem idx0 : ∀ t : Fin cfg0.N, win0_0.index t = ![(grid0.coords t 1).val, 0] ∧ win0_1.index t = ![0, (grid0.coords t 0).val]
    ∧ win0_2.index t = ![0, (grid0.coords t 0).val] ∧ win0_3.index t = ![(grid0.coords t 1).val, (grid0.coords t 0).val]
    ∧ win0_4.index t = ![(grid0.coords t 1).val, (grid0.coords t 0).val] ∧ win0_5.index t = ![(grid0.coords t 1).val, (grid0.coords t 0).val] :=
  (by decide +kernel : ∀ t : Fin grid0.N, _)

theorem pg_arr : pgOf m ρ c = fun i => gslope (up (X0 m c) (X1 m c) (i 0) (i 1)) (up (X0 m c) (X2 m c) (i 0) (i 1)) := by
  refine (dat0 (V0 m ρ) c).arrAt_eq_of_covers 3 (fun i => gslope (up (X0 m c) (X1 m c) (i 0) (i 1)) (up (X0 m c) (X2 m c) (i 0) (i 1)) : FVec Ideal S8192x5632 .bf16)
    (by decide +kernel) fun t hf y => ?_
  blk_simp
  rw [after0_3]
  frame_out
  have e : y = ix2 (y 0) (y 1) := by idx_ext <;> rfl
  rw [e]
  refine (pay5_at _ _ _ (y 0) (y 1)).trans ?_
  unfold up X0 X1 X2
  refine congrArg₂ gslope ?_ ?_
  · blk_point [iblk0, V0, W0, idx0 t]
  · blk_point [iblk0, V0, W0, idx0 t]

theorem pu_arr : puOf m ρ c = fun i => gate (up (X0 m c) (X1 m c) (i 0) (i 1)) := by
  refine (dat0 (V0 m ρ) c).arrAt_eq_of_covers 4 (fun i => gate (up (X0 m c) (X1 m c) (i 0) (i 1)) : FVec Ideal S8192x5632 .bf16)
    (by decide +kernel) fun t hf y => ?_
  blk_simp
  rw [after0_4]
  frame_out
  have e : y = ix2 (y 0) (y 1) := by idx_ext <;> rfl
  rw [e]
  refine (pay6_at _ _ (y 0) (y 1)).trans ?_
  unfold up X0 X1
  refine congrArg gate ?_
  blk_point [iblk0, V0, W0, idx0 t]

theorem act_arr : actOf m ρ c = fun i => gate (up (X0 m c) (X1 m c) (i 0) (i 1)) * up (X0 m c) (X2 m c) (i 0) (i 1) := by
  refine (dat0 (V0 m ρ) c).arrAt_eq_of_covers 5 (fun i => gate (up (X0 m c) (X1 m c) (i 0) (i 1)) * up (X0 m c) (X2 m c) (i 0) (i 1) : FVec Ideal S8192x5632 .bf16)
    (by decide +kernel) fun t hf y => ?_
  blk_simp
  rw [after0_5]
  frame_out
  have e : y = ix2 (y 0) (y 1) := by idx_ext <;> rfl
  rw [e]
  refine (pay7_at _ _ _ (y 0) (y 1)).trans ?_
  unfold up X0 X1 X2
  refine congrArg₂ (fun a b : EReal => gate a * b) ?_ ?_
  · blk_point [iblk0, V0, W0, idx0 t]
  · blk_point [iblk0, V0, W0, idx0 t]

theorem idx1 : ∀ t : Fin cfg1.N, win1_0.index t = ![(grid1.coords t 1).val, 0] ∧ win1_1.index t = ![(grid1.coords t 0).val, 0]
    ∧ win1_2.index t = ![(grid1.coords t 1).val, (grid1.coords t 0).val] ∧ win1_3.index t = ![(grid1.coords t 1).val, (grid1.coords t 0).val]
    ∧ win1_4.index t = ![(grid1.coords t 1).val, (grid1.coords t 0).val] ∧ win1_5.index t = ![(grid1.coords t 1).val, (grid1.coords t 0).val] :=
  (by decide +kernel : ∀ t : Fin grid1.N, _)

theorem dg_pt (P : FVec Ideal S8192x5632 .bf16) (hP : pgOf m ρ c = P) :
    dgOf m ρ c = fun i => half * back (X3 m c) (X4 m c) (i 0) (i 1) * P (ix2 (i 0) (i 1)) := by
  refine (dat1 (V1 m ρ) c).arrAt_eq_of_covers 4 (fun i => half * back (X3 m c) (X4 m c) (i 0) (i 1) * P (ix2 (i 0) (i 1)) : FVec Ideal S8192x5632 .bf16)
    (by decide +kernel) fun t hf y => ?_
  blk_simp
  rw [after1_4]
  frame_out
  have e : y = ix2 (y 0) (y 1) := by idx_ext <;> rfl
  rw [e]
  refine (pay1_2_at _ _ _ (y 0) (y 1)).trans ?_
  unfold back X3 X4
  refine congrArg₂ (fun a b : EReal => half * a * b) ?_ ?_
  · blk_point [iblk1, V1_wd, V1_dh, idx1 t]
  · refine (congrFun ((V1_pg m ρ c).trans hP) _).trans ?_
    refine congrArg P ?_
    idx_ext <;> blk_simp [idx1 t]

theorem du_pt (P : FVec Ideal S8192x5632 .bf16) (hP : puOf m ρ c = P) :
    duOf m ρ c = fun i => half * back (X3 m c) (X4 m c) (i 0) (i 1) * P (ix2 (i 0) (i 1)) := by
  refine (dat1 (V1 m ρ) c).arrAt_eq_of_covers 5 (fun i => half * back (X3 m c) (X4 m c) (i 0) (i 1) * P (ix2 (i 0) (i 1)) : FVec Ideal S8192x5632 .bf16)
    (by decide +kernel) fun t hf y => ?_
  blk_simp
  rw [after1_5]
  frame_out
  have e : y = ix2 (y 0) (y 1) := by idx_ext <;> rfl
  rw [e]
  refine (pay1_3_at _ _ _ (y 0) (y 1)).trans ?_
  unfold back X3 X4
  refine congrArg₂ (fun a b : EReal => half * a * b) ?_ ?_
  · blk_point [iblk1, V1_wd, V1_dh, idx1 t]
  · refine (congrFun ((V1_pu m ρ c).trans hP) _).trans ?_
    refine congrArg P ?_
    idx_ext <;> blk_simp [idx1 t]

theorem idx2 : ∀ t : Fin cfg2.N, win2_0.index t = ![0, (grid2.coords t 0).val] ∧ win2_1.index t = ![0, (grid2.coords t 1).val]
    ∧ win2_2.index t = ![(grid2.coords t 0).val, (grid2.coords t 1).val] :=
  (by decide +kernel : ∀ t : Fin grid2.N, _)

theorem dwd_pt (P : FVec Ideal S8192x5632 .bf16) (hP : actOf m ρ c = P) :
    dwdOf m ρ c = fun i => (∑ t : Fin 8192, P (ix2 t (i 0)) * X4 m c (ix2 t (i 1))) * half := by
  refine (dat2 (V2 m ρ) c).arrAt_eq_of_covers 2 (fun i => (∑ t : Fin 8192, P (ix2 t (i 0)) * X4 m c (ix2 t (i 1))) * half : FVec Ideal S5632x2048 .bf16)
    (by decide +kernel) fun t hf y => ?_
  blk_simp
  rw [after2_2]
  frame_out
  have e : y = ix2 (y 0) (y 1) := by idx_ext <;> rfl
  rw [e]
  refine (pay2_1_at _ _ (y 0) (y 1)).trans ?_
  unfold X4
  refine congrArg (fun a : EReal => a * half) (Finset.sum_congr rfl fun s _ => congrArg₂ (fun a b : EReal => a * b) ?_ ?_)
  · refine (congrFun ((V2_act m ρ c).trans hP) _).trans ?_
    refine congrArg P ?_
    funext q
    refine Fin.ext ?_
    match q with
    | 0 => blk_simp [idx2 t]
    | 1 => blk_simp [idx2 t]
  · refine (congrFun (V2_dh m ρ c) _).trans ?_
    refine congrArg (m ((c.tc : Thread nD τ).loc main_arg4)) ?_
    funext q
    refine Fin.ext ?_
    match q with
    | 0 => blk_simp [idx2 t]
    | 1 => blk_simp [idx2 t]

theorem dg_arr : dgOf m ρ c = fun i => dg (X0 m c) (X1 m c) (X2 m c) (X3 m c) (X4 m c) (i 0) (i 1) := dg_pt m ρ c _ (pg_arr m ρ c)

theorem du_arr : duOf m ρ c = fun i => du (X0 m c) (X1 m c) (X3 m c) (X4 m c) (i 0) (i 1) := du_pt m ρ c _ (pu_arr m ρ c)

theorem dwd_arr : dwdOf m ρ c = fun i => dwd (X0 m c) (X1 m c) (X2 m c) (X4 m c) (i 0) (i 1) := dwd_pt m ρ c _ (act_arr m ρ c)

end Ffn.Arrays

end
-- ==== Proof.Ffn.Math.lean ====
/-
  The two forms of the feed-forward gradients are equal.
-/
module

public import proofs.«01_k».proof.Proof.Ffn.Body

@[expose] public section

noncomputable section

namespace Ffn.Math

open Idealize.ShloMosaic Ffn.Body

theorem half_eq : half = ((1 / 2 : ℝ) : EReal) := by
  unfold half
  simp [Ideal.ofBits, Ideal.ieee, -EReal.coe_mul]; norm_num

/-- A real factor that is not negative goes into a sum. -/
theorem into_sum (c : ℝ) (hc : 0 ≤ c) {ι : Type} (s : Finset ι) (f : ι → EReal) : (c : EReal) * ∑ i ∈ s, f i = ∑ i ∈ s, (c : EReal) * f i := by
  classical
  refine Finset.induction_on s (by simp) fun a s ha ih => ?_
  rw [Finset.sum_insert ha, Finset.sum_insert ha, EReal.left_distrib_of_nonneg_of_ne_top (EReal.coe_nonneg.mpr hc) (EReal.coe_ne_top c), ih]

/-- A sum of products of reals is real. -/
theorem real_sum {N : ℕ} (a b : Fin N → EReal) (ha : ∀ k, ∃ x : ℝ, a k = x) (hb : ∀ k, ∃ x : ℝ, b k = x) : ∃ x : ℝ, ∑ k, a k * b k = x := by
  choose x hx using ha
  choose y hy using hb
  refine ⟨∑ k, x k * y k, ?_⟩
  have e : ∀ s : Finset (Fin N), ∑ k ∈ s, a k * b k = ((∑ k ∈ s, x k * y k : ℝ) : EReal) := by
    classical
    intro s
    refine Finset.induction_on s (by simp) fun k s hk ih => ?_
    rw [Finset.sum_insert hk, Finset.sum_insert hk, EReal.coe_add, EReal.coe_mul, ih, hx, hy]
  exact e _

theorem real_logistic (g : ℝ) : ∃ s : ℝ, Ideal.logistic (g : EReal) = s := by
  refine ⟨(1 + Real.exp (-g))⁻¹, ?_⟩
  have hp : (0 : ℝ) < 1 + Real.exp (-g) := by positivity
  unfold Ideal.logistic
  have e : (1 + Ideal.exp (-(g : EReal)) : EReal) = ((1 + Real.exp (-g) : ℝ) : EReal) := by
    rw [← EReal.coe_neg, EReal.coe_add]
    rfl
  rw [e]
  rw [Ideal.div_coe hp.ne', one_mul, one_div]

section
variable (n : FVec Ideal Cert.FfnIdeal.S8192x2048 .bf16) (wg wu : FVec Ideal Cert.FfnIdeal.S2048x5632 .bf16) (wd : FVec Ideal Cert.FfnIdeal.S5632x2048 .bf16)
  (dh : FVec Ideal Cert.FfnIdeal.S8192x2048 .bf16)

theorem backHalf_eq (r : Fin 8192) (f : Fin 5632) : backHalf wd dh r f = half * back wd dh r f := by
  unfold backHalf back
  rw [half_eq, into_sum _ (by norm_num)]
  exact Finset.sum_congr rfl fun k _ => mul_assoc _ _ _

theorem du_eq (r : Fin 8192) (f : Fin 5632) : du n wg wd dh r f = gate (up n wg r f) * backHalf wd dh r f := by
  unfold du
  rw [backHalf_eq, mul_comm]

theorem dwd_eq (f : Fin 5632) (d : Fin 2048) : dwd n wg wu dh f d = ∑ t : Fin 8192, half * dh (ix2 t d) * (gate (up n wg t f) * up n wu t f) := by
  unfold dwd
  rw [mul_comm, half_eq, into_sum _ (by norm_num)]
  refine Finset.sum_congr rfl fun t _ => ?_
  rw [mul_comm (gate (up n wg t f) * up n wu t f), mul_assoc]

/-- The entries are real numbers. -/
structure Real : Prop where
  n : ∀ i, ∃ x : ℝ, n i = x
  wg : ∀ i, ∃ x : ℝ, wg i = x
  wu : ∀ i, ∃ x : ℝ, wu i = x
  wd : ∀ i, ∃ x : ℝ, wd i = x
  dh : ∀ i, ∃ x : ℝ, dh i = x

theorem slope_eq (b g u : EReal) (hb : ∃ x : ℝ, b = x) (hg : ∃ x : ℝ, g = x) (hu : ∃ x : ℝ, u = x) :
    b * gslope g u = b * u * Ideal.logistic g + g * (b * u) * (Ideal.logistic g * (1 - Ideal.logistic g)) := by
  obtain ⟨b, rfl⟩ := hb
  obtain ⟨g, rfl⟩ := hg
  obtain ⟨u, rfl⟩ := hu
  obtain ⟨s, hs⟩ := real_logistic g
  unfold gslope
  rw [hs]
  norm_cast
  ring

theorem dg_eq (h : Real n wg wu wd dh) (r : Fin 8192) (f : Fin 5632) : dg n wg wu wd dh r f
    = backHalf wd dh r f * up n wu r f * Ideal.logistic (up n wg r f)
      + up n wg r f * (backHalf wd dh r f * up n wu r f) * (Ideal.logistic (up n wg r f) * (1 - Ideal.logistic (up n wg r f))) := by
  unfold dg
  rw [← backHalf_eq]
  refine slope_eq _ _ _ ?_ (real_sum _ _ (fun _ => h.n _) fun _ => h.wg _) (real_sum _ _ (fun _ => h.n _) fun _ => h.wu _)
  rw [backHalf_eq, half_eq]
  obtain ⟨y, hy⟩ := real_sum (fun k => dh (ix2 r k)) (fun k => wd (ix2 f k)) (fun _ => h.dh _) fun _ => h.wd _
  exact ⟨1 / 2 * y, by unfold back; rw [hy, EReal.coe_mul]⟩

end

end Ffn.Math

end
-- ==== Proof.Ffn.Frames.lean ====
/-
  The frames of the feed-forward programs: they end, their arguments unchanged.
-/
module

public import proofs.«01_k».proof.Defs
public import proofs.«01_k».proof.Proof.Gen.Ffn.Frame
public import proofs.«01_k».proof.Proof.Gen.FfnIdeal.Frame
public import proofs.«01_k».proof.Proof.Gen.FfnReferenceIdeal.Run

@[expose] public section

noncomputable section

namespace Ffn.Frames

open Idealize.ShloMosaic Idealize.SL.Sem

attribute [local instance] Cert.Ffn.Gen.facts Cert.FfnIdeal.Gen.facts Cert.FfnReferenceIdeal.Gen.facts

theorem pre_facts : Cert.Pre_finite_ffn.Facts where
  bitsLt_bf16_f32 := by decide
  bcast_S_S8192x2048 := by decide
  bcast_S_S2048x5632 := by decide
  bcast_S_S5632x2048 := by decide

attribute [local instance] pre_facts

theorem kernel : Cert.quiescent_Ffn := fun m ρ _ => Cert.Ffn.Gen.frame m ρ

theorem kernelIdeal : Cert.quiescent_FfnIdeal := fun m ρ _ => Cert.FfnIdeal.Gen.frame m ρ

theorem kernelIdeal_pre : Cert.quiescent_FfnIdeal_pre_finite_ffn := fun m ρ _ => Cert.FfnIdeal.Gen.frame m ρ

theorem reference : Cert.quiescent_FfnReferenceIdeal := fun m ρ _ =>
  (θ_run Cert.FfnReferenceIdeal.defs _ _).mono (fun r h => ⟨fun c => (h c).2.2.2, sem_eq_zero_of_no_sems rfl r.2⟩) (Cert.FfnReferenceIdeal.Value.run (F := Ideal) m ρ)

theorem reference_pre : Cert.quiescent_FfnReferenceIdeal_pre_finite_ffn := fun m ρ _ =>
  (θ_run Cert.FfnReferenceIdeal.defs _ _).mono (fun r h => ⟨fun c => (h c).2.2.2, sem_eq_zero_of_no_sems rfl r.2⟩) (Cert.FfnReferenceIdeal.Value.run (F := Ideal) m ρ)

end Ffn.Frames

end
-- ==== Proof.Ffn.Value.lean ====
/-
  The value claim: the feed-forward gradients are the reference's.
-/
module

public import proofs.«01_k».proof.Proof.Ffn.Arrays
public import proofs.«01_k».proof.Proof.Ffn.Math
public import proofs.«01_k».proof.Proof.Ffn.Frames

@[expose] public section

set_option maxRecDepth 16384

noncomputable section

namespace Ffn.Value

open Idealize.ShloMosaic Idealize.ShloMosaic.TcCoe Idealize.SL.Sem
open Ffn.Body Ffn.Arrays Cert.FfnReferenceIdeal.Read

attribute [local instance] Cert.Ffn.Gen.facts Cert.FfnIdeal.Gen.facts Cert.FfnReferenceIdeal.Gen.facts Ffn.Frames.pre_facts

theorem inf : Ideal.ofBits .f32 0x7F800000#32 = ⊤ := by simp [Ideal.ofBits, Ideal.ieee]

/-- A finite extended real is a real. -/
theorem finite (x : EReal) (h : FloatOps.cmpf (F := Ideal) (φ := .f32) .olt (FloatOps.hostAbsf (F := Ideal) (φ := .f32) x) (Ideal.ofBits .f32 0x7F800000#32) = 1#1) : ∃ a : ℝ, x = a := by
  rw [inf] at h
  have h' : BitVec.ofBool (decide (max x (-x) < ⊤)) = 1#1 := h
  have hx : max x (-x) < ⊤ := by
    by_contra hn
    rw [decide_eq_false hn] at h'
    exact absurd h' (by decide)
  rcases max_lt_iff.mp hx with ⟨h1, h2⟩
  exact ⟨x.toReal, (EReal.coe_toReal h1.ne fun hb => by rw [hb] at h2; exact absurd h2 (by simp)).symm⟩

section
variable (n : FVec Ideal Cert.FfnIdeal.S8192x2048 .bf16) (wg wu : FVec Ideal Cert.FfnIdeal.S2048x5632 .bf16) (wd : FVec Ideal Cert.FfnIdeal.S5632x2048 .bf16)
  (dh : FVec Ideal Cert.FfnIdeal.S8192x2048 .bf16)

theorem real (h : (Cert.Pre_finite_ffn.fn (F := Ideal) n wg wu wd dh).1 = (fun _ => 1#1) ∧ (Cert.Pre_finite_ffn.fn (F := Ideal) n wg wu wd dh).2.1 = (fun _ => 1#1)
      ∧ (Cert.Pre_finite_ffn.fn (F := Ideal) n wg wu wd dh).2.2.1 = (fun _ => 1#1) ∧ (Cert.Pre_finite_ffn.fn (F := Ideal) n wg wu wd dh).2.2.2.1 = (fun _ => 1#1)
      ∧ (Cert.Pre_finite_ffn.fn (F := Ideal) n wg wu wd dh).2.2.2.2 = (fun _ => 1#1)) : Math.Real n wg wu wd dh where
  n i := finite _ (congrFun h.1 i)
  wg i := finite _ (congrFun h.2.1 i)
  wu i := finite _ (congrFun h.2.2.1 i)
  wd i := finite _ (congrFun h.2.2.2.1 i)
  dh i := finite _ (congrFun h.2.2.2.2 i)

theorem dg_ref (h : Math.Real n wg wu wd dh) : (fun i => dg n wg wu wd dh (i 0) (i 1) : FVec Ideal Cert.FfnIdeal.S8192x5632 .bf16) = val_main_v20 (F := Ideal) n wg wu wd dh := by
  funext i
  rw [show i = ix2 (i 0) (i 1) by idx_ext <;> rfl]
  exact (Math.dg_eq n wg wu wd dh h (i 0) (i 1)).trans (ref_dg n wg wu wd dh (i 0) (i 1)).symm

theorem du_ref : (fun i => du n wg wd dh (i 0) (i 1) : FVec Ideal Cert.FfnIdeal.S8192x5632 .bf16) = val_main_v21 (F := Ideal) n wg wd dh := by
  funext i
  rw [show i = ix2 (i 0) (i 1) by idx_ext <;> rfl]
  exact (Math.du_eq n wg wd dh (i 0) (i 1)).trans (ref_du n wg wd dh (i 0) (i 1)).symm

theorem dwd_ref : (fun i => dwd n wg wu dh (i 0) (i 1) : FVec Ideal Cert.FfnIdeal.S5632x2048 .bf16) = val_main_v22 (F := Ideal) n wg wu dh := by
  funext i
  rw [show i = ix2 (i 0) (i 1) by idx_ext <;> rfl]
  exact (Math.dwd_eq n wg wu dh (i 0) (i 1)).trans (ref_dwd n wg wu dh (i 0) (i 1)).symm

variable (n' : FVec Ideal Cert.FfnIdeal.S8192x2048 .bf16) (wg' wu' : FVec Ideal Cert.FfnIdeal.S2048x5632 .bf16) (wd' : FVec Ideal Cert.FfnIdeal.S5632x2048 .bf16)
  (dh' : FVec Ideal Cert.FfnIdeal.S8192x2048 .bf16)

theorem v20_congr (h0 : n' = n) (h1 : wg' = wg) (h2 : wu' = wu) (h3 : wd' = wd) (h4 : dh' = dh) :
    val_main_v20 (F := Ideal) n' wg' wu' wd' dh' = val_main_v20 (F := Ideal) n wg wu wd dh := by rw [h0, h1, h2, h3, h4]

theorem v21_congr (h0 : n' = n) (h1 : wg' = wg) (h3 : wd' = wd) (h4 : dh' = dh) :
    val_main_v21 (F := Ideal) n' wg' wd' dh' = val_main_v21 (F := Ideal) n wg wd dh := by rw [h0, h1, h3, h4]

theorem v22_congr (h0 : n' = n) (h1 : wg' = wg) (h2 : wu' = wu) (h4 : dh' = dh) :
    val_main_v22 (F := Ideal) n' wg' wu' dh' = val_main_v22 (F := Ideal) n wg wu dh := by rw [h0, h1, h2, h4]

end

theorem algebraic : Cert.algebraic_FfnIdeal_FfnReferenceIdeal_pre_finite_ffn := by
  intro m g m' g' pre agree
  have H : ∀ c : Dev Cert.FfnIdeal.nD, Math.Real (X0 m c) (X1 m c) (X2 m c) (X3 m c) (X4 m c) := fun c => real _ _ _ _ _ (pre c)
  refine ⟨fun c => val_main_v20 (F := Ideal) (X0 m c) (X1 m c) (X2 m c) (X3 m c) (X4 m c), fun c => val_main_v21 (F := Ideal) (X0 m c) (X1 m c) (X3 m c) (X4 m c),
    fun c => val_main_v22 (F := Ideal) (X0 m c) (X1 m c) (X2 m c) (X4 m c), ?_, ?_⟩
  · refine (θ_run _ _ _).mono (fun r h c => ?_) (Ffn.Run.run (F := Ideal) m g)
    obtain ⟨h0, h1, h2, hargs⟩ := h c
    exact ⟨h0.trans ((dg_arr m g c).trans (dg_ref _ _ _ _ _ (H c))), h1.trans ((du_arr m g c).trans (du_ref _ _ _ _)), h2.trans ((dwd_arr m g c).trans (dwd_ref _ _ _ _)), hargs⟩
  · refine (θ_run _ _ _).mono (fun r h c => ?_) (Cert.FfnReferenceIdeal.Value.run (F := Ideal) m' g')
    obtain ⟨a0, a1, a2, a3, a4⟩ := agree c
    obtain ⟨h0, h1, h2, hargs⟩ := h c
    refine ⟨h0.trans ((val_main_v20_eq (F := Ideal) _ _ _ _ _).trans ?_), h1.trans ((val_main_v21_eq (F := Ideal) _ _ _ _).trans ?_), h2.trans ((val_main_v22_eq (F := Ideal) _ _ _ _).trans ?_), hargs⟩
    · exact v20_congr _ _ _ _ _ _ _ _ _ _ a0 a1 a2 a3 a4
    · exact v21_congr _ _ _ _ _ _ _ _ a0 a1 a3 a4
    · exact v22_congr _ _ _ _ _ _ _ _ a0 a1 a2 a4

end Ffn.Value

end
-- ==== Proof.Dw.Blocks.lean ====
/-
  The gradient of a feed-forward weight: what each grid point leaves, and the array after the run.
-/
module

public import proofs.«01_k».proof.Proof.Gen.DwIdeal.Frame
public import Idealize.ShloMosaic.Lib.Pointwise
public import Idealize.ShloMosaic.Lib.Pipeline.ValueKit

@[expose] public section

set_option maxRecDepth 16384

noncomputable section

namespace Dw

open Idealize.ShloMosaic Idealize.ShloMosaic.TcCoe Idealize.SL.Sem
open Cert.DwIdeal Cert.DwIdeal.Gen

section
variable (a : Vec Ideal S2048x512 .bf16) (b : Vec Ideal S2048x2816 .bf16) (acc : Vec Ideal S512x2816 .f32)

/-- An entry of the product of two blocks. -/
def dot (i : Fin 512) (j : Fin 2816) : EReal := ∑ k : Fin 2048, a (ix2 k i) * b (ix2 k j)

theorem first_at (i : Fin 512) (j : Fin 2816) : k0_pay2 (F := Ideal) a b (ix2 i j) = dot a b i j := by
  unfold dot
  pointwise [k0_pay2, k0_pay1]

theorem next_at (i : Fin 512) (j : Fin 2816) : k0_pay3 (F := Ideal) a b acc (ix2 i j) = acc (ix2 i j) + dot a b i j := by
  unfold dot
  pointwise [k0_pay3, k0_pay1]

theorem left_at (i : Fin 512) (j : Fin 1408) : k0_pay5 (F := Ideal) a b acc (ix3 0 i j)
    = acc (ix2 i ⟨j.val, by omega⟩) + dot a b i ⟨j.val, by omega⟩ := by
  unfold dot
  pointwise [k0_pay5, k0_pay4, k0_pay1]

theorem right_at (i : Fin 512) (j : Fin 1408) : k0_pay6 (F := Ideal) a b acc (ix3 0 i j)
    = acc (ix2 i ⟨1408 + j.val, by omega⟩) + dot a b i ⟨1408 + j.val, by omega⟩ := by
  unfold dot
  pointwise [k0_pay6, k0_pay4, k0_pay1]
end

variable (m : (ℓ : Loc nD τ sig) → Buf (Elt Ideal) ℓ) (c : Dev nD)

def X0 : FVec Ideal S8192x2048 .bf16 := m ((c.tc : Thread nD τ).loc main_arg0)
def X1 : FVec Ideal S8192x5632 .bf16 := m ((c.tc : Thread nD τ).loc main_arg1)

/-- The product of one grid point's blocks, from the arrays. -/
def part (A : FVec Ideal S8192x2048 .bf16) (D : FVec Ideal S8192x5632 .bf16) (s : Fin 4) (r : Fin 2048) (f : Fin 5632) : EReal :=
  ∑ k : Fin 2048, A (ix2 ⟨s.val * 2048 + k.val, by omega⟩ r) * D (ix2 ⟨s.val * 2048 + k.val, by omega⟩ f)

/-- An entry of the whole product. -/
def whole (A : FVec Ideal S8192x2048 .bf16) (D : FVec Ideal S8192x5632 .bf16) (r : Fin 2048) (f : Fin 5632) : EReal :=
  ∑ t : Fin 8192, A (ix2 t r) * D (ix2 t f)

theorem parts (A : FVec Ideal S8192x2048 .bf16) (D : FVec Ideal S8192x5632 .bf16) (r : Fin 2048) (f : Fin 5632) :
    part A D ⟨0, by omega⟩ r f + part A D ⟨1, by omega⟩ r f + part A D ⟨2, by omega⟩ r f + part A D ⟨3, by omega⟩ r f = whole A D r f := by
  unfold whole
  rw [← Fin.sum_mul_add_fin 4 2048 (fun t : Fin 8192 => A (ix2 t r) * D (ix2 t f)), Fin.sum_univ_four]
  rfl

theorem part_congr (A : FVec Ideal S8192x2048 .bf16) (D : FVec Ideal S8192x5632 .bf16) {s s' : Fin 4} {r r' : Fin 2048} {f f' : Fin 5632}
    (hs : s.val = s'.val) (hr : r.val = r'.val) (hf : f.val = f'.val) : part A D s r f = part A D s' r' f' := by
  rw [Fin.ext hs, Fin.ext hr, Fin.ext hf]

theorem whole_congr (A : FVec Ideal S8192x2048 .bf16) (D : FVec Ideal S8192x5632 .bf16) {r r' : Fin 2048} {f f' : Fin 5632}
    (hr : r.val = r'.val) (hf : f.val = f'.val) : whole A D r f = whole A D r' f' := by
  rw [Fin.ext hr, Fin.ext hf]

theorem idx : ∀ t : Fin cfg0.N, win0_0.index t = ![t.val % 4, t.val / 4 % 4] ∧ win0_1.index t = ![t.val % 4, t.val / 16]
    ∧ win0_2.index t = ![t.val / 16, t.val / 4 % 4, 0] :=
  (by decide +kernel : ∀ t : Fin grid0.N, _)

theorem lt32 (t : Fin cfg0.N) : t.val < 32 := lt_of_lt_of_eq t.isLt N_0

theorem blk_part (t : Fin cfg0.N) (i : Fin 512) (j : Fin 2816) :
    dot (iblk m c 0 t) (iblk m c 1 t) i j
      = part (X0 m c) (X1 m c) ⟨t.val % 4, by omega⟩ ⟨t.val / 4 % 4 * 512 + i.val, by omega⟩ ⟨t.val / 16 * 2816 + j.val, by have := lt32 t; omega⟩ := by
  have h32 := lt32 t
  unfold dot part X0 X1
  refine Finset.sum_congr rfl fun k _ => congrArg₂ (fun a b : EReal => a * b) ?_ ?_
  · blk_ext [iblk, V, idx t]
  · blk_ext [iblk, V, idx t]

/-- The accumulator after the first of four points. -/
theorem sc_first (t : Fin cfg0.N) (h : t.val % 4 = 0) (i : Fin 512) (j : Fin 2816) : (outsAt0 m c t.val t.isLt).2 (ix2 i j)
      = dot (iblk m c 0 t) (iblk m c 1 t) i j := by
  rw [outsAt0_A m c t h (by omega) (by omega)]
  frame_out
  exact first_at _ _ i j

theorem sc_next (t : Fin cfg0.N) (h : 1 ≤ t.val % 4 ∧ t.val % 4 ≤ 2) (i : Fin 512) (j : Fin 2816) : (outsAt0 m c t.val t.isLt).2 (ix2 i j)
      = (outsAt0 m c (t.val - 1) (Nat.lt_of_le_of_lt (Nat.sub_le _ _) t.isLt)).2 (ix2 i j)
        + dot (iblk m c 0 t) (iblk m c 1 t) i j := by
  rw [outsAt0_B m c t (by omega) h (by omega)]
  frame_out
  exact (next_at _ _ _ i j).trans (congrArg (fun e : EReal => e + dot (iblk m c 0 t) (iblk m c 1 t) i j) (congrFun (Memref.IsWhole.read_unread _ _) _))

theorem out_last (t : Fin cfg0.N) (h : t.val % 4 = 3) (s : Fin 2) (i : Fin 512) (j : Fin 1408) : (outsAt0 m c t.val t.isLt).1 (ix3 s i j)
      = (outsAt0 m c (t.val - 1) (Nat.lt_of_le_of_lt (Nat.sub_le _ _) t.isLt)).2 (ix2 i ⟨s.val * 1408 + j.val, by omega⟩)
        + dot (iblk m c 0 t) (iblk m c 1 t) i ⟨s.val * 1408 + j.val, by omega⟩ := by
  rw [outsAt0_C m c t (by omega) (by omega) h]
  frame_out
  canon_tiles x h
  case piece0 =>
    have e0 : (s : ℕ) = 1 + (x 0 : ℕ) := h0
    have e1 : (i : ℕ) = (x 1 : ℕ) := h1
    have e2 : (j : ℕ) = (x 2 : ℕ) := h2
    have hx : x = ix3 (n0 := 1) (n1 := 512) (n2 := 1408) 0 i j := by
      funext q
      refine Fin.ext ?_
      match q with
      | 0 => exact Nat.lt_one_iff.mp x0_lt
      | 1 => exact e1.symm
      | 2 => exact e2.symm
    have hj : (⟨s.val * 1408 + j.val, by omega⟩ : Fin 2816) = ⟨1408 + j.val, by omega⟩ := Fin.ext (by show s.val * 1408 + j.val = 1408 + j.val; omega)
    rw [hx, hj]
    exact (right_at _ _ _ i j).trans (congrArg (fun e : EReal => e + dot (iblk m c 0 t) (iblk m c 1 t) i ⟨1408 + j.val, by omega⟩) (congrFun (Memref.IsWhole.read_unread _ _) _))
  case piece1 =>
    have e0 : (s : ℕ) = (x 0 : ℕ) := h0
    have e1 : (i : ℕ) = (x 1 : ℕ) := h1
    have e2 : (j : ℕ) = (x 2 : ℕ) := h2
    have hx : x = ix3 (n0 := 1) (n1 := 512) (n2 := 1408) 0 i j := by
      funext q
      refine Fin.ext ?_
      match q with
      | 0 => exact Nat.lt_one_iff.mp x0_lt
      | 1 => exact e1.symm
      | 2 => exact e2.symm
    have hj : (⟨s.val * 1408 + j.val, by omega⟩ : Fin 2816) = ⟨j.val, by omega⟩ := Fin.ext (by show s.val * 1408 + j.val = j.val; omega)
    rw [hx, hj]
    exact (left_at _ _ _ i j).trans (congrArg (fun e : EReal => e + dot (iblk m c 0 t) (iblk m c 1 t) i ⟨j.val, by omega⟩) (congrFun (Memref.IsWhole.read_unread _ _) _))

theorem flush_last : ∀ t : Fin cfg0.N, (cfg0.win 2).flush t = true → t.val % 4 = 3 := (by decide +kernel : ∀ t : Fin grid0.N, _)

/-- The accumulator before a point, from the point before. -/
def acc (n : ℕ) (hn : n < cfg0.N) (i : Fin 512) (j : Fin 2816) : EReal := (outsAt0 m c n hn).2 (ix2 i j)

/-- Four points leave the whole sum in the output's block. -/
theorem out_at (t : Fin cfg0.N) (h : t.val % 4 = 3) (s : Fin 2) (i : Fin 512) (j : Fin 1408) : (outsAt0 m c t.val t.isLt).1 (ix3 s i j)
      = whole (X0 m c) (X1 m c) ⟨t.val / 4 % 4 * 512 + i.val, by omega⟩ ⟨t.val / 16 * 2816 + (s.val * 1408 + j.val), by have := lt32 t; omega⟩ := by
  have h32 := lt32 t
  obtain ⟨n, hn⟩ := t
  obtain ⟨n, rfl⟩ : ∃ q, n = q + 3 := ⟨n - 3, by dsimp only at h; omega⟩
  dsimp only at h h32
  have h0 : n % 4 = 0 := by omega
  have D := out_last m c ⟨n + 3, hn⟩ h s i j
  generalize hk : (⟨s.val * 1408 + j.val, by omega⟩ : Fin 2816) = k at D
  have hk' : k.val = s.val * 1408 + j.val := by rw [← hk]
  have A : acc m c n (by omega) i k = _ := (sc_first m c ⟨n, by omega⟩ h0 i k).trans (blk_part m c _ i k)
  have B : acc m c (n + 1) (by omega) i k = acc m c n (by omega) i k + _ := (sc_next m c ⟨n + 1, by omega⟩ (by dsimp only; omega) i k).trans (congrArg (acc m c n (by omega) i k + ·) (blk_part m c _ i k))
  have C : acc m c (n + 2) (by omega) i k = acc m c (n + 1) (by omega) i k + _ := (sc_next m c ⟨n + 2, by omega⟩ (by dsimp only; omega) i k).trans (congrArg (acc m c (n + 1) (by omega) i k + ·) (blk_part m c _ i k))
  refine D.trans ((congrArg (acc m c (n + 2) (by omega) i k + ·) (blk_part m c _ i k)).trans ?_)
  rw [C, B, A, ← parts]
  refine congrArg₂ (· + ·) (congrArg₂ (· + ·) (congrArg₂ (· + ·) ?_ ?_) ?_) ?_
  all_goals
    refine part_congr _ _ ?_ ?_ ?_ <;> dsimp only <;> omega

theorem arr : (dats m 0 c).arrAt 2 cfg0.N = fun i => whole (X0 m c) (X1 m c) (i 1) ⟨(i 0).val * 1408 + (i 2).val, by
    have h0 : (i 0).val < 4 := (i 0).isLt
    have h2 : (i 2).val < 1408 := (i 2).isLt
    omega⟩ := by
  refine (dats m 0 c).arrAt_eq_of_covers 2 (fun i => whole (X0 m c) (X1 m c) (i 1) ⟨(i 0).val * 1408 + (i 2).val, by
    have h0 : (i 0).val < 4 := (i 0).isLt
    have h2 : (i 2).val < 1408 := (i 2).isLt
    omega⟩ : FVec Ideal S4x2048x1408 .bf16)
    (by decide +kernel) fun t hf y => ?_
  blk_simp
  rw [after0_2]
  have e : y = ix3 (y 0) (y 1) (y 2) := by idx_ext <;> rfl
  have h0 : (y 0).val < 2 := (y 0).isLt
  have h1 : (y 1).val < 512 := (y 1).isLt
  have h2 : (y 2).val < 1408 := (y 2).isLt
  rw [e]
  refine (out_at m c t (flush_last t hf) (y 0) (y 1) (y 2)).trans ?_
  refine whole_congr _ _ ?_ ?_
  · blk_simp [idx t]
  · show t.val / 16 * 2816 + ((y 0).val * 1408 + (y 2).val) = _
    blk_simp [idx t]
    show _ = (t.val / 16 * 2 + (y 0).val) * 1408 + (y 2).val
    omega

end Dw

end
-- ==== Proof.Dw.Value.lean ====
/-
  The claims of the gradient of a feed-forward weight.
-/
module

public import proofs.«01_k».proof.Defs
public import proofs.«01_k».proof.Proof.Dw.Blocks
public import proofs.«01_k».proof.Proof.Gen.Dw.Frame
public import proofs.«01_k».proof.Proof.Gen.DwIdeal.Value
public import proofs.«01_k».proof.Proof.Gen.DwReferenceIdeal.Run
public import proofs.«01_k».proof.Proof.Gen.DwReferenceIdeal.Read

@[expose] public section

set_option maxRecDepth 16384

noncomputable section

namespace Dw

open Idealize.ShloMosaic Idealize.ShloMosaic.TcCoe Idealize.SL.Sem
open Cert.DwReferenceIdeal.Read

attribute [local instance] Cert.Dw.Gen.facts Cert.DwIdeal.Gen.facts Cert.DwReferenceIdeal.Gen.facts

theorem frame_kernel : Cert.quiescent_Dw := fun m ρ _ => Cert.Dw.Gen.frame m ρ

theorem frame_kernelIdeal : Cert.quiescent_DwIdeal := fun m ρ _ => Cert.DwIdeal.Gen.frame m ρ

theorem frame_reference : Cert.quiescent_DwReferenceIdeal := fun m ρ _ =>
  (θ_run Cert.DwReferenceIdeal.defs _ _).mono (fun r h => ⟨fun c => (h c).2, sem_eq_zero_of_no_sems rfl r.2⟩) (Cert.DwReferenceIdeal.Value.run (F := Ideal) m ρ)

/-- The reference's gradient, at an entry. -/
theorem ref_at (n : FVec Ideal Cert.DwIdeal.S8192x2048 .bf16) (d : FVec Ideal Cert.DwIdeal.S8192x5632 .bf16) (s : Fin 4) (r : Fin 2048) (f : Fin 1408) :
    val_main_v8 (F := Ideal) n d (ix3 s r f) = ∑ k : Fin 8192, d (ix2 k ⟨s.val * 1408 + f.val, by omega⟩) * n (ix2 k r) := by
  refine (val_main_v7_apply (F := Ideal) n d _).trans ((val_main_v6_apply (F := Ideal) n d _).trans ((val_main_v5_apply (F := Ideal) n d _).trans ((val_main_v4_apply n d _).trans ?_)))
  refine Finset.sum_congr rfl fun k _ => congrArg₂ (fun a b : EReal => a * b) (congrArg d ?_) (congrArg n ?_)
  · funext q
    refine Fin.ext ?_
    match q with
    | ⟨0, _⟩ => rfl
    | ⟨1, _⟩ =>
      show ((r.val * 4 + s.val) * 1408 + f.val) % 5632 = s.val * 1408 + f.val
      omega
  · funext q
    refine Fin.ext ?_
    match q with
    | ⟨0, _⟩ => rfl
    | ⟨1, _⟩ =>
      show ((r.val * 4 + s.val) * 1408 + f.val) / 5632 = r.val
      omega

theorem ref_eq (n : FVec Ideal Cert.DwIdeal.S8192x2048 .bf16) (d : FVec Ideal Cert.DwIdeal.S8192x5632 .bf16) :
    (fun i => whole n d (i 1) ⟨(i 0).val * 1408 + (i 2).val, by
      have h0 : (i 0).val < 4 := (i 0).isLt
      have h2 : (i 2).val < 1408 := (i 2).isLt
      omega⟩ : FVec Ideal Cert.DwIdeal.S4x2048x1408 .bf16) = val_main_v8 (F := Ideal) n d := by
  funext i
  refine Eq.trans ?_ ((congrArg (val_main_v8 (F := Ideal) n d) (show i = ix3 (i 0) (i 1) (i 2) by idx_ext <;> rfl)).trans (ref_at n d (i 0) (i 1) (i 2))).symm
  unfold whole
  exact Finset.sum_congr rfl fun k _ => mul_comm _ _

theorem algebraic : Cert.algebraic_DwIdeal_DwReferenceIdeal := by
  intro m g m' g' _ agree
  refine ⟨fun c => val_main_v8 (F := Ideal) (X0 m c) (X1 m c), ?_, ?_⟩
  · refine (θ_run _ _ _).mono (fun r h c => ?_) (Cert.DwIdeal.Value.run_blocks m g)
    obtain ⟨h0, hargs⟩ := h c
    exact ⟨h0.trans ((arr m c).trans (ref_eq _ _)), hargs⟩
  · refine (θ_run _ _ _).mono (fun r h c => ?_) (Cert.DwReferenceIdeal.Value.run (F := Ideal) m' g')
    obtain ⟨a0, a1⟩ := agree c
    obtain ⟨h0, hargs⟩ := h c
    refine ⟨h0.trans ((val_main_v8_eq (F := Ideal) _ _).trans ?_), hargs⟩
    exact congrArg₂ (val_main_v8 (F := Ideal)) a0 a1

end Dw

end
-- ==== Proof.Dn.Blocks.lean ====
/-
  The gradient of the feed-forward input: what each grid point leaves, and the array after the run.
-/
module

public import proofs.«01_k».proof.Proof.Gen.DnIdeal.Frame
public import Idealize.ShloMosaic.Lib.Pointwise
public import Idealize.ShloMosaic.Lib.Pipeline.ValueKit

@[expose] public section

set_option maxRecDepth 16384

noncomputable section

namespace Dn

open Idealize.ShloMosaic Idealize.ShloMosaic.TcCoe Idealize.SL.Sem
open Cert.DnIdeal Cert.DnIdeal.Gen

section
variable (a : Vec Ideal S512x2816 .bf16) (b : Vec Ideal S1024x2816 .bf16) (a' : Vec Ideal S512x2816 .bf16) (b' : Vec Ideal S1024x2816 .bf16)
  (acc : Vec Ideal S512x1024 .f32)

/-- An entry of the product of a block with a transposed one. -/
def dot (i : Fin 512) (j : Fin 1024) : EReal := ∑ k : Fin 2816, a (ix2 i k) * b (ix2 j k)

theorem first_at (i : Fin 512) (j : Fin 1024) : k0_pay2 (F := Ideal) a b a' b' (ix2 i j) = dot a b i j + dot a' b' i j := by
  unfold dot
  pointwise [k0_pay2, k0_pay1]

theorem last_at (i : Fin 512) (j : Fin 1024) : k0_pay4 (F := Ideal) a b a' b' acc (ix2 i j) = acc (ix2 i j) + (dot a b i j + dot a' b' i j) := by
  unfold dot
  pointwise [k0_pay4, k0_pay1]
end

variable (m : (ℓ : Loc nD τ sig) → Buf (Elt Ideal) ℓ) (c : Dev nD)

def X0 : FVec Ideal S8192x5632 .bf16 := m ((c.tc : Thread nD τ).loc main_arg0)
def X1 : FVec Ideal S2048x5632 .bf16 := m ((c.tc : Thread nD τ).loc main_arg1)
def X2 : FVec Ideal S8192x5632 .bf16 := m ((c.tc : Thread nD τ).loc main_arg2)
def X3 : FVec Ideal S2048x5632 .bf16 := m ((c.tc : Thread nD τ).loc main_arg3)

/-- The sum over one half of the contracted axis, from the arrays. -/
def part (D : FVec Ideal S8192x5632 .bf16) (W : FVec Ideal S2048x5632 .bf16) (s : Fin 2) (t : Fin 8192) (r : Fin 2048) : EReal :=
  ∑ k : Fin 2816, D (ix2 t ⟨s.val * 2816 + k.val, by omega⟩) * W (ix2 r ⟨s.val * 2816 + k.val, by omega⟩)

/-- An entry of the whole product. -/
def whole (D : FVec Ideal S8192x5632 .bf16) (W : FVec Ideal S2048x5632 .bf16) (t : Fin 8192) (r : Fin 2048) : EReal :=
  ∑ f : Fin 5632, D (ix2 t f) * W (ix2 r f)

theorem parts (D : FVec Ideal S8192x5632 .bf16) (W : FVec Ideal S2048x5632 .bf16) (t : Fin 8192) (r : Fin 2048) :
    part D W ⟨0, by omega⟩ t r + part D W ⟨1, by omega⟩ t r = whole D W t r := by
  unfold whole
  rw [← Fin.sum_mul_add_fin 2 2816 (fun f : Fin 5632 => D (ix2 t f) * W (ix2 r f)), Fin.sum_univ_two]
  rfl

theorem part_congr (D : FVec Ideal S8192x5632 .bf16) (W : FVec Ideal S2048x5632 .bf16) {s s' : Fin 2} {t t' : Fin 8192} {r r' : Fin 2048}
    (hs : s.val = s'.val) (ht : t.val = t'.val) (hr : r.val = r'.val) : part D W s t r = part D W s' t' r' := by
  rw [Fin.ext hs, Fin.ext ht, Fin.ext hr]

theorem whole_congr (D : FVec Ideal S8192x5632 .bf16) (W : FVec Ideal S2048x5632 .bf16) {t t' : Fin 8192} {r r' : Fin 2048}
    (ht : t.val = t'.val) (hr : r.val = r'.val) : whole D W t r = whole D W t' r' := by
  rw [Fin.ext ht, Fin.ext hr]

theorem idx : ∀ t : Fin cfg0.N, win0_0.index t = ![t.val / 4, t.val % 2] ∧ win0_1.index t = ![t.val / 2 % 2, t.val % 2]
    ∧ win0_2.index t = ![t.val / 4, t.val % 2] ∧ win0_3.index t = ![t.val / 2 % 2, t.val % 2] ∧ win0_4.index t = ![t.val / 4, t.val / 2 % 2] :=
  (by decide +kernel : ∀ t : Fin grid0.N, _)

theorem lt64 (t : Fin cfg0.N) : t.val < 64 := lt_of_lt_of_eq t.isLt N_0

theorem gate_part (t : Fin cfg0.N) (i : Fin 512) (j : Fin 1024) : dot (iblk m c 0 t) (iblk m c 1 t) i j
      = part (X0 m c) (X1 m c) ⟨t.val % 2, by omega⟩ ⟨t.val / 4 * 512 + i.val, by have := lt64 t; omega⟩ ⟨t.val / 2 % 2 * 1024 + j.val, by omega⟩ := by
  have h64 := lt64 t
  unfold dot part X0 X1
  refine Finset.sum_congr rfl fun k _ => congrArg₂ (fun a b : EReal => a * b) ?_ ?_
  · blk_ext [iblk, V, idx t]
  · blk_ext [iblk, V, idx t]

theorem up_part (t : Fin cfg0.N) (i : Fin 512) (j : Fin 1024) : dot (iblk m c 2 t) (iblk m c 3 t) i j
      = part (X2 m c) (X3 m c) ⟨t.val % 2, by omega⟩ ⟨t.val / 4 * 512 + i.val, by have := lt64 t; omega⟩ ⟨t.val / 2 % 2 * 1024 + j.val, by omega⟩ := by
  have h64 := lt64 t
  unfold dot part X2 X3
  refine Finset.sum_congr rfl fun k _ => congrArg₂ (fun a b : EReal => a * b) ?_ ?_
  · blk_ext [iblk, V, idx t]
  · blk_ext [iblk, V, idx t]

/-- What one point adds. -/
def both (t : Fin cfg0.N) (i : Fin 512) (j : Fin 1024) : EReal := dot (iblk m c 0 t) (iblk m c 1 t) i j + dot (iblk m c 2 t) (iblk m c 3 t) i j

/-- The accumulator after the first of two points. -/
theorem sc_first (t : Fin cfg0.N) (h : t.val % 2 = 0) (i : Fin 512) (j : Fin 1024) : (outsAt0 m c t.val t.isLt).2 (ix2 i j) = both m c t i j := by
  rw [outsAt0_A m c t h (by omega)]
  frame_out
  exact first_at _ _ _ _ i j

theorem out_last (t : Fin cfg0.N) (h : t.val % 2 = 1) (i : Fin 512) (j : Fin 1024) : (outsAt0 m c t.val t.isLt).1 (ix2 i j)
      = (outsAt0 m c (t.val - 1) (Nat.lt_of_le_of_lt (Nat.sub_le _ _) t.isLt)).2 (ix2 i j) + both m c t i j := by
  rw [outsAt0_B m c t (by omega) h]
  frame_out
  exact (last_at _ _ _ _ _ i j).trans (congrArg (fun e : EReal => e + both m c t i j) (congrFun (Memref.IsWhole.read_unread _ _) _))

theorem flush_last : ∀ t : Fin cfg0.N, (cfg0.win 4).flush t = true → t.val % 2 = 1 := (by decide +kernel : ∀ t : Fin grid0.N, _)

/-- Two points leave the whole sums in the output's block. -/
theorem out_at (t : Fin cfg0.N) (h : t.val % 2 = 1) (i : Fin 512) (j : Fin 1024) : (outsAt0 m c t.val t.isLt).1 (ix2 i j)
      = whole (X0 m c) (X1 m c) ⟨t.val / 4 * 512 + i.val, by have := lt64 t; omega⟩ ⟨t.val / 2 % 2 * 1024 + j.val, by omega⟩
        + whole (X2 m c) (X3 m c) ⟨t.val / 4 * 512 + i.val, by have := lt64 t; omega⟩ ⟨t.val / 2 % 2 * 1024 + j.val, by omega⟩ := by
  have h64 := lt64 t
  obtain ⟨n, hn⟩ := t
  obtain ⟨n, rfl⟩ : ∃ q, n = q + 1 := ⟨n - 1, by dsimp only at h; omega⟩
  dsimp only at h h64
  have h0 : n % 2 = 0 := by omega
  refine (out_last m c ⟨n + 1, hn⟩ h i j).trans ((congrArg (fun e : EReal => e + both m c ⟨n + 1, hn⟩ i j) (sc_first m c ⟨n, by omega⟩ h0 i j)).trans ?_)
  unfold both
  rw [gate_part, gate_part, up_part, up_part, add_add_add_comm, ← parts, ← parts]
  refine congrArg₂ (· + ·) (congrArg₂ (· + ·) ?_ ?_) (congrArg₂ (· + ·) ?_ ?_)
  all_goals
    refine part_congr _ _ ?_ ?_ ?_ <;> dsimp only <;> omega

theorem arr : (dats m 0 c).arrAt 4 cfg0.N = fun i => whole (X0 m c) (X1 m c) (i 0) (i 1) + whole (X2 m c) (X3 m c) (i 0) (i 1) := by
  refine (dats m 0 c).arrAt_eq_of_covers 4 (fun i => whole (X0 m c) (X1 m c) (i 0) (i 1) + whole (X2 m c) (X3 m c) (i 0) (i 1) : FVec Ideal S8192x2048 .bf16)
    (by decide +kernel) fun t hf y => ?_
  blk_simp
  rw [after0_4]
  have e : y = ix2 (y 0) (y 1) := by idx_ext <;> rfl
  have h0 : (y 0).val < 512 := (y 0).isLt
  have h1 : (y 1).val < 1024 := (y 1).isLt
  rw [e]
  refine (out_at m c t (flush_last t hf) (y 0) (y 1)).trans ?_
  refine congrArg₂ (· + ·) (whole_congr _ _ ?_ ?_) (whole_congr _ _ ?_ ?_)
  all_goals blk_simp [idx t]

end Dn

end
-- ==== Proof.Dn.Value.lean ====
/-
  The claims of the gradient of the feed-forward input.
-/
module

public import proofs.«01_k».proof.Defs
public import proofs.«01_k».proof.Proof.Dn.Blocks
public import proofs.«01_k».proof.Proof.Gen.Dn.Frame
public import proofs.«01_k».proof.Proof.Gen.DnIdeal.Value
public import proofs.«01_k».proof.Proof.Gen.DnReferenceIdeal.Run
public import proofs.«01_k».proof.Proof.Gen.DnReferenceIdeal.Read

@[expose] public section

set_option maxRecDepth 16384

noncomputable section

namespace Dn

open Idealize.ShloMosaic Idealize.ShloMosaic.TcCoe Idealize.SL.Sem
open Cert.DnReferenceIdeal.Read

attribute [local instance] Cert.Dn.Gen.facts Cert.DnIdeal.Gen.facts Cert.DnReferenceIdeal.Gen.facts

theorem frame_kernel : Cert.quiescent_Dn := fun m ρ _ => Cert.Dn.Gen.frame m ρ

theorem frame_kernelIdeal : Cert.quiescent_DnIdeal := fun m ρ _ => Cert.DnIdeal.Gen.frame m ρ

theorem frame_reference : Cert.quiescent_DnReferenceIdeal := fun m ρ _ =>
  (θ_run Cert.DnReferenceIdeal.defs _ _).mono (fun r h => ⟨fun c => (h c).2, sem_eq_zero_of_no_sems rfl r.2⟩) (Cert.DnReferenceIdeal.Value.run (F := Ideal) m ρ)

section
variable (dg : FVec Ideal Cert.DnIdeal.S8192x5632 .bf16) (wg : FVec Ideal Cert.DnIdeal.S2048x5632 .bf16) (du : FVec Ideal Cert.DnIdeal.S8192x5632 .bf16)
  (wu : FVec Ideal Cert.DnIdeal.S2048x5632 .bf16)

theorem ref_up (i : Cert.DnIdeal.S8192x2048.Idx) : val_main_v7 (F := Ideal) du wu i = whole du wu (i 0) (i 1) := by
  refine (val_main_v7_apply du wu i).trans ?_
  unfold whole
  refine Finset.sum_congr rfl fun k _ => congrArg₂ (fun a b : EReal => a * b) (congrArg du ?_) (congrArg wu ?_)
  all_goals
    funext q
    match q with
    | ⟨0, _⟩ => rfl
    | ⟨1, _⟩ => rfl

theorem ref_gate (i : Cert.DnIdeal.S8192x2048.Idx) : val_main_v8 (F := Ideal) dg wg i = whole dg wg (i 0) (i 1) := by
  refine (val_main_v8_apply dg wg i).trans ?_
  unfold whole
  refine Finset.sum_congr rfl fun k _ => congrArg₂ (fun a b : EReal => a * b) (congrArg dg ?_) (congrArg wg ?_)
  all_goals
    funext q
    match q with
    | ⟨0, _⟩ => rfl
    | ⟨1, _⟩ => rfl

theorem ref_eq : (fun i => whole dg wg (i 0) (i 1) + whole du wu (i 0) (i 1) : FVec Ideal Cert.DnIdeal.S8192x2048 .bf16) = val_main_v10 (F := Ideal) dg wg du wu := by
  funext i
  refine (add_comm _ _).trans (congrArg₂ (fun a b : EReal => a + b) (ref_up du wu i) (ref_gate dg wg i)).symm

variable (dg' : FVec Ideal Cert.DnIdeal.S8192x5632 .bf16) (wg' : FVec Ideal Cert.DnIdeal.S2048x5632 .bf16) (du' : FVec Ideal Cert.DnIdeal.S8192x5632 .bf16)
  (wu' : FVec Ideal Cert.DnIdeal.S2048x5632 .bf16)

theorem v10_congr (h0 : dg' = dg) (h1 : wg' = wg) (h2 : du' = du) (h3 : wu' = wu) :
    val_main_v10 (F := Ideal) dg' wg' du' wu' = val_main_v10 (F := Ideal) dg wg du wu := by rw [h0, h1, h2, h3]
end

theorem algebraic : Cert.algebraic_DnIdeal_DnReferenceIdeal := by
  intro m g m' g' _ agree
  refine ⟨fun c => val_main_v10 (F := Ideal) (X0 m c) (X1 m c) (X2 m c) (X3 m c), ?_, ?_⟩
  · refine (θ_run _ _ _).mono (fun r h c => ?_) (Cert.DnIdeal.Value.run_blocks m g)
    obtain ⟨h0, hargs⟩ := h c
    exact ⟨h0.trans ((arr m c).trans (ref_eq _ _ _ _)), hargs⟩
  · refine (θ_run _ _ _).mono (fun r h c => ?_) (Cert.DnReferenceIdeal.Value.run (F := Ideal) m' g')
    obtain ⟨a0, a1, a2, a3⟩ := agree c
    obtain ⟨h0, hargs⟩ := h c
    refine ⟨h0.trans ((val_main_v10_eq (F := Ideal) _ _ _ _).trans ?_), hargs⟩
    exact v10_congr _ _ _ _ _ _ _ _ a0 a1 a2 a3

end Dn

end
-- ==== Proof.Xattn.Run.lean ====
/-
  The cross-attention program's run: what it leaves in its two results, and its arguments unchanged.
-/
module

public import proofs.«01_k».proof.Proof.Gen.XattnIdeal.Frame

@[expose] public section

set_option maxRecDepth 16384

noncomputable section

namespace Xattn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.XattnIdeal Cert.XattnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends at the last boundary's contents. -/
theorem last : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The probabilities after the first call, and the two gradients after the second. -/
def prOf (c : Dev nD) : Vec F S1024x8192 .f32 := (dat0 (V0 m ρ) c).arrAt 3 cfg0.N
def dqOf (c : Dev nD) : Vec F S8192x2048 .bf16 := (dat1 (V1 m ρ) c).arrAt 4 cfg1.N
def dkvOf (c : Dev nD) : Vec F S256x4096 .f32 := (dat1 (V1 m ρ) c).arrAt 5 cfg1.N

theorem V1_pr (c : Dev nD) : V1 m ρ c main_v0_1 = prOf m ρ c := W1_arr m ρ c 3
theorem V1_q (c : Dev nD) : V1 m ρ c main_arg0 = m ((c : Thread nD τ).loc main_arg0) := W1_args m ρ c main_arg0 (by decide)
theorem V1_kv (c : Dev nD) : V1 m ρ c main_arg1 = m ((c : Thread nD τ).loc main_arg1) := W1_args m ρ c main_arg1 (by decide)
theorem V1_do (c : Dev nD) : V1 m ρ c main_arg2 = m ((c : Thread nD τ).loc main_arg2) := W1_args m ρ c main_arg2 (by decide)

/-- The results, and the arguments. -/
theorem run : θ_run defs (onTc (τ := τ) (main (F := F))) ⟨m, fun _ => 0, ρ⟩ (fun r => ∀ c : Dev nD,
      r.2.mem ((c.tc : Thread nD τ).loc main_v1_0) = dqOf m ρ c
      ∧ r.2.mem ((c.tc : Thread nD τ).loc main_v1_1) = dkvOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1_0 (by decide))).trans (W2_arr m ρ c 4),
     (h c _ (mem_uc main_v1_1 (by decide))).trans (W2_arr m ρ c 5),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (last m ρ)

end Xattn.Run

end
-- ==== Proof.Xattn.Body.lean ====
/-
  The cross-attention program's payloads, entry by entry: one head of one block of queries.
-/
module

public import proofs.«01_k».proof.Proof.Gen.XattnIdeal.Skeleton
public import Idealize.ShloMosaic.Lib.Pointwise

@[expose] public section

set_option maxRecDepth 16384

noncomputable section

namespace Xattn

open Idealize.ShloMosaic Idealize.ShloMosaic.TcCoe Idealize.SL.Sem
open Cert.XattnIdeal Cert.XattnIdeal.Gen

/-- One over the square root of the head's width. -/
def scale : EReal := Ideal.ofBits .f32 0x3D3504F3#32

/-- The maximum of a row of scores. -/
def top (s : Fin 256 → EReal) : EReal := (Finset.univ : Finset (Fin 256)).fold max (Ideal.ofBits .f32 0xFF800000#32) s

/-- The softmax of a row of scores. -/
def prob (s : Fin 256 → EReal) (j : Fin 256) : EReal :=
  Ideal.div (Ideal.exp (s j - top s)) (∑ j : Fin 256, Ideal.exp (s j - top s))

/-- The gradient of a row of scores from the probabilities and their gradient. -/
def slope (p d : Fin 256 → EReal) (j : Fin 256) : EReal := p j * (d j - ∑ j : Fin 256, p j * d j) * scale

section
variable (K : Vec Ideal S256x512 .f32) (Q : Vec Ideal S512x512 .bf16)

/-- A row of the first block against a row of the second. -/
def dot (j : Fin 256) (t : Fin 512) : EReal := ∑ d : Fin 512, K (ix2 j d) * Q (ix2 t d)

/-- The probabilities of one head. -/
def probs (t : Fin 512) (j : Fin 256) : EReal := prob (fun j => dot K Q j t * scale) j

theorem p0_at (j : Fin 256) (t : Fin 512) : k0_pay3 (F := Ideal) K Q (ix2 j t) = probs K Q t j := by
  unfold probs prob top scale dot
  pointwise [k0_pay3]

theorem p1_at (j : Fin 256) (t : Fin 512) : k0_pay8 (F := Ideal) (k0_pay6 (F := Ideal) K Q) (k0_pay7 (F := Ideal) K Q) (ix2 j t) = probs K Q t j := by
  unfold probs prob top scale dot
  pointwise [k0_pay8, k0_pay7, k0_pay6]

theorem p2_at (j : Fin 256) (t : Fin 512) : k0_pay10 (F := Ideal) K Q (ix2 j t) = probs K Q t j := by
  unfold probs prob top scale dot
  pointwise [k0_pay10]

theorem p3_at (j : Fin 256) (t : Fin 512) : k0_pay1 (F := Ideal) K Q (ix2 j t) = probs K Q t j := by
  unfold probs prob top scale dot
  pointwise [k0_pay1]
end

section
variable (K V P : Vec Ideal S256x512 .f32) (Q D : Vec Ideal S512x512 .bf16) (acc : Vec Ideal S256x512 .f32)

/-- The gradient of one head's scores. -/
def slopes (t : Fin 512) (j : Fin 256) : EReal := slope (fun j => P (ix2 j t)) (fun j => dot V D j t) j

theorem s0_at (j : Fin 256) (t : Fin 512) : k1_pay5 (F := Ideal) V D P (ix2 j t) = slopes V P D t j := by
  unfold slopes slope scale dot
  pointwise [k1_pay5, k1_pay3]

theorem s1_at (j : Fin 256) (t : Fin 512) : k1_pay10 (F := Ideal) V D P (ix2 j t) = slopes V P D t j := by
  unfold slopes slope scale dot
  pointwise [k1_pay10, k1_pay8]

theorem s2_at (j : Fin 256) (t : Fin 512) : k1_pay15 (F := Ideal) V D P (ix2 j t) = slopes V P D t j := by
  unfold slopes slope scale dot
  pointwise [k1_pay15, k1_pay13]

theorem s3_at (j : Fin 256) (t : Fin 512) : k1_pay20 (F := Ideal) V D P (ix2 j t) = slopes V P D t j := by
  unfold slopes slope scale dot
  pointwise [k1_pay20, k1_pay18]

/-- The queries' gradient. -/
def dqb (t : Fin 512) (d : Fin 512) : EReal := ∑ j : Fin 256, slopes V P D t j * K (ix2 j d)

theorem q0_at (t d : Fin 512) : k1_pay6 (F := Ideal) K V D P (ix2 t d) = dqb K V P D t d := by
  unfold dqb
  simp only [← s0_at]
  unfold k1_pay6
  generalize k1_pay5 (F := Ideal) V D P = S
  pointwise

theorem q1_at (t d : Fin 512) : k1_pay11 (F := Ideal) K V D P (ix2 t d) = dqb K V P D t d := by
  unfold dqb
  simp only [← s1_at]
  unfold k1_pay11
  generalize k1_pay10 (F := Ideal) V D P = S
  pointwise

theorem q2_at (t d : Fin 512) : k1_pay16 (F := Ideal) K V D P (ix2 t d) = dqb K V P D t d := by
  unfold dqb
  simp only [← s2_at]
  unfold k1_pay16
  generalize k1_pay15 (F := Ideal) V D P = S
  pointwise

theorem q3_at (t d : Fin 512) : k1_pay21 (F := Ideal) K V D P (ix2 t d) = dqb K V P D t d := by
  unfold dqb
  simp only [← s3_at]
  unfold k1_pay21
  generalize k1_pay20 (F := Ideal) V D P = S
  pointwise

/-- The values' gradient from one block of queries. -/
def dvb (j : Fin 256) (d : Fin 512) : EReal := ∑ t : Fin 512, P (ix2 j t) * D (ix2 t d)

/-- The keys' gradient from one block of queries. -/
def dkb (j : Fin 256) (d : Fin 512) : EReal := ∑ t : Fin 512, slopes V P D t j * Q (ix2 t d)

theorem v0_at (j : Fin 256) (d : Fin 512) : k1_pay4 (F := Ideal) D P acc (ix2 j d) = acc (ix2 j d) + dvb P D j d := by
  unfold dvb
  pointwise [k1_pay4, k1_pay3]

theorem v1_at (j : Fin 256) (d : Fin 512) : k1_pay9 (F := Ideal) D P acc (ix2 j d) = acc (ix2 j d) + dvb P D j d := by
  unfold dvb
  pointwise [k1_pay9, k1_pay8]

theorem v2_at (j : Fin 256) (d : Fin 512) : k1_pay14 (F := Ideal) D P acc (ix2 j d) = acc (ix2 j d) + dvb P D j d := by
  unfold dvb
  pointwise [k1_pay14, k1_pay13]

theorem v3_at (j : Fin 256) (d : Fin 512) : k1_pay19 (F := Ideal) D P acc (ix2 j d) = acc (ix2 j d) + dvb P D j d := by
  unfold dvb
  pointwise [k1_pay19, k1_pay18]

theorem k0_at (j : Fin 256) (d : Fin 512) : k1_pay7 (F := Ideal) Q (k1_pay5 (F := Ideal) V D P) acc (ix2 j d) = acc (ix2 j d) + dkb V P Q D j d := by
  unfold dkb
  simp only [← s0_at]
  generalize k1_pay5 (F := Ideal) V D P = S
  pointwise [k1_pay7]

theorem k1_at (j : Fin 256) (d : Fin 512) : k1_pay12 (F := Ideal) Q (k1_pay10 (F := Ideal) V D P) acc (ix2 j d) = acc (ix2 j d) + dkb V P Q D j d := by
  unfold dkb
  simp only [← s1_at]
  generalize k1_pay10 (F := Ideal) V D P = S
  pointwise [k1_pay12]

theorem k2_at (j : Fin 256) (d : Fin 512) : k1_pay17 (F := Ideal) Q (k1_pay15 (F := Ideal) V D P) acc (ix2 j d) = acc (ix2 j d) + dkb V P Q D j d := by
  unfold dkb
  simp only [← s2_at]
  generalize k1_pay15 (F := Ideal) V D P = S
  pointwise [k1_pay17]

theorem k3_at (j : Fin 256) (d : Fin 512) : k1_pay1 (F := Ideal) Q (k1_pay20 (F := Ideal) V D P) acc (ix2 j d) = acc (ix2 j d) + dkb V P Q D j d := by
  unfold dkb
  simp only [← s3_at]
  generalize k1_pay20 (F := Ideal) V D P = S
  pointwise [k1_pay1]

theorem zero_at (j : Fin 256) (x : Fin 4096) : k1_pay2 (F := Ideal) (ix2 j x) = 0 := by
  pointwise [k1_pay2]
end

end Xattn

end
-- ==== Proof.Xattn.Prob.lean ====
/-
  The probabilities the first call leaves.
-/
module

public import proofs.«01_k».proof.Proof.Xattn.Run
public import proofs.«01_k».proof.Proof.Xattn.Body
public import Idealize.ShloMosaic.Lib.Pipeline.ValueKit

@[expose] public section

set_option maxRecDepth 16384

noncomputable section

namespace Xattn

open Idealize.ShloMosaic Idealize.ShloMosaic.TcCoe Idealize.SL.Sem
open Cert.XattnIdeal Cert.XattnIdeal.Gen Xattn.Run

section
variable (q : FVec Ideal S8192x2048 .bf16) (kv : FVec Ideal S256x4096 .f32)

/-- A score. -/
def score (h : Fin 4) (t : Fin 8192) (j : Fin 256) : EReal :=
  (∑ d : Fin 512, kv (ix2 j ⟨h.val * 512 + d.val, by omega⟩) * q (ix2 t ⟨h.val * 512 + d.val, by omega⟩)) * scale

/-- A probability. -/
def pr (h : Fin 4) (t : Fin 8192) (j : Fin 256) : EReal := prob (score q kv h t) j

theorem pr_congr {h h' : Fin 4} {t t' : Fin 8192} {j j' : Fin 256} (eh : h.val = h'.val) (et : t.val = t'.val) (ej : j.val = j'.val) :
    pr q kv h t j = pr q kv h' t' j' := by
  rw [Fin.ext eh, Fin.ext et, Fin.ext ej]

theorem probs_eq (h : Fin 4) (K : Vec Ideal S256x512 .f32) (Q : Vec Ideal S512x512 .bf16) (t : Fin 512) (T : Fin 8192)
    (hK : ∀ (j : Fin 256) (d : Fin 512), K (ix2 j d) = kv (ix2 j ⟨h.val * 512 + d.val, by omega⟩))
    (hQ : ∀ d : Fin 512, Q (ix2 t d) = q (ix2 T ⟨h.val * 512 + d.val, by omega⟩)) (j : Fin 256) : probs K Q t j = pr q kv h T j := by
  unfold probs pr
  refine congrArg (fun s => prob s j) (funext fun j => ?_)
  unfold dot score
  exact congrArg (fun x : EReal => x * scale) (Finset.sum_congr rfl fun d _ => by rw [hK, hQ])
end

variable (m : (ℓ : Loc nD τ sig) → Buf (Elt Ideal) ℓ) (ρ : Dev nD → PrngReg) (c : Dev nD)

def X0 : FVec Ideal S8192x2048 .bf16 := m ((c.tc : Thread nD τ).loc main_arg0)
def X1 : FVec Ideal S256x4096 .f32 := m ((c.tc : Thread nD τ).loc main_arg1)
def X2 : FVec Ideal S8192x2048 .bf16 := m ((c.tc : Thread nD τ).loc main_arg2)

theorem idx0 : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

theorem lt0 (t : Fin cfg0.N) : t.val < 16 := lt_of_lt_of_eq t.isLt N_0

theorem key0 (t : Fin cfg0.N) (j : Fin 256) (d : Fin 512) : View.ld (Val := Elt Ideal) (iblk0 (V0 m ρ) c 1 t) r0_0 (ix2 j d) = X1 m c (ix2 j ⟨0 * 512 + d.val, by omega⟩) := by
  refine congrArg (X1 m c) ?_
  unfold r0_0
  blk_ext [idx0 t]
  all_goals first | rfl | ((try simp only [Rect.idx_unit_val]); simp)

theorem key1 (t : Fin cfg0.N) (j : Fin 256) (d : Fin 512) : View.ld (Val := Elt Ideal) (iblk0 (V0 m ρ) c 1 t) r0_4 (ix2 j d) = X1 m c (ix2 j ⟨1 * 512 + d.val, by omega⟩) := by
  refine congrArg (X1 m c) ?_
  unfold r0_4
  blk_ext [idx0 t]
  all_goals first | rfl | ((try simp only [Rect.idx_unit_val]); simp)

theorem key2 (t : Fin cfg0.N) (j : Fin 256) (d : Fin 512) : View.ld (Val := Elt Ideal) (iblk0 (V0 m ρ) c 1 t) r0_8 (ix2 j d) = X1 m c (ix2 j ⟨2 * 512 + d.val, by omega⟩) := by
  refine congrArg (X1 m c) ?_
  unfold r0_8
  blk_ext [idx0 t]
  all_goals first | rfl | ((try simp only [Rect.idx_unit_val]); simp)

theorem key3 (t : Fin cfg0.N) (j : Fin 256) (d : Fin 512) : View.ld (Val := Elt Ideal) (iblk0 (V0 m ρ) c 1 t) r0_12 (ix2 j d) = X1 m c (ix2 j ⟨3 * 512 + d.val, by omega⟩) := by
  refine congrArg (X1 m c) ?_
  unfold r0_12
  blk_ext [idx0 t]
  all_goals first | rfl | ((try simp only [Rect.idx_unit_val]); simp)

theorem query0 (t : Fin cfg0.N) (s : Fin 512) (d : Fin 512) : View.ld (Val := Elt Ideal) (iblk0 (V0 m ρ) c 0 t) r0_2 (ix2 s d)
    = X0 m c (ix2 ⟨t.val * 512 + s.val, by have := lt0 t; omega⟩ ⟨0 * 512 + d.val, by omega⟩) := by
  have ht := lt0 t
  refine congrArg (X0 m c) ?_
  unfold r0_2
  blk_ext [idx0 t]
  all_goals first | rfl | ((try simp only [Rect.idx_unit_val]); simp)

theorem query1 (t : Fin cfg0.N) (s : Fin 512) (d : Fin 512) : View.ld (Val := Elt Ideal) (iblk0 (V0 m ρ) c 0 t) r0_6 (ix2 s d)
    = X0 m c (ix2 ⟨t.val * 512 + s.val, by have := lt0 t; omega⟩ ⟨1 * 512 + d.val, by omega⟩) := by
  have ht := lt0 t
  refine congrArg (X0 m c) ?_
  unfold r0_6
  blk_ext [idx0 t]
  all_goals first | rfl | ((try simp only [Rect.idx_unit_val]); simp)

theorem query2 (t : Fin cfg0.N) (s : Fin 512) (d : Fin 512) : View.ld (Val := Elt Ideal) (iblk0 (V0 m ρ) c 0 t) r0_10 (ix2 s d)
    = X0 m c (ix2 ⟨t.val * 512 + s.val, by have := lt0 t; omega⟩ ⟨2 * 512 + d.val, by omega⟩) := by
  have ht := lt0 t
  refine congrArg (X0 m c) ?_
  unfold r0_10
  blk_ext [idx0 t]
  all_goals first | rfl | ((try simp only [Rect.idx_unit_val]); simp)

theorem query3 (t : Fin cfg0.N) (s : Fin 512) (d : Fin 512) : View.ld (Val := Elt Ideal) (iblk0 (V0 m ρ) c 0 t) r0_14 (ix2 s d)
    = X0 m c (ix2 ⟨t.val * 512 + s.val, by have := lt0 t; omega⟩ ⟨3 * 512 + d.val, by omega⟩) := by
  have ht := lt0 t
  refine congrArg (X0 m c) ?_
  unfold r0_14
  blk_ext [idx0 t]
  all_goals first | rfl | ((try simp only [Rect.idx_unit_val]); simp)

/-- One point's block of probabilities. -/
theorem block (t : Fin cfg0.N) (g : Fin 1024) (s : Fin 512) : out0_3 (F := Ideal) (iblk0 (V0 m ρ) c 0 t) (iblk0 (V0 m ρ) c 1 t) (ix2 g s)
    = pr (X0 m c) (X1 m c) ⟨g.val / 256, by omega⟩ ⟨t.val * 512 + s.val, by have := lt0 t; omega⟩ ⟨g.val % 256, by omega⟩ := by
  have ht := lt0 t
  unfold out0_3 k0_pay12 k0_pay13
  canon_tiles x h
  all_goals
    have e0 : (s : ℕ) = (x 1 : ℕ) := h1
    have b0 : (x 0 : ℕ) < 256 := x0_lt
    have hx : x = ix2 (n0 := 256) (n1 := 512) (x 0) s := by
      funext r
      refine Fin.ext ?_
      match r with
      | 0 => rfl
      | 1 => exact e0.symm
    rw [hx]
  case piece0 =>
    have e1 : (g : ℕ) = 768 + (x 0 : ℕ) := h0
    refine (p3_at _ _ (x 0) s).trans ((probs_eq (X0 m c) (X1 m c) 3 _ _ s _ (key3 m ρ c t) (query3 m ρ c t s) (x 0)).trans ?_)
    refine pr_congr _ _ ?_ rfl ?_ <;> dsimp only <;> omega
  case piece1 =>
    have e1 : (g : ℕ) = 512 + (x 0 : ℕ) := h0
    refine (p2_at _ _ (x 0) s).trans ((probs_eq (X0 m c) (X1 m c) 2 _ _ s _ (key2 m ρ c t) (query2 m ρ c t s) (x 0)).trans ?_)
    refine pr_congr _ _ ?_ rfl ?_ <;> dsimp only <;> omega
  case piece2 =>
    have e1 : (g : ℕ) = 256 + (x 0 : ℕ) := h0
    refine (p1_at _ _ (x 0) s).trans ((probs_eq (X0 m c) (X1 m c) 1 _ _ s _ (key1 m ρ c t) (query1 m ρ c t s) (x 0)).trans ?_)
    refine pr_congr _ _ ?_ rfl ?_ <;> dsimp only <;> omega
  case piece3 =>
    have e1 : (g : ℕ) = (x 0 : ℕ) := h0
    refine (p0_at _ _ (x 0) s).trans ((probs_eq (X0 m c) (X1 m c) 0 _ _ s _ (key0 m ρ c t) (query0 m ρ c t s) (x 0)).trans ?_)
    refine pr_congr _ _ ?_ rfl ?_ <;> dsimp only <;> omega

theorem pr_arr : prOf m ρ c = fun i => pr (X0 m c) (X1 m c) ⟨(i 0).val / 256, by have h0 : (i 0).val < 1024 := (i 0).isLt; omega⟩ (i 1) ⟨(i 0).val % 256, by omega⟩ := by
  refine (dat0 (V0 m ρ) c).arrAt_eq_of_covers 3 (fun i => pr (X0 m c) (X1 m c) ⟨(i 0).val / 256, by have h0 : (i 0).val < 1024 := (i 0).isLt; omega⟩ (i 1) ⟨(i 0).val % 256, by omega⟩ : FVec Ideal S1024x8192 .f32)
    (by decide +kernel) fun t hf y => ?_
  blk_simp
  rw [after0_3]
  have e : y = ix2 (y 0) (y 1) := by idx_ext <;> rfl
  rw [e]
  refine (block m ρ c t (y 0) (y 1)).trans ?_
  refine pr_congr _ _ ?_ ?_ ?_
  all_goals blk_simp [idx0 t]

end Xattn

end
-- ==== Proof.Xattn.Blocks.lean ====
/-
  What one point of the second call leaves: the queries' gradient, and its share of the keys' and values' gradients.
-/
module

public import proofs.«01_k».proof.Proof.Xattn.Prob
public import Idealize.ShloMosaic.Lib.Pipeline.ReadBack

@[expose] public section

set_option maxRecDepth 16384

noncomputable section

namespace Xattn

open Idealize.ShloMosaic Idealize.ShloMosaic.TcCoe Idealize.SL.Sem
open Cert.XattnIdeal Cert.XattnIdeal.Gen Xattn.Run

section
variable (q : FVec Ideal S8192x2048 .bf16) (kv : FVec Ideal S256x4096 .f32) (e : FVec Ideal S8192x2048 .bf16)

/-- The gradient of a probability. -/
def dp (h : Fin 4) (t : Fin 8192) (j : Fin 256) : EReal :=
  ∑ d : Fin 512, kv (ix2 j ⟨2048 + (h.val * 512 + d.val), by omega⟩) * e (ix2 t ⟨h.val * 512 + d.val, by omega⟩)

/-- The gradient of a score. -/
def ds (h : Fin 4) (t : Fin 8192) (j : Fin 256) : EReal := slope (pr q kv h t) (dp kv e h t) j

theorem ds_congr {h h' : Fin 4} {t t' : Fin 8192} {j j' : Fin 256} (eh : h.val = h'.val) (et : t.val = t'.val) (ej : j.val = j'.val) :
    ds q kv e h t j = ds q kv e h' t' j' := by
  rw [Fin.ext eh, Fin.ext et, Fin.ext ej]

/-- One entry of the queries' gradient. -/
def gq (t : Fin 8192) (x : Fin 2048) : EReal := ∑ j : Fin 256, ds q kv e ⟨x.val / 512, by omega⟩ t j * kv (ix2 j ⟨x.val, by omega⟩)

/-- One row's share of an entry of the keys' and values' gradients. -/
def share (j : Fin 256) (x : Fin 4096) (t : Fin 8192) : EReal :=
  if hx : x.val < 2048 then ds q kv e ⟨x.val / 512, by omega⟩ t j * q (ix2 t ⟨x.val, hx⟩)
  else pr q kv ⟨(x.val - 2048) / 512, by omega⟩ t j * e (ix2 t ⟨x.val - 2048, by omega⟩)

theorem slopes_eq (h : Fin 4) (V P : Vec Ideal S256x512 .f32) (D : Vec Ideal S512x512 .bf16) (s : Fin 512) (T : Fin 8192)
    (hV : ∀ (j : Fin 256) (d : Fin 512), V (ix2 j d) = kv (ix2 j ⟨2048 + (h.val * 512 + d.val), by omega⟩))
    (hP : ∀ j : Fin 256, P (ix2 j s) = pr q kv h T j)
    (hD : ∀ d : Fin 512, D (ix2 s d) = e (ix2 T ⟨h.val * 512 + d.val, by omega⟩)) (j : Fin 256) : slopes V P D s j = ds q kv e h T j := by
  unfold slopes ds
  have a : (fun j => P (ix2 j s)) = pr q kv h T := funext hP
  have b : (fun j => dot V D j s) = dp kv e h T := by
    funext j
    unfold dot dp
    exact Finset.sum_congr rfl fun d _ => by rw [hV, hD]
  rw [a, b]

theorem dqb_eq (h : Fin 4) (K V P : Vec Ideal S256x512 .f32) (D : Vec Ideal S512x512 .bf16) (s : Fin 512) (T : Fin 8192) (d : Fin 512) (x : Fin 2048)
    (hx : x.val = h.val * 512 + d.val)
    (hK : ∀ (j : Fin 256) (d : Fin 512), K (ix2 j d) = kv (ix2 j ⟨h.val * 512 + d.val, by omega⟩))
    (hV : ∀ (j : Fin 256) (d : Fin 512), V (ix2 j d) = kv (ix2 j ⟨2048 + (h.val * 512 + d.val), by omega⟩))
    (hP : ∀ j : Fin 256, P (ix2 j s) = pr q kv h T j)
    (hD : ∀ d : Fin 512, D (ix2 s d) = e (ix2 T ⟨h.val * 512 + d.val, by omega⟩)) : dqb K V P D s d = gq q kv e T x := by
  unfold dqb gq
  refine Finset.sum_congr rfl fun j _ => ?_
  rw [slopes_eq q kv e h V P D s T hV hP hD j, hK]
  refine congrArg₂ (fun a b : EReal => a * b) (ds_congr q kv e ?_ rfl rfl) (congrArg (fun y => kv (ix2 j y)) (Fin.ext ?_))
  · show h.val = x.val / 512
    omega
  · exact hx.symm

theorem dkb_eq (h : Fin 4) (V P : Vec Ideal S256x512 .f32) (Q D : Vec Ideal S512x512 .bf16) (T : Fin 512 → Fin 8192) (j : Fin 256) (d : Fin 512) (x : Fin 4096)
    (hx : x.val = h.val * 512 + d.val)
    (hV : ∀ (j : Fin 256) (d : Fin 512), V (ix2 j d) = kv (ix2 j ⟨2048 + (h.val * 512 + d.val), by omega⟩))
    (hP : ∀ (s : Fin 512) (j : Fin 256), P (ix2 j s) = pr q kv h (T s) j)
    (hD : ∀ s d : Fin 512, D (ix2 s d) = e (ix2 (T s) ⟨h.val * 512 + d.val, by omega⟩))
    (hQ : ∀ s d : Fin 512, Q (ix2 s d) = q (ix2 (T s) ⟨h.val * 512 + d.val, by omega⟩)) :
    dkb V P Q D j d = ∑ s : Fin 512, share q kv e j x (T s) := by
  unfold dkb
  refine Finset.sum_congr rfl fun s _ => ?_
  have hl : x.val < 2048 := by omega
  rw [slopes_eq q kv e h V P D s (T s) hV (hP s) (hD s) j, hQ]
  unfold share
  rw [dif_pos hl]
  refine congrArg₂ (fun a b : EReal => a * b) (ds_congr q kv e ?_ rfl rfl) (congrArg (fun y => q (ix2 (T s) y)) (Fin.ext ?_))
  · show h.val = x.val / 512
    omega
  · exact hx.symm

theorem dvb_eq (h : Fin 4) (P : Vec Ideal S256x512 .f32) (D : Vec Ideal S512x512 .bf16) (T : Fin 512 → Fin 8192) (j : Fin 256) (d : Fin 512) (x : Fin 4096)
    (hx : x.val = 2048 + (h.val * 512 + d.val))
    (hP : ∀ (s : Fin 512) (j : Fin 256), P (ix2 j s) = pr q kv h (T s) j)
    (hD : ∀ s d : Fin 512, D (ix2 s d) = e (ix2 (T s) ⟨h.val * 512 + d.val, by omega⟩)) :
    dvb P D j d = ∑ s : Fin 512, share q kv e j x (T s) := by
  unfold dvb
  refine Finset.sum_congr rfl fun s _ => ?_
  have hl : ¬ x.val < 2048 := by omega
  rw [hP, hD]
  unfold share
  rw [dif_neg hl]
  refine congrArg₂ (fun a b : EReal => a * b) (pr_congr q kv ?_ rfl rfl) (congrArg (fun y => e (ix2 (T s) y)) (Fin.ext ?_))
  · show h.val = (x.val - 2048) / 512
    omega
  · show h.val * 512 + d.val = x.val - 2048
    omega
end

variable (m : (ℓ : Loc nD τ sig) → Buf (Elt Ideal) ℓ) (ρ : Dev nD → PrngReg) (c : Dev nD)

theorem idx1 : ∀ t : Fin cfg1.N, win1_0.index t = ![t.val, 0] ∧ win1_1.index t = ![0, 0] ∧ win1_2.index t = ![0, t.val] ∧ win1_3.index t = ![t.val, 0]
    ∧ win1_4.index t = ![t.val, 0] ∧ win1_5.index t = ![0, 0] :=
  (by decide +kernel : ∀ t : Fin grid1.N, _)

theorem lt1 (t : Fin cfg1.N) : t.val < 16 := lt_of_lt_of_eq t.isLt N_1

/-- A row of a point's block of rows. -/
def at1 (t : Fin cfg1.N) (s : Fin 512) : Fin 8192 := ⟨t.val * 512 + s.val, by have := lt1 t; omega⟩

theorem k0 (t : Fin cfg1.N) (j : Fin 256) (d : Fin 512) :
    View.ld (Val := Elt Ideal) (iblk1 (V1 m ρ) c 1 t) (Rect.unit (s := S256x4096) ![0, 0] ![256, 512] inb_S256x4096_S256x512_0_0) (ix2 j d) = X1 m c (ix2 j ⟨0 * 512 + d.val, by omega⟩) := by
  refine (congrFun (V1_kv m ρ c) _).trans (congrArg (X1 m c) ?_)
  blk_ext [idx1 t, at1]
  all_goals first | rfl | ((try simp only [Rect.idx_unit_val]); simp <;> omega)

theorem v0 (t : Fin cfg1.N) (j : Fin 256) (d : Fin 512) :
    View.ld (Val := Elt Ideal) (iblk1 (V1 m ρ) c 1 t) (Rect.unit (s := S256x4096) ![0, 2048] ![256, 512] inb_S256x4096_S256x512_0_2048) (ix2 j d) = X1 m c (ix2 j ⟨2048 + (0 * 512 + d.val), by omega⟩) := by
  refine (congrFun (V1_kv m ρ c) _).trans (congrArg (X1 m c) ?_)
  blk_ext [idx1 t, at1]
  all_goals first | rfl | ((try simp only [Rect.idx_unit_val]); simp <;> omega)

theorem q0 (t : Fin cfg1.N) (s d : Fin 512) :
    View.ld (Val := Elt Ideal) (iblk1 (V1 m ρ) c 0 t) (Rect.unit (s := S512x2048) ![0, 0] ![512, 512] inb_S512x2048_S512x512_0_0) (ix2 s d) = X0 m c (ix2 (at1 t s) ⟨0 * 512 + d.val, by omega⟩) := by
  refine (congrFun (V1_q m ρ c) _).trans (congrArg (X0 m c) ?_)
  blk_ext [idx1 t, at1]
  all_goals first | rfl | ((try simp only [Rect.idx_unit_val]); simp <;> omega)

theorem e0 (t : Fin cfg1.N) (s d : Fin 512) :
    View.ld (Val := Elt Ideal) (iblk1 (V1 m ρ) c 3 t) (Rect.unit (s := S512x2048) ![0, 0] ![512, 512] inb_S512x2048_S512x512_0_0) (ix2 s d) = X2 m c (ix2 (at1 t s) ⟨0 * 512 + d.val, by omega⟩) := by
  refine (congrFun (V1_do m ρ c) _).trans (congrArg (X2 m c) ?_)
  blk_ext [idx1 t, at1]
  all_goals first | rfl | ((try simp only [Rect.idx_unit_val]); simp <;> omega)

theorem p0 (t : Fin cfg1.N) (s : Fin 512) (j : Fin 256) :
    View.ld (Val := Elt Ideal) (iblk1 (V1 m ρ) c 2 t) (Rect.unit (s := S1024x512) ![0, 0] ![256, 512] inb_S1024x512_S256x512_0_0) (ix2 j s) = pr (X0 m c) (X1 m c) 0 (at1 t s) j := by
  refine (congrFun ((V1_pr m ρ c).trans (pr_arr m ρ c)) _).trans ?_
  refine pr_congr _ _ ?_ ?_ ?_
  all_goals blk_simp [idx1 t, at1]
  all_goals first | rfl | ((try simp only [Rect.idx_unit_val]); simp <;> omega)

theorem k1 (t : Fin cfg1.N) (j : Fin 256) (d : Fin 512) :
    View.ld (Val := Elt Ideal) (iblk1 (V1 m ρ) c 1 t) (Rect.unit (s := S256x4096) ![0, 512] ![256, 512] inb_S256x4096_S256x512_0_512) (ix2 j d) = X1 m c (ix2 j ⟨1 * 512 + d.val, by omega⟩) := by
  refine (congrFun (V1_kv m ρ c) _).trans (congrArg (X1 m c) ?_)
  blk_ext [idx1 t, at1]
  all_goals first | rfl | ((try simp only [Rect.idx_unit_val]); simp <;> omega)

theorem v1 (t : Fin cfg1.N) (j : Fin 256) (d : Fin 512) :
    View.ld (Val := Elt Ideal) (iblk1 (V1 m ρ) c 1 t) (Rect.unit (s := S256x4096) ![0, 2560] ![256, 512] inb_S256x4096_S256x512_0_2560) (ix2 j d) = X1 m c (ix2 j ⟨2048 + (1 * 512 + d.val), by omega⟩) := by
  refine (congrFun (V1_kv m ρ c) _).trans (congrArg (X1 m c) ?_)
  blk_ext [idx1 t, at1]
  all_goals first | rfl | ((try simp only [Rect.idx_unit_val]); simp <;> omega)

theorem q1 (t : Fin cfg1.N) (s d : Fin 512) :
    View.ld (Val := Elt Ideal) (iblk1 (V1 m ρ) c 0 t) (Rect.unit (s := S512x2048) ![0, 512] ![512, 512] inb_S512x2048_S512x512_0_512) (ix2 s d) = X0 m c (ix2 (at1 t s) ⟨1 * 512 + d.val, by omega⟩) := by
  refine (congrFun (V1_q m ρ c) _).trans (congrArg (X0 m c) ?_)
  blk_ext [idx1 t, at1]
  all_goals first | rfl | ((try simp only [Rect.idx_unit_val]); simp <;> omega)

theorem e1 (t : Fin cfg1.N) (s d : Fin 512) :
    View.ld (Val := Elt Ideal) (iblk1 (V1 m ρ) c 3 t) (Rect.unit (s := S512x2048) ![0, 512] ![512, 512] inb_S512x2048_S512x512_0_512) (ix2 s d) = X2 m c (ix2 (at1 t s) ⟨1 * 512 + d.val, by omega⟩) := by
  refine (congrFun (V1_do m ρ c) _).trans (congrArg (X2 m c) ?_)
  blk_ext [idx1 t, at1]
  all_goals first | rfl | ((try simp only [Rect.idx_unit_val]); simp <;> omega)

theorem p1 (t : Fin cfg1.N) (s : Fin 512) (j : Fin 256) :
    View.ld (Val := Elt Ideal) (iblk1 (V1 m ρ) c 2 t) (Rect.unit (s := S1024x512) ![256, 0] ![256, 512] inb_S1024x512_S256x512_256_0) (ix2 j s) = pr (X0 m c) (X1 m c) 1 (at1 t s) j := by
  refine (congrFun ((V1_pr m ρ c).trans (pr_arr m ρ c)) _).trans ?_
  refine pr_congr _ _ ?_ ?_ ?_
  all_goals blk_simp [idx1 t, at1]
  all_goals first | rfl | ((try simp only [Rect.idx_unit_val]); simp <;> omega)

theorem k2 (t : Fin cfg1.N) (j : Fin 256) (d : Fin 512) :
    View.ld (Val := Elt Ideal) (iblk1 (V1 m ρ) c 1 t) (Rect.unit (s := S256x4096) ![0, 1024] ![256, 512] inb_S256x4096_S256x512_0_1024) (ix2 j d) = X1 m c (ix2 j ⟨2 * 512 + d.val, by omega⟩) := by
  refine (congrFun (V1_kv m ρ c) _).trans (congrArg (X1 m c) ?_)
  blk_ext [idx1 t, at1]
  all_goals first | rfl | ((try simp only [Rect.idx_unit_val]); simp <;> omega)

theorem v2 (t : Fin cfg1.N) (j : Fin 256) (d : Fin 512) :
    View.ld (Val := Elt Ideal) (iblk1 (V1 m ρ) c 1 t) (Rect.unit (s := S256x4096) ![0, 3072] ![256, 512] inb_S256x4096_S256x512_0_3072) (ix2 j d) = X1 m c (ix2 j ⟨2048 + (2 * 512 + d.val), by omega⟩) := by
  refine (congrFun (V1_kv m ρ c) _).trans (congrArg (X1 m c) ?_)
  blk_ext [idx1 t, at1]
  all_goals first | rfl | ((try simp only [Rect.idx_unit_val]); simp <;> omega)

theorem q2 (t : Fin cfg1.N) (s d : Fin 512) :
    View.ld (Val := Elt Ideal) (iblk1 (V1 m ρ) c 0 t) (Rect.unit (s := S512x2048) ![0, 1024] ![512, 512] inb_S512x2048_S512x512_0_1024) (ix2 s d) = X0 m c (ix2 (at1 t s) ⟨2 * 512 + d.val, by omega⟩) := by
  refine (congrFun (V1_q m ρ c) _).trans (congrArg (X0 m c) ?_)
  blk_ext [idx1 t, at1]
  all_goals first | rfl | ((try simp only [Rect.idx_unit_val]); simp <;> omega)

theorem e2 (t : Fin cfg1.N) (s d : Fin 512) :
    View.ld (Val := Elt Ideal) (iblk1 (V1 m ρ) c 3 t) (Rect.unit (s := S512x2048) ![0, 1024] ![512, 512] inb_S512x2048_S512x512_0_1024) (ix2 s d) = X2 m c (ix2 (at1 t s) ⟨2 * 512 + d.val, by omega⟩) := by
  refine (congrFun (V1_do m ρ c) _).trans (congrArg (X2 m c) ?_)
  blk_ext [idx1 t, at1]
  all_goals first | rfl | ((try simp only [Rect.idx_unit_val]); simp <;> omega)

theorem p2 (t : Fin cfg1.N) (s : Fin 512) (j : Fin 256) :
    View.ld (Val := Elt Ideal) (iblk1 (V1 m ρ) c 2 t) (Rect.unit (s := S1024x512) ![512, 0] ![256, 512] inb_S1024x512_S256x512_512_0) (ix2 j s) = pr (X0 m c) (X1 m c) 2 (at1 t s) j := by
  refine (congrFun ((V1_pr m ρ c).trans (pr_arr m ρ c)) _).trans ?_
  refine pr_congr _ _ ?_ ?_ ?_
  all_goals blk_simp [idx1 t, at1]
  all_goals first | rfl | ((try simp only [Rect.idx_unit_val]); simp <;> omega)

theorem k3 (t : Fin cfg1.N) (j : Fin 256) (d : Fin 512) :
    View.ld (Val := Elt Ideal) (iblk1 (V1 m ρ) c 1 t) (Rect.unit (s := S256x4096) ![0, 1536] ![256, 512] inb_S256x4096_S256x512_0_1536) (ix2 j d) = X1 m c (ix2 j ⟨3 * 512 + d.val, by omega⟩) := by
  refine (congrFun (V1_kv m ρ c) _).trans (congrArg (X1 m c) ?_)
  blk_ext [idx1 t, at1]
  all_goals first | rfl | ((try simp only [Rect.idx_unit_val]); simp <;> omega)

theorem v3 (t : Fin cfg1.N) (j : Fin 256) (d : Fin 512) :
    View.ld (Val := Elt Ideal) (iblk1 (V1 m ρ) c 1 t) (Rect.unit (s := S256x4096) ![0, 3584] ![256, 512] inb_S256x4096_S256x512_0_3584) (ix2 j d) = X1 m c (ix2 j ⟨2048 + (3 * 512 + d.val), by omega⟩) := by
  refine (congrFun (V1_kv m ρ c) _).trans (congrArg (X1 m c) ?_)
  blk_ext [idx1 t, at1]
  all_goals first | rfl | ((try simp only [Rect.idx_unit_val]); simp <;> omega)

theorem q3 (t : Fin cfg1.N) (s d : Fin 512) :
    View.ld (Val := Elt Ideal) (iblk1 (V1 m ρ) c 0 t) (Rect.unit (s := S512x2048) ![0, 1536] ![512, 512] inb_S512x2048_S512x512_0_1536) (ix2 s d) = X0 m c (ix2 (at1 t s) ⟨3 * 512 + d.val, by omega⟩) := by
  refine (congrFun (V1_q m ρ c) _).trans (congrArg (X0 m c) ?_)
  blk_ext [idx1 t, at1]
  all_goals first | rfl | ((try simp only [Rect.idx_unit_val]); simp <;> omega)

theorem e3 (t : Fin cfg1.N) (s d : Fin 512) :
    View.ld (Val := Elt Ideal) (iblk1 (V1 m ρ) c 3 t) (Rect.unit (s := S512x2048) ![0, 1536] ![512, 512] inb_S512x2048_S512x512_0_1536) (ix2 s d) = X2 m c (ix2 (at1 t s) ⟨3 * 512 + d.val, by omega⟩) := by
  refine (congrFun (V1_do m ρ c) _).trans (congrArg (X2 m c) ?_)
  blk_ext [idx1 t, at1]
  all_goals first | rfl | ((try simp only [Rect.idx_unit_val]); simp <;> omega)

theorem p3 (t : Fin cfg1.N) (s : Fin 512) (j : Fin 256) :
    View.ld (Val := Elt Ideal) (iblk1 (V1 m ρ) c 2 t) (Rect.unit (s := S1024x512) ![768, 0] ![256, 512] inb_S1024x512_S256x512_768_0) (ix2 j s) = pr (X0 m c) (X1 m c) 3 (at1 t s) j := by
  refine (congrFun ((V1_pr m ρ c).trans (pr_arr m ρ c)) _).trans ?_
  refine pr_congr _ _ ?_ ?_ ?_
  all_goals blk_simp [idx1 t, at1]
  all_goals first | rfl | ((try simp only [Rect.idx_unit_val]); simp <;> omega)

theorem dq_block (t : Fin cfg1.N) (s : Fin 512) (y : Fin 2048) : (outsAt1 (V1 m ρ) c t.val t.isLt).1 (ix2 s y) = gq (X0 m c) (X1 m c) (X2 m c) (at1 t s) y := by
  by_cases hz : t.val % 16 = 0
  · rw [outsAt1_A _ c t hz]
    dsimp only
    frame_out
    canon_tiles x h
    all_goals
      have es : s = x 0 := Fin.ext (show (s : ℕ) = (x 0 : ℕ) from h0)
      subst es
      have hx : x = ix2 (n0 := 512) (n1 := 512) (x 0) (x 1) := by
        funext r
        match r with
        | 0 => rfl
        | 1 => rfl
      rw [hx]
    case piece0 =>
      have ey : (y : ℕ) = 1536 + (x 1 : ℕ) := h1
      refine (q3_at _ _ _ _ (x 0) (x 1)).trans ?_
      refine dqb_eq (X0 m c) (X1 m c) (X2 m c) 3 _ _ _ _ (x 0) _ (x 1) y ?_ (k3 m ρ c t) (v3 m ρ c t) (p3 m ρ c t (x 0)) (e3 m ρ c t (x 0))
      show (y : ℕ) = 3 * 512 + (x 1 : ℕ)
      omega
    case piece1 =>
      have ey : (y : ℕ) = 1024 + (x 1 : ℕ) := h1
      refine (q2_at _ _ _ _ (x 0) (x 1)).trans ?_
      refine dqb_eq (X0 m c) (X1 m c) (X2 m c) 2 _ _ _ _ (x 0) _ (x 1) y ?_ (k2 m ρ c t) (v2 m ρ c t) (p2 m ρ c t (x 0)) (e2 m ρ c t (x 0))
      show (y : ℕ) = 2 * 512 + (x 1 : ℕ)
      omega
    case piece2 =>
      have ey : (y : ℕ) = 512 + (x 1 : ℕ) := h1
      refine (q1_at _ _ _ _ (x 0) (x 1)).trans ?_
      refine dqb_eq (X0 m c) (X1 m c) (X2 m c) 1 _ _ _ _ (x 0) _ (x 1) y ?_ (k1 m ρ c t) (v1 m ρ c t) (p1 m ρ c t (x 0)) (e1 m ρ c t (x 0))
      show (y : ℕ) = 1 * 512 + (x 1 : ℕ)
      omega
    case piece3 =>
      have ey : (y : ℕ) = (x 1 : ℕ) := h1
      refine (q0_at _ _ _ _ (x 0) (x 1)).trans ?_
      refine dqb_eq (X0 m c) (X1 m c) (X2 m c) 0 _ _ _ _ (x 0) _ (x 1) y ?_ (k0 m ρ c t) (v0 m ρ c t) (p0 m ρ c t (x 0)) (e0 m ρ c t (x 0))
      show (y : ℕ) = 0 * 512 + (x 1 : ℕ)
      omega
  · rw [outsAt1_B _ c t hz]
    dsimp only
    frame_out
    canon_tiles x h
    all_goals
      have es : s = x 0 := Fin.ext (show (s : ℕ) = (x 0 : ℕ) from h0)
      subst es
      have hx : x = ix2 (n0 := 512) (n1 := 512) (x 0) (x 1) := by
        funext r
        match r with
        | 0 => rfl
        | 1 => rfl
      rw [hx]
    case piece0 =>
      have ey : (y : ℕ) = 1536 + (x 1 : ℕ) := h1
      refine (q3_at _ _ _ _ (x 0) (x 1)).trans ?_
      refine dqb_eq (X0 m c) (X1 m c) (X2 m c) 3 _ _ _ _ (x 0) _ (x 1) y ?_ (k3 m ρ c t) (v3 m ρ c t) (p3 m ρ c t (x 0)) (e3 m ρ c t (x 0))
      show (y : ℕ) = 3 * 512 + (x 1 : ℕ)
      omega
    case piece1 =>
      have ey : (y : ℕ) = 1024 + (x 1 : ℕ) := h1
      refine (q2_at _ _ _ _ (x 0) (x 1)).trans ?_
      refine dqb_eq (X0 m c) (X1 m c) (X2 m c) 2 _ _ _ _ (x 0) _ (x 1) y ?_ (k2 m ρ c t) (v2 m ρ c t) (p2 m ρ c t (x 0)) (e2 m ρ c t (x 0))
      show (y : ℕ) = 2 * 512 + (x 1 : ℕ)
      omega
    case piece2 =>
      have ey : (y : ℕ) = 512 + (x 1 : ℕ) := h1
      refine (q1_at _ _ _ _ (x 0) (x 1)).trans ?_
      refine dqb_eq (X0 m c) (X1 m c) (X2 m c) 1 _ _ _ _ (x 0) _ (x 1) y ?_ (k1 m ρ c t) (v1 m ρ c t) (p1 m ρ c t (x 0)) (e1 m ρ c t (x 0))
      show (y : ℕ) = 1 * 512 + (x 1 : ℕ)
      omega
    case piece3 =>
      have ey : (y : ℕ) = (x 1 : ℕ) := h1
      refine (q0_at _ _ _ _ (x 0) (x 1)).trans ?_
      refine dqb_eq (X0 m c) (X1 m c) (X2 m c) 0 _ _ _ _ (x 0) _ (x 1) y ?_ (k0 m ρ c t) (v0 m ρ c t) (p0 m ρ c t (x 0)) (e0 m ρ c t (x 0))
      show (y : ℕ) = 0 * 512 + (x 1 : ℕ)
      omega

theorem emb_0 (a : Fin 256) (b : Fin 512) :
    (Rect.unit (s := S256x4096) ![0, 0] ![256, 512] inb_S256x4096_S256x512_0_0).emb (ix2 a b) = ix2 a (⟨0 + b.val, by omega⟩ : Fin 4096) := by
  funext r
  refine Fin.ext ?_
  show ((Rect.unit (s := S256x4096) ![0, 0] ![256, 512] inb_S256x4096_S256x512_0_0).idx (ix2 a b) r).val = _
  match r with
  | 0 => simp [Rect.idx_unit_val]
  | 1 => simp [Rect.idx_unit_val]

theorem emb_512 (a : Fin 256) (b : Fin 512) :
    (Rect.unit (s := S256x4096) ![0, 512] ![256, 512] inb_S256x4096_S256x512_0_512).emb (ix2 a b) = ix2 a (⟨512 + b.val, by omega⟩ : Fin 4096) := by
  funext r
  refine Fin.ext ?_
  show ((Rect.unit (s := S256x4096) ![0, 512] ![256, 512] inb_S256x4096_S256x512_0_512).idx (ix2 a b) r).val = _
  match r with
  | 0 => simp [Rect.idx_unit_val]
  | 1 => simp [Rect.idx_unit_val]

theorem emb_1024 (a : Fin 256) (b : Fin 512) :
    (Rect.unit (s := S256x4096) ![0, 1024] ![256, 512] inb_S256x4096_S256x512_0_1024).emb (ix2 a b) = ix2 a (⟨1024 + b.val, by omega⟩ : Fin 4096) := by
  funext r
  refine Fin.ext ?_
  show ((Rect.unit (s := S256x4096) ![0, 1024] ![256, 512] inb_S256x4096_S256x512_0_1024).idx (ix2 a b) r).val = _
  match r with
  | 0 => simp [Rect.idx_unit_val]
  | 1 => simp [Rect.idx_unit_val]

theorem emb_1536 (a : Fin 256) (b : Fin 512) :
    (Rect.unit (s := S256x4096) ![0, 1536] ![256, 512] inb_S256x4096_S256x512_0_1536).emb (ix2 a b) = ix2 a (⟨1536 + b.val, by omega⟩ : Fin 4096) := by
  funext r
  refine Fin.ext ?_
  show ((Rect.unit (s := S256x4096) ![0, 1536] ![256, 512] inb_S256x4096_S256x512_0_1536).idx (ix2 a b) r).val = _
  match r with
  | 0 => simp [Rect.idx_unit_val]
  | 1 => simp [Rect.idx_unit_val]

theorem emb_2048 (a : Fin 256) (b : Fin 512) :
    (Rect.unit (s := S256x4096) ![0, 2048] ![256, 512] inb_S256x4096_S256x512_0_2048).emb (ix2 a b) = ix2 a (⟨2048 + b.val, by omega⟩ : Fin 4096) := by
  funext r
  refine Fin.ext ?_
  show ((Rect.unit (s := S256x4096) ![0, 2048] ![256, 512] inb_S256x4096_S256x512_0_2048).idx (ix2 a b) r).val = _
  match r with
  | 0 => simp [Rect.idx_unit_val]
  | 1 => simp [Rect.idx_unit_val]

theorem emb_2560 (a : Fin 256) (b : Fin 512) :
    (Rect.unit (s := S256x4096) ![0, 2560] ![256, 512] inb_S256x4096_S256x512_0_2560).emb (ix2 a b) = ix2 a (⟨2560 + b.val, by omega⟩ : Fin 4096) := by
  funext r
  refine Fin.ext ?_
  show ((Rect.unit (s := S256x4096) ![0, 2560] ![256, 512] inb_S256x4096_S256x512_0_2560).idx (ix2 a b) r).val = _
  match r with
  | 0 => simp [Rect.idx_unit_val]
  | 1 => simp [Rect.idx_unit_val]

theorem emb_3072 (a : Fin 256) (b : Fin 512) :
    (Rect.unit (s := S256x4096) ![0, 3072] ![256, 512] inb_S256x4096_S256x512_0_3072).emb (ix2 a b) = ix2 a (⟨3072 + b.val, by omega⟩ : Fin 4096) := by
  funext r
  refine Fin.ext ?_
  show ((Rect.unit (s := S256x4096) ![0, 3072] ![256, 512] inb_S256x4096_S256x512_0_3072).idx (ix2 a b) r).val = _
  match r with
  | 0 => simp [Rect.idx_unit_val]
  | 1 => simp [Rect.idx_unit_val]

theorem emb_3584 (a : Fin 256) (b : Fin 512) :
    (Rect.unit (s := S256x4096) ![0, 3584] ![256, 512] inb_S256x4096_S256x512_0_3584).emb (ix2 a b) = ix2 a (⟨3584 + b.val, by omega⟩ : Fin 4096) := by
  funext r
  refine Fin.ext ?_
  show ((Rect.unit (s := S256x4096) ![0, 3584] ![256, 512] inb_S256x4096_S256x512_0_3584).idx (ix2 a b) r).val = _
  match r with
  | 0 => simp [Rect.idx_unit_val]
  | 1 => simp [Rect.idx_unit_val]

theorem zeros : k1_pay2 (F := Ideal) = fun _ => 0 := by
  funext i
  pointwise [k1_pay2]

theorem first (t : Fin cfg1.N) (hz : t.val % 16 = 0) (j : Fin 256) (y : Fin 4096) :
    (outsAt1 (V1 m ρ) c t.val t.isLt).2 (ix2 j y) = 0 + ∑ s : Fin 512, share (X0 m c) (X1 m c) (X2 m c) j y (at1 t s) := by
  rw [outsAt1_A _ c t hz]
  dsimp only
  frame_out
  simp (disch := decide) only [↓ View.readCov_skip, ↓ View.readCov_fill]
  refine View.canon_append_of_piecesOf (Val := Elt Ideal) (e := .f32) (s := S256x4096) (fun i => (0 + ∑ s : Fin 512, share (X0 m c) (X1 m c) (X2 m c) (i 0) (i 1) (at1 t s) : EReal)) [_] [_, _, _, _, _, _, _, _]
    ⟨?_, ?_, ?_, ?_, ?_, ?_, ?_, ?_, trivial⟩ (ix2 j y) (View.cover_of_tiledBy _ ![256, 512] (by sl_kernel_rfl) (ix2 j y))
  all_goals
    intro x
    have hx : x = ix2 (n0 := 256) (n1 := 512) (x 0) (x 1) := by
      funext r
      match r with
      | 0 => rfl
      | 1 => rfl
    obtain ⟨a, b, rfl⟩ : ∃ (a : Fin 256) (b : Fin 512), x = ix2 (n0 := 256) (n1 := 512) a b := ⟨x 0, x 1, hx⟩
    clear hx
    dsimp only
  · rw [emb_1536]
    refine (k3_at _ _ _ _ _ a b).trans (congrArg₂ (fun a b : EReal => a + b) (congrFun zeros _) (dkb_eq (X0 m c) (X1 m c) (X2 m c) 3 _ _ _ _ (at1 t) a b _ ?_ (v3 m ρ c t) (p3 m ρ c t) (e3 m ρ c t) (q3 m ρ c t)))
    show 1536 + b.val = 3 * 512 + b.val
    omega
  · rw [emb_3584]
    refine (v3_at _ _ _ a b).trans (congrArg₂ (fun a b : EReal => a + b) (congrFun zeros _) (dvb_eq (X0 m c) (X1 m c) (X2 m c) 3 _ _ (at1 t) a b _ ?_ (p3 m ρ c t) (e3 m ρ c t)))
    show 3584 + b.val = 2048 + (3 * 512 + b.val)
    omega
  · rw [emb_1024]
    refine (k2_at _ _ _ _ _ a b).trans (congrArg₂ (fun a b : EReal => a + b) (congrFun zeros _) (dkb_eq (X0 m c) (X1 m c) (X2 m c) 2 _ _ _ _ (at1 t) a b _ ?_ (v2 m ρ c t) (p2 m ρ c t) (e2 m ρ c t) (q2 m ρ c t)))
    show 1024 + b.val = 2 * 512 + b.val
    omega
  · rw [emb_3072]
    refine (v2_at _ _ _ a b).trans (congrArg₂ (fun a b : EReal => a + b) (congrFun zeros _) (dvb_eq (X0 m c) (X1 m c) (X2 m c) 2 _ _ (at1 t) a b _ ?_ (p2 m ρ c t) (e2 m ρ c t)))
    show 3072 + b.val = 2048 + (2 * 512 + b.val)
    omega
  · rw [emb_512]
    refine (k1_at _ _ _ _ _ a b).trans (congrArg₂ (fun a b : EReal => a + b) (congrFun zeros _) (dkb_eq (X0 m c) (X1 m c) (X2 m c) 1 _ _ _ _ (at1 t) a b _ ?_ (v1 m ρ c t) (p1 m ρ c t) (e1 m ρ c t) (q1 m ρ c t)))
    show 512 + b.val = 1 * 512 + b.val
    omega
  · rw [emb_2560]
    refine (v1_at _ _ _ a b).trans (congrArg₂ (fun a b : EReal => a + b) (congrFun zeros _) (dvb_eq (X0 m c) (X1 m c) (X2 m c) 1 _ _ (at1 t) a b _ ?_ (p1 m ρ c t) (e1 m ρ c t)))
    show 2560 + b.val = 2048 + (1 * 512 + b.val)
    omega
  · rw [emb_0]
    refine (k0_at _ _ _ _ _ a b).trans (congrArg₂ (fun a b : EReal => a + b) (congrFun zeros _) (dkb_eq (X0 m c) (X1 m c) (X2 m c) 0 _ _ _ _ (at1 t) a b _ ?_ (v0 m ρ c t) (p0 m ρ c t) (e0 m ρ c t) (q0 m ρ c t)))
    show 0 + b.val = 0 * 512 + b.val
    omega
  · rw [emb_2048]
    refine (v0_at _ _ _ a b).trans (congrArg₂ (fun a b : EReal => a + b) (congrFun zeros _) (dvb_eq (X0 m c) (X1 m c) (X2 m c) 0 _ _ (at1 t) a b _ ?_ (p0 m ρ c t) (e0 m ρ c t)))
    show 2048 + b.val = 2048 + (0 * 512 + b.val)
    omega

theorem next (t : Fin cfg1.N) (hz : ¬ t.val % 16 = 0) (j : Fin 256) (y : Fin 4096) :
    (outsAt1 (V1 m ρ) c t.val t.isLt).2 (ix2 j y)
      = (outsAt1 (V1 m ρ) c (t.val - 1) (Nat.lt_of_le_of_lt (Nat.sub_le _ _) t.isLt)).2 (ix2 j y) + ∑ s : Fin 512, share (X0 m c) (X1 m c) (X2 m c) j y (at1 t s) := by
  rw [outsAt1_B _ c t hz]
  dsimp only
  frame_out
  canon_tiles x h
  case piece0 =>
    have ey : (y : ℕ) = 1536 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (k3_at _ _ _ _ _ (x 0) (x 1)).trans (congrArg₂ (fun a b : EReal => a + b) ?_ (dkb_eq (X0 m c) (X1 m c) (X2 m c) 3 _ _ _ _ (at1 t) (x 0) (x 1) y ?_ (v3 m ρ c t) (p3 m ρ c t) (e3 m ρ c t) (q3 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 3 * 512 + (x 1 : ℕ)
      omega
  case piece1 =>
    have ey : (y : ℕ) = 3584 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (v3_at _ _ _ (x 0) (x 1)).trans (congrArg₂ (fun a b : EReal => a + b) ?_ (dvb_eq (X0 m c) (X1 m c) (X2 m c) 3 _ _ (at1 t) (x 0) (x 1) y ?_ (p3 m ρ c t) (e3 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 2048 + (3 * 512 + (x 1 : ℕ))
      omega
  case piece2 =>
    have ey : (y : ℕ) = 1024 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (k2_at _ _ _ _ _ (x 0) (x 1)).trans (congrArg₂ (fun a b : EReal => a + b) ?_ (dkb_eq (X0 m c) (X1 m c) (X2 m c) 2 _ _ _ _ (at1 t) (x 0) (x 1) y ?_ (v2 m ρ c t) (p2 m ρ c t) (e2 m ρ c t) (q2 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 2 * 512 + (x 1 : ℕ)
      omega
  case piece3 =>
    have ey : (y : ℕ) = 3072 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (v2_at _ _ _ (x 0) (x 1)).trans (congrArg₂ (fun a b : EReal => a + b) ?_ (dvb_eq (X0 m c) (X1 m c) (X2 m c) 2 _ _ (at1 t) (x 0) (x 1) y ?_ (p2 m ρ c t) (e2 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 2048 + (2 * 512 + (x 1 : ℕ))
      omega
  case piece4 =>
    have ey : (y : ℕ) = 512 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (k1_at _ _ _ _ _ (x 0) (x 1)).trans (congrArg₂ (fun a b : EReal => a + b) ?_ (dkb_eq (X0 m c) (X1 m c) (X2 m c) 1 _ _ _ _ (at1 t) (x 0) (x 1) y ?_ (v1 m ρ c t) (p1 m ρ c t) (e1 m ρ c t) (q1 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 1 * 512 + (x 1 : ℕ)
      omega
  case piece5 =>
    have ey : (y : ℕ) = 2560 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (v1_at _ _ _ (x 0) (x 1)).trans (congrArg₂ (fun a b : EReal => a + b) ?_ (dvb_eq (X0 m c) (X1 m c) (X2 m c) 1 _ _ (at1 t) (x 0) (x 1) y ?_ (p1 m ρ c t) (e1 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 2048 + (1 * 512 + (x 1 : ℕ))
      omega
  case piece6 =>
    have ey : (y : ℕ) = (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (k0_at _ _ _ _ _ (x 0) (x 1)).trans (congrArg₂ (fun a b : EReal => a + b) ?_ (dkb_eq (X0 m c) (X1 m c) (X2 m c) 0 _ _ _ _ (at1 t) (x 0) (x 1) y ?_ (v0 m ρ c t) (p0 m ρ c t) (e0 m ρ c t) (q0 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 0 * 512 + (x 1 : ℕ)
      omega
  case piece7 =>
    have ey : (y : ℕ) = 2048 + (x 1 : ℕ) := h1
    have ej : j = x 0 := Fin.ext (show (j : ℕ) = (x 0 : ℕ) from h0)
    subst ej
    have hx : x = ix2 (n0 := 256) (n1 := 512) (x 0) (x 1) := by
      funext r
      match r with
      | 0 => rfl
      | 1 => rfl
    rw [hx]
    refine (v0_at _ _ _ (x 0) (x 1)).trans (congrArg₂ (fun a b : EReal => a + b) ?_ (dvb_eq (X0 m c) (X1 m c) (X2 m c) 0 _ _ (at1 t) (x 0) (x 1) y ?_ (p0 m ρ c t) (e0 m ρ c t)))
    · refine congrArg (outsAt1 (V1 m ρ) c (t.val - 1) (Nat.lt_of_le_of_lt (Nat.sub_le _ _) t.isLt)).2 (funext fun r => Fin.ext ?_)
      match r with
      | 0 => simp [Rect.idx_unit_val]
      | 1 => simp [Rect.idx_unit_val, ey]
    · show (y : ℕ) = 2048 + (0 * 512 + (x 1 : ℕ))
      omega

end Xattn

end
-- ==== Proof.Xattn.Arrays.lean ====
/-
  The two gradients the second call leaves.
-/
module

public import proofs.«01_k».proof.Proof.Xattn.Blocks

@[expose] public section

set_option maxRecDepth 16384

noncomputable section

namespace Xattn

open Idealize.ShloMosaic Idealize.ShloMosaic.TcCoe Idealize.SL.Sem
open Cert.XattnIdeal Cert.XattnIdeal.Gen Xattn.Run

/-- One entry of the keys' and values' gradients. -/
def gkv (q : FVec Ideal S8192x2048 .bf16) (kv : FVec Ideal S256x4096 .f32) (e : FVec Ideal S8192x2048 .bf16) (j : Fin 256) (x : Fin 4096) : EReal :=
  ∑ t : Fin 8192, share q kv e j x t

variable (m : (ℓ : Loc nD τ sig) → Buf (Elt Ideal) ℓ) (ρ : Dev nD → PrngReg) (c : Dev nD)

theorem dq_arr : dqOf m ρ c = fun i => gq (X0 m c) (X1 m c) (X2 m c) (i 0) (i 1) := by
  refine (dat1 (V1 m ρ) c).arrAt_eq_of_covers 4 (fun i => gq (X0 m c) (X1 m c) (X2 m c) (i 0) (i 1) : FVec Ideal S8192x2048 .bf16)
    (by decide +kernel) fun t hf y => ?_
  blk_simp
  rw [after1_4]
  refine (congrArg (outsAt1 (V1 m ρ) c t.val t.isLt).1 (show y = ix2 (y 0) (y 1) by idx_ext <;> rfl)).trans ((dq_block m ρ c t (y 0) (y 1)).trans ?_)
  refine congrArg₂ (gq (X0 m c) (X1 m c) (X2 m c)) (Fin.ext ?_) (Fin.ext ?_)
  all_goals blk_simp [idx1 t, at1]

theorem sum_at (f : Fin 8192 → EReal) : (∑ p : Fin cfg1.N, ∑ s : Fin 512, f (at1 p s)) = ∑ t : Fin 8192, f t := by
  rw [← Fin.sum_mul_add_fin 16 512 f]
  exact Fintype.sum_equiv (finCongr N_1) _ _ fun p => rfl

theorem last1 (t : Fin cfg1.N) (ht : t.val + 1 = cfg1.N) (x : Fin 256 × Fin 4096) : (outsAt1 (V1 m ρ) c t.val t.isLt).2 (ix2 x.1 x.2) = gkv (X0 m c) (X1 m c) (X2 m c) x.1 x.2 := by
  refine (Pipeline.eq_sum_fin_of_reset_step_apply_last (fun n h => fun x : Fin 256 × Fin 4096 => ((outsAt1 (V1 m ρ) c n h).2 (ix2 x.1 x.2) : EReal)) 16 (fun _ => 0)
    (fun t x => ∑ s : Fin 512, share (X0 m c) (X1 m c) (X2 m c) x.1 x.2 (at1 t s)) (fun t h x => first m ρ c t h x.1 x.2) (fun t h x => next m ρ c t h x.1 x.2)
    (le_of_eq N_1) t ht x).trans ?_
  rw [zero_add]
  exact sum_at (share (X0 m c) (X1 m c) (X2 m c) x.1 x.2)

theorem dkv_arr : dkvOf m ρ c = fun i => gkv (X0 m c) (X1 m c) (X2 m c) (i 0) (i 1) := by
  refine (dat1 (V1 m ρ) c).arrAt_eq_of_covers 5 (fun i => gkv (X0 m c) (X1 m c) (X2 m c) (i 0) (i 1) : FVec Ideal S256x4096 .f32)
    (by decide +kernel) fun t hf y => ?_
  blk_simp
  rw [after1_5]
  have ht : t.val + 1 = cfg1.N := by
    have a := (flush1_5 t).mp hf
    have b := lt1 t
    refine Eq.trans ?_ N_1.symm
    omega
  refine (congrArg (outsAt1 (V1 m ρ) c t.val t.isLt).2 (show y = ix2 (y 0) (y 1) by idx_ext <;> rfl)).trans ((last1 m ρ c t ht (y 0, y 1)).trans ?_)
  refine congrArg₂ (gkv (X0 m c) (X1 m c) (X2 m c)) (Fin.ext ?_) (Fin.ext ?_)
  all_goals blk_simp [idx1 t]

end Xattn

end
-- ==== Proof.Xattn.Math.lean ====
/-
  The gradient of a softmax over a row of real scores: as differentiated, and as the kernel holds it.
-/
module

public import proofs.«01_k».proof.Proof.Mixer.Soft
public import proofs.«01_k».proof.Proof.Xattn.Body

@[expose] public section

noncomputable section

namespace Xattn

open Idealize.ShloMosaic Mixer.Spec

theorem prod_real (a b : EReal) (ha : ∃ x : ℝ, a = (x : EReal)) (hb : ∃ x : ℝ, b = (x : EReal)) : ∃ x : ℝ, a * b = (x : EReal) := by
  obtain ⟨x, rfl⟩ := ha
  obtain ⟨y, rfl⟩ := hb
  exact ⟨x * y, by rw [EReal.coe_mul]⟩

theorem scale_real : ∃ x : ℝ, scale = (x : EReal) := by
  unfold scale
  exact ⟨_, by simp [Ideal.ofBits, Ideal.ieee, -EReal.coe_mul]; rfl⟩

theorem scaled_real {N : ℕ} (f : Fin N → EReal) (h : ∀ d, ∃ x : ℝ, f d = (x : EReal)) : ∃ x : ℝ, (∑ d, f d) * scale = (x : EReal) := by
  choose g hg using h
  refine prod_real _ _ ⟨∑ d, g d, ?_⟩ scale_real
  rw [coe_sum]
  exact Finset.sum_congr rfl fun d _ => hg d

theorem slope_eq (s : Fin 256 → EReal) (hs : ∀ j, ∃ a : ℝ, s j = (a : EReal)) (D : Fin 256 → EReal) (j : Fin 256) :
    (Ideal.div (D j) (∑ j : Fin 256, Ideal.exp (s j - top s))
      + -∑ j : Fin 256, D j * Ideal.div (Ideal.ofBits .f32 0x3F800000#32) ((∑ j : Fin 256, Ideal.exp (s j - top s)) * ∑ j : Fin 256, Ideal.exp (s j - top s)) * Ideal.exp (s j - top s))
      * Ideal.exp (s j - top s) * scale = slope (prob s) D j := by
  obtain ⟨a, ha⟩ := hs 0
  have hn : ∀ j, s j ≠ ⊤ := fun j => by
    obtain ⟨b, hb⟩ := hs j
    rw [hb]
    exact EReal.coe_ne_top b
  obtain ⟨M, hM⟩ : ∃ M : ℝ, top s = (M : EReal) := fold_real max rfl _ c_ninf s hn 0 a ha
  obtain ⟨e, S, hS, he, hsum, hex, -⟩ := soft_real s M hn 0 a ha
  have hsumE : (∑ j : Fin 256, Ideal.exp (s j - top s)) = (S : EReal) := by
    rw [hsum, coe_sum]
    exact Finset.sum_congr rfl fun j _ => by rw [hM, hex]
  unfold slope prob
  rw [hsumE, hM]
  simp only [hex]
  have hD : (∑ j : Fin 256, D j * Ideal.div (Ideal.ofBits .f32 0x3F800000#32) ((S : EReal) * (S : EReal)) * (e j : EReal))
      = ((S⁻¹ : ℝ) : EReal) * ∑ j : Fin 256, Ideal.div (e j : EReal) (S : EReal) * D j := by
    rw [mul_sum_real _ (by positivity)]
    refine Finset.sum_congr rfl fun j _ => ?_
    rw [← EReal.coe_mul, div_real _ _ (by positivity), div_real _ _ hS.ne', c_one, ← EReal.coe_mul, mul_assoc, ← EReal.coe_mul, ← EReal.coe_mul, ← mul_assoc, ← EReal.coe_mul, mul_comm (D j)]
    congr 2
    field_simp
  rw [hD, score_grad S (e j) hS (he j)]

end Xattn

end
-- ==== Proof.Xattn.Ref.lean ====
/-
  The reference's gradients, entry by entry.
-/
module

public import proofs.«01_k».proof.Proof.Xattn.Blocks
public import proofs.«01_k».proof.Proof.Xattn.Math
public import proofs.«01_k».proof.Proof.Gen.XattnReferenceIdeal.Read

@[expose] public section

set_option maxRecDepth 16384

noncomputable section

namespace Xattn.Ref

open Idealize.ShloMosaic Idealize.ShloMosaic.TcCoe
open Cert.XattnReferenceIdeal Cert.XattnReferenceIdeal.Read Mixer.Spec

variable (x0 : FVec Ideal S8192x2048 .bf16) (x1 : FVec Ideal S256x4096 .f32) (x2 : FVec Ideal S8192x2048 .bf16)

theorem v1_at (t : Fin 8192) (h : Fin 4) (d : Fin 512) : val_main_v1 (F := Ideal) x0 (ix3 t h d) = x0 (ix2 t ⟨h.val * 512 + d.val, by omega⟩) := by
  refine (val_main_v1_apply (F := Ideal) x0 _).trans ((val_main_v0_apply (F := Ideal) x0 _).trans (congrArg x0 (funext fun q => Fin.ext ?_)))
  match q with
  | ⟨0, _⟩ =>
    show ((t.val * 4 + h.val) * 512 + d.val) / 2048 = t.val
    omega
  | ⟨1, _⟩ =>
    show ((t.val * 4 + h.val) * 512 + d.val) % 2048 = h.val * 512 + d.val
    omega

theorem v3_at (j : Fin 256) (h : Fin 4) (d : Fin 512) : val_main_v3 (F := Ideal) x1 (ix3 j h d) = x1 (ix2 j ⟨h.val * 512 + d.val, by omega⟩) := by
  refine (val_main_v3_apply (F := Ideal) x1 _).trans ((val_main_v2_apply (F := Ideal) x1 _).trans (congrArg x1 (funext fun q => Fin.ext ?_)))
  match q with
  | ⟨0, _⟩ =>
    show ((j.val * 4 + h.val) * 512 + d.val) / 2048 = j.val
    omega
  | ⟨1, _⟩ =>
    show ((j.val * 4 + h.val) * 512 + d.val) % 2048 = h.val * 512 + d.val
    omega

theorem v5_at (j : Fin 256) (h : Fin 4) (d : Fin 512) : val_main_v5 (F := Ideal) x1 (ix3 j h d) = x1 (ix2 j ⟨2048 + (h.val * 512 + d.val), by omega⟩) := by
  refine (val_main_v5_apply (F := Ideal) x1 _).trans ((val_main_v4_apply (F := Ideal) x1 _).trans (congrArg x1 (funext fun q => Fin.ext ?_)))
  match q with
  | ⟨0, _⟩ =>
    show ((j.val * 4 + h.val) * 512 + d.val) / 2048 = j.val
    omega
  | ⟨1, _⟩ =>
    show 2048 + ((j.val * 4 + h.val) * 512 + d.val) % 2048 = 2048 + (h.val * 512 + d.val)
    omega

theorem v42_at (h : Fin 4) (d : Fin 512) (t : Fin 8192) : val_main_v42 (F := Ideal) x2 (ix3 h d t) = x2 (ix2 t ⟨h.val * 512 + d.val, by omega⟩) := by
  refine (val_main_v42_apply (F := Ideal) x2 _).trans ((val_main_v41_apply (F := Ideal) x2 _).trans ((val_main_v40_apply (F := Ideal) x2 _).trans
    (congrArg x2 (funext fun q => Fin.ext ?_))))
  match q with
  | ⟨0, _⟩ =>
    show ((t.val * 4 + h.val) * 512 + d.val) / 2048 = t.val
    omega
  | ⟨1, _⟩ =>
    show ((t.val * 4 + h.val) * 512 + d.val) % 2048 = h.val * 512 + d.val
    omega

theorem v8_at (h : Fin 4) (t : Fin 8192) (j : Fin 256) : val_main_v8 (F := Ideal) x0 x1 (ix3 h t j) = score x0 x1 h t j := by
  refine (val_main_v8_apply (F := Ideal) x0 x1 _).trans ?_
  refine (show ∀ a b a' b' : EReal, a = a' → b = b' → (FloatOps.mulf (F := Ideal) (φ := .f32) a b : EReal) = a' * b' from fun a b a' b' e e' => by rw [e, e']; rfl)
    _ _ _ _ ?_ ((val_main_v7_apply (F := Ideal) _).trans (val_main_cst_apply (F := Ideal) _))
  refine (val_main_v6_apply x0 x1 _).trans (Finset.sum_congr rfl fun d _ => ?_)
  refine (congrArg₂ (fun a b : EReal => a * b) ((congrArg (val_main_v1 (F := Ideal) x0) ?_).trans (v1_at x0 t h d)) ((congrArg (val_main_v3 (F := Ideal) x1) ?_).trans (v3_at x1 j h d))).trans (mul_comm _ _)
  all_goals
    funext q
    match q with
    | ⟨0, _⟩ => rfl
    | ⟨1, _⟩ => rfl
    | ⟨2, _⟩ => rfl

theorem v9_at (h : Fin 4) (t : Fin 8192) : val_main_v9 (F := Ideal) x0 x1 (ix2 h t) = top (score x0 x1 h t) := by
  have e : ∀ j, val_main_v8 (F := Ideal) x0 x1 (ix3 h t j) = score x0 x1 h t j := v8_at x0 x1 h t
  revert e
  unfold val_main_v9 top
  generalize val_main_v8 (F := Ideal) x0 x1 = A
  generalize hc : val_main_cst_0 (F := Ideal) = z
  have ez : ∀ k, z k = Ideal.ofBits .f32 0xFF800000#32 := fun k => by rw [← hc]; rfl
  intro e
  rw [show score x0 x1 h t = fun j => A (ix3 h t j) from funext fun j => (e j).symm]
  pointwise
  rw [ez]

theorem maxi (a b : EReal) (h : a = ⊥) : (FloatOps.maximumf (F := Ideal) (φ := .f32) a b : EReal) = b := by
  show max a b = b
  rw [h]; exact max_eq_right bot_le

theorem v27_at (h : Fin 4) (t : Fin 8192) (j : Fin 256) : val_main_v27 (F := Ideal) x0 x1 (ix3 h t j) = top (score x0 x1 h t) := by
  refine (val_main_v27_apply (F := Ideal) x0 x1 _).trans ((val_main_v26_apply (F := Ideal) x0 x1 _).trans ((val_main_v16_apply (F := Ideal) x0 x1 _).trans ?_))
  refine (maxi _ _ ?_).trans ((congrArg (val_main_v9 (F := Ideal) x0 x1) ?_).trans (v9_at x0 x1 h t))
  · exact (val_main_v15_apply (F := Ideal) _).trans ((val_main_cst_2_apply (F := Ideal) _).trans c_ninf)
  · funext q
    match q with
    | ⟨0, _⟩ => rfl
    | ⟨1, _⟩ => rfl

/-- The exponential of a score. -/
def ex (h : Fin 4) (t : Fin 8192) (j : Fin 256) : EReal := Ideal.exp (score x0 x1 h t j - top (score x0 x1 h t))

theorem v29_at (h : Fin 4) (t : Fin 8192) (j : Fin 256) : val_main_v29 (F := Ideal) x0 x1 (ix3 h t j) = ex x0 x1 h t j := by
  refine (val_main_v29_apply (F := Ideal) x0 x1 _).trans ?_
  refine (congrArg (fun a : EReal => Ideal.exp a) ((val_main_v28_apply (F := Ideal) x0 x1 _).trans ?_) : _)
  exact congrArg₂ (fun a b : EReal => a - b) (v8_at x0 x1 h t j) (v27_at x0 x1 h t j)

theorem zero32 : (Ideal.ofBits .f32 0x00000000#32 : EReal) = 0 := by simp [Ideal.ofBits, Ideal.ieee]

theorem v30_at (h : Fin 4) (t : Fin 8192) : val_main_v30 (F := Ideal) x0 x1 (ix2 h t) = ∑ j : Fin 256, ex x0 x1 h t j := by
  refine (val_main_v30_apply x0 x1 _).trans ?_
  refine (congrArg₂ (fun a b : EReal => a + b) ((val_main_cst_8_apply (F := Ideal) _).trans zero32) (Finset.sum_congr rfl fun j _ => (congrArg (val_main_v29 (F := Ideal) x0 x1) ?_).trans (v29_at x0 x1 h t j))).trans (zero_add _)
  funext q
  match q with
  | ⟨0, _⟩ => rfl
  | ⟨1, _⟩ => rfl
  | ⟨2, _⟩ => rfl

theorem v31_at (h : Fin 4) (t : Fin 8192) : val_main_v31 (F := Ideal) x0 x1 (ix3 h t 0) = ∑ j : Fin 256, ex x0 x1 h t j := by
  refine (val_main_v31_apply (F := Ideal) x0 x1 _).trans ((congrArg (val_main_v30 (F := Ideal) x0 x1) ?_).trans (v30_at x0 x1 h t))
  funext q
  match q with
  | ⟨0, _⟩ => rfl
  | ⟨1, _⟩ => rfl

theorem v32_at (h : Fin 4) (t : Fin 8192) (j : Fin 256) : val_main_v32 (F := Ideal) x0 x1 (ix3 h t j) = ∑ j : Fin 256, ex x0 x1 h t j := by
  refine (val_main_v32_apply (F := Ideal) x0 x1 _).trans ((congrArg (val_main_v31 (F := Ideal) x0 x1) ?_).trans (v31_at x0 x1 h t))
  funext q
  match q with
  | ⟨0, _⟩ => rfl
  | ⟨1, _⟩ => rfl
  | ⟨2, _⟩ => rfl

theorem v52_at (h : Fin 4) (t : Fin 8192) (j : Fin 256) : val_main_v52 (F := Ideal) x0 x1 (ix3 h t j) = ∑ j : Fin 256, ex x0 x1 h t j := by
  refine (val_main_v52_apply (F := Ideal) x0 x1 _).trans ((congrArg (val_main_v31 (F := Ideal) x0 x1) ?_).trans (v31_at x0 x1 h t))
  funext q
  match q with
  | ⟨0, _⟩ => rfl
  | ⟨1, _⟩ => rfl
  | ⟨2, _⟩ => rfl

theorem v33_at (h : Fin 4) (t : Fin 8192) (j : Fin 256) : val_main_v33 (F := Ideal) x0 x1 (ix3 h t j) = pr x0 x1 h t j := by
  refine (val_main_v33_apply (F := Ideal) x0 x1 _).trans ?_
  exact congrArg₂ (fun a b : EReal => Ideal.div a b) (v29_at x0 x1 h t j) (v32_at x0 x1 h t j)

theorem v43_at (h : Fin 4) (t : Fin 8192) (j : Fin 256) : val_main_v43 (F := Ideal) x1 x2 (ix3 h t j) = dp x1 x2 h t j := by
  refine (val_main_v43_apply x1 x2 _).trans (Finset.sum_congr rfl fun d _ => ?_)
  refine (congrArg₂ (fun a b : EReal => a * b) ((congrArg (val_main_v42 (F := Ideal) x2) ?_).trans (v42_at x2 h d t)) ((congrArg (val_main_v5 (F := Ideal) x1) ?_).trans (v5_at x1 j h d))).trans (mul_comm _ _)
  all_goals
    funext q
    match q with
    | ⟨0, _⟩ => rfl
    | ⟨1, _⟩ => rfl
    | ⟨2, _⟩ => rfl

/-- The sum of a row's exponentials. -/
def den (h : Fin 4) (t : Fin 8192) : EReal := ∑ j : Fin 256, ex x0 x1 h t j

theorem v46_at (h : Fin 4) (t : Fin 8192) (j : Fin 256) :
    val_main_v46 (F := Ideal) x0 x1 (ix3 h t j) = Ideal.div (Ideal.ofBits .f32 0x3F800000#32) (den x0 x1 h t * den x0 x1 h t) := by
  refine (val_main_v46_apply (F := Ideal) x0 x1 _).trans ((congrArg (val_main_v36 (F := Ideal) x0 x1) (show _ = ix3 h t 0 from ?_)).trans ((val_main_v36_apply (F := Ideal) x0 x1 _).trans ?_))
  · funext q
    match q with
    | ⟨0, _⟩ => rfl
    | ⟨1, _⟩ => rfl
    | ⟨2, _⟩ => rfl
  · refine congrArg₂ (fun a b : EReal => Ideal.div a b) ((val_main_v35_apply (F := Ideal) _).trans (val_main_cst_9_apply (F := Ideal) _)) ((val_main_v34_apply (F := Ideal) x0 x1 _).trans ?_)
    exact congrArg₂ (fun a b : EReal => a * b) (v31_at x0 x1 h t) (v31_at x0 x1 h t)

theorem v48_at (h : Fin 4) (t : Fin 8192) (j : Fin 256) : val_main_v48 (F := Ideal) x0 x1 x2 (ix3 h t j)
    = dp x1 x2 h t j * Ideal.div (Ideal.ofBits .f32 0x3F800000#32) (den x0 x1 h t * den x0 x1 h t) * ex x0 x1 h t j := by
  refine (val_main_v48_apply (F := Ideal) x0 x1 x2 _).trans ?_
  refine congrArg₂ (fun a b : EReal => a * b) ((val_main_v47_apply (F := Ideal) x0 x1 x2 _).trans ?_) (v29_at x0 x1 h t j)
  exact congrArg₂ (fun a b : EReal => a * b) (v43_at x1 x2 h t j) (v46_at x0 x1 h t j)

theorem v49_at (h : Fin 4) (t : Fin 8192) : val_main_v49 (F := Ideal) x0 x1 x2 (ix2 h t)
    = ∑ j : Fin 256, dp x1 x2 h t j * Ideal.div (Ideal.ofBits .f32 0x3F800000#32) (den x0 x1 h t * den x0 x1 h t) * ex x0 x1 h t j := by
  refine (val_main_v49_apply x0 x1 x2 _).trans ?_
  refine (congrArg₂ (fun a b : EReal => a + b) ((val_main_cst_10_apply (F := Ideal) _).trans zero32) (Finset.sum_congr rfl fun j _ => (congrArg (val_main_v48 (F := Ideal) x0 x1 x2) ?_).trans (v48_at x0 x1 x2 h t j))).trans (zero_add _)
  funext q
  match q with
  | ⟨0, _⟩ => rfl
  | ⟨1, _⟩ => rfl
  | ⟨2, _⟩ => rfl

theorem v51_at (h : Fin 4) (t : Fin 8192) : val_main_v51 (F := Ideal) x0 x1 x2 (ix3 h t 0) = -(val_main_v49 (F := Ideal) x0 x1 x2 (ix2 h t) : EReal) := by
  refine (val_main_v51_apply (F := Ideal) x0 x1 x2 _).trans ?_
  refine (congrArg (fun a : EReal => -a) ((val_main_v50_apply (F := Ideal) x0 x1 x2 _).trans (congrArg (val_main_v49 (F := Ideal) x0 x1 x2) ?_)) : _)
  funext q
  refine Fin.ext ?_
  match q with
  | ⟨0, _⟩ =>
    show ((h.val * 8192 + t.val) * 1 + 0) / 8192 = h.val
    omega
  | ⟨1, _⟩ =>
    show ((h.val * 8192 + t.val) * 1 + 0) % 8192 = t.val
    omega

theorem v55_at (h : Fin 4) (t : Fin 8192) (j : Fin 256) : val_main_v55 (F := Ideal) x0 x1 x2 (ix3 h t j) = -(val_main_v49 (F := Ideal) x0 x1 x2 (ix2 h t) : EReal) := by
  refine (val_main_v55_apply (F := Ideal) x0 x1 x2 _).trans ((val_main_v54_apply x0 x1 x2 _).trans ?_)
  refine (congrArg₂ (fun a b : EReal => a + b) ((val_main_cst_11_apply (F := Ideal) _).trans zero32) ((Fin.sum_univ_one _).trans ((congrArg (val_main_v51 (F := Ideal) x0 x1 x2) (show _ = ix3 h t 0 from ?_)).trans (v51_at x0 x1 x2 h t)))).trans (zero_add _)
  funext q
  match q with
  | ⟨0, _⟩ => rfl
  | ⟨1, _⟩ => rfl
  | ⟨2, _⟩ => rfl

theorem v59_at (h : Fin 4) (t : Fin 8192) (j : Fin 256) : val_main_v59 (F := Ideal) x0 x1 x2 (ix3 h t j)
    = (Ideal.div (dp x1 x2 h t j) (den x0 x1 h t)
      + -∑ j : Fin 256, dp x1 x2 h t j * Ideal.div (Ideal.ofBits .f32 0x3F800000#32) (den x0 x1 h t * den x0 x1 h t) * ex x0 x1 h t j) * ex x0 x1 h t j * scale := by
  refine (val_main_v59_apply (F := Ideal) x0 x1 x2 _).trans ?_
  refine congrArg₂ (fun a b : EReal => a * b) ((val_main_v57_apply (F := Ideal) x0 x1 x2 _).trans ?_) ((val_main_v58_apply (F := Ideal) _).trans (val_main_cst_12_apply (F := Ideal) _))
  refine congrArg₂ (fun a b : EReal => a * b) ((val_main_v56_apply (F := Ideal) x0 x1 x2 _).trans ?_) (v29_at x0 x1 h t j)
  refine congrArg₂ (fun a b : EReal => a + b) ((val_main_v53_apply (F := Ideal) x0 x1 x2 _).trans ?_) ((v55_at x0 x1 x2 h t j).trans (congrArg (fun a : EReal => -a) (v49_at x0 x1 x2 h t)))
  exact congrArg₂ (fun a b : EReal => Ideal.div a b) (v43_at x1 x2 h t j) (v52_at x0 x1 h t j)

/-- The queries and the keys are real. -/
def Real : Prop := (∀ t x, ∃ a : ℝ, x0 (ix2 t x) = (a : EReal)) ∧ ∀ j x, x.val < 2048 → ∃ a : ℝ, x1 (ix2 j x) = (a : EReal)

variable (H : Real x0 x1)
include H

theorem score_real (h : Fin 4) (t : Fin 8192) (j : Fin 256) : ∃ a : ℝ, score x0 x1 h t j = (a : EReal) := by
  unfold score
  exact scaled_real _ fun d => prod_real _ _ (H.2 _ _ (show h.val * 512 + d.val < 2048 by omega)) (H.1 _ _)

theorem ds_at (h : Fin 4) (t : Fin 8192) (j : Fin 256) : val_main_v59 (F := Ideal) x0 x1 x2 (ix3 h t j) = ds x0 x1 x2 h t j := by
  rw [v59_at]
  exact slope_eq (score x0 x1 h t) (score_real x0 x1 H h t) (dp x1 x2 h t) j

theorem dq_at (t : Fin 8192) (x : Fin 2048) : val_main_v70 (F := Ideal) x0 x1 x2 (ix2 t x) = gq x0 x1 x2 t x := by
  refine (val_main_v70_apply (F := Ideal) x0 x1 x2 _).trans ((val_main_v69_apply (F := Ideal) x0 x1 x2 _).trans ((val_main_v63_apply (F := Ideal) x0 x1 x2 _).trans ((val_main_v62_apply x0 x1 x2 _).trans ?_)))
  refine Finset.sum_congr rfl fun j _ => congrArg₂ (fun a b : EReal => a * b) ((congrArg (val_main_v59 (F := Ideal) x0 x1 x2) ?_).trans (ds_at x0 x1 x2 H ⟨x.val / 512, by omega⟩ t j))
    ((congrArg (val_main_v3 (F := Ideal) x1) ?_).trans ((v3_at x1 j ⟨x.val / 512, by omega⟩ ⟨x.val % 512, by omega⟩).trans (congrArg (fun y => x1 (ix2 j y)) (Fin.ext ?_))))
  · funext q
    refine Fin.ext ?_
    match q with
    | ⟨0, _⟩ =>
      show (t.val * 2048 + x.val) / 512 % 4 = x.val / 512
      omega
    | ⟨1, _⟩ =>
      show (t.val * 2048 + x.val) / 2048 = t.val
      omega
    | ⟨2, _⟩ => rfl
  · funext q
    refine Fin.ext ?_
    match q with
    | ⟨0, _⟩ => rfl
    | ⟨1, _⟩ =>
      show (t.val * 2048 + x.val) / 512 % 4 = x.val / 512
      omega
    | ⟨2, _⟩ =>
      show (t.val * 2048 + x.val) % 512 = x.val % 512
      omega
  · show x.val / 512 * 512 + x.val % 512 = x.val
    omega

theorem dk_at (j : Fin 256) (y : Fin 2048) (x : Fin 4096) (e : x.val = y.val) : val_main_v66 (F := Ideal) x0 x1 x2 (ix2 j y) = ∑ t : Fin 8192, share x0 x1 x2 j x t := by
  refine (val_main_v66_apply (F := Ideal) x0 x1 x2 _).trans ((val_main_v61_apply (F := Ideal) x0 x1 x2 _).trans ((val_main_v60_apply x0 x1 x2 _).trans ?_))
  refine Finset.sum_congr rfl fun t _ => ?_
  have hl : x.val < 2048 := by omega
  unfold share
  rw [dif_pos hl]
  refine congrArg₂ (fun a b : EReal => a * b) ((congrArg (val_main_v59 (F := Ideal) x0 x1 x2) ?_).trans (ds_at x0 x1 x2 H ⟨x.val / 512, by omega⟩ t j))
    ((congrArg (val_main_v1 (F := Ideal) x0) ?_).trans ((v1_at x0 t ⟨y.val / 512, by omega⟩ ⟨y.val % 512, by omega⟩).trans (congrArg (fun y => x0 (ix2 t y)) (Fin.ext ?_))))
  · funext q
    refine Fin.ext ?_
    match q with
    | ⟨0, _⟩ =>
      show (j.val * 2048 + y.val) / 512 % 4 = x.val / 512
      omega
    | ⟨1, _⟩ => rfl
    | ⟨2, _⟩ =>
      show (j.val * 2048 + y.val) / 2048 = j.val
      omega
  · funext q
    refine Fin.ext ?_
    match q with
    | ⟨0, _⟩ => rfl
    | ⟨1, _⟩ =>
      show (j.val * 2048 + y.val) / 512 % 4 = y.val / 512
      omega
    | ⟨2, _⟩ =>
      show (j.val * 2048 + y.val) % 512 = y.val % 512
      omega
  · show y.val / 512 * 512 + y.val % 512 = x.val
    omega

omit H in
theorem dv_at (j : Fin 256) (y : Fin 2048) (x : Fin 4096) (e : x.val = 2048 + y.val) : val_main_v64 (F := Ideal) x0 x1 x2 (ix2 j y) = ∑ t : Fin 8192, share x0 x1 x2 j x t := by
  refine (val_main_v64_apply (F := Ideal) x0 x1 x2 _).trans ((val_main_v45_apply (F := Ideal) x0 x1 x2 _).trans ((val_main_v44_apply x0 x1 x2 _).trans ?_))
  refine Finset.sum_congr rfl fun t _ => ?_
  have hl : ¬ x.val < 2048 := by omega
  unfold share
  rw [dif_neg hl]
  refine (congrArg₂ (fun a b : EReal => a * b) ((congrArg (val_main_v42 (F := Ideal) x2) ?_).trans ((v42_at x2 ⟨y.val / 512, by omega⟩ ⟨y.val % 512, by omega⟩ t).trans (congrArg (fun y => x2 (ix2 t y)) (Fin.ext ?_))))
    ((congrArg (val_main_v33 (F := Ideal) x0 x1) ?_).trans (v33_at x0 x1 ⟨(x.val - 2048) / 512, by omega⟩ t j))).trans (mul_comm _ _)
  · funext q
    refine Fin.ext ?_
    match q with
    | ⟨0, _⟩ =>
      show (j.val * 2048 + y.val) / 512 % 4 = y.val / 512
      omega
    | ⟨1, _⟩ =>
      show (j.val * 2048 + y.val) % 512 = y.val % 512
      omega
    | ⟨2, _⟩ => rfl
  · show y.val / 512 * 512 + y.val % 512 = x.val - 2048
    omega
  · funext q
    refine Fin.ext ?_
    match q with
    | ⟨0, _⟩ =>
      show (j.val * 2048 + y.val) / 512 % 4 = (x.val - 2048) / 512
      omega
    | ⟨1, _⟩ => rfl
    | ⟨2, _⟩ =>
      show (j.val * 2048 + y.val) / 2048 = j.val
      omega

theorem dkv_at (j : Fin 256) (x : Fin 4096) : val_main_v68 (F := Ideal) x0 x1 x2 (ix2 j x) = ∑ t : Fin 8192, share x0 x1 x2 j x t := by
  refine (val_main_v68_apply (F := Ideal) x0 x1 x2 _).trans ?_
  have a := dk_at x0 x1 x2 H j
  have b := dv_at x0 x1 x2 j
  revert a b
  unfold val_main_v65 val_main_v67
  generalize val_main_v64 (F := Ideal) x0 x1 x2 = V
  generalize val_main_v66 (F := Ideal) x0 x1 x2 = K
  generalize hc : val_main_cst_13 (F := Ideal) = z
  generalize hd : val_main_cst_14 (F := Ideal) = w
  have ez : ∀ k, z k = 0 := fun k => by rw [← hc]; exact zero32
  have ew : ∀ k, w k = 0 := fun k => by rw [← hd]; exact zero32
  intro a b
  by_cases hx : x.val < 2048
  · refine Eq.trans ?_ (a ⟨x.val, hx⟩ x rfl)
    refine Eq.trans (?_ : _ = (0 : EReal) + K (ix2 j ⟨x.val, hx⟩)) (zero_add _)
    pointwise
    rw [ez, dif_neg (by omega), dif_pos hx]
    exact zero_add _
  · refine Eq.trans ?_ (b ⟨x.val - 2048, by omega⟩ x (show x.val = 2048 + (x.val - 2048) by omega))
    refine Eq.trans (?_ : _ = V (ix2 j ⟨x.val - 2048, by omega⟩) + (0 : EReal)) (add_zero _)
    pointwise
    rw [ew, dif_pos (by omega), dif_neg hx]
    exact add_zero _

end Xattn.Ref

end
-- ==== Proof.Xattn.Value.lean ====
/-
  The claims on the cross-attention's backward call: the frames, and the gradients of the queries and of the keys and values.
-/
module

public import proofs.«01_k».proof.Defs
public import proofs.«01_k».proof.Proof.Xattn.Arrays
public import proofs.«01_k».proof.Proof.Xattn.Ref
public import proofs.«01_k».proof.Proof.Gen.Xattn.Frame
public import proofs.«01_k».proof.Proof.Gen.XattnIdeal.Frame
public import proofs.«01_k».proof.Proof.Gen.XattnReferenceIdeal.Run

@[expose] public section

set_option maxRecDepth 16384

noncomputable section

namespace Xattn

open Idealize.ShloMosaic Idealize.ShloMosaic.TcCoe Idealize.SL.Sem
open Cert.XattnReferenceIdeal.Read

attribute [local instance] Cert.Xattn.Gen.facts Cert.XattnIdeal.Gen.facts Cert.XattnReferenceIdeal.Gen.facts

theorem pre_facts : Cert.Pre_finite_xattn.Facts where
  bitsLt_bf16_f32 := by decide
  bcast_S_S8192x2048 := by decide
  bcast_S_S256x2048 := by decide
  slices_S256x4096_S256x2048_0_0 := by decide

attribute [local instance] pre_facts

theorem frame_kernel : Cert.quiescent_Xattn := fun m ρ _ => Cert.Xattn.Gen.frame m ρ

theorem frame_kernelIdeal : Cert.quiescent_XattnIdeal := fun m ρ _ => Cert.XattnIdeal.Gen.frame m ρ

theorem frame_kernelIdeal_pre : Cert.quiescent_XattnIdeal_pre_finite_xattn := fun m ρ _ => Cert.XattnIdeal.Gen.frame m ρ

theorem frame_reference : Cert.quiescent_XattnReferenceIdeal := fun m ρ _ =>
  (θ_run Cert.XattnReferenceIdeal.defs _ _).mono (fun r h => ⟨fun c => (h c).2.2, sem_eq_zero_of_no_sems rfl r.2⟩) (Cert.XattnReferenceIdeal.Value.run (F := Ideal) m ρ)

theorem frame_reference_pre : Cert.quiescent_XattnReferenceIdeal_pre_finite_xattn := fun m ρ _ =>
  (θ_run Cert.XattnReferenceIdeal.defs _ _).mono (fun r h => ⟨fun c => (h c).2.2, sem_eq_zero_of_no_sems rfl r.2⟩) (Cert.XattnReferenceIdeal.Value.run (F := Ideal) m ρ)

theorem inf : Ideal.ofBits .f32 0x7F800000#32 = ⊤ := by simp [Ideal.ofBits, Ideal.ieee]

/-- A value whose absolute value is below `+∞` is real. -/
theorem finite (x : EReal) (h : FloatOps.cmpf (F := Ideal) (φ := .f32) .olt (FloatOps.hostAbsf (F := Ideal) (φ := .f32) x) (Ideal.ofBits .f32 0x7F800000#32) = 1#1) : ∃ a : ℝ, x = a := by
  rw [inf] at h
  have h' : BitVec.ofBool (decide (max x (-x) < ⊤)) = 1#1 := h
  have hx : max x (-x) < ⊤ := by
    by_contra hn
    rw [decide_eq_false hn] at h'
    exact absurd h' (by decide)
  rcases max_lt_iff.mp hx with ⟨h1, h2⟩
  exact ⟨x.toReal, (EReal.coe_toReal h1.ne fun hb => by rw [hb] at h2; exact absurd h2 (by simp)).symm⟩

section
variable (q : FVec Ideal Cert.XattnIdeal.S8192x2048 .bf16) (kv : FVec Ideal Cert.XattnIdeal.S256x4096 .f32) (e : FVec Ideal Cert.XattnIdeal.S8192x2048 .bf16)

theorem real (h : (Cert.Pre_finite_xattn.fn (F := Ideal) q kv e).1 = (fun _ => 1#1) ∧ (Cert.Pre_finite_xattn.fn (F := Ideal) q kv e).2 = (fun _ => 1#1)) : Ref.Real q kv := by
  refine ⟨fun t x => finite _ (congrFun h.1 (ix2 t x)), fun j x hx => ?_⟩
  have r := finite (extractStridedSlice Cert.Pre_finite_xattn.S256x2048 ![0, 0] kv pre_facts.slices_S256x4096_S256x2048_0_0 (ix2 j (⟨x.val, hx⟩ : Fin 2048)))
  obtain ⟨a, ha⟩ := r (congrFun h.2 (ix2 j (⟨x.val, hx⟩ : Fin 2048)))
  refine ⟨a, Eq.trans (congrArg kv ?_) ha⟩
  idx_ext
  all_goals (dsimp; omega)

theorem dq_ref (H : Ref.Real q kv) : (fun i => gq q kv e (i 0) (i 1) : FVec Ideal Cert.XattnIdeal.S8192x2048 .bf16) = val_main_v70 (F := Ideal) q kv e := by
  funext i
  rw [show i = ix2 (i 0) (i 1) by idx_ext <;> rfl]
  exact (Ref.dq_at q kv e H (i 0) (i 1)).symm

theorem dkv_ref (H : Ref.Real q kv) : (fun i => gkv q kv e (i 0) (i 1) : FVec Ideal Cert.XattnIdeal.S256x4096 .f32) = val_main_v68 (F := Ideal) q kv e := by
  funext i
  rw [show i = ix2 (i 0) (i 1) by idx_ext <;> rfl]
  exact (Ref.dkv_at q kv e H (i 0) (i 1)).symm

variable (q' : FVec Ideal Cert.XattnIdeal.S8192x2048 .bf16) (kv' : FVec Ideal Cert.XattnIdeal.S256x4096 .f32) (e' : FVec Ideal Cert.XattnIdeal.S8192x2048 .bf16)

theorem v70_congr (h0 : q' = q) (h1 : kv' = kv) (h2 : e' = e) : val_main_v70 (F := Ideal) q' kv' e' = val_main_v70 (F := Ideal) q kv e := by rw [h0, h1, h2]

theorem v68_congr (h0 : q' = q) (h1 : kv' = kv) (h2 : e' = e) : val_main_v68 (F := Ideal) q' kv' e' = val_main_v68 (F := Ideal) q kv e := by rw [h0, h1, h2]

end

theorem algebraic : Cert.algebraic_XattnIdeal_XattnReferenceIdeal_pre_finite_xattn := by
  intro m g m' g' pre agree
  have H : ∀ c : Dev Cert.XattnIdeal.nD, Ref.Real (X0 m c) (X1 m c) := fun c => real _ _ _ (pre c)
  refine ⟨fun c => val_main_v70 (F := Ideal) (X0 m c) (X1 m c) (X2 m c), fun c => val_main_v68 (F := Ideal) (X0 m c) (X1 m c) (X2 m c), ?_, ?_⟩
  · refine (θ_run _ _ _).mono (fun r h c => ?_) (Xattn.Run.run (F := Ideal) m g)
    obtain ⟨h0, h1, hargs⟩ := h c
    exact ⟨h0.trans ((dq_arr m g c).trans (dq_ref _ _ _ (H c))), h1.trans ((dkv_arr m g c).trans (dkv_ref _ _ _ (H c))), hargs⟩
  · refine (θ_run _ _ _).mono (fun r h c => ?_) (Cert.XattnReferenceIdeal.Value.run (F := Ideal) m' g')
    obtain ⟨a0, a1, a2⟩ := agree c
    obtain ⟨h0, h1, hargs⟩ := h c
    exact ⟨h0.trans ((val_main_v70_eq (F := Ideal) _ _).trans (v70_congr _ _ _ _ _ _ a0 a1 a2)), h1.trans ((val_main_v68_eq (F := Ideal) _ _).trans (v68_congr _ _ _ _ _ _ a0 a1 a2)), hargs⟩

end Xattn

end
-- ==== Proof.Dx.Value.lean ====
/-
  The gradients of the cross-attention's normed input and of its output, from the gradients of their products with a weight.
-/
module

public import proofs.«01_k».proof.Defs
public import proofs.«01_k».proof.Proof.Gen.Dx.Frame
public import proofs.«01_k».proof.Proof.Gen.DxIdeal.Frame
public import proofs.«01_k».proof.Proof.Gen.DxIdeal.Value
public import proofs.«01_k».proof.Proof.Gen.DxReferenceIdeal.Run
public import proofs.«01_k».proof.Proof.Gen.DxReferenceIdeal.Read
public import Idealize.ShloMosaic.Lib.Pointwise
public import Idealize.ShloMosaic.Lib.Pipeline.ValueKit

@[expose] public section

set_option maxRecDepth 16384

noncomputable section

namespace Dx

open Idealize.ShloMosaic Idealize.ShloMosaic.TcCoe Idealize.SL.Sem
open Cert.DxIdeal Cert.DxIdeal.Gen

attribute [local instance] Cert.Dx.Gen.facts Cert.DxIdeal.Gen.facts Cert.DxReferenceIdeal.Gen.facts

theorem frame_kernel : Cert.quiescent_Dx := fun m ρ _ => Cert.Dx.Gen.frame m ρ

theorem frame_kernelIdeal : Cert.quiescent_DxIdeal := fun m ρ _ => Cert.DxIdeal.Gen.frame m ρ

theorem frame_reference : Cert.quiescent_DxReferenceIdeal := fun m ρ _ =>
  (θ_run Cert.DxReferenceIdeal.defs _ _).mono (fun r h => ⟨fun c => (h c).2, sem_eq_zero_of_no_sems rfl r.2⟩) (Cert.DxReferenceIdeal.Value.run (F := Ideal) m ρ)

theorem pay_at (a : Vec Ideal S512x2048 .bf16) (b : Vec Ideal S2048x2048 .bf16) (i : Fin 512) (j : Fin 2048) :
    k0_pay1 (F := Ideal) a b (ix2 i j) = ∑ k : Fin 2048, a (ix2 i k) * b (ix2 j k) := by
  pointwise [k0_pay1]

/-- An entry of the product. -/
def whole (A : FVec Ideal S8192x2048 .bf16) (B : FVec Ideal S2048x2048 .bf16) (t : Fin 8192) (r : Fin 2048) : EReal := ∑ k : Fin 2048, A (ix2 t k) * B (ix2 r k)

section
variable (m : (ℓ : Loc nD τ sig) → Buf (Elt Ideal) ℓ) (c : Dev nD)

def X0 : FVec Ideal S8192x2048 .bf16 := m ((c.tc : Thread nD τ).loc main_arg0)
def X1 : FVec Ideal S2048x2048 .bf16 := m ((c.tc : Thread nD τ).loc main_arg1)

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x2048 .bf16)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S8192x2048 .bf16) (b : FVec Ideal S2048x2048 .bf16) :
    (fun i => whole a b (i 0) (i 1) : FVec Ideal S8192x2048 .bf16) = Cert.DxReferenceIdeal.Read.val_main_v5 (F := Ideal) a b := by
  funext i
  refine Eq.symm ((Cert.DxReferenceIdeal.Read.val_main_v4_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_DxIdeal_DxReferenceIdeal := by
  intro m g m' g' _ agree
  refine ⟨fun c => Cert.DxReferenceIdeal.Read.val_main_v5 (F := Ideal) (X0 m c) (X1 m c), ?_, ?_⟩
  · refine (θ_run _ _ _).mono (fun r h c => ?_) (Cert.DxIdeal.Value.run_blocks m g)
    obtain ⟨h0, hargs⟩ := h c
    exact ⟨h0.trans ((arr m c).trans (ref_eq _ _)), hargs⟩
  · refine (θ_run _ _ _).mono (fun r h c => ?_) (Cert.DxReferenceIdeal.Value.run (F := Ideal) m' g')
    obtain ⟨a0, a1⟩ := agree c
    obtain ⟨h0, hargs⟩ := h c
    refine ⟨h0.trans ((Cert.DxReferenceIdeal.Read.val_main_v5_eq (F := Ideal) _ _).trans ?_), hargs⟩
    exact congrArg₂ (Cert.DxReferenceIdeal.Read.val_main_v5 (F := Ideal)) a0 a1

end Dx

end
-- ==== Proof.Dyn.Value.lean ====
/-
  The gradient of the mixers' output, from the gradient of its product with w_out.
-/
module

public import proofs.«01_k».proof.Defs
public import proofs.«01_k».proof.Proof.Gen.Dyn.Frame
public import proofs.«01_k».proof.Proof.Gen.DynIdeal.Frame
public import proofs.«01_k».proof.Proof.Gen.DynIdeal.Value
public import proofs.«01_k».proof.Proof.Gen.DynReferenceIdeal.Run
public import proofs.«01_k».proof.Proof.Gen.DynReferenceIdeal.Read
public import Idealize.ShloMosaic.Lib.Pointwise
public import Idealize.ShloMosaic.Lib.Pipeline.ValueKit

@[expose] public section

set_option maxRecDepth 16384

noncomputable section

namespace Dyn

open Idealize.ShloMosaic Idealize.ShloMosaic.TcCoe Idealize.SL.Sem
open Cert.DynIdeal Cert.DynIdeal.Gen

attribute [local instance] Cert.Dyn.Gen.facts Cert.DynIdeal.Gen.facts Cert.DynReferenceIdeal.Gen.facts

theorem frame_kernel : Cert.quiescent_Dyn := fun m ρ _ => Cert.Dyn.Gen.frame m ρ

theorem frame_kernelIdeal : Cert.quiescent_DynIdeal := fun m ρ _ => Cert.DynIdeal.Gen.frame m ρ

theorem frame_reference : Cert.quiescent_DynReferenceIdeal := fun m ρ _ =>
  (θ_run Cert.DynReferenceIdeal.defs _ _).mono (fun r h => ⟨fun c => (h c).2, sem_eq_zero_of_no_sems rfl r.2⟩) (Cert.DynReferenceIdeal.Value.run (F := Ideal) m ρ)

theorem pay_at (a : Vec Ideal S1024x2048 .bf16) (b : Vec Ideal S2048x2048 .bf16) (i : Fin 1024) (j : Fin 2048) :
    k0_pay1 (F := Ideal) a b (ix2 i j) = ∑ k : Fin 2048, a (ix2 i k) * b (ix2 j k) := by
  pointwise [k0_pay1]

/-- An entry of the product. -/
def whole (A : FVec Ideal S8192x2048 .bf16) (B : FVec Ideal S2048x2048 .bf16) (t : Fin 8192) (r : Fin 2048) : EReal := ∑ k : Fin 2048, A (ix2 t k) * B (ix2 r k)

section
variable (m : (ℓ : Loc nD τ sig) → Buf (Elt Ideal) ℓ) (c : Dev nD)

def X0 : FVec Ideal S8192x2048 .bf16 := m ((c.tc : Thread nD τ).loc main_arg0)
def X1 : FVec Ideal S2048x2048 .bf16 := m ((c.tc : Thread nD τ).loc main_arg1)

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x2048 .bf16)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S8192x2048 .bf16) (b : FVec Ideal S2048x2048 .bf16) :
    (fun i => whole a b (i 0) (i 1) : FVec Ideal S8192x2048 .bf16) = Cert.DynReferenceIdeal.Read.val_main_v5 (F := Ideal) a b := by
  funext i
  refine Eq.symm ((Cert.DynReferenceIdeal.Read.val_main_v4_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_DynIdeal_DynReferenceIdeal := by
  intro m g m' g' _ agree
  refine ⟨fun c => Cert.DynReferenceIdeal.Read.val_main_v5 (F := Ideal) (X0 m c) (X1 m c), ?_, ?_⟩
  · refine (θ_run _ _ _).mono (fun r h c => ?_) (Cert.DynIdeal.Value.run_blocks m g)
    obtain ⟨h0, hargs⟩ := h c
    exact ⟨h0.trans ((arr m c).trans (ref_eq _ _)), hargs⟩
  · refine (θ_run _ _ _).mono (fun r h c => ?_) (Cert.DynReferenceIdeal.Value.run (F := Ideal) m' g')
    obtain ⟨a0, a1⟩ := agree c
    obtain ⟨h0, hargs⟩ := h c
    refine ⟨h0.trans ((Cert.DynReferenceIdeal.Read.val_main_v5_eq (F := Ideal) _ _).trans ?_), hargs⟩
    exact congrArg₂ (Cert.DynReferenceIdeal.Read.val_main_v5 (F := Ideal)) a0 a1

end Dyn

end
-- ==== Proof.Dz.Value.lean ====
/-
  The gradient of the mixers' normed input, from the gradient of its product with w_in.
-/
module

public import proofs.«01_k».proof.Defs
public import proofs.«01_k».proof.Proof.Gen.Dz.Frame
public import proofs.«01_k».proof.Proof.Gen.DzIdeal.Frame
public import proofs.«01_k».proof.Proof.Gen.DzIdeal.Value
public import proofs.«01_k».proof.Proof.Gen.DzReferenceIdeal.Run
public import proofs.«01_k».proof.Proof.Gen.DzReferenceIdeal.Read
public import Idealize.ShloMosaic.Lib.Pointwise
public import Idealize.ShloMosaic.Lib.Pipeline.ValueKit

@[expose] public section

set_option maxRecDepth 16384

noncomputable section

namespace Dz

open Idealize.ShloMosaic Idealize.ShloMosaic.TcCoe Idealize.SL.Sem
open Cert.DzIdeal Cert.DzIdeal.Gen

attribute [local instance] Cert.Dz.Gen.facts Cert.DzIdeal.Gen.facts Cert.DzReferenceIdeal.Gen.facts

theorem frame_kernel : Cert.quiescent_Dz := fun m ρ _ => Cert.Dz.Gen.frame m ρ

theorem frame_kernelIdeal : Cert.quiescent_DzIdeal := fun m ρ _ => Cert.DzIdeal.Gen.frame m ρ

theorem frame_reference : Cert.quiescent_DzReferenceIdeal := fun m ρ _ =>
  (θ_run Cert.DzReferenceIdeal.defs _ _).mono (fun r h => ⟨fun c => (h c).2, sem_eq_zero_of_no_sems rfl r.2⟩) (Cert.DzReferenceIdeal.Value.run (F := Ideal) m ρ)

theorem pay_at (a : Vec Ideal S512x3328 .bf16) (b : Vec Ideal S2048x3328 .bf16) (i : Fin 512) (j : Fin 2048) :
    k0_pay1 (F := Ideal) a b (ix2 i j) = ∑ k : Fin 3328, a (ix2 i k) * b (ix2 j k) := by
  pointwise [k0_pay1]

/-- An entry of the product. -/
def whole (A : FVec Ideal S8192x3328 .bf16) (B : FVec Ideal S2048x3328 .bf16) (t : Fin 8192) (r : Fin 2048) : EReal := ∑ k : Fin 3328, A (ix2 t k) * B (ix2 r k)

section
variable (m : (ℓ : Loc nD τ sig) → Buf (Elt Ideal) ℓ) (c : Dev nD)

def X0 : FVec Ideal S8192x3328 .bf16 := m ((c.tc : Thread nD τ).loc main_arg0)
def X1 : FVec Ideal S2048x3328 .bf16 := m ((c.tc : Thread nD τ).loc main_arg1)

theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x2048 .bf16)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S8192x3328 .bf16) (b : FVec Ideal S2048x3328 .bf16) :
    (fun i => whole a b (i 0) (i 1) : FVec Ideal S8192x2048 .bf16) = Cert.DzReferenceIdeal.Read.val_main_v5 (F := Ideal) a b := by
  funext i
  refine Eq.symm ((Cert.DzReferenceIdeal.Read.val_main_v4_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_DzIdeal_DzReferenceIdeal := by
  intro m g m' g' _ agree
  refine ⟨fun c => Cert.DzReferenceIdeal.Read.val_main_v5 (F := Ideal) (X0 m c) (X1 m c), ?_, ?_⟩
  · refine (θ_run _ _ _).mono (fun r h c => ?_) (Cert.DzIdeal.Value.run_blocks m g)
    obtain ⟨h0, hargs⟩ := h c
    exact ⟨h0.trans ((arr m c).trans (ref_eq _ _)), hargs⟩
  · refine (θ_run _ _ _).mono (fun r h c => ?_) (Cert.DzReferenceIdeal.Value.run (F := Ideal) m' g')
    obtain ⟨a0, a1⟩ := agree c
    obtain ⟨h0, hargs⟩ := h c
    refine ⟨h0.trans ((Cert.DzReferenceIdeal.Read.val_main_v5_eq (F := Ideal) _ _).trans ?_), hargs⟩
    exact congrArg₂ (Cert.DzReferenceIdeal.Read.val_main_v5 (F := Ideal)) a0 a1

end Dz

end
-- ==== Proof.Dwx.Value.lean ====
/-
  The gradients of w_xo, w_xq and w_out, accumulated over two blocks of tokens.
-/
module

public import proofs.«01_k».proof.Defs
public import proofs.«01_k».proof.Proof.Gen.Dwx.Frame
public import proofs.«01_k».proof.Proof.Gen.DwxIdeal.Frame
public import proofs.«01_k».proof.Proof.Gen.DwxIdeal.Value
public import proofs.«01_k».proof.Proof.Gen.DwxReferenceIdeal.Run
public import proofs.«01_k».proof.Proof.Gen.DwxReferenceIdeal.Read
public import Idealize.ShloMosaic.Lib.Pointwise
public import Idealize.ShloMosaic.Lib.Pipeline.ValueKit

@[expose] public section

set_option maxRecDepth 16384

noncomputable section

namespace Dwx

open Idealize.ShloMosaic Idealize.ShloMosaic.TcCoe Idealize.SL.Sem
open Cert.DwxIdeal Cert.DwxIdeal.Gen

attribute [local instance] Cert.Dwx.Gen.facts Cert.DwxIdeal.Gen.facts Cert.DwxReferenceIdeal.Gen.facts

theorem frame_kernel : Cert.quiescent_Dwx := fun m ρ _ => Cert.Dwx.Gen.frame m ρ

theorem frame_kernelIdeal : Cert.quiescent_DwxIdeal := fun m ρ _ => Cert.DwxIdeal.Gen.frame m ρ

theorem frame_reference : Cert.quiescent_DwxReferenceIdeal := fun m ρ _ =>
  (θ_run Cert.DwxReferenceIdeal.defs _ _).mono (fun r h => ⟨fun c => (h c).2, sem_eq_zero_of_no_sems rfl r.2⟩) (Cert.DwxReferenceIdeal.Value.run (F := Ideal) m ρ)

section
variable (a : Vec Ideal S4096x1024 .bf16) (b : Vec Ideal S4096x1024 .bf16) (acc : Vec Ideal S1024x1024 .f32)

/-- An entry of the product of two blocks. -/
def dot (i : Fin 1024) (j : Fin 1024) : EReal := ∑ k : Fin 4096, a (ix2 k i) * b (ix2 k j)

theorem first_at (i : Fin 1024) (j : Fin 1024) : k0_pay2 (F := Ideal) a b (ix2 i j) = dot a b i j := by
  unfold dot
  pointwise [k0_pay2, k0_pay1]

theorem last_at (i : Fin 1024) (j : Fin 1024) : k0_pay4 (F := Ideal) a b acc (ix2 i j) = acc (ix2 i j) + dot a b i j := by
  unfold dot
  pointwise [k0_pay4, k0_pay1]
end

section
variable (m : (ℓ : Loc nD τ sig) → Buf (Elt Ideal) ℓ) (c : Dev nD)

def X0 : FVec Ideal S8192x2048 .bf16 := m ((c.tc : Thread nD τ).loc main_arg0)
def X1 : FVec Ideal S8192x2048 .bf16 := m ((c.tc : Thread nD τ).loc main_arg1)

/-- The sum over one block of tokens, from the arrays; zero past the last block. -/
def part (A : FVec Ideal S8192x2048 .bf16) (B : FVec Ideal S8192x2048 .bf16) (r : Fin 2048) (f : Fin 2048) (s : ℕ) : EReal :=
  if hs : s < 2 then ∑ k : Fin 4096, A (ix2 ⟨s * 4096 + k.val, by omega⟩ r) * B (ix2 ⟨s * 4096 + k.val, by omega⟩ f) else 0

/-- An entry of the whole product. -/
def whole (A : FVec Ideal S8192x2048 .bf16) (B : FVec Ideal S8192x2048 .bf16) (r : Fin 2048) (f : Fin 2048) : EReal :=
  ∑ t : Fin 8192, A (ix2 t r) * B (ix2 t f)

theorem parts (A : FVec Ideal S8192x2048 .bf16) (B : FVec Ideal S8192x2048 .bf16) (r : Fin 2048) (f : Fin 2048) :
    ∑ s ∈ Finset.range 2, part A B r f s = whole A B r f := by
  unfold whole
  rw [← Fin.sum_mul_add_fin 2 4096 (fun t : Fin 8192 => A (ix2 t r) * B (ix2 t f)), Finset.sum_range]
  refine Finset.sum_congr rfl fun s _ => ?_
  unfold part
  rw [dif_pos s.isLt]

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

theorem ltN (t : Fin cfg0.N) : t.val < 8 := lt_of_lt_of_eq t.isLt N_0

/-- The rows and columns of a point's block in the arrays. -/
def row (t : Fin cfg0.N) (i : Fin 1024) : Fin 2048 := ⟨t.val / 4 * 1024 + i.val, by have := ltN t; omega⟩
def col (t : Fin cfg0.N) (j : Fin 1024) : Fin 2048 := ⟨t.val / 2 % 2 * 1024 + j.val, by have := ltN t; omega⟩

theorem blk_part (t : Fin cfg0.N) (i : Fin 1024) (j : Fin 1024) :
    dot (iblk m c 0 t) (iblk m c 1 t) i j = part (X0 m c) (X1 m c) (row t i) (col t j) (t.val % 2) := by
  have hN := ltN t
  unfold part
  rw [dif_pos (show t.val % 2 < 2 by omega)]
  unfold dot X0 X1 row col
  refine Finset.sum_congr rfl fun k _ => congrArg₂ (fun a b : EReal => a * b) ?_ ?_
  · blk_ext [iblk, V, idx t]
  · blk_ext [iblk, V, idx t]

theorem sc_first (t : Fin cfg0.N) (h : t.val % 2 = 0) (i : Fin 1024) (j : Fin 1024) : (outsAt0 m c t.val t.isLt).2 (ix2 i j)
      = dot (iblk m c 0 t) (iblk m c 1 t) i j := by
  rw [outsAt0_A m c t h (by omega)]
  frame_out
  exact first_at _ _ i j

theorem out_last (t : Fin cfg0.N) (h : t.val % 2 = 1) (i : Fin 1024) (j : Fin 1024) : (outsAt0 m c t.val t.isLt).1 (ix2 i j)
      = (outsAt0 m c (t.val - 1) (Nat.lt_of_le_of_lt (Nat.sub_le _ _) t.isLt)).2 (ix2 i j)
        + dot (iblk m c 0 t) (iblk m c 1 t) i j := by
  rw [outsAt0_B m c t (by omega) h]
  frame_out
  exact (last_at _ _ _ i j).trans (congrArg (fun e : EReal => e + dot (iblk m c 0 t) (iblk m c 1 t) i j) (congrFun (Memref.IsWhole.read_unread _ _) _))

/-- The accumulator after a point that isn't a block's last: the sum over the blocks of tokens so far. -/
theorem acc_at : ∀ (n : ℕ) (hn : n < cfg0.N), n % 2 < 1 → ∀ (i : Fin 1024) (j : Fin 1024),
    (outsAt0 m c n hn).2 (ix2 i j) = ∑ s ∈ Finset.range (n % 2 + 1), part (X0 m c) (X1 m c) (row ⟨n, hn⟩ i) (col ⟨n, hn⟩ j) s := by
  intro n hn h i j
  have h0 : n % 2 = 0 := by omega
  refine (sc_first m c ⟨n, hn⟩ h0 i j).trans ((blk_part m c ⟨n, hn⟩ i j).trans ?_)
  show part _ _ _ _ (n % 2) = _
  rw [h0, zero_add, Finset.sum_range_one]

theorem flush_last : ∀ t : Fin cfg0.N, (cfg0.win 2).flush t = true → t.val % 2 = 1 := (by decide +kernel : ∀ t : Fin grid0.N, _)

theorem out_at (t : Fin cfg0.N) (h : t.val % 2 = 1) (i : Fin 1024) (j : Fin 1024) : (outsAt0 m c t.val t.isLt).1 (ix2 i j)
      = whole (X0 m c) (X1 m c) (row t i) (col t j) := by
  obtain ⟨n, hn⟩ := t
  obtain ⟨n, rfl⟩ : ∃ q, n = q + 1 := ⟨n - 1, by dsimp only at h; omega⟩
  dsimp only at h
  have e : (n + 1) % 2 = n % 2 + 1 := by omega
  refine (out_last m c ⟨n + 1, hn⟩ h i j).trans ?_
  rw [blk_part, ← parts, Finset.sum_range_succ]
  refine congrArg₂ (fun a b : EReal => a + b) ((acc_at m c n (by omega) (by omega) i j).trans ?_) (congrArg (part _ _ _ _) h)
  rw [show n % 2 + 1 = 1 by omega, show row ⟨n, by omega⟩ i = row ⟨n + 1, hn⟩ i from Fin.ext (by unfold row; dsimp only; omega),
    show col ⟨n, by omega⟩ j = col ⟨n + 1, hn⟩ j from Fin.ext (by unfold col; dsimp only; omega)]

theorem whole_congr (A : FVec Ideal S8192x2048 .bf16) (B : FVec Ideal S8192x2048 .bf16) {r r' : Fin 2048} {f f' : Fin 2048}
    (hr : r.val = r'.val) (hf : f.val = f'.val) : whole A B r f = whole A B r' f' := by
  rw [Fin.ext hr, Fin.ext hf]

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S2048x2048 .bf16)
    (by decide +kernel) fun t hf y => ?_
  blk_simp
  rw [after0_2]
  have e : y = ix2 (y 0) (y 1) := by idx_ext <;> rfl
  rw [e]
  refine (out_at m c t (flush_last t hf) (y 0) (y 1)).trans ?_
  unfold row col
  refine whole_congr _ _ ?_ ?_
  all_goals blk_simp [idx t]
end

theorem ref_eq (a : FVec Ideal S8192x2048 .bf16) (b : FVec Ideal S8192x2048 .bf16) :
    (fun i => whole a b (i 0) (i 1) : FVec Ideal S2048x2048 .bf16) = Cert.DwxReferenceIdeal.Read.val_main_v6 (F := Ideal) a b := by
  funext i
  refine Eq.symm ((Cert.DwxReferenceIdeal.Read.val_main_v5_apply (F := Ideal) a b i).trans ((Cert.DwxReferenceIdeal.Read.val_main_v4_apply a b _).trans ?_))
  unfold whole
  refine Finset.sum_congr rfl fun k _ => (congrArg₂ (fun a b : EReal => a * b) (congrArg b ?_) (congrArg a ?_)).trans (mul_comm _ _)
  all_goals
    funext q
    match q with
    | ⟨0, _⟩ => rfl
    | ⟨1, _⟩ => rfl

theorem algebraic : Cert.algebraic_DwxIdeal_DwxReferenceIdeal := by
  intro m g m' g' _ agree
  refine ⟨fun c => Cert.DwxReferenceIdeal.Read.val_main_v6 (F := Ideal) (X0 m c) (X1 m c), ?_, ?_⟩
  · refine (θ_run _ _ _).mono (fun r h c => ?_) (Cert.DwxIdeal.Value.run_blocks m g)
    obtain ⟨h0, hargs⟩ := h c
    exact ⟨h0.trans ((arr m c).trans (ref_eq _ _)), hargs⟩
  · refine (θ_run _ _ _).mono (fun r h c => ?_) (Cert.DwxReferenceIdeal.Value.run (F := Ideal) m' g')
    obtain ⟨a0, a1⟩ := agree c
    obtain ⟨h0, hargs⟩ := h c
    refine ⟨h0.trans ((Cert.DwxReferenceIdeal.Read.val_main_v6_eq (F := Ideal) _ _).trans ?_), hargs⟩
    exact congrArg₂ (Cert.DwxReferenceIdeal.Read.val_main_v6 (F := Ideal)) a0 a1

end Dwx

end
-- ==== Proof.Dwin.Value.lean ====
/-
  The gradient of w_in, accumulated over eight blocks of tokens.
-/
module

public import proofs.«01_k».proof.Defs
public import proofs.«01_k».proof.Proof.Gen.Dwin.Frame
public import proofs.«01_k».proof.Proof.Gen.DwinIdeal.Frame
public import proofs.«01_k».proof.Proof.Gen.DwinIdeal.Value
public import proofs.«01_k».proof.Proof.Gen.DwinReferenceIdeal.Run
public import proofs.«01_k».proof.Proof.Gen.DwinReferenceIdeal.Read
public import Idealize.ShloMosaic.Lib.Pointwise
public import Idealize.ShloMosaic.Lib.Pipeline.ValueKit

@[expose] public section

set_option maxRecDepth 16384

noncomputable section

namespace Dwin

open Idealize.ShloMosaic Idealize.ShloMosaic.TcCoe Idealize.SL.Sem
open Cert.DwinIdeal Cert.DwinIdeal.Gen

attribute [local instance] Cert.Dwin.Gen.facts Cert.DwinIdeal.Gen.facts Cert.DwinReferenceIdeal.Gen.facts

theorem frame_kernel : Cert.quiescent_Dwin := fun m ρ _ => Cert.Dwin.Gen.frame m ρ

theorem frame_kernelIdeal : Cert.quiescent_DwinIdeal := fun m ρ _ => Cert.DwinIdeal.Gen.frame m ρ

theorem frame_reference : Cert.quiescent_DwinReferenceIdeal := fun m ρ _ =>
  (θ_run Cert.DwinReferenceIdeal.defs _ _).mono (fun r h => ⟨fun c => (h c).2, sem_eq_zero_of_no_sems rfl r.2⟩) (Cert.DwinReferenceIdeal.Value.run (F := Ideal) m ρ)

section
variable (a : Vec Ideal S1024x1024 .bf16) (b : Vec Ideal S1024x3328 .bf16) (acc : Vec Ideal S1024x3328 .f32)

/-- An entry of the product of two blocks. -/
def dot (i : Fin 1024) (j : Fin 3328) : EReal := ∑ k : Fin 1024, a (ix2 k i) * b (ix2 k j)

theorem first_at (i : Fin 1024) (j : Fin 3328) : k0_pay2 (F := Ideal) a b (ix2 i j) = dot a b i j := by
  unfold dot
  pointwise [k0_pay2, k0_pay1]

theorem next_at (i : Fin 1024) (j : Fin 3328) : k0_pay3 (F := Ideal) a b acc (ix2 i j) = acc (ix2 i j) + dot a b i j := by
  unfold dot
  pointwise [k0_pay3, k0_pay1]

theorem last_at (i : Fin 1024) (j : Fin 3328) : k0_pay4 (F := Ideal) a b acc (ix2 i j) = acc (ix2 i j) + dot a b i j := by
  unfold dot
  pointwise [k0_pay4, k0_pay1]
end

section
variable (m : (ℓ : Loc nD τ sig) → Buf (Elt Ideal) ℓ) (c : Dev nD)

def X0 : FVec Ideal S8192x2048 .bf16 := m ((c.tc : Thread nD τ).loc main_arg0)
def X1 : FVec Ideal S8192x3328 .bf16 := m ((c.tc : Thread nD τ).loc main_arg1)

/-- The sum over one block of tokens, from the arrays; zero past the last block. -/
def part (A : FVec Ideal S8192x2048 .bf16) (B : FVec Ideal S8192x3328 .bf16) (r : Fin 2048) (f : Fin 3328) (s : ℕ) : EReal :=
  if hs : s < 8 then ∑ k : Fin 1024, A (ix2 ⟨s * 1024 + k.val, by omega⟩ r) * B (ix2 ⟨s * 1024 + k.val, by omega⟩ f) else 0

/-- An entry of the whole product. -/
def whole (A : FVec Ideal S8192x2048 .bf16) (B : FVec Ideal S8192x3328 .bf16) (r : Fin 2048) (f : Fin 3328) : EReal :=
  ∑ t : Fin 8192, A (ix2 t r) * B (ix2 t f)

theorem parts (A : FVec Ideal S8192x2048 .bf16) (B : FVec Ideal S8192x3328 .bf16) (r : Fin 2048) (f : Fin 3328) :
    ∑ s ∈ Finset.range 8, part A B r f s = whole A B r f := by
  unfold whole
  rw [← Fin.sum_mul_add_fin 8 1024 (fun t : Fin 8192 => A (ix2 t r) * B (ix2 t f)), Finset.sum_range]
  refine Finset.sum_congr rfl fun s _ => ?_
  unfold part
  rw [dif_pos s.isLt]

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem ltN (t : Fin cfg0.N) : t.val < 16 := lt_of_lt_of_eq t.isLt N_0

/-- The rows and columns of a point's block in the arrays. -/
def row (t : Fin cfg0.N) (i : Fin 1024) : Fin 2048 := ⟨t.val / 8 * 1024 + i.val, by have := ltN t; omega⟩
def col (t : Fin cfg0.N) (j : Fin 3328) : Fin 3328 := ⟨0 * 3328 + j.val, by have := ltN t; omega⟩

theorem blk_part (t : Fin cfg0.N) (i : Fin 1024) (j : Fin 3328) :
    dot (iblk m c 0 t) (iblk m c 1 t) i j = part (X0 m c) (X1 m c) (row t i) (col t j) (t.val % 8) := by
  have hN := ltN t
  unfold part
  rw [dif_pos (show t.val % 8 < 8 by omega)]
  unfold dot X0 X1 row col
  refine Finset.sum_congr rfl fun k _ => congrArg₂ (fun a b : EReal => a * b) ?_ ?_
  · blk_ext [iblk, V, idx t]
  · blk_ext [iblk, V, idx t]

theorem sc_first (t : Fin cfg0.N) (h : t.val % 8 = 0) (i : Fin 1024) (j : Fin 3328) : (outsAt0 m c t.val t.isLt).2 (ix2 i j)
      = dot (iblk m c 0 t) (iblk m c 1 t) i j := by
  rw [outsAt0_A m c t h (by omega) (by omega)]
  frame_out
  exact first_at _ _ i j

theorem sc_next (t : Fin cfg0.N) (h : 1 ≤ t.val % 8 ∧ t.val % 8 ≤ 6) (i : Fin 1024) (j : Fin 3328) : (outsAt0 m c t.val t.isLt).2 (ix2 i j)
      = (outsAt0 m c (t.val - 1) (Nat.lt_of_le_of_lt (Nat.sub_le _ _) t.isLt)).2 (ix2 i j)
        + dot (iblk m c 0 t) (iblk m c 1 t) i j := by
  rw [outsAt0_B m c t (by omega) h (by omega)]
  frame_out
  exact (next_at _ _ _ i j).trans (congrArg (fun e : EReal => e + dot (iblk m c 0 t) (iblk m c 1 t) i j) (congrFun (Memref.IsWhole.read_unread _ _) _))

theorem out_last (t : Fin cfg0.N) (h : t.val % 8 = 7) (i : Fin 1024) (j : Fin 3328) : (outsAt0 m c t.val t.isLt).1 (ix2 i j)
      = (outsAt0 m c (t.val - 1) (Nat.lt_of_le_of_lt (Nat.sub_le _ _) t.isLt)).2 (ix2 i j)
        + dot (iblk m c 0 t) (iblk m c 1 t) i j := by
  rw [outsAt0_C m c t (by omega) (by omega) h]
  frame_out
  exact (last_at _ _ _ i j).trans (congrArg (fun e : EReal => e + dot (iblk m c 0 t) (iblk m c 1 t) i j) (congrFun (Memref.IsWhole.read_unread _ _) _))

/-- The accumulator after a point that isn't a block's last: the sum over the blocks of tokens so far. -/
theorem acc_at : ∀ (n : ℕ) (hn : n < cfg0.N), n % 8 < 7 → ∀ (i : Fin 1024) (j : Fin 3328),
    (outsAt0 m c n hn).2 (ix2 i j) = ∑ s ∈ Finset.range (n % 8 + 1), part (X0 m c) (X1 m c) (row ⟨n, hn⟩ i) (col ⟨n, hn⟩ j) s := by
  intro n
  induction n with
  | zero =>
    intro hn h i j
    refine (sc_first m c ⟨0, hn⟩ rfl i j).trans ((blk_part m c ⟨0, hn⟩ i j).trans ?_)
    exact (Finset.sum_range_one _).symm
  | succ n ih =>
    intro hn h i j
    by_cases h0 : (n + 1) % 8 = 0
    · refine (sc_first m c ⟨n + 1, hn⟩ h0 i j).trans ((blk_part m c ⟨n + 1, hn⟩ i j).trans ?_)
      show part _ _ _ _ ((n + 1) % 8) = _
      rw [h0, zero_add, Finset.sum_range_one]
    · have e : (n + 1) % 8 = n % 8 + 1 := by omega
      refine (sc_next m c ⟨n + 1, hn⟩ ⟨show 1 ≤ (n + 1) % 8 by omega, show (n + 1) % 8 ≤ 6 by omega⟩ i j).trans ?_
      rw [blk_part, Finset.sum_range_succ]
      refine congrArg₂ (fun a b : EReal => a + b) ((ih (by omega) (by omega) i j).trans ?_) rfl
      rw [e, show row ⟨n, by omega⟩ i = row ⟨n + 1, hn⟩ i from Fin.ext (by unfold row; dsimp only; omega),
        show col ⟨n, by omega⟩ j = col ⟨n + 1, hn⟩ j from rfl]

theorem flush_last : ∀ t : Fin cfg0.N, (cfg0.win 2).flush t = true → t.val % 8 = 7 := (by decide +kernel : ∀ t : Fin grid0.N, _)

theorem out_at (t : Fin cfg0.N) (h : t.val % 8 = 7) (i : Fin 1024) (j : Fin 3328) : (outsAt0 m c t.val t.isLt).1 (ix2 i j)
      = whole (X0 m c) (X1 m c) (row t i) (col t j) := by
  obtain ⟨n, hn⟩ := t
  obtain ⟨n, rfl⟩ : ∃ q, n = q + 1 := ⟨n - 1, by dsimp only at h; omega⟩
  dsimp only at h
  have e : (n + 1) % 8 = n % 8 + 1 := by omega
  refine (out_last m c ⟨n + 1, hn⟩ h i j).trans ?_
  rw [blk_part, ← parts, Finset.sum_range_succ]
  refine congrArg₂ (fun a b : EReal => a + b) ((acc_at m c n (by omega) (by omega) i j).trans ?_) (congrArg (part _ _ _ _) h)
  rw [show n % 8 + 1 = 7 by omega, show row ⟨n, by omega⟩ i = row ⟨n + 1, hn⟩ i from Fin.ext (by unfold row; dsimp only; omega),
    show col ⟨n, by omega⟩ j = col ⟨n + 1, hn⟩ j from rfl]

theorem whole_congr (A : FVec Ideal S8192x2048 .bf16) (B : FVec Ideal S8192x3328 .bf16) {r r' : Fin 2048} {f f' : Fin 3328}
    (hr : r.val = r'.val) (hf : f.val = f'.val) : whole A B r f = whole A B r' f' := by
  rw [Fin.ext hr, Fin.ext hf]

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S2048x3328 .bf16)
    (by decide +kernel) fun t hf y => ?_
  blk_simp
  rw [after0_2]
  have e : y = ix2 (y 0) (y 1) := by idx_ext <;> rfl
  rw [e]
  refine (out_at m c t (flush_last t hf) (y 0) (y 1)).trans ?_
  unfold row col
  refine whole_congr _ _ ?_ ?_
  all_goals blk_simp [idx t]
end

theorem ref_eq (a : FVec Ideal S8192x2048 .bf16) (b : FVec Ideal S8192x3328 .bf16) :
    (fun i => whole a b (i 0) (i 1) : FVec Ideal S2048x3328 .bf16) = Cert.DwinReferenceIdeal.Read.val_main_v6 (F := Ideal) a b := by
  funext i
  refine Eq.symm ((Cert.DwinReferenceIdeal.Read.val_main_v5_apply (F := Ideal) a b i).trans ((Cert.DwinReferenceIdeal.Read.val_main_v4_apply a b _).trans ?_))
  unfold whole
  refine Finset.sum_congr rfl fun k _ => (congrArg₂ (fun a b : EReal => a * b) (congrArg b ?_) (congrArg a ?_)).trans (mul_comm _ _)
  all_goals
    funext q
    match q with
    | ⟨0, _⟩ => rfl
    | ⟨1, _⟩ => rfl

theorem algebraic : Cert.algebraic_DwinIdeal_DwinReferenceIdeal := by
  intro m g m' g' _ agree
  refine ⟨fun c => Cert.DwinReferenceIdeal.Read.val_main_v6 (F := Ideal) (X0 m c) (X1 m c), ?_, ?_⟩
  · refine (θ_run _ _ _).mono (fun r h c => ?_) (Cert.DwinIdeal.Value.run_blocks m g)
    obtain ⟨h0, hargs⟩ := h c
    exact ⟨h0.trans ((arr m c).trans (ref_eq _ _)), hargs⟩
  · refine (θ_run _ _ _).mono (fun r h c => ?_) (Cert.DwinReferenceIdeal.Value.run (F := Ideal) m' g')
    obtain ⟨a0, a1⟩ := agree c
    obtain ⟨h0, hargs⟩ := h c
    refine ⟨h0.trans ((Cert.DwinReferenceIdeal.Read.val_main_v6_eq (F := Ideal) _ _).trans ?_), hargs⟩
    exact congrArg₂ (Cert.DwinReferenceIdeal.Read.val_main_v6 (F := Ideal)) a0 a1

end Dwin

end
-- ==== Proof.Down.Value.lean ====
/-
  The second product of a feed-forward half, halved and added to the residual stream.
-/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import Idealize.ShloMosaic.Lib.Pointwise
public import Idealize.ShloMosaic.Lib.Pipeline.ValueKit

@[expose] public section

set_option maxRecDepth 16384

noncomputable section

namespace Down

open Idealize.ShloMosaic Idealize.ShloMosaic.TcCoe Idealize.SL.Sem
open Cert.DownIdeal Cert.DownIdeal.Gen

attribute [local instance] Cert.Down.Gen.facts Cert.DownIdeal.Gen.facts Cert.DownReferenceIdeal.Gen.facts

theorem frame_kernel : Cert.quiescent_Down := fun m ρ _ => Cert.Down.Gen.frame m ρ

theorem frame_kernelIdeal : Cert.quiescent_DownIdeal := fun m ρ _ => Cert.DownIdeal.Gen.frame m ρ

theorem frame_reference : Cert.quiescent_DownReferenceIdeal := fun m ρ _ =>
  (θ_run Cert.DownReferenceIdeal.defs _ _).mono (fun r h => ⟨fun c => (h c).2, sem_eq_zero_of_no_sems rfl r.2⟩) (Cert.DownReferenceIdeal.Value.run (F := Ideal) m ρ)

/-- One half. -/
def half : EReal := Ideal.ofBits .f32 0x3F000000#32

theorem pay_at (a : Vec Ideal S512x5632 .bf16) (b : Vec Ideal S5632x1024 .bf16) (h : Vec Ideal S512x1024 .f32) (i : Fin 512) (j : Fin 1024) :
    k0_pay1 (F := Ideal) a b h (ix2 i j) = h (ix2 i j) + (∑ k : Fin 5632, a (ix2 i k) * b (ix2 k j)) * half := by
  unfold half
  pointwise [k0_pay1]

/-- An entry of the product. -/
def whole (A : FVec Ideal S8192x5632 .bf16) (B : FVec Ideal S5632x2048 .bf16) (t : Fin 8192) (r : Fin 2048) : EReal := ∑ k : Fin 5632, A (ix2 t k) * B (ix2 k r)

/-- An entry of the residual stream after the half. -/
def after (A : FVec Ideal S8192x5632 .bf16) (B : FVec Ideal S5632x2048 .bf16) (H : FVec Ideal S8192x2048 .f32) (t : Fin 8192) (r : Fin 2048) : EReal :=
  H (ix2 t r) + whole A B t r * half

section
variable (m : (ℓ : Loc nD τ sig) → Buf (Elt Ideal) ℓ) (c : Dev nD)

def X0 : FVec Ideal S8192x5632 .bf16 := m ((c.tc : Thread nD τ).loc main_arg0)
def X1 : FVec Ideal S5632x2048 .bf16 := m ((c.tc : Thread nD τ).loc main_arg1)
def X2 : FVec Ideal S8192x2048 .f32 := m ((c.tc : Thread nD τ).loc main_arg2)

theorem idx : ∀ t : Fin cfg0.N, win0_0.index t = ![(grid0.coords t 1).val, 0] ∧ win0_1.index t = ![0, (grid0.coords t 0).val]
    ∧ win0_2.index t = ![(grid0.coords t 1).val, (grid0.coords t 0).val] ∧ win0_3.index t = ![(grid0.coords t 1).val, (grid0.coords t 0).val] :=
  (by decide +kernel : ∀ t : Fin grid0.N, _)

theorem arr : (dats m 0 c).arrAt 3 cfg0.N = fun i => after (X0 m c) (X1 m c) (X2 m c) (i 0) (i 1) := by
  refine (dats m 0 c).arrAt_eq_of_covers 3 (fun i => after (X0 m c) (X1 m c) (X2 m c) (i 0) (i 1) : FVec Ideal S8192x2048 .f32)
    (by decide +kernel) fun t hf y => ?_
  blk_simp
  rw [after0_3]
  frame_out
  have e : y = ix2 (y 0) (y 1) := by idx_ext <;> rfl
  rw [e]
  refine (pay_at _ _ _ (y 0) (y 1)).trans ?_
  unfold after whole X0 X1 X2
  refine congrArg₂ (fun a b : EReal => a + b * half) ?_ ?_
  · blk_point [iblk, V, idx t]
  · blk_point [iblk, V, idx t]
end

theorem ref_eq (a : FVec Ideal S8192x5632 .bf16) (b : FVec Ideal S5632x2048 .bf16) (h : FVec Ideal S8192x2048 .f32) :
    (fun i => after a b h (i 0) (i 1) : FVec Ideal S8192x2048 .f32) = Cert.DownReferenceIdeal.Read.val_main_v5 (F := Ideal) a b h := by
  funext i
  refine Eq.symm ((Cert.DownReferenceIdeal.Read.val_main_v5_apply (F := Ideal) a b h i).trans ?_)
  unfold after
  refine congrArg₂ (fun a b : EReal => a + b) (congrArg h (by idx_ext <;> rfl)) ?_
  refine ((Cert.DownReferenceIdeal.Read.val_main_v4_apply (F := Ideal) a b i).trans (?_ : _ = half * whole a b (i 0) (i 1))).trans (mul_comm _ _)
  refine congrArg₂ (fun a b : EReal => a * b) ((Cert.DownReferenceIdeal.Read.val_main_v3_apply (F := Ideal) i).trans (Cert.DownReferenceIdeal.Read.val_main_cst_apply (F := Ideal) _)) ?_
  refine (Cert.DownReferenceIdeal.Read.val_main_v2_apply a b i).trans ?_
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem v5_congr (a a' : FVec Ideal S8192x5632 .bf16) (b b' : FVec Ideal S5632x2048 .bf16) (h h' : FVec Ideal S8192x2048 .f32) (h0 : a' = a) (h1 : b' = b) (h2 : h' = h) :
    Cert.DownReferenceIdeal.Read.val_main_v5 (F := Ideal) a' b' h' = Cert.DownReferenceIdeal.Read.val_main_v5 (F := Ideal) a b h := by rw [h0, h1, h2]

theorem algebraic : Cert.algebraic_DownIdeal_DownReferenceIdeal := by
  intro m g m' g' _ agree
  refine ⟨fun c => Cert.DownReferenceIdeal.Read.val_main_v5 (F := Ideal) (X0 m c) (X1 m c) (X2 m c), ?_, ?_⟩
  · refine (θ_run _ _ _).mono (fun r h c => ?_) (Cert.DownIdeal.Value.run_blocks m g)
    obtain ⟨h0, hargs⟩ := h c
    exact ⟨h0.trans ((arr m c).trans (ref_eq _ _ _)), hargs⟩
  · refine (θ_run _ _ _).mono (fun r h c => ?_) (Cert.DownReferenceIdeal.Value.run (F := Ideal) m' g')
    obtain ⟨a0, a1, a2⟩ := agree c
    obtain ⟨h0, hargs⟩ := h c
    exact ⟨h0.trans ((Cert.DownReferenceIdeal.Read.val_main_v5_eq (F := Ideal) _ _ _).trans (v5_congr _ _ _ _ _ _ a0 a1 a2)), hargs⟩

end Down

end
-- ==== Proof.Win.Value.lean ====
/-
  The product of the mixers' normed input with w_in.
-/
module

public import proofs.«01_k».proof.Defs
public import proofs.«01_k».proof.Proof.Gen.Win.Frame
public import proofs.«01_k».proof.Proof.Gen.WinIdeal.Frame
public import proofs.«01_k».proof.Proof.Gen.WinIdeal.Value
public import proofs.«01_k».proof.Proof.Gen.WinReferenceIdeal.Run
public import proofs.«01_k».proof.Proof.Gen.WinReferenceIdeal.Read
public import Idealize.ShloMosaic.Lib.Pointwise
public import Idealize.ShloMosaic.Lib.Pipeline.ValueKit

@[expose] public section

set_option maxRecDepth 16384

noncomputable section

namespace Win

open Idealize.ShloMosaic Idealize.ShloMosaic.TcCoe Idealize.SL.Sem
open Cert.WinIdeal Cert.WinIdeal.Gen

attribute [local instance] Cert.Win.Gen.facts Cert.WinIdeal.Gen.facts Cert.WinReferenceIdeal.Gen.facts

theorem frame_kernel : Cert.quiescent_Win := fun m ρ _ => Cert.Win.Gen.frame m ρ

theorem frame_kernelIdeal : Cert.quiescent_WinIdeal := fun m ρ _ => Cert.WinIdeal.Gen.frame m ρ

theorem frame_reference : Cert.quiescent_WinReferenceIdeal := fun m ρ _ =>
  (θ_run Cert.WinReferenceIdeal.defs _ _).mono (fun r h => ⟨fun c => (h c).2, sem_eq_zero_of_no_sems rfl r.2⟩) (Cert.WinReferenceIdeal.Value.run (F := Ideal) m ρ)

theorem pay_at (a : Vec Ideal S512x2048 .bf16) (b : Vec Ideal S2048x1664 .bf16) (i : Fin 512) (j : Fin 1664) :
    k0_pay1 (F := Ideal) a b (ix2 i j) = ∑ k : Fin 2048, a (ix2 i k) * b (ix2 k j) := by
  pointwise [k0_pay1]

/-- An entry of the product. -/
def whole (A : FVec Ideal S8192x2048 .bf16) (B : FVec Ideal S2048x3328 .bf16) (t : Fin 8192) (r : Fin 3328) : EReal := ∑ k : Fin 2048, A (ix2 t k) * B (ix2 k r)

section
variable (m : (ℓ : Loc nD τ sig) → Buf (Elt Ideal) ℓ) (c : Dev nD)

def X0 : FVec Ideal S8192x2048 .bf16 := m ((c.tc : Thread nD τ).loc main_arg0)
def X1 : FVec Ideal S2048x3328 .bf16 := m ((c.tc : Thread nD τ).loc main_arg1)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x3328 .f32)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S8192x2048 .bf16) (b : FVec Ideal S2048x3328 .bf16) :
    (fun i => whole a b (i 0) (i 1) : FVec Ideal S8192x3328 .f32) = Cert.WinReferenceIdeal.Read.val_main_v2 (F := Ideal) a b := by
  funext i
  refine Eq.symm ((Cert.WinReferenceIdeal.Read.val_main_v2_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_WinIdeal_WinReferenceIdeal := by
  intro m g m' g' _ agree
  refine ⟨fun c => Cert.WinReferenceIdeal.Read.val_main_v2 (F := Ideal) (X0 m c) (X1 m c), ?_, ?_⟩
  · refine (θ_run _ _ _).mono (fun r h c => ?_) (Cert.WinIdeal.Value.run_blocks m g)
    obtain ⟨h0, hargs⟩ := h c
    exact ⟨h0.trans ((arr m c).trans (ref_eq _ _)), hargs⟩
  · refine (θ_run _ _ _).mono (fun r h c => ?_) (Cert.WinReferenceIdeal.Value.run (F := Ideal) m' g')
    obtain ⟨a0, a1⟩ := agree c
    obtain ⟨h0, hargs⟩ := h c
    refine ⟨h0.trans ((Cert.WinReferenceIdeal.Read.val_main_v2_eq (F := Ideal) _ _).trans ?_), hargs⟩
    exact congrArg₂ (Cert.WinReferenceIdeal.Read.val_main_v2 (F := Ideal)) a0 a1

end Win

end
-- ==== Proof.Wxq.Value.lean ====
/-
  The product of the cross-attention's normed input with w_xq.
-/
module

public import proofs.«01_k».proof.Defs
public import proofs.«01_k».proof.Proof.Gen.Wxq.Frame
public import proofs.«01_k».proof.Proof.Gen.WxqIdeal.Frame
public import proofs.«01_k».proof.Proof.Gen.WxqIdeal.Value
public import proofs.«01_k».proof.Proof.Gen.WxqReferenceIdeal.Run
public import proofs.«01_k».proof.Proof.Gen.WxqReferenceIdeal.Read
public import Idealize.ShloMosaic.Lib.Pointwise
public import Idealize.ShloMosaic.Lib.Pipeline.ValueKit

@[expose] public section

set_option maxRecDepth 16384

noncomputable section

namespace Wxq

open Idealize.ShloMosaic Idealize.ShloMosaic.TcCoe Idealize.SL.Sem
open Cert.WxqIdeal Cert.WxqIdeal.Gen

attribute [local instance] Cert.Wxq.Gen.facts Cert.WxqIdeal.Gen.facts Cert.WxqReferenceIdeal.Gen.facts

theorem frame_kernel : Cert.quiescent_Wxq := fun m ρ _ => Cert.Wxq.Gen.frame m ρ

theorem frame_kernelIdeal : Cert.quiescent_WxqIdeal := fun m ρ _ => Cert.WxqIdeal.Gen.frame m ρ

theorem frame_reference : Cert.quiescent_WxqReferenceIdeal := fun m ρ _ =>
  (θ_run Cert.WxqReferenceIdeal.defs _ _).mono (fun r h => ⟨fun c => (h c).2, sem_eq_zero_of_no_sems rfl r.2⟩) (Cert.WxqReferenceIdeal.Value.run (F := Ideal) m ρ)

theorem pay_at (a : Vec Ideal S1024x2048 .bf16) (b : Vec Ideal S2048x2048 .bf16) (i : Fin 1024) (j : Fin 2048) :
    k0_pay1 (F := Ideal) a b (ix2 i j) = ∑ k : Fin 2048, a (ix2 i k) * b (ix2 k j) := by
  pointwise [k0_pay1]

/-- An entry of the product. -/
def whole (A : FVec Ideal S8192x2048 .bf16) (B : FVec Ideal S2048x2048 .bf16) (t : Fin 8192) (r : Fin 2048) : EReal := ∑ k : Fin 2048, A (ix2 t k) * B (ix2 k r)

section
variable (m : (ℓ : Loc nD τ sig) → Buf (Elt Ideal) ℓ) (c : Dev nD)

def X0 : FVec Ideal S8192x2048 .bf16 := m ((c.tc : Thread nD τ).loc main_arg0)
def X1 : FVec Ideal S2048x2048 .bf16 := m ((c.tc : Thread nD τ).loc main_arg1)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x2048 .bf16)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S8192x2048 .bf16) (b : FVec Ideal S2048x2048 .bf16) :
    (fun i => whole a b (i 0) (i 1) : FVec Ideal S8192x2048 .bf16) = Cert.WxqReferenceIdeal.Read.val_main_v3 (F := Ideal) a b := by
  funext i
  refine Eq.symm ((Cert.WxqReferenceIdeal.Read.val_main_v2_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_WxqIdeal_WxqReferenceIdeal := by
  intro m g m' g' _ agree
  refine ⟨fun c => Cert.WxqReferenceIdeal.Read.val_main_v3 (F := Ideal) (X0 m c) (X1 m c), ?_, ?_⟩
  · refine (θ_run _ _ _).mono (fun r h c => ?_) (Cert.WxqIdeal.Value.run_blocks m g)
    obtain ⟨h0, hargs⟩ := h c
    exact ⟨h0.trans ((arr m c).trans (ref_eq _ _)), hargs⟩
  · refine (θ_run _ _ _).mono (fun r h c => ?_) (Cert.WxqReferenceIdeal.Value.run (F := Ideal) m' g')
    obtain ⟨a0, a1⟩ := agree c
    obtain ⟨h0, hargs⟩ := h c
    refine ⟨h0.trans ((Cert.WxqReferenceIdeal.Read.val_main_v3_eq (F := Ideal) _ _).trans ?_), hargs⟩
    exact congrArg₂ (Cert.WxqReferenceIdeal.Read.val_main_v3 (F := Ideal)) a0 a1

end Wxq

end
-- ==== Proof.Out.Value.lean ====
/-
  A product with an output weight, added to the residual stream, and the norm of the sum.
-/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import Idealize.ShloMosaic.Lib.Pointwise
public import Idealize.ShloMosaic.Lib.Pipeline.ValueKit

@[expose] public section

set_option maxRecDepth 16384

noncomputable section

namespace Out

open Idealize.ShloMosaic Idealize.ShloMosaic.TcCoe Idealize.SL.Sem
open Cert.OutIdeal Cert.OutIdeal.Gen

attribute [local instance] Cert.Out.Gen.facts Cert.OutIdeal.Gen.facts Cert.OutReferenceIdeal.Gen.facts

theorem frame_kernel : Cert.quiescent_Out := fun m ρ _ => Cert.Out.Gen.frame m ρ

theorem frame_kernelIdeal : Cert.quiescent_OutIdeal := fun m ρ _ => Cert.OutIdeal.Gen.frame m ρ

theorem frame_reference : Cert.quiescent_OutReferenceIdeal := fun m ρ _ =>
  (θ_run Cert.OutReferenceIdeal.defs _ _).mono (fun r h => ⟨fun c => (h c).2.2, sem_eq_zero_of_no_sems rfl r.2⟩) (Cert.OutReferenceIdeal.Value.run (F := Ideal) m ρ)

open Cert.OutReferenceIdeal.Read

/-- The constants of the norm: the width, and the term that keeps the root away from zero. -/
def width : EReal := Ideal.ofBits .f32 0x45000000#32
def eps : EReal := Ideal.ofBits .f32 0x3727C5AC#32

theorem zero32 : Ideal.ofBits .f32 0x00000000#32 = 0 := by simp [Ideal.ofBits, Ideal.ieee]

/-- A row's entry, normed: from the row and the entry's gain. -/
def normed (r : Fin 2048 → EReal) (g : EReal) (j : Fin 2048) : EReal := r j * Ideal.rsqrt (Ideal.div (∑ k, r k * r k) width + eps) * g

section
variable (a : Vec Ideal S512x2048 .bf16) (b : Vec Ideal S2048x2048 .bf16) (h : Vec Ideal S512x2048 .f32) (g : Vec Ideal S1x2048 .f32)

theorem pay_at (i : Fin 512) (j : Fin 2048) :
    k0_pay1 (F := Ideal) a b h (ix2 i j) = h (ix2 i j) + ∑ k : Fin 2048, a (ix2 i k) * b (ix2 k j) := by
  pointwise [k0_pay1]

theorem norm_at (i : Fin 512) (j : Fin 2048) :
    k0_pay2 (F := Ideal) a b h g (ix2 i j) = normed (fun k => k0_pay1 (F := Ideal) a b h (ix2 i k)) (g (ix2 0 j)) j := by
  unfold normed width eps k0_pay2
  generalize k0_pay1 (F := Ideal) a b h = p
  pointwise []
end

/-- An entry of the residual stream after the product. -/
def after (A : FVec Ideal S8192x2048 .bf16) (B : FVec Ideal S2048x2048 .bf16) (H : FVec Ideal S8192x2048 .f32) (t : Fin 8192) (r : Fin 2048) : EReal :=
  H (ix2 t r) + ∑ k : Fin 2048, A (ix2 t k) * B (ix2 k r)

section
variable (m : (ℓ : Loc nD τ sig) → Buf (Elt Ideal) ℓ) (c : Dev nD)

def X0 : FVec Ideal S8192x2048 .bf16 := m ((c.tc : Thread nD τ).loc main_arg0)
def X1 : FVec Ideal S2048x2048 .bf16 := m ((c.tc : Thread nD τ).loc main_arg1)
def X2 : FVec Ideal S8192x2048 .f32 := m ((c.tc : Thread nD τ).loc main_arg2)
def X3 : FVec Ideal S1x2048 .f32 := m ((c.tc : Thread nD τ).loc main_arg3)

theorem idx : ∀ t : Fin cfg0.N, win0_0.index t = ![(grid0.coords t 0).val, 0] ∧ win0_1.index t = ![0, 0]
    ∧ win0_2.index t = ![(grid0.coords t 0).val, 0] ∧ win0_3.index t = ![0, 0]
    ∧ win0_4.index t = ![(grid0.coords t 0).val, 0] ∧ win0_5.index t = ![(grid0.coords t 0).val, 0] :=
  (by decide +kernel : ∀ t : Fin grid0.N, _)

theorem lt16 : ∀ t : Fin cfg0.N, (grid0.coords t 0).val < 16 := (by decide +kernel : ∀ t : Fin grid0.N, _)

/-- The row of the arrays of a row of a point's block. -/
def row (t : Fin cfg0.N) (i : Fin 512) : Fin 8192 := ⟨(grid0.coords t 0).val * 512 + i.val, by have := lt16 t; omega⟩

theorem blk_after (t : Fin cfg0.N) (i : Fin 512) (j : Fin 2048) :
    k0_pay1 (F := Ideal) (iblk m c 0 t) (iblk m c 1 t) (iblk m c 2 t) (ix2 i j) = after (X0 m c) (X1 m c) (X2 m c) (row t i) j := by
  refine (pay_at _ _ _ i j).trans ?_
  unfold after X0 X1 X2 row
  refine congrArg₂ (fun a b : EReal => a + b) ?_ (Finset.sum_congr rfl fun k _ => congrArg₂ (fun a b : EReal => a * b) ?_ ?_)
  · blk_ext [iblk, V, idx t]
  · blk_ext [iblk, V, idx t]
  · blk_ext [iblk, V, idx t]

theorem blk_norm (t : Fin cfg0.N) (i : Fin 512) (j : Fin 2048) :
    k0_pay2 (F := Ideal) (iblk m c 0 t) (iblk m c 1 t) (iblk m c 2 t) (iblk m c 3 t) (ix2 i j)
      = normed (after (X0 m c) (X1 m c) (X2 m c) (row t i)) (X3 m c (ix2 0 j)) j := by
  refine (norm_at _ _ _ _ i j).trans ?_
  rw [show (fun k => k0_pay1 (F := Ideal) (iblk m c 0 t) (iblk m c 1 t) (iblk m c 2 t) (ix2 i k)) = after (X0 m c) (X1 m c) (X2 m c) (row t i)
    from funext fun k => blk_after m c t i k]
  refine congrArg (fun e : EReal => normed (after (X0 m c) (X1 m c) (X2 m c) (row t i)) e j) ?_
  unfold X3
  blk_ext [iblk, V, idx t]

theorem after_congr (A : FVec Ideal S8192x2048 .bf16) (B : FVec Ideal S2048x2048 .bf16) (H : FVec Ideal S8192x2048 .f32) {t t' : Fin 8192} {r r' : Fin 2048} (ht : t.val = t'.val) (hr : r.val = r'.val) :
    after A B H t r = after A B H t' r' := by rw [Fin.ext ht, Fin.ext hr]

theorem normed_congr (A : FVec Ideal S8192x2048 .bf16) (B : FVec Ideal S2048x2048 .bf16) (H : FVec Ideal S8192x2048 .f32) (G : FVec Ideal S1x2048 .f32) {t t' : Fin 8192} {r r' : Fin 2048} (ht : t.val = t'.val) (hr : r.val = r'.val) :
    normed (after A B H t) (G (ix2 0 r)) r = normed (after A B H t') (G (ix2 0 r')) r' := by rw [Fin.ext ht, Fin.ext hr]

theorem arr_h : (dats m 0 c).arrAt 4 cfg0.N = fun i => after (X0 m c) (X1 m c) (X2 m c) (i 0) (i 1) := by
  refine (dats m 0 c).arrAt_eq_of_covers 4 (fun i => after (X0 m c) (X1 m c) (X2 m c) (i 0) (i 1) : FVec Ideal S8192x2048 .f32)
    (by decide +kernel) fun t hf y => ?_
  blk_simp
  rw [after0_4]
  frame_out
  have e : y = ix2 (y 0) (y 1) := by idx_ext <;> rfl
  rw [e]
  refine (blk_after m c t (y 0) (y 1)).trans ?_
  unfold row
  refine after_congr _ _ _ ?_ ?_
  all_goals blk_simp [idx t]

theorem arr_n : (dats m 0 c).arrAt 5 cfg0.N = fun i => normed (after (X0 m c) (X1 m c) (X2 m c) (i 0)) (X3 m c (ix2 0 (i 1))) (i 1) := by
  refine (dats m 0 c).arrAt_eq_of_covers 5 (fun i => normed (after (X0 m c) (X1 m c) (X2 m c) (i 0)) (X3 m c (ix2 0 (i 1))) (i 1) : FVec Ideal S8192x2048 .bf16)
    (by decide +kernel) fun t hf y => ?_
  blk_simp
  rw [after0_5]
  frame_out
  have e : y = ix2 (y 0) (y 1) := by idx_ext <;> rfl
  rw [e]
  refine (blk_norm m c t (y 0) (y 1)).trans ?_
  unfold row
  refine normed_congr _ _ _ _ ?_ ?_
  all_goals blk_simp [idx t]
end

section
variable (a : FVec Ideal S8192x2048 .bf16) (b : FVec Ideal S2048x2048 .bf16) (h : FVec Ideal S8192x2048 .f32) (g : FVec Ideal S1x2048 .f32)

theorem ref_at (t : Fin 8192) (r : Fin 2048) : val_main_v3 (F := Ideal) a b h (ix2 t r) = after a b h t r := by
  refine (val_main_v3_apply (F := Ideal) a b h _).trans ?_
  unfold after
  refine congrArg₂ (fun a b : EReal => a + b) rfl ((val_main_v2_apply a b _).trans ?_)
  refine Finset.sum_congr rfl fun k _ => congrArg₂ (fun a b : EReal => a * b) (congrArg a ?_) (congrArg b ?_)
  all_goals
    funext q
    match q with
    | ⟨0, _⟩ => rfl
    | ⟨1, _⟩ => rfl

theorem ref_h : (fun i => after a b h (i 0) (i 1) : FVec Ideal S8192x2048 .f32) = val_main_v3 (F := Ideal) a b h := by
  funext i
  rw [show i = ix2 (i 0) (i 1) by idx_ext <;> rfl]
  exact (ref_at a b h (i 0) (i 1)).symm

/-- The sum of a row's squares. -/
theorem mean_at (t : Fin 8192) : val_main_v5 (F := Ideal) a b h (ix1 t) = ∑ k, after a b h t k * after a b h t k := by
  refine (val_main_v5_apply a b h _).trans ?_
  rw [val_main_cst_apply]
  refine (congrArg₂ (fun a b : EReal => a + b) zero32 (Finset.sum_congr rfl fun k _ => ?_)).trans (zero_add _)
  have e : idx_main_v5 (ix1 t) k = ix2 t k := by
    funext q
    match q with
    | ⟨0, _⟩ => rfl
    | ⟨1, _⟩ => rfl
  rw [e]
  refine (val_main_v4_apply (F := Ideal) a b h _).trans ?_
  rw [ref_at]
  rfl

theorem root_at (t : Fin 8192) : val_main_v11 (F := Ideal) a b h (ix2 t 0) = Ideal.rsqrt (Ideal.div (∑ k, after a b h t k * after a b h t k) width + eps) := by
  refine (val_main_v11_apply (F := Ideal) a b h _).trans (congrArg Ideal.rsqrt ?_)
  refine (val_main_v10_apply (F := Ideal) a b h _).trans (congrArg₂ (fun a b : EReal => a + b) ?_ ?_)
  · refine (val_main_v8_apply (F := Ideal) a b h _).trans (congrArg₂ (fun a b : EReal => Ideal.div a b) ?_ ?_)
    · refine (val_main_v6_apply (F := Ideal) a b h _).trans ((congrArg _ ?_).trans (mean_at a b h t))
      funext q
      match q with
      | ⟨0, _⟩ => rfl
    · exact (val_main_v7_apply (F := Ideal) _).trans (val_main_cst_0_apply (F := Ideal) _)
  · exact (val_main_v9_apply (F := Ideal) _).trans (val_main_cst_1_apply (F := Ideal) _)

theorem ref_n_at (t : Fin 8192) (r : Fin 2048) : val_main_v16 (F := Ideal) a b h g (ix2 t r) = normed (after a b h t) (g (ix2 0 r)) r := by
  refine (val_main_v16_apply (F := Ideal) a b h g _).trans ?_
  refine (val_main_v15_apply (F := Ideal) a b h g _).trans ?_
  unfold normed
  refine congrArg₂ (fun a b : EReal => a * b) ?_ ((val_main_v14_apply (F := Ideal) g _).trans (congrArg g ?_))
  · refine (val_main_v13_apply (F := Ideal) a b h _).trans ?_
    refine congrArg₂ (fun a b : EReal => a * b) (ref_at a b h t r) ?_
    refine (val_main_v12_apply (F := Ideal) a b h _).trans ((congrArg _ ?_).trans (root_at a b h t))
    funext q
    match q with
    | ⟨0, _⟩ => rfl
    | ⟨1, _⟩ => rfl
  · funext q
    match q with
    | ⟨0, _⟩ => rfl
    | ⟨1, _⟩ => rfl

theorem ref_n : (fun i => normed (after a b h (i 0)) (g (ix2 0 (i 1))) (i 1) : FVec Ideal S8192x2048 .bf16) = val_main_v16 (F := Ideal) a b h g := by
  funext i
  rw [show i = ix2 (i 0) (i 1) by idx_ext <;> rfl]
  exact (ref_n_at a b h g (i 0) (i 1)).symm

variable (a' : FVec Ideal S8192x2048 .bf16) (b' : FVec Ideal S2048x2048 .bf16) (h' : FVec Ideal S8192x2048 .f32) (g' : FVec Ideal S1x2048 .f32)

theorem v3_congr (h0 : a' = a) (h1 : b' = b) (h2 : h' = h) :
    val_main_v3 (F := Ideal) a' b' h' = val_main_v3 (F := Ideal) a b h := by rw [h0, h1, h2]

theorem v16_congr (h0 : a' = a) (h1 : b' = b) (h2 : h' = h) (h3 : g' = g) :
    val_main_v16 (F := Ideal) a' b' h' g' = val_main_v16 (F := Ideal) a b h g := by rw [h0, h1, h2, h3]
end

theorem algebraic : Cert.algebraic_OutIdeal_OutReferenceIdeal := by
  intro m g m' g' _ agree
  refine ⟨fun c => val_main_v3 (F := Ideal) (X0 m c) (X1 m c) (X2 m c), fun c => val_main_v16 (F := Ideal) (X0 m c) (X1 m c) (X2 m c) (X3 m c), ?_, ?_⟩
  · refine (θ_run _ _ _).mono (fun r h c => ?_) (Cert.OutIdeal.Value.run_blocks m g)
    obtain ⟨h0, h1, hargs⟩ := h c
    exact ⟨h0.trans ((arr_h m c).trans (ref_h _ _ _)), h1.trans ((arr_n m c).trans (ref_n _ _ _ _)), hargs⟩
  · refine (θ_run _ _ _).mono (fun r h c => ?_) (Cert.OutReferenceIdeal.Value.run (F := Ideal) m' g')
    obtain ⟨a0, a1, a2, a3⟩ := agree c
    obtain ⟨h0, h1, hargs⟩ := h c
    refine ⟨h0.trans ((val_main_v3_eq (F := Ideal) _ _ _).trans ?_), h1.trans ((val_main_v16_eq (F := Ideal) _ _ _ _).trans ?_), hargs⟩
    · exact v3_congr _ _ _ _ _ _ a0 a1 a2
    · exact v16_congr _ _ _ _ _ _ _ _ a0 a1 a2 a3

end Out

end
-- ==== Proof.Wxkv.Value.lean ====
/-
  The product of the normed memory with w_xkv.
-/
module

public import proofs.«01_k».proof.Defs
public import proofs.«01_k».proof.Proof.Gen.Wxkv.Frame
public import proofs.«01_k».proof.Proof.Gen.WxkvIdeal.Frame
public import proofs.«01_k».proof.Proof.Gen.WxkvIdeal.Value
public import proofs.«01_k».proof.Proof.Gen.WxkvReferenceIdeal.Run
public import proofs.«01_k».proof.Proof.Gen.WxkvReferenceIdeal.Read
public import Idealize.ShloMosaic.Lib.Pointwise
public import Idealize.ShloMosaic.Lib.Pipeline.ValueKit

@[expose] public section

set_option maxRecDepth 16384

noncomputable section

namespace Wxkv

open Idealize.ShloMosaic Idealize.ShloMosaic.TcCoe Idealize.SL.Sem
open Cert.WxkvIdeal Cert.WxkvIdeal.Gen

attribute [local instance] Cert.Wxkv.Gen.facts Cert.WxkvIdeal.Gen.facts Cert.WxkvReferenceIdeal.Gen.facts

theorem frame_kernel : Cert.quiescent_Wxkv := fun m ρ _ => Cert.Wxkv.Gen.frame m ρ

theorem frame_kernelIdeal : Cert.quiescent_WxkvIdeal := fun m ρ _ => Cert.WxkvIdeal.Gen.frame m ρ

theorem frame_reference : Cert.quiescent_WxkvReferenceIdeal := fun m ρ _ =>
  (θ_run Cert.WxkvReferenceIdeal.defs _ _).mono (fun r h => ⟨fun c => (h c).2, sem_eq_zero_of_no_sems rfl r.2⟩) (Cert.WxkvReferenceIdeal.Value.run (F := Ideal) m ρ)

theorem pay_at (a : Vec Ideal S256x2048 .bf16) (b : Vec Ideal S2048x1024 .bf16) (i : Fin 256) (j : Fin 1024) :
    k0_pay1 (F := Ideal) a b (ix2 i j) = ∑ k : Fin 2048, a (ix2 i k) * b (ix2 k j) := by
  pointwise [k0_pay1]

/-- An entry of the product. -/
def whole (A : FVec Ideal S256x2048 .bf16) (B : FVec Ideal S2048x4096 .bf16) (t : Fin 256) (r : Fin 4096) : EReal := ∑ k : Fin 2048, A (ix2 t k) * B (ix2 k r)

section
variable (m : (ℓ : Loc nD τ sig) → Buf (Elt Ideal) ℓ) (c : Dev nD)

def X0 : FVec Ideal S256x2048 .bf16 := m ((c.tc : Thread nD τ).loc main_arg0)
def X1 : FVec Ideal S2048x4096 .bf16 := m ((c.tc : Thread nD τ).loc main_arg1)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S256x4096 .f32)
    (by decide +kernel) fun t hf y => ?_
  blk_simp
  rw [after0_2]
  frame_out
  have e : y = ix2 (y 0) (y 1) := by idx_ext <;> rfl
  rw [e]
  refine (pay_at _ _ (y 0) (y 1)).trans ?_
  unfold whole X0 X1
  blk_point [iblk, V, idx t]
end

theorem ref_eq (a : FVec Ideal S256x2048 .bf16) (b : FVec Ideal S2048x4096 .bf16) :
    (fun i => whole a b (i 0) (i 1) : FVec Ideal S256x4096 .f32) = Cert.WxkvReferenceIdeal.Read.val_main_v2 (F := Ideal) a b := by
  funext i
  refine Eq.symm ((Cert.WxkvReferenceIdeal.Read.val_main_v2_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_WxkvIdeal_WxkvReferenceIdeal := by
  intro m g m' g' _ agree
  refine ⟨fun c => Cert.WxkvReferenceIdeal.Read.val_main_v2 (F := Ideal) (X0 m c) (X1 m c), ?_, ?_⟩
  · refine (θ_run _ _ _).mono (fun r h c => ?_) (Cert.WxkvIdeal.Value.run_blocks m g)
    obtain ⟨h0, hargs⟩ := h c
    exact ⟨h0.trans ((arr m c).trans (ref_eq _ _)), hargs⟩
  · refine (θ_run _ _ _).mono (fun r h c => ?_) (Cert.WxkvReferenceIdeal.Value.run (F := Ideal) m' g')
    obtain ⟨a0, a1⟩ := agree c
    obtain ⟨h0, hargs⟩ := h c
    refine ⟨h0.trans ((Cert.WxkvReferenceIdeal.Read.val_main_v2_eq (F := Ideal) _ _).trans ?_), hargs⟩
    exact congrArg₂ (Cert.WxkvReferenceIdeal.Read.val_main_v2 (F := Ideal)) a0 a1

end Wxkv

end
-- ==== Proof.Dwxkv.Value.lean ====
/-
  The gradient of w_xkv, laid out by owner.
-/
module

public import proofs.«01_k».proof.Defs
public import proofs.«01_k».proof.Proof.Gen.Dwxkv.Frame
public import proofs.«01_k».proof.Proof.Gen.DwxkvIdeal.Frame
public import proofs.«01_k».proof.Proof.Gen.DwxkvIdeal.Value
public import proofs.«01_k».proof.Proof.Gen.DwxkvReferenceIdeal.Run
public import proofs.«01_k».proof.Proof.Gen.DwxkvReferenceIdeal.Read
public import Idealize.ShloMosaic.Lib.Pointwise
public import Idealize.ShloMosaic.Lib.Pipeline.ValueKit

@[expose] public section

set_option maxRecDepth 16384

noncomputable section

namespace Dwxkv

open Idealize.ShloMosaic Idealize.ShloMosaic.TcCoe Idealize.SL.Sem
open Cert.DwxkvIdeal Cert.DwxkvIdeal.Gen

attribute [local instance] Cert.Dwxkv.Gen.facts Cert.DwxkvIdeal.Gen.facts Cert.DwxkvReferenceIdeal.Gen.facts

theorem frame_kernel : Cert.quiescent_Dwxkv := fun m ρ _ => Cert.Dwxkv.Gen.frame m ρ

theorem frame_kernelIdeal : Cert.quiescent_DwxkvIdeal := fun m ρ _ => Cert.DwxkvIdeal.Gen.frame m ρ

theorem frame_reference : Cert.quiescent_DwxkvReferenceIdeal := fun m ρ _ =>
  (θ_run Cert.DwxkvReferenceIdeal.defs _ _).mono (fun r h => ⟨fun c => (h c).2, sem_eq_zero_of_no_sems rfl r.2⟩) (Cert.DwxkvReferenceIdeal.Value.run (F := Ideal) m ρ)

open Cert.DwxkvReferenceIdeal.Read

theorem pay_at (a : Vec Ideal S256x2048 .bf16) (b : Vec Ideal S256x1024 .bf16) (i : Fin 2048) (j : Fin 1024) :
    k0_pay1 (F := Ideal) a b (ix3 0 i j) = ∑ k : Fin 256, a (ix2 k i) * b (ix2 k j) := by
  pointwise [k0_pay1]

/-- An entry of the product. -/
def whole (A : FVec Ideal S256x2048 .bf16) (B : FVec Ideal S256x4096 .bf16) (r : Fin 2048) (f : Fin 4096) : EReal := ∑ k : Fin 256, A (ix2 k r) * B (ix2 k f)

theorem whole_congr (A : FVec Ideal S256x2048 .bf16) (B : FVec Ideal S256x4096 .bf16) {r r' : Fin 2048} {f f' : Fin 4096} (hr : r.val = r'.val) (hf : f.val = f'.val) :
    whole A B r f = whole A B r' f' := by rw [Fin.ext hr, Fin.ext hf]

section
variable (m : (ℓ : Loc nD τ sig) → Buf (Elt Ideal) ℓ) (c : Dev nD)

def X0 : FVec Ideal S256x2048 .bf16 := m ((c.tc : Thread nD τ).loc main_arg0)
def X1 : FVec Ideal S256x4096 .bf16 := m ((c.tc : Thread nD τ).loc main_arg1)

theorem idx : ∀ t : Fin cfg0.N, win0_0.index t = ![0, 0] ∧ win0_1.index t = ![0, t.val] ∧ win0_2.index t = ![t.val, 0, 0] :=
  (by decide +kernel : ∀ t : Fin grid0.N, _)

theorem ltN (t : Fin cfg0.N) : t.val < 4 := lt_of_lt_of_eq t.isLt N_0

/-- The columns of the array of a point's block. -/
def col (t : Fin cfg0.N) (j : Fin 1024) : Fin 4096 := ⟨t.val * 1024 + j.val, by have := ltN t; omega⟩

theorem blk_whole (t : Fin cfg0.N) (i : Fin 2048) (j : Fin 1024) :
    k0_pay1 (F := Ideal) (iblk m c 0 t) (iblk m c 1 t) (ix3 0 i j) = whole (X0 m c) (X1 m c) i (col t j) := by
  refine (pay_at _ _ i j).trans ?_
  unfold whole X0 X1 col
  refine Finset.sum_congr rfl fun k _ => congrArg₂ (fun a b : EReal => a * b) ?_ ?_
  · blk_ext [iblk, V, idx t]
  · blk_ext [iblk, V, idx t]

theorem arr : (dats m 0 c).arrAt 2 cfg0.N = fun i => whole (X0 m c) (X1 m c) (i 1) ⟨(i 0).val * 1024 + (i 2).val, by
      have h0 : (i 0).val < 4 := (i 0).isLt
      have h2 : (i 2).val < 1024 := (i 2).isLt
      omega⟩ := by
  refine (dats m 0 c).arrAt_eq_of_covers 2 (fun i => whole (X0 m c) (X1 m c) (i 1) ⟨(i 0).val * 1024 + (i 2).val, by
      have h0 : (i 0).val < 4 := (i 0).isLt
      have h2 : (i 2).val < 1024 := (i 2).isLt
      omega⟩ : FVec Ideal S4x2048x1024 .bf16)
    (by decide +kernel) fun t hf y => ?_
  blk_simp
  rw [after0_2]
  frame_out
  have e : y = ix3 0 (y 1) (y 2) := by
    idx_ext <;> first | rfl | exact Subsingleton.elim (α := Fin 1) _ _
  rw [e]
  refine (blk_whole m c t (y 1) (y 2)).trans ?_
  unfold col
  refine whole_congr _ _ ?_ ?_
  all_goals blk_simp [idx t]
end

theorem ref_at (n : FVec Ideal S256x2048 .bf16) (d : FVec Ideal S256x4096 .bf16) (s : Fin 4) (r : Fin 2048) (f : Fin 1024) :
    val_main_v8 (F := Ideal) n d (ix3 s r f) = ∑ k : Fin 256, d (ix2 k ⟨s.val * 1024 + f.val, by omega⟩) * n (ix2 k r) := by
  refine (val_main_v7_apply (F := Ideal) n d _).trans ((val_main_v6_apply (F := Ideal) n d _).trans ((val_main_v5_apply (F := Ideal) n d _).trans ((val_main_v4_apply n d _).trans ?_)))
  refine Finset.sum_congr rfl fun k _ => congrArg₂ (fun a b : EReal => a * b) (congrArg d ?_) (congrArg n ?_)
  · funext q
    refine Fin.ext ?_
    match q with
    | ⟨0, _⟩ => rfl
    | ⟨1, _⟩ =>
      show ((r.val * 4 + s.val) * 1024 + f.val) % 4096 = s.val * 1024 + f.val
      omega
  · funext q
    refine Fin.ext ?_
    match q with
    | ⟨0, _⟩ => rfl
    | ⟨1, _⟩ =>
      show ((r.val * 4 + s.val) * 1024 + f.val) / 4096 = r.val
      omega

theorem ref_eq (n : FVec Ideal S256x2048 .bf16) (d : FVec Ideal S256x4096 .bf16) :
    (fun i => whole n d (i 1) ⟨(i 0).val * 1024 + (i 2).val, by
      have h0 : (i 0).val < 4 := (i 0).isLt
      have h2 : (i 2).val < 1024 := (i 2).isLt
      omega⟩ : FVec Ideal S4x2048x1024 .bf16) = val_main_v8 (F := Ideal) n d := by
  funext i
  refine Eq.trans ?_ ((congrArg (val_main_v8 (F := Ideal) n d) (show i = ix3 (i 0) (i 1) (i 2) by idx_ext <;> rfl)).trans (ref_at n d (i 0) (i 1) (i 2))).symm
  unfold whole
  exact Finset.sum_congr rfl fun k _ => mul_comm _ _

theorem algebraic : Cert.algebraic_DwxkvIdeal_DwxkvReferenceIdeal := by
  intro m g m' g' _ agree
  refine ⟨fun c => Cert.DwxkvReferenceIdeal.Read.val_main_v8 (F := Ideal) (X0 m c) (X1 m c), ?_, ?_⟩
  · refine (θ_run _ _ _).mono (fun r h c => ?_) (Cert.DwxkvIdeal.Value.run_blocks m g)
    obtain ⟨h0, hargs⟩ := h c
    exact ⟨h0.trans ((arr m c).trans (ref_eq _ _)), hargs⟩
  · refine (θ_run _ _ _).mono (fun r h c => ?_) (Cert.DwxkvReferenceIdeal.Value.run (F := Ideal) m' g')
    obtain ⟨a0, a1⟩ := agree c
    obtain ⟨h0, hargs⟩ := h c
    refine ⟨h0.trans ((Cert.DwxkvReferenceIdeal.Read.val_main_v8_eq (F := Ideal) _ _).trans ?_), hargs⟩
    exact congrArg₂ (Cert.DwxkvReferenceIdeal.Read.val_main_v8 (F := Ideal)) a0 a1

end Dwxkv

end
-- ==== Proof.Dmem.Value.lean ====
/-
  The gradient of the normed memory, from the gradient of its product with w_xkv.
-/
module

public import proofs.«01_k».proof.Defs
public import proofs.«01_k».proof.Proof.Gen.Dmem.Frame
public import proofs.«01_k».proof.Proof.Gen.DmemIdeal.Frame
public import proofs.«01_k».proof.Proof.Gen.DmemIdeal.Value
public import proofs.«01_k».proof.Proof.Gen.DmemReferenceIdeal.Run
public import proofs.«01_k».proof.Proof.Gen.DmemReferenceIdeal.Read
public import Idealize.ShloMosaic.Lib.Pointwise
public import Idealize.ShloMosaic.Lib.Pipeline.ValueKit

@[expose] public section

set_option maxRecDepth 16384

noncomputable section

namespace Dmem

open Idealize.ShloMosaic Idealize.ShloMosaic.TcCoe Idealize.SL.Sem
open Cert.DmemIdeal Cert.DmemIdeal.Gen

attribute [local instance] Cert.Dmem.Gen.facts Cert.DmemIdeal.Gen.facts Cert.DmemReferenceIdeal.Gen.facts

theorem frame_kernel : Cert.quiescent_Dmem := fun m ρ _ => Cert.Dmem.Gen.frame m ρ

theorem frame_kernelIdeal : Cert.quiescent_DmemIdeal := fun m ρ _ => Cert.DmemIdeal.Gen.frame m ρ

theorem frame_reference : Cert.quiescent_DmemReferenceIdeal := fun m ρ _ =>
  (θ_run Cert.DmemReferenceIdeal.defs _ _).mono (fun r h => ⟨fun c => (h c).2, sem_eq_zero_of_no_sems rfl r.2⟩) (Cert.DmemReferenceIdeal.Value.run (F := Ideal) m ρ)

section
variable (a : Vec Ideal S256x1024 .bf16) (b : Vec Ideal S2048x1024 .bf16) (acc : Vec Ideal S256x2048 .f32)

/-- An entry of the product of two blocks. -/
def dot (i : Fin 256) (j : Fin 2048) : EReal := ∑ k : Fin 1024, a (ix2 i k) * b (ix2 j k)

theorem first_at (i : Fin 256) (j : Fin 2048) : k0_pay2 (F := Ideal) a b (ix2 i j) = dot a b i j := by
  unfold dot
  pointwise [k0_pay2, k0_pay1]

theorem next_at (i : Fin 256) (j : Fin 2048) : k0_pay3 (F := Ideal) a b acc (ix2 i j) = acc (ix2 i j) + dot a b i j := by
  unfold dot
  pointwise [k0_pay3, k0_pay1]

theorem last_at (i : Fin 256) (j : Fin 2048) : k0_pay4 (F := Ideal) a b acc (ix2 i j) = acc (ix2 i j) + dot a b i j := by
  unfold dot
  pointwise [k0_pay4, k0_pay1]
end

section
variable (m : (ℓ : Loc nD τ sig) → Buf (Elt Ideal) ℓ) (c : Dev nD)

def X0 : FVec Ideal S256x4096 .bf16 := m ((c.tc : Thread nD τ).loc main_arg0)
def X1 : FVec Ideal S2048x4096 .bf16 := m ((c.tc : Thread nD τ).loc main_arg1)

/-- The sum over one block of the contracted axis; zero past the last block. -/
def part (A : FVec Ideal S256x4096 .bf16) (B : FVec Ideal S2048x4096 .bf16) (r : Fin 256) (f : Fin 2048) (s : ℕ) : EReal :=
  if hs : s < 4 then ∑ k : Fin 1024, A (ix2 r ⟨s * 1024 + k.val, by omega⟩) * B (ix2 f ⟨s * 1024 + k.val, by omega⟩) else 0

/-- An entry of the whole product. -/
def whole (A : FVec Ideal S256x4096 .bf16) (B : FVec Ideal S2048x4096 .bf16) (r : Fin 256) (f : Fin 2048) : EReal := ∑ t : Fin 4096, A (ix2 r t) * B (ix2 f t)

theorem parts (A : FVec Ideal S256x4096 .bf16) (B : FVec Ideal S2048x4096 .bf16) (r : Fin 256) (f : Fin 2048) : ∑ s ∈ Finset.range 4, part A B r f s = whole A B r f := by
  unfold whole
  rw [← Fin.sum_mul_add_fin 4 1024 (fun t : Fin 4096 => A (ix2 r t) * B (ix2 f t)), Finset.sum_range]
  refine Finset.sum_congr rfl fun s _ => ?_
  unfold part
  rw [dif_pos s.isLt]

theorem idx : ∀ t : Fin cfg0.N, win0_0.index t = ![0, t.val] ∧ win0_1.index t = ![0, t.val] ∧ win0_2.index t = ![0, 0] :=
  (by decide +kernel : ∀ t : Fin grid0.N, _)

theorem ltN (t : Fin cfg0.N) : t.val < 4 := lt_of_lt_of_eq t.isLt N_0

theorem blk_part (t : Fin cfg0.N) (i : Fin 256) (j : Fin 2048) :
    dot (iblk m c 0 t) (iblk m c 1 t) i j = part (X0 m c) (X1 m c) i j t.val := by
  unfold part
  rw [dif_pos (ltN t)]
  unfold dot X0 X1
  refine Finset.sum_congr rfl fun k _ => congrArg₂ (fun a b : EReal => a * b) ?_ ?_
  · blk_ext [iblk, V, idx t]
  · blk_ext [iblk, V, idx t]

theorem sc_first (t : Fin cfg0.N) (h : t.val = 0) (i : Fin 256) (j : Fin 2048) : (outsAt0 m c t.val t.isLt).2 (ix2 i j)
      = part (X0 m c) (X1 m c) i j t.val := by
  rw [outsAt0_A m c t (by omega) (by omega) (by omega)]
  frame_out
  exact (first_at _ _ i j).trans (blk_part m c t i j)

theorem sc_next (t : Fin cfg0.N) (h : 1 ≤ t.val ∧ t.val ≤ 2) (i : Fin 256) (j : Fin 2048) : (outsAt0 m c t.val t.isLt).2 (ix2 i j)
      = (outsAt0 m c (t.val - 1) (Nat.lt_of_le_of_lt (Nat.sub_le _ _) t.isLt)).2 (ix2 i j) + part (X0 m c) (X1 m c) i j t.val := by
  rw [outsAt0_B m c t (by omega) (by omega) (by omega)]
  frame_out
  exact (next_at _ _ _ i j).trans (congrArg₂ (fun a b : EReal => a + b) (congrFun (Memref.IsWhole.read_unread _ _) _) (blk_part m c t i j))

theorem out_last (t : Fin cfg0.N) (h : t.val = 3) (i : Fin 256) (j : Fin 2048) : (outsAt0 m c t.val t.isLt).1 (ix2 i j)
      = (outsAt0 m c (t.val - 1) (Nat.lt_of_le_of_lt (Nat.sub_le _ _) t.isLt)).2 (ix2 i j) + part (X0 m c) (X1 m c) i j t.val := by
  rw [outsAt0_C m c t (by omega) (by omega) (by omega)]
  frame_out
  exact (last_at _ _ _ i j).trans (congrArg₂ (fun a b : EReal => a + b) (congrFun (Memref.IsWhole.read_unread _ _) _) (blk_part m c t i j))

/-- What the points up to one have summed. -/
theorem acc_at (i : Fin 256) (j : Fin 2048) : ∀ n (hn : n < cfg0.N), n ≤ 2 →
    (outsAt0 m c n hn).2 (ix2 i j) = ∑ s ∈ Finset.range (n + 1), part (X0 m c) (X1 m c) i j s
  | 0, hn, _ => (sc_first m c ⟨0, hn⟩ rfl i j).trans (by rw [Finset.sum_range_one])
  | n + 1, hn, h => by
    refine (sc_next m c ⟨n + 1, hn⟩ ⟨Nat.succ_pos n, h⟩ i j).trans ?_
    rw [Finset.sum_range_succ]
    exact congrArg (fun e : EReal => e + part (X0 m c) (X1 m c) i j (n + 1)) (acc_at i j n (Nat.lt_of_succ_lt hn) (by omega))

theorem out_at (t : Fin cfg0.N) (h : t.val = 3) (i : Fin 256) (j : Fin 2048) : (outsAt0 m c t.val t.isLt).1 (ix2 i j) = whole (X0 m c) (X1 m c) i j := by
  refine (out_last m c t h i j).trans ?_
  rw [acc_at m c i j (t.val - 1) _ (by omega), show t.val - 1 + 1 = 3 by omega, h, ← Finset.sum_range_succ, parts]

theorem last_point : ∀ t : Fin cfg0.N, (cfg0.win 2).flush t = true → t.val = 3 := (by decide +kernel : ∀ t : Fin grid0.N, _)

theorem whole_congr (A : FVec Ideal S256x4096 .bf16) (B : FVec Ideal S2048x4096 .bf16) {r r' : Fin 256} {f f' : Fin 2048} (hr : r.val = r'.val) (hf : f.val = f'.val) :
    whole A B r f = whole A B r' f' := by rw [Fin.ext hr, Fin.ext hf]

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S256x2048 .f32)
    (by decide +kernel) fun t hf y => ?_
  blk_simp
  rw [after0_2]
  have e : y = ix2 (y 0) (y 1) := by idx_ext <;> rfl
  rw [e]
  refine (out_at m c t (last_point t hf) (y 0) (y 1)).trans ?_
  refine whole_congr _ _ ?_ ?_
  all_goals blk_simp [idx t]
end

theorem ref_eq (a : FVec Ideal S256x4096 .bf16) (b : FVec Ideal S2048x4096 .bf16) : (fun i => whole a b (i 0) (i 1) : FVec Ideal S256x2048 .f32) = Cert.DmemReferenceIdeal.Read.val_main_v4 (F := Ideal) a b := by
  funext i
  refine Eq.symm ((Cert.DmemReferenceIdeal.Read.val_main_v4_apply a b i).trans ?_)
  unfold whole
  refine Finset.sum_congr rfl fun k _ => congrArg₂ (fun a b : EReal => a * b) (congrArg a ?_) (congrArg b ?_)
  all_goals
    funext q
    match q with
    | ⟨0, _⟩ => rfl
    | ⟨1, _⟩ => rfl

theorem algebraic : Cert.algebraic_DmemIdeal_DmemReferenceIdeal := by
  intro m g m' g' _ agree
  refine ⟨fun c => Cert.DmemReferenceIdeal.Read.val_main_v4 (F := Ideal) (X0 m c) (X1 m c), ?_, ?_⟩
  · refine (θ_run _ _ _).mono (fun r h c => ?_) (Cert.DmemIdeal.Value.run_blocks m g)
    obtain ⟨h0, hargs⟩ := h c
    exact ⟨h0.trans ((arr m c).trans (ref_eq _ _)), hargs⟩
  · refine (θ_run _ _ _).mono (fun r h c => ?_) (Cert.DmemReferenceIdeal.Value.run (F := Ideal) m' g')
    obtain ⟨a0, a1⟩ := agree c
    obtain ⟨h0, hargs⟩ := h c
    refine ⟨h0.trans ((Cert.DmemReferenceIdeal.Read.val_main_v4_eq (F := Ideal) _ _).trans ?_), hargs⟩
    exact congrArg₂ (Cert.DmemReferenceIdeal.Read.val_main_v4 (F := Ideal)) a0 a1

end Dmem

end
-- ==== Proof.Rms.Math.lean ====
/-
  The norm of a row of the residual stream and its gradient, over the extended reals.
-/
module

public import proofs.«01_k».proof.Proof.Mixer.Spec

@[expose] public section

noncomputable section

namespace Rms

open Idealize.ShloMosaic Mixer.Spec

/-- The constants: the width, and the term that keeps the root away from zero. -/
def width : EReal := Ideal.ofBits .f32 0x45000000#32
def eps : EReal := Ideal.ofBits .f32 0x3727C5AC#32

theorem zero32 : Ideal.ofBits .f32 0x00000000#32 = 0 := by simp [Ideal.ofBits, Ideal.ieee]

theorem width_eq : width = ((2048 : ℝ) : EReal) := by
  unfold width
  simp [Ideal.ofBits, Ideal.ieee, -EReal.coe_mul]; norm_num

/-- A row's mean square, with the constant, and its reciprocal root. -/
def var (x : Fin 2048 → EReal) : EReal := Ideal.div (∑ k, x k * x k) width + eps
def root (x : Fin 2048 → EReal) : EReal := Ideal.rsqrt (var x)

/-- A row's entry, normed: from the row and the entry's gain. -/
def normed (x : Fin 2048 → EReal) (g : EReal) (j : Fin 2048) : EReal := x j * root x * g

/-- The gradient of a row's entry, from the gradient `a` of the row before the gains. -/
def grad (x a : Fin 2048 → EReal) (j : Fin 2048) : EReal :=
  root x * (a j - x j * root x * Ideal.div (∑ k, a k * (x k * root x)) width)

/-- What the gradient takes through the mean square, once. -/
def through (x a : Fin 2048 → EReal) : EReal :=
  Ideal.div ((∑ k, x k * a k) * (Ideal.ofBits .f32 0xBF000000#32 * Ideal.div (root x) (var x))) width

/-- The gradient by the chain rule, the mean square's part twice, is the gradient in one expression. -/
theorem chain (x a : Fin 2048 → EReal) (j : Fin 2048) : a j * root x + x j * through x a + through x a * x j = grad x a j := by
  obtain ⟨e, he, hE⟩ := c_eps
  generalize hw : through x a = w
  generalize hR : root x = R
  generalize hV : var x = V
  unfold grad
  unfold root at hR
  unfold through root at hw
  rw [hV] at hR
  rw [hV, hR] at hw
  rw [show root x = R by unfold root; rw [hV, hR]]
  unfold var at hV
  rw [width_eq, div_real _ _ (by norm_num)] at hV hw
  rw [width_eq, div_real _ _ (by norm_num)]
  rw [show eps = (e : EReal) from hE] at hV
  rw [c_half] at hw
  by_cases hT : ∑ k, x k * x k = ⊤
  · rw [hT, EReal.top_mul_coe_of_pos (by norm_num), EReal.top_add_coe] at hV
    have hR0 : R = 0 := by rw [← hR, ← hV]; rfl
    have hw0 : w = 0 := by
      rw [← hw, hR0, ← hV]
      simp [Ideal.div]
    rw [hR0, hw0]; simp
  · choose b hb using real_of_sum_sq x hT
    have hs : ∑ k, x k * x k = ((∑ k, b k * b k : ℝ) : EReal) := by
      rw [coe_sum]
      exact Finset.sum_congr rfl fun k _ => by rw [hb, EReal.coe_mul]
    have hs0 : 0 ≤ ∑ k, b k * b k := Finset.sum_nonneg fun k _ => mul_self_nonneg _
    rw [hs, ← EReal.coe_mul, ← EReal.coe_add] at hV
    generalize hv : (∑ k, b k * b k) * (2048 : ℝ)⁻¹ + e = v at hV
    have hv0 : 0 < v := by rw [← hv]; positivity
    have hRr : R = (((Real.sqrt v)⁻¹ : ℝ) : EReal) := by
      rw [← hR, ← hV]
      show (if v < 0 then (⊥ : EReal) else if v = 0 then ⊤ else (((Real.sqrt v)⁻¹ : ℝ) : EReal)) = _
      rw [if_neg (not_lt.mpr hv0.le), if_neg hv0.ne']
    generalize hρ : (Real.sqrt v)⁻¹ = ρ at hRr
    have hρ0 : 0 ≤ ρ := by rw [← hρ]; positivity
    have hρ2 : ρ * v⁻¹ = ρ * ρ * ρ := by
      have : ρ * ρ = v⁻¹ := by rw [← hρ, ← mul_inv, Real.mul_self_sqrt hv0.le]
      rw [mul_assoc, this]
    generalize hT' : ∑ k, x k * a k = T at hw
    have hsum : ∑ k, a k * (x k * R) = (ρ : EReal) * T := by
      rw [← hT', mul_sum_real _ hρ0, hRr]
      exact Finset.sum_congr rfl fun k _ => by ac_rfl
    rw [hsum, hRr, mul_sub_real _ hρ0]
    have hw' : w = ((-(1 / 2) : ℝ) : EReal) * (T * (((ρ * ρ * ρ : ℝ) : EReal) * (((2048 : ℝ)⁻¹ : ℝ) : EReal))) := by
      rw [← hw, hRr, ← hV, div_real _ _ hv0.ne', ← EReal.coe_mul ρ, hρ2]; ac_rfl
    have e1 : x j * w = ((-(1 / 2) : ℝ) : EReal) * (x j * (T * (((ρ * ρ * ρ : ℝ) : EReal) * (((2048 : ℝ)⁻¹ : ℝ) : EReal)))) := by
      rw [hw']; ac_rfl
    have e2 : w * x j = ((-(1 / 2) : ℝ) : EReal) * (x j * (T * (((ρ * ρ * ρ : ℝ) : EReal) * (((2048 : ℝ)⁻¹ : ℝ) : EReal)))) := by
      rw [hw']; ac_rfl
    rw [e1, e2, add_assoc, half_add_half, ← sub_eq_add_neg]
    congr 1
    · ac_rfl
    · rw [EReal.coe_mul, EReal.coe_mul]; ac_rfl

end Rms

end
-- ==== Proof.Norm.Value.lean ====
/-
  A norm of the residual stream.
-/
module

public import proofs.«01_k».proof.Defs
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal.Run
public import proofs.«01_k».proof.Proof.Gen.NormReferenceIdeal.Read
public import Idealize.ShloMosaic.Lib.Pointwise
public import proofs.«01_k».proof.Proof.Rms.Math
public import Idealize.ShloMosaic.Lib.Pipeline.ValueKit

@[expose] public section

set_option maxRecDepth 16384

noncomputable section

namespace Norm

open Idealize.ShloMosaic Idealize.ShloMosaic.TcCoe Idealize.SL.Sem
open Cert.NormIdeal Cert.NormIdeal.Gen

attribute [local instance] Cert.Norm.Gen.facts Cert.NormIdeal.Gen.facts Cert.NormReferenceIdeal.Gen.facts

theorem frame_kernel : Cert.quiescent_Norm := fun m ρ _ => Cert.Norm.Gen.frame m ρ

theorem frame_kernelIdeal : Cert.quiescent_NormIdeal := fun m ρ _ => Cert.NormIdeal.Gen.frame m ρ

theorem frame_reference : Cert.quiescent_NormReferenceIdeal := fun m ρ _ =>
  (θ_run Cert.NormReferenceIdeal.defs _ _).mono (fun r h => ⟨fun c => (h c).2, sem_eq_zero_of_no_sems rfl r.2⟩) (Cert.NormReferenceIdeal.Value.run (F := Ideal) m ρ)

open Cert.NormReferenceIdeal.Read Rms

theorem norm_at (x : Vec Ideal S512x2048 .f32) (g : Vec Ideal S1x2048 .f32) (i : Fin 512) (j : Fin 2048) :
    k0_pay1 (F := Ideal) x g (ix2 i j) = normed (fun k => x (ix2 i k)) (g (ix2 0 j)) j := by
  unfold normed root var width eps
  pointwise [k0_pay1]

section
variable (m : (ℓ : Loc nD τ sig) → Buf (Elt Ideal) ℓ) (c : Dev nD)

def X0 : FVec Ideal S8192x2048 .f32 := m ((c.tc : Thread nD τ).loc main_arg0)
def X1 : FVec Ideal S1x2048 .f32 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem ltN (t : Fin cfg0.N) : t.val < 16 := lt_of_lt_of_eq t.isLt N_0

/-- The row of the arrays of a row of a point's block. -/
def row (t : Fin cfg0.N) (i : Fin 512) : Fin 8192 := ⟨t.val * 512 + i.val, by have := ltN t; omega⟩

/-- An entry of the normed stream. -/
def whole (x : FVec Ideal S8192x2048 .f32) (g : FVec Ideal S1x2048 .f32) (t : Fin 8192) (r : Fin 2048) : EReal := normed (fun k => x (ix2 t k)) (g (ix2 0 r)) r

theorem blk_row (t : Fin cfg0.N) (i : Fin 512) : (fun k => iblk m c 0 t (ix2 i k) : Fin 2048 → EReal) = fun k => X0 m c (ix2 (row t i) k) := by
  funext k
  unfold X0 row
  blk_ext [iblk, V, idx t]

theorem blk_whole (t : Fin cfg0.N) (i : Fin 512) (j : Fin 2048) :
    k0_pay1 (F := Ideal) (iblk m c 0 t) (iblk m c 1 t) (ix2 i j) = whole (X0 m c) (X1 m c) (row t i) j := by
  refine (norm_at _ _ i j).trans ?_
  unfold whole
  refine congrArg₂ (fun x g => normed x g j) (blk_row m c t i) ?_
  unfold X1
  blk_ext [iblk, V, idx t]

theorem whole_congr (x : FVec Ideal S8192x2048 .f32) (g : FVec Ideal S1x2048 .f32) {t t' : Fin 8192} {r r' : Fin 2048} (ht : t.val = t'.val) (hr : r.val = r'.val) :
    whole x g t r = whole x g t' r' := by rw [Fin.ext ht, Fin.ext hr]

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S8192x2048 .bf16)
    (by decide +kernel) fun t hf y => ?_
  blk_simp
  rw [after0_2]
  frame_out
  have e : y = ix2 (y 0) (y 1) := by idx_ext <;> rfl
  rw [e]
  refine (blk_whole m c t (y 0) (y 1)).trans ?_
  unfold row
  refine whole_congr _ _ ?_ ?_
  all_goals blk_simp [idx t]
end

section
variable (x : FVec Ideal S8192x2048 .f32) (g : FVec Ideal S1x2048 .f32)

theorem sq_at (t : Fin 8192) : val_main_v1 (F := Ideal) x (ix1 t) = ∑ k, x (ix2 t k) * x (ix2 t k) := by
  refine (val_main_v1_apply x _).trans ?_
  rw [val_main_cst_apply]
  refine (congrArg₂ (fun a b : EReal => a + b) zero32 (Finset.sum_congr rfl fun k _ => ?_)).trans (zero_add _)
  have e : idx_main_v1 (ix1 t) k = ix2 t k := by
    funext q
    match q with
    | ⟨0, _⟩ => rfl
    | ⟨1, _⟩ => rfl
  rw [e]
  exact val_main_v0_apply (F := Ideal) x _

theorem root_at (t : Fin 8192) : val_main_v7 (F := Ideal) x (ix2 t 0) = root (fun k => x (ix2 t k)) := by
  refine (val_main_v7_apply (F := Ideal) x _).trans (congrArg Ideal.rsqrt ((val_main_v6_apply (F := Ideal) x _).trans ?_))
  unfold var
  refine congrArg₂ (fun a b : EReal => a + b) ?_ ((val_main_v5_apply (F := Ideal) _).trans (val_main_cst_1_apply (F := Ideal) _))
  refine (val_main_v4_apply (F := Ideal) x _).trans (congrArg₂ (fun a b : EReal => Ideal.div a b) ?_ ((val_main_v3_apply (F := Ideal) _).trans (val_main_cst_0_apply (F := Ideal) _)))
  refine (val_main_v2_apply (F := Ideal) x _).trans ((congrArg _ ?_).trans (sq_at x t))
  funext q
  match q with
  | ⟨0, _⟩ => rfl

theorem ref_at (t : Fin 8192) (r : Fin 2048) : val_main_v12 (F := Ideal) x g (ix2 t r) = whole x g t r := by
  refine (val_main_v12_apply (F := Ideal) x g _).trans ((val_main_v11_apply (F := Ideal) x g _).trans ?_)
  unfold whole normed
  refine congrArg₂ (fun a b : EReal => a * b) ?_ ((val_main_v10_apply (F := Ideal) g _).trans (congrArg g ?_))
  · refine (val_main_v9_apply (F := Ideal) x _).trans (congrArg (fun e : EReal => x (ix2 t r) * e) ?_)
    refine (val_main_v8_apply (F := Ideal) x _).trans ((congrArg _ ?_).trans (root_at x t))
    funext q
    match q with
    | ⟨0, _⟩ => rfl
    | ⟨1, _⟩ => rfl
  · funext q
    match q with
    | ⟨0, _⟩ => rfl
    | ⟨1, _⟩ => rfl

theorem ref_eq : (fun i => whole x g (i 0) (i 1) : FVec Ideal S8192x2048 .bf16) = val_main_v12 (F := Ideal) x g := by
  funext i
  rw [show i = ix2 (i 0) (i 1) by idx_ext <;> rfl]
  exact (ref_at x g (i 0) (i 1)).symm
end

theorem algebraic : Cert.algebraic_NormIdeal_NormReferenceIdeal := by
  intro m g m' g' _ agree
  refine ⟨fun c => Cert.NormReferenceIdeal.Read.val_main_v12 (F := Ideal) (X0 m c) (X1 m c), ?_, ?_⟩
  · refine (θ_run _ _ _).mono (fun r h c => ?_) (Cert.NormIdeal.Value.run_blocks m g)
    obtain ⟨h0, hargs⟩ := h c
    exact ⟨h0.trans ((arr m c).trans (ref_eq _ _)), hargs⟩
  · refine (θ_run _ _ _).mono (fun r h c => ?_) (Cert.NormReferenceIdeal.Value.run (F := Ideal) m' g')
    obtain ⟨a0, a1⟩ := agree c
    obtain ⟨h0, hargs⟩ := h c
    refine ⟨h0.trans ((Cert.NormReferenceIdeal.Read.val_main_v12_eq (F := Ideal) _ _).trans ?_), hargs⟩
    exact congrArg₂ (Cert.NormReferenceIdeal.Read.val_main_v12 (F := Ideal)) a0 a1

end Norm

end
-- ==== Proof.NormMem.Value.lean ====
/-
  The memory's norm.
-/
module

public import proofs.«01_k».proof.Defs
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemReferenceIdeal.Run
public import proofs.«01_k».proof.Proof.Gen.NormMemReferenceIdeal.Read
public import Idealize.ShloMosaic.Lib.Pointwise
public import proofs.«01_k».proof.Proof.Rms.Math
public import Idealize.ShloMosaic.Lib.Pipeline.ValueKit

@[expose] public section

set_option maxRecDepth 16384

noncomputable section

namespace NormMem

open Idealize.ShloMosaic Idealize.ShloMosaic.TcCoe Idealize.SL.Sem
open Cert.NormMemIdeal Cert.NormMemIdeal.Gen

attribute [local instance] Cert.NormMem.Gen.facts Cert.NormMemIdeal.Gen.facts Cert.NormMemReferenceIdeal.Gen.facts

theorem frame_kernel : Cert.quiescent_NormMem := fun m ρ _ => Cert.NormMem.Gen.frame m ρ

theorem frame_kernelIdeal : Cert.quiescent_NormMemIdeal := fun m ρ _ => Cert.NormMemIdeal.Gen.frame m ρ

theorem frame_reference : Cert.quiescent_NormMemReferenceIdeal := fun m ρ _ =>
  (θ_run Cert.NormMemReferenceIdeal.defs _ _).mono (fun r h => ⟨fun c => (h c).2, sem_eq_zero_of_no_sems rfl r.2⟩) (Cert.NormMemReferenceIdeal.Value.run (F := Ideal) m ρ)

open Cert.NormMemReferenceIdeal.Read Rms

theorem norm_at (x : Vec Ideal S256x2048 .f32) (g : Vec Ideal S1x2048 .f32) (i : Fin 256) (j : Fin 2048) :
    k0_pay1 (F := Ideal) x g (ix2 i j) = normed (fun k => x (ix2 i k)) (g (ix2 0 j)) j := by
  unfold normed root var width eps
  pointwise [k0_pay1]

section
variable (m : (ℓ : Loc nD τ sig) → Buf (Elt Ideal) ℓ) (c : Dev nD)

def X0 : FVec Ideal S256x2048 .f32 := m ((c.tc : Thread nD τ).loc main_arg0)
def X1 : FVec Ideal S1x2048 .f32 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem ltN (t : Fin cfg0.N) : t.val < 1 := lt_of_lt_of_eq t.isLt N_0

/-- The row of the arrays of a row of a point's block. -/
def row (t : Fin cfg0.N) (i : Fin 256) : Fin 256 := ⟨t.val * 256 + i.val, by have := ltN t; omega⟩

/-- An entry of the normed stream. -/
def whole (x : FVec Ideal S256x2048 .f32) (g : FVec Ideal S1x2048 .f32) (t : Fin 256) (r : Fin 2048) : EReal := normed (fun k => x (ix2 t k)) (g (ix2 0 r)) r

theorem blk_row (t : Fin cfg0.N) (i : Fin 256) : (fun k => iblk m c 0 t (ix2 i k) : Fin 2048 → EReal) = fun k => X0 m c (ix2 (row t i) k) := by
  funext k
  unfold X0 row
  blk_ext [iblk, V, idx t]

theorem blk_whole (t : Fin cfg0.N) (i : Fin 256) (j : Fin 2048) :
    k0_pay1 (F := Ideal) (iblk m c 0 t) (iblk m c 1 t) (ix2 i j) = whole (X0 m c) (X1 m c) (row t i) j := by
  refine (norm_at _ _ i j).trans ?_
  unfold whole
  refine congrArg₂ (fun x g => normed x g j) (blk_row m c t i) ?_
  unfold X1
  blk_ext [iblk, V, idx t]

theorem whole_congr (x : FVec Ideal S256x2048 .f32) (g : FVec Ideal S1x2048 .f32) {t t' : Fin 256} {r r' : Fin 2048} (ht : t.val = t'.val) (hr : r.val = r'.val) :
    whole x g t r = whole x g t' r' := by rw [Fin.ext ht, Fin.ext hr]

theorem arr : (dats m 0 c).arrAt 2 cfg0.N = fun i => whole (X0 m c) (X1 m c) (i 0) (i 1) := by
  refine (dats m 0 c).arrAt_eq_of_covers 2 (fun i => whole (X0 m c) (X1 m c) (i 0) (i 1) : FVec Ideal S256x2048 .bf16)
    (by decide +kernel) fun t hf y => ?_
  blk_simp
  rw [after0_2]
  frame_out
  have e : y = ix2 (y 0) (y 1) := by idx_ext <;> rfl
  rw [e]
  refine (blk_whole m c t (y 0) (y 1)).trans ?_
  unfold row
  refine whole_congr _ _ ?_ ?_
  all_goals blk_simp [idx t]
end

section
variable (x : FVec Ideal S256x2048 .f32) (g : FVec Ideal S1x2048 .f32)

theorem sq_at (t : Fin 256) : val_main_v1 (F := Ideal) x (ix1 t) = ∑ k, x (ix2 t k) * x (ix2 t k) := by
  refine (val_main_v1_apply x _).trans ?_
  rw [val_main_cst_apply]
  refine (congrArg₂ (fun a b : EReal => a + b) zero32 (Finset.sum_congr rfl fun k _ => ?_)).trans (zero_add _)
  have e : idx_main_v1 (ix1 t) k = ix2 t k := by
    funext q
    match q with
    | ⟨0, _⟩ => rfl
    | ⟨1, _⟩ => rfl
  rw [e]
  exact val_main_v0_apply (F := Ideal) x _

theorem root_at (t : Fin 256) : val_main_v7 (F := Ideal) x (ix2 t 0) = root (fun k => x (ix2 t k)) := by
  refine (val_main_v7_apply (F := Ideal) x _).trans (congrArg Ideal.rsqrt ((val_main_v6_apply (F := Ideal) x _).trans ?_))
  unfold var
  refine congrArg₂ (fun a b : EReal => a + b) ?_ ((val_main_v5_apply (F := Ideal) _).trans (val_main_cst_1_apply (F := Ideal) _))
  refine (val_main_v4_apply (F := Ideal) x _).trans (congrArg₂ (fun a b : EReal => Ideal.div a b) ?_ ((val_main_v3_apply (F := Ideal) _).trans (val_main_cst_0_apply (F := Ideal) _)))
  refine (val_main_v2_apply (F := Ideal) x _).trans ((congrArg _ ?_).trans (sq_at x t))
  funext q
  match q with
  | ⟨0, _⟩ => rfl

theorem ref_at (t : Fin 256) (r : Fin 2048) : val_main_v12 (F := Ideal) x g (ix2 t r) = whole x g t r := by
  refine (val_main_v12_apply (F := Ideal) x g _).trans ((val_main_v11_apply (F := Ideal) x g _).trans ?_)
  unfold whole normed
  refine congrArg₂ (fun a b : EReal => a * b) ?_ ((val_main_v10_apply (F := Ideal) g _).trans (congrArg g ?_))
  · refine (val_main_v9_apply (F := Ideal) x _).trans (congrArg (fun e : EReal => x (ix2 t r) * e) ?_)
    refine (val_main_v8_apply (F := Ideal) x _).trans ((congrArg _ ?_).trans (root_at x t))
    funext q
    match q with
    | ⟨0, _⟩ => rfl
    | ⟨1, _⟩ => rfl
  · funext q
    match q with
    | ⟨0, _⟩ => rfl
    | ⟨1, _⟩ => rfl

theorem ref_eq : (fun i => whole x g (i 0) (i 1) : FVec Ideal S256x2048 .bf16) = val_main_v12 (F := Ideal) x g := by
  funext i
  rw [show i = ix2 (i 0) (i 1) by idx_ext <;> rfl]
  exact (ref_at x g (i 0) (i 1)).symm
end

theorem algebraic : Cert.algebraic_NormMemIdeal_NormMemReferenceIdeal := by
  intro m g m' g' _ agree
  refine ⟨fun c => Cert.NormMemReferenceIdeal.Read.val_main_v12 (F := Ideal) (X0 m c) (X1 m c), ?_, ?_⟩
  · refine (θ_run _ _ _).mono (fun r h c => ?_) (Cert.NormMemIdeal.Value.run_blocks m g)
    obtain ⟨h0, hargs⟩ := h c
    exact ⟨h0.trans ((arr m c).trans (ref_eq _ _)), hargs⟩
  · refine (θ_run _ _ _).mono (fun r h c => ?_) (Cert.NormMemReferenceIdeal.Value.run (F := Ideal) m' g')
    obtain ⟨a0, a1⟩ := agree c
    obtain ⟨h0, hargs⟩ := h c
    refine ⟨h0.trans ((Cert.NormMemReferenceIdeal.Read.val_main_v12_eq (F := Ideal) _ _).trans ?_), hargs⟩
    exact congrArg₂ (Cert.NormMemReferenceIdeal.Read.val_main_v12 (F := Ideal)) a0 a1

end NormMem

end
-- ==== Proof.Dnorm.Value.lean ====
/-
  The gradient of a norm of the residual stream, with the stream's own gradient.
-/
module

public import proofs.«01_k».proof.Defs
public import proofs.«01_k».proof.Proof.Gen.Dnorm.Frame
public import proofs.«01_k».proof.Proof.Gen.DnormIdeal.Frame
public import proofs.«01_k».proof.Proof.Gen.DnormIdeal.Value
public import proofs.«01_k».proof.Proof.Gen.DnormReferenceIdeal.Run
public import proofs.«01_k».proof.Proof.Gen.DnormReferenceIdeal.Read
public import Idealize.ShloMosaic.Lib.Pointwise
public import proofs.«01_k».proof.Proof.Rms.Math
public import Idealize.ShloMosaic.Lib.Pipeline.ValueKit

@[expose] public section

set_option maxRecDepth 16384

noncomputable section

namespace Dnorm

open Idealize.ShloMosaic Idealize.ShloMosaic.TcCoe Idealize.SL.Sem
open Cert.DnormIdeal Cert.DnormIdeal.Gen

attribute [local instance] Cert.Dnorm.Gen.facts Cert.DnormIdeal.Gen.facts Cert.DnormReferenceIdeal.Gen.facts

theorem frame_kernel : Cert.quiescent_Dnorm := fun m ρ _ => Cert.Dnorm.Gen.frame m ρ

theorem frame_kernelIdeal : Cert.quiescent_DnormIdeal := fun m ρ _ => Cert.DnormIdeal.Gen.frame m ρ

theorem frame_reference : Cert.quiescent_DnormReferenceIdeal := fun m ρ _ =>
  (θ_run Cert.DnormReferenceIdeal.defs _ _).mono (fun r h => ⟨fun c => (h c).2.2.2, sem_eq_zero_of_no_sems rfl r.2⟩) (Cert.DnormReferenceIdeal.Value.run (F := Ideal) m ρ)

open Cert.DnormReferenceIdeal.Read Rms

abbrev Arr := FVec Ideal S8192x2048 .f32
abbrev Gain := FVec Ideal S1x2048 .f32
abbrev Up := FVec Ideal S8192x2048 .bf16

section
variable (x : Vec Ideal S512x2048 .f32) (g : Vec Ideal S1x2048 .f32) (a : Vec Ideal S512x2048 .bf16) (d : Vec Ideal S512x2048 .f32)

theorem pay_at (i : Fin 512) (j : Fin 2048) : k0_pay5 (F := Ideal) x g a d (ix2 i j)
    = d (ix2 i j) + grad (fun k => x (ix2 i k)) (fun k => a (ix2 i k) * g (ix2 0 k)) j := by
  unfold grad root var width eps
  pointwise [k0_pay5, k0_pay2, k0_pay4, k0_pay3]

theorem gain_at (j : Fin 2048) : k0_pay7 (F := Ideal) x a (ix2 0 j) = ∑ k : Fin 512, a (ix2 k j) * (x (ix2 k j) * root (fun l => x (ix2 k l))) := by
  unfold root var width eps
  pointwise [k0_pay7, k0_pay2, k0_pay4, k0_pay3]

theorem next_at (p q : Vec Ideal S1x2048 .f32) (j : Fin 2048) : k0_pay1 (F := Ideal) p q (ix2 0 j) = q (ix2 0 j) + p (ix2 0 j) := by
  pointwise [k0_pay1]
end

/-- A row's gradient before the gains. -/
def gained (g : Gain) (a : Up) (t : Fin 8192) (k : Fin 2048) : EReal := a (ix2 t k) * g (ix2 0 k)

/-- An entry of the stream's gradient. -/
def whole (x : Arr) (g : Gain) (a : Up) (d : Arr) (t : Fin 8192) (r : Fin 2048) : EReal :=
  d (ix2 t r) + grad (fun k => x (ix2 t k)) (gained g a t) r

/-- A token's share of a gain's gradient. -/
def share (x : Arr) (a : Up) (r : Fin 2048) (t : Fin 8192) : EReal := a (ix2 t r) * (x (ix2 t r) * root (fun k => x (ix2 t k)))

section
variable (m : (ℓ : Loc nD τ sig) → Buf (Elt Ideal) ℓ) (c : Dev nD)

def X0 : Arr := m ((c.tc : Thread nD τ).loc main_arg0)
def X1 : Gain := m ((c.tc : Thread nD τ).loc main_arg1)
def X2 : Up := m ((c.tc : Thread nD τ).loc main_arg2)
def X3 : Arr := m ((c.tc : Thread nD τ).loc main_arg3)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

theorem ltN (t : Fin cfg0.N) : t.val < 16 := lt_of_lt_of_eq t.isLt N_0

/-- The row of the arrays of a row of a point's block. -/
def row (t : Fin cfg0.N) (i : Fin 512) : Fin 8192 := ⟨t.val * 512 + i.val, by have := ltN t; omega⟩

theorem blk_row (t : Fin cfg0.N) (i : Fin 512) : (fun k => iblk m c 0 t (ix2 i k) : Fin 2048 → EReal) = fun k => X0 m c (ix2 (row t i) k) := by
  funext k
  unfold X0 row
  blk_ext [iblk, V, idx t]

theorem blk_gained (t : Fin cfg0.N) (i : Fin 512) :
    (fun (a : Vec Ideal S512x2048 .bf16) (g : Vec Ideal S1x2048 .f32) => (fun k => a (ix2 i k) * g (ix2 0 k) : Fin 2048 → EReal)) (iblk m c 2 t) (iblk m c 1 t) = gained (X1 m c) (X2 m c) (row t i) := by
  funext k
  unfold gained X1 X2 row
  refine congrArg₂ (fun a b : EReal => a * b) ?_ ?_
  · blk_ext [iblk, V, idx t]
  · blk_ext [iblk, V, idx t]

theorem blk_whole (t : Fin cfg0.N) (i : Fin 512) (j : Fin 2048) :
    k0_pay5 (F := Ideal) (iblk m c 0 t) (iblk m c 1 t) (iblk m c 2 t) (iblk m c 3 t) (ix2 i j) = whole (X0 m c) (X1 m c) (X2 m c) (X3 m c) (row t i) j := by
  refine (pay_at _ _ _ _ i j).trans ?_
  unfold whole
  refine congrArg₂ (fun a b : EReal => a + b) ?_ (congrArg₂ (fun x a => grad x a j) (blk_row m c t i) (blk_gained m c t i))
  unfold X3 row
  blk_ext [iblk, V, idx t]

theorem blk_trunc (t : Fin cfg0.N) (i : Fin 512) (j : Fin 2048) :
    k0_pay6 (F := Ideal) (iblk m c 0 t) (iblk m c 1 t) (iblk m c 2 t) (iblk m c 3 t) (ix2 i j) = whole (X0 m c) (X1 m c) (X2 m c) (X3 m c) (row t i) j :=
  (show _ = k0_pay5 (F := Ideal) (iblk m c 0 t) (iblk m c 1 t) (iblk m c 2 t) (iblk m c 3 t) (ix2 i j) from rfl).trans (blk_whole m c t i j)

theorem whole_congr (x : Arr) (g : Gain) (a : Up) (d : Arr) {t t' : Fin 8192} {r r' : Fin 2048} (ht : t.val = t'.val) (hr : r.val = r'.val) :
    whole x g a d t r = whole x g a d t' r' := by rw [Fin.ext ht, Fin.ext hr]

/-- The sum over one block of tokens of the shares; zero past the last block. -/
def part (x : Arr) (a : Up) (r : Fin 2048) (s : ℕ) : EReal :=
  if hs : s < 16 then ∑ k : Fin 512, share x a r ⟨s * 512 + k.val, by omega⟩ else 0

theorem parts (x : Arr) (a : Up) (r : Fin 2048) : ∑ s ∈ Finset.range 16, part x a r s = ∑ t, share x a r t := by
  rw [← Fin.sum_mul_add_fin 16 512 (fun t : Fin 8192 => share x a r t), Finset.sum_range]
  refine Finset.sum_congr rfl fun s _ => ?_
  unfold part
  rw [dif_pos s.isLt]

theorem blk_part (t : Fin cfg0.N) (j : Fin 2048) :
    k0_pay7 (F := Ideal) (iblk m c 0 t) (iblk m c 2 t) (ix2 0 j) = part (X0 m c) (X2 m c) j t.val := by
  refine (gain_at _ _ j).trans ?_
  unfold part
  rw [dif_pos (ltN t)]
  refine Finset.sum_congr rfl fun k _ => ?_
  rw [blk_row m c t k]
  unfold share row
  refine congrArg₂ (fun a b : EReal => a * b) ?_ (congrArg₂ (fun a b : EReal => a * b) ?_ rfl)
  · unfold X2
    blk_ext [iblk, V, idx t]
  · unfold X0
    blk_ext [iblk, V, idx t]

theorem out_arr_d (t : Fin cfg0.N) (i : Fin 512) (j : Fin 2048) :
    (outsAt0 m c t.val t.isLt).1 (ix2 i j) = whole (X0 m c) (X1 m c) (X2 m c) (X3 m c) (row t i) j := by
  have hN := ltN t
  by_cases h : t.val = 0
  · rw [outsAt0_A m c t (by omega) (by omega)]
    frame_out
    exact blk_whole m c t i j
  · rw [outsAt0_B m c t (by omega) (by omega)]
    frame_out
    exact blk_whole m c t i j

theorem out_arr_b (t : Fin cfg0.N) (i : Fin 512) (j : Fin 2048) :
    (outsAt0 m c t.val t.isLt).2.1 (ix2 i j) = whole (X0 m c) (X1 m c) (X2 m c) (X3 m c) (row t i) j := by
  have hN := ltN t
  by_cases h : t.val = 0
  · rw [outsAt0_A m c t (by omega) (by omega)]
    frame_out
    exact blk_trunc m c t i j
  · rw [outsAt0_B m c t (by omega) (by omega)]
    frame_out
    exact blk_trunc m c t i j

theorem acc_first (t : Fin cfg0.N) (h : t.val = 0) (j : Fin 2048) :
    (outsAt0 m c t.val t.isLt).2.2 (ix2 0 j) = part (X0 m c) (X2 m c) j t.val := by
  rw [outsAt0_A m c t (by omega) (by omega)]
  frame_out
  exact blk_part m c t j

theorem acc_next (t : Fin cfg0.N) (h : ¬t.val = 0) (j : Fin 2048) :
    (outsAt0 m c t.val t.isLt).2.2 (ix2 0 j)
      = (outsAt0 m c (t.val - 1) (Nat.lt_of_le_of_lt (Nat.sub_le _ _) t.isLt)).2.2 (ix2 0 j) + part (X0 m c) (X2 m c) j t.val := by
  have hN := ltN t
  rw [outsAt0_B m c t (by omega) (by omega)]
  frame_out
  exact (next_at _ _ j).trans (congrArg₂ (fun a b : EReal => a + b) rfl (blk_part m c t j))

/-- What the points up to one have summed. -/
theorem acc_at (j : Fin 2048) : ∀ n (hn : n < cfg0.N),
    (outsAt0 m c n hn).2.2 (ix2 0 j) = ∑ s ∈ Finset.range (n + 1), part (X0 m c) (X2 m c) j s
  | 0, hn => (acc_first m c ⟨0, hn⟩ rfl j).trans (by rw [Finset.sum_range_one])
  | n + 1, hn => by
    refine (acc_next m c ⟨n + 1, hn⟩ (Nat.succ_ne_zero n) j).trans ?_
    rw [Finset.sum_range_succ]
    exact congrArg (fun e : EReal => e + part (X0 m c) (X2 m c) j (n + 1)) (acc_at j n (Nat.lt_of_succ_lt hn))

theorem arr_d : (dats m 0 c).arrAt 4 cfg0.N = fun i => whole (X0 m c) (X1 m c) (X2 m c) (X3 m c) (i 0) (i 1) := by
  refine (dats m 0 c).arrAt_eq_of_covers 4 (fun i => whole (X0 m c) (X1 m c) (X2 m c) (X3 m c) (i 0) (i 1) : Arr)
    (by decide +kernel) fun t hf y => ?_
  blk_simp
  rw [after0_4]
  rw [show y = ix2 (y 0) (y 1) by idx_ext <;> rfl]
  refine (out_arr_d m c t (y 0) (y 1)).trans ?_
  unfold row
  refine whole_congr _ _ _ _ ?_ ?_
  all_goals blk_simp [idx t]

theorem arr_b : (dats m 0 c).arrAt 5 cfg0.N = fun i => whole (X0 m c) (X1 m c) (X2 m c) (X3 m c) (i 0) (i 1) := by
  refine (dats m 0 c).arrAt_eq_of_covers 5 (fun i => whole (X0 m c) (X1 m c) (X2 m c) (X3 m c) (i 0) (i 1) : Up)
    (by decide +kernel) fun t hf y => ?_
  blk_simp
  rw [after0_5]
  rw [show y = ix2 (y 0) (y 1) by idx_ext <;> rfl]
  refine (out_arr_b m c t (y 0) (y 1)).trans ?_
  unfold row
  refine whole_congr _ _ _ _ ?_ ?_
  all_goals blk_simp [idx t]

theorem share_congr (x : Arr) (a : Up) {r r' : Fin 2048} (hr : r.val = r'.val) :
    ∑ t, share x a r t = ∑ t, share x a r' t := by rw [Fin.ext hr]

theorem last_point : ∀ t : Fin cfg0.N, (cfg0.win 6).flush t = true → t.val = 15 := (by decide +kernel : ∀ t : Fin grid0.N, _)

theorem arr_g : (dats m 0 c).arrAt 6 cfg0.N = fun i => ∑ t, share (X0 m c) (X2 m c) (i 1) t := by
  refine (dats m 0 c).arrAt_eq_of_covers 6 (fun i => ∑ t, share (X0 m c) (X2 m c) (i 1) t : Gain)
    (by decide +kernel) fun t hf y => ?_
  have ht : t.val = 15 := last_point t hf
  blk_simp
  rw [after0_6]
  have e : y = ix2 0 (y 1) := by
    idx_ext <;> first | rfl | exact Subsingleton.elim (α := Fin 1) _ _
  rw [e]
  refine ((acc_at m c (y 1) t.val t.isLt).trans (congrArg (fun n => ∑ s ∈ Finset.range (n + 1), part (X0 m c) (X2 m c) (y 1) s) ht)).trans ((parts _ _ _).trans ?_)
  refine share_congr _ _ ?_
  blk_simp [idx t]
end

section
variable (x : Arr) (g : Gain) (a : Up) (d : Arr)

theorem sq_at (t : Fin 8192) : val_main_v1 (F := Ideal) x (ix1 t) = ∑ k, x (ix2 t k) * x (ix2 t k) := by
  refine (val_main_v1_apply x _).trans ?_
  rw [val_main_cst_apply]
  refine (congrArg₂ (fun a b : EReal => a + b) zero32 (Finset.sum_congr rfl fun k _ => ?_)).trans (zero_add _)
  have e : idx_main_v1 (ix1 t) k = ix2 t k := by
    idx_ext <;> rfl
  rw [e]
  exact val_main_v0_apply (F := Ideal) x _

theorem var_at (t : Fin 8192) : val_main_v6 (F := Ideal) x (ix2 t 0) = var (fun k => x (ix2 t k)) := by
  refine (val_main_v6_apply (F := Ideal) x _).trans ?_
  unfold var
  refine congrArg₂ (fun a b : EReal => a + b) ?_ ((val_main_v5_apply (F := Ideal) _).trans (val_main_cst_1_apply (F := Ideal) _))
  refine (val_main_v4_apply (F := Ideal) x _).trans (congrArg₂ (fun a b : EReal => Ideal.div a b) ?_ ((val_main_v3_apply (F := Ideal) _).trans (val_main_cst_0_apply (F := Ideal) _)))
  refine (val_main_v2_apply (F := Ideal) x _).trans ((congrArg _ ?_).trans (sq_at x t))
  funext q
  match q with
  | ⟨0, _⟩ => rfl

theorem root_at (t : Fin 8192) : val_main_v7 (F := Ideal) x (ix2 t 0) = root (fun k => x (ix2 t k)) :=
  (val_main_v7_apply (F := Ideal) x _).trans (congrArg Ideal.rsqrt (var_at x t))

theorem slope_at (t : Fin 8192) : val_main_v10 (F := Ideal) x (ix2 t 0)
    = Ideal.ofBits .f32 0xBF000000#32 * Ideal.div (root (fun k => x (ix2 t k))) (var (fun k => x (ix2 t k))) := by
  refine (val_main_v10_apply (F := Ideal) x _).trans (congrArg₂ (fun a b : EReal => a * b) ((val_main_v9_apply (F := Ideal) _).trans (val_main_cst_2_apply (F := Ideal) _)) ?_)
  exact (val_main_v8_apply (F := Ideal) x _).trans (congrArg₂ (fun a b : EReal => Ideal.div a b) (root_at x t) (var_at x t))

theorem scaled_at (t : Fin 8192) (r : Fin 2048) : val_main_v12 (F := Ideal) x (ix2 t r) = x (ix2 t r) * root (fun k => x (ix2 t k)) := by
  refine (val_main_v12_apply (F := Ideal) x _).trans (congrArg (fun e : EReal => x (ix2 t r) * e) ?_)
  refine (val_main_v11_apply (F := Ideal) x _).trans ((congrArg _ ?_).trans (root_at x t))
  idx_ext <;> rfl

theorem share_at (t : Fin 8192) (r : Fin 2048) : val_main_v16 (F := Ideal) x a (ix2 t r) = share x a r t := by
  refine (val_main_v16_apply (F := Ideal) x a _).trans ?_
  unfold share
  exact (congrArg₂ (fun a b : EReal => a * b) (scaled_at x t r) (show _ = a (ix2 t r) from rfl)).trans (mul_comm _ _)

theorem ref_g : (fun i => ∑ t, share x a (i 1) t : Gain) = val_main_v18 (F := Ideal) x a := by
  funext i
  refine Eq.symm ((val_main_v18_apply (F := Ideal) x a i).trans ((val_main_v17_apply x a _).trans ?_))
  rw [val_main_cst_3_apply]
  refine (congrArg₂ (fun a b : EReal => a + b) zero32 (Finset.sum_congr rfl fun k _ => ?_)).trans (zero_add _)
  refine (congrArg _ ?_).trans (share_at x a k (i 1))
  funext q
  match q with
  | ⟨0, _⟩ => rfl
  | ⟨1, _⟩ => exact Fin.ext (by show (i 0).val * 2048 + (i 1).val = (i 1).val; have : (i 0).val < 1 := (i 0).isLt; omega)

theorem gained_at (t : Fin 8192) (k : Fin 2048) : val_main_v20 (F := Ideal) g a (ix2 t k) = gained g a t k := by
  refine (val_main_v20_apply (F := Ideal) g a _).trans ?_
  unfold gained
  refine congrArg₂ (fun a b : EReal => a * b) (show _ = a (ix2 t k) from rfl) ((val_main_v19_apply (F := Ideal) g _).trans (congrArg g ?_))
  idx_ext <;> rfl

theorem inner_at (t : Fin 8192) : val_main_v23 (F := Ideal) x g a (ix2 t 0) = ∑ k, x (ix2 t k) * gained g a t k := by
  refine (val_main_v23_apply (F := Ideal) x g a _).trans ((val_main_v22_apply x g a _).trans ?_)
  rw [val_main_cst_4_apply]
  refine (congrArg₂ (fun a b : EReal => a + b) zero32 (Finset.sum_congr rfl fun k _ => ?_)).trans (zero_add _)
  refine (congrArg _ (?_ : _ = ix2 t k)).trans ((val_main_v21_apply (F := Ideal) x g a _).trans (congrArg (fun e : EReal => x (ix2 t k) * e) (gained_at g a t k)))
  funext q
  match q with
  | ⟨0, _⟩ => exact Fin.ext (by show t.val * 1 + 0 = t.val; omega)
  | ⟨1, _⟩ => rfl

theorem through_at (t : Fin 8192) (r : Fin 2048) : val_main_v31 (F := Ideal) x g a (ix2 t r) = through (fun k => x (ix2 t k)) (gained g a t) := by
  refine (val_main_v31_apply (F := Ideal) x g a _).trans ((val_main_v30_apply x g a _).trans ?_)
  rw [val_main_cst_6_apply]
  refine (congrArg₂ (fun a b : EReal => a + b) zero32 (Fin.sum_univ_one _)).trans ((zero_add _).trans ?_)
  refine (congrArg _ (?_ : _ = ix2 t 0)).trans ((val_main_v29_apply (F := Ideal) x g a _).trans ?_)
  · idx_ext <;> rfl
  unfold through
  refine congrArg₂ (fun a b : EReal => Ideal.div a b) ?_ ((val_main_v28_apply (F := Ideal) _).trans (val_main_cst_5_apply (F := Ideal) _))
  exact (val_main_v27_apply (F := Ideal) x g a _).trans (congrArg₂ (fun a b : EReal => a * b) (inner_at x g a t) (slope_at x t))

theorem direct_at (t : Fin 8192) (r : Fin 2048) : val_main_v25 (F := Ideal) x g a (ix2 t r) = gained g a t r * root (fun k => x (ix2 t k)) := by
  refine (val_main_v25_apply (F := Ideal) x g a _).trans (congrArg₂ (fun a b : EReal => a * b) (gained_at g a t r) ?_)
  refine (val_main_v24_apply (F := Ideal) x _).trans ((congrArg _ ?_).trans (root_at x t))
  idx_ext <;> rfl

theorem ref_at (t : Fin 8192) (r : Fin 2048) : val_main_v35 (F := Ideal) x g a d (ix2 t r) = whole x g a d t r := by
  refine (val_main_v35_apply (F := Ideal) x g a d _).trans ?_
  unfold whole
  rw [← chain]
  refine (congrArg₂ (fun a b : EReal => a + b) ((val_main_v33_apply (F := Ideal) x g a d _).trans (congrArg₂ (fun a b : EReal => a + b)
    ((val_main_v26_apply (F := Ideal) x g a d _).trans (congrArg (fun e : EReal => d (ix2 t r) + e) (direct_at x g a t r))) ((val_main_v32_apply (F := Ideal) x g a _).trans (congrArg (fun e : EReal => x (ix2 t r) * e) (through_at x g a t r))))) ((val_main_v34_apply (F := Ideal) x g a _).trans (congrArg (fun e : EReal => e * x (ix2 t r)) (through_at x g a t r)))).trans ?_
  rw [add_assoc, add_assoc, ← add_assoc (gained g a t r * root fun k => x (ix2 t k))]

theorem ref_d : (fun i => whole x g a d (i 0) (i 1) : Arr) = val_main_v35 (F := Ideal) x g a d := by
  funext i
  rw [show i = ix2 (i 0) (i 1) by idx_ext <;> rfl]
  exact (ref_at x g a d (i 0) (i 1)).symm

theorem ref_b : (fun i => whole x g a d (i 0) (i 1) : Up) = val_main_v36 (F := Ideal) x g a d := by
  funext i
  rw [show i = ix2 (i 0) (i 1) by idx_ext <;> rfl]
  exact (ref_at x g a d (i 0) (i 1)).symm

variable (x' : Arr) (g' : Gain) (a' : Up) (d' : Arr)

theorem d_congr (h0 : x' = x) (h1 : g' = g) (h2 : a' = a) (h3 : d' = d) :
    val_main_v35 (F := Ideal) x' g' a' d' = val_main_v35 (F := Ideal) x g a d := by rw [h0, h1, h2, h3]

theorem b_congr (h0 : x' = x) (h1 : g' = g) (h2 : a' = a) (h3 : d' = d) :
    val_main_v36 (F := Ideal) x' g' a' d' = val_main_v36 (F := Ideal) x g a d := by rw [h0, h1, h2, h3]

theorem g_congr (h0 : x' = x) (h2 : a' = a) : val_main_v18 (F := Ideal) x' a' = val_main_v18 (F := Ideal) x a := by rw [h0, h2]
end

theorem algebraic : Cert.algebraic_DnormIdeal_DnormReferenceIdeal := by
  intro m g m' g' _ agree
  refine ⟨fun c => val_main_v35 (F := Ideal) (X0 m c) (X1 m c) (X2 m c) (X3 m c), fun c => val_main_v36 (F := Ideal) (X0 m c) (X1 m c) (X2 m c) (X3 m c),
    fun c => val_main_v18 (F := Ideal) (X0 m c) (X2 m c), ?_, ?_⟩
  · refine (θ_run _ _ _).mono (fun r h c => ?_) (Cert.DnormIdeal.Value.run_blocks m g)
    obtain ⟨h0, h1, h2, hargs⟩ := h c
    exact ⟨h0.trans ((arr_d m c).trans (ref_d _ _ _ _)), h1.trans ((arr_b m c).trans (ref_b _ _ _ _)),
      h2.trans ((arr_g m c).trans (ref_g _ _)), hargs⟩
  · refine (θ_run _ _ _).mono (fun r h c => ?_) (Cert.DnormReferenceIdeal.Value.run (F := Ideal) m' g')
    obtain ⟨a0, a1, a2, a3⟩ := agree c
    obtain ⟨h0, h1, h2, hargs⟩ := h c
    refine ⟨h0.trans ((val_main_v35_eq (F := Ideal) _ _ _ _).trans ?_), h1.trans ((val_main_v36_eq (F := Ideal) _ _ _ _).trans ?_),
      h2.trans ((val_main_v18_eq (F := Ideal) _ _).trans ?_), hargs⟩
    · exact d_congr _ _ _ _ _ _ _ _ a0 a1 a2 a3
    · exact b_congr _ _ _ _ _ _ _ _ a0 a1 a2 a3
    · exact g_congr _ _ _ _ a0 a2

end Dnorm

end
-- ==== Proof.DnormMem.Value.lean ====
/-
  The gradient of the memory's norm.
-/
module

public import proofs.«01_k».proof.Defs
public import proofs.«01_k».proof.Proof.Gen.DnormMem.Frame
public import proofs.«01_k».proof.Proof.Gen.DnormMemIdeal.Frame
public import proofs.«01_k».proof.Proof.Gen.DnormMemIdeal.Value
public import proofs.«01_k».proof.Proof.Gen.DnormMemReferenceIdeal.Run
public import proofs.«01_k».proof.Proof.Gen.DnormMemReferenceIdeal.Read
public import Idealize.ShloMosaic.Lib.Pointwise
public import proofs.«01_k».proof.Proof.Rms.Math
public import Idealize.ShloMosaic.Lib.Pipeline.ValueKit

@[expose] public section

set_option maxRecDepth 16384

noncomputable section

namespace DnormMem

open Idealize.ShloMosaic Idealize.ShloMosaic.TcCoe Idealize.SL.Sem
open Cert.DnormMemIdeal Cert.DnormMemIdeal.Gen

attribute [local instance] Cert.DnormMem.Gen.facts Cert.DnormMemIdeal.Gen.facts Cert.DnormMemReferenceIdeal.Gen.facts

theorem frame_kernel : Cert.quiescent_DnormMem := fun m ρ _ => Cert.DnormMem.Gen.frame m ρ

theorem frame_kernelIdeal : Cert.quiescent_DnormMemIdeal := fun m ρ _ => Cert.DnormMemIdeal.Gen.frame m ρ

theorem frame_reference : Cert.quiescent_DnormMemReferenceIdeal := fun m ρ _ =>
  (θ_run Cert.DnormMemReferenceIdeal.defs _ _).mono (fun r h => ⟨fun c => (h c).2.2.2, sem_eq_zero_of_no_sems rfl r.2⟩) (Cert.DnormMemReferenceIdeal.Value.run (F := Ideal) m ρ)

open Cert.DnormMemReferenceIdeal.Read Rms

abbrev Arr := FVec Ideal S256x2048 .f32
abbrev Gain := FVec Ideal S1x2048 .f32
abbrev Up := FVec Ideal S256x2048 .bf16

section
variable (x : Vec Ideal S256x2048 .f32) (g : Vec Ideal S1x2048 .f32) (a : Vec Ideal S256x2048 .f32)

theorem pay_at (i : Fin 256) (j : Fin 2048) : k0_pay4 (F := Ideal) x g a (ix2 i j)
    = grad (fun k => x (ix2 i k)) (fun k => a (ix2 i k) * g (ix2 0 k)) j := by
  unfold grad root var width eps
  pointwise [k0_pay4, k0_pay3, k0_pay2]

theorem gain_at (j : Fin 2048) : k0_pay6 (F := Ideal) x a (ix2 0 j) = ∑ k : Fin 256, a (ix2 k j) * (x (ix2 k j) * root (fun l => x (ix2 k l))) := by
  unfold root var width eps
  pointwise [k0_pay6, k0_pay3, k0_pay2]
end

/-- A row's gradient before the gains. -/
def gained (g : Gain) (a : Arr) (t : Fin 256) (k : Fin 2048) : EReal := a (ix2 t k) * g (ix2 0 k)

/-- An entry of the stream's gradient. -/
def whole (x : Arr) (g : Gain) (a : Arr) (t : Fin 256) (r : Fin 2048) : EReal :=
  grad (fun k => x (ix2 t k)) (gained g a t) r

/-- A token's share of a gain's gradient. -/
def share (x : Arr) (a : Arr) (r : Fin 2048) (t : Fin 256) : EReal := a (ix2 t r) * (x (ix2 t r) * root (fun k => x (ix2 t k)))

section
variable (m : (ℓ : Loc nD τ sig) → Buf (Elt Ideal) ℓ) (c : Dev nD)

def X0 : Arr := m ((c.tc : Thread nD τ).loc main_arg0)
def X1 : Gain := m ((c.tc : Thread nD τ).loc main_arg1)
def X2 : Arr := m ((c.tc : Thread nD τ).loc main_arg2)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

theorem ltN (t : Fin cfg0.N) : t.val < 1 := lt_of_lt_of_eq t.isLt N_0

/-- The row of the arrays of a row of a point's block. -/
def row (t : Fin cfg0.N) (i : Fin 256) : Fin 256 := ⟨t.val * 256 + i.val, by have := ltN t; omega⟩

theorem blk_row (t : Fin cfg0.N) (i : Fin 256) : (fun k => iblk m c 0 t (ix2 i k) : Fin 2048 → EReal) = fun k => X0 m c (ix2 (row t i) k) := by
  funext k
  unfold X0 row
  blk_ext [iblk, V, idx t]

theorem blk_gained (t : Fin cfg0.N) (i : Fin 256) :
    (fun (a : Vec Ideal S256x2048 .f32) (g : Vec Ideal S1x2048 .f32) => (fun k => a (ix2 i k) * g (ix2 0 k) : Fin 2048 → EReal)) (iblk m c 2 t) (iblk m c 1 t) = gained (X1 m c) (X2 m c) (row t i) := by
  funext k
  unfold gained X1 X2 row
  refine congrArg₂ (fun a b : EReal => a * b) ?_ ?_
  · blk_ext [iblk, V, idx t]
  · blk_ext [iblk, V, idx t]

theorem blk_whole (t : Fin cfg0.N) (i : Fin 256) (j : Fin 2048) :
    k0_pay4 (F := Ideal) (iblk m c 0 t) (iblk m c 1 t) (iblk m c 2 t) (ix2 i j) = whole (X0 m c) (X1 m c) (X2 m c) (row t i) j := by
  refine (pay_at _ _ _ i j).trans ?_
  unfold whole
  refine (congrArg₂ (fun x a => grad x a j) (blk_row m c t i) (blk_gained m c t i))

theorem blk_trunc (t : Fin cfg0.N) (i : Fin 256) (j : Fin 2048) :
    k0_pay5 (F := Ideal) (iblk m c 0 t) (iblk m c 1 t) (iblk m c 2 t) (ix2 i j) = whole (X0 m c) (X1 m c) (X2 m c) (row t i) j :=
  (show _ = k0_pay4 (F := Ideal) (iblk m c 0 t) (iblk m c 1 t) (iblk m c 2 t) (ix2 i j) from rfl).trans (blk_whole m c t i j)

theorem whole_congr (x : Arr) (g : Gain) (a : Arr) {t t' : Fin 256} {r r' : Fin 2048} (ht : t.val = t'.val) (hr : r.val = r'.val) :
    whole x g a t r = whole x g a t' r' := by rw [Fin.ext ht, Fin.ext hr]

/-- The sum over one block of tokens of the shares; zero past the last block. -/
def part (x : Arr) (a : Arr) (r : Fin 2048) (s : ℕ) : EReal :=
  if hs : s < 1 then ∑ k : Fin 256, share x a r ⟨s * 256 + k.val, by omega⟩ else 0

theorem parts (x : Arr) (a : Arr) (r : Fin 2048) : ∑ s ∈ Finset.range 1, part x a r s = ∑ t, share x a r t := by
  rw [← Fin.sum_mul_add_fin 1 256 (fun t : Fin 256 => share x a r t), Finset.sum_range]
  refine Finset.sum_congr rfl fun s _ => ?_
  unfold part
  rw [dif_pos s.isLt]

theorem blk_part (t : Fin cfg0.N) (j : Fin 2048) :
    k0_pay6 (F := Ideal) (iblk m c 0 t) (iblk m c 2 t) (ix2 0 j) = part (X0 m c) (X2 m c) j t.val := by
  refine (gain_at _ _ j).trans ?_
  unfold part
  rw [dif_pos (ltN t)]
  refine Finset.sum_congr rfl fun k _ => ?_
  rw [blk_row m c t k]
  unfold share row
  refine congrArg₂ (fun a b : EReal => a * b) ?_ (congrArg₂ (fun a b : EReal => a * b) ?_ rfl)
  · unfold X2
    blk_ext [iblk, V, idx t]
  · unfold X0
    blk_ext [iblk, V, idx t]

theorem out_arr_d (t : Fin cfg0.N) (i : Fin 256) (j : Fin 2048) :
    (outsAt0 m c t).1 (ix2 i j) = whole (X0 m c) (X1 m c) (X2 m c) (row t i) j := by
  unfold outsAt0
  frame_out
  exact blk_whole m c t i j

theorem out_arr_b (t : Fin cfg0.N) (i : Fin 256) (j : Fin 2048) :
    (outsAt0 m c t).2.1 (ix2 i j) = whole (X0 m c) (X1 m c) (X2 m c) (row t i) j := by
  unfold outsAt0
  frame_out
  exact blk_trunc m c t i j

theorem arr_d : (dats m 0 c).arrAt 3 cfg0.N = fun i => whole (X0 m c) (X1 m c) (X2 m c) (i 0) (i 1) := by
  refine (dats m 0 c).arrAt_eq_of_covers 3 (fun i => whole (X0 m c) (X1 m c) (X2 m c) (i 0) (i 1) : Arr)
    (by decide +kernel) fun t hf y => ?_
  blk_simp
  rw [after0_3]
  rw [show y = ix2 (y 0) (y 1) by idx_ext <;> rfl]
  refine (out_arr_d m c t (y 0) (y 1)).trans ?_
  unfold row
  refine whole_congr _ _ _ ?_ ?_
  all_goals blk_simp [idx t]

theorem arr_b : (dats m 0 c).arrAt 4 cfg0.N = fun i => whole (X0 m c) (X1 m c) (X2 m c) (i 0) (i 1) := by
  refine (dats m 0 c).arrAt_eq_of_covers 4 (fun i => whole (X0 m c) (X1 m c) (X2 m c) (i 0) (i 1) : Up)
    (by decide +kernel) fun t hf y => ?_
  blk_simp
  rw [after0_4]
  rw [show y = ix2 (y 0) (y 1) by idx_ext <;> rfl]
  refine (out_arr_b m c t (y 0) (y 1)).trans ?_
  unfold row
  refine whole_congr _ _ _ ?_ ?_
  all_goals blk_simp [idx t]

theorem share_congr (x : Arr) (a : Arr) {r r' : Fin 2048} (hr : r.val = r'.val) :
    ∑ t, share x a r t = ∑ t, share x a r' t := by rw [Fin.ext hr]

theorem last_point : ∀ t : Fin cfg0.N, (cfg0.win 5).flush t = true → t.val = 0 := (by decide +kernel : ∀ t : Fin grid0.N, _)

theorem arr_g : (dats m 0 c).arrAt 5 cfg0.N = fun i => ∑ t, share (X0 m c) (X2 m c) (i 1) t := by
  refine (dats m 0 c).arrAt_eq_of_covers 5 (fun i => ∑ t, share (X0 m c) (X2 m c) (i 1) t : Gain)
    (by decide +kernel) fun t hf y => ?_
  have ht : t.val = 0 := last_point t hf
  blk_simp
  rw [after0_5]
  have e : y = ix2 0 (y 1) := by
    idx_ext <;> first | rfl | exact Subsingleton.elim (α := Fin 1) _ _
  rw [e]
  unfold outsAt0
  frame_out
  refine ((blk_part m c t (y 1)).trans (congrArg (part (X0 m c) (X2 m c) (y 1)) ht)).trans (((Finset.sum_range_one _).symm.trans (parts _ _ _)).trans ?_)
  refine share_congr _ _ ?_
  blk_simp [idx t]
end

section
variable (x : Arr) (g : Gain) (a : Arr)

theorem sq_at (t : Fin 256) : val_main_v1 (F := Ideal) x (ix1 t) = ∑ k, x (ix2 t k) * x (ix2 t k) := by
  refine (val_main_v1_apply x _).trans ?_
  rw [val_main_cst_apply]
  refine (congrArg₂ (fun a b : EReal => a + b) zero32 (Finset.sum_congr rfl fun k _ => ?_)).trans (zero_add _)
  have e : idx_main_v1 (ix1 t) k = ix2 t k := by
    idx_ext <;> rfl
  rw [e]
  exact val_main_v0_apply (F := Ideal) x _

theorem var_at (t : Fin 256) : val_main_v6 (F := Ideal) x (ix2 t 0) = var (fun k => x (ix2 t k)) := by
  refine (val_main_v6_apply (F := Ideal) x _).trans ?_
  unfold var
  refine congrArg₂ (fun a b : EReal => a + b) ?_ ((val_main_v5_apply (F := Ideal) _).trans (val_main_cst_1_apply (F := Ideal) _))
  refine (val_main_v4_apply (F := Ideal) x _).trans (congrArg₂ (fun a b : EReal => Ideal.div a b) ?_ ((val_main_v3_apply (F := Ideal) _).trans (val_main_cst_0_apply (F := Ideal) _)))
  refine (val_main_v2_apply (F := Ideal) x _).trans ((congrArg _ ?_).trans (sq_at x t))
  funext q
  match q with
  | ⟨0, _⟩ => rfl

theorem root_at (t : Fin 256) : val_main_v7 (F := Ideal) x (ix2 t 0) = root (fun k => x (ix2 t k)) :=
  (val_main_v7_apply (F := Ideal) x _).trans (congrArg Ideal.rsqrt (var_at x t))

theorem slope_at (t : Fin 256) : val_main_v10 (F := Ideal) x (ix2 t 0)
    = Ideal.ofBits .f32 0xBF000000#32 * Ideal.div (root (fun k => x (ix2 t k))) (var (fun k => x (ix2 t k))) := by
  refine (val_main_v10_apply (F := Ideal) x _).trans (congrArg₂ (fun a b : EReal => a * b) ((val_main_v9_apply (F := Ideal) _).trans (val_main_cst_2_apply (F := Ideal) _)) ?_)
  exact (val_main_v8_apply (F := Ideal) x _).trans (congrArg₂ (fun a b : EReal => Ideal.div a b) (root_at x t) (var_at x t))

theorem scaled_at (t : Fin 256) (r : Fin 2048) : val_main_v12 (F := Ideal) x (ix2 t r) = x (ix2 t r) * root (fun k => x (ix2 t k)) := by
  refine (val_main_v12_apply (F := Ideal) x _).trans (congrArg (fun e : EReal => x (ix2 t r) * e) ?_)
  refine (val_main_v11_apply (F := Ideal) x _).trans ((congrArg _ ?_).trans (root_at x t))
  idx_ext <;> rfl

theorem share_at (t : Fin 256) (r : Fin 2048) : val_main_v15 (F := Ideal) x a (ix2 t r) = share x a r t := by
  refine (val_main_v15_apply (F := Ideal) x a _).trans ?_
  unfold share
  exact (congrArg₂ (fun a b : EReal => a * b) (scaled_at x t r) (show _ = a (ix2 t r) from rfl)).trans (mul_comm _ _)

theorem ref_g : (fun i => ∑ t, share x a (i 1) t : Gain) = val_main_v17 (F := Ideal) x a := by
  funext i
  refine Eq.symm ((val_main_v17_apply (F := Ideal) x a i).trans ((val_main_v16_apply x a _).trans ?_))
  rw [val_main_cst_3_apply]
  refine (congrArg₂ (fun a b : EReal => a + b) zero32 (Finset.sum_congr rfl fun k _ => ?_)).trans (zero_add _)
  refine (congrArg _ ?_).trans (share_at x a k (i 1))
  funext q
  match q with
  | ⟨0, _⟩ => rfl
  | ⟨1, _⟩ => exact Fin.ext (by show (i 0).val * 2048 + (i 1).val = (i 1).val; have : (i 0).val < 1 := (i 0).isLt; omega)

theorem gained_at (t : Fin 256) (k : Fin 2048) : val_main_v19 (F := Ideal) g a (ix2 t k) = gained g a t k := by
  refine (val_main_v19_apply (F := Ideal) g a _).trans ?_
  unfold gained
  refine congrArg₂ (fun a b : EReal => a * b) (show _ = a (ix2 t k) from rfl) ((val_main_v18_apply (F := Ideal) g _).trans (congrArg g ?_))
  idx_ext <;> rfl

theorem inner_at (t : Fin 256) : val_main_v22 (F := Ideal) x g a (ix2 t 0) = ∑ k, x (ix2 t k) * gained g a t k := by
  refine (val_main_v22_apply (F := Ideal) x g a _).trans ((val_main_v21_apply x g a _).trans ?_)
  rw [val_main_cst_4_apply]
  refine (congrArg₂ (fun a b : EReal => a + b) zero32 (Finset.sum_congr rfl fun k _ => ?_)).trans (zero_add _)
  refine (congrArg _ (?_ : _ = ix2 t k)).trans ((val_main_v20_apply (F := Ideal) x g a _).trans (congrArg (fun e : EReal => x (ix2 t k) * e) (gained_at g a t k)))
  funext q
  match q with
  | ⟨0, _⟩ => exact Fin.ext (by show t.val * 1 + 0 = t.val; omega)
  | ⟨1, _⟩ => rfl

theorem through_at (t : Fin 256) (r : Fin 2048) : val_main_v29 (F := Ideal) x g a (ix2 t r) = through (fun k => x (ix2 t k)) (gained g a t) := by
  refine (val_main_v29_apply (F := Ideal) x g a _).trans ((val_main_v28_apply x g a _).trans ?_)
  rw [val_main_cst_6_apply]
  refine (congrArg₂ (fun a b : EReal => a + b) zero32 (Fin.sum_univ_one _)).trans ((zero_add _).trans ?_)
  refine (congrArg _ (?_ : _ = ix2 t 0)).trans ((val_main_v27_apply (F := Ideal) x g a _).trans ?_)
  · idx_ext <;> rfl
  unfold through
  refine congrArg₂ (fun a b : EReal => Ideal.div a b) ?_ ((val_main_v26_apply (F := Ideal) _).trans (val_main_cst_5_apply (F := Ideal) _))
  exact (val_main_v25_apply (F := Ideal) x g a _).trans (congrArg₂ (fun a b : EReal => a * b) (inner_at x g a t) (slope_at x t))

theorem direct_at (t : Fin 256) (r : Fin 2048) : val_main_v24 (F := Ideal) x g a (ix2 t r) = gained g a t r * root (fun k => x (ix2 t k)) := by
  refine (val_main_v24_apply (F := Ideal) x g a _).trans (congrArg₂ (fun a b : EReal => a * b) (gained_at g a t r) ?_)
  refine (val_main_v23_apply (F := Ideal) x _).trans ((congrArg _ ?_).trans (root_at x t))
  idx_ext <;> rfl

theorem ref_at (t : Fin 256) (r : Fin 2048) : val_main_v33 (F := Ideal) x g a (ix2 t r) = whole x g a t r := by
  refine (val_main_v33_apply (F := Ideal) x g a _).trans ?_
  unfold whole
  rw [← chain]
  refine congrArg₂ (fun a b : EReal => a + b) ((val_main_v31_apply (F := Ideal) x g a _).trans (congrArg₂ (fun a b : EReal => a + b) (direct_at x g a t r) ((val_main_v30_apply (F := Ideal) x g a _).trans (congrArg (fun e : EReal => x (ix2 t r) * e) (through_at x g a t r))))) ((val_main_v32_apply (F := Ideal) x g a _).trans (congrArg (fun e : EReal => e * x (ix2 t r)) (through_at x g a t r)))

theorem ref_d : (fun i => whole x g a (i 0) (i 1) : Arr) = val_main_v33 (F := Ideal) x g a := by
  funext i
  rw [show i = ix2 (i 0) (i 1) by idx_ext <;> rfl]
  exact (ref_at x g a (i 0) (i 1)).symm

theorem ref_b : (fun i => whole x g a (i 0) (i 1) : Up) = val_main_v34 (F := Ideal) x g a := by
  funext i
  rw [show i = ix2 (i 0) (i 1) by idx_ext <;> rfl]
  exact (ref_at x g a (i 0) (i 1)).symm

variable (x' : Arr) (g' : Gain) (a' : Arr)

theorem d_congr (h0 : x' = x) (h1 : g' = g) (h2 : a' = a) :
    val_main_v33 (F := Ideal) x' g' a' = val_main_v33 (F := Ideal) x g a := by rw [h0, h1, h2]

theorem b_congr (h0 : x' = x) (h1 : g' = g) (h2 : a' = a) :
    val_main_v34 (F := Ideal) x' g' a' = val_main_v34 (F := Ideal) x g a := by rw [h0, h1, h2]

theorem g_congr (h0 : x' = x) (h2 : a' = a) : val_main_v17 (F := Ideal) x' a' = val_main_v17 (F := Ideal) x a := by rw [h0, h2]
end

theorem algebraic : Cert.algebraic_DnormMemIdeal_DnormMemReferenceIdeal := by
  intro m g m' g' _ agree
  refine ⟨fun c => val_main_v33 (F := Ideal) (X0 m c) (X1 m c) (X2 m c), fun c => val_main_v34 (F := Ideal) (X0 m c) (X1 m c) (X2 m c),
    fun c => val_main_v17 (F := Ideal) (X0 m c) (X2 m c), ?_, ?_⟩
  · refine (θ_run _ _ _).mono (fun r h c => ?_) (Cert.DnormMemIdeal.Value.run_blocks m g)
    obtain ⟨h0, h1, h2, hargs⟩ := h c
    exact ⟨h0.trans ((arr_d m c).trans (ref_d _ _ _)), h1.trans ((arr_b m c).trans (ref_b _ _ _)),
      h2.trans ((arr_g m c).trans (ref_g _ _)), hargs⟩
  · refine (θ_run _ _ _).mono (fun r h c => ?_) (Cert.DnormMemReferenceIdeal.Value.run (F := Ideal) m' g')
    obtain ⟨a0, a1, a2⟩ := agree c
    obtain ⟨h0, h1, h2, hargs⟩ := h c
    refine ⟨h0.trans ((val_main_v33_eq (F := Ideal) _ _ _).trans ?_), h1.trans ((val_main_v34_eq (F := Ideal) _ _ _).trans ?_),
      h2.trans ((val_main_v17_eq (F := Ideal) _ _).trans ?_), hargs⟩
    · exact d_congr _ _ _ _ _ _ a0 a1 a2
    · exact b_congr _ _ _ _ _ _ a0 a1 a2
    · exact g_congr _ _ _ _ a0 a2

end DnormMem

end
-- ==== Proof.Loss.Value.lean ====
/-
  The loss, the final norm before it, and the gradient of both.
-/
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossReferenceIdeal.Run
public import proofs.«01_k».proof.Proof.Gen.LossReferenceIdeal.Read
public import Idealize.ShloMosaic.Lib.Pointwise
public import proofs.«01_k».proof.Proof.Rms.Math
public import Idealize.ShloMosaic.Lib.Pipeline.ValueKit

@[expose] public section

set_option maxRecDepth 16384

noncomputable section

namespace Loss

open Idealize.ShloMosaic Idealize.ShloMosaic.TcCoe Idealize.SL.Sem
open Cert.LossIdeal Cert.LossIdeal.Gen

attribute [local instance] Cert.Loss.Gen.facts Cert.LossIdeal.Gen.facts Cert.LossReferenceIdeal.Gen.facts

theorem frame_kernel : Cert.quiescent_Loss := fun m ρ _ => Cert.Loss.Gen.frame m ρ

theorem frame_kernelIdeal : Cert.quiescent_LossIdeal := fun m ρ _ => Cert.LossIdeal.Gen.frame m ρ

theorem frame_reference : Cert.quiescent_LossReferenceIdeal := fun m ρ _ =>
  (θ_run Cert.LossReferenceIdeal.defs _ _).mono (fun r h => ⟨fun c => (h c).2.2.2.2, sem_eq_zero_of_no_sems rfl r.2⟩) (Cert.LossReferenceIdeal.Value.run (F := Ideal) m ρ)

open Cert.LossReferenceIdeal.Read Rms

abbrev Arr := FVec Ideal S8192x2048 .f32
abbrev Gain := FVec Ideal S1x2048 .f32

/-- A row's difference from its target, its gradient, and its cost. -/
def off (x g y : Fin 2048 → EReal) (k : Fin 2048) : EReal := normed x (g k) k - y k
def slope (x g y : Fin 2048 → EReal) (k : Fin 2048) : EReal := off x g y k * Ideal.ofBits .f32 0x3A000000#32
def gained (x g y : Fin 2048 → EReal) (k : Fin 2048) : EReal := slope x g y k * g k
def cost (x g y : Fin 2048 → EReal) : EReal := Ideal.div (∑ k, off x g y k * off x g y k) width
def half : EReal := Ideal.ofBits .f32 0x3F000000#32

theorem half_eq : half = ((1 / 2 : ℝ) : EReal) := by
  unfold half
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; try norm_num

theorem two_eq : Ideal.ofBits .f32 0x40000000#32 = ((2 : ℝ) : EReal) := by
  simp [Ideal.ofBits, Ideal.ieee, -EReal.coe_mul]; try norm_num

theorem part_eq : Ideal.ofBits .f32 0x3A000000#32 = (((2048 : ℝ)⁻¹ : ℝ) : EReal) := by
  simp [Ideal.ofBits, Ideal.ieee, -EReal.coe_mul]; norm_num

theorem slope_eq (e : EReal) : Ideal.div (half * Ideal.ofBits .f32 0x3F800000#32) width * (Ideal.ofBits .f32 0x40000000#32 * e) = e * Ideal.ofBits .f32 0x3A000000#32 := by
  rw [half_eq, one_eq, two_eq, part_eq, width_eq, Mixer.Spec.div_real _ _ (by norm_num), ← EReal.coe_mul, ← EReal.coe_mul, ← mul_assoc, ← EReal.coe_mul, mul_comm]
  congr 2
  norm_num

section
variable (x : Vec Ideal S512x2048 .f32) (g : Vec Ideal S1x2048 .f32) (y : Vec Ideal S512x2048 .f32)

theorem pay_at (i : Fin 512) (j : Fin 2048) : k0_pay1 (F := Ideal) (k0_pay10 x) (k0_pay11 x g y) (k0_pay12 x) (k0_pay13 x g y) (ix2 i j)
    = grad (fun k => x (ix2 i k)) (gained (fun k => x (ix2 i k)) (fun k => g (ix2 0 k)) (fun k => y (ix2 i k))) j := by
  unfold grad gained slope off normed root var width eps
  pointwise [k0_pay1, k0_pay10, k0_pay11, k0_pay12, k0_pay13, k0_pay9, k0_pay7]

theorem gain_at (j : Fin 2048) : k0_pay3 (F := Ideal) (k0_pay9 x g y) (k0_pay12 x) (ix2 0 j)
    = ∑ i : Fin 512, slope (fun k => x (ix2 i k)) (fun k => g (ix2 0 k)) (fun k => y (ix2 i k)) j * (x (ix2 i j) * root (fun k => x (ix2 i k))) := by
  unfold slope off normed root var width eps
  pointwise [k0_pay3, k0_pay9, k0_pay12, k0_pay10, k0_pay7]

theorem cost_at (l : Fin 128) : k0_pay4 (F := Ideal) (k0_pay8 x g y) (ix2 0 l)
    = half * ∑ i : Fin 512, cost (fun k => x (ix2 i k)) (fun k => g (ix2 0 k)) (fun k => y (ix2 i k)) := by
  unfold half cost off normed root var width eps
  pointwise [k0_pay4, k0_pay8, k0_pay7]

theorem next_g (p q : Vec Ideal S512x2048 .f32) (o : Vec Ideal S1x2048 .f32) (j : Fin 2048) : k0_pay5 (F := Ideal) p q o (ix2 0 j) = o (ix2 0 j) + k0_pay3 (F := Ideal) p q (ix2 0 j) := by
  pointwise [k0_pay5, k0_pay3]

theorem next_l (p : Vec Ideal S1x1 .f32) (o : Vec Ideal S1x128 .f32) (j : Fin 128) : k0_pay6 (F := Ideal) p o (ix2 0 j) = o (ix2 0 j) + k0_pay4 (F := Ideal) p (ix2 0 j) := by
  pointwise [k0_pay6, k0_pay4]
end

section
variable (x : Arr) (g : Gain) (y : Arr)

/-- An entry of the stream's gradient, a token's share of a gain's gradient, and a token's cost. -/
def whole (t : Fin 8192) (r : Fin 2048) : EReal :=
  grad (fun k => x (ix2 t k)) (gained (fun k => x (ix2 t k)) (fun k => g (ix2 0 k)) (fun k => y (ix2 t k))) r
def share (r : Fin 2048) (t : Fin 8192) : EReal :=
  slope (fun k => x (ix2 t k)) (fun k => g (ix2 0 k)) (fun k => y (ix2 t k)) r * (x (ix2 t r) * root (fun k => x (ix2 t k)))
def toll (t : Fin 8192) : EReal := cost (fun k => x (ix2 t k)) (fun k => g (ix2 0 k)) (fun k => y (ix2 t k))
end

/-- The sum over one block of tokens; zero past the last block. -/
def part (f : Fin 8192 → EReal) (s : ℕ) : EReal := if hs : s < 16 then ∑ k : Fin 512, f ⟨s * 512 + k.val, by omega⟩ else 0

theorem parts (f : Fin 8192 → EReal) : ∑ s ∈ Finset.range 16, part f s = ∑ t, f t := by
  rw [← Fin.sum_mul_add_fin 16 512 f, Finset.sum_range]
  refine Finset.sum_congr rfl fun s _ => ?_
  unfold part
  rw [dif_pos s.isLt]

theorem half_parts (f : Fin 8192 → EReal) : ∑ s ∈ Finset.range 16, half * part f s = half * ∑ t, f t := by
  rw [← parts f, half_eq, Mixer.Spec.mul_sum_real _ (by norm_num)]

section
variable (m : (ℓ : Loc nD τ sig) → Buf (Elt Ideal) ℓ) (c : Dev nD)

def X0 : Arr := m ((c.tc : Thread nD τ).loc main_arg0)
def X1 : Gain := m ((c.tc : Thread nD τ).loc main_arg1)
def X2 : Arr := m ((c.tc : Thread nD τ).loc main_arg2)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![0, 0] :=
  (by decide +kernel : ∀ t : Fin grid0.N, _)

theorem ltN (t : Fin cfg0.N) : t.val < 16 := lt_of_lt_of_eq t.isLt N_0

/-- The row of the arrays of a row of a point's block. -/
def row (t : Fin cfg0.N) (i : Fin 512) : Fin 8192 := ⟨t.val * 512 + i.val, by have := ltN t; omega⟩

theorem blk_x (t : Fin cfg0.N) (i : Fin 512) : (fun k => iblk m c 0 t (ix2 i k) : Fin 2048 → EReal) = fun k => X0 m c (ix2 (row t i) k) := by
  funext k
  unfold X0 row
  blk_ext [iblk, V, idx t]

theorem blk_g (t : Fin cfg0.N) : (fun k => iblk m c 1 t (ix2 0 k) : Fin 2048 → EReal) = fun k => X1 m c (ix2 0 k) := by
  funext k
  unfold X1
  blk_ext [iblk, V, idx t]

theorem blk_y (t : Fin cfg0.N) (i : Fin 512) : (fun k => iblk m c 2 t (ix2 i k) : Fin 2048 → EReal) = fun k => X2 m c (ix2 (row t i) k) := by
  funext k
  unfold X2 row
  blk_ext [iblk, V, idx t]

theorem blk_whole (t : Fin cfg0.N) (i : Fin 512) (j : Fin 2048) :
    k0_pay1 (F := Ideal) (k0_pay10 (iblk m c 0 t)) (k0_pay11 (iblk m c 0 t) (iblk m c 1 t) (iblk m c 2 t)) (k0_pay12 (iblk m c 0 t)) (k0_pay13 (iblk m c 0 t) (iblk m c 1 t) (iblk m c 2 t)) (ix2 i j)
      = whole (X0 m c) (X1 m c) (X2 m c) (row t i) j := by
  refine (pay_at _ _ _ i j).trans ?_
  unfold whole
  rw [blk_x m c t i, blk_g m c t, blk_y m c t i]

theorem blk_trunc (t : Fin cfg0.N) (i : Fin 512) (j : Fin 2048) :
    k0_pay2 (F := Ideal) (k0_pay10 (iblk m c 0 t)) (k0_pay11 (iblk m c 0 t) (iblk m c 1 t) (iblk m c 2 t)) (k0_pay12 (iblk m c 0 t)) (k0_pay13 (iblk m c 0 t) (iblk m c 1 t) (iblk m c 2 t)) (ix2 i j)
      = whole (X0 m c) (X1 m c) (X2 m c) (row t i) j :=
  (show _ = k0_pay1 (F := Ideal) (k0_pay10 (iblk m c 0 t)) (k0_pay11 (iblk m c 0 t) (iblk m c 1 t) (iblk m c 2 t)) (k0_pay12 (iblk m c 0 t)) (k0_pay13 (iblk m c 0 t) (iblk m c 1 t) (iblk m c 2 t)) (ix2 i j) from rfl).trans (blk_whole m c t i j)

theorem blk_gain (t : Fin cfg0.N) (j : Fin 2048) :
    k0_pay3 (F := Ideal) (k0_pay9 (iblk m c 0 t) (iblk m c 1 t) (iblk m c 2 t)) (k0_pay12 (iblk m c 0 t)) (ix2 0 j) = part (share (X0 m c) (X1 m c) (X2 m c) j) t.val := by
  refine (gain_at _ _ _ j).trans ?_
  unfold part
  rw [dif_pos (ltN t)]
  refine Finset.sum_congr rfl fun i _ => ?_
  rw [blk_x m c t i, blk_g m c t, blk_y m c t i]
  exact congrArg (fun e : EReal => slope (fun k => X0 m c (ix2 (row t i) k)) (fun k => X1 m c (ix2 0 k)) (fun k => X2 m c (ix2 (row t i) k)) j * (e * root (fun k => X0 m c (ix2 (row t i) k)))) (congrFun (blk_x m c t i) j)

theorem blk_cost (t : Fin cfg0.N) (j : Fin 128) :
    k0_pay4 (F := Ideal) (k0_pay8 (iblk m c 0 t) (iblk m c 1 t) (iblk m c 2 t)) (ix2 0 j) = half * part (toll (X0 m c) (X1 m c) (X2 m c)) t.val := by
  refine (cost_at _ _ _ j).trans ?_
  unfold part
  rw [dif_pos (ltN t)]
  refine congrArg (fun e : EReal => half * e) (Finset.sum_congr rfl fun i _ => ?_)
  rw [blk_x m c t i, blk_g m c t, blk_y m c t i]
  rfl

theorem whole_congr {t t' : Fin 8192} {r r' : Fin 2048} (ht : t.val = t'.val) (hr : r.val = r'.val) :
    whole (X0 m c) (X1 m c) (X2 m c) t r = whole (X0 m c) (X1 m c) (X2 m c) t' r' := by rw [Fin.ext ht, Fin.ext hr]

theorem out_d (t : Fin cfg0.N) (i : Fin 512) (j : Fin 2048) :
    (outsAt0 m c t.val t.isLt).1 (ix2 i j) = whole (X0 m c) (X1 m c) (X2 m c) (row t i) j := by
  have hN := ltN t
  by_cases h : t.val = 0
  · rw [outsAt0_A m c t (by omega) (by omega)]
    frame_out
    exact blk_whole m c t i j
  · rw [outsAt0_B m c t (by omega) (by omega)]
    frame_out
    exact blk_whole m c t i j

theorem arr_d : (dats m 0 c).arrAt 3 cfg0.N = fun i => whole (X0 m c) (X1 m c) (X2 m c) (i 0) (i 1) := by
  refine (dats m 0 c).arrAt_eq_of_covers 3 (fun i => whole (X0 m c) (X1 m c) (X2 m c) (i 0) (i 1) : Arr)
    (by decide +kernel) fun t hf y => ?_
  blk_simp
  rw [after0_3]
  rw [show y = ix2 (y 0) (y 1) by idx_ext <;> rfl]
  refine (out_d m c t (y 0) (y 1)).trans ?_
  unfold row
  refine whole_congr _ _ ?_ ?_
  all_goals blk_simp [idx t]

theorem out_b (t : Fin cfg0.N) (i : Fin 512) (j : Fin 2048) :
    (outsAt0 m c t.val t.isLt).2.1 (ix2 i j) = whole (X0 m c) (X1 m c) (X2 m c) (row t i) j := by
  have hN := ltN t
  by_cases h : t.val = 0
  · rw [outsAt0_A m c t (by omega) (by omega)]
    frame_out
    exact blk_trunc m c t i j
  · rw [outsAt0_B m c t (by omega) (by omega)]
    frame_out
    exact blk_trunc m c t i j

theorem arr_b : (dats m 0 c).arrAt 4 cfg0.N = fun i => whole (X0 m c) (X1 m c) (X2 m c) (i 0) (i 1) := by
  refine (dats m 0 c).arrAt_eq_of_covers 4 (fun i => whole (X0 m c) (X1 m c) (X2 m c) (i 0) (i 1) : FVec Ideal S8192x2048 .bf16)
    (by decide +kernel) fun t hf y => ?_
  blk_simp
  rw [after0_4]
  rw [show y = ix2 (y 0) (y 1) by idx_ext <;> rfl]
  refine (out_b m c t (y 0) (y 1)).trans ?_
  unfold row
  refine whole_congr _ _ ?_ ?_
  all_goals blk_simp [idx t]

theorem first_g (t : Fin cfg0.N) (h : t.val = 0) (j : Fin 2048) : (outsAt0 m c t.val t.isLt).2.2.1 (ix2 0 j) = part (share (X0 m c) (X1 m c) (X2 m c) j) t.val := by
  rw [outsAt0_A m c t (by omega) (by omega)]
  frame_out
  exact blk_gain m c t j

theorem step_g (t : Fin cfg0.N) (h : ¬t.val = 0) (j : Fin 2048) : (outsAt0 m c t.val t.isLt).2.2.1 (ix2 0 j)
    = (outsAt0 m c (t.val - 1) (Nat.lt_of_le_of_lt (Nat.sub_le _ _) t.isLt)).2.2.1 (ix2 0 j) + part (share (X0 m c) (X1 m c) (X2 m c) j) t.val := by
  have hN := ltN t
  rw [outsAt0_B m c t (by omega) (by omega)]
  frame_out
  exact (next_g _ _ _ j).trans (congrArg₂ (fun a b : EReal => a + b) rfl (blk_gain m c t j))

theorem acc_g (j : Fin 2048) : ∀ n (hn : n < cfg0.N), (outsAt0 m c n hn).2.2.1 (ix2 0 j) = ∑ s ∈ Finset.range (n + 1), part (share (X0 m c) (X1 m c) (X2 m c) j) s
  | 0, hn => (first_g m c ⟨0, hn⟩ rfl j).trans (by rw [Finset.sum_range_one])
  | n + 1, hn => by
    refine (step_g m c ⟨n + 1, hn⟩ (Nat.succ_ne_zero n) j).trans ?_
    rw [Finset.sum_range_succ]
    exact congrArg (fun e : EReal => e + part (share (X0 m c) (X1 m c) (X2 m c) j) (n + 1)) (acc_g j n (Nat.lt_of_succ_lt hn))

theorem last_g : ∀ t : Fin cfg0.N, (cfg0.win 5).flush t = true → t.val = 15 := (by decide +kernel : ∀ t : Fin grid0.N, _)

theorem arr_g : (dats m 0 c).arrAt 5 cfg0.N = fun i => ∑ t, share (X0 m c) (X1 m c) (X2 m c) (i 1) t := by
  refine (dats m 0 c).arrAt_eq_of_covers 5 (fun i => ∑ t, share (X0 m c) (X1 m c) (X2 m c) (i 1) t : Gain)
    (by decide +kernel) fun t hf y => ?_
  have ht : t.val = 15 := last_g t hf
  blk_simp
  rw [after0_5]
  have e : y = ix2 0 (y 1) := by
    idx_ext <;> first | rfl | exact Subsingleton.elim (α := Fin 1) _ _
  rw [e]
  refine ((acc_g m c (y 1) t.val t.isLt).trans (congrArg (fun n => ∑ s ∈ Finset.range (n + 1), part (share (X0 m c) (X1 m c) (X2 m c) (y 1)) s) ht)).trans (parts _ |>.trans ?_)
  refine congrArg (fun r => ∑ t, share (X0 m c) (X1 m c) (X2 m c) r t) (Fin.ext ?_)
  blk_simp [idx t]

theorem first_l (t : Fin cfg0.N) (h : t.val = 0) (j : Fin 128) : (outsAt0 m c t.val t.isLt).2.2.2 (ix2 0 j) = half * part (toll (X0 m c) (X1 m c) (X2 m c)) t.val := by
  rw [outsAt0_A m c t (by omega) (by omega)]
  frame_out
  exact blk_cost m c t j

theorem step_l (t : Fin cfg0.N) (h : ¬t.val = 0) (j : Fin 128) : (outsAt0 m c t.val t.isLt).2.2.2 (ix2 0 j)
    = (outsAt0 m c (t.val - 1) (Nat.lt_of_le_of_lt (Nat.sub_le _ _) t.isLt)).2.2.2 (ix2 0 j) + half * part (toll (X0 m c) (X1 m c) (X2 m c)) t.val := by
  have hN := ltN t
  rw [outsAt0_B m c t (by omega) (by omega)]
  frame_out
  exact (next_l _ _ j).trans (congrArg₂ (fun a b : EReal => a + b) rfl (blk_cost m c t j))

theorem acc_l (j : Fin 128) : ∀ n (hn : n < cfg0.N), (outsAt0 m c n hn).2.2.2 (ix2 0 j) = ∑ s ∈ Finset.range (n + 1), half * part (toll (X0 m c) (X1 m c) (X2 m c)) s
  | 0, hn => (first_l m c ⟨0, hn⟩ rfl j).trans (by rw [Finset.sum_range_one])
  | n + 1, hn => by
    refine (step_l m c ⟨n + 1, hn⟩ (Nat.succ_ne_zero n) j).trans ?_
    rw [Finset.sum_range_succ]
    exact congrArg (fun e : EReal => e + half * part (toll (X0 m c) (X1 m c) (X2 m c)) (n + 1)) (acc_l j n (Nat.lt_of_succ_lt hn))

theorem last_l : ∀ t : Fin cfg0.N, (cfg0.win 6).flush t = true → t.val = 15 := (by decide +kernel : ∀ t : Fin grid0.N, _)

theorem arr_l : (dats m 0 c).arrAt 6 cfg0.N = fun i => half * ∑ t, toll (X0 m c) (X1 m c) (X2 m c) t := by
  refine (dats m 0 c).arrAt_eq_of_covers 6 (fun i => half * ∑ t, toll (X0 m c) (X1 m c) (X2 m c) t : FVec Ideal S1x128 .f32)
    (by decide +kernel) fun t hf y => ?_
  have ht : t.val = 15 := last_l t hf
  blk_simp
  rw [after0_6]
  have e : y = ix2 0 (y 1) := by
    idx_ext <;> first | rfl | exact Subsingleton.elim (α := Fin 1) _ _
  rw [e]
  refine ((acc_l m c (y 1) t.val t.isLt).trans (congrArg (fun n => ∑ s ∈ Finset.range (n + 1), half * part (toll (X0 m c) (X1 m c) (X2 m c)) s) ht)).trans (half_parts _ |>.trans rfl)

end

section
variable (x : Arr) (g : Gain) (y : Arr)

theorem sq_at (t : Fin 8192) : val_main_v1 (F := Ideal) x (ix1 t) = ∑ k, x (ix2 t k) * x (ix2 t k) := by
  refine (val_main_v1_apply x _).trans ?_
  rw [val_main_cst_apply]
  refine (congrArg₂ (fun a b : EReal => a + b) zero32 (Finset.sum_congr rfl fun k _ => ?_)).trans (zero_add _)
  have e : idx_main_v1 (ix1 t) k = ix2 t k := by
    idx_ext <;> rfl
  rw [e]
  exact val_main_v0_apply (F := Ideal) x _

theorem var_at (t : Fin 8192) : val_main_v6 (F := Ideal) x (ix2 t 0) = var (fun k => x (ix2 t k)) := by
  refine (val_main_v6_apply (F := Ideal) x _).trans ?_
  unfold var
  refine congrArg₂ (fun a b : EReal => a + b) ?_ ((val_main_v5_apply (F := Ideal) _).trans (val_main_cst_1_apply (F := Ideal) _))
  refine (val_main_v4_apply (F := Ideal) x _).trans (congrArg₂ (fun a b : EReal => Ideal.div a b) ?_ ((val_main_v3_apply (F := Ideal) _).trans (val_main_cst_0_apply (F := Ideal) _)))
  refine (val_main_v2_apply (F := Ideal) x _).trans ((congrArg _ ?_).trans (sq_at x t))
  funext q
  match q with
  | ⟨0, _⟩ => rfl

theorem root_at (t : Fin 8192) : val_main_v7 (F := Ideal) x (ix2 t 0) = root (fun k => x (ix2 t k)) :=
  (val_main_v7_apply (F := Ideal) x _).trans (congrArg Ideal.rsqrt (var_at x t))

theorem bend_at (t : Fin 8192) : val_main_v10 (F := Ideal) x (ix2 t 0)
    = Ideal.ofBits .f32 0xBF000000#32 * Ideal.div (root (fun k => x (ix2 t k))) (var (fun k => x (ix2 t k))) := by
  refine (val_main_v10_apply (F := Ideal) x _).trans (congrArg₂ (fun a b : EReal => a * b) ((val_main_v9_apply (F := Ideal) _).trans (val_main_cst_2_apply (F := Ideal) _)) ?_)
  exact (val_main_v8_apply (F := Ideal) x _).trans (congrArg₂ (fun a b : EReal => Ideal.div a b) (root_at x t) (var_at x t))

theorem scaled_at (t : Fin 8192) (r : Fin 2048) : val_main_v12 (F := Ideal) x (ix2 t r) = x (ix2 t r) * root (fun k => x (ix2 t k)) := by
  refine (val_main_v12_apply (F := Ideal) x _).trans (congrArg (fun e : EReal => x (ix2 t r) * e) ?_)
  refine (val_main_v11_apply (F := Ideal) x _).trans ((congrArg _ ?_).trans (root_at x t))
  idx_ext <;> rfl

theorem off_at (t : Fin 8192) (r : Fin 2048) : val_main_v15 (F := Ideal) x g y (ix2 t r) = off (fun k => x (ix2 t k)) (fun k => g (ix2 0 k)) (fun k => y (ix2 t k)) r := by
  refine (val_main_v15_apply (F := Ideal) x g y _).trans ?_
  unfold off normed
  refine congrArg₂ (fun a b : EReal => a - b) ((val_main_v14_apply (F := Ideal) x g _).trans ?_) rfl
  refine congrArg₂ (fun a b : EReal => a * b) (scaled_at x t r) ((val_main_v13_apply (F := Ideal) g _).trans (congrArg g ?_))
  idx_ext <;> rfl

theorem slope_at (t : Fin 8192) (r : Fin 2048) : val_main_v29 (F := Ideal) x g y (ix2 t r) = slope (fun k => x (ix2 t k)) (fun k => g (ix2 0 k)) (fun k => y (ix2 t k)) r := by
  refine (val_main_v29_apply (F := Ideal) x g y _).trans ?_
  unfold slope
  rw [← slope_eq]
  refine congrArg₂ (fun a b : EReal => a * b) ?_ ((val_main_v18_apply (F := Ideal) x g y _).trans (congrArg₂ (fun a b : EReal => a * b) ((val_main_v17_apply (F := Ideal) _).trans (val_main_cst_3_apply (F := Ideal) _)) (off_at x g y t r)))
  refine (val_main_v28_apply (F := Ideal) _).trans ((val_main_v27_apply (F := Ideal) _).trans (congrArg₂ (fun a b : EReal => Ideal.div a b) ?_ ((val_main_v26_apply (F := Ideal) _).trans (val_main_cst_10_apply (F := Ideal) _))))
  exact (val_main_v25_apply (F := Ideal) _).trans ((val_main_v24_apply (F := Ideal) _).trans (congrArg₂ (fun a b : EReal => a * b) (val_main_cst_8_apply (F := Ideal) _) (val_main_cst_9_apply (F := Ideal) _)))

theorem share_at (t : Fin 8192) (r : Fin 2048) : val_main_v30 (F := Ideal) x g y (ix2 t r) = share x g y r t := by
  refine (val_main_v30_apply (F := Ideal) x g y _).trans ?_
  unfold share
  exact (congrArg₂ (fun a b : EReal => a * b) (scaled_at x t r) (slope_at x g y t r)).trans (mul_comm _ _)

theorem ref_g : (fun i => ∑ t, share x g y (i 1) t : Gain) = val_main_v32 (F := Ideal) x g y := by
  funext i
  refine Eq.symm ((val_main_v32_apply (F := Ideal) x g y i).trans ((val_main_v31_apply x g y _).trans ?_))
  rw [val_main_cst_11_apply]
  refine (congrArg₂ (fun a b : EReal => a + b) zero32 (Finset.sum_congr rfl fun k _ => ?_)).trans (zero_add _)
  refine (congrArg _ ?_).trans (share_at x g y k (i 1))
  funext q
  match q with
  | ⟨0, _⟩ => rfl
  | ⟨1, _⟩ => exact Fin.ext (by show (i 0).val * 2048 + (i 1).val = (i 1).val; have : (i 0).val < 1 := (i 0).isLt; omega)

theorem gained_at (t : Fin 8192) (r : Fin 2048) : val_main_v34 (F := Ideal) x g y (ix2 t r) = gained (fun k => x (ix2 t k)) (fun k => g (ix2 0 k)) (fun k => y (ix2 t k)) r := by
  refine (val_main_v34_apply (F := Ideal) x g y _).trans ?_
  unfold gained
  refine congrArg₂ (fun a b : EReal => a * b) (slope_at x g y t r) ((val_main_v33_apply (F := Ideal) g _).trans (congrArg g ?_))
  idx_ext <;> rfl

theorem inner_at (t : Fin 8192) : val_main_v37 (F := Ideal) x g y (ix2 t 0) = ∑ k, x (ix2 t k) * gained (fun k => x (ix2 t k)) (fun k => g (ix2 0 k)) (fun k => y (ix2 t k)) k := by
  refine (val_main_v37_apply (F := Ideal) x g y _).trans ((val_main_v36_apply x g y _).trans ?_)
  rw [val_main_cst_12_apply]
  refine (congrArg₂ (fun a b : EReal => a + b) zero32 (Finset.sum_congr rfl fun k _ => ?_)).trans (zero_add _)
  refine (congrArg _ (?_ : _ = ix2 t k)).trans ((val_main_v35_apply (F := Ideal) x g y _).trans (congrArg (fun e : EReal => x (ix2 t k) * e) (gained_at x g y t k)))
  funext q
  match q with
  | ⟨0, _⟩ => exact Fin.ext (by show t.val * 1 + 0 = t.val; omega)
  | ⟨1, _⟩ => rfl

theorem through_at (t : Fin 8192) (r : Fin 2048) : val_main_v44 (F := Ideal) x g y (ix2 t r) = through (fun k => x (ix2 t k)) (gained (fun k => x (ix2 t k)) (fun k => g (ix2 0 k)) (fun k => y (ix2 t k))) := by
  refine (val_main_v44_apply (F := Ideal) x g y _).trans ((val_main_v43_apply x g y _).trans ?_)
  rw [val_main_cst_14_apply]
  refine (congrArg₂ (fun a b : EReal => a + b) zero32 (Fin.sum_univ_one _)).trans ((zero_add _).trans ?_)
  refine (congrArg _ (?_ : _ = ix2 t 0)).trans ((val_main_v42_apply (F := Ideal) x g y _).trans ?_)
  · idx_ext <;> rfl
  unfold through
  refine congrArg₂ (fun a b : EReal => Ideal.div a b) ?_ ((val_main_v41_apply (F := Ideal) _).trans (val_main_cst_13_apply (F := Ideal) _))
  exact (val_main_v40_apply (F := Ideal) x g y _).trans (congrArg₂ (fun a b : EReal => a * b) (inner_at x g y t) (bend_at x t))

theorem direct_at (t : Fin 8192) (r : Fin 2048) : val_main_v39 (F := Ideal) x g y (ix2 t r) = gained (fun k => x (ix2 t k)) (fun k => g (ix2 0 k)) (fun k => y (ix2 t k)) r * root (fun k => x (ix2 t k)) := by
  refine (val_main_v39_apply (F := Ideal) x g y _).trans (congrArg₂ (fun a b : EReal => a * b) (gained_at x g y t r) ?_)
  refine (val_main_v38_apply (F := Ideal) x _).trans ((congrArg _ ?_).trans (root_at x t))
  idx_ext <;> rfl

theorem ref_at (t : Fin 8192) (r : Fin 2048) : val_main_v48 (F := Ideal) x g y (ix2 t r) = whole x g y t r := by
  refine (val_main_v48_apply (F := Ideal) x g y _).trans ?_
  unfold whole
  rw [← chain]
  exact congrArg₂ (fun a b : EReal => a + b) ((val_main_v46_apply (F := Ideal) x g y _).trans (congrArg₂ (fun a b : EReal => a + b) (direct_at x g y t r)
    ((val_main_v45_apply (F := Ideal) x g y _).trans (congrArg (fun e : EReal => x (ix2 t r) * e) (through_at x g y t r))))) ((val_main_v47_apply (F := Ideal) x g y _).trans (congrArg (fun e : EReal => e * x (ix2 t r)) (through_at x g y t r)))

theorem ref_d : (fun i => whole x g y (i 0) (i 1) : Arr) = val_main_v48 (F := Ideal) x g y := by
  funext i
  rw [show i = ix2 (i 0) (i 1) by idx_ext <;> rfl]
  exact (ref_at x g y (i 0) (i 1)).symm

theorem ref_b : (fun i => whole x g y (i 0) (i 1) : FVec Ideal S8192x2048 .bf16) = val_main_v49 (F := Ideal) x g y := by
  funext i
  rw [show i = ix2 (i 0) (i 1) by idx_ext <;> rfl]
  exact (ref_at x g y (i 0) (i 1)).symm

theorem toll_at (t : Fin 8192) : val_main_v21 (F := Ideal) x g y (ix1 t) = toll x g y t := by
  refine (val_main_v21_apply (F := Ideal) x g y _).trans ?_
  unfold toll cost
  refine congrArg₂ (fun a b : EReal => Ideal.div a b) ((val_main_v19_apply x g y _).trans ?_) ((val_main_v20_apply (F := Ideal) _).trans (val_main_cst_5_apply (F := Ideal) _))
  rw [val_main_cst_4_apply]
  refine (congrArg₂ (fun a b : EReal => a + b) zero32 (Finset.sum_congr rfl fun k _ => ?_)).trans (zero_add _)
  refine (congrArg _ (?_ : _ = ix2 t k)).trans ((val_main_v16_apply (F := Ideal) x g y _).trans (congrArg₂ (fun a b : EReal => a * b) (off_at x g y t k) (off_at x g y t k)))
  idx_ext <;> rfl

/-- The tokens, as the indices of an array of one axis. -/
def tokens : Fin 8192 ≃ Cert.LossReferenceIdeal.S8192.Idx := ⟨fun t => ix1 t, fun j => j 0, fun _ => rfl, fun j => by
  funext q
  match q with
  | ⟨0, _⟩ => rfl⟩

theorem ref_l : (fun i => half * ∑ t, toll x g y t : FVec Ideal S1x128 .f32) = val_main_v50 (F := Ideal) x g y := by
  funext i
  refine Eq.symm ((val_main_v50_apply (F := Ideal) x g y i).trans ((val_main_v23_apply (F := Ideal) x g y _).trans ?_))
  refine congrArg₂ (fun a b : EReal => a * b) (val_main_cst_7_apply (F := Ideal) _) ((val_main_v22_apply x g y _).trans ?_)
  rw [val_main_cst_6_apply]
  refine (congrArg₂ (fun a b : EReal => a + b) zero32 (Eq.symm (Fintype.sum_equiv tokens _ _ fun t => ?_))).trans (zero_add _)
  exact (toll_at x g y t).symm

variable (x' : Arr) (g' : Gain) (y' : Arr)

theorem d_congr (h0 : x' = x) (h1 : g' = g) (h2 : y' = y) : val_main_v48 (F := Ideal) x' g' y' = val_main_v48 (F := Ideal) x g y := by rw [h0, h1, h2]

theorem b_congr (h0 : x' = x) (h1 : g' = g) (h2 : y' = y) : val_main_v49 (F := Ideal) x' g' y' = val_main_v49 (F := Ideal) x g y := by rw [h0, h1, h2]

theorem g_congr (h0 : x' = x) (h1 : g' = g) (h2 : y' = y) : val_main_v32 (F := Ideal) x' g' y' = val_main_v32 (F := Ideal) x g y := by rw [h0, h1, h2]

theorem l_congr (h0 : x' = x) (h1 : g' = g) (h2 : y' = y) : val_main_v50 (F := Ideal) x' g' y' = val_main_v50 (F := Ideal) x g y := by rw [h0, h1, h2]
end

theorem algebraic : Cert.algebraic_LossIdeal_LossReferenceIdeal := by
  intro m g m' g' _ agree
  refine ⟨fun c => val_main_v48 (F := Ideal) (X0 m c) (X1 m c) (X2 m c), fun c => val_main_v49 (F := Ideal) (X0 m c) (X1 m c) (X2 m c),
    fun c => val_main_v32 (F := Ideal) (X0 m c) (X1 m c) (X2 m c), fun c => val_main_v50 (F := Ideal) (X0 m c) (X1 m c) (X2 m c), ?_, ?_⟩
  · refine (θ_run _ _ _).mono (fun r h c => ?_) (Cert.LossIdeal.Value.run_blocks m g)
    obtain ⟨h0, h1, h2, h3, hargs⟩ := h c
    exact ⟨h0.trans ((arr_d m c).trans (ref_d _ _ _)), h1.trans ((arr_b m c).trans (ref_b _ _ _)),
      h2.trans ((arr_g m c).trans (ref_g _ _ _)), h3.trans ((arr_l m c).trans (ref_l _ _ _)), hargs⟩
  · refine (θ_run _ _ _).mono (fun r h c => ?_) (Cert.LossReferenceIdeal.Value.run (F := Ideal) m' g')
    obtain ⟨a0, a1, a2⟩ := agree c
    obtain ⟨h0, h1, h2, h3, hargs⟩ := h c
    refine ⟨h0.trans ((val_main_v48_eq (F := Ideal) _ _).trans ?_), h1.trans ((val_main_v49_eq (F := Ideal) _ _).trans ?_),
      h2.trans ((val_main_v32_eq (F := Ideal) _ _ _).trans ?_), h3.trans ((val_main_v50_eq (F := Ideal) _ _ _).trans ?_), hargs⟩
    · exact d_congr _ _ _ _ _ _ a0 a1 a2
    · exact b_congr _ _ _ _ _ _ a0 a1 a2
    · exact g_congr _ _ _ _ _ _ a0 a1 a2
    · exact l_congr _ _ _ _ _ _ a0 a1 a2

end Loss

end
-- ==== Proof.Adam.Math.lean ====
/-
  The optimiser's step of one weight, over the extended reals, with the step's constants as they are printed.
-/
module

public import proofs.«01_k».proof.Proof.Mixer.Spec

@[expose] public section

noncomputable section

namespace Adam

open Idealize.ShloMosaic

/-- The running mean of the gradient, and of its square. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)

/-- The weight's change. -/
def delta (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

end Adam

end
-- ==== Proof.AdamUp.Value.lean ====
/-
  The optimiser's step of a weight of the shape of w_gate and w_up.
-/
module

public import proofs.«01_k».proof.Defs
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpReferenceIdeal.Run
public import proofs.«01_k».proof.Proof.Gen.AdamUpReferenceIdeal.Read
public import Idealize.ShloMosaic.Lib.Pointwise
public import proofs.«01_k».proof.Proof.Adam.Math
public import Idealize.ShloMosaic.Lib.Pipeline.ValueKit

@[expose] public section

set_option maxRecDepth 16384

noncomputable section

namespace AdamUp

open Idealize.ShloMosaic Idealize.ShloMosaic.TcCoe Idealize.SL.Sem
open Cert.AdamUpIdeal Cert.AdamUpIdeal.Gen

attribute [local instance] Cert.AdamUp.Gen.facts Cert.AdamUpIdeal.Gen.facts Cert.AdamUpReferenceIdeal.Gen.facts

theorem frame_kernel : Cert.quiescent_AdamUp := fun m ρ _ => Cert.AdamUp.Gen.frame m ρ

theorem frame_kernelIdeal : Cert.quiescent_AdamUpIdeal := fun m ρ _ => Cert.AdamUpIdeal.Gen.frame m ρ

theorem frame_reference : Cert.quiescent_AdamUpReferenceIdeal := fun m ρ _ =>
  (θ_run Cert.AdamUpReferenceIdeal.defs _ _).mono (fun r h => ⟨fun c => (h c).2.2.2.2, sem_eq_zero_of_no_sems rfl r.2⟩) (Cert.AdamUpReferenceIdeal.Value.run (F := Ideal) m ρ)

open Cert.AdamUpReferenceIdeal.Read Adam

abbrev Arr := FVec Ideal S2048x1408 .f32

section
variable (w g m v : Vec Ideal S256x1408 .f32) (i : Fin 256) (j : Fin 1408)

theorem mean_at : k0_pay1 (F := Ideal) g m (ix2 i j) = mean (g (ix2 i j)) (m (ix2 i j)) := by
  unfold mean
  pointwise [k0_pay1]

theorem square_at : k0_pay2 (F := Ideal) g v (ix2 i j) = square (g (ix2 i j)) (v (ix2 i j)) := by
  unfold square
  pointwise [k0_pay2]

theorem delta_at : k0_pay3 (F := Ideal) g m v w (ix2 i j) = delta (w (ix2 i j)) (g (ix2 i j)) (m (ix2 i j)) (v (ix2 i j)) := by
  unfold delta mean square
  pointwise [k0_pay3, k0_pay1, k0_pay2]
end

section
variable (m : (ℓ : Loc nD τ sig) → Buf (Elt Ideal) ℓ) (c : Dev nD)

def X0 : Arr := m ((c.tc : Thread nD τ).loc main_arg0)
def X1 : Arr := m ((c.tc : Thread nD τ).loc main_arg1)
def X2 : Arr := m ((c.tc : Thread nD τ).loc main_arg2)
def X3 : Arr := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 8 := lt_of_lt_of_eq t.isLt N_0

/-- The row of the arrays of a row of a point's block. -/
def row (t : Fin cfg0.N) (i : Fin 256) : Fin 2048 := ⟨t.val * 256 + i.val, by have := ltN t; omega⟩

section
variable (t : Fin cfg0.N) (i : Fin 256) (j : Fin 1408)

theorem blk0 : (iblk m c 0 t : Vec Ideal S256x1408 .f32) (ix2 i j) = X0 m c (ix2 (row t i) j) := by
  unfold X0 row
  blk_ext [iblk, V, idx t]

theorem blk1 : (iblk m c 1 t : Vec Ideal S256x1408 .f32) (ix2 i j) = X1 m c (ix2 (row t i) j) := by
  unfold X1 row
  blk_ext [iblk, V, idx t]

theorem blk2 : (iblk m c 2 t : Vec Ideal S256x1408 .f32) (ix2 i j) = X2 m c (ix2 (row t i) j) := by
  unfold X2 row
  blk_ext [iblk, V, idx t]

theorem blk3 : (iblk m c 3 t : Vec Ideal S256x1408 .f32) (ix2 i j) = X3 m c (ix2 (row t i) j) := by
  unfold X3 row
  blk_ext [iblk, V, idx t]

theorem at_congr (f : Fin 2048 → Fin 1408 → EReal) {t t' : Fin 2048} {r r' : Fin 1408} (ht : t.val = t'.val) (hr : r.val = r'.val) : f t r = f t' r' := by
  rw [Fin.ext ht, Fin.ext hr]

/-- The results, at an entry. -/
def newMean (g m : Arr) (t : Fin 2048) (r : Fin 1408) : EReal := mean (g (ix2 t r)) (m (ix2 t r))
def newSquare (g v : Arr) (t : Fin 2048) (r : Fin 1408) : EReal := square (g (ix2 t r)) (v (ix2 t r))
def change (w g m v : Arr) (t : Fin 2048) (r : Fin 1408) : EReal := delta (w (ix2 t r)) (g (ix2 t r)) (m (ix2 t r)) (v (ix2 t r))
def same (g : Arr) (t : Fin 2048) (r : Fin 1408) : EReal := g (ix2 t r)

theorem bd : k0_pay3 (F := Ideal) (iblk m c 1 t) (iblk m c 2 t) (iblk m c 3 t) (iblk m c 0 t) (ix2 i j) = change (X0 m c) (X1 m c) (X2 m c) (X3 m c) (row t i) j := by
  refine (delta_at _ _ _ _ i j).trans ?_
  rw [blk0, blk1, blk2, blk3]; rfl

theorem bm : k0_pay1 (F := Ideal) (iblk m c 1 t) (iblk m c 2 t) (ix2 i j) = newMean (X1 m c) (X2 m c) (row t i) j := by
  refine (mean_at _ _ i j).trans ?_
  rw [blk1, blk2]; rfl

theorem bv : k0_pay2 (F := Ideal) (iblk m c 1 t) (iblk m c 3 t) (ix2 i j) = newSquare (X1 m c) (X3 m c) (row t i) j := by
  refine (square_at _ _ i j).trans ?_
  rw [blk1, blk3]; rfl

end

theorem arr_g : (dats m 0 c).arrAt 4 cfg0.N = fun i => same (X1 m c) (i 0) (i 1) := by
  refine (dats m 0 c).arrAt_eq_of_covers 4 (fun i => same (X1 m c) (i 0) (i 1) : Arr)
    (by decide +kernel) fun t hf y => ?_
  blk_simp
  rw [after0_4]
  frame_out
  rw [show y = ix2 (y 0) (y 1) by idx_ext <;> rfl]
  refine (blk1 m c t (y 0) (y 1)).trans ?_
  exact at_congr (same (X1 m c)) (by unfold row; blk_simp [idx t]) (by blk_simp [idx t])

theorem arr_d : (dats m 0 c).arrAt 5 cfg0.N = fun i => change (X0 m c) (X1 m c) (X2 m c) (X3 m c) (i 0) (i 1) := by
  refine (dats m 0 c).arrAt_eq_of_covers 5 (fun i => change (X0 m c) (X1 m c) (X2 m c) (X3 m c) (i 0) (i 1) : Arr)
    (by decide +kernel) fun t hf y => ?_
  blk_simp
  rw [after0_5]
  frame_out
  rw [show y = ix2 (y 0) (y 1) by idx_ext <;> rfl]
  refine (bd m c t (y 0) (y 1)).trans ?_
  exact at_congr (change (X0 m c) (X1 m c) (X2 m c) (X3 m c)) (by unfold row; blk_simp [idx t]) (by blk_simp [idx t])

theorem arr_m : (dats m 0 c).arrAt 6 cfg0.N = fun i => newMean (X1 m c) (X2 m c) (i 0) (i 1) := by
  refine (dats m 0 c).arrAt_eq_of_covers 6 (fun i => newMean (X1 m c) (X2 m c) (i 0) (i 1) : Arr)
    (by decide +kernel) fun t hf y => ?_
  blk_simp
  rw [after0_6]
  frame_out
  rw [show y = ix2 (y 0) (y 1) by idx_ext <;> rfl]
  refine (bm m c t (y 0) (y 1)).trans ?_
  exact at_congr (newMean (X1 m c) (X2 m c)) (by unfold row; blk_simp [idx t]) (by blk_simp [idx t])

theorem arr_v : (dats m 0 c).arrAt 7 cfg0.N = fun i => newSquare (X1 m c) (X3 m c) (i 0) (i 1) := by
  refine (dats m 0 c).arrAt_eq_of_covers 7 (fun i => newSquare (X1 m c) (X3 m c) (i 0) (i 1) : Arr)
    (by decide +kernel) fun t hf y => ?_
  blk_simp
  rw [after0_7]
  frame_out
  rw [show y = ix2 (y 0) (y 1) by idx_ext <;> rfl]
  refine (bv m c t (y 0) (y 1)).trans ?_
  exact at_congr (newSquare (X1 m c) (X3 m c)) (by unfold row; blk_simp [idx t]) (by blk_simp [idx t])

end

section
variable (w g m v : Arr)

theorem mean_ref (i : S2048x1408.Idx) : val_main_v4 (F := Ideal) g m i = mean (g i) (m i) := by
  rw [val_main_v4_apply, val_main_v1_apply, val_main_v3_apply, val_main_v0_apply, val_main_v2_apply, val_main_cst_apply, val_main_cst_0_apply]
  rfl

theorem square_ref (i : S2048x1408.Idx) : val_main_v10 (F := Ideal) g v i = square (g i) (v i) := by
  rw [val_main_v10_apply, val_main_v6_apply, val_main_v9_apply, val_main_v5_apply, val_main_v8_apply, val_main_v7_apply, val_main_cst_1_apply, val_main_cst_2_apply]
  rfl

theorem delta_ref (i : S2048x1408.Idx) : val_main_v23 (F := Ideal) w g m v i = delta (w i) (g i) (m i) (v i) := by
  rw [val_main_v23_apply, val_main_v22_apply, val_main_v21_apply, val_main_v18_apply, val_main_v20_apply, val_main_v19_apply, val_main_v12_apply, val_main_v17_apply,
    val_main_v15_apply, val_main_v14_apply, val_main_v11_apply, val_main_v13_apply, val_main_v16_apply,
    val_main_cst_3_apply, val_main_cst_4_apply, val_main_cst_5_apply, val_main_cst_6_apply, val_main_cst_7_apply, mean_ref, square_ref]
  rfl

theorem ref_m : (fun i => newMean g m (i 0) (i 1) : Arr) = val_main_v4 (F := Ideal) g m := by
  funext i
  refine Eq.trans ?_ (mean_ref g m i).symm
  exact congrArg (fun i => mean (g i) (m i)) (show ix2 (i 0) (i 1) = i by idx_ext <;> rfl)

theorem ref_v : (fun i => newSquare g v (i 0) (i 1) : Arr) = val_main_v10 (F := Ideal) g v := by
  funext i
  refine Eq.trans ?_ (square_ref g v i).symm
  exact congrArg (fun i => square (g i) (v i)) (show ix2 (i 0) (i 1) = i by idx_ext <;> rfl)

theorem ref_d : (fun i => change w g m v (i 0) (i 1) : Arr) = val_main_v23 (F := Ideal) w g m v := by
  funext i
  refine Eq.trans ?_ (delta_ref w g m v i).symm
  exact congrArg (fun i => delta (w i) (g i) (m i) (v i)) (show ix2 (i 0) (i 1) = i by idx_ext <;> rfl)

theorem ref_g : (fun i => same g (i 0) (i 1) : Arr) = g := by
  funext i
  exact congrArg g (show ix2 (i 0) (i 1) = i by idx_ext <;> rfl)

variable (w' g' m' v' : Arr)

theorem d_congr (h0 : w' = w) (h1 : g' = g) (h2 : m' = m) (h3 : v' = v) :
    val_main_v23 (F := Ideal) w' g' m' v' = val_main_v23 (F := Ideal) w g m v := by rw [h0, h1, h2, h3]

theorem m_congr (h1 : g' = g) (h2 : m' = m) : val_main_v4 (F := Ideal) g' m' = val_main_v4 (F := Ideal) g m := by rw [h1, h2]

theorem v_congr (h1 : g' = g) (h3 : v' = v) : val_main_v10 (F := Ideal) g' v' = val_main_v10 (F := Ideal) g v := by rw [h1, h3]
end

theorem algebraic : Cert.algebraic_AdamUpIdeal_AdamUpReferenceIdeal := by
  intro m g m' g' _ agree
  refine ⟨fun c => X1 m c, fun c => val_main_v23 (F := Ideal) (X0 m c) (X1 m c) (X2 m c) (X3 m c), fun c => val_main_v4 (F := Ideal) (X1 m c) (X2 m c),
    fun c => val_main_v10 (F := Ideal) (X1 m c) (X3 m c), ?_, ?_⟩
  · refine (θ_run _ _ _).mono (fun r h c => ?_) (Cert.AdamUpIdeal.Value.run_blocks m g)
    obtain ⟨h0, h1, h2, h3, hargs⟩ := h c
    exact ⟨h0.trans ((arr_g m c).trans (ref_g _)), h1.trans ((arr_d m c).trans (ref_d _ _ _ _)), h2.trans ((arr_m m c).trans (ref_m _ _)),
      h3.trans ((arr_v m c).trans (ref_v _ _)), hargs⟩
  · refine (θ_run _ _ _).mono (fun r h c => ?_) (Cert.AdamUpReferenceIdeal.Value.run (F := Ideal) m' g')
    obtain ⟨a0, a1, a2, a3⟩ := agree c
    obtain ⟨h0, h1, h2, h3, hargs⟩ := h c
    refine ⟨h0.trans a1, h1.trans ((val_main_v23_eq (F := Ideal) _ _ _ _).trans ?_), h2.trans ((val_main_v4_eq (F := Ideal) _ _).trans ?_),
      h3.trans ((val_main_v10_eq (F := Ideal) _ _).trans ?_), hargs⟩
    · exact d_congr _ _ _ _ _ _ _ _ a0 a1 a2 a3
    · exact m_congr _ _ _ _ a1 a2
    · exact v_congr _ _ _ _ a1 a3

end AdamUp

end
-- ==== Proof.AdamDown.Value.lean ====
/-
  The optimiser's step of a weight of the shape of w_down.
-/
module

public import proofs.«01_k».proof.Defs
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownReferenceIdeal.Run
public import proofs.«01_k».proof.Proof.Gen.AdamDownReferenceIdeal.Read
public import Idealize.ShloMosaic.Lib.Pointwise
public import proofs.«01_k».proof.Proof.Adam.Math
public import Idealize.ShloMosaic.Lib.Pipeline.ValueKit

@[expose] public section

set_option maxRecDepth 16384

noncomputable section

namespace AdamDown

open Idealize.ShloMosaic Idealize.ShloMosaic.TcCoe Idealize.SL.Sem
open Cert.AdamDownIdeal Cert.AdamDownIdeal.Gen

attribute [local instance] Cert.AdamDown.Gen.facts Cert.AdamDownIdeal.Gen.facts Cert.AdamDownReferenceIdeal.Gen.facts

theorem frame_kernel : Cert.quiescent_AdamDown := fun m ρ _ => Cert.AdamDown.Gen.frame m ρ

theorem frame_kernelIdeal : Cert.quiescent_AdamDownIdeal := fun m ρ _ => Cert.AdamDownIdeal.Gen.frame m ρ

theorem frame_reference : Cert.quiescent_AdamDownReferenceIdeal := fun m ρ _ =>
  (θ_run Cert.AdamDownReferenceIdeal.defs _ _).mono (fun r h => ⟨fun c => (h c).2.2.2.2, sem_eq_zero_of_no_sems rfl r.2⟩) (Cert.AdamDownReferenceIdeal.Value.run (F := Ideal) m ρ)

open Cert.AdamDownReferenceIdeal.Read Adam

abbrev Arr := FVec Ideal S1408x2048 .f32

section
variable (w g m v : Vec Ideal S176x2048 .f32) (i : Fin 176) (j : Fin 2048)

theorem mean_at : k0_pay1 (F := Ideal) g m (ix2 i j) = mean (g (ix2 i j)) (m (ix2 i j)) := by
  unfold mean
  pointwise [k0_pay1]

theorem square_at : k0_pay2 (F := Ideal) g v (ix2 i j) = square (g (ix2 i j)) (v (ix2 i j)) := by
  unfold square
  pointwise [k0_pay2]

theorem delta_at : k0_pay3 (F := Ideal) g m v w (ix2 i j) = delta (w (ix2 i j)) (g (ix2 i j)) (m (ix2 i j)) (v (ix2 i j)) := by
  unfold delta mean square
  pointwise [k0_pay3, k0_pay1, k0_pay2]
end

section
variable (m : (ℓ : Loc nD τ sig) → Buf (Elt Ideal) ℓ) (c : Dev nD)

def X0 : Arr := m ((c.tc : Thread nD τ).loc main_arg0)
def X1 : Arr := m ((c.tc : Thread nD τ).loc main_arg1)
def X2 : Arr := m ((c.tc : Thread nD τ).loc main_arg2)
def X3 : Arr := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 8 := lt_of_lt_of_eq t.isLt N_0

/-- The row of the arrays of a row of a point's block. -/
def row (t : Fin cfg0.N) (i : Fin 176) : Fin 1408 := ⟨t.val * 176 + i.val, by have := ltN t; omega⟩

section
variable (t : Fin cfg0.N) (i : Fin 176) (j : Fin 2048)

theorem blk0 : (iblk m c 0 t : Vec Ideal S176x2048 .f32) (ix2 i j) = X0 m c (ix2 (row t i) j) := by
  unfold X0 row
  blk_ext [iblk, V, idx t]

theorem blk1 : (iblk m c 1 t : Vec Ideal S176x2048 .f32) (ix2 i j) = X1 m c (ix2 (row t i) j) := by
  unfold X1 row
  blk_ext [iblk, V, idx t]

theorem blk2 : (iblk m c 2 t : Vec Ideal S176x2048 .f32) (ix2 i j) = X2 m c (ix2 (row t i) j) := by
  unfold X2 row
  blk_ext [iblk, V, idx t]

theorem blk3 : (iblk m c 3 t : Vec Ideal S176x2048 .f32) (ix2 i j) = X3 m c (ix2 (row t i) j) := by
  unfold X3 row
  blk_ext [iblk, V, idx t]

theorem at_congr (f : Fin 1408 → Fin 2048 → EReal) {t t' : Fin 1408} {r r' : Fin 2048} (ht : t.val = t'.val) (hr : r.val = r'.val) : f t r = f t' r' := by
  rw [Fin.ext ht, Fin.ext hr]

/-- The results, at an entry. -/
def newMean (g m : Arr) (t : Fin 1408) (r : Fin 2048) : EReal := mean (g (ix2 t r)) (m (ix2 t r))
def newSquare (g v : Arr) (t : Fin 1408) (r : Fin 2048) : EReal := square (g (ix2 t r)) (v (ix2 t r))
def change (w g m v : Arr) (t : Fin 1408) (r : Fin 2048) : EReal := delta (w (ix2 t r)) (g (ix2 t r)) (m (ix2 t r)) (v (ix2 t r))
def same (g : Arr) (t : Fin 1408) (r : Fin 2048) : EReal := g (ix2 t r)

theorem bd : k0_pay3 (F := Ideal) (iblk m c 1 t) (iblk m c 2 t) (iblk m c 3 t) (iblk m c 0 t) (ix2 i j) = change (X0 m c) (X1 m c) (X2 m c) (X3 m c) (row t i) j := by
  refine (delta_at _ _ _ _ i j).trans ?_
  rw [blk0, blk1, blk2, blk3]; rfl

theorem bm : k0_pay1 (F := Ideal) (iblk m c 1 t) (iblk m c 2 t) (ix2 i j) = newMean (X1 m c) (X2 m c) (row t i) j := by
  refine (mean_at _ _ i j).trans ?_
  rw [blk1, blk2]; rfl

theorem bv : k0_pay2 (F := Ideal) (iblk m c 1 t) (iblk m c 3 t) (ix2 i j) = newSquare (X1 m c) (X3 m c) (row t i) j := by
  refine (square_at _ _ i j).trans ?_
  rw [blk1, blk3]; rfl

end

theorem arr_g : (dats m 0 c).arrAt 4 cfg0.N = fun i => same (X1 m c) (i 0) (i 1) := by
  refine (dats m 0 c).arrAt_eq_of_covers 4 (fun i => same (X1 m c) (i 0) (i 1) : Arr)
    (by decide +kernel) fun t hf y => ?_
  blk_simp
  rw [after0_4]
  frame_out
  rw [show y = ix2 (y 0) (y 1) by idx_ext <;> rfl]
  refine (blk1 m c t (y 0) (y 1)).trans ?_
  exact at_congr (same (X1 m c)) (by unfold row; blk_simp [idx t]) (by blk_simp [idx t])

theorem arr_d : (dats m 0 c).arrAt 5 cfg0.N = fun i => change (X0 m c) (X1 m c) (X2 m c) (X3 m c) (i 0) (i 1) := by
  refine (dats m 0 c).arrAt_eq_of_covers 5 (fun i => change (X0 m c) (X1 m c) (X2 m c) (X3 m c) (i 0) (i 1) : Arr)
    (by decide +kernel) fun t hf y => ?_
  blk_simp
  rw [after0_5]
  frame_out
  rw [show y = ix2 (y 0) (y 1) by idx_ext <;> rfl]
  refine (bd m c t (y 0) (y 1)).trans ?_
  exact at_congr (change (X0 m c) (X1 m c) (X2 m c) (X3 m c)) (by unfold row; blk_simp [idx t]) (by blk_simp [idx t])

theorem arr_m : (dats m 0 c).arrAt 6 cfg0.N = fun i => newMean (X1 m c) (X2 m c) (i 0) (i 1) := by
  refine (dats m 0 c).arrAt_eq_of_covers 6 (fun i => newMean (X1 m c) (X2 m c) (i 0) (i 1) : Arr)
    (by decide +kernel) fun t hf y => ?_
  blk_simp
  rw [after0_6]
  frame_out
  rw [show y = ix2 (y 0) (y 1) by idx_ext <;> rfl]
  refine (bm m c t (y 0) (y 1)).trans ?_
  exact at_congr (newMean (X1 m c) (X2 m c)) (by unfold row; blk_simp [idx t]) (by blk_simp [idx t])

theorem arr_v : (dats m 0 c).arrAt 7 cfg0.N = fun i => newSquare (X1 m c) (X3 m c) (i 0) (i 1) := by
  refine (dats m 0 c).arrAt_eq_of_covers 7 (fun i => newSquare (X1 m c) (X3 m c) (i 0) (i 1) : Arr)
    (by decide +kernel) fun t hf y => ?_
  blk_simp
  rw [after0_7]
  frame_out
  rw [show y = ix2 (y 0) (y 1) by idx_ext <;> rfl]
  refine (bv m c t (y 0) (y 1)).trans ?_
  exact at_congr (newSquare (X1 m c) (X3 m c)) (by unfold row; blk_simp [idx t]) (by blk_simp [idx t])

end

section
variable (w g m v : Arr)

theorem mean_ref (i : S1408x2048.Idx) : val_main_v4 (F := Ideal) g m i = mean (g i) (m i) := by
  rw [val_main_v4_apply, val_main_v1_apply, val_main_v3_apply, val_main_v0_apply, val_main_v2_apply, val_main_cst_apply, val_main_cst_0_apply]
  rfl

theorem square_ref (i : S1408x2048.Idx) : val_main_v10 (F := Ideal) g v i = square (g i) (v i) := by
  rw [val_main_v10_apply, val_main_v6_apply, val_main_v9_apply, val_main_v5_apply, val_main_v8_apply, val_main_v7_apply, val_main_cst_1_apply, val_main_cst_2_apply]
  rfl

theorem delta_ref (i : S1408x2048.Idx) : val_main_v23 (F := Ideal) w g m v i = delta (w i) (g i) (m i) (v i) := by
  rw [val_main_v23_apply, val_main_v22_apply, val_main_v21_apply, val_main_v18_apply, val_main_v20_apply, val_main_v19_apply, val_main_v12_apply, val_main_v17_apply,
    val_main_v15_apply, val_main_v14_apply, val_main_v11_apply, val_main_v13_apply, val_main_v16_apply,
    val_main_cst_3_apply, val_main_cst_4_apply, val_main_cst_5_apply, val_main_cst_6_apply, val_main_cst_7_apply, mean_ref, square_ref]
  rfl

theorem ref_m : (fun i => newMean g m (i 0) (i 1) : Arr) = val_main_v4 (F := Ideal) g m := by
  funext i
  refine Eq.trans ?_ (mean_ref g m i).symm
  exact congrArg (fun i => mean (g i) (m i)) (show ix2 (i 0) (i 1) = i by idx_ext <;> rfl)

theorem ref_v : (fun i => newSquare g v (i 0) (i 1) : Arr) = val_main_v10 (F := Ideal) g v := by
  funext i
  refine Eq.trans ?_ (square_ref g v i).symm
  exact congrArg (fun i => square (g i) (v i)) (show ix2 (i 0) (i 1) = i by idx_ext <;> rfl)

theorem ref_d : (fun i => change w g m v (i 0) (i 1) : Arr) = val_main_v23 (F := Ideal) w g m v := by
  funext i
  refine Eq.trans ?_ (delta_ref w g m v i).symm
  exact congrArg (fun i => delta (w i) (g i) (m i) (v i)) (show ix2 (i 0) (i 1) = i by idx_ext <;> rfl)

theorem ref_g : (fun i => same g (i 0) (i 1) : Arr) = g := by
  funext i
  exact congrArg g (show ix2 (i 0) (i 1) = i by idx_ext <;> rfl)

variable (w' g' m' v' : Arr)

theorem d_congr (h0 : w' = w) (h1 : g' = g) (h2 : m' = m) (h3 : v' = v) :
    val_main_v23 (F := Ideal) w' g' m' v' = val_main_v23 (F := Ideal) w g m v := by rw [h0, h1, h2, h3]

theorem m_congr (h1 : g' = g) (h2 : m' = m) : val_main_v4 (F := Ideal) g' m' = val_main_v4 (F := Ideal) g m := by rw [h1, h2]

theorem v_congr (h1 : g' = g) (h3 : v' = v) : val_main_v10 (F := Ideal) g' v' = val_main_v10 (F := Ideal) g v := by rw [h1, h3]
end

theorem algebraic : Cert.algebraic_AdamDownIdeal_AdamDownReferenceIdeal := by
  intro m g m' g' _ agree
  refine ⟨fun c => X1 m c, fun c => val_main_v23 (F := Ideal) (X0 m c) (X1 m c) (X2 m c) (X3 m c), fun c => val_main_v4 (F := Ideal) (X1 m c) (X2 m c),
    fun c => val_main_v10 (F := Ideal) (X1 m c) (X3 m c), ?_, ?_⟩
  · refine (θ_run _ _ _).mono (fun r h c => ?_) (Cert.AdamDownIdeal.Value.run_blocks m g)
    obtain ⟨h0, h1, h2, h3, hargs⟩ := h c
    exact ⟨h0.trans ((arr_g m c).trans (ref_g _)), h1.trans ((arr_d m c).trans (ref_d _ _ _ _)), h2.trans ((arr_m m c).trans (ref_m _ _)),
      h3.trans ((arr_v m c).trans (ref_v _ _)), hargs⟩
  · refine (θ_run _ _ _).mono (fun r h c => ?_) (Cert.AdamDownReferenceIdeal.Value.run (F := Ideal) m' g')
    obtain ⟨a0, a1, a2, a3⟩ := agree c
    obtain ⟨h0, h1, h2, h3, hargs⟩ := h c
    refine ⟨h0.trans a1, h1.trans ((val_main_v23_eq (F := Ideal) _ _ _ _).trans ?_), h2.trans ((val_main_v4_eq (F := Ideal) _ _).trans ?_),
      h3.trans ((val_main_v10_eq (F := Ideal) _ _).trans ?_), hargs⟩
    · exact d_congr _ _ _ _ _ _ _ _ a0 a1 a2 a3
    · exact m_congr _ _ _ _ a1 a2
    · exact v_congr _ _ _ _ a1 a3

end AdamDown

end
-- ==== Proof.AdamIn.Value.lean ====
/-
  The optimiser's step of a weight of the shape of w_in.
-/
module

public import proofs.«01_k».proof.Defs
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInReferenceIdeal.Run
public import proofs.«01_k».proof.Proof.Gen.AdamInReferenceIdeal.Read
public import Idealize.ShloMosaic.Lib.Pointwise
public import proofs.«01_k».proof.Proof.Adam.Math
public import Idealize.ShloMosaic.Lib.Pipeline.ValueKit

@[expose] public section

set_option maxRecDepth 16384

noncomputable section

namespace AdamIn

open Idealize.ShloMosaic Idealize.ShloMosaic.TcCoe Idealize.SL.Sem
open Cert.AdamInIdeal Cert.AdamInIdeal.Gen

attribute [local instance] Cert.AdamIn.Gen.facts Cert.AdamInIdeal.Gen.facts Cert.AdamInReferenceIdeal.Gen.facts

theorem frame_kernel : Cert.quiescent_AdamIn := fun m ρ _ => Cert.AdamIn.Gen.frame m ρ

theorem frame_kernelIdeal : Cert.quiescent_AdamInIdeal := fun m ρ _ => Cert.AdamInIdeal.Gen.frame m ρ

theorem frame_reference : Cert.quiescent_AdamInReferenceIdeal := fun m ρ _ =>
  (θ_run Cert.AdamInReferenceIdeal.defs _ _).mono (fun r h => ⟨fun c => (h c).2.2.2.2, sem_eq_zero_of_no_sems rfl r.2⟩) (Cert.AdamInReferenceIdeal.Value.run (F := Ideal) m ρ)

open Cert.AdamInReferenceIdeal.Read Adam

abbrev Arr := FVec Ideal S512x3328 .f32

section
variable (w g m v : Vec Ideal S64x3328 .f32) (i : Fin 64) (j : Fin 3328)

theorem mean_at : k0_pay1 (F := Ideal) g m (ix2 i j) = mean (g (ix2 i j)) (m (ix2 i j)) := by
  unfold mean
  pointwise [k0_pay1]

theorem square_at : k0_pay2 (F := Ideal) g v (ix2 i j) = square (g (ix2 i j)) (v (ix2 i j)) := by
  unfold square
  pointwise [k0_pay2]

theorem delta_at : k0_pay3 (F := Ideal) g m v w (ix2 i j) = delta (w (ix2 i j)) (g (ix2 i j)) (m (ix2 i j)) (v (ix2 i j)) := by
  unfold delta mean square
  pointwise [k0_pay3, k0_pay1, k0_pay2]
end

section
variable (m : (ℓ : Loc nD τ sig) → Buf (Elt Ideal) ℓ) (c : Dev nD)

def X0 : Arr := m ((c.tc : Thread nD τ).loc main_arg0)
def X1 : Arr := m ((c.tc : Thread nD τ).loc main_arg1)
def X2 : Arr := m ((c.tc : Thread nD τ).loc main_arg2)
def X3 : Arr := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 8 := lt_of_lt_of_eq t.isLt N_0

/-- The row of the arrays of a row of a point's block. -/
def row (t : Fin cfg0.N) (i : Fin 64) : Fin 512 := ⟨t.val * 64 + i.val, by have := ltN t; omega⟩

section
variable (t : Fin cfg0.N) (i : Fin 64) (j : Fin 3328)

theorem blk0 : (iblk m c 0 t : Vec Ideal S64x3328 .f32) (ix2 i j) = X0 m c (ix2 (row t i) j) := by
  unfold X0 row
  blk_ext [iblk, V, idx t]

theorem blk1 : (iblk m c 1 t : Vec Ideal S64x3328 .f32) (ix2 i j) = X1 m c (ix2 (row t i) j) := by
  unfold X1 row
  blk_ext [iblk, V, idx t]

theorem blk2 : (iblk m c 2 t : Vec Ideal S64x3328 .f32) (ix2 i j) = X2 m c (ix2 (row t i) j) := by
  unfold X2 row
  blk_ext [iblk, V, idx t]

theorem blk3 : (iblk m c 3 t : Vec Ideal S64x3328 .f32) (ix2 i j) = X3 m c (ix2 (row t i) j) := by
  unfold X3 row
  blk_ext [iblk, V, idx t]

theorem at_congr (f : Fin 512 → Fin 3328 → EReal) {t t' : Fin 512} {r r' : Fin 3328} (ht : t.val = t'.val) (hr : r.val = r'.val) : f t r = f t' r' := by
  rw [Fin.ext ht, Fin.ext hr]

/-- The results, at an entry. -/
def newMean (g m : Arr) (t : Fin 512) (r : Fin 3328) : EReal := mean (g (ix2 t r)) (m (ix2 t r))
def newSquare (g v : Arr) (t : Fin 512) (r : Fin 3328) : EReal := square (g (ix2 t r)) (v (ix2 t r))
def change (w g m v : Arr) (t : Fin 512) (r : Fin 3328) : EReal := delta (w (ix2 t r)) (g (ix2 t r)) (m (ix2 t r)) (v (ix2 t r))
def same (g : Arr) (t : Fin 512) (r : Fin 3328) : EReal := g (ix2 t r)

theorem bd : k0_pay3 (F := Ideal) (iblk m c 1 t) (iblk m c 2 t) (iblk m c 3 t) (iblk m c 0 t) (ix2 i j) = change (X0 m c) (X1 m c) (X2 m c) (X3 m c) (row t i) j := by
  refine (delta_at _ _ _ _ i j).trans ?_
  rw [blk0, blk1, blk2, blk3]; rfl

theorem bm : k0_pay1 (F := Ideal) (iblk m c 1 t) (iblk m c 2 t) (ix2 i j) = newMean (X1 m c) (X2 m c) (row t i) j := by
  refine (mean_at _ _ i j).trans ?_
  rw [blk1, blk2]; rfl

theorem bv : k0_pay2 (F := Ideal) (iblk m c 1 t) (iblk m c 3 t) (ix2 i j) = newSquare (X1 m c) (X3 m c) (row t i) j := by
  refine (square_at _ _ i j).trans ?_
  rw [blk1, blk3]; rfl

end

theorem arr_g : (dats m 0 c).arrAt 4 cfg0.N = fun i => same (X1 m c) (i 0) (i 1) := by
  refine (dats m 0 c).arrAt_eq_of_covers 4 (fun i => same (X1 m c) (i 0) (i 1) : Arr)
    (by decide +kernel) fun t hf y => ?_
  blk_simp
  rw [after0_4]
  frame_out
  rw [show y = ix2 (y 0) (y 1) by idx_ext <;> rfl]
  refine (blk1 m c t (y 0) (y 1)).trans ?_
  exact at_congr (same (X1 m c)) (by unfold row; blk_simp [idx t]) (by blk_simp [idx t])

theorem arr_d : (dats m 0 c).arrAt 5 cfg0.N = fun i => change (X0 m c) (X1 m c) (X2 m c) (X3 m c) (i 0) (i 1) := by
  refine (dats m 0 c).arrAt_eq_of_covers 5 (fun i => change (X0 m c) (X1 m c) (X2 m c) (X3 m c) (i 0) (i 1) : Arr)
    (by decide +kernel) fun t hf y => ?_
  blk_simp
  rw [after0_5]
  frame_out
  rw [show y = ix2 (y 0) (y 1) by idx_ext <;> rfl]
  refine (bd m c t (y 0) (y 1)).trans ?_
  exact at_congr (change (X0 m c) (X1 m c) (X2 m c) (X3 m c)) (by unfold row; blk_simp [idx t]) (by blk_simp [idx t])

theorem arr_m : (dats m 0 c).arrAt 6 cfg0.N = fun i => newMean (X1 m c) (X2 m c) (i 0) (i 1) := by
  refine (dats m 0 c).arrAt_eq_of_covers 6 (fun i => newMean (X1 m c) (X2 m c) (i 0) (i 1) : Arr)
    (by decide +kernel) fun t hf y => ?_
  blk_simp
  rw [after0_6]
  frame_out
  rw [show y = ix2 (y 0) (y 1) by idx_ext <;> rfl]
  refine (bm m c t (y 0) (y 1)).trans ?_
  exact at_congr (newMean (X1 m c) (X2 m c)) (by unfold row; blk_simp [idx t]) (by blk_simp [idx t])

theorem arr_v : (dats m 0 c).arrAt 7 cfg0.N = fun i => newSquare (X1 m c) (X3 m c) (i 0) (i 1) := by
  refine (dats m 0 c).arrAt_eq_of_covers 7 (fun i => newSquare (X1 m c) (X3 m c) (i 0) (i 1) : Arr)
    (by decide +kernel) fun t hf y => ?_
  blk_simp
  rw [after0_7]
  frame_out
  rw [show y = ix2 (y 0) (y 1) by idx_ext <;> rfl]
  refine (bv m c t (y 0) (y 1)).trans ?_
  exact at_congr (newSquare (X1 m c) (X3 m c)) (by unfold row; blk_simp [idx t]) (by blk_simp [idx t])

end

section
variable (w g m v : Arr)

theorem mean_ref (i : S512x3328.Idx) : val_main_v4 (F := Ideal) g m i = mean (g i) (m i) := by
  rw [val_main_v4_apply, val_main_v1_apply, val_main_v3_apply, val_main_v0_apply, val_main_v2_apply, val_main_cst_apply, val_main_cst_0_apply]
  rfl

theorem square_ref (i : S512x3328.Idx) : val_main_v10 (F := Ideal) g v i = square (g i) (v i) := by
  rw [val_main_v10_apply, val_main_v6_apply, val_main_v9_apply, val_main_v5_apply, val_main_v8_apply, val_main_v7_apply, val_main_cst_1_apply, val_main_cst_2_apply]
  rfl

theorem delta_ref (i : S512x3328.Idx) : val_main_v23 (F := Ideal) w g m v i = delta (w i) (g i) (m i) (v i) := by
  rw [val_main_v23_apply, val_main_v22_apply, val_main_v21_apply, val_main_v18_apply, val_main_v20_apply, val_main_v19_apply, val_main_v12_apply, val_main_v17_apply,
    val_main_v15_apply, val_main_v14_apply, val_main_v11_apply, val_main_v13_apply, val_main_v16_apply,
    val_main_cst_3_apply, val_main_cst_4_apply, val_main_cst_5_apply, val_main_cst_6_apply, val_main_cst_7_apply, mean_ref, square_ref]
  rfl

theorem ref_m : (fun i => newMean g m (i 0) (i 1) : Arr) = val_main_v4 (F := Ideal) g m := by
  funext i
  refine Eq.trans ?_ (mean_ref g m i).symm
  exact congrArg (fun i => mean (g i) (m i)) (show ix2 (i 0) (i 1) = i by idx_ext <;> rfl)

theorem ref_v : (fun i => newSquare g v (i 0) (i 1) : Arr) = val_main_v10 (F := Ideal) g v := by
  funext i
  refine Eq.trans ?_ (square_ref g v i).symm
  exact congrArg (fun i => square (g i) (v i)) (show ix2 (i 0) (i 1) = i by idx_ext <;> rfl)

theorem ref_d : (fun i => change w g m v (i 0) (i 1) : Arr) = val_main_v23 (F := Ideal) w g m v := by
  funext i
  refine Eq.trans ?_ (delta_ref w g m v i).symm
  exact congrArg (fun i => delta (w i) (g i) (m i) (v i)) (show ix2 (i 0) (i 1) = i by idx_ext <;> rfl)

theorem ref_g : (fun i => same g (i 0) (i 1) : Arr) = g := by
  funext i
  exact congrArg g (show ix2 (i 0) (i 1) = i by idx_ext <;> rfl)

variable (w' g' m' v' : Arr)

theorem d_congr (h0 : w' = w) (h1 : g' = g) (h2 : m' = m) (h3 : v' = v) :
    val_main_v23 (F := Ideal) w' g' m' v' = val_main_v23 (F := Ideal) w g m v := by rw [h0, h1, h2, h3]

theorem m_congr (h1 : g' = g) (h2 : m' = m) : val_main_v4 (F := Ideal) g' m' = val_main_v4 (F := Ideal) g m := by rw [h1, h2]

theorem v_congr (h1 : g' = g) (h3 : v' = v) : val_main_v10 (F := Ideal) g' v' = val_main_v10 (F := Ideal) g v := by rw [h1, h3]
end

theorem algebraic : Cert.algebraic_AdamInIdeal_AdamInReferenceIdeal := by
  intro m g m' g' _ agree
  refine ⟨fun c => X1 m c, fun c => val_main_v23 (F := Ideal) (X0 m c) (X1 m c) (X2 m c) (X3 m c), fun c => val_main_v4 (F := Ideal) (X1 m c) (X2 m c),
    fun c => val_main_v10 (F := Ideal) (X1 m c) (X3 m c), ?_, ?_⟩
  · refine (θ_run _ _ _).mono (fun r h c => ?_) (Cert.AdamInIdeal.Value.run_blocks m g)
    obtain ⟨h0, h1, h2, h3, hargs⟩ := h c
    exact ⟨h0.trans ((arr_g m c).trans (ref_g _)), h1.trans ((arr_d m c).trans (ref_d _ _ _ _)), h2.trans ((arr_m m c).trans (ref_m _ _)),
      h3.trans ((arr_v m c).trans (ref_v _ _)), hargs⟩
  · refine (θ_run _ _ _).mono (fun r h c => ?_) (Cert.AdamInReferenceIdeal.Value.run (F := Ideal) m' g')
    obtain ⟨a0, a1, a2, a3⟩ := agree c
    obtain ⟨h0, h1, h2, h3, hargs⟩ := h c
    refine ⟨h0.trans a1, h1.trans ((val_main_v23_eq (F := Ideal) _ _ _ _).trans ?_), h2.trans ((val_main_v4_eq (F := Ideal) _ _).trans ?_),
      h3.trans ((val_main_v10_eq (F := Ideal) _ _).trans ?_), hargs⟩
    · exact d_congr _ _ _ _ _ _ _ _ a0 a1 a2 a3
    · exact m_congr _ _ _ _ a1 a2
    · exact v_congr _ _ _ _ a1 a3

end AdamIn

end
-- ==== Proof.AdamOut.Value.lean ====
/-
  The optimiser's step of a weight of the shape of w_out.
-/
module

public import proofs.«01_k».proof.Defs
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutReferenceIdeal.Run
public import proofs.«01_k».proof.Proof.Gen.AdamOutReferenceIdeal.Read
public import Idealize.ShloMosaic.Lib.Pointwise
public import proofs.«01_k».proof.Proof.Adam.Math
public import Idealize.ShloMosaic.Lib.Pipeline.ValueKit

@[expose] public section

set_option maxRecDepth 16384

noncomputable section

namespace AdamOut

open Idealize.ShloMosaic Idealize.ShloMosaic.TcCoe Idealize.SL.Sem
open Cert.AdamOutIdeal Cert.AdamOutIdeal.Gen

attribute [local instance] Cert.AdamOut.Gen.facts Cert.AdamOutIdeal.Gen.facts Cert.AdamOutReferenceIdeal.Gen.facts

theorem frame_kernel : Cert.quiescent_AdamOut := fun m ρ _ => Cert.AdamOut.Gen.frame m ρ

theorem frame_kernelIdeal : Cert.quiescent_AdamOutIdeal := fun m ρ _ => Cert.AdamOutIdeal.Gen.frame m ρ

theorem frame_reference : Cert.quiescent_AdamOutReferenceIdeal := fun m ρ _ =>
  (θ_run Cert.AdamOutReferenceIdeal.defs _ _).mono (fun r h => ⟨fun c => (h c).2.2.2.2, sem_eq_zero_of_no_sems rfl r.2⟩) (Cert.AdamOutReferenceIdeal.Value.run (F := Ideal) m ρ)

open Cert.AdamOutReferenceIdeal.Read Adam

abbrev Arr := FVec Ideal S512x2048 .f32

section
variable (w g m v : Vec Ideal S128x2048 .f32) (i : Fin 128) (j : Fin 2048)

theorem mean_at : k0_pay1 (F := Ideal) g m (ix2 i j) = mean (g (ix2 i j)) (m (ix2 i j)) := by
  unfold mean
  pointwise [k0_pay1]

theorem square_at : k0_pay2 (F := Ideal) g v (ix2 i j) = square (g (ix2 i j)) (v (ix2 i j)) := by
  unfold square
  pointwise [k0_pay2]

theorem delta_at : k0_pay3 (F := Ideal) g m v w (ix2 i j) = delta (w (ix2 i j)) (g (ix2 i j)) (m (ix2 i j)) (v (ix2 i j)) := by
  unfold delta mean square
  pointwise [k0_pay3, k0_pay1, k0_pay2]
end

section
variable (m : (ℓ : Loc nD τ sig) → Buf (Elt Ideal) ℓ) (c : Dev nD)

def X0 : Arr := m ((c.tc : Thread nD τ).loc main_arg0)
def X1 : Arr := m ((c.tc : Thread nD τ).loc main_arg1)
def X2 : Arr := m ((c.tc : Thread nD τ).loc main_arg2)
def X3 : Arr := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 4 := lt_of_lt_of_eq t.isLt N_0

/-- The row of the arrays of a row of a point's block. -/
def row (t : Fin cfg0.N) (i : Fin 128) : Fin 512 := ⟨t.val * 128 + i.val, by have := ltN t; omega⟩

section
variable (t : Fin cfg0.N) (i : Fin 128) (j : Fin 2048)

theorem blk0 : (iblk m c 0 t : Vec Ideal S128x2048 .f32) (ix2 i j) = X0 m c (ix2 (row t i) j) := by
  unfold X0 row
  blk_ext [iblk, V, idx t]

theorem blk1 : (iblk m c 1 t : Vec Ideal S128x2048 .f32) (ix2 i j) = X1 m c (ix2 (row t i) j) := by
  unfold X1 row
  blk_ext [iblk, V, idx t]

theorem blk2 : (iblk m c 2 t : Vec Ideal S128x2048 .f32) (ix2 i j) = X2 m c (ix2 (row t i) j) := by
  unfold X2 row
  blk_ext [iblk, V, idx t]

theorem blk3 : (iblk m c 3 t : Vec Ideal S128x2048 .f32) (ix2 i j) = X3 m c (ix2 (row t i) j) := by
  unfold X3 row
  blk_ext [iblk, V, idx t]

theorem at_congr (f : Fin 512 → Fin 2048 → EReal) {t t' : Fin 512} {r r' : Fin 2048} (ht : t.val = t'.val) (hr : r.val = r'.val) : f t r = f t' r' := by
  rw [Fin.ext ht, Fin.ext hr]

/-- The results, at an entry. -/
def newMean (g m : Arr) (t : Fin 512) (r : Fin 2048) : EReal := mean (g (ix2 t r)) (m (ix2 t r))
def newSquare (g v : Arr) (t : Fin 512) (r : Fin 2048) : EReal := square (g (ix2 t r)) (v (ix2 t r))
def change (w g m v : Arr) (t : Fin 512) (r : Fin 2048) : EReal := delta (w (ix2 t r)) (g (ix2 t r)) (m (ix2 t r)) (v (ix2 t r))
def same (g : Arr) (t : Fin 512) (r : Fin 2048) : EReal := g (ix2 t r)

theorem bd : k0_pay3 (F := Ideal) (iblk m c 1 t) (iblk m c 2 t) (iblk m c 3 t) (iblk m c 0 t) (ix2 i j) = change (X0 m c) (X1 m c) (X2 m c) (X3 m c) (row t i) j := by
  refine (delta_at _ _ _ _ i j).trans ?_
  rw [blk0, blk1, blk2, blk3]; rfl

theorem bm : k0_pay1 (F := Ideal) (iblk m c 1 t) (iblk m c 2 t) (ix2 i j) = newMean (X1 m c) (X2 m c) (row t i) j := by
  refine (mean_at _ _ i j).trans ?_
  rw [blk1, blk2]; rfl

theorem bv : k0_pay2 (F := Ideal) (iblk m c 1 t) (iblk m c 3 t) (ix2 i j) = newSquare (X1 m c) (X3 m c) (row t i) j := by
  refine (square_at _ _ i j).trans ?_
  rw [blk1, blk3]; rfl

end

theorem arr_g : (dats m 0 c).arrAt 4 cfg0.N = fun i => same (X1 m c) (i 0) (i 1) := by
  refine (dats m 0 c).arrAt_eq_of_covers 4 (fun i => same (X1 m c) (i 0) (i 1) : Arr)
    (by decide +kernel) fun t hf y => ?_
  blk_simp
  rw [after0_4]
  frame_out
  rw [show y = ix2 (y 0) (y 1) by idx_ext <;> rfl]
  refine (blk1 m c t (y 0) (y 1)).trans ?_
  exact at_congr (same (X1 m c)) (by unfold row; blk_simp [idx t]) (by blk_simp [idx t])

theorem arr_d : (dats m 0 c).arrAt 5 cfg0.N = fun i => change (X0 m c) (X1 m c) (X2 m c) (X3 m c) (i 0) (i 1) := by
  refine (dats m 0 c).arrAt_eq_of_covers 5 (fun i => change (X0 m c) (X1 m c) (X2 m c) (X3 m c) (i 0) (i 1) : Arr)
    (by decide +kernel) fun t hf y => ?_
  blk_simp
  rw [after0_5]
  frame_out
  rw [show y = ix2 (y 0) (y 1) by idx_ext <;> rfl]
  refine (bd m c t (y 0) (y 1)).trans ?_
  exact at_congr (change (X0 m c) (X1 m c) (X2 m c) (X3 m c)) (by unfold row; blk_simp [idx t]) (by blk_simp [idx t])

theorem arr_m : (dats m 0 c).arrAt 6 cfg0.N = fun i => newMean (X1 m c) (X2 m c) (i 0) (i 1) := by
  refine (dats m 0 c).arrAt_eq_of_covers 6 (fun i => newMean (X1 m c) (X2 m c) (i 0) (i 1) : Arr)
    (by decide +kernel) fun t hf y => ?_
  blk_simp
  rw [after0_6]
  frame_out
  rw [show y = ix2 (y 0) (y 1) by idx_ext <;> rfl]
  refine (bm m c t (y 0) (y 1)).trans ?_
  exact at_congr (newMean (X1 m c) (X2 m c)) (by unfold row; blk_simp [idx t]) (by blk_simp [idx t])

theorem arr_v : (dats m 0 c).arrAt 7 cfg0.N = fun i => newSquare (X1 m c) (X3 m c) (i 0) (i 1) := by
  refine (dats m 0 c).arrAt_eq_of_covers 7 (fun i => newSquare (X1 m c) (X3 m c) (i 0) (i 1) : Arr)
    (by decide +kernel) fun t hf y => ?_
  blk_simp
  rw [after0_7]
  frame_out
  rw [show y = ix2 (y 0) (y 1) by idx_ext <;> rfl]
  refine (bv m c t (y 0) (y 1)).trans ?_
  exact at_congr (newSquare (X1 m c) (X3 m c)) (by unfold row; blk_simp [idx t]) (by blk_simp [idx t])

end

section
variable (w g m v : Arr)

theorem mean_ref (i : S512x2048.Idx) : val_main_v4 (F := Ideal) g m i = mean (g i) (m i) := by
  rw [val_main_v4_apply, val_main_v1_apply, val_main_v3_apply, val_main_v0_apply, val_main_v2_apply, val_main_cst_apply, val_main_cst_0_apply]
  rfl

theorem square_ref (i : S512x2048.Idx) : val_main_v10 (F := Ideal) g v i = square (g i) (v i) := by
  rw [val_main_v10_apply, val_main_v6_apply, val_main_v9_apply, val_main_v5_apply, val_main_v8_apply, val_main_v7_apply, val_main_cst_1_apply, val_main_cst_2_apply]
  rfl

theorem delta_ref (i : S512x2048.Idx) : val_main_v23 (F := Ideal) w g m v i = delta (w i) (g i) (m i) (v i) := by
  rw [val_main_v23_apply, val_main_v22_apply, val_main_v21_apply, val_main_v18_apply, val_main_v20_apply, val_main_v19_apply, val_main_v12_apply, val_main_v17_apply,
    val_main_v15_apply, val_main_v14_apply, val_main_v11_apply, val_main_v13_apply, val_main_v16_apply,
    val_main_cst_3_apply, val_main_cst_4_apply, val_main_cst_5_apply, val_main_cst_6_apply, val_main_cst_7_apply, mean_ref, square_ref]
  rfl

theorem ref_m : (fun i => newMean g m (i 0) (i 1) : Arr) = val_main_v4 (F := Ideal) g m := by
  funext i
  refine Eq.trans ?_ (mean_ref g m i).symm
  exact congrArg (fun i => mean (g i) (m i)) (show ix2 (i 0) (i 1) = i by idx_ext <;> rfl)

theorem ref_v : (fun i => newSquare g v (i 0) (i 1) : Arr) = val_main_v10 (F := Ideal) g v := by
  funext i
  refine Eq.trans ?_ (square_ref g v i).symm
  exact congrArg (fun i => square (g i) (v i)) (show ix2 (i 0) (i 1) = i by idx_ext <;> rfl)

theorem ref_d : (fun i => change w g m v (i 0) (i 1) : Arr) = val_main_v23 (F := Ideal) w g m v := by
  funext i
  refine Eq.trans ?_ (delta_ref w g m v i).symm
  exact congrArg (fun i => delta (w i) (g i) (m i) (v i)) (show ix2 (i 0) (i 1) = i by idx_ext <;> rfl)

theorem ref_g : (fun i => same g (i 0) (i 1) : Arr) = g := by
  funext i
  exact congrArg g (show ix2 (i 0) (i 1) = i by idx_ext <;> rfl)

variable (w' g' m' v' : Arr)

theorem d_congr (h0 : w' = w) (h1 : g' = g) (h2 : m' = m) (h3 : v' = v) :
    val_main_v23 (F := Ideal) w' g' m' v' = val_main_v23 (F := Ideal) w g m v := by rw [h0, h1, h2, h3]

theorem m_congr (h1 : g' = g) (h2 : m' = m) : val_main_v4 (F := Ideal) g' m' = val_main_v4 (F := Ideal) g m := by rw [h1, h2]

theorem v_congr (h1 : g' = g) (h3 : v' = v) : val_main_v10 (F := Ideal) g' v' = val_main_v10 (F := Ideal) g v := by rw [h1, h3]
end

theorem algebraic : Cert.algebraic_AdamOutIdeal_AdamOutReferenceIdeal := by
  intro m g m' g' _ agree
  refine ⟨fun c => X1 m c, fun c => val_main_v23 (F := Ideal) (X0 m c) (X1 m c) (X2 m c) (X3 m c), fun c => val_main_v4 (F := Ideal) (X1 m c) (X2 m c),
    fun c => val_main_v10 (F := Ideal) (X1 m c) (X3 m c), ?_, ?_⟩
  · refine (θ_run _ _ _).mono (fun r h c => ?_) (Cert.AdamOutIdeal.Value.run_blocks m g)
    obtain ⟨h0, h1, h2, h3, hargs⟩ := h c
    exact ⟨h0.trans ((arr_g m c).trans (ref_g _)), h1.trans ((arr_d m c).trans (ref_d _ _ _ _)), h2.trans ((arr_m m c).trans (ref_m _ _)),
      h3.trans ((arr_v m c).trans (ref_v _ _)), hargs⟩
  · refine (θ_run _ _ _).mono (fun r h c => ?_) (Cert.AdamOutReferenceIdeal.Value.run (F := Ideal) m' g')
    obtain ⟨a0, a1, a2, a3⟩ := agree c
    obtain ⟨h0, h1, h2, h3, hargs⟩ := h c
    refine ⟨h0.trans a1, h1.trans ((val_main_v23_eq (F := Ideal) _ _ _ _).trans ?_), h2.trans ((val_main_v4_eq (F := Ideal) _ _).trans ?_),
      h3.trans ((val_main_v10_eq (F := Ideal) _ _).trans ?_), hargs⟩
    · exact d_congr _ _ _ _ _ _ _ _ a0 a1 a2 a3
    · exact m_congr _ _ _ _ a1 a2
    · exact v_congr _ _ _ _ a1 a3

end AdamOut

end
-- ==== Proof.AdamKv.Value.lean ====
/-
  The optimiser's step of a weight of the shape of w_xkv.
-/
module

public import proofs.«01_k».proof.Defs
public import proofs.«01_k».proof.Proof.Gen.AdamKv.Frame
public import proofs.«01_k».proof.Proof.Gen.AdamKvIdeal.Frame
public import proofs.«01_k».proof.Proof.Gen.AdamKvIdeal.Value
public import proofs.«01_k».proof.Proof.Gen.AdamKvReferenceIdeal.Run
public import proofs.«01_k».proof.Proof.Gen.AdamKvReferenceIdeal.Read
public import Idealize.ShloMosaic.Lib.Pointwise
public import proofs.«01_k».proof.Proof.Adam.Math
public import Idealize.ShloMosaic.Lib.Pipeline.ValueKit

@[expose] public section

set_option maxRecDepth 16384

noncomputable section

namespace AdamKv

open Idealize.ShloMosaic Idealize.ShloMosaic.TcCoe Idealize.SL.Sem
open Cert.AdamKvIdeal Cert.AdamKvIdeal.Gen

attribute [local instance] Cert.AdamKv.Gen.facts Cert.AdamKvIdeal.Gen.facts Cert.AdamKvReferenceIdeal.Gen.facts

theorem frame_kernel : Cert.quiescent_AdamKv := fun m ρ _ => Cert.AdamKv.Gen.frame m ρ

theorem frame_kernelIdeal : Cert.quiescent_AdamKvIdeal := fun m ρ _ => Cert.AdamKvIdeal.Gen.frame m ρ

theorem frame_reference : Cert.quiescent_AdamKvReferenceIdeal := fun m ρ _ =>
  (θ_run Cert.AdamKvReferenceIdeal.defs _ _).mono (fun r h => ⟨fun c => (h c).2.2.2.2, sem_eq_zero_of_no_sems rfl r.2⟩) (Cert.AdamKvReferenceIdeal.Value.run (F := Ideal) m ρ)

open Cert.AdamKvReferenceIdeal.Read Adam

abbrev Arr := FVec Ideal S2048x1024 .f32

section
variable (w g m v : Vec Ideal S256x1024 .f32) (i : Fin 256) (j : Fin 1024)

theorem mean_at : k0_pay1 (F := Ideal) g m (ix2 i j) = mean (g (ix2 i j)) (m (ix2 i j)) := by
  unfold mean
  pointwise [k0_pay1]

theorem square_at : k0_pay2 (F := Ideal) g v (ix2 i j) = square (g (ix2 i j)) (v (ix2 i j)) := by
  unfold square
  pointwise [k0_pay2]

theorem delta_at : k0_pay3 (F := Ideal) g m v w (ix2 i j) = delta (w (ix2 i j)) (g (ix2 i j)) (m (ix2 i j)) (v (ix2 i j)) := by
  unfold delta mean square
  pointwise [k0_pay3, k0_pay1, k0_pay2]
end

section
variable (m : (ℓ : Loc nD τ sig) → Buf (Elt Ideal) ℓ) (c : Dev nD)

def X0 : Arr := m ((c.tc : Thread nD τ).loc main_arg0)
def X1 : Arr := m ((c.tc : Thread nD τ).loc main_arg1)
def X2 : Arr := m ((c.tc : Thread nD τ).loc main_arg2)
def X3 : Arr := m ((c.tc : Thread nD τ).loc main_arg3)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 8 := lt_of_lt_of_eq t.isLt N_0

/-- The row of the arrays of a row of a point's block. -/
def row (t : Fin cfg0.N) (i : Fin 256) : Fin 2048 := ⟨t.val * 256 + i.val, by have := ltN t; omega⟩

section
variable (t : Fin cfg0.N) (i : Fin 256) (j : Fin 1024)

theorem blk0 : (iblk m c 0 t : Vec Ideal S256x1024 .f32) (ix2 i j) = X0 m c (ix2 (row t i) j) := by
  unfold X0 row
  blk_ext [iblk, V, idx t]

theorem blk1 : (iblk m c 1 t : Vec Ideal S256x1024 .f32) (ix2 i j) = X1 m c (ix2 (row t i) j) := by
  unfold X1 row
  blk_ext [iblk, V, idx t]

theorem blk2 : (iblk m c 2 t : Vec Ideal S256x1024 .f32) (ix2 i j) = X2 m c (ix2 (row t i) j) := by
  unfold X2 row
  blk_ext [iblk, V, idx t]

theorem blk3 : (iblk m c 3 t : Vec Ideal S256x1024 .f32) (ix2 i j) = X3 m c (ix2 (row t i) j) := by
  unfold X3 row
  blk_ext [iblk, V, idx t]

theorem at_congr (f : Fin 2048 → Fin 1024 → EReal) {t t' : Fin 2048} {r r' : Fin 1024} (ht : t.val = t'.val) (hr : r.val = r'.val) : f t r = f t' r' := by
  rw [Fin.ext ht, Fin.ext hr]

/-- The results, at an entry. -/
def newMean (g m : Arr) (t : Fin 2048) (r : Fin 1024) : EReal := mean (g (ix2 t r)) (m (ix2 t r))
def newSquare (g v : Arr) (t : Fin 2048) (r : Fin 1024) : EReal := square (g (ix2 t r)) (v (ix2 t r))
def change (w g m v : Arr) (t : Fin 2048) (r : Fin 1024) : EReal := delta (w (ix2 t r)) (g (ix2 t r)) (m (ix2 t r)) (v (ix2 t r))
def same (g : Arr) (t : Fin 2048) (r : Fin 1024) : EReal := g (ix2 t r)

theorem bd : k0_pay3 (F := Ideal) (iblk m c 1 t) (iblk m c 2 t) (iblk m c 3 t) (iblk m c 0 t) (ix2 i j) = change (X0 m c) (X1 m c) (X2 m c) (X3 m c) (row t i) j := by
  refine (delta_at _ _ _ _ i j).trans ?_
  rw [blk0, blk1, blk2, blk3]; rfl

theorem bm : k0_pay1 (F := Ideal) (iblk m c 1 t) (iblk m c 2 t) (ix2 i j) = newMean (X1 m c) (X2 m c) (row t i) j := by
  refine (mean_at _ _ i j).trans ?_
  rw [blk1, blk2]; rfl

theorem bv : k0_pay2 (F := Ideal) (iblk m c 1 t) (iblk m c 3 t) (ix2 i j) = newSquare (X1 m c) (X3 m c) (row t i) j := by
  refine (square_at _ _ i j).trans ?_
  rw [blk1, blk3]; rfl

end

theorem arr_g : (dats m 0 c).arrAt 4 cfg0.N = fun i => same (X1 m c) (i 0) (i 1) := by
  refine (dats m 0 c).arrAt_eq_of_covers 4 (fun i => same (X1 m c) (i 0) (i 1) : Arr)
    (by decide +kernel) fun t hf y => ?_
  blk_simp
  rw [after0_4]
  frame_out
  rw [show y = ix2 (y 0) (y 1) by idx_ext <;> rfl]
  refine (blk1 m c t (y 0) (y 1)).trans ?_
  exact at_congr (same (X1 m c)) (by unfold row; blk_simp [idx t]) (by blk_simp [idx t])

theorem arr_d : (dats m 0 c).arrAt 5 cfg0.N = fun i => change (X0 m c) (X1 m c) (X2 m c) (X3 m c) (i 0) (i 1) := by
  refine (dats m 0 c).arrAt_eq_of_covers 5 (fun i => change (X0 m c) (X1 m c) (X2 m c) (X3 m c) (i 0) (i 1) : Arr)
    (by decide +kernel) fun t hf y => ?_
  blk_simp
  rw [after0_5]
  frame_out
  rw [show y = ix2 (y 0) (y 1) by idx_ext <;> rfl]
  refine (bd m c t (y 0) (y 1)).trans ?_
  exact at_congr (change (X0 m c) (X1 m c) (X2 m c) (X3 m c)) (by unfold row; blk_simp [idx t]) (by blk_simp [idx t])

theorem arr_m : (dats m 0 c).arrAt 6 cfg0.N = fun i => newMean (X1 m c) (X2 m c) (i 0) (i 1) := by
  refine (dats m 0 c).arrAt_eq_of_covers 6 (fun i => newMean (X1 m c) (X2 m c) (i 0) (i 1) : Arr)
    (by decide +kernel) fun t hf y => ?_
  blk_simp
  rw [after0_6]
  frame_out
  rw [show y = ix2 (y 0) (y 1) by idx_ext <;> rfl]
  refine (bm m c t (y 0) (y 1)).trans ?_
  exact at_congr (newMean (X1 m c) (X2 m c)) (by unfold row; blk_simp [idx t]) (by blk_simp [idx t])

theorem arr_v : (dats m 0 c).arrAt 7 cfg0.N = fun i => newSquare (X1 m c) (X3 m c) (i 0) (i 1) := by
  refine (dats m 0 c).arrAt_eq_of_covers 7 (fun i => newSquare (X1 m c) (X3 m c) (i 0) (i 1) : Arr)
    (by decide +kernel) fun t hf y => ?_
  blk_simp
  rw [after0_7]
  frame_out
  rw [show y = ix2 (y 0) (y 1) by idx_ext <;> rfl]
  refine (bv m c t (y 0) (y 1)).trans ?_
  exact at_congr (newSquare (X1 m c) (X3 m c)) (by unfold row; blk_simp [idx t]) (by blk_simp [idx t])

end

section
variable (w g m v : Arr)

theorem mean_ref (i : S2048x1024.Idx) : val_main_v4 (F := Ideal) g m i = mean (g i) (m i) := by
  rw [val_main_v4_apply, val_main_v1_apply, val_main_v3_apply, val_main_v0_apply, val_main_v2_apply, val_main_cst_apply, val_main_cst_0_apply]
  rfl

theorem square_ref (i : S2048x1024.Idx) : val_main_v10 (F := Ideal) g v i = square (g i) (v i) := by
  rw [val_main_v10_apply, val_main_v6_apply, val_main_v9_apply, val_main_v5_apply, val_main_v8_apply, val_main_v7_apply, val_main_cst_1_apply, val_main_cst_2_apply]
  rfl

theorem delta_ref (i : S2048x1024.Idx) : val_main_v23 (F := Ideal) w g m v i = delta (w i) (g i) (m i) (v i) := by
  rw [val_main_v23_apply, val_main_v22_apply, val_main_v21_apply, val_main_v18_apply, val_main_v20_apply, val_main_v19_apply, val_main_v12_apply, val_main_v17_apply,
    val_main_v15_apply, val_main_v14_apply, val_main_v11_apply, val_main_v13_apply, val_main_v16_apply,
    val_main_cst_3_apply, val_main_cst_4_apply, val_main_cst_5_apply, val_main_cst_6_apply, val_main_cst_7_apply, mean_ref, square_ref]
  rfl

theorem ref_m : (fun i => newMean g m (i 0) (i 1) : Arr) = val_main_v4 (F := Ideal) g m := by
  funext i
  refine Eq.trans ?_ (mean_ref g m i).symm
  exact congrArg (fun i => mean (g i) (m i)) (show ix2 (i 0) (i 1) = i by idx_ext <;> rfl)

theorem ref_v : (fun i => newSquare g v (i 0) (i 1) : Arr) = val_main_v10 (F := Ideal) g v := by
  funext i
  refine Eq.trans ?_ (square_ref g v i).symm
  exact congrArg (fun i => square (g i) (v i)) (show ix2 (i 0) (i 1) = i by idx_ext <;> rfl)

theorem ref_d : (fun i => change w g m v (i 0) (i 1) : Arr) = val_main_v23 (F := Ideal) w g m v := by
  funext i
  refine Eq.trans ?_ (delta_ref w g m v i).symm
  exact congrArg (fun i => delta (w i) (g i) (m i) (v i)) (show ix2 (i 0) (i 1) = i by idx_ext <;> rfl)

theorem ref_g : (fun i => same g (i 0) (i 1) : Arr) = g := by
  funext i
  exact congrArg g (show ix2 (i 0) (i 1) = i by idx_ext <;> rfl)

variable (w' g' m' v' : Arr)

theorem d_congr (h0 : w' = w) (h1 : g' = g) (h2 : m' = m) (h3 : v' = v) :
    val_main_v23 (F := Ideal) w' g' m' v' = val_main_v23 (F := Ideal) w g m v := by rw [h0, h1, h2, h3]

theorem m_congr (h1 : g' = g) (h2 : m' = m) : val_main_v4 (F := Ideal) g' m' = val_main_v4 (F := Ideal) g m := by rw [h1, h2]

theorem v_congr (h1 : g' = g) (h3 : v' = v) : val_main_v10 (F := Ideal) g' v' = val_main_v10 (F := Ideal) g v := by rw [h1, h3]
end

theorem algebraic : Cert.algebraic_AdamKvIdeal_AdamKvReferenceIdeal := by
  intro m g m' g' _ agree
  refine ⟨fun c => X1 m c, fun c => val_main_v23 (F := Ideal) (X0 m c) (X1 m c) (X2 m c) (X3 m c), fun c => val_main_v4 (F := Ideal) (X1 m c) (X2 m c),
    fun c => val_main_v10 (F := Ideal) (X1 m c) (X3 m c), ?_, ?_⟩
  · refine (θ_run _ _ _).mono (fun r h c => ?_) (Cert.AdamKvIdeal.Value.run_blocks m g)
    obtain ⟨h0, h1, h2, h3, hargs⟩ := h c
    exact ⟨h0.trans ((arr_g m c).trans (ref_g _)), h1.trans ((arr_d m c).trans (ref_d _ _ _ _)), h2.trans ((arr_m m c).trans (ref_m _ _)),
      h3.trans ((arr_v m c).trans (ref_v _ _)), hargs⟩
  · refine (θ_run _ _ _).mono (fun r h c => ?_) (Cert.AdamKvReferenceIdeal.Value.run (F := Ideal) m' g')
    obtain ⟨a0, a1, a2, a3⟩ := agree c
    obtain ⟨h0, h1, h2, h3, hargs⟩ := h c
    refine ⟨h0.trans a1, h1.trans ((val_main_v23_eq (F := Ideal) _ _ _ _).trans ?_), h2.trans ((val_main_v4_eq (F := Ideal) _ _).trans ?_),
      h3.trans ((val_main_v10_eq (F := Ideal) _ _).trans ?_), hargs⟩
    · exact d_congr _ _ _ _ _ _ _ _ a0 a1 a2 a3
    · exact m_congr _ _ _ _ a1 a2
    · exact v_congr _ _ _ _ a1 a3

end AdamKv

end
-- ==== Proof.lean ====
module

public import proofs.«01_k».proof.Defs
public import proofs.«01_k».proof.Proof.Mixer.Value
public import proofs.«01_k».proof.Proof.Ffn.Value
public import proofs.«01_k».proof.Proof.Dw.Value
public import proofs.«01_k».proof.Proof.Dn.Value
public import proofs.«01_k».proof.Proof.Xattn.Value
public import proofs.«01_k».proof.Proof.Dx.Value
public import proofs.«01_k».proof.Proof.Dyn.Value
public import proofs.«01_k».proof.Proof.Dz.Value
public import proofs.«01_k».proof.Proof.Dwx.Value
public import proofs.«01_k».proof.Proof.Dwin.Value
public import proofs.«01_k».proof.Proof.Down.Value
public import proofs.«01_k».proof.Proof.Win.Value
public import proofs.«01_k».proof.Proof.Wxq.Value
public import proofs.«01_k».proof.Proof.Out.Value
public import proofs.«01_k».proof.Proof.Wxkv.Value
public import proofs.«01_k».proof.Proof.Dwxkv.Value
public import proofs.«01_k».proof.Proof.Dmem.Value
public import proofs.«01_k».proof.Proof.Norm.Value
public import proofs.«01_k».proof.Proof.NormMem.Value
public import proofs.«01_k».proof.Proof.Dnorm.Value
public import proofs.«01_k».proof.Proof.DnormMem.Value
public import proofs.«01_k».proof.Proof.Loss.Value
public import proofs.«01_k».proof.Proof.AdamUp.Value
public import proofs.«01_k».proof.Proof.AdamDown.Value
public import proofs.«01_k».proof.Proof.AdamIn.Value
public import proofs.«01_k».proof.Proof.AdamOut.Value
public import proofs.«01_k».proof.Proof.AdamKv.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts,
    Cert.Dw.Gen.facts, Cert.DwIdeal.Gen.facts, Cert.DwReferenceIdeal.Gen.facts, Cert.Dn.Gen.facts, Cert.DnIdeal.Gen.facts, Cert.DnReferenceIdeal.Gen.facts,
    Cert.Xattn.Gen.facts, Cert.XattnIdeal.Gen.facts, Cert.XattnReferenceIdeal.Gen.facts,
    Cert.Dx.Gen.facts, Cert.DxIdeal.Gen.facts, Cert.DxReferenceIdeal.Gen.facts,
    Cert.Dyn.Gen.facts, Cert.DynIdeal.Gen.facts, Cert.DynReferenceIdeal.Gen.facts,
    Cert.Dz.Gen.facts, Cert.DzIdeal.Gen.facts, Cert.DzReferenceIdeal.Gen.facts,
    Cert.Dwx.Gen.facts, Cert.DwxIdeal.Gen.facts, Cert.DwxReferenceIdeal.Gen.facts,
    Cert.Dwin.Gen.facts, Cert.DwinIdeal.Gen.facts, Cert.DwinReferenceIdeal.Gen.facts,
    Cert.Down.Gen.facts, Cert.DownIdeal.Gen.facts, Cert.DownReferenceIdeal.Gen.facts,
    Cert.Win.Gen.facts, Cert.WinIdeal.Gen.facts, Cert.WinReferenceIdeal.Gen.facts,
    Cert.Wxq.Gen.facts, Cert.WxqIdeal.Gen.facts, Cert.WxqReferenceIdeal.Gen.facts,
    Cert.Out.Gen.facts, Cert.OutIdeal.Gen.facts, Cert.OutReferenceIdeal.Gen.facts,
    Cert.Wxkv.Gen.facts, Cert.WxkvIdeal.Gen.facts, Cert.WxkvReferenceIdeal.Gen.facts,
    Cert.Dwxkv.Gen.facts, Cert.DwxkvIdeal.Gen.facts, Cert.DwxkvReferenceIdeal.Gen.facts,
    Cert.Dmem.Gen.facts, Cert.DmemIdeal.Gen.facts, Cert.DmemReferenceIdeal.Gen.facts,
    Cert.Norm.Gen.facts, Cert.NormIdeal.Gen.facts, Cert.NormReferenceIdeal.Gen.facts,
    Cert.NormMem.Gen.facts, Cert.NormMemIdeal.Gen.facts, Cert.NormMemReferenceIdeal.Gen.facts,
    Cert.Dnorm.Gen.facts, Cert.DnormIdeal.Gen.facts, Cert.DnormReferenceIdeal.Gen.facts,
    Cert.DnormMem.Gen.facts, Cert.DnormMemIdeal.Gen.facts, Cert.DnormMemReferenceIdeal.Gen.facts,
    Cert.Loss.Gen.facts, Cert.LossIdeal.Gen.facts, Cert.LossReferenceIdeal.Gen.facts,
    Cert.AdamUp.Gen.facts, Cert.AdamUpIdeal.Gen.facts, Cert.AdamUpReferenceIdeal.Gen.facts,
    Cert.AdamDown.Gen.facts, Cert.AdamDownIdeal.Gen.facts, Cert.AdamDownReferenceIdeal.Gen.facts,
    Cert.AdamIn.Gen.facts, Cert.AdamInIdeal.Gen.facts, Cert.AdamInReferenceIdeal.Gen.facts,
    Cert.AdamOut.Gen.facts, Cert.AdamOutIdeal.Gen.facts, Cert.AdamOutReferenceIdeal.Gen.facts,
    Cert.AdamKv.Gen.facts, Cert.AdamKvIdeal.Gen.facts, Cert.AdamKvReferenceIdeal.Gen.facts,
    Mixer.Frames.pre_facts, Ffn.Frames.pre_facts, Xattn.pre_facts, Mixer.Frames.on_facts,
    Mixer.Frames.kernel, Mixer.Frames.kernelIdeal, Mixer.Frames.kernelIdeal_pre, Mixer.Frames.reference, Mixer.Frames.reference_pre,
    Ffn.Frames.kernel, Ffn.Frames.kernelIdeal, Ffn.Frames.kernelIdeal_pre, Ffn.Frames.reference, Ffn.Frames.reference_pre,
    Dw.frame_kernel, Dw.frame_kernelIdeal, Dw.frame_reference, Dn.frame_kernel, Dn.frame_kernelIdeal, Dn.frame_reference,
    Xattn.frame_kernel, Xattn.frame_kernelIdeal, Xattn.frame_kernelIdeal_pre, Xattn.frame_reference, Xattn.frame_reference_pre,
    Dx.frame_kernel, Dx.frame_kernelIdeal, Dx.frame_reference,
    Dyn.frame_kernel, Dyn.frame_kernelIdeal, Dyn.frame_reference,
    Dz.frame_kernel, Dz.frame_kernelIdeal, Dz.frame_reference,
    Dwx.frame_kernel, Dwx.frame_kernelIdeal, Dwx.frame_reference,
    Dwin.frame_kernel, Dwin.frame_kernelIdeal, Dwin.frame_reference,
    Down.frame_kernel, Down.frame_kernelIdeal, Down.frame_reference,
    Win.frame_kernel, Win.frame_kernelIdeal, Win.frame_reference,
    Wxq.frame_kernel, Wxq.frame_kernelIdeal, Wxq.frame_reference,
    Out.frame_kernel, Out.frame_kernelIdeal, Out.frame_reference,
    Wxkv.frame_kernel, Wxkv.frame_kernelIdeal, Wxkv.frame_reference,
    Dwxkv.frame_kernel, Dwxkv.frame_kernelIdeal, Dwxkv.frame_reference,
    Dmem.frame_kernel, Dmem.frame_kernelIdeal, Dmem.frame_reference,
    Norm.frame_kernel, Norm.frame_kernelIdeal, Norm.frame_reference,
    NormMem.frame_kernel, NormMem.frame_kernelIdeal, NormMem.frame_reference,
    Dnorm.frame_kernel, Dnorm.frame_kernelIdeal, Dnorm.frame_reference,
    DnormMem.frame_kernel, DnormMem.frame_kernelIdeal, DnormMem.frame_reference,
    Loss.frame_kernel, Loss.frame_kernelIdeal, Loss.frame_reference,
    AdamUp.frame_kernel, AdamUp.frame_kernelIdeal, AdamUp.frame_reference,
    AdamDown.frame_kernel, AdamDown.frame_kernelIdeal, AdamDown.frame_reference,
    AdamIn.frame_kernel, AdamIn.frame_kernelIdeal, AdamIn.frame_reference,
    AdamOut.frame_kernel, AdamOut.frame_kernelIdeal, AdamOut.frame_reference,
    AdamKv.frame_kernel, AdamKv.frame_kernelIdeal, AdamKv.frame_reference,
    trivial, Mixer.Value.algebraic, trivial, Ffn.Value.algebraic, trivial, Dw.algebraic, trivial, Dn.algebraic, trivial, Xattn.algebraic,
    trivial, Dx.algebraic,
    trivial, Dyn.algebraic,
    trivial, Dz.algebraic,
    trivial, Dwx.algebraic,
    trivial, Dwin.algebraic,
    trivial, Down.algebraic,
    trivial, Win.algebraic,
    trivial, Wxq.algebraic,
    trivial, Out.algebraic,
    trivial, Wxkv.algebraic,
    trivial, Dwxkv.algebraic,
    trivial, Dmem.algebraic,
    trivial, Norm.algebraic,
    trivial, NormMem.algebraic,
    trivial, Dnorm.algebraic,
    trivial, DnormMem.algebraic,
    trivial, Loss.algebraic,
    trivial, AdamUp.algebraic,
    trivial, AdamDown.algebraic,
    trivial, AdamIn.algebraic,
    trivial, AdamOut.algebraic,
    trivial, AdamKv.algebraic⟩

end Cert.Proof

end
